-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v72) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x256 .bf16) (main_arg1 : FVec F S256x128 .bf16) (main_arg2 : IVec S512x2 32) (main_arg3 : FVec F S4x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x128 .bf16 := Host.absf main_arg1
  let main_cst_0 : FVec F S_ .bf16 := constant S_ .bf16 0x7F80#16
  let main_v5 : FVec F S256x128 .bf16 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 1 := constantI S_ 1 1#1
  let main_v11 : IVec S_ 1 := (fun x v => Host.reduce IntOp.andi x v reducesTo_S512x2_S_d0_1 h_S_) main_v10 main_c_3
  let main_v12 : IVec S_ 1 := andi main_v8 main_v11
  let main_c_4 : IVec S_ 32 := constantI S_ 32 128#32
  let main_v13 : IVec S512x2 32 := broadcastInDim S512x2 ![] bcast_S_S512x2 main_c_4
  let main_v14 : IVec S512x2 1 := cmpi .slt main_arg2 main_v13
  let main_c_5 : IVec S_ 1 := constantI S_ 1 1#1
  let main_v15 : IVec S_ 1 := (fun x v => Host.reduce IntOp.andi x v reducesTo_S512x2_S_d0_1 h_S_) main_v14 main_c_5
  fn_part1 (F := F) main_v12 main_v15
-- ==== Pre_finite_and_routed_ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x256 .bf16) (main_arg1 : FVec F S256x128 .bf16) (main_arg2 : IVec S512x2 32) (main_arg3 : FVec F S128x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x128 .bf16 := Host.absf main_arg1
  let main_cst_0 : FVec F S_ .bf16 := constant S_ .bf16 0x7F80#16
  let main_v5 : FVec F S256x128 .bf16 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 1 := constantI S_ 1 1#1
  let main_v11 : IVec S_ 1 := (fun x v => Host.reduce IntOp.andi x v reducesTo_S512x2_S_d0_1 h_S_) main_v10 main_c_3
  let main_v12 : IVec S_ 1 := andi main_v8 main_v11
  let main_c_4 : IVec S_ 32 := constantI S_ 32 128#32
  let main_v13 : IVec S512x2 32 := broadcastInDim S512x2 ![] bcast_S_S512x2 main_c_4
  let main_v14 : IVec S512x2 1 := cmpi .slt main_arg2 main_v13
  let main_c_5 : IVec S_ 1 := constantI S_ 1 1#1
  let main_v15 : IVec S_ 1 := (fun x v => Host.reduce IntOp.andi x v reducesTo_S512x2_S_d0_1 h_S_) main_v14 main_c_5
  fn_part1 (F := F) main_v12 main_v15
-- ==== Kernel.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S16x512 : Shape := ⟨2, ![16, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S1 : Shape := ⟨1, ![1]⟩
abbrev S512x128 : Shape := ⟨2, ![512, 128]⟩
abbrev S512x1 : Shape := ⟨2, ![512, 1]⟩
abbrev S512 : Shape := ⟨1, ![512]⟩
abbrev S512x1024 : Shape := ⟨2, ![512, 1024]⟩
abbrev S1024x512 : Shape := ⟨2, ![1024, 512]⟩
abbrev S128x1024 : Shape := ⟨2, ![128, 1024]⟩
abbrev S128x512 : Shape := ⟨2, ![128, 512]⟩
abbrev S1x16x512 : Shape := ⟨3, ![1, 16, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x2, .i32⟩
  | .hbm, ⟨3, _⟩ => ⟨S4x256x512, .bf16⟩
  | .hbm, ⟨4, _⟩ => ⟨S16x512, .f32⟩
  | .local _ .vmem, ⟨0, _⟩ => ⟨S512x256, .bf16⟩
  | .local _ .vmem, ⟨1, _⟩ => ⟨S256x128, .bf16⟩
  | .local _ .vmem, ⟨2, _⟩ => ⟨S512x2, .i32⟩
  | .local _ .vmem, ⟨3, _⟩ => ⟨S4x256x512, .bf16⟩
  | .local _ .vmem, ⟨4, _⟩ => ⟨S16x512, .f32⟩
  | .local _ .vmem, ⟨5, _⟩ => ⟨S512x512, .bf16⟩
  | .local _ .vmem, ⟨6, _⟩ => ⟨S32x16x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 33 69 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v4 : BitVec 32 := Scalar.muli v2 c1_i32_1
  let v5 : BitVec 32 := Scalar.addi c0_i32 v4
  v5.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.subi v2 c1_i32_3
  let c32_i32_4 : BitVec 32 := 32#32
  let c0_i32_5 : BitVec 32 := 0#32
  let v7 : BitVec 1 := Scalar.cmpi .eq c32_i32_4 c0_i32_5
  let c1_i32_6 : BitVec 32 := 1#32
  let v8 : BitVec 32 := Scalar.select v7 c1_i32_6 c32_i32_4
  let v9 : BitVec 32 := Scalar.remsi v6 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c1_i32_12 : BitVec 32 := 1#32
  let v19 : BitVec 32 := Scalar.muli v16 c1_i32_12
  let v20 : BitVec 32 := Scalar.addi c0_i32_13 v19
  v20.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.subi v2 c2_i32
  let c32_i32_14 : BitVec 32 := 32#32
  let c0_i32_15 : BitVec 32 := 0#32
  let v22 : BitVec 1 := Scalar.cmpi .eq c32_i32_14 c0_i32_15
  let c1_i32_16 : BitVec 32 := 1#32
  let v23 : BitVec 32 := Scalar.select v22 c1_i32_16 c32_i32_14
  let v24 : BitVec 32 := Scalar.remsi v21 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let c1_i32_22 : BitVec 32 := 1#32
  let v34 : BitVec 32 := Scalar.muli v31 c1_i32_22
  let v35 : BitVec 32 := Scalar.addi c0_i32_23 v34
  v35.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v36 : BitVec 32 := Scalar.subi v2 c3_i32
  let c32_i32_24 : BitVec 32 := 32#32
  let c0_i32_25 : BitVec 32 := 0#32
  let v37 : BitVec 1 := Scalar.cmpi .eq c32_i32_24 c0_i32_25
  let c1_i32_26 : BitVec 32 := 1#32
  let v38 : BitVec 32 := Scalar.select v37 c1_i32_26 c32_i32_24
  let v39 : BitVec 32 := Scalar.remsi v36 v38
  let c0_i32_28 : BitVec 32 := 0#32
  let v41 : BitVec 1 := Scalar.cmpi .slt v39 c0_i32_28
  let c0_i32_29 : BitVec 32 := 0#32
  let v42 : BitVec 1 := Scalar.cmpi .slt v38 c0_i32_29
  let v43 : BitVec 1 := Scalar.xori v41 v42
  let c0_i32_27 : BitVec 32 := 0#32
  let v40 : BitVec 1 := Scalar.cmpi .ne v39 c0_i32_27
  let v44 : BitVec 1 := Scalar.andi v43 v40
  let v45 : BitVec 32 := Scalar.addi v39 v38
  let v46 : BitVec 32 := Scalar.select v44 v45 v39
  let c1_i32_32 : BitVec 32 := 1#32
  let v49 : BitVec 32 := Scalar.muli v46 c1_i32_32
  let v50 : BitVec 32 := Scalar.addi c0_i32_33 v49
  v50.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v51 : BitVec 32 := Scalar.subi v2 c4_i32
  let c32_i32_34 : BitVec 32 := 32#32
  let c0_i32_35 : BitVec 32 := 0#32
  let v52 : BitVec 1 := Scalar.cmpi .eq c32_i32_34 c0_i32_35
  let c1_i32_36 : BitVec 32 := 1#32
  let v53 : BitVec 32 := Scalar.select v52 c1_i32_36 c32_i32_34
  let v54 : BitVec 32 := Scalar.remsi v51 v53
  let c0_i32_38 : BitVec 32 := 0#32
  let v56 : BitVec 1 := Scalar.cmpi .slt v54 c0_i32_38
  let c0_i32_39 : BitVec 32 := 0#32
  let v57 : BitVec 1 := Scalar.cmpi .slt v53 c0_i32_39
  let v58 : BitVec 1 := Scalar.xori v56 v57
  let c0_i32_37 : BitVec 32 := 0#32
  let v55 : BitVec 1 := Scalar.cmpi .ne v54 c0_i32_37
  let v59 : BitVec 1 := Scalar.andi v58 v55
  let v60 : BitVec 32 := Scalar.addi v54 v53
  let v61 : BitVec 32 := Scalar.select v59 v60 v54
  let c1_i32_42 : BitVec 32 := 1#32
  let v64 : BitVec 32 := Scalar.muli v61 c1_i32_42
  let v65 : BitVec 32 := Scalar.addi c0_i32_43 v64
  v65.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v66 : BitVec 32 := Scalar.subi v2 c5_i32
  let c32_i32_44 : BitVec 32 := 32#32
  let c0_i32_45 : BitVec 32 := 0#32
  let v67 : BitVec 1 := Scalar.cmpi .eq c32_i32_44 c0_i32_45
  let c1_i32_46 : BitVec 32 := 1#32
  let v68 : BitVec 32 := Scalar.select v67 c1_i32_46 c32_i32_44
  let v69 : BitVec 32 := Scalar.remsi v66 v68
  let c0_i32_48 : BitVec 32 := 0#32
  let v71 : BitVec 1 := Scalar.cmpi .slt v69 c0_i32_48
  let c0_i32_49 : BitVec 32 := 0#32
  let v72 : BitVec 1 := Scalar.cmpi .slt v68 c0_i32_49
  let v73 : BitVec 1 := Scalar.xori v71 v72
  let c0_i32_47 : BitVec 32 := 0#32
  let v70 : BitVec 1 := Scalar.cmpi .ne v69 c0_i32_47
  let v74 : BitVec 1 := Scalar.andi v73 v70
  let v75 : BitVec 32 := Scalar.addi v69 v68
  let v76 : BitVec 32 := Scalar.select v74 v75 v69
  let c1_i32_52 : BitVec 32 := 1#32
  let v79 : BitVec 32 := Scalar.muli v76 c1_i32_52
  let v80 : BitVec 32 := Scalar.addi c0_i32_53 v79
  v80.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v81 : BitVec 32 := Scalar.subi v2 c6_i32
  let c32_i32_54 : BitVec 32 := 32#32
  let c0_i32_55 : BitVec 32 := 0#32
  let v82 : BitVec 1 := Scalar.cmpi .eq c32_i32_54 c0_i32_55
  let c1_i32_56 : BitVec 32 := 1#32
  let v83 : BitVec 32 := Scalar.select v82 c1_i32_56 c32_i32_54
  let v84 : BitVec 32 := Scalar.remsi v81 v83
  let c0_i32_58 : BitVec 32 := 0#32
  let v86 : BitVec 1 := Scalar.cmpi .slt v84 c0_i32_58
  let c0_i32_59 : BitVec 32 := 0#32
  let v87 : BitVec 1 := Scalar.cmpi .slt v83 c0_i32_59
  let v88 : BitVec 1 := Scalar.xori v86 v87
  let c0_i32_57 : BitVec 32 := 0#32
  let v85 : BitVec 1 := Scalar.cmpi .ne v84 c0_i32_57
  let v89 : BitVec 1 := Scalar.andi v88 v85
  let v90 : BitVec 32 := Scalar.addi v84 v83
  let v91 : BitVec 32 := Scalar.select v89 v90 v84
  let c1_i32_62 : BitVec 32 := 1#32
  let v94 : BitVec 32 := Scalar.muli v91 c1_i32_62
  let v95 : BitVec 32 := Scalar.addi c0_i32_63 v94
  v95.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v96 : BitVec 32 := Scalar.subi v2 c7_i32
  let c32_i32_64 : BitVec 32 := 32#32
  let c0_i32_65 : BitVec 32 := 0#32
  let v97 : BitVec 1 := Scalar.cmpi .eq c32_i32_64 c0_i32_65
  let c1_i32_66 : BitVec 32 := 1#32
  let v98 : BitVec 32 := Scalar.select v97 c1_i32_66 c32_i32_64
  let v99 : BitVec 32 := Scalar.remsi v96 v98
  let c0_i32_68 : BitVec 32 := 0#32
  let v101 : BitVec 1 := Scalar.cmpi .slt v99 c0_i32_68
  let c0_i32_69 : BitVec 32 := 0#32
  let v102 : BitVec 1 := Scalar.cmpi .slt v98 c0_i32_69
  let v103 : BitVec 1 := Scalar.xori v101 v102
  let c0_i32_67 : BitVec 32 := 0#32
  let v100 : BitVec 1 := Scalar.cmpi .ne v99 c0_i32_67
  let v104 : BitVec 1 := Scalar.andi v103 v100
  let v105 : BitVec 32 := Scalar.addi v99 v98
  let v106 : BitVec 32 := Scalar.select v104 v105 v99
  let c1_i32_72 : BitVec 32 := 1#32
  let v109 : BitVec 32 := Scalar.muli v106 c1_i32_72
  let v110 : BitVec 32 := Scalar.addi c0_i32_73 v109
  v110.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v111 : BitVec 32 := Scalar.subi v2 c8_i32
  let c32_i32_74 : BitVec 32 := 32#32
  let c0_i32_75 : BitVec 32 := 0#32
  let v112 : BitVec 1 := Scalar.cmpi .eq c32_i32_74 c0_i32_75
  let c1_i32_76 : BitVec 32 := 1#32
  let v113 : BitVec 32 := Scalar.select v112 c1_i32_76 c32_i32_74
  let v114 : BitVec 32 := Scalar.remsi v111 v113
  let c0_i32_78 : BitVec 32 := 0#32
  let v116 : BitVec 1 := Scalar.cmpi .slt v114 c0_i32_78
  let c0_i32_79 : BitVec 32 := 0#32
  let v117 : BitVec 1 := Scalar.cmpi .slt v113 c0_i32_79
  let v118 : BitVec 1 := Scalar.xori v116 v117
  let c0_i32_77 : BitVec 32 := 0#32
  let v115 : BitVec 1 := Scalar.cmpi .ne v114 c0_i32_77
  let v119 : BitVec 1 := Scalar.andi v118 v115
  let v120 : BitVec 32 := Scalar.addi v114 v113
  let v121 : BitVec 32 := Scalar.select v119 v120 v114
  let c1_i32_82 : BitVec 32 := 1#32
  let v124 : BitVec 32 := Scalar.muli v121 c1_i32_82
  let v125 : BitVec 32 := Scalar.addi c0_i32_83 v124
  v125.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v126 : BitVec 32 := Scalar.subi v2 c9_i32
  let c32_i32_84 : BitVec 32 := 32#32
  let c0_i32_85 : BitVec 32 := 0#32
  let v127 : BitVec 1 := Scalar.cmpi .eq c32_i32_84 c0_i32_85
  let c1_i32_86 : BitVec 32 := 1#32
  let v128 : BitVec 32 := Scalar.select v127 c1_i32_86 c32_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c1_i32_92 : BitVec 32 := 1#32
  let v139 : BitVec 32 := Scalar.muli v136 c1_i32_92
  let v140 : BitVec 32 := Scalar.addi c0_i32_93 v139
  v140.toNat
def k0_dev11 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v141 : BitVec 32 := Scalar.subi v2 c10_i32
  let c32_i32_94 : BitVec 32 := 32#32
  let c0_i32_95 : BitVec 32 := 0#32
  let v142 : BitVec 1 := Scalar.cmpi .eq c32_i32_94 c0_i32_95
  let c1_i32_96 : BitVec 32 := 1#32
  let v143 : BitVec 32 := Scalar.select v142 c1_i32_96 c32_i32_94
  let v144 : BitVec 32 := Scalar.remsi v141 v143
  let c0_i32_98 : BitVec 32 := 0#32
  let v146 : BitVec 1 := Scalar.cmpi .slt v144 c0_i32_98
  let c0_i32_99 : BitVec 32 := 0#32
  let v147 : BitVec 1 := Scalar.cmpi .slt v143 c0_i32_99
  let v148 : BitVec 1 := Scalar.xori v146 v147
  let c0_i32_97 : BitVec 32 := 0#32
  let v145 : BitVec 1 := Scalar.cmpi .ne v144 c0_i32_97
  let v149 : BitVec 1 := Scalar.andi v148 v145
  let v150 : BitVec 32 := Scalar.addi v144 v143
  let v151 : BitVec 32 := Scalar.select v149 v150 v144
  let c1_i32_102 : BitVec 32 := 1#32
  let v154 : BitVec 32 := Scalar.muli v151 c1_i32_102
  let v155 : BitVec 32 := Scalar.addi c0_i32_103 v154
  v155.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v156 : BitVec 32 := Scalar.subi v2 c11_i32
  let c32_i32_104 : BitVec 32 := 32#32
  let c0_i32_105 : BitVec 32 := 0#32
  let v157 : BitVec 1 := Scalar.cmpi .eq c32_i32_104 c0_i32_105
  let c1_i32_106 : BitVec 32 := 1#32
  let v158 : BitVec 32 := Scalar.select v157 c1_i32_106 c32_i32_104
  let v159 : BitVec 32 := Scalar.remsi v156 v158
  let c0_i32_108 : BitVec 32 := 0#32
  let v161 : BitVec 1 := Scalar.cmpi .slt v159 c0_i32_108
  let c0_i32_109 : BitVec 32 := 0#32
  let v162 : BitVec 1 := Scalar.cmpi .slt v158 c0_i32_109
  let v163 : BitVec 1 := Scalar.xori v161 v162
  let c0_i32_107 : BitVec 32 := 0#32
  let v160 : BitVec 1 := Scalar.cmpi .ne v159 c0_i32_107
  let v164 : BitVec 1 := Scalar.andi v163 v160
  let v165 : BitVec 32 := Scalar.addi v159 v158
  let v166 : BitVec 32 := Scalar.select v164 v165 v159
  let c1_i32_112 : BitVec 32 := 1#32
  let v169 : BitVec 32 := Scalar.muli v166 c1_i32_112
  let v170 : BitVec 32 := Scalar.addi c0_i32_113 v169
  v170.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v171 : BitVec 32 := Scalar.subi v2 c12_i32
  let c32_i32_114 : BitVec 32 := 32#32
  let c0_i32_115 : BitVec 32 := 0#32
  let v172 : BitVec 1 := Scalar.cmpi .eq c32_i32_114 c0_i32_115
  let c1_i32_116 : BitVec 32 := 1#32
  let v173 : BitVec 32 := Scalar.select v172 c1_i32_116 c32_i32_114
  let v174 : BitVec 32 := Scalar.remsi v171 v173
  let c0_i32_118 : BitVec 32 := 0#32
  let v176 : BitVec 1 := Scalar.cmpi .slt v174 c0_i32_118
  let c0_i32_119 : BitVec 32 := 0#32
  let v177 : BitVec 1 := Scalar.cmpi .slt v173 c0_i32_119
  let v178 : BitVec 1 := Scalar.xori v176 v177
  let c0_i32_117 : BitVec 32 := 0#32
  let v175 : BitVec 1 := Scalar.cmpi .ne v174 c0_i32_117
  let v179 : BitVec 1 := Scalar.andi v178 v175
  let v180 : BitVec 32 := Scalar.addi v174 v173
  let v181 : BitVec 32 := Scalar.select v179 v180 v174
  let c1_i32_122 : BitVec 32 := 1#32
  let v184 : BitVec 32 := Scalar.muli v181 c1_i32_122
  let v185 : BitVec 32 := Scalar.addi c0_i32_123 v184
  v185.toNat
def k0_dev14 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v186 : BitVec 32 := Scalar.subi v2 c13_i32
  let c32_i32_124 : BitVec 32 := 32#32
  let c0_i32_125 : BitVec 32 := 0#32
  let v187 : BitVec 1 := Scalar.cmpi .eq c32_i32_124 c0_i32_125
  let c1_i32_126 : BitVec 32 := 1#32
  let v188 : BitVec 32 := Scalar.select v187 c1_i32_126 c32_i32_124
  let v189 : BitVec 32 := Scalar.remsi v186 v188
  let c0_i32_128 : BitVec 32 := 0#32
  let v191 : BitVec 1 := Scalar.cmpi .slt v189 c0_i32_128
  let c0_i32_129 : BitVec 32 := 0#32
  let v192 : BitVec 1 := Scalar.cmpi .slt v188 c0_i32_129
  let v193 : BitVec 1 := Scalar.xori v191 v192
  let c0_i32_127 : BitVec 32 := 0#32
  let v190 : BitVec 1 := Scalar.cmpi .ne v189 c0_i32_127
  let v194 : BitVec 1 := Scalar.andi v193 v190
  let v195 : BitVec 32 := Scalar.addi v189 v188
  let v196 : BitVec 32 := Scalar.select v194 v195 v189
  let c1_i32_132 : BitVec 32 := 1#32
  let v199 : BitVec 32 := Scalar.muli v196 c1_i32_132
  let v200 : BitVec 32 := Scalar.addi c0_i32_133 v199
  v200.toNat
def k0_dev15 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v201 : BitVec 32 := Scalar.subi v2 c14_i32
  let c32_i32_134 : BitVec 32 := 32#32
  let c0_i32_135 : BitVec 32 := 0#32
  let v202 : BitVec 1 := Scalar.cmpi .eq c32_i32_134 c0_i32_135
  let c1_i32_136 : BitVec 32 := 1#32
  let v203 : BitVec 32 := Scalar.select v202 c1_i32_136 c32_i32_134
  let v204 : BitVec 32 := Scalar.remsi v201 v203
  let c0_i32_138 : BitVec 32 := 0#32
  let v206 : BitVec 1 := Scalar.cmpi .slt v204 c0_i32_138
  let c0_i32_139 : BitVec 32 := 0#32
  let v207 : BitVec 1 := Scalar.cmpi .slt v203 c0_i32_139
  let v208 : BitVec 1 := Scalar.xori v206 v207
  let c0_i32_137 : BitVec 32 := 0#32
  let v205 : BitVec 1 := Scalar.cmpi .ne v204 c0_i32_137
  let v209 : BitVec 1 := Scalar.andi v208 v205
  let v210 : BitVec 32 := Scalar.addi v204 v203
  let v211 : BitVec 32 := Scalar.select v209 v210 v204
  let c1_i32_142 : BitVec 32 := 1#32
  let v214 : BitVec 32 := Scalar.muli v211 c1_i32_142
  let v215 : BitVec 32 := Scalar.addi c0_i32_143 v214
  v215.toNat
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v216 : BitVec 32 := Scalar.subi v2 c15_i32
  let c32_i32_144 : BitVec 32 := 32#32
  let c0_i32_145 : BitVec 32 := 0#32
  let v217 : BitVec 1 := Scalar.cmpi .eq c32_i32_144 c0_i32_145
  let c1_i32_146 : BitVec 32 := 1#32
  let v218 : BitVec 32 := Scalar.select v217 c1_i32_146 c32_i32_144
  let v219 : BitVec 32 := Scalar.remsi v216 v218
  let c0_i32_148 : BitVec 32 := 0#32
  let v221 : BitVec 1 := Scalar.cmpi .slt v219 c0_i32_148
  let c0_i32_149 : BitVec 32 := 0#32
  let v222 : BitVec 1 := Scalar.cmpi .slt v218 c0_i32_149
  let v223 : BitVec 1 := Scalar.xori v221 v222
  let c0_i32_147 : BitVec 32 := 0#32
  let v220 : BitVec 1 := Scalar.cmpi .ne v219 c0_i32_147
  let v224 : BitVec 1 := Scalar.andi v223 v220
  let v225 : BitVec 32 := Scalar.addi v219 v218
  let v226 : BitVec 32 := Scalar.select v224 v225 v219
  let c1_i32_152 : BitVec 32 := 1#32
  let v229 : BitVec 32 := Scalar.muli v226 c1_i32_152
  let v230 : BitVec 32 := Scalar.addi c0_i32_153 v229
  v230.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v231 : BitVec 32 := Scalar.subi v2 c16_i32
  let c32_i32_154 : BitVec 32 := 32#32
  let c0_i32_155 : BitVec 32 := 0#32
  let v232 : BitVec 1 := Scalar.cmpi .eq c32_i32_154 c0_i32_155
  let c1_i32_156 : BitVec 32 := 1#32
  let v233 : BitVec 32 := Scalar.select v232 c1_i32_156 c32_i32_154
  let v234 : BitVec 32 := Scalar.remsi v231 v233
  let c0_i32_158 : BitVec 32 := 0#32
  let v236 : BitVec 1 := Scalar.cmpi .slt v234 c0_i32_158
  let c0_i32_159 : BitVec 32 := 0#32
  let v237 : BitVec 1 := Scalar.cmpi .slt v233 c0_i32_159
  let v238 : BitVec 1 := Scalar.xori v236 v237
  let c0_i32_157 : BitVec 32 := 0#32
  let v235 : BitVec 1 := Scalar.cmpi .ne v234 c0_i32_157
  let v239 : BitVec 1 := Scalar.andi v238 v235
  let v240 : BitVec 32 := Scalar.addi v234 v233
  let v241 : BitVec 32 := Scalar.select v239 v240 v234
  let c1_i32_162 : BitVec 32 := 1#32
  let v244 : BitVec 32 := Scalar.muli v241 c1_i32_162
  let v245 : BitVec 32 := Scalar.addi c0_i32_163 v244
  v245.toNat
def k0_dev18 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v246 : BitVec 32 := Scalar.subi v2 c17_i32
  let c32_i32_164 : BitVec 32 := 32#32
  let c0_i32_165 : BitVec 32 := 0#32
  let v247 : BitVec 1 := Scalar.cmpi .eq c32_i32_164 c0_i32_165
  let c1_i32_166 : BitVec 32 := 1#32
  let v248 : BitVec 32 := Scalar.select v247 c1_i32_166 c32_i32_164
  let v249 : BitVec 32 := Scalar.remsi v246 v248
  let c0_i32_168 : BitVec 32 := 0#32
  let v251 : BitVec 1 := Scalar.cmpi .slt v249 c0_i32_168
  let c0_i32_169 : BitVec 32 := 0#32
  let v252 : BitVec 1 := Scalar.cmpi .slt v248 c0_i32_169
  let v253 : BitVec 1 := Scalar.xori v251 v252
  let c0_i32_167 : BitVec 32 := 0#32
  let v250 : BitVec 1 := Scalar.cmpi .ne v249 c0_i32_167
  let v254 : BitVec 1 := Scalar.andi v253 v250
  let v255 : BitVec 32 := Scalar.addi v249 v248
  let v256 : BitVec 32 := Scalar.select v254 v255 v249
  let c1_i32_172 : BitVec 32 := 1#32
  let v259 : BitVec 32 := Scalar.muli v256 c1_i32_172
  let v260 : BitVec 32 := Scalar.addi c0_i32_173 v259
  v260.toNat
def k0_dev19 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v261 : BitVec 32 := Scalar.subi v2 c18_i32
  let c32_i32_174 : BitVec 32 := 32#32
  let c0_i32_175 : BitVec 32 := 0#32
  let v262 : BitVec 1 := Scalar.cmpi .eq c32_i32_174 c0_i32_175
  let c1_i32_176 : BitVec 32 := 1#32
  let v263 : BitVec 32 := Scalar.select v262 c1_i32_176 c32_i32_174
  let v264 : BitVec 32 := Scalar.remsi v261 v263
  let c0_i32_178 : BitVec 32 := 0#32
  let v266 : BitVec 1 := Scalar.cmpi .slt v264 c0_i32_178
  let c0_i32_179 : BitVec 32 := 0#32
  let v267 : BitVec 1 := Scalar.cmpi .slt v263 c0_i32_179
  let v268 : BitVec 1 := Scalar.xori v266 v267
  let c0_i32_177 : BitVec 32 := 0#32
  let v265 : BitVec 1 := Scalar.cmpi .ne v264 c0_i32_177
  let v269 : BitVec 1 := Scalar.andi v268 v265
  let v270 : BitVec 32 := Scalar.addi v264 v263
  let v271 : BitVec 32 := Scalar.select v269 v270 v264
  let c1_i32_182 : BitVec 32 := 1#32
  let v274 : BitVec 32 := Scalar.muli v271 c1_i32_182
  let v275 : BitVec 32 := Scalar.addi c0_i32_183 v274
  v275.toNat
def k0_dev20 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v276 : BitVec 32 := Scalar.subi v2 c19_i32
  let c32_i32_184 : BitVec 32 := 32#32
  let c0_i32_185 : BitVec 32 := 0#32
  let v277 : BitVec 1 := Scalar.cmpi .eq c32_i32_184 c0_i32_185
  let c1_i32_186 : BitVec 32 := 1#32
  let v278 : BitVec 32 := Scalar.select v277 c1_i32_186 c32_i32_184
  let v279 : BitVec 32 := Scalar.remsi v276 v278
  let c0_i32_188 : BitVec 32 := 0#32
  let v281 : BitVec 1 := Scalar.cmpi .slt v279 c0_i32_188
  let c0_i32_189 : BitVec 32 := 0#32
  let v282 : BitVec 1 := Scalar.cmpi .slt v278 c0_i32_189
  let v283 : BitVec 1 := Scalar.xori v281 v282
  let c0_i32_187 : BitVec 32 := 0#32
  let v280 : BitVec 1 := Scalar.cmpi .ne v279 c0_i32_187
  let v284 : BitVec 1 := Scalar.andi v283 v280
  let v285 : BitVec 32 := Scalar.addi v279 v278
  let v286 : BitVec 32 := Scalar.select v284 v285 v279
  let c1_i32_192 : BitVec 32 := 1#32
  let v289 : BitVec 32 := Scalar.muli v286 c1_i32_192
  let v290 : BitVec 32 := Scalar.addi c0_i32_193 v289
  v290.toNat
def k0_dev21 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v291 : BitVec 32 := Scalar.subi v2 c20_i32
  let c32_i32_194 : BitVec 32 := 32#32
  let c0_i32_195 : BitVec 32 := 0#32
  let v292 : BitVec 1 := Scalar.cmpi .eq c32_i32_194 c0_i32_195
  let c1_i32_196 : BitVec 32 := 1#32
  let v293 : BitVec 32 := Scalar.select v292 c1_i32_196 c32_i32_194
  let v294 : BitVec 32 := Scalar.remsi v291 v293
  let c0_i32_198 : BitVec 32 := 0#32
  let v296 : BitVec 1 := Scalar.cmpi .slt v294 c0_i32_198
  let c0_i32_199 : BitVec 32 := 0#32
  let v297 : BitVec 1 := Scalar.cmpi .slt v293 c0_i32_199
  let v298 : BitVec 1 := Scalar.xori v296 v297
  let c0_i32_197 : BitVec 32 := 0#32
  let v295 : BitVec 1 := Scalar.cmpi .ne v294 c0_i32_197
  let v299 : BitVec 1 := Scalar.andi v298 v295
  let v300 : BitVec 32 := Scalar.addi v294 v293
  let v301 : BitVec 32 := Scalar.select v299 v300 v294
  let c1_i32_202 : BitVec 32 := 1#32
  let v304 : BitVec 32 := Scalar.muli v301 c1_i32_202
  let v305 : BitVec 32 := Scalar.addi c0_i32_203 v304
  v305.toNat
def k0_dev22 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v306 : BitVec 32 := Scalar.subi v2 c21_i32
  let c32_i32_204 : BitVec 32 := 32#32
  let c0_i32_205 : BitVec 32 := 0#32
  let v307 : BitVec 1 := Scalar.cmpi .eq c32_i32_204 c0_i32_205
  let c1_i32_206 : BitVec 32 := 1#32
  let v308 : BitVec 32 := Scalar.select v307 c1_i32_206 c32_i32_204
  let v309 : BitVec 32 := Scalar.remsi v306 v308
  let c0_i32_208 : BitVec 32 := 0#32
  let v311 : BitVec 1 := Scalar.cmpi .slt v309 c0_i32_208
  let c0_i32_209 : BitVec 32 := 0#32
  let v312 : BitVec 1 := Scalar.cmpi .slt v308 c0_i32_209
  let v313 : BitVec 1 := Scalar.xori v311 v312
  let c0_i32_207 : BitVec 32 := 0#32
  let v310 : BitVec 1 := Scalar.cmpi .ne v309 c0_i32_207
  let v314 : BitVec 1 := Scalar.andi v313 v310
  let v315 : BitVec 32 := Scalar.addi v309 v308
  let v316 : BitVec 32 := Scalar.select v314 v315 v309
  let c1_i32_212 : BitVec 32 := 1#32
  let v319 : BitVec 32 := Scalar.muli v316 c1_i32_212
  let v320 : BitVec 32 := Scalar.addi c0_i32_213 v319
  v320.toNat
def k0_dev23 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v321 : BitVec 32 := Scalar.subi v2 c22_i32
  let c32_i32_214 : BitVec 32 := 32#32
  let c0_i32_215 : BitVec 32 := 0#32
  let v322 : BitVec 1 := Scalar.cmpi .eq c32_i32_214 c0_i32_215
  let c1_i32_216 : BitVec 32 := 1#32
  let v323 : BitVec 32 := Scalar.select v322 c1_i32_216 c32_i32_214
  let v324 : BitVec 32 := Scalar.remsi v321 v323
  let c0_i32_218 : BitVec 32 := 0#32
  let v326 : BitVec 1 := Scalar.cmpi .slt v324 c0_i32_218
  let c0_i32_219 : BitVec 32 := 0#32
  let v327 : BitVec 1 := Scalar.cmpi .slt v323 c0_i32_219
  let v328 : BitVec 1 := Scalar.xori v326 v327
  let c0_i32_217 : BitVec 32 := 0#32
  let v325 : BitVec 1 := Scalar.cmpi .ne v324 c0_i32_217
  let v329 : BitVec 1 := Scalar.andi v328 v325
  let v330 : BitVec 32 := Scalar.addi v324 v323
  let v331 : BitVec 32 := Scalar.select v329 v330 v324
  let c1_i32_222 : BitVec 32 := 1#32
  let v334 : BitVec 32 := Scalar.muli v331 c1_i32_222
  let v335 : BitVec 32 := Scalar.addi c0_i32_223 v334
  v335.toNat
def k0_dev24 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v336 : BitVec 32 := Scalar.subi v2 c23_i32
  let c32_i32_224 : BitVec 32 := 32#32
  let c0_i32_225 : BitVec 32 := 0#32
  let v337 : BitVec 1 := Scalar.cmpi .eq c32_i32_224 c0_i32_225
  let c1_i32_226 : BitVec 32 := 1#32
  let v338 : BitVec 32 := Scalar.select v337 c1_i32_226 c32_i32_224
  let v339 : BitVec 32 := Scalar.remsi v336 v338
  let c0_i32_228 : BitVec 32 := 0#32
  let v341 : BitVec 1 := Scalar.cmpi .slt v339 c0_i32_228
  let c0_i32_229 : BitVec 32 := 0#32
  let v342 : BitVec 1 := Scalar.cmpi .slt v338 c0_i32_229
  let v343 : BitVec 1 := Scalar.xori v341 v342
  let c0_i32_227 : BitVec 32 := 0#32
  let v340 : BitVec 1 := Scalar.cmpi .ne v339 c0_i32_227
  let v344 : BitVec 1 := Scalar.andi v343 v340
  let v345 : BitVec 32 := Scalar.addi v339 v338
  let v346 : BitVec 32 := Scalar.select v344 v345 v339
  let c1_i32_232 : BitVec 32 := 1#32
  let v349 : BitVec 32 := Scalar.muli v346 c1_i32_232
  let v350 : BitVec 32 := Scalar.addi c0_i32_233 v349
  v350.toNat
def k0_dev25 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v351 : BitVec 32 := Scalar.subi v2 c24_i32
  let c32_i32_234 : BitVec 32 := 32#32
  let c0_i32_235 : BitVec 32 := 0#32
  let v352 : BitVec 1 := Scalar.cmpi .eq c32_i32_234 c0_i32_235
  let c1_i32_236 : BitVec 32 := 1#32
  let v353 : BitVec 32 := Scalar.select v352 c1_i32_236 c32_i32_234
  let v354 : BitVec 32 := Scalar.remsi v351 v353
  let c0_i32_238 : BitVec 32 := 0#32
  let v356 : BitVec 1 := Scalar.cmpi .slt v354 c0_i32_238
  let c0_i32_239 : BitVec 32 := 0#32
  let v357 : BitVec 1 := Scalar.cmpi .slt v353 c0_i32_239
  let v358 : BitVec 1 := Scalar.xori v356 v357
  let c0_i32_237 : BitVec 32 := 0#32
  let v355 : BitVec 1 := Scalar.cmpi .ne v354 c0_i32_237
  let v359 : BitVec 1 := Scalar.andi v358 v355
  let v360 : BitVec 32 := Scalar.addi v354 v353
  let v361 : BitVec 32 := Scalar.select v359 v360 v354
  let c1_i32_242 : BitVec 32 := 1#32
  let v364 : BitVec 32 := Scalar.muli v361 c1_i32_242
  let v365 : BitVec 32 := Scalar.addi c0_i32_243 v364
  v365.toNat
def k0_dev26 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v366 : BitVec 32 := Scalar.subi v2 c25_i32
  let c32_i32_244 : BitVec 32 := 32#32
  let c0_i32_245 : BitVec 32 := 0#32
  let v367 : BitVec 1 := Scalar.cmpi .eq c32_i32_244 c0_i32_245
  let c1_i32_246 : BitVec 32 := 1#32
  let v368 : BitVec 32 := Scalar.select v367 c1_i32_246 c32_i32_244
  let v369 : BitVec 32 := Scalar.remsi v366 v368
  let c0_i32_248 : BitVec 32 := 0#32
  let v371 : BitVec 1 := Scalar.cmpi .slt v369 c0_i32_248
  let c0_i32_249 : BitVec 32 := 0#32
  let v372 : BitVec 1 := Scalar.cmpi .slt v368 c0_i32_249
  let v373 : BitVec 1 := Scalar.xori v371 v372
  let c0_i32_247 : BitVec 32 := 0#32
  let v370 : BitVec 1 := Scalar.cmpi .ne v369 c0_i32_247
  let v374 : BitVec 1 := Scalar.andi v373 v370
  let v375 : BitVec 32 := Scalar.addi v369 v368
  let v376 : BitVec 32 := Scalar.select v374 v375 v369
  let c1_i32_252 : BitVec 32 := 1#32
  let v379 : BitVec 32 := Scalar.muli v376 c1_i32_252
  let v380 : BitVec 32 := Scalar.addi c0_i32_253 v379
  v380.toNat
def k0_dev27 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v381 : BitVec 32 := Scalar.subi v2 c26_i32
  let c32_i32_254 : BitVec 32 := 32#32
  let c0_i32_255 : BitVec 32 := 0#32
  let v382 : BitVec 1 := Scalar.cmpi .eq c32_i32_254 c0_i32_255
  let c1_i32_256 : BitVec 32 := 1#32
  let v383 : BitVec 32 := Scalar.select v382 c1_i32_256 c32_i32_254
  let v384 : BitVec 32 := Scalar.remsi v381 v383
  let c0_i32_258 : BitVec 32 := 0#32
  let v386 : BitVec 1 := Scalar.cmpi .slt v384 c0_i32_258
  let c0_i32_259 : BitVec 32 := 0#32
  let v387 : BitVec 1 := Scalar.cmpi .slt v383 c0_i32_259
  let v388 : BitVec 1 := Scalar.xori v386 v387
  let c0_i32_257 : BitVec 32 := 0#32
  let v385 : BitVec 1 := Scalar.cmpi .ne v384 c0_i32_257
  let v389 : BitVec 1 := Scalar.andi v388 v385
  let v390 : BitVec 32 := Scalar.addi v384 v383
  let v391 : BitVec 32 := Scalar.select v389 v390 v384
  let c1_i32_262 : BitVec 32 := 1#32
  let v394 : BitVec 32 := Scalar.muli v391 c1_i32_262
  let v395 : BitVec 32 := Scalar.addi c0_i32_263 v394
  v395.toNat
def k0_dev28 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v396 : BitVec 32 := Scalar.subi v2 c27_i32
  let c32_i32_264 : BitVec 32 := 32#32
  let c0_i32_265 : BitVec 32 := 0#32
  let v397 : BitVec 1 := Scalar.cmpi .eq c32_i32_264 c0_i32_265
  let c1_i32_266 : BitVec 32 := 1#32
  let v398 : BitVec 32 := Scalar.select v397 c1_i32_266 c32_i32_264
  let v399 : BitVec 32 := Scalar.remsi v396 v398
  let c0_i32_268 : BitVec 32 := 0#32
  let v401 : BitVec 1 := Scalar.cmpi .slt v399 c0_i32_268
  let c0_i32_269 : BitVec 32 := 0#32
  let v402 : BitVec 1 := Scalar.cmpi .slt v398 c0_i32_269
  let v403 : BitVec 1 := Scalar.xori v401 v402
  let c0_i32_267 : BitVec 32 := 0#32
  let v400 : BitVec 1 := Scalar.cmpi .ne v399 c0_i32_267
  let v404 : BitVec 1 := Scalar.andi v403 v400
  let v405 : BitVec 32 := Scalar.addi v399 v398
  let v406 : BitVec 32 := Scalar.select v404 v405 v399
  let c1_i32_272 : BitVec 32 := 1#32
  let v409 : BitVec 32 := Scalar.muli v406 c1_i32_272
  let v410 : BitVec 32 := Scalar.addi c0_i32_273 v409
  v410.toNat
def k0_dev29 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v411 : BitVec 32 := Scalar.subi v2 c28_i32
  let c32_i32_274 : BitVec 32 := 32#32
  let c0_i32_275 : BitVec 32 := 0#32
  let v412 : BitVec 1 := Scalar.cmpi .eq c32_i32_274 c0_i32_275
  let c1_i32_276 : BitVec 32 := 1#32
  let v413 : BitVec 32 := Scalar.select v412 c1_i32_276 c32_i32_274
  let v414 : BitVec 32 := Scalar.remsi v411 v413
  let c0_i32_278 : BitVec 32 := 0#32
  let v416 : BitVec 1 := Scalar.cmpi .slt v414 c0_i32_278
  let c0_i32_279 : BitVec 32 := 0#32
  let v417 : BitVec 1 := Scalar.cmpi .slt v413 c0_i32_279
  let v418 : BitVec 1 := Scalar.xori v416 v417
  let c0_i32_277 : BitVec 32 := 0#32
  let v415 : BitVec 1 := Scalar.cmpi .ne v414 c0_i32_277
  let v419 : BitVec 1 := Scalar.andi v418 v415
  let v420 : BitVec 32 := Scalar.addi v414 v413
  let v421 : BitVec 32 := Scalar.select v419 v420 v414
  let c1_i32_282 : BitVec 32 := 1#32
  let v424 : BitVec 32 := Scalar.muli v421 c1_i32_282
  let v425 : BitVec 32 := Scalar.addi c0_i32_283 v424
  v425.toNat
def k0_dev30 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v426 : BitVec 32 := Scalar.subi v2 c29_i32
  let c32_i32_284 : BitVec 32 := 32#32
  let c0_i32_285 : BitVec 32 := 0#32
  let v427 : BitVec 1 := Scalar.cmpi .eq c32_i32_284 c0_i32_285
  let c1_i32_286 : BitVec 32 := 1#32
  let v428 : BitVec 32 := Scalar.select v427 c1_i32_286 c32_i32_284
  let v429 : BitVec 32 := Scalar.remsi v426 v428
  let c0_i32_288 : BitVec 32 := 0#32
  let v431 : BitVec 1 := Scalar.cmpi .slt v429 c0_i32_288
  let c0_i32_289 : BitVec 32 := 0#32
  let v432 : BitVec 1 := Scalar.cmpi .slt v428 c0_i32_289
  let v433 : BitVec 1 := Scalar.xori v431 v432
  let c0_i32_287 : BitVec 32 := 0#32
  let v430 : BitVec 1 := Scalar.cmpi .ne v429 c0_i32_287
  let v434 : BitVec 1 := Scalar.andi v433 v430
  let v435 : BitVec 32 := Scalar.addi v429 v428
  let v436 : BitVec 32 := Scalar.select v434 v435 v429
  let c1_i32_292 : BitVec 32 := 1#32
  let v439 : BitVec 32 := Scalar.muli v436 c1_i32_292
  let v440 : BitVec 32 := Scalar.addi c0_i32_293 v439
  v440.toNat
def k0_dev31 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v441 : BitVec 32 := Scalar.subi v2 c30_i32
  let c32_i32_294 : BitVec 32 := 32#32
  let c0_i32_295 : BitVec 32 := 0#32
  let v442 : BitVec 1 := Scalar.cmpi .eq c32_i32_294 c0_i32_295
  let c1_i32_296 : BitVec 32 := 1#32
  let v443 : BitVec 32 := Scalar.select v442 c1_i32_296 c32_i32_294
  let v444 : BitVec 32 := Scalar.remsi v441 v443
  let c0_i32_298 : BitVec 32 := 0#32
  let v446 : BitVec 1 := Scalar.cmpi .slt v444 c0_i32_298
  let c0_i32_299 : BitVec 32 := 0#32
  let v447 : BitVec 1 := Scalar.cmpi .slt v443 c0_i32_299
  let v448 : BitVec 1 := Scalar.xori v446 v447
  let c0_i32_297 : BitVec 32 := 0#32
  let v445 : BitVec 1 := Scalar.cmpi .ne v444 c0_i32_297
  let v449 : BitVec 1 := Scalar.andi v448 v445
  let v450 : BitVec 32 := Scalar.addi v444 v443
  let v451 : BitVec 32 := Scalar.select v449 v450 v444
  let c1_i32_302 : BitVec 32 := 1#32
  let v454 : BitVec 32 := Scalar.muli v451 c1_i32_302
  let v455 : BitVec 32 := Scalar.addi c0_i32_303 v454
  v455.toNat
def k0_dev32 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v456 : BitVec 32 := Scalar.subi v2 c31_i32
  let c32_i32_304 : BitVec 32 := 32#32
  let c0_i32_305 : BitVec 32 := 0#32
  let v457 : BitVec 1 := Scalar.cmpi .eq c32_i32_304 c0_i32_305
  let c1_i32_306 : BitVec 32 := 1#32
  let v458 : BitVec 32 := Scalar.select v457 c1_i32_306 c32_i32_304
  let v459 : BitVec 32 := Scalar.remsi v456 v458
  let c0_i32_308 : BitVec 32 := 0#32
  let v461 : BitVec 1 := Scalar.cmpi .slt v459 c0_i32_308
  let c0_i32_309 : BitVec 32 := 0#32
  let v462 : BitVec 1 := Scalar.cmpi .slt v458 c0_i32_309
  let v463 : BitVec 1 := Scalar.xori v461 v462
  let c0_i32_307 : BitVec 32 := 0#32
  let v460 : BitVec 1 := Scalar.cmpi .ne v459 c0_i32_307
  let v464 : BitVec 1 := Scalar.andi v463 v460
  let v465 : BitVec 32 := Scalar.addi v459 v458
  let v466 : BitVec 32 := Scalar.select v464 v465 v459
  let c1_i32_312 : BitVec 32 := 1#32
  let v469 : BitVec 32 := Scalar.muli v466 c1_i32_312
  let v470 : BitVec 32 := Scalar.addi c0_i32_313 v469
  v470.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_349 : BitVec 32 := 1#32
  let v571 : BitVec 32 := Scalar.addi v2 c1_i32_349
  let c32_i32_350 : BitVec 32 := 32#32
  let c0_i32_351 : BitVec 32 := 0#32
  let v572 : BitVec 1 := Scalar.cmpi .eq c32_i32_350 c0_i32_351
  let c1_i32_352 : BitVec 32 := 1#32
  let v573 : BitVec 32 := Scalar.select v572 c1_i32_352 c32_i32_350
  let v574 : BitVec 32 := Scalar.remsi v571 v573
  let c0_i32_354 : BitVec 32 := 0#32
  let v576 : BitVec 1 := Scalar.cmpi .slt v574 c0_i32_354
  let c0_i32_355 : BitVec 32 := 0#32
  let v577 : BitVec 1 := Scalar.cmpi .slt v573 c0_i32_355
  let v578 : BitVec 1 := Scalar.xori v576 v577
  let c0_i32_353 : BitVec 32 := 0#32
  let v575 : BitVec 1 := Scalar.cmpi .ne v574 c0_i32_353
  let v579 : BitVec 1 := Scalar.andi v578 v575
  let v580 : BitVec 32 := Scalar.addi v574 v573
  let v581 : BitVec 32 := Scalar.select v579 v580 v574
  let c16_i32_356 : BitVec 32 := 16#32
  let v582 : BitVec 32 := Scalar.muli v581 c16_i32_356
  let c0_i32_357 : BitVec 32 := 0#32
  let v583 : BitVec 1 := Scalar.cmpi .sge v582 c0_i32_357
  let c16_i32_358 : BitVec 32 := 16#32
  let v584 : BitVec 32 := Scalar.muli v581 c16_i32_358
  let c128_i32 : BitVec 32 := 128#32
  let v585 : BitVec 1 := Scalar.cmpi .slt v584 c128_i32
  let v586 : BitVec 1 := Scalar.andi v583 v585
  let v587 : BitVec 32 := Scalar.extui v586
  let c0_i32_359 : BitVec 32 := 0#32
  let v588 : BitVec 1 := Scalar.cmpi .ne v587 c0_i32_359
  v588

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_349 : BitVec 32 := 1#32
  let v571 : BitVec 32 := Scalar.addi v2 c1_i32_349
  let c32_i32_350 : BitVec 32 := 32#32
  let c0_i32_351 : BitVec 32 := 0#32
  let v572 : BitVec 1 := Scalar.cmpi .eq c32_i32_350 c0_i32_351
  let c1_i32_352 : BitVec 32 := 1#32
  let v573 : BitVec 32 := Scalar.select v572 c1_i32_352 c32_i32_350
  let v574 : BitVec 32 := Scalar.remsi v571 v573
  let c0_i32_354 : BitVec 32 := 0#32
  let v576 : BitVec 1 := Scalar.cmpi .slt v574 c0_i32_354
  let c0_i32_355 : BitVec 32 := 0#32
  let v577 : BitVec 1 := Scalar.cmpi .slt v573 c0_i32_355
  let v578 : BitVec 1 := Scalar.xori v576 v577
  let c0_i32_353 : BitVec 32 := 0#32
  let v575 : BitVec 1 := Scalar.cmpi .ne v574 c0_i32_353
  let v579 : BitVec 1 := Scalar.andi v578 v575
  let v580 : BitVec 32 := Scalar.addi v574 v573
  let v581 : BitVec 32 := Scalar.select v579 v580 v574
  let c16_i32_2380 : BitVec 32 := 16#32
  let v3205 : BitVec 32 := Scalar.muli v581 c16_i32_2380
  let c0_i32_2388 : BitVec 32 := 0#32
  ![v3205.toNat, 0]
def k0_dev33 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_349 : BitVec 32 := 1#32
  let v571 : BitVec 32 := Scalar.addi v2 c1_i32_349
  let c32_i32_350 : BitVec 32 := 32#32
  let c0_i32_351 : BitVec 32 := 0#32
  let v572 : BitVec 1 := Scalar.cmpi .eq c32_i32_350 c0_i32_351
  let c1_i32_352 : BitVec 32 := 1#32
  let v573 : BitVec 32 := Scalar.select v572 c1_i32_352 c32_i32_350
  let v574 : BitVec 32 := Scalar.remsi v571 v573
  let c0_i32_354 : BitVec 32 := 0#32
  let v576 : BitVec 1 := Scalar.cmpi .slt v574 c0_i32_354
  let c0_i32_355 : BitVec 32 := 0#32
  let v577 : BitVec 1 := Scalar.cmpi .slt v573 c0_i32_355
  let v578 : BitVec 1 := Scalar.xori v576 v577
  let c0_i32_353 : BitVec 32 := 0#32
  let v575 : BitVec 1 := Scalar.cmpi .ne v574 c0_i32_353
  let v579 : BitVec 1 := Scalar.andi v578 v575
  let v580 : BitVec 32 := Scalar.addi v574 v573
  let v581 : BitVec 32 := Scalar.select v579 v580 v574
  let c1_i32_2384 : BitVec 32 := 1#32
  let v3206 : BitVec 32 := Scalar.muli v581 c1_i32_2384
  let v3207 : BitVec 32 := Scalar.addi c0_i32_2385 v3206
  v3207.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v589 : BitVec 32 := Scalar.addi v2 c2_i32_360
  let c32_i32_361 : BitVec 32 := 32#32
  let c0_i32_362 : BitVec 32 := 0#32
  let v590 : BitVec 1 := Scalar.cmpi .eq c32_i32_361 c0_i32_362
  let c1_i32_363 : BitVec 32 := 1#32
  let v591 : BitVec 32 := Scalar.select v590 c1_i32_363 c32_i32_361
  let v592 : BitVec 32 := Scalar.remsi v589 v591
  let c0_i32_365 : BitVec 32 := 0#32
  let v594 : BitVec 1 := Scalar.cmpi .slt v592 c0_i32_365
  let c0_i32_366 : BitVec 32 := 0#32
  let v595 : BitVec 1 := Scalar.cmpi .slt v591 c0_i32_366
  let v596 : BitVec 1 := Scalar.xori v594 v595
  let c0_i32_364 : BitVec 32 := 0#32
  let v593 : BitVec 1 := Scalar.cmpi .ne v592 c0_i32_364
  let v597 : BitVec 1 := Scalar.andi v596 v593
  let v598 : BitVec 32 := Scalar.addi v592 v591
  let v599 : BitVec 32 := Scalar.select v597 v598 v592
  let c16_i32_367 : BitVec 32 := 16#32
  let v600 : BitVec 32 := Scalar.muli v599 c16_i32_367
  let c0_i32_368 : BitVec 32 := 0#32
  let v601 : BitVec 1 := Scalar.cmpi .sge v600 c0_i32_368
  let c16_i32_369 : BitVec 32 := 16#32
  let v602 : BitVec 32 := Scalar.muli v599 c16_i32_369
  let c128_i32_370 : BitVec 32 := 128#32
  let v603 : BitVec 1 := Scalar.cmpi .slt v602 c128_i32_370
  let v604 : BitVec 1 := Scalar.andi v601 v603
  let v605 : BitVec 32 := Scalar.extui v604
  let c0_i32_371 : BitVec 32 := 0#32
  let v606 : BitVec 1 := Scalar.cmpi .ne v605 c0_i32_371
  v606

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v589 : BitVec 32 := Scalar.addi v2 c2_i32_360
  let c32_i32_361 : BitVec 32 := 32#32
  let c0_i32_362 : BitVec 32 := 0#32
  let v590 : BitVec 1 := Scalar.cmpi .eq c32_i32_361 c0_i32_362
  let c1_i32_363 : BitVec 32 := 1#32
  let v591 : BitVec 32 := Scalar.select v590 c1_i32_363 c32_i32_361
  let v592 : BitVec 32 := Scalar.remsi v589 v591
  let c0_i32_365 : BitVec 32 := 0#32
  let v594 : BitVec 1 := Scalar.cmpi .slt v592 c0_i32_365
  let c0_i32_366 : BitVec 32 := 0#32
  let v595 : BitVec 1 := Scalar.cmpi .slt v591 c0_i32_366
  let v596 : BitVec 1 := Scalar.xori v594 v595
  let c0_i32_364 : BitVec 32 := 0#32
  let v593 : BitVec 1 := Scalar.cmpi .ne v592 c0_i32_364
  let v597 : BitVec 1 := Scalar.andi v596 v593
  let v598 : BitVec 32 := Scalar.addi v592 v591
  let v599 : BitVec 32 := Scalar.select v597 v598 v592
  let c16_i32_2380 : BitVec 32 := 16#32
  let v3205 : BitVec 32 := Scalar.muli v599 c16_i32_2380
  let c0_i32_2388 : BitVec 32 := 0#32
  ![v3205.toNat, 0]
def k0_dev34 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_360 : BitVec 32 := 2#32
  let v589 : BitVec 32 := Scalar.addi v2 c2_i32_360
  let c32_i32_361 : BitVec 32 := 32#32
  let c0_i32_362 : BitVec 32 := 0#32
  let v590 : BitVec 1 := Scalar.cmpi .eq c32_i32_361 c0_i32_362
  let c1_i32_363 : BitVec 32 := 1#32
  let v591 : BitVec 32 := Scalar.select v590 c1_i32_363 c32_i32_361
  let v592 : BitVec 32 := Scalar.remsi v589 v591
  let c0_i32_365 : BitVec 32 := 0#32
  let v594 : BitVec 1 := Scalar.cmpi .slt v592 c0_i32_365
  let c0_i32_366 : BitVec 32 := 0#32
  let v595 : BitVec 1 := Scalar.cmpi .slt v591 c0_i32_366
  let v596 : BitVec 1 := Scalar.xori v594 v595
  let c0_i32_364 : BitVec 32 := 0#32
  let v593 : BitVec 1 := Scalar.cmpi .ne v592 c0_i32_364
  let v597 : BitVec 1 := Scalar.andi v596 v593
  let v598 : BitVec 32 := Scalar.addi v592 v591
  let v599 : BitVec 32 := Scalar.select v597 v598 v592
  let c1_i32_2384 : BitVec 32 := 1#32
  let v3206 : BitVec 32 := Scalar.muli v599 c1_i32_2384
  let v3207 : BitVec 32 := Scalar.addi c0_i32_2385 v3206
  v3207.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_372 : BitVec 32 := 3#32
  let v607 : BitVec 32 := Scalar.addi v2 c3_i32_372
  let c32_i32_373 : BitVec 32 := 32#32
  let c0_i32_374 : BitVec 32 := 0#32
  let v608 : BitVec 1 := Scalar.cmpi .eq c32_i32_373 c0_i32_374
  let c1_i32_375 : BitVec 32 := 1#32
  let v609 : BitVec 32 := Scalar.select v608 c1_i32_375 c32_i32_373
  let v610 : BitVec 32 := Scalar.remsi v607 v609
  let c0_i32_377 : BitVec 32 := 0#32
  let v612 : BitVec 1 := Scalar.cmpi .slt v610 c0_i32_377
  let c0_i32_378 : BitVec 32 := 0#32
  let v613 : BitVec 1 := Scalar.cmpi .slt v609 c0_i32_378
  let v614 : BitVec 1 := Scalar.xori v612 v613
  let c0_i32_376 : BitVec 32 := 0#32
  let v611 : BitVec 1 := Scalar.cmpi .ne v610 c0_i32_376
  let v615 : BitVec 1 := Scalar.andi v614 v611
  let v616 : BitVec 32 := Scalar.addi v610 v609
  let v617 : BitVec 32 := Scalar.select v615 v616 v610
  let c16_i32_379 : BitVec 32 := 16#32
  let v618 : BitVec 32 := Scalar.muli v617 c16_i32_379
  let c0_i32_380 : BitVec 32 := 0#32
  let v619 : BitVec 1 := Scalar.cmpi .sge v618 c0_i32_380
  let c16_i32_381 : BitVec 32 := 16#32
  let v620 : BitVec 32 := Scalar.muli v617 c16_i32_381
  let c128_i32_382 : BitVec 32 := 128#32
  let v621 : BitVec 1 := Scalar.cmpi .slt v620 c128_i32_382
  let v622 : BitVec 1 := Scalar.andi v619 v621
  let v623 : BitVec 32 := Scalar.extui v622
  let c0_i32_383 : BitVec 32 := 0#32
  let v624 : BitVec 1 := Scalar.cmpi .ne v623 c0_i32_383
  v624

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_372 : BitVec 32 := 3#32
  let v607 : BitVec 32 := Scalar.addi v2 c3_i32_372
  let c32_i32_373 : BitVec 32 := 32#32
  let c0_i32_374 : BitVec 32 := 0#32
  let v608 : BitVec 1 := Scalar.cmpi .eq c32_i32_373 c0_i32_374
  let c1_i32_375 : BitVec 32 := 1#32
  let v609 : BitVec 32 := Scalar.select v608 c1_i32_375 c32_i32_373
  let v610 : BitVec 32 := Scalar.remsi v607 v609
  let c0_i32_377 : BitVec 32 := 0#32
  let v612 : BitVec 1 := Scalar.cmpi .slt v610 c0_i32_377
  let c0_i32_378 : BitVec 32 := 0#32
  let v613 : BitVec 1 := Scalar.cmpi .slt v609 c0_i32_378
  let v614 : BitVec 1 := Scalar.xori v612 v613
  let c0_i32_376 : BitVec 32 := 0#32
  let v611 : BitVec 1 := Scalar.cmpi .ne v610 c0_i32_376
  let v615 : BitVec 1 := Scalar.andi v614 v611
  let v616 : BitVec 32 := Scalar.addi v610 v609
  let v617 : BitVec 32 := Scalar.select v615 v616 v610
  let c16_i32_2380 : BitVec 32 := 16#32
  let v3205 : BitVec 32 := Scalar.muli v617 c16_i32_2380
  let c0_i32_2388 : BitVec 32 := 0#32
  ![v3205.toNat, 0]
def k0_dev35 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_372 : BitVec 32 := 3#32
  let v607 : BitVec 32 := Scalar.addi v2 c3_i32_372
  let c32_i32_373 : BitVec 32 := 32#32
  let c0_i32_374 : BitVec 32 := 0#32
  let v608 : BitVec 1 := Scalar.cmpi .eq c32_i32_373 c0_i32_374
  let c1_i32_375 : BitVec 32 := 1#32
  let v609 : BitVec 32 := Scalar.select v608 c1_i32_375 c32_i32_373
  let v610 : BitVec 32 := Scalar.remsi v607 v609
  let c0_i32_377 : BitVec 32 := 0#32
  let v612 : BitVec 1 := Scalar.cmpi .slt v610 c0_i32_377
  let c0_i32_378 : BitVec 32 := 0#32
  let v613 : BitVec 1 := Scalar.cmpi .slt v609 c0_i32_378
  let v614 : BitVec 1 := Scalar.xori v612 v613
  let c0_i32_376 : BitVec 32 := 0#32
  let v611 : BitVec 1 := Scalar.cmpi .ne v610 c0_i32_376
  let v615 : BitVec 1 := Scalar.andi v614 v611
  let v616 : BitVec 32 := Scalar.addi v610 v609
  let v617 : BitVec 32 := Scalar.select v615 v616 v610
  let c1_i32_2384 : BitVec 32 := 1#32
  let v3206 : BitVec 32 := Scalar.muli v617 c1_i32_2384
  let v3207 : BitVec 32 := Scalar.addi c0_i32_2385 v3206
  v3207.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_384 : BitVec 32 := 4#32
  let v625 : BitVec 32 := Scalar.addi v2 c4_i32_384
  let c32_i32_385 : BitVec 32 := 32#32
  let c0_i32_386 : BitVec 32 := 0#32
  let v626 : BitVec 1 := Scalar.cmpi .eq c32_i32_385 c0_i32_386
  let c1_i32_387 : BitVec 32 := 1#32
  let v627 : BitVec 32 := Scalar.select v626 c1_i32_387 c32_i32_385
  let v628 : BitVec 32 := Scalar.remsi v625 v627
  let c0_i32_389 : BitVec 32 := 0#32
  let v630 : BitVec 1 := Scalar.cmpi .slt v628 c0_i32_389
  let c0_i32_390 : BitVec 32 := 0#32
  let v631 : BitVec 1 := Scalar.cmpi .slt v627 c0_i32_390
  let v632 : BitVec 1 := Scalar.xori v630 v631
  let c0_i32_388 : BitVec 32 := 0#32
  let v629 : BitVec 1 := Scalar.cmpi .ne v628 c0_i32_388
  let v633 : BitVec 1 := Scalar.andi v632 v629
  let v634 : BitVec 32 := Scalar.addi v628 v627
  let v635 : BitVec 32 := Scalar.select v633 v634 v628
  let c16_i32_391 : BitVec 32 := 16#32
  let v636 : BitVec 32 := Scalar.muli v635 c16_i32_391
  let c0_i32_392 : BitVec 32 := 0#32
  let v637 : BitVec 1 := Scalar.cmpi .sge v636 c0_i32_392
  let c16_i32_393 : BitVec 32 := 16#32
  let v638 : BitVec 32 := Scalar.muli v635 c16_i32_393
  let c128_i32_394 : BitVec 32 := 128#32
  let v639 : BitVec 1 := Scalar.cmpi .slt v638 c128_i32_394
  let v640 : BitVec 1 := Scalar.andi v637 v639
  let v641 : BitVec 32 := Scalar.extui v640
  let c0_i32_395 : BitVec 32 := 0#32
  let v642 : BitVec 1 := Scalar.cmpi .ne v641 c0_i32_395
  v642

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_384 : BitVec 32 := 4#32
  let v625 : BitVec 32 := Scalar.addi v2 c4_i32_384
  let c32_i32_385 : BitVec 32 := 32#32
  let c0_i32_386 : BitVec 32 := 0#32
  let v626 : BitVec 1 := Scalar.cmpi .eq c32_i32_385 c0_i32_386
  let c1_i32_387 : BitVec 32 := 1#32
  let v627 : BitVec 32 := Scalar.select v626 c1_i32_387 c32_i32_385
  let v628 : BitVec 32 := Scalar.remsi v625 v627
  let c0_i32_389 : BitVec 32 := 0#32
  let v630 : BitVec 1 := Scalar.cmpi .slt v628 c0_i32_389
  let c0_i32_390 : BitVec 32 := 0#32
  let v631 : BitVec 1 := Scalar.cmpi .slt v627 c0_i32_390
  let v632 : BitVec 1 := Scalar.xori v630 v631
  let c0_i32_388 : BitVec 32 := 0#32
  let v629 : BitVec 1 := Scalar.cmpi .ne v628 c0_i32_388
  let v633 : BitVec 1 := Scalar.andi v632 v629
  let v634 : BitVec 32 := Scalar.addi v628 v627
  let v635 : BitVec 32 := Scalar.select v633 v634 v628
  let c16_i32_2380 : BitVec 32 := 16#32
  let v3205 : BitVec 32 := Scalar.muli v635 c16_i32_2380
  let c0_i32_2388 : BitVec 32 := 0#32
  ![v3205.toNat, 0]
def k0_dev36 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_384 : BitVec 32 := 4#32
  let v625 : BitVec 32 := Scalar.addi v2 c4_i32_384
  let c32_i32_385 : BitVec 32 := 32#32
  let c0_i32_386 : BitVec 32 := 0#32
  let v626 : BitVec 1 := Scalar.cmpi .eq c32_i32_385 c0_i32_386
  let c1_i32_387 : BitVec 32 := 1#32
  let v627 : BitVec 32 := Scalar.select v626 c1_i32_387 c32_i32_385
  let v628 : BitVec 32 := Scalar.remsi v625 v627
  let c0_i32_389 : BitVec 32 := 0#32
  let v630 : BitVec 1 := Scalar.cmpi .slt v628 c0_i32_389
  let c0_i32_390 : BitVec 32 := 0#32
  let v631 : BitVec 1 := Scalar.cmpi .slt v627 c0_i32_390
  let v632 : BitVec 1 := Scalar.xori v630 v631
  let c0_i32_388 : BitVec 32 := 0#32
  let v629 : BitVec 1 := Scalar.cmpi .ne v628 c0_i32_388
  let v633 : BitVec 1 := Scalar.andi v632 v629
  let v634 : BitVec 32 := Scalar.addi v628 v627
  let v635 : BitVec 32 := Scalar.select v633 v634 v628
  let c1_i32_2384 : BitVec 32 := 1#32
  let v3206 : BitVec 32 := Scalar.muli v635 c1_i32_2384
  let v3207 : BitVec 32 := Scalar.addi c0_i32_2385 v3206
  v3207.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_396 : BitVec 32 := 5#32
  let v643 : BitVec 32 := Scalar.addi v2 c5_i32_396
  let c32_i32_397 : BitVec 32 := 32#32
  let c0_i32_398 : BitVec 32 := 0#32
  let v644 : BitVec 1 := Scalar.cmpi .eq c32_i32_397 c0_i32_398
  let c1_i32_399 : BitVec 32 := 1#32
  let v645 : BitVec 32 := Scalar.select v644 c1_i32_399 c32_i32_397
  let v646 : BitVec 32 := Scalar.remsi v643 v645
  let c0_i32_401 : BitVec 32 := 0#32
  let v648 : BitVec 1 := Scalar.cmpi .slt v646 c0_i32_401
  let c0_i32_402 : BitVec 32 := 0#32
  let v649 : BitVec 1 := Scalar.cmpi .slt v645 c0_i32_402
  let v650 : BitVec 1 := Scalar.xori v648 v649
  let c0_i32_400 : BitVec 32 := 0#32
  let v647 : BitVec 1 := Scalar.cmpi .ne v646 c0_i32_400
  let v651 : BitVec 1 := Scalar.andi v650 v647
  let v652 : BitVec 32 := Scalar.addi v646 v645
  let v653 : BitVec 32 := Scalar.select v651 v652 v646
  let c16_i32_403 : BitVec 32 := 16#32
  let v654 : BitVec 32 := Scalar.muli v653 c16_i32_403
  let c0_i32_404 : BitVec 32 := 0#32
  let v655 : BitVec 1 := Scalar.cmpi .sge v654 c0_i32_404
  let c16_i32_405 : BitVec 32 := 16#32
  let v656 : BitVec 32 := Scalar.muli v653 c16_i32_405
  let c128_i32_406 : BitVec 32 := 128#32
  let v657 : BitVec 1 := Scalar.cmpi .slt v656 c128_i32_406
  let v658 : BitVec 1 := Scalar.andi v655 v657
  let v659 : BitVec 32 := Scalar.extui v658
  let c0_i32_407 : BitVec 32 := 0#32
  let v660 : BitVec 1 := Scalar.cmpi .ne v659 c0_i32_407
  v660

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_396 : BitVec 32 := 5#32
  let v643 : BitVec 32 := Scalar.addi v2 c5_i32_396
  let c32_i32_397 : BitVec 32 := 32#32
  let c0_i32_398 : BitVec 32 := 0#32
  let v644 : BitVec 1 := Scalar.cmpi .eq c32_i32_397 c0_i32_398
  let c1_i32_399 : BitVec 32 := 1#32
  let v645 : BitVec 32 := Scalar.select v644 c1_i32_399 c32_i32_397
  let v646 : BitVec 32 := Scalar.remsi v643 v645
  let c0_i32_401 : BitVec 32 := 0#32
  let v648 : BitVec 1 := Scalar.cmpi .slt v646 c0_i32_401
  let c0_i32_402 : BitVec 32 := 0#32
  let v649 : BitVec 1 := Scalar.cmpi .slt v645 c0_i32_402
  let v650 : BitVec 1 := Scalar.xori v648 v649
  let c0_i32_400 : BitVec 32 := 0#32
  let v647 : BitVec 1 := Scalar.cmpi .ne v646 c0_i32_400
  let v651 : BitVec 1 := Scalar.andi v650 v647
  let v652 : BitVec 32 := Scalar.addi v646 v645
  let v653 : BitVec 32 := Scalar.select v651 v652 v646
  let c16_i32_2380 : BitVec 32 := 16#32
  let v3205 : BitVec 32 := Scalar.muli v653 c16_i32_2380
  let c0_i32_2388 : BitVec 32 := 0#32
  ![v3205.toNat, 0]
def k0_dev37 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_396 : BitVec 32 := 5#32
  let v643 : BitVec 32 := Scalar.addi v2 c5_i32_396
  let c32_i32_397 : BitVec 32 := 32#32
  let c0_i32_398 : BitVec 32 := 0#32
  let v644 : BitVec 1 := Scalar.cmpi .eq c32_i32_397 c0_i32_398
  let c1_i32_399 : BitVec 32 := 1#32
  let v645 : BitVec 32 := Scalar.select v644 c1_i32_399 c32_i32_397
  let v646 : BitVec 32 := Scalar.remsi v643 v645
  let c0_i32_401 : BitVec 32 := 0#32
  let v648 : BitVec 1 := Scalar.cmpi .slt v646 c0_i32_401
  let c0_i32_402 : BitVec 32 := 0#32
  let v649 : BitVec 1 := Scalar.cmpi .slt v645 c0_i32_402
  let v650 : BitVec 1 := Scalar.xori v648 v649
  let c0_i32_400 : BitVec 32 := 0#32
  let v647 : BitVec 1 := Scalar.cmpi .ne v646 c0_i32_400
  let v651 : BitVec 1 := Scalar.andi v650 v647
  let v652 : BitVec 32 := Scalar.addi v646 v645
  let v653 : BitVec 32 := Scalar.select v651 v652 v646
  let c1_i32_2384 : BitVec 32 := 1#32
  let v3206 : BitVec 32 := Scalar.muli v653 c1_i32_2384
  let v3207 : BitVec 32 := Scalar.addi c0_i32_2385 v3206
  v3207.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_408 : BitVec 32 := 6#32
  let v661 : BitVec 32 := Scalar.addi v2 c6_i32_408
  let c32_i32_409 : BitVec 32 := 32#32
  let c0_i32_410 : BitVec 32 := 0#32
  let v662 : BitVec 1 := Scalar.cmpi .eq c32_i32_409 c0_i32_410
  let c1_i32_411 : BitVec 32 := 1#32
  let v663 : BitVec 32 := Scalar.select v662 c1_i32_411 c32_i32_409
  let v664 : BitVec 32 := Scalar.remsi v661 v663
  let c0_i32_413 : BitVec 32 := 0#32
  let v666 : BitVec 1 := Scalar.cmpi .slt v664 c0_i32_413
  let c0_i32_414 : BitVec 32 := 0#32
  let v667 : BitVec 1 := Scalar.cmpi .slt v663 c0_i32_414
  let v668 : BitVec 1 := Scalar.xori v666 v667
  let c0_i32_412 : BitVec 32 := 0#32
  let v665 : BitVec 1 := Scalar.cmpi .ne v664 c0_i32_412
  let v669 : BitVec 1 := Scalar.andi v668 v665
  let v670 : BitVec 32 := Scalar.addi v664 v663
  let v671 : BitVec 32 := Scalar.select v669 v670 v664
  let c16_i32_415 : BitVec 32 := 16#32
  let v672 : BitVec 32 := Scalar.muli v671 c16_i32_415
  let c0_i32_416 : BitVec 32 := 0#32
  let v673 : BitVec 1 := Scalar.cmpi .sge v672 c0_i32_416
  let c16_i32_417 : BitVec 32 := 16#32
  let v674 : BitVec 32 := Scalar.muli v671 c16_i32_417
  let c128_i32_418 : BitVec 32 := 128#32
  let v675 : BitVec 1 := Scalar.cmpi .slt v674 c128_i32_418
  let v676 : BitVec 1 := Scalar.andi v673 v675
  let v677 : BitVec 32 := Scalar.extui v676
  let c0_i32_419 : BitVec 32 := 0#32
  let v678 : BitVec 1 := Scalar.cmpi .ne v677 c0_i32_419
  v678

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_408 : BitVec 32 := 6#32
  let v661 : BitVec 32 := Scalar.addi v2 c6_i32_408
  let c32_i32_409 : BitVec 32 := 32#32
  let c0_i32_410 : BitVec 32 := 0#32
  let v662 : BitVec 1 := Scalar.cmpi .eq c32_i32_409 c0_i32_410
  let c1_i32_411 : BitVec 32 := 1#32
  let v663 : BitVec 32 := Scalar.select v662 c1_i32_411 c32_i32_409
  let v664 : BitVec 32 := Scalar.remsi v661 v663
  let c0_i32_413 : BitVec 32 := 0#32
  let v666 : BitVec 1 := Scalar.cmpi .slt v664 c0_i32_413
  let c0_i32_414 : BitVec 32 := 0#32
  let v667 : BitVec 1 := Scalar.cmpi .slt v663 c0_i32_414
  let v668 : BitVec 1 := Scalar.xori v666 v667
  let c0_i32_412 : BitVec 32 := 0#32
  let v665 : BitVec 1 := Scalar.cmpi .ne v664 c0_i32_412
  let v669 : BitVec 1 := Scalar.andi v668 v665
  let v670 : BitVec 32 := Scalar.addi v664 v663
  let v671 : BitVec 32 := Scalar.select v669 v670 v664
  let c16_i32_2380 : BitVec 32 := 16#32
  let v3205 : BitVec 32 := Scalar.muli v671 c16_i32_2380
  let c0_i32_2388 : BitVec 32 := 0#32
  ![v3205.toNat, 0]
def k0_dev38 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_408 : BitVec 32 := 6#32
  let v661 : BitVec 32 := Scalar.addi v2 c6_i32_408
  let c32_i32_409 : BitVec 32 := 32#32
  let c0_i32_410 : BitVec 32 := 0#32
  let v662 : BitVec 1 := Scalar.cmpi .eq c32_i32_409 c0_i32_410
  let c1_i32_411 : BitVec 32 := 1#32
  let v663 : BitVec 32 := Scalar.select v662 c1_i32_411 c32_i32_409
  let v664 : BitVec 32 := Scalar.remsi v661 v663
  let c0_i32_413 : BitVec 32 := 0#32
  let v666 : BitVec 1 := Scalar.cmpi .slt v664 c0_i32_413
  let c0_i32_414 : BitVec 32 := 0#32
  let v667 : BitVec 1 := Scalar.cmpi .slt v663 c0_i32_414
  let v668 : BitVec 1 := Scalar.xori v666 v667
  let c0_i32_412 : BitVec 32 := 0#32
  let v665 : BitVec 1 := Scalar.cmpi .ne v664 c0_i32_412
  let v669 : BitVec 1 := Scalar.andi v668 v665
  let v670 : BitVec 32 := Scalar.addi v664 v663
  let v671 : BitVec 32 := Scalar.select v669 v670 v664
  let c1_i32_2384 : BitVec 32 := 1#32
  let v3206 : BitVec 32 := Scalar.muli v671 c1_i32_2384
  let v3207 : BitVec 32 := Scalar.addi c0_i32_2385 v3206
  v3207.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_420 : BitVec 32 := 7#32
  let v679 : BitVec 32 := Scalar.addi v2 c7_i32_420
  let c32_i32_421 : BitVec 32 := 32#32
  let c0_i32_422 : BitVec 32 := 0#32
  let v680 : BitVec 1 := Scalar.cmpi .eq c32_i32_421 c0_i32_422
  let c1_i32_423 : BitVec 32 := 1#32
  let v681 : BitVec 32 := Scalar.select v680 c1_i32_423 c32_i32_421
  let v682 : BitVec 32 := Scalar.remsi v679 v681
  let c0_i32_425 : BitVec 32 := 0#32
  let v684 : BitVec 1 := Scalar.cmpi .slt v682 c0_i32_425
  let c0_i32_426 : BitVec 32 := 0#32
  let v685 : BitVec 1 := Scalar.cmpi .slt v681 c0_i32_426
  let v686 : BitVec 1 := Scalar.xori v684 v685
  let c0_i32_424 : BitVec 32 := 0#32
  let v683 : BitVec 1 := Scalar.cmpi .ne v682 c0_i32_424
  let v687 : BitVec 1 := Scalar.andi v686 v683
  let v688 : BitVec 32 := Scalar.addi v682 v681
  let v689 : BitVec 32 := Scalar.select v687 v688 v682
  let c16_i32_427 : BitVec 32 := 16#32
  let v690 : BitVec 32 := Scalar.muli v689 c16_i32_427
  let c0_i32_428 : BitVec 32 := 0#32
  let v691 : BitVec 1 := Scalar.cmpi .sge v690 c0_i32_428
  let c16_i32_429 : BitVec 32 := 16#32
  let v692 : BitVec 32 := Scalar.muli v689 c16_i32_429
  let c128_i32_430 : BitVec 32 := 128#32
  let v693 : BitVec 1 := Scalar.cmpi .slt v692 c128_i32_430
  let v694 : BitVec 1 := Scalar.andi v691 v693
  let v695 : BitVec 32 := Scalar.extui v694
  let c0_i32_431 : BitVec 32 := 0#32
  let v696 : BitVec 1 := Scalar.cmpi .ne v695 c0_i32_431
  v696

def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_420 : BitVec 32 := 7#32
  let v679 : BitVec 32 := Scalar.addi v2 c7_i32_420
  let c32_i32_421 : BitVec 32 := 32#32
  let c0_i32_422 : BitVec 32 := 0#32
  let v680 : BitVec 1 := Scalar.cmpi .eq c32_i32_421 c0_i32_422
  let c1_i32_423 : BitVec 32 := 1#32
  let v681 : BitVec 32 := Scalar.select v680 c1_i32_423 c32_i32_421
  let v682 : BitVec 32 := Scalar.remsi v679 v681
  let c0_i32_425 : BitVec 32 := 0#32
  let v684 : BitVec 1 := Scalar.cmpi .slt v682 c0_i32_425
  let c0_i32_426 : BitVec 32 := 0#32
  let v685 : BitVec 1 := Scalar.cmpi .slt v681 c0_i32_426
  let v686 : BitVec 1 := Scalar.xori v684 v685
  let c0_i32_424 : BitVec 32 := 0#32
  let v683 : BitVec 1 := Scalar.cmpi .ne v682 c0_i32_424
  let v687 : BitVec 1 := Scalar.andi v686 v683
  let v688 : BitVec 32 := Scalar.addi v682 v681
  let v689 : BitVec 32 := Scalar.select v687 v688 v682
  let c16_i32_2380 : BitVec 32 := 16#32
  let v3205 : BitVec 32 := Scalar.muli v689 c16_i32_2380
  let c0_i32_2388 : BitVec 32 := 0#32
  ![v3205.toNat, 0]
def k0_dev39 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_420 : BitVec 32 := 7#32
  let v679 : BitVec 32 := Scalar.addi v2 c7_i32_420
  let c32_i32_421 : BitVec 32 := 32#32
  let c0_i32_422 : BitVec 32 := 0#32
  let v680 : BitVec 1 := Scalar.cmpi .eq c32_i32_421 c0_i32_422
  let c1_i32_423 : BitVec 32 := 1#32
  let v681 : BitVec 32 := Scalar.select v680 c1_i32_423 c32_i32_421
  let v682 : BitVec 32 := Scalar.remsi v679 v681
  let c0_i32_425 : BitVec 32 := 0#32
  let v684 : BitVec 1 := Scalar.cmpi .slt v682 c0_i32_425
  let c0_i32_426 : BitVec 32 := 0#32
  let v685 : BitVec 1 := Scalar.cmpi .slt v681 c0_i32_426
  let v686 : BitVec 1 := Scalar.xori v684 v685
  let c0_i32_424 : BitVec 32 := 0#32
  let v683 : BitVec 1 := Scalar.cmpi .ne v682 c0_i32_424
  let v687 : BitVec 1 := Scalar.andi v686 v683
  let v688 : BitVec 32 := Scalar.addi v682 v681
  let v689 : BitVec 32 := Scalar.select v687 v688 v682
  let c1_i32_2384 : BitVec 32 := 1#32
  let v3206 : BitVec 32 := Scalar.muli v689 c1_i32_2384
  let v3207 : BitVec 32 := Scalar.addi c0_i32_2385 v3206
  v3207.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_432 : BitVec 32 := 8#32
  let v697 : BitVec 32 := Scalar.addi v2 c8_i32_432
  let c32_i32_433 : BitVec 32 := 32#32
  let c0_i32_434 : BitVec 32 := 0#32
  let v698 : BitVec 1 := Scalar.cmpi .eq c32_i32_433 c0_i32_434
  let c1_i32_435 : BitVec 32 := 1#32
  let v699 : BitVec 32 := Scalar.select v698 c1_i32_435 c32_i32_433
  let v700 : BitVec 32 := Scalar.remsi v697 v699
  let c0_i32_437 : BitVec 32 := 0#32
  let v702 : BitVec 1 := Scalar.cmpi .slt v700 c0_i32_437
  let c0_i32_438 : BitVec 32 := 0#32
  let v703 : BitVec 1 := Scalar.cmpi .slt v699 c0_i32_438
  let v704 : BitVec 1 := Scalar.xori v702 v703
  let c0_i32_436 : BitVec 32 := 0#32
  let v701 : BitVec 1 := Scalar.cmpi .ne v700 c0_i32_436
  let v705 : BitVec 1 := Scalar.andi v704 v701
  let v706 : BitVec 32 := Scalar.addi v700 v699
  let v707 : BitVec 32 := Scalar.select v705 v706 v700
  let c16_i32_439 : BitVec 32 := 16#32
  let v708 : BitVec 32 := Scalar.muli v707 c16_i32_439
  let c0_i32_440 : BitVec 32 := 0#32
  let v709 : BitVec 1 := Scalar.cmpi .sge v708 c0_i32_440
  let c16_i32_441 : BitVec 32 := 16#32
  let v710 : BitVec 32 := Scalar.muli v707 c16_i32_441
  let c128_i32_442 : BitVec 32 := 128#32
  let v711 : BitVec 1 := Scalar.cmpi .slt v710 c128_i32_442
  let v712 : BitVec 1 := Scalar.andi v709 v711
  let v713 : BitVec 32 := Scalar.extui v712
  let c0_i32_443 : BitVec 32 := 0#32
  let v714 : BitVec 1 := Scalar.cmpi .ne v713 c0_i32_443
  v714

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_432 : BitVec 32 := 8#32
  let v697 : BitVec 32 := Scalar.addi v2 c8_i32_432
  let c32_i32_433 : BitVec 32 := 32#32
  let c0_i32_434 : BitVec 32 := 0#32
  let v698 : BitVec 1 := Scalar.cmpi .eq c32_i32_433 c0_i32_434
  let c1_i32_435 : BitVec 32 := 1#32
  let v699 : BitVec 32 := Scalar.select v698 c1_i32_435 c32_i32_433
  let v700 : BitVec 32 := Scalar.remsi v697 v699
  let c0_i32_437 : BitVec 32 := 0#32
  let v702 : BitVec 1 := Scalar.cmpi .slt v700 c0_i32_437
  let c0_i32_438 : BitVec 32 := 0#32
  let v703 : BitVec 1 := Scalar.cmpi .slt v699 c0_i32_438
  let v704 : BitVec 1 := Scalar.xori v702 v703
  let c0_i32_436 : BitVec 32 := 0#32
  let v701 : BitVec 1 := Scalar.cmpi .ne v700 c0_i32_436
  let v705 : BitVec 1 := Scalar.andi v704 v701
  let v706 : BitVec 32 := Scalar.addi v700 v699
  let v707 : BitVec 32 := Scalar.select v705 v706 v700
  let c16_i32_2380 : BitVec 32 := 16#32
  let v3205 : BitVec 32 := Scalar.muli v707 c16_i32_2380
  let c0_i32_2388 : BitVec 32 := 0#32
  ![v3205.toNat, 0]
def k0_dev40 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_432 : BitVec 32 := 8#32
  let v697 : BitVec 32 := Scalar.addi v2 c8_i32_432
  let c32_i32_433 : BitVec 32 := 32#32
  let c0_i32_434 : BitVec 32 := 0#32
  let v698 : BitVec 1 := Scalar.cmpi .eq c32_i32_433 c0_i32_434
  let c1_i32_435 : BitVec 32 := 1#32
  let v699 : BitVec 32 := Scalar.select v698 c1_i32_435 c32_i32_433
  let v700 : BitVec 32 := Scalar.remsi v697 v699
  let c0_i32_437 : BitVec 32 := 0#32
  let v702 : BitVec 1 := Scalar.cmpi .slt v700 c0_i32_437
  let c0_i32_438 : BitVec 32 := 0#32
  let v703 : BitVec 1 := Scalar.cmpi .slt v699 c0_i32_438
  let v704 : BitVec 1 := Scalar.xori v702 v703
  let c0_i32_436 : BitVec 32 := 0#32
  let v701 : BitVec 1 := Scalar.cmpi .ne v700 c0_i32_436
  let v705 : BitVec 1 := Scalar.andi v704 v701
  let v706 : BitVec 32 := Scalar.addi v700 v699
  let v707 : BitVec 32 := Scalar.select v705 v706 v700
  let c1_i32_2384 : BitVec 32 := 1#32
  let v3206 : BitVec 32 := Scalar.muli v707 c1_i32_2384
  let v3207 : BitVec 32 := Scalar.addi c0_i32_2385 v3206
  v3207.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_444 : BitVec 32 := 9#32
  let v715 : BitVec 32 := Scalar.addi v2 c9_i32_444
  let c32_i32_445 : BitVec 32 := 32#32
  let c0_i32_446 : BitVec 32 := 0#32
  let v716 : BitVec 1 := Scalar.cmpi .eq c32_i32_445 c0_i32_446
  let c1_i32_447 : BitVec 32 := 1#32
  let v717 : BitVec 32 := Scalar.select v716 c1_i32_447 c32_i32_445
  let v718 : BitVec 32 := Scalar.remsi v715 v717
  let c0_i32_449 : BitVec 32 := 0#32
  let v720 : BitVec 1 := Scalar.cmpi .slt v718 c0_i32_449
  let c0_i32_450 : BitVec 32 := 0#32
  let v721 : BitVec 1 := Scalar.cmpi .slt v717 c0_i32_450
  let v722 : BitVec 1 := Scalar.xori v720 v721
  let c0_i32_448 : BitVec 32 := 0#32
  let v719 : BitVec 1 := Scalar.cmpi .ne v718 c0_i32_448
  let v723 : BitVec 1 := Scalar.andi v722 v719
  let v724 : BitVec 32 := Scalar.addi v718 v717
  let v725 : BitVec 32 := Scalar.select v723 v724 v718
  let c16_i32_451 : BitVec 32 := 16#32
  let v726 : BitVec 32 := Scalar.muli v725 c16_i32_451
  let c0_i32_452 : BitVec 32 := 0#32
  let v727 : BitVec 1 := Scalar.cmpi .sge v726 c0_i32_452
  let c16_i32_453 : BitVec 32 := 16#32
  let v728 : BitVec 32 := Scalar.muli v725 c16_i32_453
  let c128_i32_454 : BitVec 32 := 128#32
  let v729 : BitVec 1 := Scalar.cmpi .slt v728 c128_i32_454
  let v730 : BitVec 1 := Scalar.andi v727 v729
  let v731 : BitVec 32 := Scalar.extui v730
  let c0_i32_455 : BitVec 32 := 0#32
  let v732 : BitVec 1 := Scalar.cmpi .ne v731 c0_i32_455
  v732

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_444 : BitVec 32 := 9#32
  let v715 : BitVec 32 := Scalar.addi v2 c9_i32_444
  let c32_i32_445 : BitVec 32 := 32#32
  let c0_i32_446 : BitVec 32 := 0#32
  let v716 : BitVec 1 := Scalar.cmpi .eq c32_i32_445 c0_i32_446
  let c1_i32_447 : BitVec 32 := 1#32
  let v717 : BitVec 32 := Scalar.select v716 c1_i32_447 c32_i32_445
  let v718 : BitVec 32 := Scalar.remsi v715 v717
  let c0_i32_449 : BitVec 32 := 0#32
  let v720 : BitVec 1 := Scalar.cmpi .slt v718 c0_i32_449
  let c0_i32_450 : BitVec 32 := 0#32
  let v721 : BitVec 1 := Scalar.cmpi .slt v717 c0_i32_450
  let v722 : BitVec 1 := Scalar.xori v720 v721
  let c0_i32_448 : BitVec 32 := 0#32
  let v719 : BitVec 1 := Scalar.cmpi .ne v718 c0_i32_448
  let v723 : BitVec 1 := Scalar.andi v722 v719
  let v724 : BitVec 32 := Scalar.addi v718 v717
  let v725 : BitVec 32 := Scalar.select v723 v724 v718
  let c16_i32_2380 : BitVec 32 := 16#32
  let v3205 : BitVec 32 := Scalar.muli v725 c16_i32_2380
  let c0_i32_2388 : BitVec 32 := 0#32
  ![v3205.toNat, 0]
def k0_dev41 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_444 : BitVec 32 := 9#32
  let v715 : BitVec 32 := Scalar.addi v2 c9_i32_444
  let c32_i32_445 : BitVec 32 := 32#32
  let c0_i32_446 : BitVec 32 := 0#32
  let v716 : BitVec 1 := Scalar.cmpi .eq c32_i32_445 c0_i32_446
  let c1_i32_447 : BitVec 32 := 1#32
  let v717 : BitVec 32 := Scalar.select v716 c1_i32_447 c32_i32_445
  let v718 : BitVec 32 := Scalar.remsi v715 v717
  let c0_i32_449 : BitVec 32 := 0#32
  let v720 : BitVec 1 := Scalar.cmpi .slt v718 c0_i32_449
  let c0_i32_450 : BitVec 32 := 0#32
  let v721 : BitVec 1 := Scalar.cmpi .slt v717 c0_i32_450
  let v722 : BitVec 1 := Scalar.xori v720 v721
  let c0_i32_448 : BitVec 32 := 0#32
  let v719 : BitVec 1 := Scalar.cmpi .ne v718 c0_i32_448
  let v723 : BitVec 1 := Scalar.andi v722 v719
  let v724 : BitVec 32 := Scalar.addi v718 v717
  let v725 : BitVec 32 := Scalar.select v723 v724 v718
  let c1_i32_2384 : BitVec 32 := 1#32
  let v3206 : BitVec 32 := Scalar.muli v725 c1_i32_2384
  let v3207 : BitVec 32 := Scalar.addi c0_i32_2385 v3206
  v3207.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_456 : BitVec 32 := 10#32
  let v733 : BitVec 32 := Scalar.addi v2 c10_i32_456
  let c32_i32_457 : BitVec 32 := 32#32
  let c0_i32_458 : BitVec 32 := 0#32
  let v734 : BitVec 1 := Scalar.cmpi .eq c32_i32_457 c0_i32_458
  let c1_i32_459 : BitVec 32 := 1#32
  let v735 : BitVec 32 := Scalar.select v734 c1_i32_459 c32_i32_457
  let v736 : BitVec 32 := Scalar.remsi v733 v735
  let c0_i32_461 : BitVec 32 := 0#32
  let v738 : BitVec 1 := Scalar.cmpi .slt v736 c0_i32_461
  let c0_i32_462 : BitVec 32 := 0#32
  let v739 : BitVec 1 := Scalar.cmpi .slt v735 c0_i32_462
  let v740 : BitVec 1 := Scalar.xori v738 v739
  let c0_i32_460 : BitVec 32 := 0#32
  let v737 : BitVec 1 := Scalar.cmpi .ne v736 c0_i32_460
  let v741 : BitVec 1 := Scalar.andi v740 v737
  let v742 : BitVec 32 := Scalar.addi v736 v735
  let v743 : BitVec 32 := Scalar.select v741 v742 v736
  let c16_i32_463 : BitVec 32 := 16#32
  let v744 : BitVec 32 := Scalar.muli v743 c16_i32_463
  let c0_i32_464 : BitVec 32 := 0#32
  let v745 : BitVec 1 := Scalar.cmpi .sge v744 c0_i32_464
  let c16_i32_465 : BitVec 32 := 16#32
  let v746 : BitVec 32 := Scalar.muli v743 c16_i32_465
  let c128_i32_466 : BitVec 32 := 128#32
  let v747 : BitVec 1 := Scalar.cmpi .slt v746 c128_i32_466
  let v748 : BitVec 1 := Scalar.andi v745 v747
  let v749 : BitVec 32 := Scalar.extui v748
  let c0_i32_467 : BitVec 32 := 0#32
  let v750 : BitVec 1 := Scalar.cmpi .ne v749 c0_i32_467
  v750

def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_456 : BitVec 32 := 10#32
  let v733 : BitVec 32 := Scalar.addi v2 c10_i32_456
  let c32_i32_457 : BitVec 32 := 32#32
  let c0_i32_458 : BitVec 32 := 0#32
  let v734 : BitVec 1 := Scalar.cmpi .eq c32_i32_457 c0_i32_458
  let c1_i32_459 : BitVec 32 := 1#32
  let v735 : BitVec 32 := Scalar.select v734 c1_i32_459 c32_i32_457
  let v736 : BitVec 32 := Scalar.remsi v733 v735
  let c0_i32_461 : BitVec 32 := 0#32
  let v738 : BitVec 1 := Scalar.cmpi .slt v736 c0_i32_461
  let c0_i32_462 : BitVec 32 := 0#32
  let v739 : BitVec 1 := Scalar.cmpi .slt v735 c0_i32_462
  let v740 : BitVec 1 := Scalar.xori v738 v739
  let c0_i32_460 : BitVec 32 := 0#32
  let v737 : BitVec 1 := Scalar.cmpi .ne v736 c0_i32_460
  let v741 : BitVec 1 := Scalar.andi v740 v737
  let v742 : BitVec 32 := Scalar.addi v736 v735
  let v743 : BitVec 32 := Scalar.select v741 v742 v736
  let c16_i32_2380 : BitVec 32 := 16#32
  let v3205 : BitVec 32 := Scalar.muli v743 c16_i32_2380
  let c0_i32_2388 : BitVec 32 := 0#32
  ![v3205.toNat, 0]
def k0_dev42 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_456 : BitVec 32 := 10#32
  let v733 : BitVec 32 := Scalar.addi v2 c10_i32_456
  let c32_i32_457 : BitVec 32 := 32#32
  let c0_i32_458 : BitVec 32 := 0#32
  let v734 : BitVec 1 := Scalar.cmpi .eq c32_i32_457 c0_i32_458
  let c1_i32_459 : BitVec 32 := 1#32
  let v735 : BitVec 32 := Scalar.select v734 c1_i32_459 c32_i32_457
  let v736 : BitVec 32 := Scalar.remsi v733 v735
  let c0_i32_461 : BitVec 32 := 0#32
  let v738 : BitVec 1 := Scalar.cmpi .slt v736 c0_i32_461
  let c0_i32_462 : BitVec 32 := 0#32
  let v739 : BitVec 1 := Scalar.cmpi .slt v735 c0_i32_462
  let v740 : BitVec 1 := Scalar.xori v738 v739
  let c0_i32_460 : BitVec 32 := 0#32
  let v737 : BitVec 1 := Scalar.cmpi .ne v736 c0_i32_460
  let v741 : BitVec 1 := Scalar.andi v740 v737
  let v742 : BitVec 32 := Scalar.addi v736 v735
  let v743 : BitVec 32 := Scalar.select v741 v742 v736
  let c1_i32_2384 : BitVec 32 := 1#32
  let v3206 : BitVec 32 := Scalar.muli v743 c1_i32_2384
  let v3207 : BitVec 32 := Scalar.addi c0_i32_2385 v3206
  v3207.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_468 : BitVec 32 := 11#32
  let v751 : BitVec 32 := Scalar.addi v2 c11_i32_468
  let c32_i32_469 : BitVec 32 := 32#32
  let c0_i32_470 : BitVec 32 := 0#32
  let v752 : BitVec 1 := Scalar.cmpi .eq c32_i32_469 c0_i32_470
  let c1_i32_471 : BitVec 32 := 1#32
  let v753 : BitVec 32 := Scalar.select v752 c1_i32_471 c32_i32_469
  let v754 : BitVec 32 := Scalar.remsi v751 v753
  let c0_i32_473 : BitVec 32 := 0#32
  let v756 : BitVec 1 := Scalar.cmpi .slt v754 c0_i32_473
  let c0_i32_474 : BitVec 32 := 0#32
  let v757 : BitVec 1 := Scalar.cmpi .slt v753 c0_i32_474
  let v758 : BitVec 1 := Scalar.xori v756 v757
  let c0_i32_472 : BitVec 32 := 0#32
  let v755 : BitVec 1 := Scalar.cmpi .ne v754 c0_i32_472
  let v759 : BitVec 1 := Scalar.andi v758 v755
  let v760 : BitVec 32 := Scalar.addi v754 v753
  let v761 : BitVec 32 := Scalar.select v759 v760 v754
  let c16_i32_475 : BitVec 32 := 16#32
  let v762 : BitVec 32 := Scalar.muli v761 c16_i32_475
  let c0_i32_476 : BitVec 32 := 0#32
  let v763 : BitVec 1 := Scalar.cmpi .sge v762 c0_i32_476
  let c16_i32_477 : BitVec 32 := 16#32
  let v764 : BitVec 32 := Scalar.muli v761 c16_i32_477
  let c128_i32_478 : BitVec 32 := 128#32
  let v765 : BitVec 1 := Scalar.cmpi .slt v764 c128_i32_478
  let v766 : BitVec 1 := Scalar.andi v763 v765
  let v767 : BitVec 32 := Scalar.extui v766
  let c0_i32_479 : BitVec 32 := 0#32
  let v768 : BitVec 1 := Scalar.cmpi .ne v767 c0_i32_479
  v768

def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_468 : BitVec 32 := 11#32
  let v751 : BitVec 32 := Scalar.addi v2 c11_i32_468
  let c32_i32_469 : BitVec 32 := 32#32
  let c0_i32_470 : BitVec 32 := 0#32
  let v752 : BitVec 1 := Scalar.cmpi .eq c32_i32_469 c0_i32_470
  let c1_i32_471 : BitVec 32 := 1#32
  let v753 : BitVec 32 := Scalar.select v752 c1_i32_471 c32_i32_469
  let v754 : BitVec 32 := Scalar.remsi v751 v753
  let c0_i32_473 : BitVec 32 := 0#32
  let v756 : BitVec 1 := Scalar.cmpi .slt v754 c0_i32_473
  let c0_i32_474 : BitVec 32 := 0#32
  let v757 : BitVec 1 := Scalar.cmpi .slt v753 c0_i32_474
  let v758 : BitVec 1 := Scalar.xori v756 v757
  let c0_i32_472 : BitVec 32 := 0#32
  let v755 : BitVec 1 := Scalar.cmpi .ne v754 c0_i32_472
  let v759 : BitVec 1 := Scalar.andi v758 v755
  let v760 : BitVec 32 := Scalar.addi v754 v753
  let v761 : BitVec 32 := Scalar.select v759 v760 v754
  let c16_i32_2380 : BitVec 32 := 16#32
  let v3205 : BitVec 32 := Scalar.muli v761 c16_i32_2380
  let c0_i32_2388 : BitVec 32 := 0#32
  ![v3205.toNat, 0]
def k0_dev43 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_468 : BitVec 32 := 11#32
  let v751 : BitVec 32 := Scalar.addi v2 c11_i32_468
  let c32_i32_469 : BitVec 32 := 32#32
  let c0_i32_470 : BitVec 32 := 0#32
  let v752 : BitVec 1 := Scalar.cmpi .eq c32_i32_469 c0_i32_470
  let c1_i32_471 : BitVec 32 := 1#32
  let v753 : BitVec 32 := Scalar.select v752 c1_i32_471 c32_i32_469
  let v754 : BitVec 32 := Scalar.remsi v751 v753
  let c0_i32_473 : BitVec 32 := 0#32
  let v756 : BitVec 1 := Scalar.cmpi .slt v754 c0_i32_473
  let c0_i32_474 : BitVec 32 := 0#32
  let v757 : BitVec 1 := Scalar.cmpi .slt v753 c0_i32_474
  let v758 : BitVec 1 := Scalar.xori v756 v757
  let c0_i32_472 : BitVec 32 := 0#32
  let v755 : BitVec 1 := Scalar.cmpi .ne v754 c0_i32_472
  let v759 : BitVec 1 := Scalar.andi v758 v755
  let v760 : BitVec 32 := Scalar.addi v754 v753
  let v761 : BitVec 32 := Scalar.select v759 v760 v754
  let c1_i32_2384 : BitVec 32 := 1#32
  let v3206 : BitVec 32 := Scalar.muli v761 c1_i32_2384
  let v3207 : BitVec 32 := Scalar.addi c0_i32_2385 v3206
  v3207.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_480 : BitVec 32 := 12#32
  let v769 : BitVec 32 := Scalar.addi v2 c12_i32_480
  let c32_i32_481 : BitVec 32 := 32#32
  let c0_i32_482 : BitVec 32 := 0#32
  let v770 : BitVec 1 := Scalar.cmpi .eq c32_i32_481 c0_i32_482
  let c1_i32_483 : BitVec 32 := 1#32
  let v771 : BitVec 32 := Scalar.select v770 c1_i32_483 c32_i32_481
  let v772 : BitVec 32 := Scalar.remsi v769 v771
  let c0_i32_485 : BitVec 32 := 0#32
  let v774 : BitVec 1 := Scalar.cmpi .slt v772 c0_i32_485
  let c0_i32_486 : BitVec 32 := 0#32
  let v775 : BitVec 1 := Scalar.cmpi .slt v771 c0_i32_486
  let v776 : BitVec 1 := Scalar.xori v774 v775
  let c0_i32_484 : BitVec 32 := 0#32
  let v773 : BitVec 1 := Scalar.cmpi .ne v772 c0_i32_484
  let v777 : BitVec 1 := Scalar.andi v776 v773
  let v778 : BitVec 32 := Scalar.addi v772 v771
  let v779 : BitVec 32 := Scalar.select v777 v778 v772
  let c16_i32_487 : BitVec 32 := 16#32
  let v780 : BitVec 32 := Scalar.muli v779 c16_i32_487
  let c0_i32_488 : BitVec 32 := 0#32
  let v781 : BitVec 1 := Scalar.cmpi .sge v780 c0_i32_488
  let c16_i32_489 : BitVec 32 := 16#32
  let v782 : BitVec 32 := Scalar.muli v779 c16_i32_489
  let c128_i32_490 : BitVec 32 := 128#32
  let v783 : BitVec 1 := Scalar.cmpi .slt v782 c128_i32_490
  let v784 : BitVec 1 := Scalar.andi v781 v783
  let v785 : BitVec 32 := Scalar.extui v784
  let c0_i32_491 : BitVec 32 := 0#32
  let v786 : BitVec 1 := Scalar.cmpi .ne v785 c0_i32_491
  v786

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_480 : BitVec 32 := 12#32
  let v769 : BitVec 32 := Scalar.addi v2 c12_i32_480
  let c32_i32_481 : BitVec 32 := 32#32
  let c0_i32_482 : BitVec 32 := 0#32
  let v770 : BitVec 1 := Scalar.cmpi .eq c32_i32_481 c0_i32_482
  let c1_i32_483 : BitVec 32 := 1#32
  let v771 : BitVec 32 := Scalar.select v770 c1_i32_483 c32_i32_481
  let v772 : BitVec 32 := Scalar.remsi v769 v771
  let c0_i32_485 : BitVec 32 := 0#32
  let v774 : BitVec 1 := Scalar.cmpi .slt v772 c0_i32_485
  let c0_i32_486 : BitVec 32 := 0#32
  let v775 : BitVec 1 := Scalar.cmpi .slt v771 c0_i32_486
  let v776 : BitVec 1 := Scalar.xori v774 v775
  let c0_i32_484 : BitVec 32 := 0#32
  let v773 : BitVec 1 := Scalar.cmpi .ne v772 c0_i32_484
  let v777 : BitVec 1 := Scalar.andi v776 v773
  let v778 : BitVec 32 := Scalar.addi v772 v771
  let v779 : BitVec 32 := Scalar.select v777 v778 v772
  let c16_i32_2380 : BitVec 32 := 16#32
  let v3205 : BitVec 32 := Scalar.muli v779 c16_i32_2380
  let c0_i32_2388 : BitVec 32 := 0#32
  ![v3205.toNat, 0]
def k0_dev44 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_480 : BitVec 32 := 12#32
  let v769 : BitVec 32 := Scalar.addi v2 c12_i32_480
  let c32_i32_481 : BitVec 32 := 32#32
  let c0_i32_482 : BitVec 32 := 0#32
  let v770 : BitVec 1 := Scalar.cmpi .eq c32_i32_481 c0_i32_482
  let c1_i32_483 : BitVec 32 := 1#32
  let v771 : BitVec 32 := Scalar.select v770 c1_i32_483 c32_i32_481
  let v772 : BitVec 32 := Scalar.remsi v769 v771
  let c0_i32_485 : BitVec 32 := 0#32
  let v774 : BitVec 1 := Scalar.cmpi .slt v772 c0_i32_485
  let c0_i32_486 : BitVec 32 := 0#32
  let v775 : BitVec 1 := Scalar.cmpi .slt v771 c0_i32_486
  let v776 : BitVec 1 := Scalar.xori v774 v775
  let c0_i32_484 : BitVec 32 := 0#32
  let v773 : BitVec 1 := Scalar.cmpi .ne v772 c0_i32_484
  let v777 : BitVec 1 := Scalar.andi v776 v773
  let v778 : BitVec 32 := Scalar.addi v772 v771
  let v779 : BitVec 32 := Scalar.select v777 v778 v772
  let c1_i32_2384 : BitVec 32 := 1#32
  let v3206 : BitVec 32 := Scalar.muli v779 c1_i32_2384
  let v3207 : BitVec 32 := Scalar.addi c0_i32_2385 v3206
  v3207.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_492 : BitVec 32 := 13#32
  let v787 : BitVec 32 := Scalar.addi v2 c13_i32_492
  let c32_i32_493 : BitVec 32 := 32#32
  let c0_i32_494 : BitVec 32 := 0#32
  let v788 : BitVec 1 := Scalar.cmpi .eq c32_i32_493 c0_i32_494
  let c1_i32_495 : BitVec 32 := 1#32
  let v789 : BitVec 32 := Scalar.select v788 c1_i32_495 c32_i32_493
  let v790 : BitVec 32 := Scalar.remsi v787 v789
  let c0_i32_497 : BitVec 32 := 0#32
  let v792 : BitVec 1 := Scalar.cmpi .slt v790 c0_i32_497
  let c0_i32_498 : BitVec 32 := 0#32
  let v793 : BitVec 1 := Scalar.cmpi .slt v789 c0_i32_498
  let v794 : BitVec 1 := Scalar.xori v792 v793
  let c0_i32_496 : BitVec 32 := 0#32
  let v791 : BitVec 1 := Scalar.cmpi .ne v790 c0_i32_496
  let v795 : BitVec 1 := Scalar.andi v794 v791
  let v796 : BitVec 32 := Scalar.addi v790 v789
  let v797 : BitVec 32 := Scalar.select v795 v796 v790
  let c16_i32_499 : BitVec 32 := 16#32
  let v798 : BitVec 32 := Scalar.muli v797 c16_i32_499
  let c0_i32_500 : BitVec 32 := 0#32
  let v799 : BitVec 1 := Scalar.cmpi .sge v798 c0_i32_500
  let c16_i32_501 : BitVec 32 := 16#32
  let v800 : BitVec 32 := Scalar.muli v797 c16_i32_501
  let c128_i32_502 : BitVec 32 := 128#32
  let v801 : BitVec 1 := Scalar.cmpi .slt v800 c128_i32_502
  let v802 : BitVec 1 := Scalar.andi v799 v801
  let v803 : BitVec 32 := Scalar.extui v802
  let c0_i32_503 : BitVec 32 := 0#32
  let v804 : BitVec 1 := Scalar.cmpi .ne v803 c0_i32_503
  v804

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_492 : BitVec 32 := 13#32
  let v787 : BitVec 32 := Scalar.addi v2 c13_i32_492
  let c32_i32_493 : BitVec 32 := 32#32
  let c0_i32_494 : BitVec 32 := 0#32
  let v788 : BitVec 1 := Scalar.cmpi .eq c32_i32_493 c0_i32_494
  let c1_i32_495 : BitVec 32 := 1#32
  let v789 : BitVec 32 := Scalar.select v788 c1_i32_495 c32_i32_493
  let v790 : BitVec 32 := Scalar.remsi v787 v789
  let c0_i32_497 : BitVec 32 := 0#32
  let v792 : BitVec 1 := Scalar.cmpi .slt v790 c0_i32_497
  let c0_i32_498 : BitVec 32 := 0#32
  let v793 : BitVec 1 := Scalar.cmpi .slt v789 c0_i32_498
  let v794 : BitVec 1 := Scalar.xori v792 v793
  let c0_i32_496 : BitVec 32 := 0#32
  let v791 : BitVec 1 := Scalar.cmpi .ne v790 c0_i32_496
  let v795 : BitVec 1 := Scalar.andi v794 v791
  let v796 : BitVec 32 := Scalar.addi v790 v789
  let v797 : BitVec 32 := Scalar.select v795 v796 v790
  let c16_i32_2380 : BitVec 32 := 16#32
  let v3205 : BitVec 32 := Scalar.muli v797 c16_i32_2380
  let c0_i32_2388 : BitVec 32 := 0#32
  ![v3205.toNat, 0]
def k0_dev45 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_492 : BitVec 32 := 13#32
  let v787 : BitVec 32 := Scalar.addi v2 c13_i32_492
  let c32_i32_493 : BitVec 32 := 32#32
  let c0_i32_494 : BitVec 32 := 0#32
  let v788 : BitVec 1 := Scalar.cmpi .eq c32_i32_493 c0_i32_494
  let c1_i32_495 : BitVec 32 := 1#32
  let v789 : BitVec 32 := Scalar.select v788 c1_i32_495 c32_i32_493
  let v790 : BitVec 32 := Scalar.remsi v787 v789
  let c0_i32_497 : BitVec 32 := 0#32
  let v792 : BitVec 1 := Scalar.cmpi .slt v790 c0_i32_497
  let c0_i32_498 : BitVec 32 := 0#32
  let v793 : BitVec 1 := Scalar.cmpi .slt v789 c0_i32_498
  let v794 : BitVec 1 := Scalar.xori v792 v793
  let c0_i32_496 : BitVec 32 := 0#32
  let v791 : BitVec 1 := Scalar.cmpi .ne v790 c0_i32_496
  let v795 : BitVec 1 := Scalar.andi v794 v791
  let v796 : BitVec 32 := Scalar.addi v790 v789
  let v797 : BitVec 32 := Scalar.select v795 v796 v790
  let c1_i32_2384 : BitVec 32 := 1#32
  let v3206 : BitVec 32 := Scalar.muli v797 c1_i32_2384
  let v3207 : BitVec 32 := Scalar.addi c0_i32_2385 v3206
  v3207.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_504 : BitVec 32 := 14#32
  let v805 : BitVec 32 := Scalar.addi v2 c14_i32_504
  let c32_i32_505 : BitVec 32 := 32#32
  let c0_i32_506 : BitVec 32 := 0#32
  let v806 : BitVec 1 := Scalar.cmpi .eq c32_i32_505 c0_i32_506
  let c1_i32_507 : BitVec 32 := 1#32
  let v807 : BitVec 32 := Scalar.select v806 c1_i32_507 c32_i32_505
  let v808 : BitVec 32 := Scalar.remsi v805 v807
  let c0_i32_509 : BitVec 32 := 0#32
  let v810 : BitVec 1 := Scalar.cmpi .slt v808 c0_i32_509
  let c0_i32_510 : BitVec 32 := 0#32
  let v811 : BitVec 1 := Scalar.cmpi .slt v807 c0_i32_510
  let v812 : BitVec 1 := Scalar.xori v810 v811
  let c0_i32_508 : BitVec 32 := 0#32
  let v809 : BitVec 1 := Scalar.cmpi .ne v808 c0_i32_508
  let v813 : BitVec 1 := Scalar.andi v812 v809
  let v814 : BitVec 32 := Scalar.addi v808 v807
  let v815 : BitVec 32 := Scalar.select v813 v814 v808
  let c16_i32_511 : BitVec 32 := 16#32
  let v816 : BitVec 32 := Scalar.muli v815 c16_i32_511
  let c0_i32_512 : BitVec 32 := 0#32
  let v817 : BitVec 1 := Scalar.cmpi .sge v816 c0_i32_512
  let c16_i32_513 : BitVec 32 := 16#32
  let v818 : BitVec 32 := Scalar.muli v815 c16_i32_513
  let c128_i32_514 : BitVec 32 := 128#32
  let v819 : BitVec 1 := Scalar.cmpi .slt v818 c128_i32_514
  let v820 : BitVec 1 := Scalar.andi v817 v819
  let v821 : BitVec 32 := Scalar.extui v820
  let c0_i32_515 : BitVec 32 := 0#32
  let v822 : BitVec 1 := Scalar.cmpi .ne v821 c0_i32_515
  v822

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_504 : BitVec 32 := 14#32
  let v805 : BitVec 32 := Scalar.addi v2 c14_i32_504
  let c32_i32_505 : BitVec 32 := 32#32
  let c0_i32_506 : BitVec 32 := 0#32
  let v806 : BitVec 1 := Scalar.cmpi .eq c32_i32_505 c0_i32_506
  let c1_i32_507 : BitVec 32 := 1#32
  let v807 : BitVec 32 := Scalar.select v806 c1_i32_507 c32_i32_505
  let v808 : BitVec 32 := Scalar.remsi v805 v807
  let c0_i32_509 : BitVec 32 := 0#32
  let v810 : BitVec 1 := Scalar.cmpi .slt v808 c0_i32_509
  let c0_i32_510 : BitVec 32 := 0#32
  let v811 : BitVec 1 := Scalar.cmpi .slt v807 c0_i32_510
  let v812 : BitVec 1 := Scalar.xori v810 v811
  let c0_i32_508 : BitVec 32 := 0#32
  let v809 : BitVec 1 := Scalar.cmpi .ne v808 c0_i32_508
  let v813 : BitVec 1 := Scalar.andi v812 v809
  let v814 : BitVec 32 := Scalar.addi v808 v807
  let v815 : BitVec 32 := Scalar.select v813 v814 v808
  let c16_i32_2380 : BitVec 32 := 16#32
  let v3205 : BitVec 32 := Scalar.muli v815 c16_i32_2380
  let c0_i32_2388 : BitVec 32 := 0#32
  ![v3205.toNat, 0]
def k0_dev46 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_504 : BitVec 32 := 14#32
  let v805 : BitVec 32 := Scalar.addi v2 c14_i32_504
  let c32_i32_505 : BitVec 32 := 32#32
  let c0_i32_506 : BitVec 32 := 0#32
  let v806 : BitVec 1 := Scalar.cmpi .eq c32_i32_505 c0_i32_506
  let c1_i32_507 : BitVec 32 := 1#32
  let v807 : BitVec 32 := Scalar.select v806 c1_i32_507 c32_i32_505
  let v808 : BitVec 32 := Scalar.remsi v805 v807
  let c0_i32_509 : BitVec 32 := 0#32
  let v810 : BitVec 1 := Scalar.cmpi .slt v808 c0_i32_509
  let c0_i32_510 : BitVec 32 := 0#32
  let v811 : BitVec 1 := Scalar.cmpi .slt v807 c0_i32_510
  let v812 : BitVec 1 := Scalar.xori v810 v811
  let c0_i32_508 : BitVec 32 := 0#32
  let v809 : BitVec 1 := Scalar.cmpi .ne v808 c0_i32_508
  let v813 : BitVec 1 := Scalar.andi v812 v809
  let v814 : BitVec 32 := Scalar.addi v808 v807
  let v815 : BitVec 32 := Scalar.select v813 v814 v808
  let c1_i32_2384 : BitVec 32 := 1#32
  let v3206 : BitVec 32 := Scalar.muli v815 c1_i32_2384
  let v3207 : BitVec 32 := Scalar.addi c0_i32_2385 v3206
  v3207.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_516 : BitVec 32 := 15#32
  let v823 : BitVec 32 := Scalar.addi v2 c15_i32_516
  let c32_i32_517 : BitVec 32 := 32#32
  let c0_i32_518 : BitVec 32 := 0#32
  let v824 : BitVec 1 := Scalar.cmpi .eq c32_i32_517 c0_i32_518
  let c1_i32_519 : BitVec 32 := 1#32
  let v825 : BitVec 32 := Scalar.select v824 c1_i32_519 c32_i32_517
  let v826 : BitVec 32 := Scalar.remsi v823 v825
  let c0_i32_521 : BitVec 32 := 0#32
  let v828 : BitVec 1 := Scalar.cmpi .slt v826 c0_i32_521
  let c0_i32_522 : BitVec 32 := 0#32
  let v829 : BitVec 1 := Scalar.cmpi .slt v825 c0_i32_522
  let v830 : BitVec 1 := Scalar.xori v828 v829
  let c0_i32_520 : BitVec 32 := 0#32
  let v827 : BitVec 1 := Scalar.cmpi .ne v826 c0_i32_520
  let v831 : BitVec 1 := Scalar.andi v830 v827
  let v832 : BitVec 32 := Scalar.addi v826 v825
  let v833 : BitVec 32 := Scalar.select v831 v832 v826
  let c16_i32_523 : BitVec 32 := 16#32
  let v834 : BitVec 32 := Scalar.muli v833 c16_i32_523
  let c0_i32_524 : BitVec 32 := 0#32
  let v835 : BitVec 1 := Scalar.cmpi .sge v834 c0_i32_524
  let c16_i32_525 : BitVec 32 := 16#32
  let v836 : BitVec 32 := Scalar.muli v833 c16_i32_525
  let c128_i32_526 : BitVec 32 := 128#32
  let v837 : BitVec 1 := Scalar.cmpi .slt v836 c128_i32_526
  let v838 : BitVec 1 := Scalar.andi v835 v837
  let v839 : BitVec 32 := Scalar.extui v838
  let c0_i32_527 : BitVec 32 := 0#32
  let v840 : BitVec 1 := Scalar.cmpi .ne v839 c0_i32_527
  v840

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_516 : BitVec 32 := 15#32
  let v823 : BitVec 32 := Scalar.addi v2 c15_i32_516
  let c32_i32_517 : BitVec 32 := 32#32
  let c0_i32_518 : BitVec 32 := 0#32
  let v824 : BitVec 1 := Scalar.cmpi .eq c32_i32_517 c0_i32_518
  let c1_i32_519 : BitVec 32 := 1#32
  let v825 : BitVec 32 := Scalar.select v824 c1_i32_519 c32_i32_517
  let v826 : BitVec 32 := Scalar.remsi v823 v825
  let c0_i32_521 : BitVec 32 := 0#32
  let v828 : BitVec 1 := Scalar.cmpi .slt v826 c0_i32_521
  let c0_i32_522 : BitVec 32 := 0#32
  let v829 : BitVec 1 := Scalar.cmpi .slt v825 c0_i32_522
  let v830 : BitVec 1 := Scalar.xori v828 v829
  let c0_i32_520 : BitVec 32 := 0#32
  let v827 : BitVec 1 := Scalar.cmpi .ne v826 c0_i32_520
  let v831 : BitVec 1 := Scalar.andi v830 v827
  let v832 : BitVec 32 := Scalar.addi v826 v825
  let v833 : BitVec 32 := Scalar.select v831 v832 v826
  let c16_i32_2380 : BitVec 32 := 16#32
  let v3205 : BitVec 32 := Scalar.muli v833 c16_i32_2380
  let c0_i32_2388 : BitVec 32 := 0#32
  ![v3205.toNat, 0]
def k0_dev47 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_516 : BitVec 32 := 15#32
  let v823 : BitVec 32 := Scalar.addi v2 c15_i32_516
  let c32_i32_517 : BitVec 32 := 32#32
  let c0_i32_518 : BitVec 32 := 0#32
  let v824 : BitVec 1 := Scalar.cmpi .eq c32_i32_517 c0_i32_518
  let c1_i32_519 : BitVec 32 := 1#32
  let v825 : BitVec 32 := Scalar.select v824 c1_i32_519 c32_i32_517
  let v826 : BitVec 32 := Scalar.remsi v823 v825
  let c0_i32_521 : BitVec 32 := 0#32
  let v828 : BitVec 1 := Scalar.cmpi .slt v826 c0_i32_521
  let c0_i32_522 : BitVec 32 := 0#32
  let v829 : BitVec 1 := Scalar.cmpi .slt v825 c0_i32_522
  let v830 : BitVec 1 := Scalar.xori v828 v829
  let c0_i32_520 : BitVec 32 := 0#32
  let v827 : BitVec 1 := Scalar.cmpi .ne v826 c0_i32_520
  let v831 : BitVec 1 := Scalar.andi v830 v827
  let v832 : BitVec 32 := Scalar.addi v826 v825
  let v833 : BitVec 32 := Scalar.select v831 v832 v826
  let c1_i32_2384 : BitVec 32 := 1#32
  let v3206 : BitVec 32 := Scalar.muli v833 c1_i32_2384
  let v3207 : BitVec 32 := Scalar.addi c0_i32_2385 v3206
  v3207.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_528 : BitVec 32 := 16#32
  let v841 : BitVec 32 := Scalar.addi v2 c16_i32_528
  let c32_i32_529 : BitVec 32 := 32#32
  let c0_i32_530 : BitVec 32 := 0#32
  let v842 : BitVec 1 := Scalar.cmpi .eq c32_i32_529 c0_i32_530
  let c1_i32_531 : BitVec 32 := 1#32
  let v843 : BitVec 32 := Scalar.select v842 c1_i32_531 c32_i32_529
  let v844 : BitVec 32 := Scalar.remsi v841 v843
  let c0_i32_533 : BitVec 32 := 0#32
  let v846 : BitVec 1 := Scalar.cmpi .slt v844 c0_i32_533
  let c0_i32_534 : BitVec 32 := 0#32
  let v847 : BitVec 1 := Scalar.cmpi .slt v843 c0_i32_534
  let v848 : BitVec 1 := Scalar.xori v846 v847
  let c0_i32_532 : BitVec 32 := 0#32
  let v845 : BitVec 1 := Scalar.cmpi .ne v844 c0_i32_532
  let v849 : BitVec 1 := Scalar.andi v848 v845
  let v850 : BitVec 32 := Scalar.addi v844 v843
  let v851 : BitVec 32 := Scalar.select v849 v850 v844
  let c16_i32_535 : BitVec 32 := 16#32
  let v852 : BitVec 32 := Scalar.muli v851 c16_i32_535
  let c0_i32_536 : BitVec 32 := 0#32
  let v853 : BitVec 1 := Scalar.cmpi .sge v852 c0_i32_536
  let c16_i32_537 : BitVec 32 := 16#32
  let v854 : BitVec 32 := Scalar.muli v851 c16_i32_537
  let c128_i32_538 : BitVec 32 := 128#32
  let v855 : BitVec 1 := Scalar.cmpi .slt v854 c128_i32_538
  let v856 : BitVec 1 := Scalar.andi v853 v855
  let v857 : BitVec 32 := Scalar.extui v856
  let c0_i32_539 : BitVec 32 := 0#32
  let v858 : BitVec 1 := Scalar.cmpi .ne v857 c0_i32_539
  v858

def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_528 : BitVec 32 := 16#32
  let v841 : BitVec 32 := Scalar.addi v2 c16_i32_528
  let c32_i32_529 : BitVec 32 := 32#32
  let c0_i32_530 : BitVec 32 := 0#32
  let v842 : BitVec 1 := Scalar.cmpi .eq c32_i32_529 c0_i32_530
  let c1_i32_531 : BitVec 32 := 1#32
  let v843 : BitVec 32 := Scalar.select v842 c1_i32_531 c32_i32_529
  let v844 : BitVec 32 := Scalar.remsi v841 v843
  let c0_i32_533 : BitVec 32 := 0#32
  let v846 : BitVec 1 := Scalar.cmpi .slt v844 c0_i32_533
  let c0_i32_534 : BitVec 32 := 0#32
  let v847 : BitVec 1 := Scalar.cmpi .slt v843 c0_i32_534
  let v848 : BitVec 1 := Scalar.xori v846 v847
  let c0_i32_532 : BitVec 32 := 0#32
  let v845 : BitVec 1 := Scalar.cmpi .ne v844 c0_i32_532
  let v849 : BitVec 1 := Scalar.andi v848 v845
  let v850 : BitVec 32 := Scalar.addi v844 v843
  let v851 : BitVec 32 := Scalar.select v849 v850 v844
  let c16_i32_2380 : BitVec 32 := 16#32
  let v3205 : BitVec 32 := Scalar.muli v851 c16_i32_2380
  let c0_i32_2388 : BitVec 32 := 0#32
  ![v3205.toNat, 0]
def k0_dev48 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_528 : BitVec 32 := 16#32
  let v841 : BitVec 32 := Scalar.addi v2 c16_i32_528
  let c32_i32_529 : BitVec 32 := 32#32
  let c0_i32_530 : BitVec 32 := 0#32
  let v842 : BitVec 1 := Scalar.cmpi .eq c32_i32_529 c0_i32_530
  let c1_i32_531 : BitVec 32 := 1#32
  let v843 : BitVec 32 := Scalar.select v842 c1_i32_531 c32_i32_529
  let v844 : BitVec 32 := Scalar.remsi v841 v843
  let c0_i32_533 : BitVec 32 := 0#32
  let v846 : BitVec 1 := Scalar.cmpi .slt v844 c0_i32_533
  let c0_i32_534 : BitVec 32 := 0#32
  let v847 : BitVec 1 := Scalar.cmpi .slt v843 c0_i32_534
  let v848 : BitVec 1 := Scalar.xori v846 v847
  let c0_i32_532 : BitVec 32 := 0#32
  let v845 : BitVec 1 := Scalar.cmpi .ne v844 c0_i32_532
  let v849 : BitVec 1 := Scalar.andi v848 v845
  let v850 : BitVec 32 := Scalar.addi v844 v843
  let v851 : BitVec 32 := Scalar.select v849 v850 v844
  let c1_i32_2384 : BitVec 32 := 1#32
  let v3206 : BitVec 32 := Scalar.muli v851 c1_i32_2384
  let v3207 : BitVec 32 := Scalar.addi c0_i32_2385 v3206
  v3207.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_540 : BitVec 32 := 17#32
  let v859 : BitVec 32 := Scalar.addi v2 c17_i32_540
  let c32_i32_541 : BitVec 32 := 32#32
  let c0_i32_542 : BitVec 32 := 0#32
  let v860 : BitVec 1 := Scalar.cmpi .eq c32_i32_541 c0_i32_542
  let c1_i32_543 : BitVec 32 := 1#32
  let v861 : BitVec 32 := Scalar.select v860 c1_i32_543 c32_i32_541
  let v862 : BitVec 32 := Scalar.remsi v859 v861
  let c0_i32_545 : BitVec 32 := 0#32
  let v864 : BitVec 1 := Scalar.cmpi .slt v862 c0_i32_545
  let c0_i32_546 : BitVec 32 := 0#32
  let v865 : BitVec 1 := Scalar.cmpi .slt v861 c0_i32_546
  let v866 : BitVec 1 := Scalar.xori v864 v865
  let c0_i32_544 : BitVec 32 := 0#32
  let v863 : BitVec 1 := Scalar.cmpi .ne v862 c0_i32_544
  let v867 : BitVec 1 := Scalar.andi v866 v863
  let v868 : BitVec 32 := Scalar.addi v862 v861
  let v869 : BitVec 32 := Scalar.select v867 v868 v862
  let c16_i32_547 : BitVec 32 := 16#32
  let v870 : BitVec 32 := Scalar.muli v869 c16_i32_547
  let c0_i32_548 : BitVec 32 := 0#32
  let v871 : BitVec 1 := Scalar.cmpi .sge v870 c0_i32_548
  let c16_i32_549 : BitVec 32 := 16#32
  let v872 : BitVec 32 := Scalar.muli v869 c16_i32_549
  let c128_i32_550 : BitVec 32 := 128#32
  let v873 : BitVec 1 := Scalar.cmpi .slt v872 c128_i32_550
  let v874 : BitVec 1 := Scalar.andi v871 v873
  let v875 : BitVec 32 := Scalar.extui v874
  let c0_i32_551 : BitVec 32 := 0#32
  let v876 : BitVec 1 := Scalar.cmpi .ne v875 c0_i32_551
  v876

def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_540 : BitVec 32 := 17#32
  let v859 : BitVec 32 := Scalar.addi v2 c17_i32_540
  let c32_i32_541 : BitVec 32 := 32#32
  let c0_i32_542 : BitVec 32 := 0#32
  let v860 : BitVec 1 := Scalar.cmpi .eq c32_i32_541 c0_i32_542
  let c1_i32_543 : BitVec 32 := 1#32
  let v861 : BitVec 32 := Scalar.select v860 c1_i32_543 c32_i32_541
  let v862 : BitVec 32 := Scalar.remsi v859 v861
  let c0_i32_545 : BitVec 32 := 0#32
  let v864 : BitVec 1 := Scalar.cmpi .slt v862 c0_i32_545
  let c0_i32_546 : BitVec 32 := 0#32
  let v865 : BitVec 1 := Scalar.cmpi .slt v861 c0_i32_546
  let v866 : BitVec 1 := Scalar.xori v864 v865
  let c0_i32_544 : BitVec 32 := 0#32
  let v863 : BitVec 1 := Scalar.cmpi .ne v862 c0_i32_544
  let v867 : BitVec 1 := Scalar.andi v866 v863
  let v868 : BitVec 32 := Scalar.addi v862 v861
  let v869 : BitVec 32 := Scalar.select v867 v868 v862
  let c16_i32_2380 : BitVec 32 := 16#32
  let v3205 : BitVec 32 := Scalar.muli v869 c16_i32_2380
  let c0_i32_2388 : BitVec 32 := 0#32
  ![v3205.toNat, 0]
def k0_dev49 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_540 : BitVec 32 := 17#32
  let v859 : BitVec 32 := Scalar.addi v2 c17_i32_540
  let c32_i32_541 : BitVec 32 := 32#32
  let c0_i32_542 : BitVec 32 := 0#32
  let v860 : BitVec 1 := Scalar.cmpi .eq c32_i32_541 c0_i32_542
  let c1_i32_543 : BitVec 32 := 1#32
  let v861 : BitVec 32 := Scalar.select v860 c1_i32_543 c32_i32_541
  let v862 : BitVec 32 := Scalar.remsi v859 v861
  let c0_i32_545 : BitVec 32 := 0#32
  let v864 : BitVec 1 := Scalar.cmpi .slt v862 c0_i32_545
  let c0_i32_546 : BitVec 32 := 0#32
  let v865 : BitVec 1 := Scalar.cmpi .slt v861 c0_i32_546
  let v866 : BitVec 1 := Scalar.xori v864 v865
  let c0_i32_544 : BitVec 32 := 0#32
  let v863 : BitVec 1 := Scalar.cmpi .ne v862 c0_i32_544
  let v867 : BitVec 1 := Scalar.andi v866 v863
  let v868 : BitVec 32 := Scalar.addi v862 v861
  let v869 : BitVec 32 := Scalar.select v867 v868 v862
  let c1_i32_2384 : BitVec 32 := 1#32
  let v3206 : BitVec 32 := Scalar.muli v869 c1_i32_2384
  let v3207 : BitVec 32 := Scalar.addi c0_i32_2385 v3206
  v3207.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_552 : BitVec 32 := 18#32
  let v877 : BitVec 32 := Scalar.addi v2 c18_i32_552
  let c32_i32_553 : BitVec 32 := 32#32
  let c0_i32_554 : BitVec 32 := 0#32
  let v878 : BitVec 1 := Scalar.cmpi .eq c32_i32_553 c0_i32_554
  let c1_i32_555 : BitVec 32 := 1#32
  let v879 : BitVec 32 := Scalar.select v878 c1_i32_555 c32_i32_553
  let v880 : BitVec 32 := Scalar.remsi v877 v879
  let c0_i32_557 : BitVec 32 := 0#32
  let v882 : BitVec 1 := Scalar.cmpi .slt v880 c0_i32_557
  let c0_i32_558 : BitVec 32 := 0#32
  let v883 : BitVec 1 := Scalar.cmpi .slt v879 c0_i32_558
  let v884 : BitVec 1 := Scalar.xori v882 v883
  let c0_i32_556 : BitVec 32 := 0#32
  let v881 : BitVec 1 := Scalar.cmpi .ne v880 c0_i32_556
  let v885 : BitVec 1 := Scalar.andi v884 v881
  let v886 : BitVec 32 := Scalar.addi v880 v879
  let v887 : BitVec 32 := Scalar.select v885 v886 v880
  let c16_i32_559 : BitVec 32 := 16#32
  let v888 : BitVec 32 := Scalar.muli v887 c16_i32_559
  let c0_i32_560 : BitVec 32 := 0#32
  let v889 : BitVec 1 := Scalar.cmpi .sge v888 c0_i32_560
  let c16_i32_561 : BitVec 32 := 16#32
  let v890 : BitVec 32 := Scalar.muli v887 c16_i32_561
  let c128_i32_562 : BitVec 32 := 128#32
  let v891 : BitVec 1 := Scalar.cmpi .slt v890 c128_i32_562
  let v892 : BitVec 1 := Scalar.andi v889 v891
  let v893 : BitVec 32 := Scalar.extui v892
  let c0_i32_563 : BitVec 32 := 0#32
  let v894 : BitVec 1 := Scalar.cmpi .ne v893 c0_i32_563
  v894

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_552 : BitVec 32 := 18#32
  let v877 : BitVec 32 := Scalar.addi v2 c18_i32_552
  let c32_i32_553 : BitVec 32 := 32#32
  let c0_i32_554 : BitVec 32 := 0#32
  let v878 : BitVec 1 := Scalar.cmpi .eq c32_i32_553 c0_i32_554
  let c1_i32_555 : BitVec 32 := 1#32
  let v879 : BitVec 32 := Scalar.select v878 c1_i32_555 c32_i32_553
  let v880 : BitVec 32 := Scalar.remsi v877 v879
  let c0_i32_557 : BitVec 32 := 0#32
  let v882 : BitVec 1 := Scalar.cmpi .slt v880 c0_i32_557
  let c0_i32_558 : BitVec 32 := 0#32
  let v883 : BitVec 1 := Scalar.cmpi .slt v879 c0_i32_558
  let v884 : BitVec 1 := Scalar.xori v882 v883
  let c0_i32_556 : BitVec 32 := 0#32
  let v881 : BitVec 1 := Scalar.cmpi .ne v880 c0_i32_556
  let v885 : BitVec 1 := Scalar.andi v884 v881
  let v886 : BitVec 32 := Scalar.addi v880 v879
  let v887 : BitVec 32 := Scalar.select v885 v886 v880
  let c16_i32_2380 : BitVec 32 := 16#32
  let v3205 : BitVec 32 := Scalar.muli v887 c16_i32_2380
  let c0_i32_2388 : BitVec 32 := 0#32
  ![v3205.toNat, 0]
def k0_dev50 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_552 : BitVec 32 := 18#32
  let v877 : BitVec 32 := Scalar.addi v2 c18_i32_552
  let c32_i32_553 : BitVec 32 := 32#32
  let c0_i32_554 : BitVec 32 := 0#32
  let v878 : BitVec 1 := Scalar.cmpi .eq c32_i32_553 c0_i32_554
  let c1_i32_555 : BitVec 32 := 1#32
  let v879 : BitVec 32 := Scalar.select v878 c1_i32_555 c32_i32_553
  let v880 : BitVec 32 := Scalar.remsi v877 v879
  let c0_i32_557 : BitVec 32 := 0#32
  let v882 : BitVec 1 := Scalar.cmpi .slt v880 c0_i32_557
  let c0_i32_558 : BitVec 32 := 0#32
  let v883 : BitVec 1 := Scalar.cmpi .slt v879 c0_i32_558
  let v884 : BitVec 1 := Scalar.xori v882 v883
  let c0_i32_556 : BitVec 32 := 0#32
  let v881 : BitVec 1 := Scalar.cmpi .ne v880 c0_i32_556
  let v885 : BitVec 1 := Scalar.andi v884 v881
  let v886 : BitVec 32 := Scalar.addi v880 v879
  let v887 : BitVec 32 := Scalar.select v885 v886 v880
  let c1_i32_2384 : BitVec 32 := 1#32
  let v3206 : BitVec 32 := Scalar.muli v887 c1_i32_2384
  let v3207 : BitVec 32 := Scalar.addi c0_i32_2385 v3206
  v3207.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_564 : BitVec 32 := 19#32
  let v895 : BitVec 32 := Scalar.addi v2 c19_i32_564
  let c32_i32_565 : BitVec 32 := 32#32
  let c0_i32_566 : BitVec 32 := 0#32
  let v896 : BitVec 1 := Scalar.cmpi .eq c32_i32_565 c0_i32_566
  let c1_i32_567 : BitVec 32 := 1#32
  let v897 : BitVec 32 := Scalar.select v896 c1_i32_567 c32_i32_565
  let v898 : BitVec 32 := Scalar.remsi v895 v897
  let c0_i32_569 : BitVec 32 := 0#32
  let v900 : BitVec 1 := Scalar.cmpi .slt v898 c0_i32_569
  let c0_i32_570 : BitVec 32 := 0#32
  let v901 : BitVec 1 := Scalar.cmpi .slt v897 c0_i32_570
  let v902 : BitVec 1 := Scalar.xori v900 v901
  let c0_i32_568 : BitVec 32 := 0#32
  let v899 : BitVec 1 := Scalar.cmpi .ne v898 c0_i32_568
  let v903 : BitVec 1 := Scalar.andi v902 v899
  let v904 : BitVec 32 := Scalar.addi v898 v897
  let v905 : BitVec 32 := Scalar.select v903 v904 v898
  let c16_i32_571 : BitVec 32 := 16#32
  let v906 : BitVec 32 := Scalar.muli v905 c16_i32_571
  let c0_i32_572 : BitVec 32 := 0#32
  let v907 : BitVec 1 := Scalar.cmpi .sge v906 c0_i32_572
  let c16_i32_573 : BitVec 32 := 16#32
  let v908 : BitVec 32 := Scalar.muli v905 c16_i32_573
  let c128_i32_574 : BitVec 32 := 128#32
  let v909 : BitVec 1 := Scalar.cmpi .slt v908 c128_i32_574
  let v910 : BitVec 1 := Scalar.andi v907 v909
  let v911 : BitVec 32 := Scalar.extui v910
  let c0_i32_575 : BitVec 32 := 0#32
  let v912 : BitVec 1 := Scalar.cmpi .ne v911 c0_i32_575
  v912

def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_564 : BitVec 32 := 19#32
  let v895 : BitVec 32 := Scalar.addi v2 c19_i32_564
  let c32_i32_565 : BitVec 32 := 32#32
  let c0_i32_566 : BitVec 32 := 0#32
  let v896 : BitVec 1 := Scalar.cmpi .eq c32_i32_565 c0_i32_566
  let c1_i32_567 : BitVec 32 := 1#32
  let v897 : BitVec 32 := Scalar.select v896 c1_i32_567 c32_i32_565
  let v898 : BitVec 32 := Scalar.remsi v895 v897
  let c0_i32_569 : BitVec 32 := 0#32
  let v900 : BitVec 1 := Scalar.cmpi .slt v898 c0_i32_569
  let c0_i32_570 : BitVec 32 := 0#32
  let v901 : BitVec 1 := Scalar.cmpi .slt v897 c0_i32_570
  let v902 : BitVec 1 := Scalar.xori v900 v901
  let c0_i32_568 : BitVec 32 := 0#32
  let v899 : BitVec 1 := Scalar.cmpi .ne v898 c0_i32_568
  let v903 : BitVec 1 := Scalar.andi v902 v899
  let v904 : BitVec 32 := Scalar.addi v898 v897
  let v905 : BitVec 32 := Scalar.select v903 v904 v898
  let c16_i32_2380 : BitVec 32 := 16#32
  let v3205 : BitVec 32 := Scalar.muli v905 c16_i32_2380
  let c0_i32_2388 : BitVec 32 := 0#32
  ![v3205.toNat, 0]
def k0_dev51 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_564 : BitVec 32 := 19#32
  let v895 : BitVec 32 := Scalar.addi v2 c19_i32_564
  let c32_i32_565 : BitVec 32 := 32#32
  let c0_i32_566 : BitVec 32 := 0#32
  let v896 : BitVec 1 := Scalar.cmpi .eq c32_i32_565 c0_i32_566
  let c1_i32_567 : BitVec 32 := 1#32
  let v897 : BitVec 32 := Scalar.select v896 c1_i32_567 c32_i32_565
  let v898 : BitVec 32 := Scalar.remsi v895 v897
  let c0_i32_569 : BitVec 32 := 0#32
  let v900 : BitVec 1 := Scalar.cmpi .slt v898 c0_i32_569
  let c0_i32_570 : BitVec 32 := 0#32
  let v901 : BitVec 1 := Scalar.cmpi .slt v897 c0_i32_570
  let v902 : BitVec 1 := Scalar.xori v900 v901
  let c0_i32_568 : BitVec 32 := 0#32
  let v899 : BitVec 1 := Scalar.cmpi .ne v898 c0_i32_568
  let v903 : BitVec 1 := Scalar.andi v902 v899
  let v904 : BitVec 32 := Scalar.addi v898 v897
  let v905 : BitVec 32 := Scalar.select v903 v904 v898
  let c1_i32_2384 : BitVec 32 := 1#32
  let v3206 : BitVec 32 := Scalar.muli v905 c1_i32_2384
  let v3207 : BitVec 32 := Scalar.addi c0_i32_2385 v3206
  v3207.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_576 : BitVec 32 := 20#32
  let v913 : BitVec 32 := Scalar.addi v2 c20_i32_576
  let c32_i32_577 : BitVec 32 := 32#32
  let c0_i32_578 : BitVec 32 := 0#32
  let v914 : BitVec 1 := Scalar.cmpi .eq c32_i32_577 c0_i32_578
  let c1_i32_579 : BitVec 32 := 1#32
  let v915 : BitVec 32 := Scalar.select v914 c1_i32_579 c32_i32_577
  let v916 : BitVec 32 := Scalar.remsi v913 v915
  let c0_i32_581 : BitVec 32 := 0#32
  let v918 : BitVec 1 := Scalar.cmpi .slt v916 c0_i32_581
  let c0_i32_582 : BitVec 32 := 0#32
  let v919 : BitVec 1 := Scalar.cmpi .slt v915 c0_i32_582
  let v920 : BitVec 1 := Scalar.xori v918 v919
  let c0_i32_580 : BitVec 32 := 0#32
  let v917 : BitVec 1 := Scalar.cmpi .ne v916 c0_i32_580
  let v921 : BitVec 1 := Scalar.andi v920 v917
  let v922 : BitVec 32 := Scalar.addi v916 v915
  let v923 : BitVec 32 := Scalar.select v921 v922 v916
  let c16_i32_583 : BitVec 32 := 16#32
  let v924 : BitVec 32 := Scalar.muli v923 c16_i32_583
  let c0_i32_584 : BitVec 32 := 0#32
  let v925 : BitVec 1 := Scalar.cmpi .sge v924 c0_i32_584
  let c16_i32_585 : BitVec 32 := 16#32
  let v926 : BitVec 32 := Scalar.muli v923 c16_i32_585
  let c128_i32_586 : BitVec 32 := 128#32
  let v927 : BitVec 1 := Scalar.cmpi .slt v926 c128_i32_586
  let v928 : BitVec 1 := Scalar.andi v925 v927
  let v929 : BitVec 32 := Scalar.extui v928
  let c0_i32_587 : BitVec 32 := 0#32
  let v930 : BitVec 1 := Scalar.cmpi .ne v929 c0_i32_587
  v930

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_576 : BitVec 32 := 20#32
  let v913 : BitVec 32 := Scalar.addi v2 c20_i32_576
  let c32_i32_577 : BitVec 32 := 32#32
  let c0_i32_578 : BitVec 32 := 0#32
  let v914 : BitVec 1 := Scalar.cmpi .eq c32_i32_577 c0_i32_578
  let c1_i32_579 : BitVec 32 := 1#32
  let v915 : BitVec 32 := Scalar.select v914 c1_i32_579 c32_i32_577
  let v916 : BitVec 32 := Scalar.remsi v913 v915
  let c0_i32_581 : BitVec 32 := 0#32
  let v918 : BitVec 1 := Scalar.cmpi .slt v916 c0_i32_581
  let c0_i32_582 : BitVec 32 := 0#32
  let v919 : BitVec 1 := Scalar.cmpi .slt v915 c0_i32_582
  let v920 : BitVec 1 := Scalar.xori v918 v919
  let c0_i32_580 : BitVec 32 := 0#32
  let v917 : BitVec 1 := Scalar.cmpi .ne v916 c0_i32_580
  let v921 : BitVec 1 := Scalar.andi v920 v917
  let v922 : BitVec 32 := Scalar.addi v916 v915
  let v923 : BitVec 32 := Scalar.select v921 v922 v916
  let c16_i32_2380 : BitVec 32 := 16#32
  let v3205 : BitVec 32 := Scalar.muli v923 c16_i32_2380
  let c0_i32_2388 : BitVec 32 := 0#32
  ![v3205.toNat, 0]
def k0_dev52 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_576 : BitVec 32 := 20#32
  let v913 : BitVec 32 := Scalar.addi v2 c20_i32_576
  let c32_i32_577 : BitVec 32 := 32#32
  let c0_i32_578 : BitVec 32 := 0#32
  let v914 : BitVec 1 := Scalar.cmpi .eq c32_i32_577 c0_i32_578
  let c1_i32_579 : BitVec 32 := 1#32
  let v915 : BitVec 32 := Scalar.select v914 c1_i32_579 c32_i32_577
  let v916 : BitVec 32 := Scalar.remsi v913 v915
  let c0_i32_581 : BitVec 32 := 0#32
  let v918 : BitVec 1 := Scalar.cmpi .slt v916 c0_i32_581
  let c0_i32_582 : BitVec 32 := 0#32
  let v919 : BitVec 1 := Scalar.cmpi .slt v915 c0_i32_582
  let v920 : BitVec 1 := Scalar.xori v918 v919
  let c0_i32_580 : BitVec 32 := 0#32
  let v917 : BitVec 1 := Scalar.cmpi .ne v916 c0_i32_580
  let v921 : BitVec 1 := Scalar.andi v920 v917
  let v922 : BitVec 32 := Scalar.addi v916 v915
  let v923 : BitVec 32 := Scalar.select v921 v922 v916
  let c1_i32_2384 : BitVec 32 := 1#32
  let v3206 : BitVec 32 := Scalar.muli v923 c1_i32_2384
  let v3207 : BitVec 32 := Scalar.addi c0_i32_2385 v3206
  v3207.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_588 : BitVec 32 := 21#32
  let v931 : BitVec 32 := Scalar.addi v2 c21_i32_588
  let c32_i32_589 : BitVec 32 := 32#32
  let c0_i32_590 : BitVec 32 := 0#32
  let v932 : BitVec 1 := Scalar.cmpi .eq c32_i32_589 c0_i32_590
  let c1_i32_591 : BitVec 32 := 1#32
  let v933 : BitVec 32 := Scalar.select v932 c1_i32_591 c32_i32_589
  let v934 : BitVec 32 := Scalar.remsi v931 v933
  let c0_i32_593 : BitVec 32 := 0#32
  let v936 : BitVec 1 := Scalar.cmpi .slt v934 c0_i32_593
  let c0_i32_594 : BitVec 32 := 0#32
  let v937 : BitVec 1 := Scalar.cmpi .slt v933 c0_i32_594
  let v938 : BitVec 1 := Scalar.xori v936 v937
  let c0_i32_592 : BitVec 32 := 0#32
  let v935 : BitVec 1 := Scalar.cmpi .ne v934 c0_i32_592
  let v939 : BitVec 1 := Scalar.andi v938 v935
  let v940 : BitVec 32 := Scalar.addi v934 v933
  let v941 : BitVec 32 := Scalar.select v939 v940 v934
  let c16_i32_595 : BitVec 32 := 16#32
  let v942 : BitVec 32 := Scalar.muli v941 c16_i32_595
  let c0_i32_596 : BitVec 32 := 0#32
  let v943 : BitVec 1 := Scalar.cmpi .sge v942 c0_i32_596
  let c16_i32_597 : BitVec 32 := 16#32
  let v944 : BitVec 32 := Scalar.muli v941 c16_i32_597
  let c128_i32_598 : BitVec 32 := 128#32
  let v945 : BitVec 1 := Scalar.cmpi .slt v944 c128_i32_598
  let v946 : BitVec 1 := Scalar.andi v943 v945
  let v947 : BitVec 32 := Scalar.extui v946
  let c0_i32_599 : BitVec 32 := 0#32
  let v948 : BitVec 1 := Scalar.cmpi .ne v947 c0_i32_599
  v948

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_588 : BitVec 32 := 21#32
  let v931 : BitVec 32 := Scalar.addi v2 c21_i32_588
  let c32_i32_589 : BitVec 32 := 32#32
  let c0_i32_590 : BitVec 32 := 0#32
  let v932 : BitVec 1 := Scalar.cmpi .eq c32_i32_589 c0_i32_590
  let c1_i32_591 : BitVec 32 := 1#32
  let v933 : BitVec 32 := Scalar.select v932 c1_i32_591 c32_i32_589
  let v934 : BitVec 32 := Scalar.remsi v931 v933
  let c0_i32_593 : BitVec 32 := 0#32
  let v936 : BitVec 1 := Scalar.cmpi .slt v934 c0_i32_593
  let c0_i32_594 : BitVec 32 := 0#32
  let v937 : BitVec 1 := Scalar.cmpi .slt v933 c0_i32_594
  let v938 : BitVec 1 := Scalar.xori v936 v937
  let c0_i32_592 : BitVec 32 := 0#32
  let v935 : BitVec 1 := Scalar.cmpi .ne v934 c0_i32_592
  let v939 : BitVec 1 := Scalar.andi v938 v935
  let v940 : BitVec 32 := Scalar.addi v934 v933
  let v941 : BitVec 32 := Scalar.select v939 v940 v934
  let c16_i32_2380 : BitVec 32 := 16#32
  let v3205 : BitVec 32 := Scalar.muli v941 c16_i32_2380
  let c0_i32_2388 : BitVec 32 := 0#32
  ![v3205.toNat, 0]
def k0_dev53 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_588 : BitVec 32 := 21#32
  let v931 : BitVec 32 := Scalar.addi v2 c21_i32_588
  let c32_i32_589 : BitVec 32 := 32#32
  let c0_i32_590 : BitVec 32 := 0#32
  let v932 : BitVec 1 := Scalar.cmpi .eq c32_i32_589 c0_i32_590
  let c1_i32_591 : BitVec 32 := 1#32
  let v933 : BitVec 32 := Scalar.select v932 c1_i32_591 c32_i32_589
  let v934 : BitVec 32 := Scalar.remsi v931 v933
  let c0_i32_593 : BitVec 32 := 0#32
  let v936 : BitVec 1 := Scalar.cmpi .slt v934 c0_i32_593
  let c0_i32_594 : BitVec 32 := 0#32
  let v937 : BitVec 1 := Scalar.cmpi .slt v933 c0_i32_594
  let v938 : BitVec 1 := Scalar.xori v936 v937
  let c0_i32_592 : BitVec 32 := 0#32
  let v935 : BitVec 1 := Scalar.cmpi .ne v934 c0_i32_592
  let v939 : BitVec 1 := Scalar.andi v938 v935
  let v940 : BitVec 32 := Scalar.addi v934 v933
  let v941 : BitVec 32 := Scalar.select v939 v940 v934
  let c1_i32_2384 : BitVec 32 := 1#32
  let v3206 : BitVec 32 := Scalar.muli v941 c1_i32_2384
  let v3207 : BitVec 32 := Scalar.addi c0_i32_2385 v3206
  v3207.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_600 : BitVec 32 := 22#32
  let v949 : BitVec 32 := Scalar.addi v2 c22_i32_600
  let c32_i32_601 : BitVec 32 := 32#32
  let c0_i32_602 : BitVec 32 := 0#32
  let v950 : BitVec 1 := Scalar.cmpi .eq c32_i32_601 c0_i32_602
  let c1_i32_603 : BitVec 32 := 1#32
  let v951 : BitVec 32 := Scalar.select v950 c1_i32_603 c32_i32_601
  let v952 : BitVec 32 := Scalar.remsi v949 v951
  let c0_i32_605 : BitVec 32 := 0#32
  let v954 : BitVec 1 := Scalar.cmpi .slt v952 c0_i32_605
  let c0_i32_606 : BitVec 32 := 0#32
  let v955 : BitVec 1 := Scalar.cmpi .slt v951 c0_i32_606
  let v956 : BitVec 1 := Scalar.xori v954 v955
  let c0_i32_604 : BitVec 32 := 0#32
  let v953 : BitVec 1 := Scalar.cmpi .ne v952 c0_i32_604
  let v957 : BitVec 1 := Scalar.andi v956 v953
  let v958 : BitVec 32 := Scalar.addi v952 v951
  let v959 : BitVec 32 := Scalar.select v957 v958 v952
  let c16_i32_607 : BitVec 32 := 16#32
  let v960 : BitVec 32 := Scalar.muli v959 c16_i32_607
  let c0_i32_608 : BitVec 32 := 0#32
  let v961 : BitVec 1 := Scalar.cmpi .sge v960 c0_i32_608
  let c16_i32_609 : BitVec 32 := 16#32
  let v962 : BitVec 32 := Scalar.muli v959 c16_i32_609
  let c128_i32_610 : BitVec 32 := 128#32
  let v963 : BitVec 1 := Scalar.cmpi .slt v962 c128_i32_610
  let v964 : BitVec 1 := Scalar.andi v961 v963
  let v965 : BitVec 32 := Scalar.extui v964
  let c0_i32_611 : BitVec 32 := 0#32
  let v966 : BitVec 1 := Scalar.cmpi .ne v965 c0_i32_611
  v966

def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_600 : BitVec 32 := 22#32
  let v949 : BitVec 32 := Scalar.addi v2 c22_i32_600
  let c32_i32_601 : BitVec 32 := 32#32
  let c0_i32_602 : BitVec 32 := 0#32
  let v950 : BitVec 1 := Scalar.cmpi .eq c32_i32_601 c0_i32_602
  let c1_i32_603 : BitVec 32 := 1#32
  let v951 : BitVec 32 := Scalar.select v950 c1_i32_603 c32_i32_601
  let v952 : BitVec 32 := Scalar.remsi v949 v951
  let c0_i32_605 : BitVec 32 := 0#32
  let v954 : BitVec 1 := Scalar.cmpi .slt v952 c0_i32_605
  let c0_i32_606 : BitVec 32 := 0#32
  let v955 : BitVec 1 := Scalar.cmpi .slt v951 c0_i32_606
  let v956 : BitVec 1 := Scalar.xori v954 v955
  let c0_i32_604 : BitVec 32 := 0#32
  let v953 : BitVec 1 := Scalar.cmpi .ne v952 c0_i32_604
  let v957 : BitVec 1 := Scalar.andi v956 v953
  let v958 : BitVec 32 := Scalar.addi v952 v951
  let v959 : BitVec 32 := Scalar.select v957 v958 v952
  let c16_i32_2380 : BitVec 32 := 16#32
  let v3205 : BitVec 32 := Scalar.muli v959 c16_i32_2380
  let c0_i32_2388 : BitVec 32 := 0#32
  ![v3205.toNat, 0]
def k0_dev54 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_600 : BitVec 32 := 22#32
  let v949 : BitVec 32 := Scalar.addi v2 c22_i32_600
  let c32_i32_601 : BitVec 32 := 32#32
  let c0_i32_602 : BitVec 32 := 0#32
  let v950 : BitVec 1 := Scalar.cmpi .eq c32_i32_601 c0_i32_602
  let c1_i32_603 : BitVec 32 := 1#32
  let v951 : BitVec 32 := Scalar.select v950 c1_i32_603 c32_i32_601
  let v952 : BitVec 32 := Scalar.remsi v949 v951
  let c0_i32_605 : BitVec 32 := 0#32
  let v954 : BitVec 1 := Scalar.cmpi .slt v952 c0_i32_605
  let c0_i32_606 : BitVec 32 := 0#32
  let v955 : BitVec 1 := Scalar.cmpi .slt v951 c0_i32_606
  let v956 : BitVec 1 := Scalar.xori v954 v955
  let c0_i32_604 : BitVec 32 := 0#32
  let v953 : BitVec 1 := Scalar.cmpi .ne v952 c0_i32_604
  let v957 : BitVec 1 := Scalar.andi v956 v953
  let v958 : BitVec 32 := Scalar.addi v952 v951
  let v959 : BitVec 32 := Scalar.select v957 v958 v952
  let c1_i32_2384 : BitVec 32 := 1#32
  let v3206 : BitVec 32 := Scalar.muli v959 c1_i32_2384
  let v3207 : BitVec 32 := Scalar.addi c0_i32_2385 v3206
  v3207.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_612 : BitVec 32 := 23#32
  let v967 : BitVec 32 := Scalar.addi v2 c23_i32_612
  let c32_i32_613 : BitVec 32 := 32#32
  let c0_i32_614 : BitVec 32 := 0#32
  let v968 : BitVec 1 := Scalar.cmpi .eq c32_i32_613 c0_i32_614
  let c1_i32_615 : BitVec 32 := 1#32
  let v969 : BitVec 32 := Scalar.select v968 c1_i32_615 c32_i32_613
  let v970 : BitVec 32 := Scalar.remsi v967 v969
  let c0_i32_617 : BitVec 32 := 0#32
  let v972 : BitVec 1 := Scalar.cmpi .slt v970 c0_i32_617
  let c0_i32_618 : BitVec 32 := 0#32
  let v973 : BitVec 1 := Scalar.cmpi .slt v969 c0_i32_618
  let v974 : BitVec 1 := Scalar.xori v972 v973
  let c0_i32_616 : BitVec 32 := 0#32
  let v971 : BitVec 1 := Scalar.cmpi .ne v970 c0_i32_616
  let v975 : BitVec 1 := Scalar.andi v974 v971
  let v976 : BitVec 32 := Scalar.addi v970 v969
  let v977 : BitVec 32 := Scalar.select v975 v976 v970
  let c16_i32_619 : BitVec 32 := 16#32
  let v978 : BitVec 32 := Scalar.muli v977 c16_i32_619
  let c0_i32_620 : BitVec 32 := 0#32
  let v979 : BitVec 1 := Scalar.cmpi .sge v978 c0_i32_620
  let c16_i32_621 : BitVec 32 := 16#32
  let v980 : BitVec 32 := Scalar.muli v977 c16_i32_621
  let c128_i32_622 : BitVec 32 := 128#32
  let v981 : BitVec 1 := Scalar.cmpi .slt v980 c128_i32_622
  let v982 : BitVec 1 := Scalar.andi v979 v981
  let v983 : BitVec 32 := Scalar.extui v982
  let c0_i32_623 : BitVec 32 := 0#32
  let v984 : BitVec 1 := Scalar.cmpi .ne v983 c0_i32_623
  v984

def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_612 : BitVec 32 := 23#32
  let v967 : BitVec 32 := Scalar.addi v2 c23_i32_612
  let c32_i32_613 : BitVec 32 := 32#32
  let c0_i32_614 : BitVec 32 := 0#32
  let v968 : BitVec 1 := Scalar.cmpi .eq c32_i32_613 c0_i32_614
  let c1_i32_615 : BitVec 32 := 1#32
  let v969 : BitVec 32 := Scalar.select v968 c1_i32_615 c32_i32_613
  let v970 : BitVec 32 := Scalar.remsi v967 v969
  let c0_i32_617 : BitVec 32 := 0#32
  let v972 : BitVec 1 := Scalar.cmpi .slt v970 c0_i32_617
  let c0_i32_618 : BitVec 32 := 0#32
  let v973 : BitVec 1 := Scalar.cmpi .slt v969 c0_i32_618
  let v974 : BitVec 1 := Scalar.xori v972 v973
  let c0_i32_616 : BitVec 32 := 0#32
  let v971 : BitVec 1 := Scalar.cmpi .ne v970 c0_i32_616
  let v975 : BitVec 1 := Scalar.andi v974 v971
  let v976 : BitVec 32 := Scalar.addi v970 v969
  let v977 : BitVec 32 := Scalar.select v975 v976 v970
  let c16_i32_2380 : BitVec 32 := 16#32
  let v3205 : BitVec 32 := Scalar.muli v977 c16_i32_2380
  let c0_i32_2388 : BitVec 32 := 0#32
  ![v3205.toNat, 0]
def k0_dev55 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_612 : BitVec 32 := 23#32
  let v967 : BitVec 32 := Scalar.addi v2 c23_i32_612
  let c32_i32_613 : BitVec 32 := 32#32
  let c0_i32_614 : BitVec 32 := 0#32
  let v968 : BitVec 1 := Scalar.cmpi .eq c32_i32_613 c0_i32_614
  let c1_i32_615 : BitVec 32 := 1#32
  let v969 : BitVec 32 := Scalar.select v968 c1_i32_615 c32_i32_613
  let v970 : BitVec 32 := Scalar.remsi v967 v969
  let c0_i32_617 : BitVec 32 := 0#32
  let v972 : BitVec 1 := Scalar.cmpi .slt v970 c0_i32_617
  let c0_i32_618 : BitVec 32 := 0#32
  let v973 : BitVec 1 := Scalar.cmpi .slt v969 c0_i32_618
  let v974 : BitVec 1 := Scalar.xori v972 v973
  let c0_i32_616 : BitVec 32 := 0#32
  let v971 : BitVec 1 := Scalar.cmpi .ne v970 c0_i32_616
  let v975 : BitVec 1 := Scalar.andi v974 v971
  let v976 : BitVec 32 := Scalar.addi v970 v969
  let v977 : BitVec 32 := Scalar.select v975 v976 v970
  let c1_i32_2384 : BitVec 32 := 1#32
  let v3206 : BitVec 32 := Scalar.muli v977 c1_i32_2384
  let v3207 : BitVec 32 := Scalar.addi c0_i32_2385 v3206
  v3207.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_624 : BitVec 32 := 24#32
  let v985 : BitVec 32 := Scalar.addi v2 c24_i32_624
  let c32_i32_625 : BitVec 32 := 32#32
  let c0_i32_626 : BitVec 32 := 0#32
  let v986 : BitVec 1 := Scalar.cmpi .eq c32_i32_625 c0_i32_626
  let c1_i32_627 : BitVec 32 := 1#32
  let v987 : BitVec 32 := Scalar.select v986 c1_i32_627 c32_i32_625
  let v988 : BitVec 32 := Scalar.remsi v985 v987
  let c0_i32_629 : BitVec 32 := 0#32
  let v990 : BitVec 1 := Scalar.cmpi .slt v988 c0_i32_629
  let c0_i32_630 : BitVec 32 := 0#32
  let v991 : BitVec 1 := Scalar.cmpi .slt v987 c0_i32_630
  let v992 : BitVec 1 := Scalar.xori v990 v991
  let c0_i32_628 : BitVec 32 := 0#32
  let v989 : BitVec 1 := Scalar.cmpi .ne v988 c0_i32_628
  let v993 : BitVec 1 := Scalar.andi v992 v989
  let v994 : BitVec 32 := Scalar.addi v988 v987
  let v995 : BitVec 32 := Scalar.select v993 v994 v988
  let c16_i32_631 : BitVec 32 := 16#32
  let v996 : BitVec 32 := Scalar.muli v995 c16_i32_631
  let c0_i32_632 : BitVec 32 := 0#32
  let v997 : BitVec 1 := Scalar.cmpi .sge v996 c0_i32_632
  let c16_i32_633 : BitVec 32 := 16#32
  let v998 : BitVec 32 := Scalar.muli v995 c16_i32_633
  let c128_i32_634 : BitVec 32 := 128#32
  let v999 : BitVec 1 := Scalar.cmpi .slt v998 c128_i32_634
  let v1000 : BitVec 1 := Scalar.andi v997 v999
  let v1001 : BitVec 32 := Scalar.extui v1000
  let c0_i32_635 : BitVec 32 := 0#32
  let v1002 : BitVec 1 := Scalar.cmpi .ne v1001 c0_i32_635
  v1002

def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_624 : BitVec 32 := 24#32
  let v985 : BitVec 32 := Scalar.addi v2 c24_i32_624
  let c32_i32_625 : BitVec 32 := 32#32
  let c0_i32_626 : BitVec 32 := 0#32
  let v986 : BitVec 1 := Scalar.cmpi .eq c32_i32_625 c0_i32_626
  let c1_i32_627 : BitVec 32 := 1#32
  let v987 : BitVec 32 := Scalar.select v986 c1_i32_627 c32_i32_625
  let v988 : BitVec 32 := Scalar.remsi v985 v987
  let c0_i32_629 : BitVec 32 := 0#32
  let v990 : BitVec 1 := Scalar.cmpi .slt v988 c0_i32_629
  let c0_i32_630 : BitVec 32 := 0#32
  let v991 : BitVec 1 := Scalar.cmpi .slt v987 c0_i32_630
  let v992 : BitVec 1 := Scalar.xori v990 v991
  let c0_i32_628 : BitVec 32 := 0#32
  let v989 : BitVec 1 := Scalar.cmpi .ne v988 c0_i32_628
  let v993 : BitVec 1 := Scalar.andi v992 v989
  let v994 : BitVec 32 := Scalar.addi v988 v987
  let v995 : BitVec 32 := Scalar.select v993 v994 v988
  let c16_i32_2380 : BitVec 32 := 16#32
  let v3205 : BitVec 32 := Scalar.muli v995 c16_i32_2380
  let c0_i32_2388 : BitVec 32 := 0#32
  ![v3205.toNat, 0]
def k0_dev56 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_624 : BitVec 32 := 24#32
  let v985 : BitVec 32 := Scalar.addi v2 c24_i32_624
  let c32_i32_625 : BitVec 32 := 32#32
  let c0_i32_626 : BitVec 32 := 0#32
  let v986 : BitVec 1 := Scalar.cmpi .eq c32_i32_625 c0_i32_626
  let c1_i32_627 : BitVec 32 := 1#32
  let v987 : BitVec 32 := Scalar.select v986 c1_i32_627 c32_i32_625
  let v988 : BitVec 32 := Scalar.remsi v985 v987
  let c0_i32_629 : BitVec 32 := 0#32
  let v990 : BitVec 1 := Scalar.cmpi .slt v988 c0_i32_629
  let c0_i32_630 : BitVec 32 := 0#32
  let v991 : BitVec 1 := Scalar.cmpi .slt v987 c0_i32_630
  let v992 : BitVec 1 := Scalar.xori v990 v991
  let c0_i32_628 : BitVec 32 := 0#32
  let v989 : BitVec 1 := Scalar.cmpi .ne v988 c0_i32_628
  let v993 : BitVec 1 := Scalar.andi v992 v989
  let v994 : BitVec 32 := Scalar.addi v988 v987
  let v995 : BitVec 32 := Scalar.select v993 v994 v988
  let c1_i32_2384 : BitVec 32 := 1#32
  let v3206 : BitVec 32 := Scalar.muli v995 c1_i32_2384
  let v3207 : BitVec 32 := Scalar.addi c0_i32_2385 v3206
  v3207.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_636 : BitVec 32 := 25#32
  let v1003 : BitVec 32 := Scalar.addi v2 c25_i32_636
  let c32_i32_637 : BitVec 32 := 32#32
  let c0_i32_638 : BitVec 32 := 0#32
  let v1004 : BitVec 1 := Scalar.cmpi .eq c32_i32_637 c0_i32_638
  let c1_i32_639 : BitVec 32 := 1#32
  let v1005 : BitVec 32 := Scalar.select v1004 c1_i32_639 c32_i32_637
  let v1006 : BitVec 32 := Scalar.remsi v1003 v1005
  let c0_i32_641 : BitVec 32 := 0#32
  let v1008 : BitVec 1 := Scalar.cmpi .slt v1006 c0_i32_641
  let c0_i32_642 : BitVec 32 := 0#32
  let v1009 : BitVec 1 := Scalar.cmpi .slt v1005 c0_i32_642
  let v1010 : BitVec 1 := Scalar.xori v1008 v1009
  let c0_i32_640 : BitVec 32 := 0#32
  let v1007 : BitVec 1 := Scalar.cmpi .ne v1006 c0_i32_640
  let v1011 : BitVec 1 := Scalar.andi v1010 v1007
  let v1012 : BitVec 32 := Scalar.addi v1006 v1005
  let v1013 : BitVec 32 := Scalar.select v1011 v1012 v1006
  let c16_i32_643 : BitVec 32 := 16#32
  let v1014 : BitVec 32 := Scalar.muli v1013 c16_i32_643
  let c0_i32_644 : BitVec 32 := 0#32
  let v1015 : BitVec 1 := Scalar.cmpi .sge v1014 c0_i32_644
  let c16_i32_645 : BitVec 32 := 16#32
  let v1016 : BitVec 32 := Scalar.muli v1013 c16_i32_645
  let c128_i32_646 : BitVec 32 := 128#32
  let v1017 : BitVec 1 := Scalar.cmpi .slt v1016 c128_i32_646
  let v1018 : BitVec 1 := Scalar.andi v1015 v1017
  let v1019 : BitVec 32 := Scalar.extui v1018
  let c0_i32_647 : BitVec 32 := 0#32
  let v1020 : BitVec 1 := Scalar.cmpi .ne v1019 c0_i32_647
  v1020

def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_636 : BitVec 32 := 25#32
  let v1003 : BitVec 32 := Scalar.addi v2 c25_i32_636
  let c32_i32_637 : BitVec 32 := 32#32
  let c0_i32_638 : BitVec 32 := 0#32
  let v1004 : BitVec 1 := Scalar.cmpi .eq c32_i32_637 c0_i32_638
  let c1_i32_639 : BitVec 32 := 1#32
  let v1005 : BitVec 32 := Scalar.select v1004 c1_i32_639 c32_i32_637
  let v1006 : BitVec 32 := Scalar.remsi v1003 v1005
  let c0_i32_641 : BitVec 32 := 0#32
  let v1008 : BitVec 1 := Scalar.cmpi .slt v1006 c0_i32_641
  let c0_i32_642 : BitVec 32 := 0#32
  let v1009 : BitVec 1 := Scalar.cmpi .slt v1005 c0_i32_642
  let v1010 : BitVec 1 := Scalar.xori v1008 v1009
  let c0_i32_640 : BitVec 32 := 0#32
  let v1007 : BitVec 1 := Scalar.cmpi .ne v1006 c0_i32_640
  let v1011 : BitVec 1 := Scalar.andi v1010 v1007
  let v1012 : BitVec 32 := Scalar.addi v1006 v1005
  let v1013 : BitVec 32 := Scalar.select v1011 v1012 v1006
  let c16_i32_2380 : BitVec 32 := 16#32
  let v3205 : BitVec 32 := Scalar.muli v1013 c16_i32_2380
  let c0_i32_2388 : BitVec 32 := 0#32
  ![v3205.toNat, 0]
def k0_dev57 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_636 : BitVec 32 := 25#32
  let v1003 : BitVec 32 := Scalar.addi v2 c25_i32_636
  let c32_i32_637 : BitVec 32 := 32#32
  let c0_i32_638 : BitVec 32 := 0#32
  let v1004 : BitVec 1 := Scalar.cmpi .eq c32_i32_637 c0_i32_638
  let c1_i32_639 : BitVec 32 := 1#32
  let v1005 : BitVec 32 := Scalar.select v1004 c1_i32_639 c32_i32_637
  let v1006 : BitVec 32 := Scalar.remsi v1003 v1005
  let c0_i32_641 : BitVec 32 := 0#32
  let v1008 : BitVec 1 := Scalar.cmpi .slt v1006 c0_i32_641
  let c0_i32_642 : BitVec 32 := 0#32
  let v1009 : BitVec 1 := Scalar.cmpi .slt v1005 c0_i32_642
  let v1010 : BitVec 1 := Scalar.xori v1008 v1009
  let c0_i32_640 : BitVec 32 := 0#32
  let v1007 : BitVec 1 := Scalar.cmpi .ne v1006 c0_i32_640
  let v1011 : BitVec 1 := Scalar.andi v1010 v1007
  let v1012 : BitVec 32 := Scalar.addi v1006 v1005
  let v1013 : BitVec 32 := Scalar.select v1011 v1012 v1006
  let c1_i32_2384 : BitVec 32 := 1#32
  let v3206 : BitVec 32 := Scalar.muli v1013 c1_i32_2384
  let v3207 : BitVec 32 := Scalar.addi c0_i32_2385 v3206
  v3207.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_648 : BitVec 32 := 26#32
  let v1021 : BitVec 32 := Scalar.addi v2 c26_i32_648
  let c32_i32_649 : BitVec 32 := 32#32
  let c0_i32_650 : BitVec 32 := 0#32
  let v1022 : BitVec 1 := Scalar.cmpi .eq c32_i32_649 c0_i32_650
  let c1_i32_651 : BitVec 32 := 1#32
  let v1023 : BitVec 32 := Scalar.select v1022 c1_i32_651 c32_i32_649
  let v1024 : BitVec 32 := Scalar.remsi v1021 v1023
  let c0_i32_653 : BitVec 32 := 0#32
  let v1026 : BitVec 1 := Scalar.cmpi .slt v1024 c0_i32_653
  let c0_i32_654 : BitVec 32 := 0#32
  let v1027 : BitVec 1 := Scalar.cmpi .slt v1023 c0_i32_654
  let v1028 : BitVec 1 := Scalar.xori v1026 v1027
  let c0_i32_652 : BitVec 32 := 0#32
  let v1025 : BitVec 1 := Scalar.cmpi .ne v1024 c0_i32_652
  let v1029 : BitVec 1 := Scalar.andi v1028 v1025
  let v1030 : BitVec 32 := Scalar.addi v1024 v1023
  let v1031 : BitVec 32 := Scalar.select v1029 v1030 v1024
  let c16_i32_655 : BitVec 32 := 16#32
  let v1032 : BitVec 32 := Scalar.muli v1031 c16_i32_655
  let c0_i32_656 : BitVec 32 := 0#32
  let v1033 : BitVec 1 := Scalar.cmpi .sge v1032 c0_i32_656
  let c16_i32_657 : BitVec 32 := 16#32
  let v1034 : BitVec 32 := Scalar.muli v1031 c16_i32_657
  let c128_i32_658 : BitVec 32 := 128#32
  let v1035 : BitVec 1 := Scalar.cmpi .slt v1034 c128_i32_658
  let v1036 : BitVec 1 := Scalar.andi v1033 v1035
  let v1037 : BitVec 32 := Scalar.extui v1036
  let c0_i32_659 : BitVec 32 := 0#32
  let v1038 : BitVec 1 := Scalar.cmpi .ne v1037 c0_i32_659
  v1038

def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_648 : BitVec 32 := 26#32
  let v1021 : BitVec 32 := Scalar.addi v2 c26_i32_648
  let c32_i32_649 : BitVec 32 := 32#32
  let c0_i32_650 : BitVec 32 := 0#32
  let v1022 : BitVec 1 := Scalar.cmpi .eq c32_i32_649 c0_i32_650
  let c1_i32_651 : BitVec 32 := 1#32
  let v1023 : BitVec 32 := Scalar.select v1022 c1_i32_651 c32_i32_649
  let v1024 : BitVec 32 := Scalar.remsi v1021 v1023
  let c0_i32_653 : BitVec 32 := 0#32
  let v1026 : BitVec 1 := Scalar.cmpi .slt v1024 c0_i32_653
  let c0_i32_654 : BitVec 32 := 0#32
  let v1027 : BitVec 1 := Scalar.cmpi .slt v1023 c0_i32_654
  let v1028 : BitVec 1 := Scalar.xori v1026 v1027
  let c0_i32_652 : BitVec 32 := 0#32
  let v1025 : BitVec 1 := Scalar.cmpi .ne v1024 c0_i32_652
  let v1029 : BitVec 1 := Scalar.andi v1028 v1025
  let v1030 : BitVec 32 := Scalar.addi v1024 v1023
  let v1031 : BitVec 32 := Scalar.select v1029 v1030 v1024
  let c16_i32_2380 : BitVec 32 := 16#32
  let v3205 : BitVec 32 := Scalar.muli v1031 c16_i32_2380
  let c0_i32_2388 : BitVec 32 := 0#32
  ![v3205.toNat, 0]
def k0_dev58 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_648 : BitVec 32 := 26#32
  let v1021 : BitVec 32 := Scalar.addi v2 c26_i32_648
  let c32_i32_649 : BitVec 32 := 32#32
  let c0_i32_650 : BitVec 32 := 0#32
  let v1022 : BitVec 1 := Scalar.cmpi .eq c32_i32_649 c0_i32_650
  let c1_i32_651 : BitVec 32 := 1#32
  let v1023 : BitVec 32 := Scalar.select v1022 c1_i32_651 c32_i32_649
  let v1024 : BitVec 32 := Scalar.remsi v1021 v1023
  let c0_i32_653 : BitVec 32 := 0#32
  let v1026 : BitVec 1 := Scalar.cmpi .slt v1024 c0_i32_653
  let c0_i32_654 : BitVec 32 := 0#32
  let v1027 : BitVec 1 := Scalar.cmpi .slt v1023 c0_i32_654
  let v1028 : BitVec 1 := Scalar.xori v1026 v1027
  let c0_i32_652 : BitVec 32 := 0#32
  let v1025 : BitVec 1 := Scalar.cmpi .ne v1024 c0_i32_652
  let v1029 : BitVec 1 := Scalar.andi v1028 v1025
  let v1030 : BitVec 32 := Scalar.addi v1024 v1023
  let v1031 : BitVec 32 := Scalar.select v1029 v1030 v1024
  let c1_i32_2384 : BitVec 32 := 1#32
  let v3206 : BitVec 32 := Scalar.muli v1031 c1_i32_2384
  let v3207 : BitVec 32 := Scalar.addi c0_i32_2385 v3206
  v3207.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_660 : BitVec 32 := 27#32
  let v1039 : BitVec 32 := Scalar.addi v2 c27_i32_660
  let c32_i32_661 : BitVec 32 := 32#32
  let c0_i32_662 : BitVec 32 := 0#32
  let v1040 : BitVec 1 := Scalar.cmpi .eq c32_i32_661 c0_i32_662
  let c1_i32_663 : BitVec 32 := 1#32
  let v1041 : BitVec 32 := Scalar.select v1040 c1_i32_663 c32_i32_661
  let v1042 : BitVec 32 := Scalar.remsi v1039 v1041
  let c0_i32_665 : BitVec 32 := 0#32
  let v1044 : BitVec 1 := Scalar.cmpi .slt v1042 c0_i32_665
  let c0_i32_666 : BitVec 32 := 0#32
  let v1045 : BitVec 1 := Scalar.cmpi .slt v1041 c0_i32_666
  let v1046 : BitVec 1 := Scalar.xori v1044 v1045
  let c0_i32_664 : BitVec 32 := 0#32
  let v1043 : BitVec 1 := Scalar.cmpi .ne v1042 c0_i32_664
  let v1047 : BitVec 1 := Scalar.andi v1046 v1043
  let v1048 : BitVec 32 := Scalar.addi v1042 v1041
  let v1049 : BitVec 32 := Scalar.select v1047 v1048 v1042
  let c16_i32_667 : BitVec 32 := 16#32
  let v1050 : BitVec 32 := Scalar.muli v1049 c16_i32_667
  let c0_i32_668 : BitVec 32 := 0#32
  let v1051 : BitVec 1 := Scalar.cmpi .sge v1050 c0_i32_668
  let c16_i32_669 : BitVec 32 := 16#32
  let v1052 : BitVec 32 := Scalar.muli v1049 c16_i32_669
  let c128_i32_670 : BitVec 32 := 128#32
  let v1053 : BitVec 1 := Scalar.cmpi .slt v1052 c128_i32_670
  let v1054 : BitVec 1 := Scalar.andi v1051 v1053
  let v1055 : BitVec 32 := Scalar.extui v1054
  let c0_i32_671 : BitVec 32 := 0#32
  let v1056 : BitVec 1 := Scalar.cmpi .ne v1055 c0_i32_671
  v1056

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_660 : BitVec 32 := 27#32
  let v1039 : BitVec 32 := Scalar.addi v2 c27_i32_660
  let c32_i32_661 : BitVec 32 := 32#32
  let c0_i32_662 : BitVec 32 := 0#32
  let v1040 : BitVec 1 := Scalar.cmpi .eq c32_i32_661 c0_i32_662
  let c1_i32_663 : BitVec 32 := 1#32
  let v1041 : BitVec 32 := Scalar.select v1040 c1_i32_663 c32_i32_661
  let v1042 : BitVec 32 := Scalar.remsi v1039 v1041
  let c0_i32_665 : BitVec 32 := 0#32
  let v1044 : BitVec 1 := Scalar.cmpi .slt v1042 c0_i32_665
  let c0_i32_666 : BitVec 32 := 0#32
  let v1045 : BitVec 1 := Scalar.cmpi .slt v1041 c0_i32_666
  let v1046 : BitVec 1 := Scalar.xori v1044 v1045
  let c0_i32_664 : BitVec 32 := 0#32
  let v1043 : BitVec 1 := Scalar.cmpi .ne v1042 c0_i32_664
  let v1047 : BitVec 1 := Scalar.andi v1046 v1043
  let v1048 : BitVec 32 := Scalar.addi v1042 v1041
  let v1049 : BitVec 32 := Scalar.select v1047 v1048 v1042
  let c16_i32_2380 : BitVec 32 := 16#32
  let v3205 : BitVec 32 := Scalar.muli v1049 c16_i32_2380
  let c0_i32_2388 : BitVec 32 := 0#32
  ![v3205.toNat, 0]
def k0_dev59 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_660 : BitVec 32 := 27#32
  let v1039 : BitVec 32 := Scalar.addi v2 c27_i32_660
  let c32_i32_661 : BitVec 32 := 32#32
  let c0_i32_662 : BitVec 32 := 0#32
  let v1040 : BitVec 1 := Scalar.cmpi .eq c32_i32_661 c0_i32_662
  let c1_i32_663 : BitVec 32 := 1#32
  let v1041 : BitVec 32 := Scalar.select v1040 c1_i32_663 c32_i32_661
  let v1042 : BitVec 32 := Scalar.remsi v1039 v1041
  let c0_i32_665 : BitVec 32 := 0#32
  let v1044 : BitVec 1 := Scalar.cmpi .slt v1042 c0_i32_665
  let c0_i32_666 : BitVec 32 := 0#32
  let v1045 : BitVec 1 := Scalar.cmpi .slt v1041 c0_i32_666
  let v1046 : BitVec 1 := Scalar.xori v1044 v1045
  let c0_i32_664 : BitVec 32 := 0#32
  let v1043 : BitVec 1 := Scalar.cmpi .ne v1042 c0_i32_664
  let v1047 : BitVec 1 := Scalar.andi v1046 v1043
  let v1048 : BitVec 32 := Scalar.addi v1042 v1041
  let v1049 : BitVec 32 := Scalar.select v1047 v1048 v1042
  let c1_i32_2384 : BitVec 32 := 1#32
  let v3206 : BitVec 32 := Scalar.muli v1049 c1_i32_2384
  let v3207 : BitVec 32 := Scalar.addi c0_i32_2385 v3206
  v3207.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_672 : BitVec 32 := 28#32
  let v1057 : BitVec 32 := Scalar.addi v2 c28_i32_672
  let c32_i32_673 : BitVec 32 := 32#32
  let c0_i32_674 : BitVec 32 := 0#32
  let v1058 : BitVec 1 := Scalar.cmpi .eq c32_i32_673 c0_i32_674
  let c1_i32_675 : BitVec 32 := 1#32
  let v1059 : BitVec 32 := Scalar.select v1058 c1_i32_675 c32_i32_673
  let v1060 : BitVec 32 := Scalar.remsi v1057 v1059
  let c0_i32_677 : BitVec 32 := 0#32
  let v1062 : BitVec 1 := Scalar.cmpi .slt v1060 c0_i32_677
  let c0_i32_678 : BitVec 32 := 0#32
  let v1063 : BitVec 1 := Scalar.cmpi .slt v1059 c0_i32_678
  let v1064 : BitVec 1 := Scalar.xori v1062 v1063
  let c0_i32_676 : BitVec 32 := 0#32
  let v1061 : BitVec 1 := Scalar.cmpi .ne v1060 c0_i32_676
  let v1065 : BitVec 1 := Scalar.andi v1064 v1061
  let v1066 : BitVec 32 := Scalar.addi v1060 v1059
  let v1067 : BitVec 32 := Scalar.select v1065 v1066 v1060
  let c16_i32_679 : BitVec 32 := 16#32
  let v1068 : BitVec 32 := Scalar.muli v1067 c16_i32_679
  let c0_i32_680 : BitVec 32 := 0#32
  let v1069 : BitVec 1 := Scalar.cmpi .sge v1068 c0_i32_680
  let c16_i32_681 : BitVec 32 := 16#32
  let v1070 : BitVec 32 := Scalar.muli v1067 c16_i32_681
  let c128_i32_682 : BitVec 32 := 128#32
  let v1071 : BitVec 1 := Scalar.cmpi .slt v1070 c128_i32_682
  let v1072 : BitVec 1 := Scalar.andi v1069 v1071
  let v1073 : BitVec 32 := Scalar.extui v1072
  let c0_i32_683 : BitVec 32 := 0#32
  let v1074 : BitVec 1 := Scalar.cmpi .ne v1073 c0_i32_683
  v1074

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_672 : BitVec 32 := 28#32
  let v1057 : BitVec 32 := Scalar.addi v2 c28_i32_672
  let c32_i32_673 : BitVec 32 := 32#32
  let c0_i32_674 : BitVec 32 := 0#32
  let v1058 : BitVec 1 := Scalar.cmpi .eq c32_i32_673 c0_i32_674
  let c1_i32_675 : BitVec 32 := 1#32
  let v1059 : BitVec 32 := Scalar.select v1058 c1_i32_675 c32_i32_673
  let v1060 : BitVec 32 := Scalar.remsi v1057 v1059
  let c0_i32_677 : BitVec 32 := 0#32
  let v1062 : BitVec 1 := Scalar.cmpi .slt v1060 c0_i32_677
  let c0_i32_678 : BitVec 32 := 0#32
  let v1063 : BitVec 1 := Scalar.cmpi .slt v1059 c0_i32_678
  let v1064 : BitVec 1 := Scalar.xori v1062 v1063
  let c0_i32_676 : BitVec 32 := 0#32
  let v1061 : BitVec 1 := Scalar.cmpi .ne v1060 c0_i32_676
  let v1065 : BitVec 1 := Scalar.andi v1064 v1061
  let v1066 : BitVec 32 := Scalar.addi v1060 v1059
  let v1067 : BitVec 32 := Scalar.select v1065 v1066 v1060
  let c16_i32_2380 : BitVec 32 := 16#32
  let v3205 : BitVec 32 := Scalar.muli v1067 c16_i32_2380
  let c0_i32_2388 : BitVec 32 := 0#32
  ![v3205.toNat, 0]
def k0_dev60 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_672 : BitVec 32 := 28#32
  let v1057 : BitVec 32 := Scalar.addi v2 c28_i32_672
  let c32_i32_673 : BitVec 32 := 32#32
  let c0_i32_674 : BitVec 32 := 0#32
  let v1058 : BitVec 1 := Scalar.cmpi .eq c32_i32_673 c0_i32_674
  let c1_i32_675 : BitVec 32 := 1#32
  let v1059 : BitVec 32 := Scalar.select v1058 c1_i32_675 c32_i32_673
  let v1060 : BitVec 32 := Scalar.remsi v1057 v1059
  let c0_i32_677 : BitVec 32 := 0#32
  let v1062 : BitVec 1 := Scalar.cmpi .slt v1060 c0_i32_677
  let c0_i32_678 : BitVec 32 := 0#32
  let v1063 : BitVec 1 := Scalar.cmpi .slt v1059 c0_i32_678
  let v1064 : BitVec 1 := Scalar.xori v1062 v1063
  let c0_i32_676 : BitVec 32 := 0#32
  let v1061 : BitVec 1 := Scalar.cmpi .ne v1060 c0_i32_676
  let v1065 : BitVec 1 := Scalar.andi v1064 v1061
  let v1066 : BitVec 32 := Scalar.addi v1060 v1059
  let v1067 : BitVec 32 := Scalar.select v1065 v1066 v1060
  let c1_i32_2384 : BitVec 32 := 1#32
  let v3206 : BitVec 32 := Scalar.muli v1067 c1_i32_2384
  let v3207 : BitVec 32 := Scalar.addi c0_i32_2385 v3206
  v3207.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_684 : BitVec 32 := 29#32
  let v1075 : BitVec 32 := Scalar.addi v2 c29_i32_684
  let c32_i32_685 : BitVec 32 := 32#32
  let c0_i32_686 : BitVec 32 := 0#32
  let v1076 : BitVec 1 := Scalar.cmpi .eq c32_i32_685 c0_i32_686
  let c1_i32_687 : BitVec 32 := 1#32
  let v1077 : BitVec 32 := Scalar.select v1076 c1_i32_687 c32_i32_685
  let v1078 : BitVec 32 := Scalar.remsi v1075 v1077
  let c0_i32_689 : BitVec 32 := 0#32
  let v1080 : BitVec 1 := Scalar.cmpi .slt v1078 c0_i32_689
  let c0_i32_690 : BitVec 32 := 0#32
  let v1081 : BitVec 1 := Scalar.cmpi .slt v1077 c0_i32_690
  let v1082 : BitVec 1 := Scalar.xori v1080 v1081
  let c0_i32_688 : BitVec 32 := 0#32
  let v1079 : BitVec 1 := Scalar.cmpi .ne v1078 c0_i32_688
  let v1083 : BitVec 1 := Scalar.andi v1082 v1079
  let v1084 : BitVec 32 := Scalar.addi v1078 v1077
  let v1085 : BitVec 32 := Scalar.select v1083 v1084 v1078
  let c16_i32_691 : BitVec 32 := 16#32
  let v1086 : BitVec 32 := Scalar.muli v1085 c16_i32_691
  let c0_i32_692 : BitVec 32 := 0#32
  let v1087 : BitVec 1 := Scalar.cmpi .sge v1086 c0_i32_692
  let c16_i32_693 : BitVec 32 := 16#32
  let v1088 : BitVec 32 := Scalar.muli v1085 c16_i32_693
  let c128_i32_694 : BitVec 32 := 128#32
  let v1089 : BitVec 1 := Scalar.cmpi .slt v1088 c128_i32_694
  let v1090 : BitVec 1 := Scalar.andi v1087 v1089
  let v1091 : BitVec 32 := Scalar.extui v1090
  let c0_i32_695 : BitVec 32 := 0#32
  let v1092 : BitVec 1 := Scalar.cmpi .ne v1091 c0_i32_695
  v1092

def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_684 : BitVec 32 := 29#32
  let v1075 : BitVec 32 := Scalar.addi v2 c29_i32_684
  let c32_i32_685 : BitVec 32 := 32#32
  let c0_i32_686 : BitVec 32 := 0#32
  let v1076 : BitVec 1 := Scalar.cmpi .eq c32_i32_685 c0_i32_686
  let c1_i32_687 : BitVec 32 := 1#32
  let v1077 : BitVec 32 := Scalar.select v1076 c1_i32_687 c32_i32_685
  let v1078 : BitVec 32 := Scalar.remsi v1075 v1077
  let c0_i32_689 : BitVec 32 := 0#32
  let v1080 : BitVec 1 := Scalar.cmpi .slt v1078 c0_i32_689
  let c0_i32_690 : BitVec 32 := 0#32
  let v1081 : BitVec 1 := Scalar.cmpi .slt v1077 c0_i32_690
  let v1082 : BitVec 1 := Scalar.xori v1080 v1081
  let c0_i32_688 : BitVec 32 := 0#32
  let v1079 : BitVec 1 := Scalar.cmpi .ne v1078 c0_i32_688
  let v1083 : BitVec 1 := Scalar.andi v1082 v1079
  let v1084 : BitVec 32 := Scalar.addi v1078 v1077
  let v1085 : BitVec 32 := Scalar.select v1083 v1084 v1078
  let c16_i32_2380 : BitVec 32 := 16#32
  let v3205 : BitVec 32 := Scalar.muli v1085 c16_i32_2380
  let c0_i32_2388 : BitVec 32 := 0#32
  ![v3205.toNat, 0]
def k0_dev61 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_684 : BitVec 32 := 29#32
  let v1075 : BitVec 32 := Scalar.addi v2 c29_i32_684
  let c32_i32_685 : BitVec 32 := 32#32
  let c0_i32_686 : BitVec 32 := 0#32
  let v1076 : BitVec 1 := Scalar.cmpi .eq c32_i32_685 c0_i32_686
  let c1_i32_687 : BitVec 32 := 1#32
  let v1077 : BitVec 32 := Scalar.select v1076 c1_i32_687 c32_i32_685
  let v1078 : BitVec 32 := Scalar.remsi v1075 v1077
  let c0_i32_689 : BitVec 32 := 0#32
  let v1080 : BitVec 1 := Scalar.cmpi .slt v1078 c0_i32_689
  let c0_i32_690 : BitVec 32 := 0#32
  let v1081 : BitVec 1 := Scalar.cmpi .slt v1077 c0_i32_690
  let v1082 : BitVec 1 := Scalar.xori v1080 v1081
  let c0_i32_688 : BitVec 32 := 0#32
  let v1079 : BitVec 1 := Scalar.cmpi .ne v1078 c0_i32_688
  let v1083 : BitVec 1 := Scalar.andi v1082 v1079
  let v1084 : BitVec 32 := Scalar.addi v1078 v1077
  let v1085 : BitVec 32 := Scalar.select v1083 v1084 v1078
  let c1_i32_2384 : BitVec 32 := 1#32
  let v3206 : BitVec 32 := Scalar.muli v1085 c1_i32_2384
  let v3207 : BitVec 32 := Scalar.addi c0_i32_2385 v3206
  v3207.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_696 : BitVec 32 := 30#32
  let v1093 : BitVec 32 := Scalar.addi v2 c30_i32_696
  let c32_i32_697 : BitVec 32 := 32#32
  let c0_i32_698 : BitVec 32 := 0#32
  let v1094 : BitVec 1 := Scalar.cmpi .eq c32_i32_697 c0_i32_698
  let c1_i32_699 : BitVec 32 := 1#32
  let v1095 : BitVec 32 := Scalar.select v1094 c1_i32_699 c32_i32_697
  let v1096 : BitVec 32 := Scalar.remsi v1093 v1095
  let c0_i32_701 : BitVec 32 := 0#32
  let v1098 : BitVec 1 := Scalar.cmpi .slt v1096 c0_i32_701
  let c0_i32_702 : BitVec 32 := 0#32
  let v1099 : BitVec 1 := Scalar.cmpi .slt v1095 c0_i32_702
  let v1100 : BitVec 1 := Scalar.xori v1098 v1099
  let c0_i32_700 : BitVec 32 := 0#32
  let v1097 : BitVec 1 := Scalar.cmpi .ne v1096 c0_i32_700
  let v1101 : BitVec 1 := Scalar.andi v1100 v1097
  let v1102 : BitVec 32 := Scalar.addi v1096 v1095
  let v1103 : BitVec 32 := Scalar.select v1101 v1102 v1096
  let c16_i32_703 : BitVec 32 := 16#32
  let v1104 : BitVec 32 := Scalar.muli v1103 c16_i32_703
  let c0_i32_704 : BitVec 32 := 0#32
  let v1105 : BitVec 1 := Scalar.cmpi .sge v1104 c0_i32_704
  let c16_i32_705 : BitVec 32 := 16#32
  let v1106 : BitVec 32 := Scalar.muli v1103 c16_i32_705
  let c128_i32_706 : BitVec 32 := 128#32
  let v1107 : BitVec 1 := Scalar.cmpi .slt v1106 c128_i32_706
  let v1108 : BitVec 1 := Scalar.andi v1105 v1107
  let v1109 : BitVec 32 := Scalar.extui v1108
  let c0_i32_707 : BitVec 32 := 0#32
  let v1110 : BitVec 1 := Scalar.cmpi .ne v1109 c0_i32_707
  v1110

def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_696 : BitVec 32 := 30#32
  let v1093 : BitVec 32 := Scalar.addi v2 c30_i32_696
  let c32_i32_697 : BitVec 32 := 32#32
  let c0_i32_698 : BitVec 32 := 0#32
  let v1094 : BitVec 1 := Scalar.cmpi .eq c32_i32_697 c0_i32_698
  let c1_i32_699 : BitVec 32 := 1#32
  let v1095 : BitVec 32 := Scalar.select v1094 c1_i32_699 c32_i32_697
  let v1096 : BitVec 32 := Scalar.remsi v1093 v1095
  let c0_i32_701 : BitVec 32 := 0#32
  let v1098 : BitVec 1 := Scalar.cmpi .slt v1096 c0_i32_701
  let c0_i32_702 : BitVec 32 := 0#32
  let v1099 : BitVec 1 := Scalar.cmpi .slt v1095 c0_i32_702
  let v1100 : BitVec 1 := Scalar.xori v1098 v1099
  let c0_i32_700 : BitVec 32 := 0#32
  let v1097 : BitVec 1 := Scalar.cmpi .ne v1096 c0_i32_700
  let v1101 : BitVec 1 := Scalar.andi v1100 v1097
  let v1102 : BitVec 32 := Scalar.addi v1096 v1095
  let v1103 : BitVec 32 := Scalar.select v1101 v1102 v1096
  let c16_i32_2380 : BitVec 32 := 16#32
  let v3205 : BitVec 32 := Scalar.muli v1103 c16_i32_2380
  let c0_i32_2388 : BitVec 32 := 0#32
  ![v3205.toNat, 0]
def k0_dev62 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_696 : BitVec 32 := 30#32
  let v1093 : BitVec 32 := Scalar.addi v2 c30_i32_696
  let c32_i32_697 : BitVec 32 := 32#32
  let c0_i32_698 : BitVec 32 := 0#32
  let v1094 : BitVec 1 := Scalar.cmpi .eq c32_i32_697 c0_i32_698
  let c1_i32_699 : BitVec 32 := 1#32
  let v1095 : BitVec 32 := Scalar.select v1094 c1_i32_699 c32_i32_697
  let v1096 : BitVec 32 := Scalar.remsi v1093 v1095
  let c0_i32_701 : BitVec 32 := 0#32
  let v1098 : BitVec 1 := Scalar.cmpi .slt v1096 c0_i32_701
  let c0_i32_702 : BitVec 32 := 0#32
  let v1099 : BitVec 1 := Scalar.cmpi .slt v1095 c0_i32_702
  let v1100 : BitVec 1 := Scalar.xori v1098 v1099
  let c0_i32_700 : BitVec 32 := 0#32
  let v1097 : BitVec 1 := Scalar.cmpi .ne v1096 c0_i32_700
  let v1101 : BitVec 1 := Scalar.andi v1100 v1097
  let v1102 : BitVec 32 := Scalar.addi v1096 v1095
  let v1103 : BitVec 32 := Scalar.select v1101 v1102 v1096
  let c1_i32_2384 : BitVec 32 := 1#32
  let v3206 : BitVec 32 := Scalar.muli v1103 c1_i32_2384
  let v3207 : BitVec 32 := Scalar.addi c0_i32_2385 v3206
  v3207.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_708 : BitVec 32 := 31#32
  let v1111 : BitVec 32 := Scalar.addi v2 c31_i32_708
  let c32_i32_709 : BitVec 32 := 32#32
  let c0_i32_710 : BitVec 32 := 0#32
  let v1112 : BitVec 1 := Scalar.cmpi .eq c32_i32_709 c0_i32_710
  let c1_i32_711 : BitVec 32 := 1#32
  let v1113 : BitVec 32 := Scalar.select v1112 c1_i32_711 c32_i32_709
  let v1114 : BitVec 32 := Scalar.remsi v1111 v1113
  let c0_i32_713 : BitVec 32 := 0#32
  let v1116 : BitVec 1 := Scalar.cmpi .slt v1114 c0_i32_713
  let c0_i32_714 : BitVec 32 := 0#32
  let v1117 : BitVec 1 := Scalar.cmpi .slt v1113 c0_i32_714
  let v1118 : BitVec 1 := Scalar.xori v1116 v1117
  let c0_i32_712 : BitVec 32 := 0#32
  let v1115 : BitVec 1 := Scalar.cmpi .ne v1114 c0_i32_712
  let v1119 : BitVec 1 := Scalar.andi v1118 v1115
  let v1120 : BitVec 32 := Scalar.addi v1114 v1113
  let v1121 : BitVec 32 := Scalar.select v1119 v1120 v1114
  let c16_i32_715 : BitVec 32 := 16#32
  let v1122 : BitVec 32 := Scalar.muli v1121 c16_i32_715
  let c0_i32_716 : BitVec 32 := 0#32
  let v1123 : BitVec 1 := Scalar.cmpi .sge v1122 c0_i32_716
  let c16_i32_717 : BitVec 32 := 16#32
  let v1124 : BitVec 32 := Scalar.muli v1121 c16_i32_717
  let c128_i32_718 : BitVec 32 := 128#32
  let v1125 : BitVec 1 := Scalar.cmpi .slt v1124 c128_i32_718
  let v1126 : BitVec 1 := Scalar.andi v1123 v1125
  let v1127 : BitVec 32 := Scalar.extui v1126
  let c0_i32_719 : BitVec 32 := 0#32
  let v1128 : BitVec 1 := Scalar.cmpi .ne v1127 c0_i32_719
  v1128

def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_708 : BitVec 32 := 31#32
  let v1111 : BitVec 32 := Scalar.addi v2 c31_i32_708
  let c32_i32_709 : BitVec 32 := 32#32
  let c0_i32_710 : BitVec 32 := 0#32
  let v1112 : BitVec 1 := Scalar.cmpi .eq c32_i32_709 c0_i32_710
  let c1_i32_711 : BitVec 32 := 1#32
  let v1113 : BitVec 32 := Scalar.select v1112 c1_i32_711 c32_i32_709
  let v1114 : BitVec 32 := Scalar.remsi v1111 v1113
  let c0_i32_713 : BitVec 32 := 0#32
  let v1116 : BitVec 1 := Scalar.cmpi .slt v1114 c0_i32_713
  let c0_i32_714 : BitVec 32 := 0#32
  let v1117 : BitVec 1 := Scalar.cmpi .slt v1113 c0_i32_714
  let v1118 : BitVec 1 := Scalar.xori v1116 v1117
  let c0_i32_712 : BitVec 32 := 0#32
  let v1115 : BitVec 1 := Scalar.cmpi .ne v1114 c0_i32_712
  let v1119 : BitVec 1 := Scalar.andi v1118 v1115
  let v1120 : BitVec 32 := Scalar.addi v1114 v1113
  let v1121 : BitVec 32 := Scalar.select v1119 v1120 v1114
  let c16_i32_2380 : BitVec 32 := 16#32
  let v3205 : BitVec 32 := Scalar.muli v1121 c16_i32_2380
  let c0_i32_2388 : BitVec 32 := 0#32
  ![v3205.toNat, 0]
def k0_dev63 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_708 : BitVec 32 := 31#32
  let v1111 : BitVec 32 := Scalar.addi v2 c31_i32_708
  let c32_i32_709 : BitVec 32 := 32#32
  let c0_i32_710 : BitVec 32 := 0#32
  let v1112 : BitVec 1 := Scalar.cmpi .eq c32_i32_709 c0_i32_710
  let c1_i32_711 : BitVec 32 := 1#32
  let v1113 : BitVec 32 := Scalar.select v1112 c1_i32_711 c32_i32_709
  let v1114 : BitVec 32 := Scalar.remsi v1111 v1113
  let c0_i32_713 : BitVec 32 := 0#32
  let v1116 : BitVec 1 := Scalar.cmpi .slt v1114 c0_i32_713
  let c0_i32_714 : BitVec 32 := 0#32
  let v1117 : BitVec 1 := Scalar.cmpi .slt v1113 c0_i32_714
  let v1118 : BitVec 1 := Scalar.xori v1116 v1117
  let c0_i32_712 : BitVec 32 := 0#32
  let v1115 : BitVec 1 := Scalar.cmpi .ne v1114 c0_i32_712
  let v1119 : BitVec 1 := Scalar.andi v1118 v1115
  let v1120 : BitVec 32 := Scalar.addi v1114 v1113
  let v1121 : BitVec 32 := Scalar.select v1119 v1120 v1114
  let c1_i32_2384 : BitVec 32 := 1#32
  let v3206 : BitVec 32 := Scalar.muli v1121 c1_i32_2384
  let v3207 : BitVec 32 := Scalar.addi c0_i32_2385 v3206
  v3207.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_722 : BitVec 32 := 1#32
  let v1135 : BitVec 32 := Scalar.addi v2 c1_i32_722
  let c32_i32_723 : BitVec 32 := 32#32
  let c0_i32_724 : BitVec 32 := 0#32
  let v1136 : BitVec 1 := Scalar.cmpi .eq c32_i32_723 c0_i32_724
  let c1_i32_725 : BitVec 32 := 1#32
  let v1137 : BitVec 32 := Scalar.select v1136 c1_i32_725 c32_i32_723
  let v1138 : BitVec 32 := Scalar.remsi v1135 v1137
  let c0_i32_727 : BitVec 32 := 0#32
  let v1140 : BitVec 1 := Scalar.cmpi .slt v1138 c0_i32_727
  let c0_i32_728 : BitVec 32 := 0#32
  let v1141 : BitVec 1 := Scalar.cmpi .slt v1137 c0_i32_728
  let v1142 : BitVec 1 := Scalar.xori v1140 v1141
  let c0_i32_726 : BitVec 32 := 0#32
  let v1139 : BitVec 1 := Scalar.cmpi .ne v1138 c0_i32_726
  let v1143 : BitVec 1 := Scalar.andi v1142 v1139
  let v1144 : BitVec 32 := Scalar.addi v1138 v1137
  let v1145 : BitVec 32 := Scalar.select v1143 v1144 v1138
  let c16_i32_729 : BitVec 32 := 16#32
  let v1146 : BitVec 32 := Scalar.muli v1145 c16_i32_729
  let c128_i32_730 : BitVec 32 := 128#32
  let v1147 : BitVec 1 := Scalar.cmpi .sge v1146 c128_i32_730
  let c16_i32_731 : BitVec 32 := 16#32
  let v1148 : BitVec 32 := Scalar.muli v1145 c16_i32_731
  let c256_i32 : BitVec 32 := 256#32
  let v1149 : BitVec 1 := Scalar.cmpi .slt v1148 c256_i32
  let v1150 : BitVec 1 := Scalar.andi v1147 v1149
  let v1151 : BitVec 32 := Scalar.extui v1150
  let c0_i32_732 : BitVec 32 := 0#32
  let v1152 : BitVec 1 := Scalar.cmpi .ne v1151 c0_i32_732
  v1152

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_722 : BitVec 32 := 1#32
  let v1135 : BitVec 32 := Scalar.addi v2 c1_i32_722
  let c32_i32_723 : BitVec 32 := 32#32
  let c0_i32_724 : BitVec 32 := 0#32
  let v1136 : BitVec 1 := Scalar.cmpi .eq c32_i32_723 c0_i32_724
  let c1_i32_725 : BitVec 32 := 1#32
  let v1137 : BitVec 32 := Scalar.select v1136 c1_i32_725 c32_i32_723
  let v1138 : BitVec 32 := Scalar.remsi v1135 v1137
  let c0_i32_727 : BitVec 32 := 0#32
  let v1140 : BitVec 1 := Scalar.cmpi .slt v1138 c0_i32_727
  let c0_i32_728 : BitVec 32 := 0#32
  let v1141 : BitVec 1 := Scalar.cmpi .slt v1137 c0_i32_728
  let v1142 : BitVec 1 := Scalar.xori v1140 v1141
  let c0_i32_726 : BitVec 32 := 0#32
  let v1139 : BitVec 1 := Scalar.cmpi .ne v1138 c0_i32_726
  let v1143 : BitVec 1 := Scalar.andi v1142 v1139
  let v1144 : BitVec 32 := Scalar.addi v1138 v1137
  let v1145 : BitVec 32 := Scalar.select v1143 v1144 v1138
  let c16_i32_2380 : BitVec 32 := 16#32
  let v3205 : BitVec 32 := Scalar.muli v1145 c16_i32_2380
  let c0_i32_2388 : BitVec 32 := 0#32
  ![v3205.toNat, 0]
def k0_dev64 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_722 : BitVec 32 := 1#32
  let v1135 : BitVec 32 := Scalar.addi v2 c1_i32_722
  let c32_i32_723 : BitVec 32 := 32#32
  let c0_i32_724 : BitVec 32 := 0#32
  let v1136 : BitVec 1 := Scalar.cmpi .eq c32_i32_723 c0_i32_724
  let c1_i32_725 : BitVec 32 := 1#32
  let v1137 : BitVec 32 := Scalar.select v1136 c1_i32_725 c32_i32_723
  let v1138 : BitVec 32 := Scalar.remsi v1135 v1137
  let c0_i32_727 : BitVec 32 := 0#32
  let v1140 : BitVec 1 := Scalar.cmpi .slt v1138 c0_i32_727
  let c0_i32_728 : BitVec 32 := 0#32
  let v1141 : BitVec 1 := Scalar.cmpi .slt v1137 c0_i32_728
  let v1142 : BitVec 1 := Scalar.xori v1140 v1141
  let c0_i32_726 : BitVec 32 := 0#32
  let v1139 : BitVec 1 := Scalar.cmpi .ne v1138 c0_i32_726
  let v1143 : BitVec 1 := Scalar.andi v1142 v1139
  let v1144 : BitVec 32 := Scalar.addi v1138 v1137
  let v1145 : BitVec 32 := Scalar.select v1143 v1144 v1138
  let c1_i32_2384 : BitVec 32 := 1#32
  let v3206 : BitVec 32 := Scalar.muli v1145 c1_i32_2384
  let v3207 : BitVec 32 := Scalar.addi c0_i32_2385 v3206
  v3207.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_733 : BitVec 32 := 2#32
  let v1153 : BitVec 32 := Scalar.addi v2 c2_i32_733
  let c32_i32_734 : BitVec 32 := 32#32
  let c0_i32_735 : BitVec 32 := 0#32
  let v1154 : BitVec 1 := Scalar.cmpi .eq c32_i32_734 c0_i32_735
  let c1_i32_736 : BitVec 32 := 1#32
  let v1155 : BitVec 32 := Scalar.select v1154 c1_i32_736 c32_i32_734
  let v1156 : BitVec 32 := Scalar.remsi v1153 v1155
  let c0_i32_738 : BitVec 32 := 0#32
  let v1158 : BitVec 1 := Scalar.cmpi .slt v1156 c0_i32_738
  let c0_i32_739 : BitVec 32 := 0#32
  let v1159 : BitVec 1 := Scalar.cmpi .slt v1155 c0_i32_739
  let v1160 : BitVec 1 := Scalar.xori v1158 v1159
  let c0_i32_737 : BitVec 32 := 0#32
  let v1157 : BitVec 1 := Scalar.cmpi .ne v1156 c0_i32_737
  let v1161 : BitVec 1 := Scalar.andi v1160 v1157
  let v1162 : BitVec 32 := Scalar.addi v1156 v1155
  let v1163 : BitVec 32 := Scalar.select v1161 v1162 v1156
  let c16_i32_740 : BitVec 32 := 16#32
  let v1164 : BitVec 32 := Scalar.muli v1163 c16_i32_740
  let c128_i32_741 : BitVec 32 := 128#32
  let v1165 : BitVec 1 := Scalar.cmpi .sge v1164 c128_i32_741
  let c16_i32_742 : BitVec 32 := 16#32
  let v1166 : BitVec 32 := Scalar.muli v1163 c16_i32_742
  let c256_i32_743 : BitVec 32 := 256#32
  let v1167 : BitVec 1 := Scalar.cmpi .slt v1166 c256_i32_743
  let v1168 : BitVec 1 := Scalar.andi v1165 v1167
  let v1169 : BitVec 32 := Scalar.extui v1168
  let c0_i32_744 : BitVec 32 := 0#32
  let v1170 : BitVec 1 := Scalar.cmpi .ne v1169 c0_i32_744
  v1170

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_733 : BitVec 32 := 2#32
  let v1153 : BitVec 32 := Scalar.addi v2 c2_i32_733
  let c32_i32_734 : BitVec 32 := 32#32
  let c0_i32_735 : BitVec 32 := 0#32
  let v1154 : BitVec 1 := Scalar.cmpi .eq c32_i32_734 c0_i32_735
  let c1_i32_736 : BitVec 32 := 1#32
  let v1155 : BitVec 32 := Scalar.select v1154 c1_i32_736 c32_i32_734
  let v1156 : BitVec 32 := Scalar.remsi v1153 v1155
  let c0_i32_738 : BitVec 32 := 0#32
  let v1158 : BitVec 1 := Scalar.cmpi .slt v1156 c0_i32_738
  let c0_i32_739 : BitVec 32 := 0#32
  let v1159 : BitVec 1 := Scalar.cmpi .slt v1155 c0_i32_739
  let v1160 : BitVec 1 := Scalar.xori v1158 v1159
  let c0_i32_737 : BitVec 32 := 0#32
  let v1157 : BitVec 1 := Scalar.cmpi .ne v1156 c0_i32_737
  let v1161 : BitVec 1 := Scalar.andi v1160 v1157
  let v1162 : BitVec 32 := Scalar.addi v1156 v1155
  let v1163 : BitVec 32 := Scalar.select v1161 v1162 v1156
  let c16_i32_2380 : BitVec 32 := 16#32
  let v3205 : BitVec 32 := Scalar.muli v1163 c16_i32_2380
  let c0_i32_2388 : BitVec 32 := 0#32
  ![v3205.toNat, 0]
def k0_dev65 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_733 : BitVec 32 := 2#32
  let v1153 : BitVec 32 := Scalar.addi v2 c2_i32_733
  let c32_i32_734 : BitVec 32 := 32#32
  let c0_i32_735 : BitVec 32 := 0#32
  let v1154 : BitVec 1 := Scalar.cmpi .eq c32_i32_734 c0_i32_735
  let c1_i32_736 : BitVec 32 := 1#32
  let v1155 : BitVec 32 := Scalar.select v1154 c1_i32_736 c32_i32_734
  let v1156 : BitVec 32 := Scalar.remsi v1153 v1155
  let c0_i32_738 : BitVec 32 := 0#32
  let v1158 : BitVec 1 := Scalar.cmpi .slt v1156 c0_i32_738
  let c0_i32_739 : BitVec 32 := 0#32
  let v1159 : BitVec 1 := Scalar.cmpi .slt v1155 c0_i32_739
  let v1160 : BitVec 1 := Scalar.xori v1158 v1159
  let c0_i32_737 : BitVec 32 := 0#32
  let v1157 : BitVec 1 := Scalar.cmpi .ne v1156 c0_i32_737
  let v1161 : BitVec 1 := Scalar.andi v1160 v1157
  let v1162 : BitVec 32 := Scalar.addi v1156 v1155
  let v1163 : BitVec 32 := Scalar.select v1161 v1162 v1156
  let c1_i32_2384 : BitVec 32 := 1#32
  let v3206 : BitVec 32 := Scalar.muli v1163 c1_i32_2384
  let v3207 : BitVec 32 := Scalar.addi c0_i32_2385 v3206
  v3207.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_745 : BitVec 32 := 3#32
  let v1171 : BitVec 32 := Scalar.addi v2 c3_i32_745
  let c32_i32_746 : BitVec 32 := 32#32
  let c0_i32_747 : BitVec 32 := 0#32
  let v1172 : BitVec 1 := Scalar.cmpi .eq c32_i32_746 c0_i32_747
  let c1_i32_748 : BitVec 32 := 1#32
  let v1173 : BitVec 32 := Scalar.select v1172 c1_i32_748 c32_i32_746
  let v1174 : BitVec 32 := Scalar.remsi v1171 v1173
  let c0_i32_750 : BitVec 32 := 0#32
  let v1176 : BitVec 1 := Scalar.cmpi .slt v1174 c0_i32_750
  let c0_i32_751 : BitVec 32 := 0#32
  let v1177 : BitVec 1 := Scalar.cmpi .slt v1173 c0_i32_751
  let v1178 : BitVec 1 := Scalar.xori v1176 v1177
  let c0_i32_749 : BitVec 32 := 0#32
  let v1175 : BitVec 1 := Scalar.cmpi .ne v1174 c0_i32_749
  let v1179 : BitVec 1 := Scalar.andi v1178 v1175
  let v1180 : BitVec 32 := Scalar.addi v1174 v1173
  let v1181 : BitVec 32 := Scalar.select v1179 v1180 v1174
  let c16_i32_752 : BitVec 32 := 16#32
  let v1182 : BitVec 32 := Scalar.muli v1181 c16_i32_752
  let c128_i32_753 : BitVec 32 := 128#32
  let v1183 : BitVec 1 := Scalar.cmpi .sge v1182 c128_i32_753
  let c16_i32_754 : BitVec 32 := 16#32
  let v1184 : BitVec 32 := Scalar.muli v1181 c16_i32_754
  let c256_i32_755 : BitVec 32 := 256#32
  let v1185 : BitVec 1 := Scalar.cmpi .slt v1184 c256_i32_755
  let v1186 : BitVec 1 := Scalar.andi v1183 v1185
  let v1187 : BitVec 32 := Scalar.extui v1186
  let c0_i32_756 : BitVec 32 := 0#32
  let v1188 : BitVec 1 := Scalar.cmpi .ne v1187 c0_i32_756
  v1188

def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_745 : BitVec 32 := 3#32
  let v1171 : BitVec 32 := Scalar.addi v2 c3_i32_745
  let c32_i32_746 : BitVec 32 := 32#32
  let c0_i32_747 : BitVec 32 := 0#32
  let v1172 : BitVec 1 := Scalar.cmpi .eq c32_i32_746 c0_i32_747
  let c1_i32_748 : BitVec 32 := 1#32
  let v1173 : BitVec 32 := Scalar.select v1172 c1_i32_748 c32_i32_746
  let v1174 : BitVec 32 := Scalar.remsi v1171 v1173
  let c0_i32_750 : BitVec 32 := 0#32
  let v1176 : BitVec 1 := Scalar.cmpi .slt v1174 c0_i32_750
  let c0_i32_751 : BitVec 32 := 0#32
  let v1177 : BitVec 1 := Scalar.cmpi .slt v1173 c0_i32_751
  let v1178 : BitVec 1 := Scalar.xori v1176 v1177
  let c0_i32_749 : BitVec 32 := 0#32
  let v1175 : BitVec 1 := Scalar.cmpi .ne v1174 c0_i32_749
  let v1179 : BitVec 1 := Scalar.andi v1178 v1175
  let v1180 : BitVec 32 := Scalar.addi v1174 v1173
  let v1181 : BitVec 32 := Scalar.select v1179 v1180 v1174
  let c16_i32_2380 : BitVec 32 := 16#32
  let v3205 : BitVec 32 := Scalar.muli v1181 c16_i32_2380
  let c0_i32_2388 : BitVec 32 := 0#32
  ![v3205.toNat, 0]
def k0_dev66 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_745 : BitVec 32 := 3#32
  let v1171 : BitVec 32 := Scalar.addi v2 c3_i32_745
  let c32_i32_746 : BitVec 32 := 32#32
  let c0_i32_747 : BitVec 32 := 0#32
  let v1172 : BitVec 1 := Scalar.cmpi .eq c32_i32_746 c0_i32_747
  let c1_i32_748 : BitVec 32 := 1#32
  let v1173 : BitVec 32 := Scalar.select v1172 c1_i32_748 c32_i32_746
  let v1174 : BitVec 32 := Scalar.remsi v1171 v1173
  let c0_i32_750 : BitVec 32 := 0#32
  let v1176 : BitVec 1 := Scalar.cmpi .slt v1174 c0_i32_750
  let c0_i32_751 : BitVec 32 := 0#32
  let v1177 : BitVec 1 := Scalar.cmpi .slt v1173 c0_i32_751
  let v1178 : BitVec 1 := Scalar.xori v1176 v1177
  let c0_i32_749 : BitVec 32 := 0#32
  let v1175 : BitVec 1 := Scalar.cmpi .ne v1174 c0_i32_749
  let v1179 : BitVec 1 := Scalar.andi v1178 v1175
  let v1180 : BitVec 32 := Scalar.addi v1174 v1173
  let v1181 : BitVec 32 := Scalar.select v1179 v1180 v1174
  let c1_i32_2384 : BitVec 32 := 1#32
  let v3206 : BitVec 32 := Scalar.muli v1181 c1_i32_2384
  let v3207 : BitVec 32 := Scalar.addi c0_i32_2385 v3206
  v3207.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_757 : BitVec 32 := 4#32
  let v1189 : BitVec 32 := Scalar.addi v2 c4_i32_757
  let c32_i32_758 : BitVec 32 := 32#32
  let c0_i32_759 : BitVec 32 := 0#32
  let v1190 : BitVec 1 := Scalar.cmpi .eq c32_i32_758 c0_i32_759
  let c1_i32_760 : BitVec 32 := 1#32
  let v1191 : BitVec 32 := Scalar.select v1190 c1_i32_760 c32_i32_758
  let v1192 : BitVec 32 := Scalar.remsi v1189 v1191
  let c0_i32_762 : BitVec 32 := 0#32
  let v1194 : BitVec 1 := Scalar.cmpi .slt v1192 c0_i32_762
  let c0_i32_763 : BitVec 32 := 0#32
  let v1195 : BitVec 1 := Scalar.cmpi .slt v1191 c0_i32_763
  let v1196 : BitVec 1 := Scalar.xori v1194 v1195
  let c0_i32_761 : BitVec 32 := 0#32
  let v1193 : BitVec 1 := Scalar.cmpi .ne v1192 c0_i32_761
  let v1197 : BitVec 1 := Scalar.andi v1196 v1193
  let v1198 : BitVec 32 := Scalar.addi v1192 v1191
  let v1199 : BitVec 32 := Scalar.select v1197 v1198 v1192
  let c16_i32_764 : BitVec 32 := 16#32
  let v1200 : BitVec 32 := Scalar.muli v1199 c16_i32_764
  let c128_i32_765 : BitVec 32 := 128#32
  let v1201 : BitVec 1 := Scalar.cmpi .sge v1200 c128_i32_765
  let c16_i32_766 : BitVec 32 := 16#32
  let v1202 : BitVec 32 := Scalar.muli v1199 c16_i32_766
  let c256_i32_767 : BitVec 32 := 256#32
  let v1203 : BitVec 1 := Scalar.cmpi .slt v1202 c256_i32_767
  let v1204 : BitVec 1 := Scalar.andi v1201 v1203
  let v1205 : BitVec 32 := Scalar.extui v1204
  let c0_i32_768 : BitVec 32 := 0#32
  let v1206 : BitVec 1 := Scalar.cmpi .ne v1205 c0_i32_768
  v1206

def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_757 : BitVec 32 := 4#32
  let v1189 : BitVec 32 := Scalar.addi v2 c4_i32_757
  let c32_i32_758 : BitVec 32 := 32#32
  let c0_i32_759 : BitVec 32 := 0#32
  let v1190 : BitVec 1 := Scalar.cmpi .eq c32_i32_758 c0_i32_759
  let c1_i32_760 : BitVec 32 := 1#32
  let v1191 : BitVec 32 := Scalar.select v1190 c1_i32_760 c32_i32_758
  let v1192 : BitVec 32 := Scalar.remsi v1189 v1191
  let c0_i32_762 : BitVec 32 := 0#32
  let v1194 : BitVec 1 := Scalar.cmpi .slt v1192 c0_i32_762
  let c0_i32_763 : BitVec 32 := 0#32
  let v1195 : BitVec 1 := Scalar.cmpi .slt v1191 c0_i32_763
  let v1196 : BitVec 1 := Scalar.xori v1194 v1195
  let c0_i32_761 : BitVec 32 := 0#32
  let v1193 : BitVec 1 := Scalar.cmpi .ne v1192 c0_i32_761
  let v1197 : BitVec 1 := Scalar.andi v1196 v1193
  let v1198 : BitVec 32 := Scalar.addi v1192 v1191
  let v1199 : BitVec 32 := Scalar.select v1197 v1198 v1192
  let c16_i32_2380 : BitVec 32 := 16#32
  let v3205 : BitVec 32 := Scalar.muli v1199 c16_i32_2380
  let c0_i32_2388 : BitVec 32 := 0#32
  ![v3205.toNat, 0]
def k0_dev67 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_757 : BitVec 32 := 4#32
  let v1189 : BitVec 32 := Scalar.addi v2 c4_i32_757
  let c32_i32_758 : BitVec 32 := 32#32
  let c0_i32_759 : BitVec 32 := 0#32
  let v1190 : BitVec 1 := Scalar.cmpi .eq c32_i32_758 c0_i32_759
  let c1_i32_760 : BitVec 32 := 1#32
  let v1191 : BitVec 32 := Scalar.select v1190 c1_i32_760 c32_i32_758
  let v1192 : BitVec 32 := Scalar.remsi v1189 v1191
  let c0_i32_762 : BitVec 32 := 0#32
  let v1194 : BitVec 1 := Scalar.cmpi .slt v1192 c0_i32_762
  let c0_i32_763 : BitVec 32 := 0#32
  let v1195 : BitVec 1 := Scalar.cmpi .slt v1191 c0_i32_763
  let v1196 : BitVec 1 := Scalar.xori v1194 v1195
  let c0_i32_761 : BitVec 32 := 0#32
  let v1193 : BitVec 1 := Scalar.cmpi .ne v1192 c0_i32_761
  let v1197 : BitVec 1 := Scalar.andi v1196 v1193
  let v1198 : BitVec 32 := Scalar.addi v1192 v1191
  let v1199 : BitVec 32 := Scalar.select v1197 v1198 v1192
  let c1_i32_2384 : BitVec 32 := 1#32
  let v3206 : BitVec 32 := Scalar.muli v1199 c1_i32_2384
  let v3207 : BitVec 32 := Scalar.addi c0_i32_2385 v3206
  v3207.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_769 : BitVec 32 := 5#32
  let v1207 : BitVec 32 := Scalar.addi v2 c5_i32_769
  let c32_i32_770 : BitVec 32 := 32#32
  let c0_i32_771 : BitVec 32 := 0#32
  let v1208 : BitVec 1 := Scalar.cmpi .eq c32_i32_770 c0_i32_771
  let c1_i32_772 : BitVec 32 := 1#32
  let v1209 : BitVec 32 := Scalar.select v1208 c1_i32_772 c32_i32_770
  let v1210 : BitVec 32 := Scalar.remsi v1207 v1209
  let c0_i32_774 : BitVec 32 := 0#32
  let v1212 : BitVec 1 := Scalar.cmpi .slt v1210 c0_i32_774
  let c0_i32_775 : BitVec 32 := 0#32
  let v1213 : BitVec 1 := Scalar.cmpi .slt v1209 c0_i32_775
  let v1214 : BitVec 1 := Scalar.xori v1212 v1213
  let c0_i32_773 : BitVec 32 := 0#32
  let v1211 : BitVec 1 := Scalar.cmpi .ne v1210 c0_i32_773
  let v1215 : BitVec 1 := Scalar.andi v1214 v1211
  let v1216 : BitVec 32 := Scalar.addi v1210 v1209
  let v1217 : BitVec 32 := Scalar.select v1215 v1216 v1210
  let c16_i32_776 : BitVec 32 := 16#32
  let v1218 : BitVec 32 := Scalar.muli v1217 c16_i32_776
  let c128_i32_777 : BitVec 32 := 128#32
  let v1219 : BitVec 1 := Scalar.cmpi .sge v1218 c128_i32_777
  let c16_i32_778 : BitVec 32 := 16#32
  let v1220 : BitVec 32 := Scalar.muli v1217 c16_i32_778
  let c256_i32_779 : BitVec 32 := 256#32
  let v1221 : BitVec 1 := Scalar.cmpi .slt v1220 c256_i32_779
  let v1222 : BitVec 1 := Scalar.andi v1219 v1221
  let v1223 : BitVec 32 := Scalar.extui v1222
  let c0_i32_780 : BitVec 32 := 0#32
  let v1224 : BitVec 1 := Scalar.cmpi .ne v1223 c0_i32_780
  v1224

def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_769 : BitVec 32 := 5#32
  let v1207 : BitVec 32 := Scalar.addi v2 c5_i32_769
  let c32_i32_770 : BitVec 32 := 32#32
  let c0_i32_771 : BitVec 32 := 0#32
  let v1208 : BitVec 1 := Scalar.cmpi .eq c32_i32_770 c0_i32_771
  let c1_i32_772 : BitVec 32 := 1#32
  let v1209 : BitVec 32 := Scalar.select v1208 c1_i32_772 c32_i32_770
  let v1210 : BitVec 32 := Scalar.remsi v1207 v1209
  let c0_i32_774 : BitVec 32 := 0#32
  let v1212 : BitVec 1 := Scalar.cmpi .slt v1210 c0_i32_774
  let c0_i32_775 : BitVec 32 := 0#32
  let v1213 : BitVec 1 := Scalar.cmpi .slt v1209 c0_i32_775
  let v1214 : BitVec 1 := Scalar.xori v1212 v1213
  let c0_i32_773 : BitVec 32 := 0#32
  let v1211 : BitVec 1 := Scalar.cmpi .ne v1210 c0_i32_773
  let v1215 : BitVec 1 := Scalar.andi v1214 v1211
  let v1216 : BitVec 32 := Scalar.addi v1210 v1209
  let v1217 : BitVec 32 := Scalar.select v1215 v1216 v1210
  let c16_i32_2380 : BitVec 32 := 16#32
  let v3205 : BitVec 32 := Scalar.muli v1217 c16_i32_2380
  let c0_i32_2388 : BitVec 32 := 0#32
  ![v3205.toNat, 0]
def k0_dev68 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_769 : BitVec 32 := 5#32
  let v1207 : BitVec 32 := Scalar.addi v2 c5_i32_769
  let c32_i32_770 : BitVec 32 := 32#32
  let c0_i32_771 : BitVec 32 := 0#32
  let v1208 : BitVec 1 := Scalar.cmpi .eq c32_i32_770 c0_i32_771
  let c1_i32_772 : BitVec 32 := 1#32
  let v1209 : BitVec 32 := Scalar.select v1208 c1_i32_772 c32_i32_770
  let v1210 : BitVec 32 := Scalar.remsi v1207 v1209
  let c0_i32_774 : BitVec 32 := 0#32
  let v1212 : BitVec 1 := Scalar.cmpi .slt v1210 c0_i32_774
  let c0_i32_775 : BitVec 32 := 0#32
  let v1213 : BitVec 1 := Scalar.cmpi .slt v1209 c0_i32_775
  let v1214 : BitVec 1 := Scalar.xori v1212 v1213
  let c0_i32_773 : BitVec 32 := 0#32
  let v1211 : BitVec 1 := Scalar.cmpi .ne v1210 c0_i32_773
  let v1215 : BitVec 1 := Scalar.andi v1214 v1211
  let v1216 : BitVec 32 := Scalar.addi v1210 v1209
  let v1217 : BitVec 32 := Scalar.select v1215 v1216 v1210
  let c1_i32_2384 : BitVec 32 := 1#32
  let v3206 : BitVec 32 := Scalar.muli v1217 c1_i32_2384
  let v3207 : BitVec 32 := Scalar.addi c0_i32_2385 v3206
  v3207.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_781 : BitVec 32 := 6#32
  let v1225 : BitVec 32 := Scalar.addi v2 c6_i32_781
  let c32_i32_782 : BitVec 32 := 32#32
  let c0_i32_783 : BitVec 32 := 0#32
  let v1226 : BitVec 1 := Scalar.cmpi .eq c32_i32_782 c0_i32_783
  let c1_i32_784 : BitVec 32 := 1#32
  let v1227 : BitVec 32 := Scalar.select v1226 c1_i32_784 c32_i32_782
  let v1228 : BitVec 32 := Scalar.remsi v1225 v1227
  let c0_i32_786 : BitVec 32 := 0#32
  let v1230 : BitVec 1 := Scalar.cmpi .slt v1228 c0_i32_786
  let c0_i32_787 : BitVec 32 := 0#32
  let v1231 : BitVec 1 := Scalar.cmpi .slt v1227 c0_i32_787
  let v1232 : BitVec 1 := Scalar.xori v1230 v1231
  let c0_i32_785 : BitVec 32 := 0#32
  let v1229 : BitVec 1 := Scalar.cmpi .ne v1228 c0_i32_785
  let v1233 : BitVec 1 := Scalar.andi v1232 v1229
  let v1234 : BitVec 32 := Scalar.addi v1228 v1227
  let v1235 : BitVec 32 := Scalar.select v1233 v1234 v1228
  let c16_i32_788 : BitVec 32 := 16#32
  let v1236 : BitVec 32 := Scalar.muli v1235 c16_i32_788
  let c128_i32_789 : BitVec 32 := 128#32
  let v1237 : BitVec 1 := Scalar.cmpi .sge v1236 c128_i32_789
  let c16_i32_790 : BitVec 32 := 16#32
  let v1238 : BitVec 32 := Scalar.muli v1235 c16_i32_790
  let c256_i32_791 : BitVec 32 := 256#32
  let v1239 : BitVec 1 := Scalar.cmpi .slt v1238 c256_i32_791
  let v1240 : BitVec 1 := Scalar.andi v1237 v1239
  let v1241 : BitVec 32 := Scalar.extui v1240
  let c0_i32_792 : BitVec 32 := 0#32
  let v1242 : BitVec 1 := Scalar.cmpi .ne v1241 c0_i32_792
  v1242

def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_781 : BitVec 32 := 6#32
  let v1225 : BitVec 32 := Scalar.addi v2 c6_i32_781
  let c32_i32_782 : BitVec 32 := 32#32
  let c0_i32_783 : BitVec 32 := 0#32
  let v1226 : BitVec 1 := Scalar.cmpi .eq c32_i32_782 c0_i32_783
  let c1_i32_784 : BitVec 32 := 1#32
  let v1227 : BitVec 32 := Scalar.select v1226 c1_i32_784 c32_i32_782
  let v1228 : BitVec 32 := Scalar.remsi v1225 v1227
  let c0_i32_786 : BitVec 32 := 0#32
  let v1230 : BitVec 1 := Scalar.cmpi .slt v1228 c0_i32_786
  let c0_i32_787 : BitVec 32 := 0#32
  let v1231 : BitVec 1 := Scalar.cmpi .slt v1227 c0_i32_787
  let v1232 : BitVec 1 := Scalar.xori v1230 v1231
  let c0_i32_785 : BitVec 32 := 0#32
  let v1229 : BitVec 1 := Scalar.cmpi .ne v1228 c0_i32_785
  let v1233 : BitVec 1 := Scalar.andi v1232 v1229
  let v1234 : BitVec 32 := Scalar.addi v1228 v1227
  let v1235 : BitVec 32 := Scalar.select v1233 v1234 v1228
  let c16_i32_2380 : BitVec 32 := 16#32
  let v3205 : BitVec 32 := Scalar.muli v1235 c16_i32_2380
  let c0_i32_2388 : BitVec 32 := 0#32
  ![v3205.toNat, 0]
def k0_dev69 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_781 : BitVec 32 := 6#32
  let v1225 : BitVec 32 := Scalar.addi v2 c6_i32_781
  let c32_i32_782 : BitVec 32 := 32#32
  let c0_i32_783 : BitVec 32 := 0#32
  let v1226 : BitVec 1 := Scalar.cmpi .eq c32_i32_782 c0_i32_783
  let c1_i32_784 : BitVec 32 := 1#32
  let v1227 : BitVec 32 := Scalar.select v1226 c1_i32_784 c32_i32_782
  let v1228 : BitVec 32 := Scalar.remsi v1225 v1227
  let c0_i32_786 : BitVec 32 := 0#32
  let v1230 : BitVec 1 := Scalar.cmpi .slt v1228 c0_i32_786
  let c0_i32_787 : BitVec 32 := 0#32
  let v1231 : BitVec 1 := Scalar.cmpi .slt v1227 c0_i32_787
  let v1232 : BitVec 1 := Scalar.xori v1230 v1231
  let c0_i32_785 : BitVec 32 := 0#32
  let v1229 : BitVec 1 := Scalar.cmpi .ne v1228 c0_i32_785
  let v1233 : BitVec 1 := Scalar.andi v1232 v1229
  let v1234 : BitVec 32 := Scalar.addi v1228 v1227
  let v1235 : BitVec 32 := Scalar.select v1233 v1234 v1228
  let c1_i32_2384 : BitVec 32 := 1#32
  let v3206 : BitVec 32 := Scalar.muli v1235 c1_i32_2384
  let v3207 : BitVec 32 := Scalar.addi c0_i32_2385 v3206
  v3207.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_793 : BitVec 32 := 7#32
  let v1243 : BitVec 32 := Scalar.addi v2 c7_i32_793
  let c32_i32_794 : BitVec 32 := 32#32
  let c0_i32_795 : BitVec 32 := 0#32
  let v1244 : BitVec 1 := Scalar.cmpi .eq c32_i32_794 c0_i32_795
  let c1_i32_796 : BitVec 32 := 1#32
  let v1245 : BitVec 32 := Scalar.select v1244 c1_i32_796 c32_i32_794
  let v1246 : BitVec 32 := Scalar.remsi v1243 v1245
  let c0_i32_798 : BitVec 32 := 0#32
  let v1248 : BitVec 1 := Scalar.cmpi .slt v1246 c0_i32_798
  let c0_i32_799 : BitVec 32 := 0#32
  let v1249 : BitVec 1 := Scalar.cmpi .slt v1245 c0_i32_799
  let v1250 : BitVec 1 := Scalar.xori v1248 v1249
  let c0_i32_797 : BitVec 32 := 0#32
  let v1247 : BitVec 1 := Scalar.cmpi .ne v1246 c0_i32_797
  let v1251 : BitVec 1 := Scalar.andi v1250 v1247
  let v1252 : BitVec 32 := Scalar.addi v1246 v1245
  let v1253 : BitVec 32 := Scalar.select v1251 v1252 v1246
  let c16_i32_800 : BitVec 32 := 16#32
  let v1254 : BitVec 32 := Scalar.muli v1253 c16_i32_800
  let c128_i32_801 : BitVec 32 := 128#32
  let v1255 : BitVec 1 := Scalar.cmpi .sge v1254 c128_i32_801
  let c16_i32_802 : BitVec 32 := 16#32
  let v1256 : BitVec 32 := Scalar.muli v1253 c16_i32_802
  let c256_i32_803 : BitVec 32 := 256#32
  let v1257 : BitVec 1 := Scalar.cmpi .slt v1256 c256_i32_803
  let v1258 : BitVec 1 := Scalar.andi v1255 v1257
  let v1259 : BitVec 32 := Scalar.extui v1258
  let c0_i32_804 : BitVec 32 := 0#32
  let v1260 : BitVec 1 := Scalar.cmpi .ne v1259 c0_i32_804
  v1260

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_793 : BitVec 32 := 7#32
  let v1243 : BitVec 32 := Scalar.addi v2 c7_i32_793
  let c32_i32_794 : BitVec 32 := 32#32
  let c0_i32_795 : BitVec 32 := 0#32
  let v1244 : BitVec 1 := Scalar.cmpi .eq c32_i32_794 c0_i32_795
  let c1_i32_796 : BitVec 32 := 1#32
  let v1245 : BitVec 32 := Scalar.select v1244 c1_i32_796 c32_i32_794
  let v1246 : BitVec 32 := Scalar.remsi v1243 v1245
  let c0_i32_798 : BitVec 32 := 0#32
  let v1248 : BitVec 1 := Scalar.cmpi .slt v1246 c0_i32_798
  let c0_i32_799 : BitVec 32 := 0#32
  let v1249 : BitVec 1 := Scalar.cmpi .slt v1245 c0_i32_799
  let v1250 : BitVec 1 := Scalar.xori v1248 v1249
  let c0_i32_797 : BitVec 32 := 0#32
  let v1247 : BitVec 1 := Scalar.cmpi .ne v1246 c0_i32_797
  let v1251 : BitVec 1 := Scalar.andi v1250 v1247
  let v1252 : BitVec 32 := Scalar.addi v1246 v1245
  let v1253 : BitVec 32 := Scalar.select v1251 v1252 v1246
  let c16_i32_2380 : BitVec 32 := 16#32
  let v3205 : BitVec 32 := Scalar.muli v1253 c16_i32_2380
  let c0_i32_2388 : BitVec 32 := 0#32
  ![v3205.toNat, 0]
def k0_dev70 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_793 : BitVec 32 := 7#32
  let v1243 : BitVec 32 := Scalar.addi v2 c7_i32_793
  let c32_i32_794 : BitVec 32 := 32#32
  let c0_i32_795 : BitVec 32 := 0#32
  let v1244 : BitVec 1 := Scalar.cmpi .eq c32_i32_794 c0_i32_795
  let c1_i32_796 : BitVec 32 := 1#32
  let v1245 : BitVec 32 := Scalar.select v1244 c1_i32_796 c32_i32_794
  let v1246 : BitVec 32 := Scalar.remsi v1243 v1245
  let c0_i32_798 : BitVec 32 := 0#32
  let v1248 : BitVec 1 := Scalar.cmpi .slt v1246 c0_i32_798
  let c0_i32_799 : BitVec 32 := 0#32
  let v1249 : BitVec 1 := Scalar.cmpi .slt v1245 c0_i32_799
  let v1250 : BitVec 1 := Scalar.xori v1248 v1249
  let c0_i32_797 : BitVec 32 := 0#32
  let v1247 : BitVec 1 := Scalar.cmpi .ne v1246 c0_i32_797
  let v1251 : BitVec 1 := Scalar.andi v1250 v1247
  let v1252 : BitVec 32 := Scalar.addi v1246 v1245
  let v1253 : BitVec 32 := Scalar.select v1251 v1252 v1246
  let c1_i32_2384 : BitVec 32 := 1#32
  let v3206 : BitVec 32 := Scalar.muli v1253 c1_i32_2384
  let v3207 : BitVec 32 := Scalar.addi c0_i32_2385 v3206
  v3207.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_805 : BitVec 32 := 8#32
  let v1261 : BitVec 32 := Scalar.addi v2 c8_i32_805
  let c32_i32_806 : BitVec 32 := 32#32
  let c0_i32_807 : BitVec 32 := 0#32
  let v1262 : BitVec 1 := Scalar.cmpi .eq c32_i32_806 c0_i32_807
  let c1_i32_808 : BitVec 32 := 1#32
  let v1263 : BitVec 32 := Scalar.select v1262 c1_i32_808 c32_i32_806
  let v1264 : BitVec 32 := Scalar.remsi v1261 v1263
  let c0_i32_810 : BitVec 32 := 0#32
  let v1266 : BitVec 1 := Scalar.cmpi .slt v1264 c0_i32_810
  let c0_i32_811 : BitVec 32 := 0#32
  let v1267 : BitVec 1 := Scalar.cmpi .slt v1263 c0_i32_811
  let v1268 : BitVec 1 := Scalar.xori v1266 v1267
  let c0_i32_809 : BitVec 32 := 0#32
  let v1265 : BitVec 1 := Scalar.cmpi .ne v1264 c0_i32_809
  let v1269 : BitVec 1 := Scalar.andi v1268 v1265
  let v1270 : BitVec 32 := Scalar.addi v1264 v1263
  let v1271 : BitVec 32 := Scalar.select v1269 v1270 v1264
  let c16_i32_812 : BitVec 32 := 16#32
  let v1272 : BitVec 32 := Scalar.muli v1271 c16_i32_812
  let c128_i32_813 : BitVec 32 := 128#32
  let v1273 : BitVec 1 := Scalar.cmpi .sge v1272 c128_i32_813
  let c16_i32_814 : BitVec 32 := 16#32
  let v1274 : BitVec 32 := Scalar.muli v1271 c16_i32_814
  let c256_i32_815 : BitVec 32 := 256#32
  let v1275 : BitVec 1 := Scalar.cmpi .slt v1274 c256_i32_815
  let v1276 : BitVec 1 := Scalar.andi v1273 v1275
  let v1277 : BitVec 32 := Scalar.extui v1276
  let c0_i32_816 : BitVec 32 := 0#32
  let v1278 : BitVec 1 := Scalar.cmpi .ne v1277 c0_i32_816
  v1278

def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_805 : BitVec 32 := 8#32
  let v1261 : BitVec 32 := Scalar.addi v2 c8_i32_805
  let c32_i32_806 : BitVec 32 := 32#32
  let c0_i32_807 : BitVec 32 := 0#32
  let v1262 : BitVec 1 := Scalar.cmpi .eq c32_i32_806 c0_i32_807
  let c1_i32_808 : BitVec 32 := 1#32
  let v1263 : BitVec 32 := Scalar.select v1262 c1_i32_808 c32_i32_806
  let v1264 : BitVec 32 := Scalar.remsi v1261 v1263
  let c0_i32_810 : BitVec 32 := 0#32
  let v1266 : BitVec 1 := Scalar.cmpi .slt v1264 c0_i32_810
  let c0_i32_811 : BitVec 32 := 0#32
  let v1267 : BitVec 1 := Scalar.cmpi .slt v1263 c0_i32_811
  let v1268 : BitVec 1 := Scalar.xori v1266 v1267
  let c0_i32_809 : BitVec 32 := 0#32
  let v1265 : BitVec 1 := Scalar.cmpi .ne v1264 c0_i32_809
  let v1269 : BitVec 1 := Scalar.andi v1268 v1265
  let v1270 : BitVec 32 := Scalar.addi v1264 v1263
  let v1271 : BitVec 32 := Scalar.select v1269 v1270 v1264
  let c16_i32_2380 : BitVec 32 := 16#32
  let v3205 : BitVec 32 := Scalar.muli v1271 c16_i32_2380
  let c0_i32_2388 : BitVec 32 := 0#32
  ![v3205.toNat, 0]
def k0_dev71 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_805 : BitVec 32 := 8#32
  let v1261 : BitVec 32 := Scalar.addi v2 c8_i32_805
  let c32_i32_806 : BitVec 32 := 32#32
  let c0_i32_807 : BitVec 32 := 0#32
  let v1262 : BitVec 1 := Scalar.cmpi .eq c32_i32_806 c0_i32_807
  let c1_i32_808 : BitVec 32 := 1#32
  let v1263 : BitVec 32 := Scalar.select v1262 c1_i32_808 c32_i32_806
  let v1264 : BitVec 32 := Scalar.remsi v1261 v1263
  let c0_i32_810 : BitVec 32 := 0#32
  let v1266 : BitVec 1 := Scalar.cmpi .slt v1264 c0_i32_810
  let c0_i32_811 : BitVec 32 := 0#32
  let v1267 : BitVec 1 := Scalar.cmpi .slt v1263 c0_i32_811
  let v1268 : BitVec 1 := Scalar.xori v1266 v1267
  let c0_i32_809 : BitVec 32 := 0#32
  let v1265 : BitVec 1 := Scalar.cmpi .ne v1264 c0_i32_809
  let v1269 : BitVec 1 := Scalar.andi v1268 v1265
  let v1270 : BitVec 32 := Scalar.addi v1264 v1263
  let v1271 : BitVec 32 := Scalar.select v1269 v1270 v1264
  let c1_i32_2384 : BitVec 32 := 1#32
  let v3206 : BitVec 32 := Scalar.muli v1271 c1_i32_2384
  let v3207 : BitVec 32 := Scalar.addi c0_i32_2385 v3206
  v3207.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_817 : BitVec 32 := 9#32
  let v1279 : BitVec 32 := Scalar.addi v2 c9_i32_817
  let c32_i32_818 : BitVec 32 := 32#32
  let c0_i32_819 : BitVec 32 := 0#32
  let v1280 : BitVec 1 := Scalar.cmpi .eq c32_i32_818 c0_i32_819
  let c1_i32_820 : BitVec 32 := 1#32
  let v1281 : BitVec 32 := Scalar.select v1280 c1_i32_820 c32_i32_818
  let v1282 : BitVec 32 := Scalar.remsi v1279 v1281
  let c0_i32_822 : BitVec 32 := 0#32
  let v1284 : BitVec 1 := Scalar.cmpi .slt v1282 c0_i32_822
  let c0_i32_823 : BitVec 32 := 0#32
  let v1285 : BitVec 1 := Scalar.cmpi .slt v1281 c0_i32_823
  let v1286 : BitVec 1 := Scalar.xori v1284 v1285
  let c0_i32_821 : BitVec 32 := 0#32
  let v1283 : BitVec 1 := Scalar.cmpi .ne v1282 c0_i32_821
  let v1287 : BitVec 1 := Scalar.andi v1286 v1283
  let v1288 : BitVec 32 := Scalar.addi v1282 v1281
  let v1289 : BitVec 32 := Scalar.select v1287 v1288 v1282
  let c16_i32_824 : BitVec 32 := 16#32
  let v1290 : BitVec 32 := Scalar.muli v1289 c16_i32_824
  let c128_i32_825 : BitVec 32 := 128#32
  let v1291 : BitVec 1 := Scalar.cmpi .sge v1290 c128_i32_825
  let c16_i32_826 : BitVec 32 := 16#32
  let v1292 : BitVec 32 := Scalar.muli v1289 c16_i32_826
  let c256_i32_827 : BitVec 32 := 256#32
  let v1293 : BitVec 1 := Scalar.cmpi .slt v1292 c256_i32_827
  let v1294 : BitVec 1 := Scalar.andi v1291 v1293
  let v1295 : BitVec 32 := Scalar.extui v1294
  let c0_i32_828 : BitVec 32 := 0#32
  let v1296 : BitVec 1 := Scalar.cmpi .ne v1295 c0_i32_828
  v1296

def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_817 : BitVec 32 := 9#32
  let v1279 : BitVec 32 := Scalar.addi v2 c9_i32_817
  let c32_i32_818 : BitVec 32 := 32#32
  let c0_i32_819 : BitVec 32 := 0#32
  let v1280 : BitVec 1 := Scalar.cmpi .eq c32_i32_818 c0_i32_819
  let c1_i32_820 : BitVec 32 := 1#32
  let v1281 : BitVec 32 := Scalar.select v1280 c1_i32_820 c32_i32_818
  let v1282 : BitVec 32 := Scalar.remsi v1279 v1281
  let c0_i32_822 : BitVec 32 := 0#32
  let v1284 : BitVec 1 := Scalar.cmpi .slt v1282 c0_i32_822
  let c0_i32_823 : BitVec 32 := 0#32
  let v1285 : BitVec 1 := Scalar.cmpi .slt v1281 c0_i32_823
  let v1286 : BitVec 1 := Scalar.xori v1284 v1285
  let c0_i32_821 : BitVec 32 := 0#32
  let v1283 : BitVec 1 := Scalar.cmpi .ne v1282 c0_i32_821
  let v1287 : BitVec 1 := Scalar.andi v1286 v1283
  let v1288 : BitVec 32 := Scalar.addi v1282 v1281
  let v1289 : BitVec 32 := Scalar.select v1287 v1288 v1282
  let c16_i32_2380 : BitVec 32 := 16#32
  let v3205 : BitVec 32 := Scalar.muli v1289 c16_i32_2380
  let c0_i32_2388 : BitVec 32 := 0#32
  ![v3205.toNat, 0]
def k0_dev72 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_817 : BitVec 32 := 9#32
  let v1279 : BitVec 32 := Scalar.addi v2 c9_i32_817
  let c32_i32_818 : BitVec 32 := 32#32
  let c0_i32_819 : BitVec 32 := 0#32
  let v1280 : BitVec 1 := Scalar.cmpi .eq c32_i32_818 c0_i32_819
  let c1_i32_820 : BitVec 32 := 1#32
  let v1281 : BitVec 32 := Scalar.select v1280 c1_i32_820 c32_i32_818
  let v1282 : BitVec 32 := Scalar.remsi v1279 v1281
  let c0_i32_822 : BitVec 32 := 0#32
  let v1284 : BitVec 1 := Scalar.cmpi .slt v1282 c0_i32_822
  let c0_i32_823 : BitVec 32 := 0#32
  let v1285 : BitVec 1 := Scalar.cmpi .slt v1281 c0_i32_823
  let v1286 : BitVec 1 := Scalar.xori v1284 v1285
  let c0_i32_821 : BitVec 32 := 0#32
  let v1283 : BitVec 1 := Scalar.cmpi .ne v1282 c0_i32_821
  let v1287 : BitVec 1 := Scalar.andi v1286 v1283
  let v1288 : BitVec 32 := Scalar.addi v1282 v1281
  let v1289 : BitVec 32 := Scalar.select v1287 v1288 v1282
  let c1_i32_2384 : BitVec 32 := 1#32
  let v3206 : BitVec 32 := Scalar.muli v1289 c1_i32_2384
  let v3207 : BitVec 32 := Scalar.addi c0_i32_2385 v3206
  v3207.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_829 : BitVec 32 := 10#32
  let v1297 : BitVec 32 := Scalar.addi v2 c10_i32_829
  let c32_i32_830 : BitVec 32 := 32#32
  let c0_i32_831 : BitVec 32 := 0#32
  let v1298 : BitVec 1 := Scalar.cmpi .eq c32_i32_830 c0_i32_831
  let c1_i32_832 : BitVec 32 := 1#32
  let v1299 : BitVec 32 := Scalar.select v1298 c1_i32_832 c32_i32_830
  let v1300 : BitVec 32 := Scalar.remsi v1297 v1299
  let c0_i32_834 : BitVec 32 := 0#32
  let v1302 : BitVec 1 := Scalar.cmpi .slt v1300 c0_i32_834
  let c0_i32_835 : BitVec 32 := 0#32
  let v1303 : BitVec 1 := Scalar.cmpi .slt v1299 c0_i32_835
  let v1304 : BitVec 1 := Scalar.xori v1302 v1303
  let c0_i32_833 : BitVec 32 := 0#32
  let v1301 : BitVec 1 := Scalar.cmpi .ne v1300 c0_i32_833
  let v1305 : BitVec 1 := Scalar.andi v1304 v1301
  let v1306 : BitVec 32 := Scalar.addi v1300 v1299
  let v1307 : BitVec 32 := Scalar.select v1305 v1306 v1300
  let c16_i32_836 : BitVec 32 := 16#32
  let v1308 : BitVec 32 := Scalar.muli v1307 c16_i32_836
  let c128_i32_837 : BitVec 32 := 128#32
  let v1309 : BitVec 1 := Scalar.cmpi .sge v1308 c128_i32_837
  let c16_i32_838 : BitVec 32 := 16#32
  let v1310 : BitVec 32 := Scalar.muli v1307 c16_i32_838
  let c256_i32_839 : BitVec 32 := 256#32
  let v1311 : BitVec 1 := Scalar.cmpi .slt v1310 c256_i32_839
  let v1312 : BitVec 1 := Scalar.andi v1309 v1311
  let v1313 : BitVec 32 := Scalar.extui v1312
  let c0_i32_840 : BitVec 32 := 0#32
  let v1314 : BitVec 1 := Scalar.cmpi .ne v1313 c0_i32_840
  v1314

def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_829 : BitVec 32 := 10#32
  let v1297 : BitVec 32 := Scalar.addi v2 c10_i32_829
  let c32_i32_830 : BitVec 32 := 32#32
  let c0_i32_831 : BitVec 32 := 0#32
  let v1298 : BitVec 1 := Scalar.cmpi .eq c32_i32_830 c0_i32_831
  let c1_i32_832 : BitVec 32 := 1#32
  let v1299 : BitVec 32 := Scalar.select v1298 c1_i32_832 c32_i32_830
  let v1300 : BitVec 32 := Scalar.remsi v1297 v1299
  let c0_i32_834 : BitVec 32 := 0#32
  let v1302 : BitVec 1 := Scalar.cmpi .slt v1300 c0_i32_834
  let c0_i32_835 : BitVec 32 := 0#32
  let v1303 : BitVec 1 := Scalar.cmpi .slt v1299 c0_i32_835
  let v1304 : BitVec 1 := Scalar.xori v1302 v1303
  let c0_i32_833 : BitVec 32 := 0#32
  let v1301 : BitVec 1 := Scalar.cmpi .ne v1300 c0_i32_833
  let v1305 : BitVec 1 := Scalar.andi v1304 v1301
  let v1306 : BitVec 32 := Scalar.addi v1300 v1299
  let v1307 : BitVec 32 := Scalar.select v1305 v1306 v1300
  let c16_i32_2380 : BitVec 32 := 16#32
  let v3205 : BitVec 32 := Scalar.muli v1307 c16_i32_2380
  let c0_i32_2388 : BitVec 32 := 0#32
  ![v3205.toNat, 0]
def k0_dev73 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_829 : BitVec 32 := 10#32
  let v1297 : BitVec 32 := Scalar.addi v2 c10_i32_829
  let c32_i32_830 : BitVec 32 := 32#32
  let c0_i32_831 : BitVec 32 := 0#32
  let v1298 : BitVec 1 := Scalar.cmpi .eq c32_i32_830 c0_i32_831
  let c1_i32_832 : BitVec 32 := 1#32
  let v1299 : BitVec 32 := Scalar.select v1298 c1_i32_832 c32_i32_830
  let v1300 : BitVec 32 := Scalar.remsi v1297 v1299
  let c0_i32_834 : BitVec 32 := 0#32
  let v1302 : BitVec 1 := Scalar.cmpi .slt v1300 c0_i32_834
  let c0_i32_835 : BitVec 32 := 0#32
  let v1303 : BitVec 1 := Scalar.cmpi .slt v1299 c0_i32_835
  let v1304 : BitVec 1 := Scalar.xori v1302 v1303
  let c0_i32_833 : BitVec 32 := 0#32
  let v1301 : BitVec 1 := Scalar.cmpi .ne v1300 c0_i32_833
  let v1305 : BitVec 1 := Scalar.andi v1304 v1301
  let v1306 : BitVec 32 := Scalar.addi v1300 v1299
  let v1307 : BitVec 32 := Scalar.select v1305 v1306 v1300
  let c1_i32_2384 : BitVec 32 := 1#32
  let v3206 : BitVec 32 := Scalar.muli v1307 c1_i32_2384
  let v3207 : BitVec 32 := Scalar.addi c0_i32_2385 v3206
  v3207.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_841 : BitVec 32 := 11#32
  let v1315 : BitVec 32 := Scalar.addi v2 c11_i32_841
  let c32_i32_842 : BitVec 32 := 32#32
  let c0_i32_843 : BitVec 32 := 0#32
  let v1316 : BitVec 1 := Scalar.cmpi .eq c32_i32_842 c0_i32_843
  let c1_i32_844 : BitVec 32 := 1#32
  let v1317 : BitVec 32 := Scalar.select v1316 c1_i32_844 c32_i32_842
  let v1318 : BitVec 32 := Scalar.remsi v1315 v1317
  let c0_i32_846 : BitVec 32 := 0#32
  let v1320 : BitVec 1 := Scalar.cmpi .slt v1318 c0_i32_846
  let c0_i32_847 : BitVec 32 := 0#32
  let v1321 : BitVec 1 := Scalar.cmpi .slt v1317 c0_i32_847
  let v1322 : BitVec 1 := Scalar.xori v1320 v1321
  let c0_i32_845 : BitVec 32 := 0#32
  let v1319 : BitVec 1 := Scalar.cmpi .ne v1318 c0_i32_845
  let v1323 : BitVec 1 := Scalar.andi v1322 v1319
  let v1324 : BitVec 32 := Scalar.addi v1318 v1317
  let v1325 : BitVec 32 := Scalar.select v1323 v1324 v1318
  let c16_i32_848 : BitVec 32 := 16#32
  let v1326 : BitVec 32 := Scalar.muli v1325 c16_i32_848
  let c128_i32_849 : BitVec 32 := 128#32
  let v1327 : BitVec 1 := Scalar.cmpi .sge v1326 c128_i32_849
  let c16_i32_850 : BitVec 32 := 16#32
  let v1328 : BitVec 32 := Scalar.muli v1325 c16_i32_850
  let c256_i32_851 : BitVec 32 := 256#32
  let v1329 : BitVec 1 := Scalar.cmpi .slt v1328 c256_i32_851
  let v1330 : BitVec 1 := Scalar.andi v1327 v1329
  let v1331 : BitVec 32 := Scalar.extui v1330
  let c0_i32_852 : BitVec 32 := 0#32
  let v1332 : BitVec 1 := Scalar.cmpi .ne v1331 c0_i32_852
  v1332

def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_841 : BitVec 32 := 11#32
  let v1315 : BitVec 32 := Scalar.addi v2 c11_i32_841
  let c32_i32_842 : BitVec 32 := 32#32
  let c0_i32_843 : BitVec 32 := 0#32
  let v1316 : BitVec 1 := Scalar.cmpi .eq c32_i32_842 c0_i32_843
  let c1_i32_844 : BitVec 32 := 1#32
  let v1317 : BitVec 32 := Scalar.select v1316 c1_i32_844 c32_i32_842
  let v1318 : BitVec 32 := Scalar.remsi v1315 v1317
  let c0_i32_846 : BitVec 32 := 0#32
  let v1320 : BitVec 1 := Scalar.cmpi .slt v1318 c0_i32_846
  let c0_i32_847 : BitVec 32 := 0#32
  let v1321 : BitVec 1 := Scalar.cmpi .slt v1317 c0_i32_847
  let v1322 : BitVec 1 := Scalar.xori v1320 v1321
  let c0_i32_845 : BitVec 32 := 0#32
  let v1319 : BitVec 1 := Scalar.cmpi .ne v1318 c0_i32_845
  let v1323 : BitVec 1 := Scalar.andi v1322 v1319
  let v1324 : BitVec 32 := Scalar.addi v1318 v1317
  let v1325 : BitVec 32 := Scalar.select v1323 v1324 v1318
  let c16_i32_2380 : BitVec 32 := 16#32
  let v3205 : BitVec 32 := Scalar.muli v1325 c16_i32_2380
  let c0_i32_2388 : BitVec 32 := 0#32
  ![v3205.toNat, 0]
def k0_dev74 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_841 : BitVec 32 := 11#32
  let v1315 : BitVec 32 := Scalar.addi v2 c11_i32_841
  let c32_i32_842 : BitVec 32 := 32#32
  let c0_i32_843 : BitVec 32 := 0#32
  let v1316 : BitVec 1 := Scalar.cmpi .eq c32_i32_842 c0_i32_843
  let c1_i32_844 : BitVec 32 := 1#32
  let v1317 : BitVec 32 := Scalar.select v1316 c1_i32_844 c32_i32_842
  let v1318 : BitVec 32 := Scalar.remsi v1315 v1317
  let c0_i32_846 : BitVec 32 := 0#32
  let v1320 : BitVec 1 := Scalar.cmpi .slt v1318 c0_i32_846
  let c0_i32_847 : BitVec 32 := 0#32
  let v1321 : BitVec 1 := Scalar.cmpi .slt v1317 c0_i32_847
  let v1322 : BitVec 1 := Scalar.xori v1320 v1321
  let c0_i32_845 : BitVec 32 := 0#32
  let v1319 : BitVec 1 := Scalar.cmpi .ne v1318 c0_i32_845
  let v1323 : BitVec 1 := Scalar.andi v1322 v1319
  let v1324 : BitVec 32 := Scalar.addi v1318 v1317
  let v1325 : BitVec 32 := Scalar.select v1323 v1324 v1318
  let c1_i32_2384 : BitVec 32 := 1#32
  let v3206 : BitVec 32 := Scalar.muli v1325 c1_i32_2384
  let v3207 : BitVec 32 := Scalar.addi c0_i32_2385 v3206
  v3207.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_853 : BitVec 32 := 12#32
  let v1333 : BitVec 32 := Scalar.addi v2 c12_i32_853
  let c32_i32_854 : BitVec 32 := 32#32
  let c0_i32_855 : BitVec 32 := 0#32
  let v1334 : BitVec 1 := Scalar.cmpi .eq c32_i32_854 c0_i32_855
  let c1_i32_856 : BitVec 32 := 1#32
  let v1335 : BitVec 32 := Scalar.select v1334 c1_i32_856 c32_i32_854
  let v1336 : BitVec 32 := Scalar.remsi v1333 v1335
  let c0_i32_858 : BitVec 32 := 0#32
  let v1338 : BitVec 1 := Scalar.cmpi .slt v1336 c0_i32_858
  let c0_i32_859 : BitVec 32 := 0#32
  let v1339 : BitVec 1 := Scalar.cmpi .slt v1335 c0_i32_859
  let v1340 : BitVec 1 := Scalar.xori v1338 v1339
  let c0_i32_857 : BitVec 32 := 0#32
  let v1337 : BitVec 1 := Scalar.cmpi .ne v1336 c0_i32_857
  let v1341 : BitVec 1 := Scalar.andi v1340 v1337
  let v1342 : BitVec 32 := Scalar.addi v1336 v1335
  let v1343 : BitVec 32 := Scalar.select v1341 v1342 v1336
  let c16_i32_860 : BitVec 32 := 16#32
  let v1344 : BitVec 32 := Scalar.muli v1343 c16_i32_860
  let c128_i32_861 : BitVec 32 := 128#32
  let v1345 : BitVec 1 := Scalar.cmpi .sge v1344 c128_i32_861
  let c16_i32_862 : BitVec 32 := 16#32
  let v1346 : BitVec 32 := Scalar.muli v1343 c16_i32_862
  let c256_i32_863 : BitVec 32 := 256#32
  let v1347 : BitVec 1 := Scalar.cmpi .slt v1346 c256_i32_863
  let v1348 : BitVec 1 := Scalar.andi v1345 v1347
  let v1349 : BitVec 32 := Scalar.extui v1348
  let c0_i32_864 : BitVec 32 := 0#32
  let v1350 : BitVec 1 := Scalar.cmpi .ne v1349 c0_i32_864
  v1350

def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_853 : BitVec 32 := 12#32
  let v1333 : BitVec 32 := Scalar.addi v2 c12_i32_853
  let c32_i32_854 : BitVec 32 := 32#32
  let c0_i32_855 : BitVec 32 := 0#32
  let v1334 : BitVec 1 := Scalar.cmpi .eq c32_i32_854 c0_i32_855
  let c1_i32_856 : BitVec 32 := 1#32
  let v1335 : BitVec 32 := Scalar.select v1334 c1_i32_856 c32_i32_854
  let v1336 : BitVec 32 := Scalar.remsi v1333 v1335
  let c0_i32_858 : BitVec 32 := 0#32
  let v1338 : BitVec 1 := Scalar.cmpi .slt v1336 c0_i32_858
  let c0_i32_859 : BitVec 32 := 0#32
  let v1339 : BitVec 1 := Scalar.cmpi .slt v1335 c0_i32_859
  let v1340 : BitVec 1 := Scalar.xori v1338 v1339
  let c0_i32_857 : BitVec 32 := 0#32
  let v1337 : BitVec 1 := Scalar.cmpi .ne v1336 c0_i32_857
  let v1341 : BitVec 1 := Scalar.andi v1340 v1337
  let v1342 : BitVec 32 := Scalar.addi v1336 v1335
  let v1343 : BitVec 32 := Scalar.select v1341 v1342 v1336
  let c16_i32_2380 : BitVec 32 := 16#32
  let v3205 : BitVec 32 := Scalar.muli v1343 c16_i32_2380
  let c0_i32_2388 : BitVec 32 := 0#32
  ![v3205.toNat, 0]
def k0_dev75 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_853 : BitVec 32 := 12#32
  let v1333 : BitVec 32 := Scalar.addi v2 c12_i32_853
  let c32_i32_854 : BitVec 32 := 32#32
  let c0_i32_855 : BitVec 32 := 0#32
  let v1334 : BitVec 1 := Scalar.cmpi .eq c32_i32_854 c0_i32_855
  let c1_i32_856 : BitVec 32 := 1#32
  let v1335 : BitVec 32 := Scalar.select v1334 c1_i32_856 c32_i32_854
  let v1336 : BitVec 32 := Scalar.remsi v1333 v1335
  let c0_i32_858 : BitVec 32 := 0#32
  let v1338 : BitVec 1 := Scalar.cmpi .slt v1336 c0_i32_858
  let c0_i32_859 : BitVec 32 := 0#32
  let v1339 : BitVec 1 := Scalar.cmpi .slt v1335 c0_i32_859
  let v1340 : BitVec 1 := Scalar.xori v1338 v1339
  let c0_i32_857 : BitVec 32 := 0#32
  let v1337 : BitVec 1 := Scalar.cmpi .ne v1336 c0_i32_857
  let v1341 : BitVec 1 := Scalar.andi v1340 v1337
  let v1342 : BitVec 32 := Scalar.addi v1336 v1335
  let v1343 : BitVec 32 := Scalar.select v1341 v1342 v1336
  let c1_i32_2384 : BitVec 32 := 1#32
  let v3206 : BitVec 32 := Scalar.muli v1343 c1_i32_2384
  let v3207 : BitVec 32 := Scalar.addi c0_i32_2385 v3206
  v3207.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_865 : BitVec 32 := 13#32
  let v1351 : BitVec 32 := Scalar.addi v2 c13_i32_865
  let c32_i32_866 : BitVec 32 := 32#32
  let c0_i32_867 : BitVec 32 := 0#32
  let v1352 : BitVec 1 := Scalar.cmpi .eq c32_i32_866 c0_i32_867
  let c1_i32_868 : BitVec 32 := 1#32
  let v1353 : BitVec 32 := Scalar.select v1352 c1_i32_868 c32_i32_866
  let v1354 : BitVec 32 := Scalar.remsi v1351 v1353
  let c0_i32_870 : BitVec 32 := 0#32
  let v1356 : BitVec 1 := Scalar.cmpi .slt v1354 c0_i32_870
  let c0_i32_871 : BitVec 32 := 0#32
  let v1357 : BitVec 1 := Scalar.cmpi .slt v1353 c0_i32_871
  let v1358 : BitVec 1 := Scalar.xori v1356 v1357
  let c0_i32_869 : BitVec 32 := 0#32
  let v1355 : BitVec 1 := Scalar.cmpi .ne v1354 c0_i32_869
  let v1359 : BitVec 1 := Scalar.andi v1358 v1355
  let v1360 : BitVec 32 := Scalar.addi v1354 v1353
  let v1361 : BitVec 32 := Scalar.select v1359 v1360 v1354
  let c16_i32_872 : BitVec 32 := 16#32
  let v1362 : BitVec 32 := Scalar.muli v1361 c16_i32_872
  let c128_i32_873 : BitVec 32 := 128#32
  let v1363 : BitVec 1 := Scalar.cmpi .sge v1362 c128_i32_873
  let c16_i32_874 : BitVec 32 := 16#32
  let v1364 : BitVec 32 := Scalar.muli v1361 c16_i32_874
  let c256_i32_875 : BitVec 32 := 256#32
  let v1365 : BitVec 1 := Scalar.cmpi .slt v1364 c256_i32_875
  let v1366 : BitVec 1 := Scalar.andi v1363 v1365
  let v1367 : BitVec 32 := Scalar.extui v1366
  let c0_i32_876 : BitVec 32 := 0#32
  let v1368 : BitVec 1 := Scalar.cmpi .ne v1367 c0_i32_876
  v1368

def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_865 : BitVec 32 := 13#32
  let v1351 : BitVec 32 := Scalar.addi v2 c13_i32_865
  let c32_i32_866 : BitVec 32 := 32#32
  let c0_i32_867 : BitVec 32 := 0#32
  let v1352 : BitVec 1 := Scalar.cmpi .eq c32_i32_866 c0_i32_867
  let c1_i32_868 : BitVec 32 := 1#32
  let v1353 : BitVec 32 := Scalar.select v1352 c1_i32_868 c32_i32_866
  let v1354 : BitVec 32 := Scalar.remsi v1351 v1353
  let c0_i32_870 : BitVec 32 := 0#32
  let v1356 : BitVec 1 := Scalar.cmpi .slt v1354 c0_i32_870
  let c0_i32_871 : BitVec 32 := 0#32
  let v1357 : BitVec 1 := Scalar.cmpi .slt v1353 c0_i32_871
  let v1358 : BitVec 1 := Scalar.xori v1356 v1357
  let c0_i32_869 : BitVec 32 := 0#32
  let v1355 : BitVec 1 := Scalar.cmpi .ne v1354 c0_i32_869
  let v1359 : BitVec 1 := Scalar.andi v1358 v1355
  let v1360 : BitVec 32 := Scalar.addi v1354 v1353
  let v1361 : BitVec 32 := Scalar.select v1359 v1360 v1354
  let c16_i32_2380 : BitVec 32 := 16#32
  let v3205 : BitVec 32 := Scalar.muli v1361 c16_i32_2380
  let c0_i32_2388 : BitVec 32 := 0#32
  ![v3205.toNat, 0]
def k0_dev76 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_865 : BitVec 32 := 13#32
  let v1351 : BitVec 32 := Scalar.addi v2 c13_i32_865
  let c32_i32_866 : BitVec 32 := 32#32
  let c0_i32_867 : BitVec 32 := 0#32
  let v1352 : BitVec 1 := Scalar.cmpi .eq c32_i32_866 c0_i32_867
  let c1_i32_868 : BitVec 32 := 1#32
  let v1353 : BitVec 32 := Scalar.select v1352 c1_i32_868 c32_i32_866
  let v1354 : BitVec 32 := Scalar.remsi v1351 v1353
  let c0_i32_870 : BitVec 32 := 0#32
  let v1356 : BitVec 1 := Scalar.cmpi .slt v1354 c0_i32_870
  let c0_i32_871 : BitVec 32 := 0#32
  let v1357 : BitVec 1 := Scalar.cmpi .slt v1353 c0_i32_871
  let v1358 : BitVec 1 := Scalar.xori v1356 v1357
  let c0_i32_869 : BitVec 32 := 0#32
  let v1355 : BitVec 1 := Scalar.cmpi .ne v1354 c0_i32_869
  let v1359 : BitVec 1 := Scalar.andi v1358 v1355
  let v1360 : BitVec 32 := Scalar.addi v1354 v1353
  let v1361 : BitVec 32 := Scalar.select v1359 v1360 v1354
  let c1_i32_2384 : BitVec 32 := 1#32
  let v3206 : BitVec 32 := Scalar.muli v1361 c1_i32_2384
  let v3207 : BitVec 32 := Scalar.addi c0_i32_2385 v3206
  v3207.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_877 : BitVec 32 := 14#32
  let v1369 : BitVec 32 := Scalar.addi v2 c14_i32_877
  let c32_i32_878 : BitVec 32 := 32#32
  let c0_i32_879 : BitVec 32 := 0#32
  let v1370 : BitVec 1 := Scalar.cmpi .eq c32_i32_878 c0_i32_879
  let c1_i32_880 : BitVec 32 := 1#32
  let v1371 : BitVec 32 := Scalar.select v1370 c1_i32_880 c32_i32_878
  let v1372 : BitVec 32 := Scalar.remsi v1369 v1371
  let c0_i32_882 : BitVec 32 := 0#32
  let v1374 : BitVec 1 := Scalar.cmpi .slt v1372 c0_i32_882
  let c0_i32_883 : BitVec 32 := 0#32
  let v1375 : BitVec 1 := Scalar.cmpi .slt v1371 c0_i32_883
  let v1376 : BitVec 1 := Scalar.xori v1374 v1375
  let c0_i32_881 : BitVec 32 := 0#32
  let v1373 : BitVec 1 := Scalar.cmpi .ne v1372 c0_i32_881
  let v1377 : BitVec 1 := Scalar.andi v1376 v1373
  let v1378 : BitVec 32 := Scalar.addi v1372 v1371
  let v1379 : BitVec 32 := Scalar.select v1377 v1378 v1372
  let c16_i32_884 : BitVec 32 := 16#32
  let v1380 : BitVec 32 := Scalar.muli v1379 c16_i32_884
  let c128_i32_885 : BitVec 32 := 128#32
  let v1381 : BitVec 1 := Scalar.cmpi .sge v1380 c128_i32_885
  let c16_i32_886 : BitVec 32 := 16#32
  let v1382 : BitVec 32 := Scalar.muli v1379 c16_i32_886
  let c256_i32_887 : BitVec 32 := 256#32
  let v1383 : BitVec 1 := Scalar.cmpi .slt v1382 c256_i32_887
  let v1384 : BitVec 1 := Scalar.andi v1381 v1383
  let v1385 : BitVec 32 := Scalar.extui v1384
  let c0_i32_888 : BitVec 32 := 0#32
  let v1386 : BitVec 1 := Scalar.cmpi .ne v1385 c0_i32_888
  v1386

def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_877 : BitVec 32 := 14#32
  let v1369 : BitVec 32 := Scalar.addi v2 c14_i32_877
  let c32_i32_878 : BitVec 32 := 32#32
  let c0_i32_879 : BitVec 32 := 0#32
  let v1370 : BitVec 1 := Scalar.cmpi .eq c32_i32_878 c0_i32_879
  let c1_i32_880 : BitVec 32 := 1#32
  let v1371 : BitVec 32 := Scalar.select v1370 c1_i32_880 c32_i32_878
  let v1372 : BitVec 32 := Scalar.remsi v1369 v1371
  let c0_i32_882 : BitVec 32 := 0#32
  let v1374 : BitVec 1 := Scalar.cmpi .slt v1372 c0_i32_882
  let c0_i32_883 : BitVec 32 := 0#32
  let v1375 : BitVec 1 := Scalar.cmpi .slt v1371 c0_i32_883
  let v1376 : BitVec 1 := Scalar.xori v1374 v1375
  let c0_i32_881 : BitVec 32 := 0#32
  let v1373 : BitVec 1 := Scalar.cmpi .ne v1372 c0_i32_881
  let v1377 : BitVec 1 := Scalar.andi v1376 v1373
  let v1378 : BitVec 32 := Scalar.addi v1372 v1371
  let v1379 : BitVec 32 := Scalar.select v1377 v1378 v1372
  let c16_i32_2380 : BitVec 32 := 16#32
  let v3205 : BitVec 32 := Scalar.muli v1379 c16_i32_2380
  let c0_i32_2388 : BitVec 32 := 0#32
  ![v3205.toNat, 0]
def k0_dev77 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_877 : BitVec 32 := 14#32
  let v1369 : BitVec 32 := Scalar.addi v2 c14_i32_877
  let c32_i32_878 : BitVec 32 := 32#32
  let c0_i32_879 : BitVec 32 := 0#32
  let v1370 : BitVec 1 := Scalar.cmpi .eq c32_i32_878 c0_i32_879
  let c1_i32_880 : BitVec 32 := 1#32
  let v1371 : BitVec 32 := Scalar.select v1370 c1_i32_880 c32_i32_878
  let v1372 : BitVec 32 := Scalar.remsi v1369 v1371
  let c0_i32_882 : BitVec 32 := 0#32
  let v1374 : BitVec 1 := Scalar.cmpi .slt v1372 c0_i32_882
  let c0_i32_883 : BitVec 32 := 0#32
  let v1375 : BitVec 1 := Scalar.cmpi .slt v1371 c0_i32_883
  let v1376 : BitVec 1 := Scalar.xori v1374 v1375
  let c0_i32_881 : BitVec 32 := 0#32
  let v1373 : BitVec 1 := Scalar.cmpi .ne v1372 c0_i32_881
  let v1377 : BitVec 1 := Scalar.andi v1376 v1373
  let v1378 : BitVec 32 := Scalar.addi v1372 v1371
  let v1379 : BitVec 32 := Scalar.select v1377 v1378 v1372
  let c1_i32_2384 : BitVec 32 := 1#32
  let v3206 : BitVec 32 := Scalar.muli v1379 c1_i32_2384
  let v3207 : BitVec 32 := Scalar.addi c0_i32_2385 v3206
  v3207.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_889 : BitVec 32 := 15#32
  let v1387 : BitVec 32 := Scalar.addi v2 c15_i32_889
  let c32_i32_890 : BitVec 32 := 32#32
  let c0_i32_891 : BitVec 32 := 0#32
  let v1388 : BitVec 1 := Scalar.cmpi .eq c32_i32_890 c0_i32_891
  let c1_i32_892 : BitVec 32 := 1#32
  let v1389 : BitVec 32 := Scalar.select v1388 c1_i32_892 c32_i32_890
  let v1390 : BitVec 32 := Scalar.remsi v1387 v1389
  let c0_i32_894 : BitVec 32 := 0#32
  let v1392 : BitVec 1 := Scalar.cmpi .slt v1390 c0_i32_894
  let c0_i32_895 : BitVec 32 := 0#32
  let v1393 : BitVec 1 := Scalar.cmpi .slt v1389 c0_i32_895
  let v1394 : BitVec 1 := Scalar.xori v1392 v1393
  let c0_i32_893 : BitVec 32 := 0#32
  let v1391 : BitVec 1 := Scalar.cmpi .ne v1390 c0_i32_893
  let v1395 : BitVec 1 := Scalar.andi v1394 v1391
  let v1396 : BitVec 32 := Scalar.addi v1390 v1389
  let v1397 : BitVec 32 := Scalar.select v1395 v1396 v1390
  let c16_i32_896 : BitVec 32 := 16#32
  let v1398 : BitVec 32 := Scalar.muli v1397 c16_i32_896
  let c128_i32_897 : BitVec 32 := 128#32
  let v1399 : BitVec 1 := Scalar.cmpi .sge v1398 c128_i32_897
  let c16_i32_898 : BitVec 32 := 16#32
  let v1400 : BitVec 32 := Scalar.muli v1397 c16_i32_898
  let c256_i32_899 : BitVec 32 := 256#32
  let v1401 : BitVec 1 := Scalar.cmpi .slt v1400 c256_i32_899
  let v1402 : BitVec 1 := Scalar.andi v1399 v1401
  let v1403 : BitVec 32 := Scalar.extui v1402
  let c0_i32_900 : BitVec 32 := 0#32
  let v1404 : BitVec 1 := Scalar.cmpi .ne v1403 c0_i32_900
  v1404

def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_889 : BitVec 32 := 15#32
  let v1387 : BitVec 32 := Scalar.addi v2 c15_i32_889
  let c32_i32_890 : BitVec 32 := 32#32
  let c0_i32_891 : BitVec 32 := 0#32
  let v1388 : BitVec 1 := Scalar.cmpi .eq c32_i32_890 c0_i32_891
  let c1_i32_892 : BitVec 32 := 1#32
  let v1389 : BitVec 32 := Scalar.select v1388 c1_i32_892 c32_i32_890
  let v1390 : BitVec 32 := Scalar.remsi v1387 v1389
  let c0_i32_894 : BitVec 32 := 0#32
  let v1392 : BitVec 1 := Scalar.cmpi .slt v1390 c0_i32_894
  let c0_i32_895 : BitVec 32 := 0#32
  let v1393 : BitVec 1 := Scalar.cmpi .slt v1389 c0_i32_895
  let v1394 : BitVec 1 := Scalar.xori v1392 v1393
  let c0_i32_893 : BitVec 32 := 0#32
  let v1391 : BitVec 1 := Scalar.cmpi .ne v1390 c0_i32_893
  let v1395 : BitVec 1 := Scalar.andi v1394 v1391
  let v1396 : BitVec 32 := Scalar.addi v1390 v1389
  let v1397 : BitVec 32 := Scalar.select v1395 v1396 v1390
  let c16_i32_2380 : BitVec 32 := 16#32
  let v3205 : BitVec 32 := Scalar.muli v1397 c16_i32_2380
  let c0_i32_2388 : BitVec 32 := 0#32
  ![v3205.toNat, 0]
def k0_dev78 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_889 : BitVec 32 := 15#32
  let v1387 : BitVec 32 := Scalar.addi v2 c15_i32_889
  let c32_i32_890 : BitVec 32 := 32#32
  let c0_i32_891 : BitVec 32 := 0#32
  let v1388 : BitVec 1 := Scalar.cmpi .eq c32_i32_890 c0_i32_891
  let c1_i32_892 : BitVec 32 := 1#32
  let v1389 : BitVec 32 := Scalar.select v1388 c1_i32_892 c32_i32_890
  let v1390 : BitVec 32 := Scalar.remsi v1387 v1389
  let c0_i32_894 : BitVec 32 := 0#32
  let v1392 : BitVec 1 := Scalar.cmpi .slt v1390 c0_i32_894
  let c0_i32_895 : BitVec 32 := 0#32
  let v1393 : BitVec 1 := Scalar.cmpi .slt v1389 c0_i32_895
  let v1394 : BitVec 1 := Scalar.xori v1392 v1393
  let c0_i32_893 : BitVec 32 := 0#32
  let v1391 : BitVec 1 := Scalar.cmpi .ne v1390 c0_i32_893
  let v1395 : BitVec 1 := Scalar.andi v1394 v1391
  let v1396 : BitVec 32 := Scalar.addi v1390 v1389
  let v1397 : BitVec 32 := Scalar.select v1395 v1396 v1390
  let c1_i32_2384 : BitVec 32 := 1#32
  let v3206 : BitVec 32 := Scalar.muli v1397 c1_i32_2384
  let v3207 : BitVec 32 := Scalar.addi c0_i32_2385 v3206
  v3207.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v1405 : BitVec 32 := Scalar.addi v2 c16_i32_901
  let c32_i32_902 : BitVec 32 := 32#32
  let c0_i32_903 : BitVec 32 := 0#32
  let v1406 : BitVec 1 := Scalar.cmpi .eq c32_i32_902 c0_i32_903
  let c1_i32_904 : BitVec 32 := 1#32
  let v1407 : BitVec 32 := Scalar.select v1406 c1_i32_904 c32_i32_902
  let v1408 : BitVec 32 := Scalar.remsi v1405 v1407
  let c0_i32_906 : BitVec 32 := 0#32
  let v1410 : BitVec 1 := Scalar.cmpi .slt v1408 c0_i32_906
  let c0_i32_907 : BitVec 32 := 0#32
  let v1411 : BitVec 1 := Scalar.cmpi .slt v1407 c0_i32_907
  let v1412 : BitVec 1 := Scalar.xori v1410 v1411
  let c0_i32_905 : BitVec 32 := 0#32
  let v1409 : BitVec 1 := Scalar.cmpi .ne v1408 c0_i32_905
  let v1413 : BitVec 1 := Scalar.andi v1412 v1409
  let v1414 : BitVec 32 := Scalar.addi v1408 v1407
  let v1415 : BitVec 32 := Scalar.select v1413 v1414 v1408
  let c16_i32_908 : BitVec 32 := 16#32
  let v1416 : BitVec 32 := Scalar.muli v1415 c16_i32_908
  let c128_i32_909 : BitVec 32 := 128#32
  let v1417 : BitVec 1 := Scalar.cmpi .sge v1416 c128_i32_909
  let c16_i32_910 : BitVec 32 := 16#32
  let v1418 : BitVec 32 := Scalar.muli v1415 c16_i32_910
  let c256_i32_911 : BitVec 32 := 256#32
  let v1419 : BitVec 1 := Scalar.cmpi .slt v1418 c256_i32_911
  let v1420 : BitVec 1 := Scalar.andi v1417 v1419
  let v1421 : BitVec 32 := Scalar.extui v1420
  let c0_i32_912 : BitVec 32 := 0#32
  let v1422 : BitVec 1 := Scalar.cmpi .ne v1421 c0_i32_912
  v1422

def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v1405 : BitVec 32 := Scalar.addi v2 c16_i32_901
  let c32_i32_902 : BitVec 32 := 32#32
  let c0_i32_903 : BitVec 32 := 0#32
  let v1406 : BitVec 1 := Scalar.cmpi .eq c32_i32_902 c0_i32_903
  let c1_i32_904 : BitVec 32 := 1#32
  let v1407 : BitVec 32 := Scalar.select v1406 c1_i32_904 c32_i32_902
  let v1408 : BitVec 32 := Scalar.remsi v1405 v1407
  let c0_i32_906 : BitVec 32 := 0#32
  let v1410 : BitVec 1 := Scalar.cmpi .slt v1408 c0_i32_906
  let c0_i32_907 : BitVec 32 := 0#32
  let v1411 : BitVec 1 := Scalar.cmpi .slt v1407 c0_i32_907
  let v1412 : BitVec 1 := Scalar.xori v1410 v1411
  let c0_i32_905 : BitVec 32 := 0#32
  let v1409 : BitVec 1 := Scalar.cmpi .ne v1408 c0_i32_905
  let v1413 : BitVec 1 := Scalar.andi v1412 v1409
  let v1414 : BitVec 32 := Scalar.addi v1408 v1407
  let v1415 : BitVec 32 := Scalar.select v1413 v1414 v1408
  let c16_i32_2380 : BitVec 32 := 16#32
  let v3205 : BitVec 32 := Scalar.muli v1415 c16_i32_2380
  let c0_i32_2388 : BitVec 32 := 0#32
  ![v3205.toNat, 0]
def k0_dev79 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v1405 : BitVec 32 := Scalar.addi v2 c16_i32_901
  let c32_i32_902 : BitVec 32 := 32#32
  let c0_i32_903 : BitVec 32 := 0#32
  let v1406 : BitVec 1 := Scalar.cmpi .eq c32_i32_902 c0_i32_903
  let c1_i32_904 : BitVec 32 := 1#32
  let v1407 : BitVec 32 := Scalar.select v1406 c1_i32_904 c32_i32_902
  let v1408 : BitVec 32 := Scalar.remsi v1405 v1407
  let c0_i32_906 : BitVec 32 := 0#32
  let v1410 : BitVec 1 := Scalar.cmpi .slt v1408 c0_i32_906
  let c0_i32_907 : BitVec 32 := 0#32
  let v1411 : BitVec 1 := Scalar.cmpi .slt v1407 c0_i32_907
  let v1412 : BitVec 1 := Scalar.xori v1410 v1411
  let c0_i32_905 : BitVec 32 := 0#32
  let v1409 : BitVec 1 := Scalar.cmpi .ne v1408 c0_i32_905
  let v1413 : BitVec 1 := Scalar.andi v1412 v1409
  let v1414 : BitVec 32 := Scalar.addi v1408 v1407
  let v1415 : BitVec 32 := Scalar.select v1413 v1414 v1408
  let c1_i32_2384 : BitVec 32 := 1#32
  let v3206 : BitVec 32 := Scalar.muli v1415 c1_i32_2384
  let v3207 : BitVec 32 := Scalar.addi c0_i32_2385 v3206
  v3207.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_913 : BitVec 32 := 17#32
  let v1423 : BitVec 32 := Scalar.addi v2 c17_i32_913
  let c32_i32_914 : BitVec 32 := 32#32
  let c0_i32_915 : BitVec 32 := 0#32
  let v1424 : BitVec 1 := Scalar.cmpi .eq c32_i32_914 c0_i32_915
  let c1_i32_916 : BitVec 32 := 1#32
  let v1425 : BitVec 32 := Scalar.select v1424 c1_i32_916 c32_i32_914
  let v1426 : BitVec 32 := Scalar.remsi v1423 v1425
  let c0_i32_918 : BitVec 32 := 0#32
  let v1428 : BitVec 1 := Scalar.cmpi .slt v1426 c0_i32_918
  let c0_i32_919 : BitVec 32 := 0#32
  let v1429 : BitVec 1 := Scalar.cmpi .slt v1425 c0_i32_919
  let v1430 : BitVec 1 := Scalar.xori v1428 v1429
  let c0_i32_917 : BitVec 32 := 0#32
  let v1427 : BitVec 1 := Scalar.cmpi .ne v1426 c0_i32_917
  let v1431 : BitVec 1 := Scalar.andi v1430 v1427
  let v1432 : BitVec 32 := Scalar.addi v1426 v1425
  let v1433 : BitVec 32 := Scalar.select v1431 v1432 v1426
  let c16_i32_920 : BitVec 32 := 16#32
  let v1434 : BitVec 32 := Scalar.muli v1433 c16_i32_920
  let c128_i32_921 : BitVec 32 := 128#32
  let v1435 : BitVec 1 := Scalar.cmpi .sge v1434 c128_i32_921
  let c16_i32_922 : BitVec 32 := 16#32
  let v1436 : BitVec 32 := Scalar.muli v1433 c16_i32_922
  let c256_i32_923 : BitVec 32 := 256#32
  let v1437 : BitVec 1 := Scalar.cmpi .slt v1436 c256_i32_923
  let v1438 : BitVec 1 := Scalar.andi v1435 v1437
  let v1439 : BitVec 32 := Scalar.extui v1438
  let c0_i32_924 : BitVec 32 := 0#32
  let v1440 : BitVec 1 := Scalar.cmpi .ne v1439 c0_i32_924
  v1440

def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_913 : BitVec 32 := 17#32
  let v1423 : BitVec 32 := Scalar.addi v2 c17_i32_913
  let c32_i32_914 : BitVec 32 := 32#32
  let c0_i32_915 : BitVec 32 := 0#32
  let v1424 : BitVec 1 := Scalar.cmpi .eq c32_i32_914 c0_i32_915
  let c1_i32_916 : BitVec 32 := 1#32
  let v1425 : BitVec 32 := Scalar.select v1424 c1_i32_916 c32_i32_914
  let v1426 : BitVec 32 := Scalar.remsi v1423 v1425
  let c0_i32_918 : BitVec 32 := 0#32
  let v1428 : BitVec 1 := Scalar.cmpi .slt v1426 c0_i32_918
  let c0_i32_919 : BitVec 32 := 0#32
  let v1429 : BitVec 1 := Scalar.cmpi .slt v1425 c0_i32_919
  let v1430 : BitVec 1 := Scalar.xori v1428 v1429
  let c0_i32_917 : BitVec 32 := 0#32
  let v1427 : BitVec 1 := Scalar.cmpi .ne v1426 c0_i32_917
  let v1431 : BitVec 1 := Scalar.andi v1430 v1427
  let v1432 : BitVec 32 := Scalar.addi v1426 v1425
  let v1433 : BitVec 32 := Scalar.select v1431 v1432 v1426
  let c16_i32_2380 : BitVec 32 := 16#32
  let v3205 : BitVec 32 := Scalar.muli v1433 c16_i32_2380
  let c0_i32_2388 : BitVec 32 := 0#32
  ![v3205.toNat, 0]
def k0_dev80 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_913 : BitVec 32 := 17#32
  let v1423 : BitVec 32 := Scalar.addi v2 c17_i32_913
  let c32_i32_914 : BitVec 32 := 32#32
  let c0_i32_915 : BitVec 32 := 0#32
  let v1424 : BitVec 1 := Scalar.cmpi .eq c32_i32_914 c0_i32_915
  let c1_i32_916 : BitVec 32 := 1#32
  let v1425 : BitVec 32 := Scalar.select v1424 c1_i32_916 c32_i32_914
  let v1426 : BitVec 32 := Scalar.remsi v1423 v1425
  let c0_i32_918 : BitVec 32 := 0#32
  let v1428 : BitVec 1 := Scalar.cmpi .slt v1426 c0_i32_918
  let c0_i32_919 : BitVec 32 := 0#32
  let v1429 : BitVec 1 := Scalar.cmpi .slt v1425 c0_i32_919
  let v1430 : BitVec 1 := Scalar.xori v1428 v1429
  let c0_i32_917 : BitVec 32 := 0#32
  let v1427 : BitVec 1 := Scalar.cmpi .ne v1426 c0_i32_917
  let v1431 : BitVec 1 := Scalar.andi v1430 v1427
  let v1432 : BitVec 32 := Scalar.addi v1426 v1425
  let v1433 : BitVec 32 := Scalar.select v1431 v1432 v1426
  let c1_i32_2384 : BitVec 32 := 1#32
  let v3206 : BitVec 32 := Scalar.muli v1433 c1_i32_2384
  let v3207 : BitVec 32 := Scalar.addi c0_i32_2385 v3206
  v3207.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_925 : BitVec 32 := 18#32
  let v1441 : BitVec 32 := Scalar.addi v2 c18_i32_925
  let c32_i32_926 : BitVec 32 := 32#32
  let c0_i32_927 : BitVec 32 := 0#32
  let v1442 : BitVec 1 := Scalar.cmpi .eq c32_i32_926 c0_i32_927
  let c1_i32_928 : BitVec 32 := 1#32
  let v1443 : BitVec 32 := Scalar.select v1442 c1_i32_928 c32_i32_926
  let v1444 : BitVec 32 := Scalar.remsi v1441 v1443
  let c0_i32_930 : BitVec 32 := 0#32
  let v1446 : BitVec 1 := Scalar.cmpi .slt v1444 c0_i32_930
  let c0_i32_931 : BitVec 32 := 0#32
  let v1447 : BitVec 1 := Scalar.cmpi .slt v1443 c0_i32_931
  let v1448 : BitVec 1 := Scalar.xori v1446 v1447
  let c0_i32_929 : BitVec 32 := 0#32
  let v1445 : BitVec 1 := Scalar.cmpi .ne v1444 c0_i32_929
  let v1449 : BitVec 1 := Scalar.andi v1448 v1445
  let v1450 : BitVec 32 := Scalar.addi v1444 v1443
  let v1451 : BitVec 32 := Scalar.select v1449 v1450 v1444
  let c16_i32_932 : BitVec 32 := 16#32
  let v1452 : BitVec 32 := Scalar.muli v1451 c16_i32_932
  let c128_i32_933 : BitVec 32 := 128#32
  let v1453 : BitVec 1 := Scalar.cmpi .sge v1452 c128_i32_933
  let c16_i32_934 : BitVec 32 := 16#32
  let v1454 : BitVec 32 := Scalar.muli v1451 c16_i32_934
  let c256_i32_935 : BitVec 32 := 256#32
  let v1455 : BitVec 1 := Scalar.cmpi .slt v1454 c256_i32_935
  let v1456 : BitVec 1 := Scalar.andi v1453 v1455
  let v1457 : BitVec 32 := Scalar.extui v1456
  let c0_i32_936 : BitVec 32 := 0#32
  let v1458 : BitVec 1 := Scalar.cmpi .ne v1457 c0_i32_936
  v1458

def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_925 : BitVec 32 := 18#32
  let v1441 : BitVec 32 := Scalar.addi v2 c18_i32_925
  let c32_i32_926 : BitVec 32 := 32#32
  let c0_i32_927 : BitVec 32 := 0#32
  let v1442 : BitVec 1 := Scalar.cmpi .eq c32_i32_926 c0_i32_927
  let c1_i32_928 : BitVec 32 := 1#32
  let v1443 : BitVec 32 := Scalar.select v1442 c1_i32_928 c32_i32_926
  let v1444 : BitVec 32 := Scalar.remsi v1441 v1443
  let c0_i32_930 : BitVec 32 := 0#32
  let v1446 : BitVec 1 := Scalar.cmpi .slt v1444 c0_i32_930
  let c0_i32_931 : BitVec 32 := 0#32
  let v1447 : BitVec 1 := Scalar.cmpi .slt v1443 c0_i32_931
  let v1448 : BitVec 1 := Scalar.xori v1446 v1447
  let c0_i32_929 : BitVec 32 := 0#32
  let v1445 : BitVec 1 := Scalar.cmpi .ne v1444 c0_i32_929
  let v1449 : BitVec 1 := Scalar.andi v1448 v1445
  let v1450 : BitVec 32 := Scalar.addi v1444 v1443
  let v1451 : BitVec 32 := Scalar.select v1449 v1450 v1444
  let c16_i32_2380 : BitVec 32 := 16#32
  let v3205 : BitVec 32 := Scalar.muli v1451 c16_i32_2380
  let c0_i32_2388 : BitVec 32 := 0#32
  ![v3205.toNat, 0]
def k0_dev81 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_925 : BitVec 32 := 18#32
  let v1441 : BitVec 32 := Scalar.addi v2 c18_i32_925
  let c32_i32_926 : BitVec 32 := 32#32
  let c0_i32_927 : BitVec 32 := 0#32
  let v1442 : BitVec 1 := Scalar.cmpi .eq c32_i32_926 c0_i32_927
  let c1_i32_928 : BitVec 32 := 1#32
  let v1443 : BitVec 32 := Scalar.select v1442 c1_i32_928 c32_i32_926
  let v1444 : BitVec 32 := Scalar.remsi v1441 v1443
  let c0_i32_930 : BitVec 32 := 0#32
  let v1446 : BitVec 1 := Scalar.cmpi .slt v1444 c0_i32_930
  let c0_i32_931 : BitVec 32 := 0#32
  let v1447 : BitVec 1 := Scalar.cmpi .slt v1443 c0_i32_931
  let v1448 : BitVec 1 := Scalar.xori v1446 v1447
  let c0_i32_929 : BitVec 32 := 0#32
  let v1445 : BitVec 1 := Scalar.cmpi .ne v1444 c0_i32_929
  let v1449 : BitVec 1 := Scalar.andi v1448 v1445
  let v1450 : BitVec 32 := Scalar.addi v1444 v1443
  let v1451 : BitVec 32 := Scalar.select v1449 v1450 v1444
  let c1_i32_2384 : BitVec 32 := 1#32
  let v3206 : BitVec 32 := Scalar.muli v1451 c1_i32_2384
  let v3207 : BitVec 32 := Scalar.addi c0_i32_2385 v3206
  v3207.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_937 : BitVec 32 := 19#32
  let v1459 : BitVec 32 := Scalar.addi v2 c19_i32_937
  let c32_i32_938 : BitVec 32 := 32#32
  let c0_i32_939 : BitVec 32 := 0#32
  let v1460 : BitVec 1 := Scalar.cmpi .eq c32_i32_938 c0_i32_939
  let c1_i32_940 : BitVec 32 := 1#32
  let v1461 : BitVec 32 := Scalar.select v1460 c1_i32_940 c32_i32_938
  let v1462 : BitVec 32 := Scalar.remsi v1459 v1461
  let c0_i32_942 : BitVec 32 := 0#32
  let v1464 : BitVec 1 := Scalar.cmpi .slt v1462 c0_i32_942
  let c0_i32_943 : BitVec 32 := 0#32
  let v1465 : BitVec 1 := Scalar.cmpi .slt v1461 c0_i32_943
  let v1466 : BitVec 1 := Scalar.xori v1464 v1465
  let c0_i32_941 : BitVec 32 := 0#32
  let v1463 : BitVec 1 := Scalar.cmpi .ne v1462 c0_i32_941
  let v1467 : BitVec 1 := Scalar.andi v1466 v1463
  let v1468 : BitVec 32 := Scalar.addi v1462 v1461
  let v1469 : BitVec 32 := Scalar.select v1467 v1468 v1462
  let c16_i32_944 : BitVec 32 := 16#32
  let v1470 : BitVec 32 := Scalar.muli v1469 c16_i32_944
  let c128_i32_945 : BitVec 32 := 128#32
  let v1471 : BitVec 1 := Scalar.cmpi .sge v1470 c128_i32_945
  let c16_i32_946 : BitVec 32 := 16#32
  let v1472 : BitVec 32 := Scalar.muli v1469 c16_i32_946
  let c256_i32_947 : BitVec 32 := 256#32
  let v1473 : BitVec 1 := Scalar.cmpi .slt v1472 c256_i32_947
  let v1474 : BitVec 1 := Scalar.andi v1471 v1473
  let v1475 : BitVec 32 := Scalar.extui v1474
  let c0_i32_948 : BitVec 32 := 0#32
  let v1476 : BitVec 1 := Scalar.cmpi .ne v1475 c0_i32_948
  v1476

def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_937 : BitVec 32 := 19#32
  let v1459 : BitVec 32 := Scalar.addi v2 c19_i32_937
  let c32_i32_938 : BitVec 32 := 32#32
  let c0_i32_939 : BitVec 32 := 0#32
  let v1460 : BitVec 1 := Scalar.cmpi .eq c32_i32_938 c0_i32_939
  let c1_i32_940 : BitVec 32 := 1#32
  let v1461 : BitVec 32 := Scalar.select v1460 c1_i32_940 c32_i32_938
  let v1462 : BitVec 32 := Scalar.remsi v1459 v1461
  let c0_i32_942 : BitVec 32 := 0#32
  let v1464 : BitVec 1 := Scalar.cmpi .slt v1462 c0_i32_942
  let c0_i32_943 : BitVec 32 := 0#32
  let v1465 : BitVec 1 := Scalar.cmpi .slt v1461 c0_i32_943
  let v1466 : BitVec 1 := Scalar.xori v1464 v1465
  let c0_i32_941 : BitVec 32 := 0#32
  let v1463 : BitVec 1 := Scalar.cmpi .ne v1462 c0_i32_941
  let v1467 : BitVec 1 := Scalar.andi v1466 v1463
  let v1468 : BitVec 32 := Scalar.addi v1462 v1461
  let v1469 : BitVec 32 := Scalar.select v1467 v1468 v1462
  let c16_i32_2380 : BitVec 32 := 16#32
  let v3205 : BitVec 32 := Scalar.muli v1469 c16_i32_2380
  let c0_i32_2388 : BitVec 32 := 0#32
  ![v3205.toNat, 0]
def k0_dev82 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_937 : BitVec 32 := 19#32
  let v1459 : BitVec 32 := Scalar.addi v2 c19_i32_937
  let c32_i32_938 : BitVec 32 := 32#32
  let c0_i32_939 : BitVec 32 := 0#32
  let v1460 : BitVec 1 := Scalar.cmpi .eq c32_i32_938 c0_i32_939
  let c1_i32_940 : BitVec 32 := 1#32
  let v1461 : BitVec 32 := Scalar.select v1460 c1_i32_940 c32_i32_938
  let v1462 : BitVec 32 := Scalar.remsi v1459 v1461
  let c0_i32_942 : BitVec 32 := 0#32
  let v1464 : BitVec 1 := Scalar.cmpi .slt v1462 c0_i32_942
  let c0_i32_943 : BitVec 32 := 0#32
  let v1465 : BitVec 1 := Scalar.cmpi .slt v1461 c0_i32_943
  let v1466 : BitVec 1 := Scalar.xori v1464 v1465
  let c0_i32_941 : BitVec 32 := 0#32
  let v1463 : BitVec 1 := Scalar.cmpi .ne v1462 c0_i32_941
  let v1467 : BitVec 1 := Scalar.andi v1466 v1463
  let v1468 : BitVec 32 := Scalar.addi v1462 v1461
  let v1469 : BitVec 32 := Scalar.select v1467 v1468 v1462
  let c1_i32_2384 : BitVec 32 := 1#32
  let v3206 : BitVec 32 := Scalar.muli v1469 c1_i32_2384
  let v3207 : BitVec 32 := Scalar.addi c0_i32_2385 v3206
  v3207.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_949 : BitVec 32 := 20#32
  let v1477 : BitVec 32 := Scalar.addi v2 c20_i32_949
  let c32_i32_950 : BitVec 32 := 32#32
  let c0_i32_951 : BitVec 32 := 0#32
  let v1478 : BitVec 1 := Scalar.cmpi .eq c32_i32_950 c0_i32_951
  let c1_i32_952 : BitVec 32 := 1#32
  let v1479 : BitVec 32 := Scalar.select v1478 c1_i32_952 c32_i32_950
  let v1480 : BitVec 32 := Scalar.remsi v1477 v1479
  let c0_i32_954 : BitVec 32 := 0#32
  let v1482 : BitVec 1 := Scalar.cmpi .slt v1480 c0_i32_954
  let c0_i32_955 : BitVec 32 := 0#32
  let v1483 : BitVec 1 := Scalar.cmpi .slt v1479 c0_i32_955
  let v1484 : BitVec 1 := Scalar.xori v1482 v1483
  let c0_i32_953 : BitVec 32 := 0#32
  let v1481 : BitVec 1 := Scalar.cmpi .ne v1480 c0_i32_953
  let v1485 : BitVec 1 := Scalar.andi v1484 v1481
  let v1486 : BitVec 32 := Scalar.addi v1480 v1479
  let v1487 : BitVec 32 := Scalar.select v1485 v1486 v1480
  let c16_i32_956 : BitVec 32 := 16#32
  let v1488 : BitVec 32 := Scalar.muli v1487 c16_i32_956
  let c128_i32_957 : BitVec 32 := 128#32
  let v1489 : BitVec 1 := Scalar.cmpi .sge v1488 c128_i32_957
  let c16_i32_958 : BitVec 32 := 16#32
  let v1490 : BitVec 32 := Scalar.muli v1487 c16_i32_958
  let c256_i32_959 : BitVec 32 := 256#32
  let v1491 : BitVec 1 := Scalar.cmpi .slt v1490 c256_i32_959
  let v1492 : BitVec 1 := Scalar.andi v1489 v1491
  let v1493 : BitVec 32 := Scalar.extui v1492
  let c0_i32_960 : BitVec 32 := 0#32
  let v1494 : BitVec 1 := Scalar.cmpi .ne v1493 c0_i32_960
  v1494

def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_949 : BitVec 32 := 20#32
  let v1477 : BitVec 32 := Scalar.addi v2 c20_i32_949
  let c32_i32_950 : BitVec 32 := 32#32
  let c0_i32_951 : BitVec 32 := 0#32
  let v1478 : BitVec 1 := Scalar.cmpi .eq c32_i32_950 c0_i32_951
  let c1_i32_952 : BitVec 32 := 1#32
  let v1479 : BitVec 32 := Scalar.select v1478 c1_i32_952 c32_i32_950
  let v1480 : BitVec 32 := Scalar.remsi v1477 v1479
  let c0_i32_954 : BitVec 32 := 0#32
  let v1482 : BitVec 1 := Scalar.cmpi .slt v1480 c0_i32_954
  let c0_i32_955 : BitVec 32 := 0#32
  let v1483 : BitVec 1 := Scalar.cmpi .slt v1479 c0_i32_955
  let v1484 : BitVec 1 := Scalar.xori v1482 v1483
  let c0_i32_953 : BitVec 32 := 0#32
  let v1481 : BitVec 1 := Scalar.cmpi .ne v1480 c0_i32_953
  let v1485 : BitVec 1 := Scalar.andi v1484 v1481
  let v1486 : BitVec 32 := Scalar.addi v1480 v1479
  let v1487 : BitVec 32 := Scalar.select v1485 v1486 v1480
  let c16_i32_2380 : BitVec 32 := 16#32
  let v3205 : BitVec 32 := Scalar.muli v1487 c16_i32_2380
  let c0_i32_2388 : BitVec 32 := 0#32
  ![v3205.toNat, 0]
def k0_dev83 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_949 : BitVec 32 := 20#32
  let v1477 : BitVec 32 := Scalar.addi v2 c20_i32_949
  let c32_i32_950 : BitVec 32 := 32#32
  let c0_i32_951 : BitVec 32 := 0#32
  let v1478 : BitVec 1 := Scalar.cmpi .eq c32_i32_950 c0_i32_951
  let c1_i32_952 : BitVec 32 := 1#32
  let v1479 : BitVec 32 := Scalar.select v1478 c1_i32_952 c32_i32_950
  let v1480 : BitVec 32 := Scalar.remsi v1477 v1479
  let c0_i32_954 : BitVec 32 := 0#32
  let v1482 : BitVec 1 := Scalar.cmpi .slt v1480 c0_i32_954
  let c0_i32_955 : BitVec 32 := 0#32
  let v1483 : BitVec 1 := Scalar.cmpi .slt v1479 c0_i32_955
  let v1484 : BitVec 1 := Scalar.xori v1482 v1483
  let c0_i32_953 : BitVec 32 := 0#32
  let v1481 : BitVec 1 := Scalar.cmpi .ne v1480 c0_i32_953
  let v1485 : BitVec 1 := Scalar.andi v1484 v1481
  let v1486 : BitVec 32 := Scalar.addi v1480 v1479
  let v1487 : BitVec 32 := Scalar.select v1485 v1486 v1480
  let c1_i32_2384 : BitVec 32 := 1#32
  let v3206 : BitVec 32 := Scalar.muli v1487 c1_i32_2384
  let v3207 : BitVec 32 := Scalar.addi c0_i32_2385 v3206
  v3207.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_961 : BitVec 32 := 21#32
  let v1495 : BitVec 32 := Scalar.addi v2 c21_i32_961
  let c32_i32_962 : BitVec 32 := 32#32
  let c0_i32_963 : BitVec 32 := 0#32
  let v1496 : BitVec 1 := Scalar.cmpi .eq c32_i32_962 c0_i32_963
  let c1_i32_964 : BitVec 32 := 1#32
  let v1497 : BitVec 32 := Scalar.select v1496 c1_i32_964 c32_i32_962
  let v1498 : BitVec 32 := Scalar.remsi v1495 v1497
  let c0_i32_966 : BitVec 32 := 0#32
  let v1500 : BitVec 1 := Scalar.cmpi .slt v1498 c0_i32_966
  let c0_i32_967 : BitVec 32 := 0#32
  let v1501 : BitVec 1 := Scalar.cmpi .slt v1497 c0_i32_967
  let v1502 : BitVec 1 := Scalar.xori v1500 v1501
  let c0_i32_965 : BitVec 32 := 0#32
  let v1499 : BitVec 1 := Scalar.cmpi .ne v1498 c0_i32_965
  let v1503 : BitVec 1 := Scalar.andi v1502 v1499
  let v1504 : BitVec 32 := Scalar.addi v1498 v1497
  let v1505 : BitVec 32 := Scalar.select v1503 v1504 v1498
  let c16_i32_968 : BitVec 32 := 16#32
  let v1506 : BitVec 32 := Scalar.muli v1505 c16_i32_968
  let c128_i32_969 : BitVec 32 := 128#32
  let v1507 : BitVec 1 := Scalar.cmpi .sge v1506 c128_i32_969
  let c16_i32_970 : BitVec 32 := 16#32
  let v1508 : BitVec 32 := Scalar.muli v1505 c16_i32_970
  let c256_i32_971 : BitVec 32 := 256#32
  let v1509 : BitVec 1 := Scalar.cmpi .slt v1508 c256_i32_971
  let v1510 : BitVec 1 := Scalar.andi v1507 v1509
  let v1511 : BitVec 32 := Scalar.extui v1510
  let c0_i32_972 : BitVec 32 := 0#32
  let v1512 : BitVec 1 := Scalar.cmpi .ne v1511 c0_i32_972
  v1512

def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_961 : BitVec 32 := 21#32
  let v1495 : BitVec 32 := Scalar.addi v2 c21_i32_961
  let c32_i32_962 : BitVec 32 := 32#32
  let c0_i32_963 : BitVec 32 := 0#32
  let v1496 : BitVec 1 := Scalar.cmpi .eq c32_i32_962 c0_i32_963
  let c1_i32_964 : BitVec 32 := 1#32
  let v1497 : BitVec 32 := Scalar.select v1496 c1_i32_964 c32_i32_962
  let v1498 : BitVec 32 := Scalar.remsi v1495 v1497
  let c0_i32_966 : BitVec 32 := 0#32
  let v1500 : BitVec 1 := Scalar.cmpi .slt v1498 c0_i32_966
  let c0_i32_967 : BitVec 32 := 0#32
  let v1501 : BitVec 1 := Scalar.cmpi .slt v1497 c0_i32_967
  let v1502 : BitVec 1 := Scalar.xori v1500 v1501
  let c0_i32_965 : BitVec 32 := 0#32
  let v1499 : BitVec 1 := Scalar.cmpi .ne v1498 c0_i32_965
  let v1503 : BitVec 1 := Scalar.andi v1502 v1499
  let v1504 : BitVec 32 := Scalar.addi v1498 v1497
  let v1505 : BitVec 32 := Scalar.select v1503 v1504 v1498
  let c16_i32_2380 : BitVec 32 := 16#32
  let v3205 : BitVec 32 := Scalar.muli v1505 c16_i32_2380
  let c0_i32_2388 : BitVec 32 := 0#32
  ![v3205.toNat, 0]
def k0_dev84 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_961 : BitVec 32 := 21#32
  let v1495 : BitVec 32 := Scalar.addi v2 c21_i32_961
  let c32_i32_962 : BitVec 32 := 32#32
  let c0_i32_963 : BitVec 32 := 0#32
  let v1496 : BitVec 1 := Scalar.cmpi .eq c32_i32_962 c0_i32_963
  let c1_i32_964 : BitVec 32 := 1#32
  let v1497 : BitVec 32 := Scalar.select v1496 c1_i32_964 c32_i32_962
  let v1498 : BitVec 32 := Scalar.remsi v1495 v1497
  let c0_i32_966 : BitVec 32 := 0#32
  let v1500 : BitVec 1 := Scalar.cmpi .slt v1498 c0_i32_966
  let c0_i32_967 : BitVec 32 := 0#32
  let v1501 : BitVec 1 := Scalar.cmpi .slt v1497 c0_i32_967
  let v1502 : BitVec 1 := Scalar.xori v1500 v1501
  let c0_i32_965 : BitVec 32 := 0#32
  let v1499 : BitVec 1 := Scalar.cmpi .ne v1498 c0_i32_965
  let v1503 : BitVec 1 := Scalar.andi v1502 v1499
  let v1504 : BitVec 32 := Scalar.addi v1498 v1497
  let v1505 : BitVec 32 := Scalar.select v1503 v1504 v1498
  let c1_i32_2384 : BitVec 32 := 1#32
  let v3206 : BitVec 32 := Scalar.muli v1505 c1_i32_2384
  let v3207 : BitVec 32 := Scalar.addi c0_i32_2385 v3206
  v3207.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_973 : BitVec 32 := 22#32
  let v1513 : BitVec 32 := Scalar.addi v2 c22_i32_973
  let c32_i32_974 : BitVec 32 := 32#32
  let c0_i32_975 : BitVec 32 := 0#32
  let v1514 : BitVec 1 := Scalar.cmpi .eq c32_i32_974 c0_i32_975
  let c1_i32_976 : BitVec 32 := 1#32
  let v1515 : BitVec 32 := Scalar.select v1514 c1_i32_976 c32_i32_974
  let v1516 : BitVec 32 := Scalar.remsi v1513 v1515
  let c0_i32_978 : BitVec 32 := 0#32
  let v1518 : BitVec 1 := Scalar.cmpi .slt v1516 c0_i32_978
  let c0_i32_979 : BitVec 32 := 0#32
  let v1519 : BitVec 1 := Scalar.cmpi .slt v1515 c0_i32_979
  let v1520 : BitVec 1 := Scalar.xori v1518 v1519
  let c0_i32_977 : BitVec 32 := 0#32
  let v1517 : BitVec 1 := Scalar.cmpi .ne v1516 c0_i32_977
  let v1521 : BitVec 1 := Scalar.andi v1520 v1517
  let v1522 : BitVec 32 := Scalar.addi v1516 v1515
  let v1523 : BitVec 32 := Scalar.select v1521 v1522 v1516
  let c16_i32_980 : BitVec 32 := 16#32
  let v1524 : BitVec 32 := Scalar.muli v1523 c16_i32_980
  let c128_i32_981 : BitVec 32 := 128#32
  let v1525 : BitVec 1 := Scalar.cmpi .sge v1524 c128_i32_981
  let c16_i32_982 : BitVec 32 := 16#32
  let v1526 : BitVec 32 := Scalar.muli v1523 c16_i32_982
  let c256_i32_983 : BitVec 32 := 256#32
  let v1527 : BitVec 1 := Scalar.cmpi .slt v1526 c256_i32_983
  let v1528 : BitVec 1 := Scalar.andi v1525 v1527
  let v1529 : BitVec 32 := Scalar.extui v1528
  let c0_i32_984 : BitVec 32 := 0#32
  let v1530 : BitVec 1 := Scalar.cmpi .ne v1529 c0_i32_984
  v1530

def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_973 : BitVec 32 := 22#32
  let v1513 : BitVec 32 := Scalar.addi v2 c22_i32_973
  let c32_i32_974 : BitVec 32 := 32#32
  let c0_i32_975 : BitVec 32 := 0#32
  let v1514 : BitVec 1 := Scalar.cmpi .eq c32_i32_974 c0_i32_975
  let c1_i32_976 : BitVec 32 := 1#32
  let v1515 : BitVec 32 := Scalar.select v1514 c1_i32_976 c32_i32_974
  let v1516 : BitVec 32 := Scalar.remsi v1513 v1515
  let c0_i32_978 : BitVec 32 := 0#32
  let v1518 : BitVec 1 := Scalar.cmpi .slt v1516 c0_i32_978
  let c0_i32_979 : BitVec 32 := 0#32
  let v1519 : BitVec 1 := Scalar.cmpi .slt v1515 c0_i32_979
  let v1520 : BitVec 1 := Scalar.xori v1518 v1519
  let c0_i32_977 : BitVec 32 := 0#32
  let v1517 : BitVec 1 := Scalar.cmpi .ne v1516 c0_i32_977
  let v1521 : BitVec 1 := Scalar.andi v1520 v1517
  let v1522 : BitVec 32 := Scalar.addi v1516 v1515
  let v1523 : BitVec 32 := Scalar.select v1521 v1522 v1516
  let c16_i32_2380 : BitVec 32 := 16#32
  let v3205 : BitVec 32 := Scalar.muli v1523 c16_i32_2380
  let c0_i32_2388 : BitVec 32 := 0#32
  ![v3205.toNat, 0]
def k0_dev85 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_973 : BitVec 32 := 22#32
  let v1513 : BitVec 32 := Scalar.addi v2 c22_i32_973
  let c32_i32_974 : BitVec 32 := 32#32
  let c0_i32_975 : BitVec 32 := 0#32
  let v1514 : BitVec 1 := Scalar.cmpi .eq c32_i32_974 c0_i32_975
  let c1_i32_976 : BitVec 32 := 1#32
  let v1515 : BitVec 32 := Scalar.select v1514 c1_i32_976 c32_i32_974
  let v1516 : BitVec 32 := Scalar.remsi v1513 v1515
  let c0_i32_978 : BitVec 32 := 0#32
  let v1518 : BitVec 1 := Scalar.cmpi .slt v1516 c0_i32_978
  let c0_i32_979 : BitVec 32 := 0#32
  let v1519 : BitVec 1 := Scalar.cmpi .slt v1515 c0_i32_979
  let v1520 : BitVec 1 := Scalar.xori v1518 v1519
  let c0_i32_977 : BitVec 32 := 0#32
  let v1517 : BitVec 1 := Scalar.cmpi .ne v1516 c0_i32_977
  let v1521 : BitVec 1 := Scalar.andi v1520 v1517
  let v1522 : BitVec 32 := Scalar.addi v1516 v1515
  let v1523 : BitVec 32 := Scalar.select v1521 v1522 v1516
  let c1_i32_2384 : BitVec 32 := 1#32
  let v3206 : BitVec 32 := Scalar.muli v1523 c1_i32_2384
  let v3207 : BitVec 32 := Scalar.addi c0_i32_2385 v3206
  v3207.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_985 : BitVec 32 := 23#32
  let v1531 : BitVec 32 := Scalar.addi v2 c23_i32_985
  let c32_i32_986 : BitVec 32 := 32#32
  let c0_i32_987 : BitVec 32 := 0#32
  let v1532 : BitVec 1 := Scalar.cmpi .eq c32_i32_986 c0_i32_987
  let c1_i32_988 : BitVec 32 := 1#32
  let v1533 : BitVec 32 := Scalar.select v1532 c1_i32_988 c32_i32_986
  let v1534 : BitVec 32 := Scalar.remsi v1531 v1533
  let c0_i32_990 : BitVec 32 := 0#32
  let v1536 : BitVec 1 := Scalar.cmpi .slt v1534 c0_i32_990
  let c0_i32_991 : BitVec 32 := 0#32
  let v1537 : BitVec 1 := Scalar.cmpi .slt v1533 c0_i32_991
  let v1538 : BitVec 1 := Scalar.xori v1536 v1537
  let c0_i32_989 : BitVec 32 := 0#32
  let v1535 : BitVec 1 := Scalar.cmpi .ne v1534 c0_i32_989
  let v1539 : BitVec 1 := Scalar.andi v1538 v1535
  let v1540 : BitVec 32 := Scalar.addi v1534 v1533
  let v1541 : BitVec 32 := Scalar.select v1539 v1540 v1534
  let c16_i32_992 : BitVec 32 := 16#32
  let v1542 : BitVec 32 := Scalar.muli v1541 c16_i32_992
  let c128_i32_993 : BitVec 32 := 128#32
  let v1543 : BitVec 1 := Scalar.cmpi .sge v1542 c128_i32_993
  let c16_i32_994 : BitVec 32 := 16#32
  let v1544 : BitVec 32 := Scalar.muli v1541 c16_i32_994
  let c256_i32_995 : BitVec 32 := 256#32
  let v1545 : BitVec 1 := Scalar.cmpi .slt v1544 c256_i32_995
  let v1546 : BitVec 1 := Scalar.andi v1543 v1545
  let v1547 : BitVec 32 := Scalar.extui v1546
  let c0_i32_996 : BitVec 32 := 0#32
  let v1548 : BitVec 1 := Scalar.cmpi .ne v1547 c0_i32_996
  v1548

def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_985 : BitVec 32 := 23#32
  let v1531 : BitVec 32 := Scalar.addi v2 c23_i32_985
  let c32_i32_986 : BitVec 32 := 32#32
  let c0_i32_987 : BitVec 32 := 0#32
  let v1532 : BitVec 1 := Scalar.cmpi .eq c32_i32_986 c0_i32_987
  let c1_i32_988 : BitVec 32 := 1#32
  let v1533 : BitVec 32 := Scalar.select v1532 c1_i32_988 c32_i32_986
  let v1534 : BitVec 32 := Scalar.remsi v1531 v1533
  let c0_i32_990 : BitVec 32 := 0#32
  let v1536 : BitVec 1 := Scalar.cmpi .slt v1534 c0_i32_990
  let c0_i32_991 : BitVec 32 := 0#32
  let v1537 : BitVec 1 := Scalar.cmpi .slt v1533 c0_i32_991
  let v1538 : BitVec 1 := Scalar.xori v1536 v1537
  let c0_i32_989 : BitVec 32 := 0#32
  let v1535 : BitVec 1 := Scalar.cmpi .ne v1534 c0_i32_989
  let v1539 : BitVec 1 := Scalar.andi v1538 v1535
  let v1540 : BitVec 32 := Scalar.addi v1534 v1533
  let v1541 : BitVec 32 := Scalar.select v1539 v1540 v1534
  let c16_i32_2380 : BitVec 32 := 16#32
  let v3205 : BitVec 32 := Scalar.muli v1541 c16_i32_2380
  let c0_i32_2388 : BitVec 32 := 0#32
  ![v3205.toNat, 0]
def k0_dev86 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_985 : BitVec 32 := 23#32
  let v1531 : BitVec 32 := Scalar.addi v2 c23_i32_985
  let c32_i32_986 : BitVec 32 := 32#32
  let c0_i32_987 : BitVec 32 := 0#32
  let v1532 : BitVec 1 := Scalar.cmpi .eq c32_i32_986 c0_i32_987
  let c1_i32_988 : BitVec 32 := 1#32
  let v1533 : BitVec 32 := Scalar.select v1532 c1_i32_988 c32_i32_986
  let v1534 : BitVec 32 := Scalar.remsi v1531 v1533
  let c0_i32_990 : BitVec 32 := 0#32
  let v1536 : BitVec 1 := Scalar.cmpi .slt v1534 c0_i32_990
  let c0_i32_991 : BitVec 32 := 0#32
  let v1537 : BitVec 1 := Scalar.cmpi .slt v1533 c0_i32_991
  let v1538 : BitVec 1 := Scalar.xori v1536 v1537
  let c0_i32_989 : BitVec 32 := 0#32
  let v1535 : BitVec 1 := Scalar.cmpi .ne v1534 c0_i32_989
  let v1539 : BitVec 1 := Scalar.andi v1538 v1535
  let v1540 : BitVec 32 := Scalar.addi v1534 v1533
  let v1541 : BitVec 32 := Scalar.select v1539 v1540 v1534
  let c1_i32_2384 : BitVec 32 := 1#32
  let v3206 : BitVec 32 := Scalar.muli v1541 c1_i32_2384
  let v3207 : BitVec 32 := Scalar.addi c0_i32_2385 v3206
  v3207.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_997 : BitVec 32 := 24#32
  let v1549 : BitVec 32 := Scalar.addi v2 c24_i32_997
  let c32_i32_998 : BitVec 32 := 32#32
  let c0_i32_999 : BitVec 32 := 0#32
  let v1550 : BitVec 1 := Scalar.cmpi .eq c32_i32_998 c0_i32_999
  let c1_i32_1000 : BitVec 32 := 1#32
  let v1551 : BitVec 32 := Scalar.select v1550 c1_i32_1000 c32_i32_998
  let v1552 : BitVec 32 := Scalar.remsi v1549 v1551
  let c0_i32_1002 : BitVec 32 := 0#32
  let v1554 : BitVec 1 := Scalar.cmpi .slt v1552 c0_i32_1002
  let c0_i32_1003 : BitVec 32 := 0#32
  let v1555 : BitVec 1 := Scalar.cmpi .slt v1551 c0_i32_1003
  let v1556 : BitVec 1 := Scalar.xori v1554 v1555
  let c0_i32_1001 : BitVec 32 := 0#32
  let v1553 : BitVec 1 := Scalar.cmpi .ne v1552 c0_i32_1001
  let v1557 : BitVec 1 := Scalar.andi v1556 v1553
  let v1558 : BitVec 32 := Scalar.addi v1552 v1551
  let v1559 : BitVec 32 := Scalar.select v1557 v1558 v1552
  let c16_i32_1004 : BitVec 32 := 16#32
  let v1560 : BitVec 32 := Scalar.muli v1559 c16_i32_1004
  let c128_i32_1005 : BitVec 32 := 128#32
  let v1561 : BitVec 1 := Scalar.cmpi .sge v1560 c128_i32_1005
  let c16_i32_1006 : BitVec 32 := 16#32
  let v1562 : BitVec 32 := Scalar.muli v1559 c16_i32_1006
  let c256_i32_1007 : BitVec 32 := 256#32
  let v1563 : BitVec 1 := Scalar.cmpi .slt v1562 c256_i32_1007
  let v1564 : BitVec 1 := Scalar.andi v1561 v1563
  let v1565 : BitVec 32 := Scalar.extui v1564
  let c0_i32_1008 : BitVec 32 := 0#32
  let v1566 : BitVec 1 := Scalar.cmpi .ne v1565 c0_i32_1008
  v1566

def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_997 : BitVec 32 := 24#32
  let v1549 : BitVec 32 := Scalar.addi v2 c24_i32_997
  let c32_i32_998 : BitVec 32 := 32#32
  let c0_i32_999 : BitVec 32 := 0#32
  let v1550 : BitVec 1 := Scalar.cmpi .eq c32_i32_998 c0_i32_999
  let c1_i32_1000 : BitVec 32 := 1#32
  let v1551 : BitVec 32 := Scalar.select v1550 c1_i32_1000 c32_i32_998
  let v1552 : BitVec 32 := Scalar.remsi v1549 v1551
  let c0_i32_1002 : BitVec 32 := 0#32
  let v1554 : BitVec 1 := Scalar.cmpi .slt v1552 c0_i32_1002
  let c0_i32_1003 : BitVec 32 := 0#32
  let v1555 : BitVec 1 := Scalar.cmpi .slt v1551 c0_i32_1003
  let v1556 : BitVec 1 := Scalar.xori v1554 v1555
  let c0_i32_1001 : BitVec 32 := 0#32
  let v1553 : BitVec 1 := Scalar.cmpi .ne v1552 c0_i32_1001
  let v1557 : BitVec 1 := Scalar.andi v1556 v1553
  let v1558 : BitVec 32 := Scalar.addi v1552 v1551
  let v1559 : BitVec 32 := Scalar.select v1557 v1558 v1552
  let c16_i32_2380 : BitVec 32 := 16#32
  let v3205 : BitVec 32 := Scalar.muli v1559 c16_i32_2380
  let c0_i32_2388 : BitVec 32 := 0#32
  ![v3205.toNat, 0]
def k0_dev87 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_997 : BitVec 32 := 24#32
  let v1549 : BitVec 32 := Scalar.addi v2 c24_i32_997
  let c32_i32_998 : BitVec 32 := 32#32
  let c0_i32_999 : BitVec 32 := 0#32
  let v1550 : BitVec 1 := Scalar.cmpi .eq c32_i32_998 c0_i32_999
  let c1_i32_1000 : BitVec 32 := 1#32
  let v1551 : BitVec 32 := Scalar.select v1550 c1_i32_1000 c32_i32_998
  let v1552 : BitVec 32 := Scalar.remsi v1549 v1551
  let c0_i32_1002 : BitVec 32 := 0#32
  let v1554 : BitVec 1 := Scalar.cmpi .slt v1552 c0_i32_1002
  let c0_i32_1003 : BitVec 32 := 0#32
  let v1555 : BitVec 1 := Scalar.cmpi .slt v1551 c0_i32_1003
  let v1556 : BitVec 1 := Scalar.xori v1554 v1555
  let c0_i32_1001 : BitVec 32 := 0#32
  let v1553 : BitVec 1 := Scalar.cmpi .ne v1552 c0_i32_1001
  let v1557 : BitVec 1 := Scalar.andi v1556 v1553
  let v1558 : BitVec 32 := Scalar.addi v1552 v1551
  let v1559 : BitVec 32 := Scalar.select v1557 v1558 v1552
  let c1_i32_2384 : BitVec 32 := 1#32
  let v3206 : BitVec 32 := Scalar.muli v1559 c1_i32_2384
  let v3207 : BitVec 32 := Scalar.addi c0_i32_2385 v3206
  v3207.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1009 : BitVec 32 := 25#32
  let v1567 : BitVec 32 := Scalar.addi v2 c25_i32_1009
  let c32_i32_1010 : BitVec 32 := 32#32
  let c0_i32_1011 : BitVec 32 := 0#32
  let v1568 : BitVec 1 := Scalar.cmpi .eq c32_i32_1010 c0_i32_1011
  let c1_i32_1012 : BitVec 32 := 1#32
  let v1569 : BitVec 32 := Scalar.select v1568 c1_i32_1012 c32_i32_1010
  let v1570 : BitVec 32 := Scalar.remsi v1567 v1569
  let c0_i32_1014 : BitVec 32 := 0#32
  let v1572 : BitVec 1 := Scalar.cmpi .slt v1570 c0_i32_1014
  let c0_i32_1015 : BitVec 32 := 0#32
  let v1573 : BitVec 1 := Scalar.cmpi .slt v1569 c0_i32_1015
  let v1574 : BitVec 1 := Scalar.xori v1572 v1573
  let c0_i32_1013 : BitVec 32 := 0#32
  let v1571 : BitVec 1 := Scalar.cmpi .ne v1570 c0_i32_1013
  let v1575 : BitVec 1 := Scalar.andi v1574 v1571
  let v1576 : BitVec 32 := Scalar.addi v1570 v1569
  let v1577 : BitVec 32 := Scalar.select v1575 v1576 v1570
  let c16_i32_1016 : BitVec 32 := 16#32
  let v1578 : BitVec 32 := Scalar.muli v1577 c16_i32_1016
  let c128_i32_1017 : BitVec 32 := 128#32
  let v1579 : BitVec 1 := Scalar.cmpi .sge v1578 c128_i32_1017
  let c16_i32_1018 : BitVec 32 := 16#32
  let v1580 : BitVec 32 := Scalar.muli v1577 c16_i32_1018
  let c256_i32_1019 : BitVec 32 := 256#32
  let v1581 : BitVec 1 := Scalar.cmpi .slt v1580 c256_i32_1019
  let v1582 : BitVec 1 := Scalar.andi v1579 v1581
  let v1583 : BitVec 32 := Scalar.extui v1582
  let c0_i32_1020 : BitVec 32 := 0#32
  let v1584 : BitVec 1 := Scalar.cmpi .ne v1583 c0_i32_1020
  v1584

def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1009 : BitVec 32 := 25#32
  let v1567 : BitVec 32 := Scalar.addi v2 c25_i32_1009
  let c32_i32_1010 : BitVec 32 := 32#32
  let c0_i32_1011 : BitVec 32 := 0#32
  let v1568 : BitVec 1 := Scalar.cmpi .eq c32_i32_1010 c0_i32_1011
  let c1_i32_1012 : BitVec 32 := 1#32
  let v1569 : BitVec 32 := Scalar.select v1568 c1_i32_1012 c32_i32_1010
  let v1570 : BitVec 32 := Scalar.remsi v1567 v1569
  let c0_i32_1014 : BitVec 32 := 0#32
  let v1572 : BitVec 1 := Scalar.cmpi .slt v1570 c0_i32_1014
  let c0_i32_1015 : BitVec 32 := 0#32
  let v1573 : BitVec 1 := Scalar.cmpi .slt v1569 c0_i32_1015
  let v1574 : BitVec 1 := Scalar.xori v1572 v1573
  let c0_i32_1013 : BitVec 32 := 0#32
  let v1571 : BitVec 1 := Scalar.cmpi .ne v1570 c0_i32_1013
  let v1575 : BitVec 1 := Scalar.andi v1574 v1571
  let v1576 : BitVec 32 := Scalar.addi v1570 v1569
  let v1577 : BitVec 32 := Scalar.select v1575 v1576 v1570
  let c16_i32_2380 : BitVec 32 := 16#32
  let v3205 : BitVec 32 := Scalar.muli v1577 c16_i32_2380
  let c0_i32_2388 : BitVec 32 := 0#32
  ![v3205.toNat, 0]
def k0_dev88 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1009 : BitVec 32 := 25#32
  let v1567 : BitVec 32 := Scalar.addi v2 c25_i32_1009
  let c32_i32_1010 : BitVec 32 := 32#32
  let c0_i32_1011 : BitVec 32 := 0#32
  let v1568 : BitVec 1 := Scalar.cmpi .eq c32_i32_1010 c0_i32_1011
  let c1_i32_1012 : BitVec 32 := 1#32
  let v1569 : BitVec 32 := Scalar.select v1568 c1_i32_1012 c32_i32_1010
  let v1570 : BitVec 32 := Scalar.remsi v1567 v1569
  let c0_i32_1014 : BitVec 32 := 0#32
  let v1572 : BitVec 1 := Scalar.cmpi .slt v1570 c0_i32_1014
  let c0_i32_1015 : BitVec 32 := 0#32
  let v1573 : BitVec 1 := Scalar.cmpi .slt v1569 c0_i32_1015
  let v1574 : BitVec 1 := Scalar.xori v1572 v1573
  let c0_i32_1013 : BitVec 32 := 0#32
  let v1571 : BitVec 1 := Scalar.cmpi .ne v1570 c0_i32_1013
  let v1575 : BitVec 1 := Scalar.andi v1574 v1571
  let v1576 : BitVec 32 := Scalar.addi v1570 v1569
  let v1577 : BitVec 32 := Scalar.select v1575 v1576 v1570
  let c1_i32_2384 : BitVec 32 := 1#32
  let v3206 : BitVec 32 := Scalar.muli v1577 c1_i32_2384
  let v3207 : BitVec 32 := Scalar.addi c0_i32_2385 v3206
  v3207.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1021 : BitVec 32 := 26#32
  let v1585 : BitVec 32 := Scalar.addi v2 c26_i32_1021
  let c32_i32_1022 : BitVec 32 := 32#32
  let c0_i32_1023 : BitVec 32 := 0#32
  let v1586 : BitVec 1 := Scalar.cmpi .eq c32_i32_1022 c0_i32_1023
  let c1_i32_1024 : BitVec 32 := 1#32
  let v1587 : BitVec 32 := Scalar.select v1586 c1_i32_1024 c32_i32_1022
  let v1588 : BitVec 32 := Scalar.remsi v1585 v1587
  let c0_i32_1026 : BitVec 32 := 0#32
  let v1590 : BitVec 1 := Scalar.cmpi .slt v1588 c0_i32_1026
  let c0_i32_1027 : BitVec 32 := 0#32
  let v1591 : BitVec 1 := Scalar.cmpi .slt v1587 c0_i32_1027
  let v1592 : BitVec 1 := Scalar.xori v1590 v1591
  let c0_i32_1025 : BitVec 32 := 0#32
  let v1589 : BitVec 1 := Scalar.cmpi .ne v1588 c0_i32_1025
  let v1593 : BitVec 1 := Scalar.andi v1592 v1589
  let v1594 : BitVec 32 := Scalar.addi v1588 v1587
  let v1595 : BitVec 32 := Scalar.select v1593 v1594 v1588
  let c16_i32_1028 : BitVec 32 := 16#32
  let v1596 : BitVec 32 := Scalar.muli v1595 c16_i32_1028
  let c128_i32_1029 : BitVec 32 := 128#32
  let v1597 : BitVec 1 := Scalar.cmpi .sge v1596 c128_i32_1029
  let c16_i32_1030 : BitVec 32 := 16#32
  let v1598 : BitVec 32 := Scalar.muli v1595 c16_i32_1030
  let c256_i32_1031 : BitVec 32 := 256#32
  let v1599 : BitVec 1 := Scalar.cmpi .slt v1598 c256_i32_1031
  let v1600 : BitVec 1 := Scalar.andi v1597 v1599
  let v1601 : BitVec 32 := Scalar.extui v1600
  let c0_i32_1032 : BitVec 32 := 0#32
  let v1602 : BitVec 1 := Scalar.cmpi .ne v1601 c0_i32_1032
  v1602

def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1021 : BitVec 32 := 26#32
  let v1585 : BitVec 32 := Scalar.addi v2 c26_i32_1021
  let c32_i32_1022 : BitVec 32 := 32#32
  let c0_i32_1023 : BitVec 32 := 0#32
  let v1586 : BitVec 1 := Scalar.cmpi .eq c32_i32_1022 c0_i32_1023
  let c1_i32_1024 : BitVec 32 := 1#32
  let v1587 : BitVec 32 := Scalar.select v1586 c1_i32_1024 c32_i32_1022
  let v1588 : BitVec 32 := Scalar.remsi v1585 v1587
  let c0_i32_1026 : BitVec 32 := 0#32
  let v1590 : BitVec 1 := Scalar.cmpi .slt v1588 c0_i32_1026
  let c0_i32_1027 : BitVec 32 := 0#32
  let v1591 : BitVec 1 := Scalar.cmpi .slt v1587 c0_i32_1027
  let v1592 : BitVec 1 := Scalar.xori v1590 v1591
  let c0_i32_1025 : BitVec 32 := 0#32
  let v1589 : BitVec 1 := Scalar.cmpi .ne v1588 c0_i32_1025
  let v1593 : BitVec 1 := Scalar.andi v1592 v1589
  let v1594 : BitVec 32 := Scalar.addi v1588 v1587
  let v1595 : BitVec 32 := Scalar.select v1593 v1594 v1588
  let c16_i32_2380 : BitVec 32 := 16#32
  let v3205 : BitVec 32 := Scalar.muli v1595 c16_i32_2380
  let c0_i32_2388 : BitVec 32 := 0#32
  ![v3205.toNat, 0]
def k0_dev89 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1021 : BitVec 32 := 26#32
  let v1585 : BitVec 32 := Scalar.addi v2 c26_i32_1021
  let c32_i32_1022 : BitVec 32 := 32#32
  let c0_i32_1023 : BitVec 32 := 0#32
  let v1586 : BitVec 1 := Scalar.cmpi .eq c32_i32_1022 c0_i32_1023
  let c1_i32_1024 : BitVec 32 := 1#32
  let v1587 : BitVec 32 := Scalar.select v1586 c1_i32_1024 c32_i32_1022
  let v1588 : BitVec 32 := Scalar.remsi v1585 v1587
  let c0_i32_1026 : BitVec 32 := 0#32
  let v1590 : BitVec 1 := Scalar.cmpi .slt v1588 c0_i32_1026
  let c0_i32_1027 : BitVec 32 := 0#32
  let v1591 : BitVec 1 := Scalar.cmpi .slt v1587 c0_i32_1027
  let v1592 : BitVec 1 := Scalar.xori v1590 v1591
  let c0_i32_1025 : BitVec 32 := 0#32
  let v1589 : BitVec 1 := Scalar.cmpi .ne v1588 c0_i32_1025
  let v1593 : BitVec 1 := Scalar.andi v1592 v1589
  let v1594 : BitVec 32 := Scalar.addi v1588 v1587
  let v1595 : BitVec 32 := Scalar.select v1593 v1594 v1588
  let c1_i32_2384 : BitVec 32 := 1#32
  let v3206 : BitVec 32 := Scalar.muli v1595 c1_i32_2384
  let v3207 : BitVec 32 := Scalar.addi c0_i32_2385 v3206
  v3207.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1033 : BitVec 32 := 27#32
  let v1603 : BitVec 32 := Scalar.addi v2 c27_i32_1033
  let c32_i32_1034 : BitVec 32 := 32#32
  let c0_i32_1035 : BitVec 32 := 0#32
  let v1604 : BitVec 1 := Scalar.cmpi .eq c32_i32_1034 c0_i32_1035
  let c1_i32_1036 : BitVec 32 := 1#32
  let v1605 : BitVec 32 := Scalar.select v1604 c1_i32_1036 c32_i32_1034
  let v1606 : BitVec 32 := Scalar.remsi v1603 v1605
  let c0_i32_1038 : BitVec 32 := 0#32
  let v1608 : BitVec 1 := Scalar.cmpi .slt v1606 c0_i32_1038
  let c0_i32_1039 : BitVec 32 := 0#32
  let v1609 : BitVec 1 := Scalar.cmpi .slt v1605 c0_i32_1039
  let v1610 : BitVec 1 := Scalar.xori v1608 v1609
  let c0_i32_1037 : BitVec 32 := 0#32
  let v1607 : BitVec 1 := Scalar.cmpi .ne v1606 c0_i32_1037
  let v1611 : BitVec 1 := Scalar.andi v1610 v1607
  let v1612 : BitVec 32 := Scalar.addi v1606 v1605
  let v1613 : BitVec 32 := Scalar.select v1611 v1612 v1606
  let c16_i32_1040 : BitVec 32 := 16#32
  let v1614 : BitVec 32 := Scalar.muli v1613 c16_i32_1040
  let c128_i32_1041 : BitVec 32 := 128#32
  let v1615 : BitVec 1 := Scalar.cmpi .sge v1614 c128_i32_1041
  let c16_i32_1042 : BitVec 32 := 16#32
  let v1616 : BitVec 32 := Scalar.muli v1613 c16_i32_1042
  let c256_i32_1043 : BitVec 32 := 256#32
  let v1617 : BitVec 1 := Scalar.cmpi .slt v1616 c256_i32_1043
  let v1618 : BitVec 1 := Scalar.andi v1615 v1617
  let v1619 : BitVec 32 := Scalar.extui v1618
  let c0_i32_1044 : BitVec 32 := 0#32
  let v1620 : BitVec 1 := Scalar.cmpi .ne v1619 c0_i32_1044
  v1620

def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1033 : BitVec 32 := 27#32
  let v1603 : BitVec 32 := Scalar.addi v2 c27_i32_1033
  let c32_i32_1034 : BitVec 32 := 32#32
  let c0_i32_1035 : BitVec 32 := 0#32
  let v1604 : BitVec 1 := Scalar.cmpi .eq c32_i32_1034 c0_i32_1035
  let c1_i32_1036 : BitVec 32 := 1#32
  let v1605 : BitVec 32 := Scalar.select v1604 c1_i32_1036 c32_i32_1034
  let v1606 : BitVec 32 := Scalar.remsi v1603 v1605
  let c0_i32_1038 : BitVec 32 := 0#32
  let v1608 : BitVec 1 := Scalar.cmpi .slt v1606 c0_i32_1038
  let c0_i32_1039 : BitVec 32 := 0#32
  let v1609 : BitVec 1 := Scalar.cmpi .slt v1605 c0_i32_1039
  let v1610 : BitVec 1 := Scalar.xori v1608 v1609
  let c0_i32_1037 : BitVec 32 := 0#32
  let v1607 : BitVec 1 := Scalar.cmpi .ne v1606 c0_i32_1037
  let v1611 : BitVec 1 := Scalar.andi v1610 v1607
  let v1612 : BitVec 32 := Scalar.addi v1606 v1605
  let v1613 : BitVec 32 := Scalar.select v1611 v1612 v1606
  let c16_i32_2380 : BitVec 32 := 16#32
  let v3205 : BitVec 32 := Scalar.muli v1613 c16_i32_2380
  let c0_i32_2388 : BitVec 32 := 0#32
  ![v3205.toNat, 0]
def k0_dev90 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1033 : BitVec 32 := 27#32
  let v1603 : BitVec 32 := Scalar.addi v2 c27_i32_1033
  let c32_i32_1034 : BitVec 32 := 32#32
  let c0_i32_1035 : BitVec 32 := 0#32
  let v1604 : BitVec 1 := Scalar.cmpi .eq c32_i32_1034 c0_i32_1035
  let c1_i32_1036 : BitVec 32 := 1#32
  let v1605 : BitVec 32 := Scalar.select v1604 c1_i32_1036 c32_i32_1034
  let v1606 : BitVec 32 := Scalar.remsi v1603 v1605
  let c0_i32_1038 : BitVec 32 := 0#32
  let v1608 : BitVec 1 := Scalar.cmpi .slt v1606 c0_i32_1038
  let c0_i32_1039 : BitVec 32 := 0#32
  let v1609 : BitVec 1 := Scalar.cmpi .slt v1605 c0_i32_1039
  let v1610 : BitVec 1 := Scalar.xori v1608 v1609
  let c0_i32_1037 : BitVec 32 := 0#32
  let v1607 : BitVec 1 := Scalar.cmpi .ne v1606 c0_i32_1037
  let v1611 : BitVec 1 := Scalar.andi v1610 v1607
  let v1612 : BitVec 32 := Scalar.addi v1606 v1605
  let v1613 : BitVec 32 := Scalar.select v1611 v1612 v1606
  let c1_i32_2384 : BitVec 32 := 1#32
  let v3206 : BitVec 32 := Scalar.muli v1613 c1_i32_2384
  let v3207 : BitVec 32 := Scalar.addi c0_i32_2385 v3206
  v3207.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1045 : BitVec 32 := 28#32
  let v1621 : BitVec 32 := Scalar.addi v2 c28_i32_1045
  let c32_i32_1046 : BitVec 32 := 32#32
  let c0_i32_1047 : BitVec 32 := 0#32
  let v1622 : BitVec 1 := Scalar.cmpi .eq c32_i32_1046 c0_i32_1047
  let c1_i32_1048 : BitVec 32 := 1#32
  let v1623 : BitVec 32 := Scalar.select v1622 c1_i32_1048 c32_i32_1046
  let v1624 : BitVec 32 := Scalar.remsi v1621 v1623
  let c0_i32_1050 : BitVec 32 := 0#32
  let v1626 : BitVec 1 := Scalar.cmpi .slt v1624 c0_i32_1050
  let c0_i32_1051 : BitVec 32 := 0#32
  let v1627 : BitVec 1 := Scalar.cmpi .slt v1623 c0_i32_1051
  let v1628 : BitVec 1 := Scalar.xori v1626 v1627
  let c0_i32_1049 : BitVec 32 := 0#32
  let v1625 : BitVec 1 := Scalar.cmpi .ne v1624 c0_i32_1049
  let v1629 : BitVec 1 := Scalar.andi v1628 v1625
  let v1630 : BitVec 32 := Scalar.addi v1624 v1623
  let v1631 : BitVec 32 := Scalar.select v1629 v1630 v1624
  let c16_i32_1052 : BitVec 32 := 16#32
  let v1632 : BitVec 32 := Scalar.muli v1631 c16_i32_1052
  let c128_i32_1053 : BitVec 32 := 128#32
  let v1633 : BitVec 1 := Scalar.cmpi .sge v1632 c128_i32_1053
  let c16_i32_1054 : BitVec 32 := 16#32
  let v1634 : BitVec 32 := Scalar.muli v1631 c16_i32_1054
  let c256_i32_1055 : BitVec 32 := 256#32
  let v1635 : BitVec 1 := Scalar.cmpi .slt v1634 c256_i32_1055
  let v1636 : BitVec 1 := Scalar.andi v1633 v1635
  let v1637 : BitVec 32 := Scalar.extui v1636
  let c0_i32_1056 : BitVec 32 := 0#32
  let v1638 : BitVec 1 := Scalar.cmpi .ne v1637 c0_i32_1056
  v1638

def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1045 : BitVec 32 := 28#32
  let v1621 : BitVec 32 := Scalar.addi v2 c28_i32_1045
  let c32_i32_1046 : BitVec 32 := 32#32
  let c0_i32_1047 : BitVec 32 := 0#32
  let v1622 : BitVec 1 := Scalar.cmpi .eq c32_i32_1046 c0_i32_1047
  let c1_i32_1048 : BitVec 32 := 1#32
  let v1623 : BitVec 32 := Scalar.select v1622 c1_i32_1048 c32_i32_1046
  let v1624 : BitVec 32 := Scalar.remsi v1621 v1623
  let c0_i32_1050 : BitVec 32 := 0#32
  let v1626 : BitVec 1 := Scalar.cmpi .slt v1624 c0_i32_1050
  let c0_i32_1051 : BitVec 32 := 0#32
  let v1627 : BitVec 1 := Scalar.cmpi .slt v1623 c0_i32_1051
  let v1628 : BitVec 1 := Scalar.xori v1626 v1627
  let c0_i32_1049 : BitVec 32 := 0#32
  let v1625 : BitVec 1 := Scalar.cmpi .ne v1624 c0_i32_1049
  let v1629 : BitVec 1 := Scalar.andi v1628 v1625
  let v1630 : BitVec 32 := Scalar.addi v1624 v1623
  let v1631 : BitVec 32 := Scalar.select v1629 v1630 v1624
  let c16_i32_2380 : BitVec 32 := 16#32
  let v3205 : BitVec 32 := Scalar.muli v1631 c16_i32_2380
  let c0_i32_2388 : BitVec 32 := 0#32
  ![v3205.toNat, 0]
def k0_dev91 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1045 : BitVec 32 := 28#32
  let v1621 : BitVec 32 := Scalar.addi v2 c28_i32_1045
  let c32_i32_1046 : BitVec 32 := 32#32
  let c0_i32_1047 : BitVec 32 := 0#32
  let v1622 : BitVec 1 := Scalar.cmpi .eq c32_i32_1046 c0_i32_1047
  let c1_i32_1048 : BitVec 32 := 1#32
  let v1623 : BitVec 32 := Scalar.select v1622 c1_i32_1048 c32_i32_1046
  let v1624 : BitVec 32 := Scalar.remsi v1621 v1623
  let c0_i32_1050 : BitVec 32 := 0#32
  let v1626 : BitVec 1 := Scalar.cmpi .slt v1624 c0_i32_1050
  let c0_i32_1051 : BitVec 32 := 0#32
  let v1627 : BitVec 1 := Scalar.cmpi .slt v1623 c0_i32_1051
  let v1628 : BitVec 1 := Scalar.xori v1626 v1627
  let c0_i32_1049 : BitVec 32 := 0#32
  let v1625 : BitVec 1 := Scalar.cmpi .ne v1624 c0_i32_1049
  let v1629 : BitVec 1 := Scalar.andi v1628 v1625
  let v1630 : BitVec 32 := Scalar.addi v1624 v1623
  let v1631 : BitVec 32 := Scalar.select v1629 v1630 v1624
  let c1_i32_2384 : BitVec 32 := 1#32
  let v3206 : BitVec 32 := Scalar.muli v1631 c1_i32_2384
  let v3207 : BitVec 32 := Scalar.addi c0_i32_2385 v3206
  v3207.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1057 : BitVec 32 := 29#32
  let v1639 : BitVec 32 := Scalar.addi v2 c29_i32_1057
  let c32_i32_1058 : BitVec 32 := 32#32
  let c0_i32_1059 : BitVec 32 := 0#32
  let v1640 : BitVec 1 := Scalar.cmpi .eq c32_i32_1058 c0_i32_1059
  let c1_i32_1060 : BitVec 32 := 1#32
  let v1641 : BitVec 32 := Scalar.select v1640 c1_i32_1060 c32_i32_1058
  let v1642 : BitVec 32 := Scalar.remsi v1639 v1641
  let c0_i32_1062 : BitVec 32 := 0#32
  let v1644 : BitVec 1 := Scalar.cmpi .slt v1642 c0_i32_1062
  let c0_i32_1063 : BitVec 32 := 0#32
  let v1645 : BitVec 1 := Scalar.cmpi .slt v1641 c0_i32_1063
  let v1646 : BitVec 1 := Scalar.xori v1644 v1645
  let c0_i32_1061 : BitVec 32 := 0#32
  let v1643 : BitVec 1 := Scalar.cmpi .ne v1642 c0_i32_1061
  let v1647 : BitVec 1 := Scalar.andi v1646 v1643
  let v1648 : BitVec 32 := Scalar.addi v1642 v1641
  let v1649 : BitVec 32 := Scalar.select v1647 v1648 v1642
  let c16_i32_1064 : BitVec 32 := 16#32
  let v1650 : BitVec 32 := Scalar.muli v1649 c16_i32_1064
  let c128_i32_1065 : BitVec 32 := 128#32
  let v1651 : BitVec 1 := Scalar.cmpi .sge v1650 c128_i32_1065
  let c16_i32_1066 : BitVec 32 := 16#32
  let v1652 : BitVec 32 := Scalar.muli v1649 c16_i32_1066
  let c256_i32_1067 : BitVec 32 := 256#32
  let v1653 : BitVec 1 := Scalar.cmpi .slt v1652 c256_i32_1067
  let v1654 : BitVec 1 := Scalar.andi v1651 v1653
  let v1655 : BitVec 32 := Scalar.extui v1654
  let c0_i32_1068 : BitVec 32 := 0#32
  let v1656 : BitVec 1 := Scalar.cmpi .ne v1655 c0_i32_1068
  v1656

def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1057 : BitVec 32 := 29#32
  let v1639 : BitVec 32 := Scalar.addi v2 c29_i32_1057
  let c32_i32_1058 : BitVec 32 := 32#32
  let c0_i32_1059 : BitVec 32 := 0#32
  let v1640 : BitVec 1 := Scalar.cmpi .eq c32_i32_1058 c0_i32_1059
  let c1_i32_1060 : BitVec 32 := 1#32
  let v1641 : BitVec 32 := Scalar.select v1640 c1_i32_1060 c32_i32_1058
  let v1642 : BitVec 32 := Scalar.remsi v1639 v1641
  let c0_i32_1062 : BitVec 32 := 0#32
  let v1644 : BitVec 1 := Scalar.cmpi .slt v1642 c0_i32_1062
  let c0_i32_1063 : BitVec 32 := 0#32
  let v1645 : BitVec 1 := Scalar.cmpi .slt v1641 c0_i32_1063
  let v1646 : BitVec 1 := Scalar.xori v1644 v1645
  let c0_i32_1061 : BitVec 32 := 0#32
  let v1643 : BitVec 1 := Scalar.cmpi .ne v1642 c0_i32_1061
  let v1647 : BitVec 1 := Scalar.andi v1646 v1643
  let v1648 : BitVec 32 := Scalar.addi v1642 v1641
  let v1649 : BitVec 32 := Scalar.select v1647 v1648 v1642
  let c16_i32_2380 : BitVec 32 := 16#32
  let v3205 : BitVec 32 := Scalar.muli v1649 c16_i32_2380
  let c0_i32_2388 : BitVec 32 := 0#32
  ![v3205.toNat, 0]
def k0_dev92 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1057 : BitVec 32 := 29#32
  let v1639 : BitVec 32 := Scalar.addi v2 c29_i32_1057
  let c32_i32_1058 : BitVec 32 := 32#32
  let c0_i32_1059 : BitVec 32 := 0#32
  let v1640 : BitVec 1 := Scalar.cmpi .eq c32_i32_1058 c0_i32_1059
  let c1_i32_1060 : BitVec 32 := 1#32
  let v1641 : BitVec 32 := Scalar.select v1640 c1_i32_1060 c32_i32_1058
  let v1642 : BitVec 32 := Scalar.remsi v1639 v1641
  let c0_i32_1062 : BitVec 32 := 0#32
  let v1644 : BitVec 1 := Scalar.cmpi .slt v1642 c0_i32_1062
  let c0_i32_1063 : BitVec 32 := 0#32
  let v1645 : BitVec 1 := Scalar.cmpi .slt v1641 c0_i32_1063
  let v1646 : BitVec 1 := Scalar.xori v1644 v1645
  let c0_i32_1061 : BitVec 32 := 0#32
  let v1643 : BitVec 1 := Scalar.cmpi .ne v1642 c0_i32_1061
  let v1647 : BitVec 1 := Scalar.andi v1646 v1643
  let v1648 : BitVec 32 := Scalar.addi v1642 v1641
  let v1649 : BitVec 32 := Scalar.select v1647 v1648 v1642
  let c1_i32_2384 : BitVec 32 := 1#32
  let v3206 : BitVec 32 := Scalar.muli v1649 c1_i32_2384
  let v3207 : BitVec 32 := Scalar.addi c0_i32_2385 v3206
  v3207.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1069 : BitVec 32 := 30#32
  let v1657 : BitVec 32 := Scalar.addi v2 c30_i32_1069
  let c32_i32_1070 : BitVec 32 := 32#32
  let c0_i32_1071 : BitVec 32 := 0#32
  let v1658 : BitVec 1 := Scalar.cmpi .eq c32_i32_1070 c0_i32_1071
  let c1_i32_1072 : BitVec 32 := 1#32
  let v1659 : BitVec 32 := Scalar.select v1658 c1_i32_1072 c32_i32_1070
  let v1660 : BitVec 32 := Scalar.remsi v1657 v1659
  let c0_i32_1074 : BitVec 32 := 0#32
  let v1662 : BitVec 1 := Scalar.cmpi .slt v1660 c0_i32_1074
  let c0_i32_1075 : BitVec 32 := 0#32
  let v1663 : BitVec 1 := Scalar.cmpi .slt v1659 c0_i32_1075
  let v1664 : BitVec 1 := Scalar.xori v1662 v1663
  let c0_i32_1073 : BitVec 32 := 0#32
  let v1661 : BitVec 1 := Scalar.cmpi .ne v1660 c0_i32_1073
  let v1665 : BitVec 1 := Scalar.andi v1664 v1661
  let v1666 : BitVec 32 := Scalar.addi v1660 v1659
  let v1667 : BitVec 32 := Scalar.select v1665 v1666 v1660
  let c16_i32_1076 : BitVec 32 := 16#32
  let v1668 : BitVec 32 := Scalar.muli v1667 c16_i32_1076
  let c128_i32_1077 : BitVec 32 := 128#32
  let v1669 : BitVec 1 := Scalar.cmpi .sge v1668 c128_i32_1077
  let c16_i32_1078 : BitVec 32 := 16#32
  let v1670 : BitVec 32 := Scalar.muli v1667 c16_i32_1078
  let c256_i32_1079 : BitVec 32 := 256#32
  let v1671 : BitVec 1 := Scalar.cmpi .slt v1670 c256_i32_1079
  let v1672 : BitVec 1 := Scalar.andi v1669 v1671
  let v1673 : BitVec 32 := Scalar.extui v1672
  let c0_i32_1080 : BitVec 32 := 0#32
  let v1674 : BitVec 1 := Scalar.cmpi .ne v1673 c0_i32_1080
  v1674

def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1069 : BitVec 32 := 30#32
  let v1657 : BitVec 32 := Scalar.addi v2 c30_i32_1069
  let c32_i32_1070 : BitVec 32 := 32#32
  let c0_i32_1071 : BitVec 32 := 0#32
  let v1658 : BitVec 1 := Scalar.cmpi .eq c32_i32_1070 c0_i32_1071
  let c1_i32_1072 : BitVec 32 := 1#32
  let v1659 : BitVec 32 := Scalar.select v1658 c1_i32_1072 c32_i32_1070
  let v1660 : BitVec 32 := Scalar.remsi v1657 v1659
  let c0_i32_1074 : BitVec 32 := 0#32
  let v1662 : BitVec 1 := Scalar.cmpi .slt v1660 c0_i32_1074
  let c0_i32_1075 : BitVec 32 := 0#32
  let v1663 : BitVec 1 := Scalar.cmpi .slt v1659 c0_i32_1075
  let v1664 : BitVec 1 := Scalar.xori v1662 v1663
  let c0_i32_1073 : BitVec 32 := 0#32
  let v1661 : BitVec 1 := Scalar.cmpi .ne v1660 c0_i32_1073
  let v1665 : BitVec 1 := Scalar.andi v1664 v1661
  let v1666 : BitVec 32 := Scalar.addi v1660 v1659
  let v1667 : BitVec 32 := Scalar.select v1665 v1666 v1660
  let c16_i32_2380 : BitVec 32 := 16#32
  let v3205 : BitVec 32 := Scalar.muli v1667 c16_i32_2380
  let c0_i32_2388 : BitVec 32 := 0#32
  ![v3205.toNat, 0]
def k0_dev93 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1069 : BitVec 32 := 30#32
  let v1657 : BitVec 32 := Scalar.addi v2 c30_i32_1069
  let c32_i32_1070 : BitVec 32 := 32#32
  let c0_i32_1071 : BitVec 32 := 0#32
  let v1658 : BitVec 1 := Scalar.cmpi .eq c32_i32_1070 c0_i32_1071
  let c1_i32_1072 : BitVec 32 := 1#32
  let v1659 : BitVec 32 := Scalar.select v1658 c1_i32_1072 c32_i32_1070
  let v1660 : BitVec 32 := Scalar.remsi v1657 v1659
  let c0_i32_1074 : BitVec 32 := 0#32
  let v1662 : BitVec 1 := Scalar.cmpi .slt v1660 c0_i32_1074
  let c0_i32_1075 : BitVec 32 := 0#32
  let v1663 : BitVec 1 := Scalar.cmpi .slt v1659 c0_i32_1075
  let v1664 : BitVec 1 := Scalar.xori v1662 v1663
  let c0_i32_1073 : BitVec 32 := 0#32
  let v1661 : BitVec 1 := Scalar.cmpi .ne v1660 c0_i32_1073
  let v1665 : BitVec 1 := Scalar.andi v1664 v1661
  let v1666 : BitVec 32 := Scalar.addi v1660 v1659
  let v1667 : BitVec 32 := Scalar.select v1665 v1666 v1660
  let c1_i32_2384 : BitVec 32 := 1#32
  let v3206 : BitVec 32 := Scalar.muli v1667 c1_i32_2384
  let v3207 : BitVec 32 := Scalar.addi c0_i32_2385 v3206
  v3207.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1081 : BitVec 32 := 31#32
  let v1675 : BitVec 32 := Scalar.addi v2 c31_i32_1081
  let c32_i32_1082 : BitVec 32 := 32#32
  let c0_i32_1083 : BitVec 32 := 0#32
  let v1676 : BitVec 1 := Scalar.cmpi .eq c32_i32_1082 c0_i32_1083
  let c1_i32_1084 : BitVec 32 := 1#32
  let v1677 : BitVec 32 := Scalar.select v1676 c1_i32_1084 c32_i32_1082
  let v1678 : BitVec 32 := Scalar.remsi v1675 v1677
  let c0_i32_1086 : BitVec 32 := 0#32
  let v1680 : BitVec 1 := Scalar.cmpi .slt v1678 c0_i32_1086
  let c0_i32_1087 : BitVec 32 := 0#32
  let v1681 : BitVec 1 := Scalar.cmpi .slt v1677 c0_i32_1087
  let v1682 : BitVec 1 := Scalar.xori v1680 v1681
  let c0_i32_1085 : BitVec 32 := 0#32
  let v1679 : BitVec 1 := Scalar.cmpi .ne v1678 c0_i32_1085
  let v1683 : BitVec 1 := Scalar.andi v1682 v1679
  let v1684 : BitVec 32 := Scalar.addi v1678 v1677
  let v1685 : BitVec 32 := Scalar.select v1683 v1684 v1678
  let c16_i32_1088 : BitVec 32 := 16#32
  let v1686 : BitVec 32 := Scalar.muli v1685 c16_i32_1088
  let c128_i32_1089 : BitVec 32 := 128#32
  let v1687 : BitVec 1 := Scalar.cmpi .sge v1686 c128_i32_1089
  let c16_i32_1090 : BitVec 32 := 16#32
  let v1688 : BitVec 32 := Scalar.muli v1685 c16_i32_1090
  let c256_i32_1091 : BitVec 32 := 256#32
  let v1689 : BitVec 1 := Scalar.cmpi .slt v1688 c256_i32_1091
  let v1690 : BitVec 1 := Scalar.andi v1687 v1689
  let v1691 : BitVec 32 := Scalar.extui v1690
  let c0_i32_1092 : BitVec 32 := 0#32
  let v1692 : BitVec 1 := Scalar.cmpi .ne v1691 c0_i32_1092
  v1692

def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1081 : BitVec 32 := 31#32
  let v1675 : BitVec 32 := Scalar.addi v2 c31_i32_1081
  let c32_i32_1082 : BitVec 32 := 32#32
  let c0_i32_1083 : BitVec 32 := 0#32
  let v1676 : BitVec 1 := Scalar.cmpi .eq c32_i32_1082 c0_i32_1083
  let c1_i32_1084 : BitVec 32 := 1#32
  let v1677 : BitVec 32 := Scalar.select v1676 c1_i32_1084 c32_i32_1082
  let v1678 : BitVec 32 := Scalar.remsi v1675 v1677
  let c0_i32_1086 : BitVec 32 := 0#32
  let v1680 : BitVec 1 := Scalar.cmpi .slt v1678 c0_i32_1086
  let c0_i32_1087 : BitVec 32 := 0#32
  let v1681 : BitVec 1 := Scalar.cmpi .slt v1677 c0_i32_1087
  let v1682 : BitVec 1 := Scalar.xori v1680 v1681
  let c0_i32_1085 : BitVec 32 := 0#32
  let v1679 : BitVec 1 := Scalar.cmpi .ne v1678 c0_i32_1085
  let v1683 : BitVec 1 := Scalar.andi v1682 v1679
  let v1684 : BitVec 32 := Scalar.addi v1678 v1677
  let v1685 : BitVec 32 := Scalar.select v1683 v1684 v1678
  let c16_i32_2380 : BitVec 32 := 16#32
  let v3205 : BitVec 32 := Scalar.muli v1685 c16_i32_2380
  let c0_i32_2388 : BitVec 32 := 0#32
  ![v3205.toNat, 0]
def k0_dev94 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1081 : BitVec 32 := 31#32
  let v1675 : BitVec 32 := Scalar.addi v2 c31_i32_1081
  let c32_i32_1082 : BitVec 32 := 32#32
  let c0_i32_1083 : BitVec 32 := 0#32
  let v1676 : BitVec 1 := Scalar.cmpi .eq c32_i32_1082 c0_i32_1083
  let c1_i32_1084 : BitVec 32 := 1#32
  let v1677 : BitVec 32 := Scalar.select v1676 c1_i32_1084 c32_i32_1082
  let v1678 : BitVec 32 := Scalar.remsi v1675 v1677
  let c0_i32_1086 : BitVec 32 := 0#32
  let v1680 : BitVec 1 := Scalar.cmpi .slt v1678 c0_i32_1086
  let c0_i32_1087 : BitVec 32 := 0#32
  let v1681 : BitVec 1 := Scalar.cmpi .slt v1677 c0_i32_1087
  let v1682 : BitVec 1 := Scalar.xori v1680 v1681
  let c0_i32_1085 : BitVec 32 := 0#32
  let v1679 : BitVec 1 := Scalar.cmpi .ne v1678 c0_i32_1085
  let v1683 : BitVec 1 := Scalar.andi v1682 v1679
  let v1684 : BitVec 32 := Scalar.addi v1678 v1677
  let v1685 : BitVec 32 := Scalar.select v1683 v1684 v1678
  let c1_i32_2384 : BitVec 32 := 1#32
  let v3206 : BitVec 32 := Scalar.muli v1685 c1_i32_2384
  let v3207 : BitVec 32 := Scalar.addi c0_i32_2385 v3206
  v3207.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1095 : BitVec 32 := 1#32
  let v1699 : BitVec 32 := Scalar.addi v2 c1_i32_1095
  let c32_i32_1096 : BitVec 32 := 32#32
  let c0_i32_1097 : BitVec 32 := 0#32
  let v1700 : BitVec 1 := Scalar.cmpi .eq c32_i32_1096 c0_i32_1097
  let c1_i32_1098 : BitVec 32 := 1#32
  let v1701 : BitVec 32 := Scalar.select v1700 c1_i32_1098 c32_i32_1096
  let v1702 : BitVec 32 := Scalar.remsi v1699 v1701
  let c0_i32_1100 : BitVec 32 := 0#32
  let v1704 : BitVec 1 := Scalar.cmpi .slt v1702 c0_i32_1100
  let c0_i32_1101 : BitVec 32 := 0#32
  let v1705 : BitVec 1 := Scalar.cmpi .slt v1701 c0_i32_1101
  let v1706 : BitVec 1 := Scalar.xori v1704 v1705
  let c0_i32_1099 : BitVec 32 := 0#32
  let v1703 : BitVec 1 := Scalar.cmpi .ne v1702 c0_i32_1099
  let v1707 : BitVec 1 := Scalar.andi v1706 v1703
  let v1708 : BitVec 32 := Scalar.addi v1702 v1701
  let v1709 : BitVec 32 := Scalar.select v1707 v1708 v1702
  let c16_i32_1102 : BitVec 32 := 16#32
  let v1710 : BitVec 32 := Scalar.muli v1709 c16_i32_1102
  let c256_i32_1103 : BitVec 32 := 256#32
  let v1711 : BitVec 1 := Scalar.cmpi .sge v1710 c256_i32_1103
  let c16_i32_1104 : BitVec 32 := 16#32
  let v1712 : BitVec 32 := Scalar.muli v1709 c16_i32_1104
  let c384_i32 : BitVec 32 := 384#32
  let v1713 : BitVec 1 := Scalar.cmpi .slt v1712 c384_i32
  let v1714 : BitVec 1 := Scalar.andi v1711 v1713
  let v1715 : BitVec 32 := Scalar.extui v1714
  let c0_i32_1105 : BitVec 32 := 0#32
  let v1716 : BitVec 1 := Scalar.cmpi .ne v1715 c0_i32_1105
  v1716

def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1095 : BitVec 32 := 1#32
  let v1699 : BitVec 32 := Scalar.addi v2 c1_i32_1095
  let c32_i32_1096 : BitVec 32 := 32#32
  let c0_i32_1097 : BitVec 32 := 0#32
  let v1700 : BitVec 1 := Scalar.cmpi .eq c32_i32_1096 c0_i32_1097
  let c1_i32_1098 : BitVec 32 := 1#32
  let v1701 : BitVec 32 := Scalar.select v1700 c1_i32_1098 c32_i32_1096
  let v1702 : BitVec 32 := Scalar.remsi v1699 v1701
  let c0_i32_1100 : BitVec 32 := 0#32
  let v1704 : BitVec 1 := Scalar.cmpi .slt v1702 c0_i32_1100
  let c0_i32_1101 : BitVec 32 := 0#32
  let v1705 : BitVec 1 := Scalar.cmpi .slt v1701 c0_i32_1101
  let v1706 : BitVec 1 := Scalar.xori v1704 v1705
  let c0_i32_1099 : BitVec 32 := 0#32
  let v1703 : BitVec 1 := Scalar.cmpi .ne v1702 c0_i32_1099
  let v1707 : BitVec 1 := Scalar.andi v1706 v1703
  let v1708 : BitVec 32 := Scalar.addi v1702 v1701
  let v1709 : BitVec 32 := Scalar.select v1707 v1708 v1702
  let c16_i32_2380 : BitVec 32 := 16#32
  let v3205 : BitVec 32 := Scalar.muli v1709 c16_i32_2380
  let c0_i32_2388 : BitVec 32 := 0#32
  ![v3205.toNat, 0]
def k0_dev95 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1095 : BitVec 32 := 1#32
  let v1699 : BitVec 32 := Scalar.addi v2 c1_i32_1095
  let c32_i32_1096 : BitVec 32 := 32#32
  let c0_i32_1097 : BitVec 32 := 0#32
  let v1700 : BitVec 1 := Scalar.cmpi .eq c32_i32_1096 c0_i32_1097
  let c1_i32_1098 : BitVec 32 := 1#32
  let v1701 : BitVec 32 := Scalar.select v1700 c1_i32_1098 c32_i32_1096
  let v1702 : BitVec 32 := Scalar.remsi v1699 v1701
  let c0_i32_1100 : BitVec 32 := 0#32
  let v1704 : BitVec 1 := Scalar.cmpi .slt v1702 c0_i32_1100
  let c0_i32_1101 : BitVec 32 := 0#32
  let v1705 : BitVec 1 := Scalar.cmpi .slt v1701 c0_i32_1101
  let v1706 : BitVec 1 := Scalar.xori v1704 v1705
  let c0_i32_1099 : BitVec 32 := 0#32
  let v1703 : BitVec 1 := Scalar.cmpi .ne v1702 c0_i32_1099
  let v1707 : BitVec 1 := Scalar.andi v1706 v1703
  let v1708 : BitVec 32 := Scalar.addi v1702 v1701
  let v1709 : BitVec 32 := Scalar.select v1707 v1708 v1702
  let c1_i32_2384 : BitVec 32 := 1#32
  let v3206 : BitVec 32 := Scalar.muli v1709 c1_i32_2384
  let v3207 : BitVec 32 := Scalar.addi c0_i32_2385 v3206
  v3207.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1106 : BitVec 32 := 2#32
  let v1717 : BitVec 32 := Scalar.addi v2 c2_i32_1106
  let c32_i32_1107 : BitVec 32 := 32#32
  let c0_i32_1108 : BitVec 32 := 0#32
  let v1718 : BitVec 1 := Scalar.cmpi .eq c32_i32_1107 c0_i32_1108
  let c1_i32_1109 : BitVec 32 := 1#32
  let v1719 : BitVec 32 := Scalar.select v1718 c1_i32_1109 c32_i32_1107
  let v1720 : BitVec 32 := Scalar.remsi v1717 v1719
  let c0_i32_1111 : BitVec 32 := 0#32
  let v1722 : BitVec 1 := Scalar.cmpi .slt v1720 c0_i32_1111
  let c0_i32_1112 : BitVec 32 := 0#32
  let v1723 : BitVec 1 := Scalar.cmpi .slt v1719 c0_i32_1112
  let v1724 : BitVec 1 := Scalar.xori v1722 v1723
  let c0_i32_1110 : BitVec 32 := 0#32
  let v1721 : BitVec 1 := Scalar.cmpi .ne v1720 c0_i32_1110
  let v1725 : BitVec 1 := Scalar.andi v1724 v1721
  let v1726 : BitVec 32 := Scalar.addi v1720 v1719
  let v1727 : BitVec 32 := Scalar.select v1725 v1726 v1720
  let c16_i32_1113 : BitVec 32 := 16#32
  let v1728 : BitVec 32 := Scalar.muli v1727 c16_i32_1113
  let c256_i32_1114 : BitVec 32 := 256#32
  let v1729 : BitVec 1 := Scalar.cmpi .sge v1728 c256_i32_1114
  let c16_i32_1115 : BitVec 32 := 16#32
  let v1730 : BitVec 32 := Scalar.muli v1727 c16_i32_1115
  let c384_i32_1116 : BitVec 32 := 384#32
  let v1731 : BitVec 1 := Scalar.cmpi .slt v1730 c384_i32_1116
  let v1732 : BitVec 1 := Scalar.andi v1729 v1731
  let v1733 : BitVec 32 := Scalar.extui v1732
  let c0_i32_1117 : BitVec 32 := 0#32
  let v1734 : BitVec 1 := Scalar.cmpi .ne v1733 c0_i32_1117
  v1734

def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1106 : BitVec 32 := 2#32
  let v1717 : BitVec 32 := Scalar.addi v2 c2_i32_1106
  let c32_i32_1107 : BitVec 32 := 32#32
  let c0_i32_1108 : BitVec 32 := 0#32
  let v1718 : BitVec 1 := Scalar.cmpi .eq c32_i32_1107 c0_i32_1108
  let c1_i32_1109 : BitVec 32 := 1#32
  let v1719 : BitVec 32 := Scalar.select v1718 c1_i32_1109 c32_i32_1107
  let v1720 : BitVec 32 := Scalar.remsi v1717 v1719
  let c0_i32_1111 : BitVec 32 := 0#32
  let v1722 : BitVec 1 := Scalar.cmpi .slt v1720 c0_i32_1111
  let c0_i32_1112 : BitVec 32 := 0#32
  let v1723 : BitVec 1 := Scalar.cmpi .slt v1719 c0_i32_1112
  let v1724 : BitVec 1 := Scalar.xori v1722 v1723
  let c0_i32_1110 : BitVec 32 := 0#32
  let v1721 : BitVec 1 := Scalar.cmpi .ne v1720 c0_i32_1110
  let v1725 : BitVec 1 := Scalar.andi v1724 v1721
  let v1726 : BitVec 32 := Scalar.addi v1720 v1719
  let v1727 : BitVec 32 := Scalar.select v1725 v1726 v1720
  let c16_i32_2380 : BitVec 32 := 16#32
  let v3205 : BitVec 32 := Scalar.muli v1727 c16_i32_2380
  let c0_i32_2388 : BitVec 32 := 0#32
  ![v3205.toNat, 0]
def k0_dev96 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1106 : BitVec 32 := 2#32
  let v1717 : BitVec 32 := Scalar.addi v2 c2_i32_1106
  let c32_i32_1107 : BitVec 32 := 32#32
  let c0_i32_1108 : BitVec 32 := 0#32
  let v1718 : BitVec 1 := Scalar.cmpi .eq c32_i32_1107 c0_i32_1108
  let c1_i32_1109 : BitVec 32 := 1#32
  let v1719 : BitVec 32 := Scalar.select v1718 c1_i32_1109 c32_i32_1107
  let v1720 : BitVec 32 := Scalar.remsi v1717 v1719
  let c0_i32_1111 : BitVec 32 := 0#32
  let v1722 : BitVec 1 := Scalar.cmpi .slt v1720 c0_i32_1111
  let c0_i32_1112 : BitVec 32 := 0#32
  let v1723 : BitVec 1 := Scalar.cmpi .slt v1719 c0_i32_1112
  let v1724 : BitVec 1 := Scalar.xori v1722 v1723
  let c0_i32_1110 : BitVec 32 := 0#32
  let v1721 : BitVec 1 := Scalar.cmpi .ne v1720 c0_i32_1110
  let v1725 : BitVec 1 := Scalar.andi v1724 v1721
  let v1726 : BitVec 32 := Scalar.addi v1720 v1719
  let v1727 : BitVec 32 := Scalar.select v1725 v1726 v1720
  let c1_i32_2384 : BitVec 32 := 1#32
  let v3206 : BitVec 32 := Scalar.muli v1727 c1_i32_2384
  let v3207 : BitVec 32 := Scalar.addi c0_i32_2385 v3206
  v3207.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1118 : BitVec 32 := 3#32
  let v1735 : BitVec 32 := Scalar.addi v2 c3_i32_1118
  let c32_i32_1119 : BitVec 32 := 32#32
  let c0_i32_1120 : BitVec 32 := 0#32
  let v1736 : BitVec 1 := Scalar.cmpi .eq c32_i32_1119 c0_i32_1120
  let c1_i32_1121 : BitVec 32 := 1#32
  let v1737 : BitVec 32 := Scalar.select v1736 c1_i32_1121 c32_i32_1119
  let v1738 : BitVec 32 := Scalar.remsi v1735 v1737
  let c0_i32_1123 : BitVec 32 := 0#32
  let v1740 : BitVec 1 := Scalar.cmpi .slt v1738 c0_i32_1123
  let c0_i32_1124 : BitVec 32 := 0#32
  let v1741 : BitVec 1 := Scalar.cmpi .slt v1737 c0_i32_1124
  let v1742 : BitVec 1 := Scalar.xori v1740 v1741
  let c0_i32_1122 : BitVec 32 := 0#32
  let v1739 : BitVec 1 := Scalar.cmpi .ne v1738 c0_i32_1122
  let v1743 : BitVec 1 := Scalar.andi v1742 v1739
  let v1744 : BitVec 32 := Scalar.addi v1738 v1737
  let v1745 : BitVec 32 := Scalar.select v1743 v1744 v1738
  let c16_i32_1125 : BitVec 32 := 16#32
  let v1746 : BitVec 32 := Scalar.muli v1745 c16_i32_1125
  let c256_i32_1126 : BitVec 32 := 256#32
  let v1747 : BitVec 1 := Scalar.cmpi .sge v1746 c256_i32_1126
  let c16_i32_1127 : BitVec 32 := 16#32
  let v1748 : BitVec 32 := Scalar.muli v1745 c16_i32_1127
  let c384_i32_1128 : BitVec 32 := 384#32
  let v1749 : BitVec 1 := Scalar.cmpi .slt v1748 c384_i32_1128
  let v1750 : BitVec 1 := Scalar.andi v1747 v1749
  let v1751 : BitVec 32 := Scalar.extui v1750
  let c0_i32_1129 : BitVec 32 := 0#32
  let v1752 : BitVec 1 := Scalar.cmpi .ne v1751 c0_i32_1129
  v1752

def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1118 : BitVec 32 := 3#32
  let v1735 : BitVec 32 := Scalar.addi v2 c3_i32_1118
  let c32_i32_1119 : BitVec 32 := 32#32
  let c0_i32_1120 : BitVec 32 := 0#32
  let v1736 : BitVec 1 := Scalar.cmpi .eq c32_i32_1119 c0_i32_1120
  let c1_i32_1121 : BitVec 32 := 1#32
  let v1737 : BitVec 32 := Scalar.select v1736 c1_i32_1121 c32_i32_1119
  let v1738 : BitVec 32 := Scalar.remsi v1735 v1737
  let c0_i32_1123 : BitVec 32 := 0#32
  let v1740 : BitVec 1 := Scalar.cmpi .slt v1738 c0_i32_1123
  let c0_i32_1124 : BitVec 32 := 0#32
  let v1741 : BitVec 1 := Scalar.cmpi .slt v1737 c0_i32_1124
  let v1742 : BitVec 1 := Scalar.xori v1740 v1741
  let c0_i32_1122 : BitVec 32 := 0#32
  let v1739 : BitVec 1 := Scalar.cmpi .ne v1738 c0_i32_1122
  let v1743 : BitVec 1 := Scalar.andi v1742 v1739
  let v1744 : BitVec 32 := Scalar.addi v1738 v1737
  let v1745 : BitVec 32 := Scalar.select v1743 v1744 v1738
  let c16_i32_2380 : BitVec 32 := 16#32
  let v3205 : BitVec 32 := Scalar.muli v1745 c16_i32_2380
  let c0_i32_2388 : BitVec 32 := 0#32
  ![v3205.toNat, 0]
def k0_dev97 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1118 : BitVec 32 := 3#32
  let v1735 : BitVec 32 := Scalar.addi v2 c3_i32_1118
  let c32_i32_1119 : BitVec 32 := 32#32
  let c0_i32_1120 : BitVec 32 := 0#32
  let v1736 : BitVec 1 := Scalar.cmpi .eq c32_i32_1119 c0_i32_1120
  let c1_i32_1121 : BitVec 32 := 1#32
  let v1737 : BitVec 32 := Scalar.select v1736 c1_i32_1121 c32_i32_1119
  let v1738 : BitVec 32 := Scalar.remsi v1735 v1737
  let c0_i32_1123 : BitVec 32 := 0#32
  let v1740 : BitVec 1 := Scalar.cmpi .slt v1738 c0_i32_1123
  let c0_i32_1124 : BitVec 32 := 0#32
  let v1741 : BitVec 1 := Scalar.cmpi .slt v1737 c0_i32_1124
  let v1742 : BitVec 1 := Scalar.xori v1740 v1741
  let c0_i32_1122 : BitVec 32 := 0#32
  let v1739 : BitVec 1 := Scalar.cmpi .ne v1738 c0_i32_1122
  let v1743 : BitVec 1 := Scalar.andi v1742 v1739
  let v1744 : BitVec 32 := Scalar.addi v1738 v1737
  let v1745 : BitVec 32 := Scalar.select v1743 v1744 v1738
  let c1_i32_2384 : BitVec 32 := 1#32
  let v3206 : BitVec 32 := Scalar.muli v1745 c1_i32_2384
  let v3207 : BitVec 32 := Scalar.addi c0_i32_2385 v3206
  v3207.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1130 : BitVec 32 := 4#32
  let v1753 : BitVec 32 := Scalar.addi v2 c4_i32_1130
  let c32_i32_1131 : BitVec 32 := 32#32
  let c0_i32_1132 : BitVec 32 := 0#32
  let v1754 : BitVec 1 := Scalar.cmpi .eq c32_i32_1131 c0_i32_1132
  let c1_i32_1133 : BitVec 32 := 1#32
  let v1755 : BitVec 32 := Scalar.select v1754 c1_i32_1133 c32_i32_1131
  let v1756 : BitVec 32 := Scalar.remsi v1753 v1755
  let c0_i32_1135 : BitVec 32 := 0#32
  let v1758 : BitVec 1 := Scalar.cmpi .slt v1756 c0_i32_1135
  let c0_i32_1136 : BitVec 32 := 0#32
  let v1759 : BitVec 1 := Scalar.cmpi .slt v1755 c0_i32_1136
  let v1760 : BitVec 1 := Scalar.xori v1758 v1759
  let c0_i32_1134 : BitVec 32 := 0#32
  let v1757 : BitVec 1 := Scalar.cmpi .ne v1756 c0_i32_1134
  let v1761 : BitVec 1 := Scalar.andi v1760 v1757
  let v1762 : BitVec 32 := Scalar.addi v1756 v1755
  let v1763 : BitVec 32 := Scalar.select v1761 v1762 v1756
  let c16_i32_1137 : BitVec 32 := 16#32
  let v1764 : BitVec 32 := Scalar.muli v1763 c16_i32_1137
  let c256_i32_1138 : BitVec 32 := 256#32
  let v1765 : BitVec 1 := Scalar.cmpi .sge v1764 c256_i32_1138
  let c16_i32_1139 : BitVec 32 := 16#32
  let v1766 : BitVec 32 := Scalar.muli v1763 c16_i32_1139
  let c384_i32_1140 : BitVec 32 := 384#32
  let v1767 : BitVec 1 := Scalar.cmpi .slt v1766 c384_i32_1140
  let v1768 : BitVec 1 := Scalar.andi v1765 v1767
  let v1769 : BitVec 32 := Scalar.extui v1768
  let c0_i32_1141 : BitVec 32 := 0#32
  let v1770 : BitVec 1 := Scalar.cmpi .ne v1769 c0_i32_1141
  v1770

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1130 : BitVec 32 := 4#32
  let v1753 : BitVec 32 := Scalar.addi v2 c4_i32_1130
  let c32_i32_1131 : BitVec 32 := 32#32
  let c0_i32_1132 : BitVec 32 := 0#32
  let v1754 : BitVec 1 := Scalar.cmpi .eq c32_i32_1131 c0_i32_1132
  let c1_i32_1133 : BitVec 32 := 1#32
  let v1755 : BitVec 32 := Scalar.select v1754 c1_i32_1133 c32_i32_1131
  let v1756 : BitVec 32 := Scalar.remsi v1753 v1755
  let c0_i32_1135 : BitVec 32 := 0#32
  let v1758 : BitVec 1 := Scalar.cmpi .slt v1756 c0_i32_1135
  let c0_i32_1136 : BitVec 32 := 0#32
  let v1759 : BitVec 1 := Scalar.cmpi .slt v1755 c0_i32_1136
  let v1760 : BitVec 1 := Scalar.xori v1758 v1759
  let c0_i32_1134 : BitVec 32 := 0#32
  let v1757 : BitVec 1 := Scalar.cmpi .ne v1756 c0_i32_1134
  let v1761 : BitVec 1 := Scalar.andi v1760 v1757
  let v1762 : BitVec 32 := Scalar.addi v1756 v1755
  let v1763 : BitVec 32 := Scalar.select v1761 v1762 v1756
  let c16_i32_2380 : BitVec 32 := 16#32
  let v3205 : BitVec 32 := Scalar.muli v1763 c16_i32_2380
  let c0_i32_2388 : BitVec 32 := 0#32
  ![v3205.toNat, 0]
def k0_dev98 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1130 : BitVec 32 := 4#32
  let v1753 : BitVec 32 := Scalar.addi v2 c4_i32_1130
  let c32_i32_1131 : BitVec 32 := 32#32
  let c0_i32_1132 : BitVec 32 := 0#32
  let v1754 : BitVec 1 := Scalar.cmpi .eq c32_i32_1131 c0_i32_1132
  let c1_i32_1133 : BitVec 32 := 1#32
  let v1755 : BitVec 32 := Scalar.select v1754 c1_i32_1133 c32_i32_1131
  let v1756 : BitVec 32 := Scalar.remsi v1753 v1755
  let c0_i32_1135 : BitVec 32 := 0#32
  let v1758 : BitVec 1 := Scalar.cmpi .slt v1756 c0_i32_1135
  let c0_i32_1136 : BitVec 32 := 0#32
  let v1759 : BitVec 1 := Scalar.cmpi .slt v1755 c0_i32_1136
  let v1760 : BitVec 1 := Scalar.xori v1758 v1759
  let c0_i32_1134 : BitVec 32 := 0#32
  let v1757 : BitVec 1 := Scalar.cmpi .ne v1756 c0_i32_1134
  let v1761 : BitVec 1 := Scalar.andi v1760 v1757
  let v1762 : BitVec 32 := Scalar.addi v1756 v1755
  let v1763 : BitVec 32 := Scalar.select v1761 v1762 v1756
  let c1_i32_2384 : BitVec 32 := 1#32
  let v3206 : BitVec 32 := Scalar.muli v1763 c1_i32_2384
  let v3207 : BitVec 32 := Scalar.addi c0_i32_2385 v3206
  v3207.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1142 : BitVec 32 := 5#32
  let v1771 : BitVec 32 := Scalar.addi v2 c5_i32_1142
  let c32_i32_1143 : BitVec 32 := 32#32
  let c0_i32_1144 : BitVec 32 := 0#32
  let v1772 : BitVec 1 := Scalar.cmpi .eq c32_i32_1143 c0_i32_1144
  let c1_i32_1145 : BitVec 32 := 1#32
  let v1773 : BitVec 32 := Scalar.select v1772 c1_i32_1145 c32_i32_1143
  let v1774 : BitVec 32 := Scalar.remsi v1771 v1773
  let c0_i32_1147 : BitVec 32 := 0#32
  let v1776 : BitVec 1 := Scalar.cmpi .slt v1774 c0_i32_1147
  let c0_i32_1148 : BitVec 32 := 0#32
  let v1777 : BitVec 1 := Scalar.cmpi .slt v1773 c0_i32_1148
  let v1778 : BitVec 1 := Scalar.xori v1776 v1777
  let c0_i32_1146 : BitVec 32 := 0#32
  let v1775 : BitVec 1 := Scalar.cmpi .ne v1774 c0_i32_1146
  let v1779 : BitVec 1 := Scalar.andi v1778 v1775
  let v1780 : BitVec 32 := Scalar.addi v1774 v1773
  let v1781 : BitVec 32 := Scalar.select v1779 v1780 v1774
  let c16_i32_1149 : BitVec 32 := 16#32
  let v1782 : BitVec 32 := Scalar.muli v1781 c16_i32_1149
  let c256_i32_1150 : BitVec 32 := 256#32
  let v1783 : BitVec 1 := Scalar.cmpi .sge v1782 c256_i32_1150
  let c16_i32_1151 : BitVec 32 := 16#32
  let v1784 : BitVec 32 := Scalar.muli v1781 c16_i32_1151
  let c384_i32_1152 : BitVec 32 := 384#32
  let v1785 : BitVec 1 := Scalar.cmpi .slt v1784 c384_i32_1152
  let v1786 : BitVec 1 := Scalar.andi v1783 v1785
  let v1787 : BitVec 32 := Scalar.extui v1786
  let c0_i32_1153 : BitVec 32 := 0#32
  let v1788 : BitVec 1 := Scalar.cmpi .ne v1787 c0_i32_1153
  v1788

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1142 : BitVec 32 := 5#32
  let v1771 : BitVec 32 := Scalar.addi v2 c5_i32_1142
  let c32_i32_1143 : BitVec 32 := 32#32
  let c0_i32_1144 : BitVec 32 := 0#32
  let v1772 : BitVec 1 := Scalar.cmpi .eq c32_i32_1143 c0_i32_1144
  let c1_i32_1145 : BitVec 32 := 1#32
  let v1773 : BitVec 32 := Scalar.select v1772 c1_i32_1145 c32_i32_1143
  let v1774 : BitVec 32 := Scalar.remsi v1771 v1773
  let c0_i32_1147 : BitVec 32 := 0#32
  let v1776 : BitVec 1 := Scalar.cmpi .slt v1774 c0_i32_1147
  let c0_i32_1148 : BitVec 32 := 0#32
  let v1777 : BitVec 1 := Scalar.cmpi .slt v1773 c0_i32_1148
  let v1778 : BitVec 1 := Scalar.xori v1776 v1777
  let c0_i32_1146 : BitVec 32 := 0#32
  let v1775 : BitVec 1 := Scalar.cmpi .ne v1774 c0_i32_1146
  let v1779 : BitVec 1 := Scalar.andi v1778 v1775
  let v1780 : BitVec 32 := Scalar.addi v1774 v1773
  let v1781 : BitVec 32 := Scalar.select v1779 v1780 v1774
  let c16_i32_2380 : BitVec 32 := 16#32
  let v3205 : BitVec 32 := Scalar.muli v1781 c16_i32_2380
  let c0_i32_2388 : BitVec 32 := 0#32
  ![v3205.toNat, 0]
def k0_dev99 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1142 : BitVec 32 := 5#32
  let v1771 : BitVec 32 := Scalar.addi v2 c5_i32_1142
  let c32_i32_1143 : BitVec 32 := 32#32
  let c0_i32_1144 : BitVec 32 := 0#32
  let v1772 : BitVec 1 := Scalar.cmpi .eq c32_i32_1143 c0_i32_1144
  let c1_i32_1145 : BitVec 32 := 1#32
  let v1773 : BitVec 32 := Scalar.select v1772 c1_i32_1145 c32_i32_1143
  let v1774 : BitVec 32 := Scalar.remsi v1771 v1773
  let c0_i32_1147 : BitVec 32 := 0#32
  let v1776 : BitVec 1 := Scalar.cmpi .slt v1774 c0_i32_1147
  let c0_i32_1148 : BitVec 32 := 0#32
  let v1777 : BitVec 1 := Scalar.cmpi .slt v1773 c0_i32_1148
  let v1778 : BitVec 1 := Scalar.xori v1776 v1777
  let c0_i32_1146 : BitVec 32 := 0#32
  let v1775 : BitVec 1 := Scalar.cmpi .ne v1774 c0_i32_1146
  let v1779 : BitVec 1 := Scalar.andi v1778 v1775
  let v1780 : BitVec 32 := Scalar.addi v1774 v1773
  let v1781 : BitVec 32 := Scalar.select v1779 v1780 v1774
  let c1_i32_2384 : BitVec 32 := 1#32
  let v3206 : BitVec 32 := Scalar.muli v1781 c1_i32_2384
  let v3207 : BitVec 32 := Scalar.addi c0_i32_2385 v3206
  v3207.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1154 : BitVec 32 := 6#32
  let v1789 : BitVec 32 := Scalar.addi v2 c6_i32_1154
  let c32_i32_1155 : BitVec 32 := 32#32
  let c0_i32_1156 : BitVec 32 := 0#32
  let v1790 : BitVec 1 := Scalar.cmpi .eq c32_i32_1155 c0_i32_1156
  let c1_i32_1157 : BitVec 32 := 1#32
  let v1791 : BitVec 32 := Scalar.select v1790 c1_i32_1157 c32_i32_1155
  let v1792 : BitVec 32 := Scalar.remsi v1789 v1791
  let c0_i32_1159 : BitVec 32 := 0#32
  let v1794 : BitVec 1 := Scalar.cmpi .slt v1792 c0_i32_1159
  let c0_i32_1160 : BitVec 32 := 0#32
  let v1795 : BitVec 1 := Scalar.cmpi .slt v1791 c0_i32_1160
  let v1796 : BitVec 1 := Scalar.xori v1794 v1795
  let c0_i32_1158 : BitVec 32 := 0#32
  let v1793 : BitVec 1 := Scalar.cmpi .ne v1792 c0_i32_1158
  let v1797 : BitVec 1 := Scalar.andi v1796 v1793
  let v1798 : BitVec 32 := Scalar.addi v1792 v1791
  let v1799 : BitVec 32 := Scalar.select v1797 v1798 v1792
  let c16_i32_1161 : BitVec 32 := 16#32
  let v1800 : BitVec 32 := Scalar.muli v1799 c16_i32_1161
  let c256_i32_1162 : BitVec 32 := 256#32
  let v1801 : BitVec 1 := Scalar.cmpi .sge v1800 c256_i32_1162
  let c16_i32_1163 : BitVec 32 := 16#32
  let v1802 : BitVec 32 := Scalar.muli v1799 c16_i32_1163
  let c384_i32_1164 : BitVec 32 := 384#32
  let v1803 : BitVec 1 := Scalar.cmpi .slt v1802 c384_i32_1164
  let v1804 : BitVec 1 := Scalar.andi v1801 v1803
  let v1805 : BitVec 32 := Scalar.extui v1804
  let c0_i32_1165 : BitVec 32 := 0#32
  let v1806 : BitVec 1 := Scalar.cmpi .ne v1805 c0_i32_1165
  v1806

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1154 : BitVec 32 := 6#32
  let v1789 : BitVec 32 := Scalar.addi v2 c6_i32_1154
  let c32_i32_1155 : BitVec 32 := 32#32
  let c0_i32_1156 : BitVec 32 := 0#32
  let v1790 : BitVec 1 := Scalar.cmpi .eq c32_i32_1155 c0_i32_1156
  let c1_i32_1157 : BitVec 32 := 1#32
  let v1791 : BitVec 32 := Scalar.select v1790 c1_i32_1157 c32_i32_1155
  let v1792 : BitVec 32 := Scalar.remsi v1789 v1791
  let c0_i32_1159 : BitVec 32 := 0#32
  let v1794 : BitVec 1 := Scalar.cmpi .slt v1792 c0_i32_1159
  let c0_i32_1160 : BitVec 32 := 0#32
  let v1795 : BitVec 1 := Scalar.cmpi .slt v1791 c0_i32_1160
  let v1796 : BitVec 1 := Scalar.xori v1794 v1795
  let c0_i32_1158 : BitVec 32 := 0#32
  let v1793 : BitVec 1 := Scalar.cmpi .ne v1792 c0_i32_1158
  let v1797 : BitVec 1 := Scalar.andi v1796 v1793
  let v1798 : BitVec 32 := Scalar.addi v1792 v1791
  let v1799 : BitVec 32 := Scalar.select v1797 v1798 v1792
  let c16_i32_2380 : BitVec 32 := 16#32
  let v3205 : BitVec 32 := Scalar.muli v1799 c16_i32_2380
  let c0_i32_2388 : BitVec 32 := 0#32
  ![v3205.toNat, 0]
def k0_dev100 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1154 : BitVec 32 := 6#32
  let v1789 : BitVec 32 := Scalar.addi v2 c6_i32_1154
  let c32_i32_1155 : BitVec 32 := 32#32
  let c0_i32_1156 : BitVec 32 := 0#32
  let v1790 : BitVec 1 := Scalar.cmpi .eq c32_i32_1155 c0_i32_1156
  let c1_i32_1157 : BitVec 32 := 1#32
  let v1791 : BitVec 32 := Scalar.select v1790 c1_i32_1157 c32_i32_1155
  let v1792 : BitVec 32 := Scalar.remsi v1789 v1791
  let c0_i32_1159 : BitVec 32 := 0#32
  let v1794 : BitVec 1 := Scalar.cmpi .slt v1792 c0_i32_1159
  let c0_i32_1160 : BitVec 32 := 0#32
  let v1795 : BitVec 1 := Scalar.cmpi .slt v1791 c0_i32_1160
  let v1796 : BitVec 1 := Scalar.xori v1794 v1795
  let c0_i32_1158 : BitVec 32 := 0#32
  let v1793 : BitVec 1 := Scalar.cmpi .ne v1792 c0_i32_1158
  let v1797 : BitVec 1 := Scalar.andi v1796 v1793
  let v1798 : BitVec 32 := Scalar.addi v1792 v1791
  let v1799 : BitVec 32 := Scalar.select v1797 v1798 v1792
  let c1_i32_2384 : BitVec 32 := 1#32
  let v3206 : BitVec 32 := Scalar.muli v1799 c1_i32_2384
  let v3207 : BitVec 32 := Scalar.addi c0_i32_2385 v3206
  v3207.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1166 : BitVec 32 := 7#32
  let v1807 : BitVec 32 := Scalar.addi v2 c7_i32_1166
  let c32_i32_1167 : BitVec 32 := 32#32
  let c0_i32_1168 : BitVec 32 := 0#32
  let v1808 : BitVec 1 := Scalar.cmpi .eq c32_i32_1167 c0_i32_1168
  let c1_i32_1169 : BitVec 32 := 1#32
  let v1809 : BitVec 32 := Scalar.select v1808 c1_i32_1169 c32_i32_1167
  let v1810 : BitVec 32 := Scalar.remsi v1807 v1809
  let c0_i32_1171 : BitVec 32 := 0#32
  let v1812 : BitVec 1 := Scalar.cmpi .slt v1810 c0_i32_1171
  let c0_i32_1172 : BitVec 32 := 0#32
  let v1813 : BitVec 1 := Scalar.cmpi .slt v1809 c0_i32_1172
  let v1814 : BitVec 1 := Scalar.xori v1812 v1813
  let c0_i32_1170 : BitVec 32 := 0#32
  let v1811 : BitVec 1 := Scalar.cmpi .ne v1810 c0_i32_1170
  let v1815 : BitVec 1 := Scalar.andi v1814 v1811
  let v1816 : BitVec 32 := Scalar.addi v1810 v1809
  let v1817 : BitVec 32 := Scalar.select v1815 v1816 v1810
  let c16_i32_1173 : BitVec 32 := 16#32
  let v1818 : BitVec 32 := Scalar.muli v1817 c16_i32_1173
  let c256_i32_1174 : BitVec 32 := 256#32
  let v1819 : BitVec 1 := Scalar.cmpi .sge v1818 c256_i32_1174
  let c16_i32_1175 : BitVec 32 := 16#32
  let v1820 : BitVec 32 := Scalar.muli v1817 c16_i32_1175
  let c384_i32_1176 : BitVec 32 := 384#32
  let v1821 : BitVec 1 := Scalar.cmpi .slt v1820 c384_i32_1176
  let v1822 : BitVec 1 := Scalar.andi v1819 v1821
  let v1823 : BitVec 32 := Scalar.extui v1822
  let c0_i32_1177 : BitVec 32 := 0#32
  let v1824 : BitVec 1 := Scalar.cmpi .ne v1823 c0_i32_1177
  v1824

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1166 : BitVec 32 := 7#32
  let v1807 : BitVec 32 := Scalar.addi v2 c7_i32_1166
  let c32_i32_1167 : BitVec 32 := 32#32
  let c0_i32_1168 : BitVec 32 := 0#32
  let v1808 : BitVec 1 := Scalar.cmpi .eq c32_i32_1167 c0_i32_1168
  let c1_i32_1169 : BitVec 32 := 1#32
  let v1809 : BitVec 32 := Scalar.select v1808 c1_i32_1169 c32_i32_1167
  let v1810 : BitVec 32 := Scalar.remsi v1807 v1809
  let c0_i32_1171 : BitVec 32 := 0#32
  let v1812 : BitVec 1 := Scalar.cmpi .slt v1810 c0_i32_1171
  let c0_i32_1172 : BitVec 32 := 0#32
  let v1813 : BitVec 1 := Scalar.cmpi .slt v1809 c0_i32_1172
  let v1814 : BitVec 1 := Scalar.xori v1812 v1813
  let c0_i32_1170 : BitVec 32 := 0#32
  let v1811 : BitVec 1 := Scalar.cmpi .ne v1810 c0_i32_1170
  let v1815 : BitVec 1 := Scalar.andi v1814 v1811
  let v1816 : BitVec 32 := Scalar.addi v1810 v1809
  let v1817 : BitVec 32 := Scalar.select v1815 v1816 v1810
  let c16_i32_2380 : BitVec 32 := 16#32
  let v3205 : BitVec 32 := Scalar.muli v1817 c16_i32_2380
  let c0_i32_2388 : BitVec 32 := 0#32
  ![v3205.toNat, 0]
def k0_dev101 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1166 : BitVec 32 := 7#32
  let v1807 : BitVec 32 := Scalar.addi v2 c7_i32_1166
  let c32_i32_1167 : BitVec 32 := 32#32
  let c0_i32_1168 : BitVec 32 := 0#32
  let v1808 : BitVec 1 := Scalar.cmpi .eq c32_i32_1167 c0_i32_1168
  let c1_i32_1169 : BitVec 32 := 1#32
  let v1809 : BitVec 32 := Scalar.select v1808 c1_i32_1169 c32_i32_1167
  let v1810 : BitVec 32 := Scalar.remsi v1807 v1809
  let c0_i32_1171 : BitVec 32 := 0#32
  let v1812 : BitVec 1 := Scalar.cmpi .slt v1810 c0_i32_1171
  let c0_i32_1172 : BitVec 32 := 0#32
  let v1813 : BitVec 1 := Scalar.cmpi .slt v1809 c0_i32_1172
  let v1814 : BitVec 1 := Scalar.xori v1812 v1813
  let c0_i32_1170 : BitVec 32 := 0#32
  let v1811 : BitVec 1 := Scalar.cmpi .ne v1810 c0_i32_1170
  let v1815 : BitVec 1 := Scalar.andi v1814 v1811
  let v1816 : BitVec 32 := Scalar.addi v1810 v1809
  let v1817 : BitVec 32 := Scalar.select v1815 v1816 v1810
  let c1_i32_2384 : BitVec 32 := 1#32
  let v3206 : BitVec 32 := Scalar.muli v1817 c1_i32_2384
  let v3207 : BitVec 32 := Scalar.addi c0_i32_2385 v3206
  v3207.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1178 : BitVec 32 := 8#32
  let v1825 : BitVec 32 := Scalar.addi v2 c8_i32_1178
  let c32_i32_1179 : BitVec 32 := 32#32
  let c0_i32_1180 : BitVec 32 := 0#32
  let v1826 : BitVec 1 := Scalar.cmpi .eq c32_i32_1179 c0_i32_1180
  let c1_i32_1181 : BitVec 32 := 1#32
  let v1827 : BitVec 32 := Scalar.select v1826 c1_i32_1181 c32_i32_1179
  let v1828 : BitVec 32 := Scalar.remsi v1825 v1827
  let c0_i32_1183 : BitVec 32 := 0#32
  let v1830 : BitVec 1 := Scalar.cmpi .slt v1828 c0_i32_1183
  let c0_i32_1184 : BitVec 32 := 0#32
  let v1831 : BitVec 1 := Scalar.cmpi .slt v1827 c0_i32_1184
  let v1832 : BitVec 1 := Scalar.xori v1830 v1831
  let c0_i32_1182 : BitVec 32 := 0#32
  let v1829 : BitVec 1 := Scalar.cmpi .ne v1828 c0_i32_1182
  let v1833 : BitVec 1 := Scalar.andi v1832 v1829
  let v1834 : BitVec 32 := Scalar.addi v1828 v1827
  let v1835 : BitVec 32 := Scalar.select v1833 v1834 v1828
  let c16_i32_1185 : BitVec 32 := 16#32
  let v1836 : BitVec 32 := Scalar.muli v1835 c16_i32_1185
  let c256_i32_1186 : BitVec 32 := 256#32
  let v1837 : BitVec 1 := Scalar.cmpi .sge v1836 c256_i32_1186
  let c16_i32_1187 : BitVec 32 := 16#32
  let v1838 : BitVec 32 := Scalar.muli v1835 c16_i32_1187
  let c384_i32_1188 : BitVec 32 := 384#32
  let v1839 : BitVec 1 := Scalar.cmpi .slt v1838 c384_i32_1188
  let v1840 : BitVec 1 := Scalar.andi v1837 v1839
  let v1841 : BitVec 32 := Scalar.extui v1840
  let c0_i32_1189 : BitVec 32 := 0#32
  let v1842 : BitVec 1 := Scalar.cmpi .ne v1841 c0_i32_1189
  v1842

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1178 : BitVec 32 := 8#32
  let v1825 : BitVec 32 := Scalar.addi v2 c8_i32_1178
  let c32_i32_1179 : BitVec 32 := 32#32
  let c0_i32_1180 : BitVec 32 := 0#32
  let v1826 : BitVec 1 := Scalar.cmpi .eq c32_i32_1179 c0_i32_1180
  let c1_i32_1181 : BitVec 32 := 1#32
  let v1827 : BitVec 32 := Scalar.select v1826 c1_i32_1181 c32_i32_1179
  let v1828 : BitVec 32 := Scalar.remsi v1825 v1827
  let c0_i32_1183 : BitVec 32 := 0#32
  let v1830 : BitVec 1 := Scalar.cmpi .slt v1828 c0_i32_1183
  let c0_i32_1184 : BitVec 32 := 0#32
  let v1831 : BitVec 1 := Scalar.cmpi .slt v1827 c0_i32_1184
  let v1832 : BitVec 1 := Scalar.xori v1830 v1831
  let c0_i32_1182 : BitVec 32 := 0#32
  let v1829 : BitVec 1 := Scalar.cmpi .ne v1828 c0_i32_1182
  let v1833 : BitVec 1 := Scalar.andi v1832 v1829
  let v1834 : BitVec 32 := Scalar.addi v1828 v1827
  let v1835 : BitVec 32 := Scalar.select v1833 v1834 v1828
  let c16_i32_2380 : BitVec 32 := 16#32
  let v3205 : BitVec 32 := Scalar.muli v1835 c16_i32_2380
  let c0_i32_2388 : BitVec 32 := 0#32
  ![v3205.toNat, 0]
def k0_dev102 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1178 : BitVec 32 := 8#32
  let v1825 : BitVec 32 := Scalar.addi v2 c8_i32_1178
  let c32_i32_1179 : BitVec 32 := 32#32
  let c0_i32_1180 : BitVec 32 := 0#32
  let v1826 : BitVec 1 := Scalar.cmpi .eq c32_i32_1179 c0_i32_1180
  let c1_i32_1181 : BitVec 32 := 1#32
  let v1827 : BitVec 32 := Scalar.select v1826 c1_i32_1181 c32_i32_1179
  let v1828 : BitVec 32 := Scalar.remsi v1825 v1827
  let c0_i32_1183 : BitVec 32 := 0#32
  let v1830 : BitVec 1 := Scalar.cmpi .slt v1828 c0_i32_1183
  let c0_i32_1184 : BitVec 32 := 0#32
  let v1831 : BitVec 1 := Scalar.cmpi .slt v1827 c0_i32_1184
  let v1832 : BitVec 1 := Scalar.xori v1830 v1831
  let c0_i32_1182 : BitVec 32 := 0#32
  let v1829 : BitVec 1 := Scalar.cmpi .ne v1828 c0_i32_1182
  let v1833 : BitVec 1 := Scalar.andi v1832 v1829
  let v1834 : BitVec 32 := Scalar.addi v1828 v1827
  let v1835 : BitVec 32 := Scalar.select v1833 v1834 v1828
  let c1_i32_2384 : BitVec 32 := 1#32
  let v3206 : BitVec 32 := Scalar.muli v1835 c1_i32_2384
  let v3207 : BitVec 32 := Scalar.addi c0_i32_2385 v3206
  v3207.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1190 : BitVec 32 := 9#32
  let v1843 : BitVec 32 := Scalar.addi v2 c9_i32_1190
  let c32_i32_1191 : BitVec 32 := 32#32
  let c0_i32_1192 : BitVec 32 := 0#32
  let v1844 : BitVec 1 := Scalar.cmpi .eq c32_i32_1191 c0_i32_1192
  let c1_i32_1193 : BitVec 32 := 1#32
  let v1845 : BitVec 32 := Scalar.select v1844 c1_i32_1193 c32_i32_1191
  let v1846 : BitVec 32 := Scalar.remsi v1843 v1845
  let c0_i32_1195 : BitVec 32 := 0#32
  let v1848 : BitVec 1 := Scalar.cmpi .slt v1846 c0_i32_1195
  let c0_i32_1196 : BitVec 32 := 0#32
  let v1849 : BitVec 1 := Scalar.cmpi .slt v1845 c0_i32_1196
  let v1850 : BitVec 1 := Scalar.xori v1848 v1849
  let c0_i32_1194 : BitVec 32 := 0#32
  let v1847 : BitVec 1 := Scalar.cmpi .ne v1846 c0_i32_1194
  let v1851 : BitVec 1 := Scalar.andi v1850 v1847
  let v1852 : BitVec 32 := Scalar.addi v1846 v1845
  let v1853 : BitVec 32 := Scalar.select v1851 v1852 v1846
  let c16_i32_1197 : BitVec 32 := 16#32
  let v1854 : BitVec 32 := Scalar.muli v1853 c16_i32_1197
  let c256_i32_1198 : BitVec 32 := 256#32
  let v1855 : BitVec 1 := Scalar.cmpi .sge v1854 c256_i32_1198
  let c16_i32_1199 : BitVec 32 := 16#32
  let v1856 : BitVec 32 := Scalar.muli v1853 c16_i32_1199
  let c384_i32_1200 : BitVec 32 := 384#32
  let v1857 : BitVec 1 := Scalar.cmpi .slt v1856 c384_i32_1200
  let v1858 : BitVec 1 := Scalar.andi v1855 v1857
  let v1859 : BitVec 32 := Scalar.extui v1858
  let c0_i32_1201 : BitVec 32 := 0#32
  let v1860 : BitVec 1 := Scalar.cmpi .ne v1859 c0_i32_1201
  v1860

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1190 : BitVec 32 := 9#32
  let v1843 : BitVec 32 := Scalar.addi v2 c9_i32_1190
  let c32_i32_1191 : BitVec 32 := 32#32
  let c0_i32_1192 : BitVec 32 := 0#32
  let v1844 : BitVec 1 := Scalar.cmpi .eq c32_i32_1191 c0_i32_1192
  let c1_i32_1193 : BitVec 32 := 1#32
  let v1845 : BitVec 32 := Scalar.select v1844 c1_i32_1193 c32_i32_1191
  let v1846 : BitVec 32 := Scalar.remsi v1843 v1845
  let c0_i32_1195 : BitVec 32 := 0#32
  let v1848 : BitVec 1 := Scalar.cmpi .slt v1846 c0_i32_1195
  let c0_i32_1196 : BitVec 32 := 0#32
  let v1849 : BitVec 1 := Scalar.cmpi .slt v1845 c0_i32_1196
  let v1850 : BitVec 1 := Scalar.xori v1848 v1849
  let c0_i32_1194 : BitVec 32 := 0#32
  let v1847 : BitVec 1 := Scalar.cmpi .ne v1846 c0_i32_1194
  let v1851 : BitVec 1 := Scalar.andi v1850 v1847
  let v1852 : BitVec 32 := Scalar.addi v1846 v1845
  let v1853 : BitVec 32 := Scalar.select v1851 v1852 v1846
  let c16_i32_2380 : BitVec 32 := 16#32
  let v3205 : BitVec 32 := Scalar.muli v1853 c16_i32_2380
  let c0_i32_2388 : BitVec 32 := 0#32
  ![v3205.toNat, 0]
def k0_dev103 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1190 : BitVec 32 := 9#32
  let v1843 : BitVec 32 := Scalar.addi v2 c9_i32_1190
  let c32_i32_1191 : BitVec 32 := 32#32
  let c0_i32_1192 : BitVec 32 := 0#32
  let v1844 : BitVec 1 := Scalar.cmpi .eq c32_i32_1191 c0_i32_1192
  let c1_i32_1193 : BitVec 32 := 1#32
  let v1845 : BitVec 32 := Scalar.select v1844 c1_i32_1193 c32_i32_1191
  let v1846 : BitVec 32 := Scalar.remsi v1843 v1845
  let c0_i32_1195 : BitVec 32 := 0#32
  let v1848 : BitVec 1 := Scalar.cmpi .slt v1846 c0_i32_1195
  let c0_i32_1196 : BitVec 32 := 0#32
  let v1849 : BitVec 1 := Scalar.cmpi .slt v1845 c0_i32_1196
  let v1850 : BitVec 1 := Scalar.xori v1848 v1849
  let c0_i32_1194 : BitVec 32 := 0#32
  let v1847 : BitVec 1 := Scalar.cmpi .ne v1846 c0_i32_1194
  let v1851 : BitVec 1 := Scalar.andi v1850 v1847
  let v1852 : BitVec 32 := Scalar.addi v1846 v1845
  let v1853 : BitVec 32 := Scalar.select v1851 v1852 v1846
  let c1_i32_2384 : BitVec 32 := 1#32
  let v3206 : BitVec 32 := Scalar.muli v1853 c1_i32_2384
  let v3207 : BitVec 32 := Scalar.addi c0_i32_2385 v3206
  v3207.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1202 : BitVec 32 := 10#32
  let v1861 : BitVec 32 := Scalar.addi v2 c10_i32_1202
  let c32_i32_1203 : BitVec 32 := 32#32
  let c0_i32_1204 : BitVec 32 := 0#32
  let v1862 : BitVec 1 := Scalar.cmpi .eq c32_i32_1203 c0_i32_1204
  let c1_i32_1205 : BitVec 32 := 1#32
  let v1863 : BitVec 32 := Scalar.select v1862 c1_i32_1205 c32_i32_1203
  let v1864 : BitVec 32 := Scalar.remsi v1861 v1863
  let c0_i32_1207 : BitVec 32 := 0#32
  let v1866 : BitVec 1 := Scalar.cmpi .slt v1864 c0_i32_1207
  let c0_i32_1208 : BitVec 32 := 0#32
  let v1867 : BitVec 1 := Scalar.cmpi .slt v1863 c0_i32_1208
  let v1868 : BitVec 1 := Scalar.xori v1866 v1867
  let c0_i32_1206 : BitVec 32 := 0#32
  let v1865 : BitVec 1 := Scalar.cmpi .ne v1864 c0_i32_1206
  let v1869 : BitVec 1 := Scalar.andi v1868 v1865
  let v1870 : BitVec 32 := Scalar.addi v1864 v1863
  let v1871 : BitVec 32 := Scalar.select v1869 v1870 v1864
  let c16_i32_1209 : BitVec 32 := 16#32
  let v1872 : BitVec 32 := Scalar.muli v1871 c16_i32_1209
  let c256_i32_1210 : BitVec 32 := 256#32
  let v1873 : BitVec 1 := Scalar.cmpi .sge v1872 c256_i32_1210
  let c16_i32_1211 : BitVec 32 := 16#32
  let v1874 : BitVec 32 := Scalar.muli v1871 c16_i32_1211
  let c384_i32_1212 : BitVec 32 := 384#32
  let v1875 : BitVec 1 := Scalar.cmpi .slt v1874 c384_i32_1212
  let v1876 : BitVec 1 := Scalar.andi v1873 v1875
  let v1877 : BitVec 32 := Scalar.extui v1876
  let c0_i32_1213 : BitVec 32 := 0#32
  let v1878 : BitVec 1 := Scalar.cmpi .ne v1877 c0_i32_1213
  v1878

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1202 : BitVec 32 := 10#32
  let v1861 : BitVec 32 := Scalar.addi v2 c10_i32_1202
  let c32_i32_1203 : BitVec 32 := 32#32
  let c0_i32_1204 : BitVec 32 := 0#32
  let v1862 : BitVec 1 := Scalar.cmpi .eq c32_i32_1203 c0_i32_1204
  let c1_i32_1205 : BitVec 32 := 1#32
  let v1863 : BitVec 32 := Scalar.select v1862 c1_i32_1205 c32_i32_1203
  let v1864 : BitVec 32 := Scalar.remsi v1861 v1863
  let c0_i32_1207 : BitVec 32 := 0#32
  let v1866 : BitVec 1 := Scalar.cmpi .slt v1864 c0_i32_1207
  let c0_i32_1208 : BitVec 32 := 0#32
  let v1867 : BitVec 1 := Scalar.cmpi .slt v1863 c0_i32_1208
  let v1868 : BitVec 1 := Scalar.xori v1866 v1867
  let c0_i32_1206 : BitVec 32 := 0#32
  let v1865 : BitVec 1 := Scalar.cmpi .ne v1864 c0_i32_1206
  let v1869 : BitVec 1 := Scalar.andi v1868 v1865
  let v1870 : BitVec 32 := Scalar.addi v1864 v1863
  let v1871 : BitVec 32 := Scalar.select v1869 v1870 v1864
  let c16_i32_2380 : BitVec 32 := 16#32
  let v3205 : BitVec 32 := Scalar.muli v1871 c16_i32_2380
  let c0_i32_2388 : BitVec 32 := 0#32
  ![v3205.toNat, 0]
def k0_dev104 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1202 : BitVec 32 := 10#32
  let v1861 : BitVec 32 := Scalar.addi v2 c10_i32_1202
  let c32_i32_1203 : BitVec 32 := 32#32
  let c0_i32_1204 : BitVec 32 := 0#32
  let v1862 : BitVec 1 := Scalar.cmpi .eq c32_i32_1203 c0_i32_1204
  let c1_i32_1205 : BitVec 32 := 1#32
  let v1863 : BitVec 32 := Scalar.select v1862 c1_i32_1205 c32_i32_1203
  let v1864 : BitVec 32 := Scalar.remsi v1861 v1863
  let c0_i32_1207 : BitVec 32 := 0#32
  let v1866 : BitVec 1 := Scalar.cmpi .slt v1864 c0_i32_1207
  let c0_i32_1208 : BitVec 32 := 0#32
  let v1867 : BitVec 1 := Scalar.cmpi .slt v1863 c0_i32_1208
  let v1868 : BitVec 1 := Scalar.xori v1866 v1867
  let c0_i32_1206 : BitVec 32 := 0#32
  let v1865 : BitVec 1 := Scalar.cmpi .ne v1864 c0_i32_1206
  let v1869 : BitVec 1 := Scalar.andi v1868 v1865
  let v1870 : BitVec 32 := Scalar.addi v1864 v1863
  let v1871 : BitVec 32 := Scalar.select v1869 v1870 v1864
  let c1_i32_2384 : BitVec 32 := 1#32
  let v3206 : BitVec 32 := Scalar.muli v1871 c1_i32_2384
  let v3207 : BitVec 32 := Scalar.addi c0_i32_2385 v3206
  v3207.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1214 : BitVec 32 := 11#32
  let v1879 : BitVec 32 := Scalar.addi v2 c11_i32_1214
  let c32_i32_1215 : BitVec 32 := 32#32
  let c0_i32_1216 : BitVec 32 := 0#32
  let v1880 : BitVec 1 := Scalar.cmpi .eq c32_i32_1215 c0_i32_1216
  let c1_i32_1217 : BitVec 32 := 1#32
  let v1881 : BitVec 32 := Scalar.select v1880 c1_i32_1217 c32_i32_1215
  let v1882 : BitVec 32 := Scalar.remsi v1879 v1881
  let c0_i32_1219 : BitVec 32 := 0#32
  let v1884 : BitVec 1 := Scalar.cmpi .slt v1882 c0_i32_1219
  let c0_i32_1220 : BitVec 32 := 0#32
  let v1885 : BitVec 1 := Scalar.cmpi .slt v1881 c0_i32_1220
  let v1886 : BitVec 1 := Scalar.xori v1884 v1885
  let c0_i32_1218 : BitVec 32 := 0#32
  let v1883 : BitVec 1 := Scalar.cmpi .ne v1882 c0_i32_1218
  let v1887 : BitVec 1 := Scalar.andi v1886 v1883
  let v1888 : BitVec 32 := Scalar.addi v1882 v1881
  let v1889 : BitVec 32 := Scalar.select v1887 v1888 v1882
  let c16_i32_1221 : BitVec 32 := 16#32
  let v1890 : BitVec 32 := Scalar.muli v1889 c16_i32_1221
  let c256_i32_1222 : BitVec 32 := 256#32
  let v1891 : BitVec 1 := Scalar.cmpi .sge v1890 c256_i32_1222
  let c16_i32_1223 : BitVec 32 := 16#32
  let v1892 : BitVec 32 := Scalar.muli v1889 c16_i32_1223
  let c384_i32_1224 : BitVec 32 := 384#32
  let v1893 : BitVec 1 := Scalar.cmpi .slt v1892 c384_i32_1224
  let v1894 : BitVec 1 := Scalar.andi v1891 v1893
  let v1895 : BitVec 32 := Scalar.extui v1894
  let c0_i32_1225 : BitVec 32 := 0#32
  let v1896 : BitVec 1 := Scalar.cmpi .ne v1895 c0_i32_1225
  v1896

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1214 : BitVec 32 := 11#32
  let v1879 : BitVec 32 := Scalar.addi v2 c11_i32_1214
  let c32_i32_1215 : BitVec 32 := 32#32
  let c0_i32_1216 : BitVec 32 := 0#32
  let v1880 : BitVec 1 := Scalar.cmpi .eq c32_i32_1215 c0_i32_1216
  let c1_i32_1217 : BitVec 32 := 1#32
  let v1881 : BitVec 32 := Scalar.select v1880 c1_i32_1217 c32_i32_1215
  let v1882 : BitVec 32 := Scalar.remsi v1879 v1881
  let c0_i32_1219 : BitVec 32 := 0#32
  let v1884 : BitVec 1 := Scalar.cmpi .slt v1882 c0_i32_1219
  let c0_i32_1220 : BitVec 32 := 0#32
  let v1885 : BitVec 1 := Scalar.cmpi .slt v1881 c0_i32_1220
  let v1886 : BitVec 1 := Scalar.xori v1884 v1885
  let c0_i32_1218 : BitVec 32 := 0#32
  let v1883 : BitVec 1 := Scalar.cmpi .ne v1882 c0_i32_1218
  let v1887 : BitVec 1 := Scalar.andi v1886 v1883
  let v1888 : BitVec 32 := Scalar.addi v1882 v1881
  let v1889 : BitVec 32 := Scalar.select v1887 v1888 v1882
  let c16_i32_2380 : BitVec 32 := 16#32
  let v3205 : BitVec 32 := Scalar.muli v1889 c16_i32_2380
  let c0_i32_2388 : BitVec 32 := 0#32
  ![v3205.toNat, 0]
def k0_dev105 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1214 : BitVec 32 := 11#32
  let v1879 : BitVec 32 := Scalar.addi v2 c11_i32_1214
  let c32_i32_1215 : BitVec 32 := 32#32
  let c0_i32_1216 : BitVec 32 := 0#32
  let v1880 : BitVec 1 := Scalar.cmpi .eq c32_i32_1215 c0_i32_1216
  let c1_i32_1217 : BitVec 32 := 1#32
  let v1881 : BitVec 32 := Scalar.select v1880 c1_i32_1217 c32_i32_1215
  let v1882 : BitVec 32 := Scalar.remsi v1879 v1881
  let c0_i32_1219 : BitVec 32 := 0#32
  let v1884 : BitVec 1 := Scalar.cmpi .slt v1882 c0_i32_1219
  let c0_i32_1220 : BitVec 32 := 0#32
  let v1885 : BitVec 1 := Scalar.cmpi .slt v1881 c0_i32_1220
  let v1886 : BitVec 1 := Scalar.xori v1884 v1885
  let c0_i32_1218 : BitVec 32 := 0#32
  let v1883 : BitVec 1 := Scalar.cmpi .ne v1882 c0_i32_1218
  let v1887 : BitVec 1 := Scalar.andi v1886 v1883
  let v1888 : BitVec 32 := Scalar.addi v1882 v1881
  let v1889 : BitVec 32 := Scalar.select v1887 v1888 v1882
  let c1_i32_2384 : BitVec 32 := 1#32
  let v3206 : BitVec 32 := Scalar.muli v1889 c1_i32_2384
  let v3207 : BitVec 32 := Scalar.addi c0_i32_2385 v3206
  v3207.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1226 : BitVec 32 := 12#32
  let v1897 : BitVec 32 := Scalar.addi v2 c12_i32_1226
  let c32_i32_1227 : BitVec 32 := 32#32
  let c0_i32_1228 : BitVec 32 := 0#32
  let v1898 : BitVec 1 := Scalar.cmpi .eq c32_i32_1227 c0_i32_1228
  let c1_i32_1229 : BitVec 32 := 1#32
  let v1899 : BitVec 32 := Scalar.select v1898 c1_i32_1229 c32_i32_1227
  let v1900 : BitVec 32 := Scalar.remsi v1897 v1899
  let c0_i32_1231 : BitVec 32 := 0#32
  let v1902 : BitVec 1 := Scalar.cmpi .slt v1900 c0_i32_1231
  let c0_i32_1232 : BitVec 32 := 0#32
  let v1903 : BitVec 1 := Scalar.cmpi .slt v1899 c0_i32_1232
  let v1904 : BitVec 1 := Scalar.xori v1902 v1903
  let c0_i32_1230 : BitVec 32 := 0#32
  let v1901 : BitVec 1 := Scalar.cmpi .ne v1900 c0_i32_1230
  let v1905 : BitVec 1 := Scalar.andi v1904 v1901
  let v1906 : BitVec 32 := Scalar.addi v1900 v1899
  let v1907 : BitVec 32 := Scalar.select v1905 v1906 v1900
  let c16_i32_1233 : BitVec 32 := 16#32
  let v1908 : BitVec 32 := Scalar.muli v1907 c16_i32_1233
  let c256_i32_1234 : BitVec 32 := 256#32
  let v1909 : BitVec 1 := Scalar.cmpi .sge v1908 c256_i32_1234
  let c16_i32_1235 : BitVec 32 := 16#32
  let v1910 : BitVec 32 := Scalar.muli v1907 c16_i32_1235
  let c384_i32_1236 : BitVec 32 := 384#32
  let v1911 : BitVec 1 := Scalar.cmpi .slt v1910 c384_i32_1236
  let v1912 : BitVec 1 := Scalar.andi v1909 v1911
  let v1913 : BitVec 32 := Scalar.extui v1912
  let c0_i32_1237 : BitVec 32 := 0#32
  let v1914 : BitVec 1 := Scalar.cmpi .ne v1913 c0_i32_1237
  v1914

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1226 : BitVec 32 := 12#32
  let v1897 : BitVec 32 := Scalar.addi v2 c12_i32_1226
  let c32_i32_1227 : BitVec 32 := 32#32
  let c0_i32_1228 : BitVec 32 := 0#32
  let v1898 : BitVec 1 := Scalar.cmpi .eq c32_i32_1227 c0_i32_1228
  let c1_i32_1229 : BitVec 32 := 1#32
  let v1899 : BitVec 32 := Scalar.select v1898 c1_i32_1229 c32_i32_1227
  let v1900 : BitVec 32 := Scalar.remsi v1897 v1899
  let c0_i32_1231 : BitVec 32 := 0#32
  let v1902 : BitVec 1 := Scalar.cmpi .slt v1900 c0_i32_1231
  let c0_i32_1232 : BitVec 32 := 0#32
  let v1903 : BitVec 1 := Scalar.cmpi .slt v1899 c0_i32_1232
  let v1904 : BitVec 1 := Scalar.xori v1902 v1903
  let c0_i32_1230 : BitVec 32 := 0#32
  let v1901 : BitVec 1 := Scalar.cmpi .ne v1900 c0_i32_1230
  let v1905 : BitVec 1 := Scalar.andi v1904 v1901
  let v1906 : BitVec 32 := Scalar.addi v1900 v1899
  let v1907 : BitVec 32 := Scalar.select v1905 v1906 v1900
  let c16_i32_2380 : BitVec 32 := 16#32
  let v3205 : BitVec 32 := Scalar.muli v1907 c16_i32_2380
  let c0_i32_2388 : BitVec 32 := 0#32
  ![v3205.toNat, 0]
def k0_dev106 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1226 : BitVec 32 := 12#32
  let v1897 : BitVec 32 := Scalar.addi v2 c12_i32_1226
  let c32_i32_1227 : BitVec 32 := 32#32
  let c0_i32_1228 : BitVec 32 := 0#32
  let v1898 : BitVec 1 := Scalar.cmpi .eq c32_i32_1227 c0_i32_1228
  let c1_i32_1229 : BitVec 32 := 1#32
  let v1899 : BitVec 32 := Scalar.select v1898 c1_i32_1229 c32_i32_1227
  let v1900 : BitVec 32 := Scalar.remsi v1897 v1899
  let c0_i32_1231 : BitVec 32 := 0#32
  let v1902 : BitVec 1 := Scalar.cmpi .slt v1900 c0_i32_1231
  let c0_i32_1232 : BitVec 32 := 0#32
  let v1903 : BitVec 1 := Scalar.cmpi .slt v1899 c0_i32_1232
  let v1904 : BitVec 1 := Scalar.xori v1902 v1903
  let c0_i32_1230 : BitVec 32 := 0#32
  let v1901 : BitVec 1 := Scalar.cmpi .ne v1900 c0_i32_1230
  let v1905 : BitVec 1 := Scalar.andi v1904 v1901
  let v1906 : BitVec 32 := Scalar.addi v1900 v1899
  let v1907 : BitVec 32 := Scalar.select v1905 v1906 v1900
  let c1_i32_2384 : BitVec 32 := 1#32
  let v3206 : BitVec 32 := Scalar.muli v1907 c1_i32_2384
  let v3207 : BitVec 32 := Scalar.addi c0_i32_2385 v3206
  v3207.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1238 : BitVec 32 := 13#32
  let v1915 : BitVec 32 := Scalar.addi v2 c13_i32_1238
  let c32_i32_1239 : BitVec 32 := 32#32
  let c0_i32_1240 : BitVec 32 := 0#32
  let v1916 : BitVec 1 := Scalar.cmpi .eq c32_i32_1239 c0_i32_1240
  let c1_i32_1241 : BitVec 32 := 1#32
  let v1917 : BitVec 32 := Scalar.select v1916 c1_i32_1241 c32_i32_1239
  let v1918 : BitVec 32 := Scalar.remsi v1915 v1917
  let c0_i32_1243 : BitVec 32 := 0#32
  let v1920 : BitVec 1 := Scalar.cmpi .slt v1918 c0_i32_1243
  let c0_i32_1244 : BitVec 32 := 0#32
  let v1921 : BitVec 1 := Scalar.cmpi .slt v1917 c0_i32_1244
  let v1922 : BitVec 1 := Scalar.xori v1920 v1921
  let c0_i32_1242 : BitVec 32 := 0#32
  let v1919 : BitVec 1 := Scalar.cmpi .ne v1918 c0_i32_1242
  let v1923 : BitVec 1 := Scalar.andi v1922 v1919
  let v1924 : BitVec 32 := Scalar.addi v1918 v1917
  let v1925 : BitVec 32 := Scalar.select v1923 v1924 v1918
  let c16_i32_1245 : BitVec 32 := 16#32
  let v1926 : BitVec 32 := Scalar.muli v1925 c16_i32_1245
  let c256_i32_1246 : BitVec 32 := 256#32
  let v1927 : BitVec 1 := Scalar.cmpi .sge v1926 c256_i32_1246
  let c16_i32_1247 : BitVec 32 := 16#32
  let v1928 : BitVec 32 := Scalar.muli v1925 c16_i32_1247
  let c384_i32_1248 : BitVec 32 := 384#32
  let v1929 : BitVec 1 := Scalar.cmpi .slt v1928 c384_i32_1248
  let v1930 : BitVec 1 := Scalar.andi v1927 v1929
  let v1931 : BitVec 32 := Scalar.extui v1930
  let c0_i32_1249 : BitVec 32 := 0#32
  let v1932 : BitVec 1 := Scalar.cmpi .ne v1931 c0_i32_1249
  v1932

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1238 : BitVec 32 := 13#32
  let v1915 : BitVec 32 := Scalar.addi v2 c13_i32_1238
  let c32_i32_1239 : BitVec 32 := 32#32
  let c0_i32_1240 : BitVec 32 := 0#32
  let v1916 : BitVec 1 := Scalar.cmpi .eq c32_i32_1239 c0_i32_1240
  let c1_i32_1241 : BitVec 32 := 1#32
  let v1917 : BitVec 32 := Scalar.select v1916 c1_i32_1241 c32_i32_1239
  let v1918 : BitVec 32 := Scalar.remsi v1915 v1917
  let c0_i32_1243 : BitVec 32 := 0#32
  let v1920 : BitVec 1 := Scalar.cmpi .slt v1918 c0_i32_1243
  let c0_i32_1244 : BitVec 32 := 0#32
  let v1921 : BitVec 1 := Scalar.cmpi .slt v1917 c0_i32_1244
  let v1922 : BitVec 1 := Scalar.xori v1920 v1921
  let c0_i32_1242 : BitVec 32 := 0#32
  let v1919 : BitVec 1 := Scalar.cmpi .ne v1918 c0_i32_1242
  let v1923 : BitVec 1 := Scalar.andi v1922 v1919
  let v1924 : BitVec 32 := Scalar.addi v1918 v1917
  let v1925 : BitVec 32 := Scalar.select v1923 v1924 v1918
  let c16_i32_2380 : BitVec 32 := 16#32
  let v3205 : BitVec 32 := Scalar.muli v1925 c16_i32_2380
  let c0_i32_2388 : BitVec 32 := 0#32
  ![v3205.toNat, 0]
def k0_dev107 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1238 : BitVec 32 := 13#32
  let v1915 : BitVec 32 := Scalar.addi v2 c13_i32_1238
  let c32_i32_1239 : BitVec 32 := 32#32
  let c0_i32_1240 : BitVec 32 := 0#32
  let v1916 : BitVec 1 := Scalar.cmpi .eq c32_i32_1239 c0_i32_1240
  let c1_i32_1241 : BitVec 32 := 1#32
  let v1917 : BitVec 32 := Scalar.select v1916 c1_i32_1241 c32_i32_1239
  let v1918 : BitVec 32 := Scalar.remsi v1915 v1917
  let c0_i32_1243 : BitVec 32 := 0#32
  let v1920 : BitVec 1 := Scalar.cmpi .slt v1918 c0_i32_1243
  let c0_i32_1244 : BitVec 32 := 0#32
  let v1921 : BitVec 1 := Scalar.cmpi .slt v1917 c0_i32_1244
  let v1922 : BitVec 1 := Scalar.xori v1920 v1921
  let c0_i32_1242 : BitVec 32 := 0#32
  let v1919 : BitVec 1 := Scalar.cmpi .ne v1918 c0_i32_1242
  let v1923 : BitVec 1 := Scalar.andi v1922 v1919
  let v1924 : BitVec 32 := Scalar.addi v1918 v1917
  let v1925 : BitVec 32 := Scalar.select v1923 v1924 v1918
  let c1_i32_2384 : BitVec 32 := 1#32
  let v3206 : BitVec 32 := Scalar.muli v1925 c1_i32_2384
  let v3207 : BitVec 32 := Scalar.addi c0_i32_2385 v3206
  v3207.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1250 : BitVec 32 := 14#32
  let v1933 : BitVec 32 := Scalar.addi v2 c14_i32_1250
  let c32_i32_1251 : BitVec 32 := 32#32
  let c0_i32_1252 : BitVec 32 := 0#32
  let v1934 : BitVec 1 := Scalar.cmpi .eq c32_i32_1251 c0_i32_1252
  let c1_i32_1253 : BitVec 32 := 1#32
  let v1935 : BitVec 32 := Scalar.select v1934 c1_i32_1253 c32_i32_1251
  let v1936 : BitVec 32 := Scalar.remsi v1933 v1935
  let c0_i32_1255 : BitVec 32 := 0#32
  let v1938 : BitVec 1 := Scalar.cmpi .slt v1936 c0_i32_1255
  let c0_i32_1256 : BitVec 32 := 0#32
  let v1939 : BitVec 1 := Scalar.cmpi .slt v1935 c0_i32_1256
  let v1940 : BitVec 1 := Scalar.xori v1938 v1939
  let c0_i32_1254 : BitVec 32 := 0#32
  let v1937 : BitVec 1 := Scalar.cmpi .ne v1936 c0_i32_1254
  let v1941 : BitVec 1 := Scalar.andi v1940 v1937
  let v1942 : BitVec 32 := Scalar.addi v1936 v1935
  let v1943 : BitVec 32 := Scalar.select v1941 v1942 v1936
  let c16_i32_1257 : BitVec 32 := 16#32
  let v1944 : BitVec 32 := Scalar.muli v1943 c16_i32_1257
  let c256_i32_1258 : BitVec 32 := 256#32
  let v1945 : BitVec 1 := Scalar.cmpi .sge v1944 c256_i32_1258
  let c16_i32_1259 : BitVec 32 := 16#32
  let v1946 : BitVec 32 := Scalar.muli v1943 c16_i32_1259
  let c384_i32_1260 : BitVec 32 := 384#32
  let v1947 : BitVec 1 := Scalar.cmpi .slt v1946 c384_i32_1260
  let v1948 : BitVec 1 := Scalar.andi v1945 v1947
  let v1949 : BitVec 32 := Scalar.extui v1948
  let c0_i32_1261 : BitVec 32 := 0#32
  let v1950 : BitVec 1 := Scalar.cmpi .ne v1949 c0_i32_1261
  v1950

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1250 : BitVec 32 := 14#32
  let v1933 : BitVec 32 := Scalar.addi v2 c14_i32_1250
  let c32_i32_1251 : BitVec 32 := 32#32
  let c0_i32_1252 : BitVec 32 := 0#32
  let v1934 : BitVec 1 := Scalar.cmpi .eq c32_i32_1251 c0_i32_1252
  let c1_i32_1253 : BitVec 32 := 1#32
  let v1935 : BitVec 32 := Scalar.select v1934 c1_i32_1253 c32_i32_1251
  let v1936 : BitVec 32 := Scalar.remsi v1933 v1935
  let c0_i32_1255 : BitVec 32 := 0#32
  let v1938 : BitVec 1 := Scalar.cmpi .slt v1936 c0_i32_1255
  let c0_i32_1256 : BitVec 32 := 0#32
  let v1939 : BitVec 1 := Scalar.cmpi .slt v1935 c0_i32_1256
  let v1940 : BitVec 1 := Scalar.xori v1938 v1939
  let c0_i32_1254 : BitVec 32 := 0#32
  let v1937 : BitVec 1 := Scalar.cmpi .ne v1936 c0_i32_1254
  let v1941 : BitVec 1 := Scalar.andi v1940 v1937
  let v1942 : BitVec 32 := Scalar.addi v1936 v1935
  let v1943 : BitVec 32 := Scalar.select v1941 v1942 v1936
  let c16_i32_2380 : BitVec 32 := 16#32
  let v3205 : BitVec 32 := Scalar.muli v1943 c16_i32_2380
  let c0_i32_2388 : BitVec 32 := 0#32
  ![v3205.toNat, 0]
def k0_dev108 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1250 : BitVec 32 := 14#32
  let v1933 : BitVec 32 := Scalar.addi v2 c14_i32_1250
  let c32_i32_1251 : BitVec 32 := 32#32
  let c0_i32_1252 : BitVec 32 := 0#32
  let v1934 : BitVec 1 := Scalar.cmpi .eq c32_i32_1251 c0_i32_1252
  let c1_i32_1253 : BitVec 32 := 1#32
  let v1935 : BitVec 32 := Scalar.select v1934 c1_i32_1253 c32_i32_1251
  let v1936 : BitVec 32 := Scalar.remsi v1933 v1935
  let c0_i32_1255 : BitVec 32 := 0#32
  let v1938 : BitVec 1 := Scalar.cmpi .slt v1936 c0_i32_1255
  let c0_i32_1256 : BitVec 32 := 0#32
  let v1939 : BitVec 1 := Scalar.cmpi .slt v1935 c0_i32_1256
  let v1940 : BitVec 1 := Scalar.xori v1938 v1939
  let c0_i32_1254 : BitVec 32 := 0#32
  let v1937 : BitVec 1 := Scalar.cmpi .ne v1936 c0_i32_1254
  let v1941 : BitVec 1 := Scalar.andi v1940 v1937
  let v1942 : BitVec 32 := Scalar.addi v1936 v1935
  let v1943 : BitVec 32 := Scalar.select v1941 v1942 v1936
  let c1_i32_2384 : BitVec 32 := 1#32
  let v3206 : BitVec 32 := Scalar.muli v1943 c1_i32_2384
  let v3207 : BitVec 32 := Scalar.addi c0_i32_2385 v3206
  v3207.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1262 : BitVec 32 := 15#32
  let v1951 : BitVec 32 := Scalar.addi v2 c15_i32_1262
  let c32_i32_1263 : BitVec 32 := 32#32
  let c0_i32_1264 : BitVec 32 := 0#32
  let v1952 : BitVec 1 := Scalar.cmpi .eq c32_i32_1263 c0_i32_1264
  let c1_i32_1265 : BitVec 32 := 1#32
  let v1953 : BitVec 32 := Scalar.select v1952 c1_i32_1265 c32_i32_1263
  let v1954 : BitVec 32 := Scalar.remsi v1951 v1953
  let c0_i32_1267 : BitVec 32 := 0#32
  let v1956 : BitVec 1 := Scalar.cmpi .slt v1954 c0_i32_1267
  let c0_i32_1268 : BitVec 32 := 0#32
  let v1957 : BitVec 1 := Scalar.cmpi .slt v1953 c0_i32_1268
  let v1958 : BitVec 1 := Scalar.xori v1956 v1957
  let c0_i32_1266 : BitVec 32 := 0#32
  let v1955 : BitVec 1 := Scalar.cmpi .ne v1954 c0_i32_1266
  let v1959 : BitVec 1 := Scalar.andi v1958 v1955
  let v1960 : BitVec 32 := Scalar.addi v1954 v1953
  let v1961 : BitVec 32 := Scalar.select v1959 v1960 v1954
  let c16_i32_1269 : BitVec 32 := 16#32
  let v1962 : BitVec 32 := Scalar.muli v1961 c16_i32_1269
  let c256_i32_1270 : BitVec 32 := 256#32
  let v1963 : BitVec 1 := Scalar.cmpi .sge v1962 c256_i32_1270
  let c16_i32_1271 : BitVec 32 := 16#32
  let v1964 : BitVec 32 := Scalar.muli v1961 c16_i32_1271
  let c384_i32_1272 : BitVec 32 := 384#32
  let v1965 : BitVec 1 := Scalar.cmpi .slt v1964 c384_i32_1272
  let v1966 : BitVec 1 := Scalar.andi v1963 v1965
  let v1967 : BitVec 32 := Scalar.extui v1966
  let c0_i32_1273 : BitVec 32 := 0#32
  let v1968 : BitVec 1 := Scalar.cmpi .ne v1967 c0_i32_1273
  v1968

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1262 : BitVec 32 := 15#32
  let v1951 : BitVec 32 := Scalar.addi v2 c15_i32_1262
  let c32_i32_1263 : BitVec 32 := 32#32
  let c0_i32_1264 : BitVec 32 := 0#32
  let v1952 : BitVec 1 := Scalar.cmpi .eq c32_i32_1263 c0_i32_1264
  let c1_i32_1265 : BitVec 32 := 1#32
  let v1953 : BitVec 32 := Scalar.select v1952 c1_i32_1265 c32_i32_1263
  let v1954 : BitVec 32 := Scalar.remsi v1951 v1953
  let c0_i32_1267 : BitVec 32 := 0#32
  let v1956 : BitVec 1 := Scalar.cmpi .slt v1954 c0_i32_1267
  let c0_i32_1268 : BitVec 32 := 0#32
  let v1957 : BitVec 1 := Scalar.cmpi .slt v1953 c0_i32_1268
  let v1958 : BitVec 1 := Scalar.xori v1956 v1957
  let c0_i32_1266 : BitVec 32 := 0#32
  let v1955 : BitVec 1 := Scalar.cmpi .ne v1954 c0_i32_1266
  let v1959 : BitVec 1 := Scalar.andi v1958 v1955
  let v1960 : BitVec 32 := Scalar.addi v1954 v1953
  let v1961 : BitVec 32 := Scalar.select v1959 v1960 v1954
  let c16_i32_2380 : BitVec 32 := 16#32
  let v3205 : BitVec 32 := Scalar.muli v1961 c16_i32_2380
  let c0_i32_2388 : BitVec 32 := 0#32
  ![v3205.toNat, 0]
def k0_dev109 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1262 : BitVec 32 := 15#32
  let v1951 : BitVec 32 := Scalar.addi v2 c15_i32_1262
  let c32_i32_1263 : BitVec 32 := 32#32
  let c0_i32_1264 : BitVec 32 := 0#32
  let v1952 : BitVec 1 := Scalar.cmpi .eq c32_i32_1263 c0_i32_1264
  let c1_i32_1265 : BitVec 32 := 1#32
  let v1953 : BitVec 32 := Scalar.select v1952 c1_i32_1265 c32_i32_1263
  let v1954 : BitVec 32 := Scalar.remsi v1951 v1953
  let c0_i32_1267 : BitVec 32 := 0#32
  let v1956 : BitVec 1 := Scalar.cmpi .slt v1954 c0_i32_1267
  let c0_i32_1268 : BitVec 32 := 0#32
  let v1957 : BitVec 1 := Scalar.cmpi .slt v1953 c0_i32_1268
  let v1958 : BitVec 1 := Scalar.xori v1956 v1957
  let c0_i32_1266 : BitVec 32 := 0#32
  let v1955 : BitVec 1 := Scalar.cmpi .ne v1954 c0_i32_1266
  let v1959 : BitVec 1 := Scalar.andi v1958 v1955
  let v1960 : BitVec 32 := Scalar.addi v1954 v1953
  let v1961 : BitVec 32 := Scalar.select v1959 v1960 v1954
  let c1_i32_2384 : BitVec 32 := 1#32
  let v3206 : BitVec 32 := Scalar.muli v1961 c1_i32_2384
  let v3207 : BitVec 32 := Scalar.addi c0_i32_2385 v3206
  v3207.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1274 : BitVec 32 := 16#32
  let v1969 : BitVec 32 := Scalar.addi v2 c16_i32_1274
  let c32_i32_1275 : BitVec 32 := 32#32
  let c0_i32_1276 : BitVec 32 := 0#32
  let v1970 : BitVec 1 := Scalar.cmpi .eq c32_i32_1275 c0_i32_1276
  let c1_i32_1277 : BitVec 32 := 1#32
  let v1971 : BitVec 32 := Scalar.select v1970 c1_i32_1277 c32_i32_1275
  let v1972 : BitVec 32 := Scalar.remsi v1969 v1971
  let c0_i32_1279 : BitVec 32 := 0#32
  let v1974 : BitVec 1 := Scalar.cmpi .slt v1972 c0_i32_1279
  let c0_i32_1280 : BitVec 32 := 0#32
  let v1975 : BitVec 1 := Scalar.cmpi .slt v1971 c0_i32_1280
  let v1976 : BitVec 1 := Scalar.xori v1974 v1975
  let c0_i32_1278 : BitVec 32 := 0#32
  let v1973 : BitVec 1 := Scalar.cmpi .ne v1972 c0_i32_1278
  let v1977 : BitVec 1 := Scalar.andi v1976 v1973
  let v1978 : BitVec 32 := Scalar.addi v1972 v1971
  let v1979 : BitVec 32 := Scalar.select v1977 v1978 v1972
  let c16_i32_1281 : BitVec 32 := 16#32
  let v1980 : BitVec 32 := Scalar.muli v1979 c16_i32_1281
  let c256_i32_1282 : BitVec 32 := 256#32
  let v1981 : BitVec 1 := Scalar.cmpi .sge v1980 c256_i32_1282
  let c16_i32_1283 : BitVec 32 := 16#32
  let v1982 : BitVec 32 := Scalar.muli v1979 c16_i32_1283
  let c384_i32_1284 : BitVec 32 := 384#32
  let v1983 : BitVec 1 := Scalar.cmpi .slt v1982 c384_i32_1284
  let v1984 : BitVec 1 := Scalar.andi v1981 v1983
  let v1985 : BitVec 32 := Scalar.extui v1984
  let c0_i32_1285 : BitVec 32 := 0#32
  let v1986 : BitVec 1 := Scalar.cmpi .ne v1985 c0_i32_1285
  v1986

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1274 : BitVec 32 := 16#32
  let v1969 : BitVec 32 := Scalar.addi v2 c16_i32_1274
  let c32_i32_1275 : BitVec 32 := 32#32
  let c0_i32_1276 : BitVec 32 := 0#32
  let v1970 : BitVec 1 := Scalar.cmpi .eq c32_i32_1275 c0_i32_1276
  let c1_i32_1277 : BitVec 32 := 1#32
  let v1971 : BitVec 32 := Scalar.select v1970 c1_i32_1277 c32_i32_1275
  let v1972 : BitVec 32 := Scalar.remsi v1969 v1971
  let c0_i32_1279 : BitVec 32 := 0#32
  let v1974 : BitVec 1 := Scalar.cmpi .slt v1972 c0_i32_1279
  let c0_i32_1280 : BitVec 32 := 0#32
  let v1975 : BitVec 1 := Scalar.cmpi .slt v1971 c0_i32_1280
  let v1976 : BitVec 1 := Scalar.xori v1974 v1975
  let c0_i32_1278 : BitVec 32 := 0#32
  let v1973 : BitVec 1 := Scalar.cmpi .ne v1972 c0_i32_1278
  let v1977 : BitVec 1 := Scalar.andi v1976 v1973
  let v1978 : BitVec 32 := Scalar.addi v1972 v1971
  let v1979 : BitVec 32 := Scalar.select v1977 v1978 v1972
  let c16_i32_2380 : BitVec 32 := 16#32
  let v3205 : BitVec 32 := Scalar.muli v1979 c16_i32_2380
  let c0_i32_2388 : BitVec 32 := 0#32
  ![v3205.toNat, 0]
def k0_dev110 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1274 : BitVec 32 := 16#32
  let v1969 : BitVec 32 := Scalar.addi v2 c16_i32_1274
  let c32_i32_1275 : BitVec 32 := 32#32
  let c0_i32_1276 : BitVec 32 := 0#32
  let v1970 : BitVec 1 := Scalar.cmpi .eq c32_i32_1275 c0_i32_1276
  let c1_i32_1277 : BitVec 32 := 1#32
  let v1971 : BitVec 32 := Scalar.select v1970 c1_i32_1277 c32_i32_1275
  let v1972 : BitVec 32 := Scalar.remsi v1969 v1971
  let c0_i32_1279 : BitVec 32 := 0#32
  let v1974 : BitVec 1 := Scalar.cmpi .slt v1972 c0_i32_1279
  let c0_i32_1280 : BitVec 32 := 0#32
  let v1975 : BitVec 1 := Scalar.cmpi .slt v1971 c0_i32_1280
  let v1976 : BitVec 1 := Scalar.xori v1974 v1975
  let c0_i32_1278 : BitVec 32 := 0#32
  let v1973 : BitVec 1 := Scalar.cmpi .ne v1972 c0_i32_1278
  let v1977 : BitVec 1 := Scalar.andi v1976 v1973
  let v1978 : BitVec 32 := Scalar.addi v1972 v1971
  let v1979 : BitVec 32 := Scalar.select v1977 v1978 v1972
  let c1_i32_2384 : BitVec 32 := 1#32
  let v3206 : BitVec 32 := Scalar.muli v1979 c1_i32_2384
  let v3207 : BitVec 32 := Scalar.addi c0_i32_2385 v3206
  v3207.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1286 : BitVec 32 := 17#32
  let v1987 : BitVec 32 := Scalar.addi v2 c17_i32_1286
  let c32_i32_1287 : BitVec 32 := 32#32
  let c0_i32_1288 : BitVec 32 := 0#32
  let v1988 : BitVec 1 := Scalar.cmpi .eq c32_i32_1287 c0_i32_1288
  let c1_i32_1289 : BitVec 32 := 1#32
  let v1989 : BitVec 32 := Scalar.select v1988 c1_i32_1289 c32_i32_1287
  let v1990 : BitVec 32 := Scalar.remsi v1987 v1989
  let c0_i32_1291 : BitVec 32 := 0#32
  let v1992 : BitVec 1 := Scalar.cmpi .slt v1990 c0_i32_1291
  let c0_i32_1292 : BitVec 32 := 0#32
  let v1993 : BitVec 1 := Scalar.cmpi .slt v1989 c0_i32_1292
  let v1994 : BitVec 1 := Scalar.xori v1992 v1993
  let c0_i32_1290 : BitVec 32 := 0#32
  let v1991 : BitVec 1 := Scalar.cmpi .ne v1990 c0_i32_1290
  let v1995 : BitVec 1 := Scalar.andi v1994 v1991
  let v1996 : BitVec 32 := Scalar.addi v1990 v1989
  let v1997 : BitVec 32 := Scalar.select v1995 v1996 v1990
  let c16_i32_1293 : BitVec 32 := 16#32
  let v1998 : BitVec 32 := Scalar.muli v1997 c16_i32_1293
  let c256_i32_1294 : BitVec 32 := 256#32
  let v1999 : BitVec 1 := Scalar.cmpi .sge v1998 c256_i32_1294
  let c16_i32_1295 : BitVec 32 := 16#32
  let v2000 : BitVec 32 := Scalar.muli v1997 c16_i32_1295
  let c384_i32_1296 : BitVec 32 := 384#32
  let v2001 : BitVec 1 := Scalar.cmpi .slt v2000 c384_i32_1296
  let v2002 : BitVec 1 := Scalar.andi v1999 v2001
  let v2003 : BitVec 32 := Scalar.extui v2002
  let c0_i32_1297 : BitVec 32 := 0#32
  let v2004 : BitVec 1 := Scalar.cmpi .ne v2003 c0_i32_1297
  v2004

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1286 : BitVec 32 := 17#32
  let v1987 : BitVec 32 := Scalar.addi v2 c17_i32_1286
  let c32_i32_1287 : BitVec 32 := 32#32
  let c0_i32_1288 : BitVec 32 := 0#32
  let v1988 : BitVec 1 := Scalar.cmpi .eq c32_i32_1287 c0_i32_1288
  let c1_i32_1289 : BitVec 32 := 1#32
  let v1989 : BitVec 32 := Scalar.select v1988 c1_i32_1289 c32_i32_1287
  let v1990 : BitVec 32 := Scalar.remsi v1987 v1989
  let c0_i32_1291 : BitVec 32 := 0#32
  let v1992 : BitVec 1 := Scalar.cmpi .slt v1990 c0_i32_1291
  let c0_i32_1292 : BitVec 32 := 0#32
  let v1993 : BitVec 1 := Scalar.cmpi .slt v1989 c0_i32_1292
  let v1994 : BitVec 1 := Scalar.xori v1992 v1993
  let c0_i32_1290 : BitVec 32 := 0#32
  let v1991 : BitVec 1 := Scalar.cmpi .ne v1990 c0_i32_1290
  let v1995 : BitVec 1 := Scalar.andi v1994 v1991
  let v1996 : BitVec 32 := Scalar.addi v1990 v1989
  let v1997 : BitVec 32 := Scalar.select v1995 v1996 v1990
  let c16_i32_2380 : BitVec 32 := 16#32
  let v3205 : BitVec 32 := Scalar.muli v1997 c16_i32_2380
  let c0_i32_2388 : BitVec 32 := 0#32
  ![v3205.toNat, 0]
def k0_dev111 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1286 : BitVec 32 := 17#32
  let v1987 : BitVec 32 := Scalar.addi v2 c17_i32_1286
  let c32_i32_1287 : BitVec 32 := 32#32
  let c0_i32_1288 : BitVec 32 := 0#32
  let v1988 : BitVec 1 := Scalar.cmpi .eq c32_i32_1287 c0_i32_1288
  let c1_i32_1289 : BitVec 32 := 1#32
  let v1989 : BitVec 32 := Scalar.select v1988 c1_i32_1289 c32_i32_1287
  let v1990 : BitVec 32 := Scalar.remsi v1987 v1989
  let c0_i32_1291 : BitVec 32 := 0#32
  let v1992 : BitVec 1 := Scalar.cmpi .slt v1990 c0_i32_1291
  let c0_i32_1292 : BitVec 32 := 0#32
  let v1993 : BitVec 1 := Scalar.cmpi .slt v1989 c0_i32_1292
  let v1994 : BitVec 1 := Scalar.xori v1992 v1993
  let c0_i32_1290 : BitVec 32 := 0#32
  let v1991 : BitVec 1 := Scalar.cmpi .ne v1990 c0_i32_1290
  let v1995 : BitVec 1 := Scalar.andi v1994 v1991
  let v1996 : BitVec 32 := Scalar.addi v1990 v1989
  let v1997 : BitVec 32 := Scalar.select v1995 v1996 v1990
  let c1_i32_2384 : BitVec 32 := 1#32
  let v3206 : BitVec 32 := Scalar.muli v1997 c1_i32_2384
  let v3207 : BitVec 32 := Scalar.addi c0_i32_2385 v3206
  v3207.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1298 : BitVec 32 := 18#32
  let v2005 : BitVec 32 := Scalar.addi v2 c18_i32_1298
  let c32_i32_1299 : BitVec 32 := 32#32
  let c0_i32_1300 : BitVec 32 := 0#32
  let v2006 : BitVec 1 := Scalar.cmpi .eq c32_i32_1299 c0_i32_1300
  let c1_i32_1301 : BitVec 32 := 1#32
  let v2007 : BitVec 32 := Scalar.select v2006 c1_i32_1301 c32_i32_1299
  let v2008 : BitVec 32 := Scalar.remsi v2005 v2007
  let c0_i32_1303 : BitVec 32 := 0#32
  let v2010 : BitVec 1 := Scalar.cmpi .slt v2008 c0_i32_1303
  let c0_i32_1304 : BitVec 32 := 0#32
  let v2011 : BitVec 1 := Scalar.cmpi .slt v2007 c0_i32_1304
  let v2012 : BitVec 1 := Scalar.xori v2010 v2011
  let c0_i32_1302 : BitVec 32 := 0#32
  let v2009 : BitVec 1 := Scalar.cmpi .ne v2008 c0_i32_1302
  let v2013 : BitVec 1 := Scalar.andi v2012 v2009
  let v2014 : BitVec 32 := Scalar.addi v2008 v2007
  let v2015 : BitVec 32 := Scalar.select v2013 v2014 v2008
  let c16_i32_1305 : BitVec 32 := 16#32
  let v2016 : BitVec 32 := Scalar.muli v2015 c16_i32_1305
  let c256_i32_1306 : BitVec 32 := 256#32
  let v2017 : BitVec 1 := Scalar.cmpi .sge v2016 c256_i32_1306
  let c16_i32_1307 : BitVec 32 := 16#32
  let v2018 : BitVec 32 := Scalar.muli v2015 c16_i32_1307
  let c384_i32_1308 : BitVec 32 := 384#32
  let v2019 : BitVec 1 := Scalar.cmpi .slt v2018 c384_i32_1308
  let v2020 : BitVec 1 := Scalar.andi v2017 v2019
  let v2021 : BitVec 32 := Scalar.extui v2020
  let c0_i32_1309 : BitVec 32 := 0#32
  let v2022 : BitVec 1 := Scalar.cmpi .ne v2021 c0_i32_1309
  v2022

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1298 : BitVec 32 := 18#32
  let v2005 : BitVec 32 := Scalar.addi v2 c18_i32_1298
  let c32_i32_1299 : BitVec 32 := 32#32
  let c0_i32_1300 : BitVec 32 := 0#32
  let v2006 : BitVec 1 := Scalar.cmpi .eq c32_i32_1299 c0_i32_1300
  let c1_i32_1301 : BitVec 32 := 1#32
  let v2007 : BitVec 32 := Scalar.select v2006 c1_i32_1301 c32_i32_1299
  let v2008 : BitVec 32 := Scalar.remsi v2005 v2007
  let c0_i32_1303 : BitVec 32 := 0#32
  let v2010 : BitVec 1 := Scalar.cmpi .slt v2008 c0_i32_1303
  let c0_i32_1304 : BitVec 32 := 0#32
  let v2011 : BitVec 1 := Scalar.cmpi .slt v2007 c0_i32_1304
  let v2012 : BitVec 1 := Scalar.xori v2010 v2011
  let c0_i32_1302 : BitVec 32 := 0#32
  let v2009 : BitVec 1 := Scalar.cmpi .ne v2008 c0_i32_1302
  let v2013 : BitVec 1 := Scalar.andi v2012 v2009
  let v2014 : BitVec 32 := Scalar.addi v2008 v2007
  let v2015 : BitVec 32 := Scalar.select v2013 v2014 v2008
  let c16_i32_2380 : BitVec 32 := 16#32
  let v3205 : BitVec 32 := Scalar.muli v2015 c16_i32_2380
  let c0_i32_2388 : BitVec 32 := 0#32
  ![v3205.toNat, 0]
def k0_dev112 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1298 : BitVec 32 := 18#32
  let v2005 : BitVec 32 := Scalar.addi v2 c18_i32_1298
  let c32_i32_1299 : BitVec 32 := 32#32
  let c0_i32_1300 : BitVec 32 := 0#32
  let v2006 : BitVec 1 := Scalar.cmpi .eq c32_i32_1299 c0_i32_1300
  let c1_i32_1301 : BitVec 32 := 1#32
  let v2007 : BitVec 32 := Scalar.select v2006 c1_i32_1301 c32_i32_1299
  let v2008 : BitVec 32 := Scalar.remsi v2005 v2007
  let c0_i32_1303 : BitVec 32 := 0#32
  let v2010 : BitVec 1 := Scalar.cmpi .slt v2008 c0_i32_1303
  let c0_i32_1304 : BitVec 32 := 0#32
  let v2011 : BitVec 1 := Scalar.cmpi .slt v2007 c0_i32_1304
  let v2012 : BitVec 1 := Scalar.xori v2010 v2011
  let c0_i32_1302 : BitVec 32 := 0#32
  let v2009 : BitVec 1 := Scalar.cmpi .ne v2008 c0_i32_1302
  let v2013 : BitVec 1 := Scalar.andi v2012 v2009
  let v2014 : BitVec 32 := Scalar.addi v2008 v2007
  let v2015 : BitVec 32 := Scalar.select v2013 v2014 v2008
  let c1_i32_2384 : BitVec 32 := 1#32
  let v3206 : BitVec 32 := Scalar.muli v2015 c1_i32_2384
  let v3207 : BitVec 32 := Scalar.addi c0_i32_2385 v3206
  v3207.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1310 : BitVec 32 := 19#32
  let v2023 : BitVec 32 := Scalar.addi v2 c19_i32_1310
  let c32_i32_1311 : BitVec 32 := 32#32
  let c0_i32_1312 : BitVec 32 := 0#32
  let v2024 : BitVec 1 := Scalar.cmpi .eq c32_i32_1311 c0_i32_1312
  let c1_i32_1313 : BitVec 32 := 1#32
  let v2025 : BitVec 32 := Scalar.select v2024 c1_i32_1313 c32_i32_1311
  let v2026 : BitVec 32 := Scalar.remsi v2023 v2025
  let c0_i32_1315 : BitVec 32 := 0#32
  let v2028 : BitVec 1 := Scalar.cmpi .slt v2026 c0_i32_1315
  let c0_i32_1316 : BitVec 32 := 0#32
  let v2029 : BitVec 1 := Scalar.cmpi .slt v2025 c0_i32_1316
  let v2030 : BitVec 1 := Scalar.xori v2028 v2029
  let c0_i32_1314 : BitVec 32 := 0#32
  let v2027 : BitVec 1 := Scalar.cmpi .ne v2026 c0_i32_1314
  let v2031 : BitVec 1 := Scalar.andi v2030 v2027
  let v2032 : BitVec 32 := Scalar.addi v2026 v2025
  let v2033 : BitVec 32 := Scalar.select v2031 v2032 v2026
  let c16_i32_1317 : BitVec 32 := 16#32
  let v2034 : BitVec 32 := Scalar.muli v2033 c16_i32_1317
  let c256_i32_1318 : BitVec 32 := 256#32
  let v2035 : BitVec 1 := Scalar.cmpi .sge v2034 c256_i32_1318
  let c16_i32_1319 : BitVec 32 := 16#32
  let v2036 : BitVec 32 := Scalar.muli v2033 c16_i32_1319
  let c384_i32_1320 : BitVec 32 := 384#32
  let v2037 : BitVec 1 := Scalar.cmpi .slt v2036 c384_i32_1320
  let v2038 : BitVec 1 := Scalar.andi v2035 v2037
  let v2039 : BitVec 32 := Scalar.extui v2038
  let c0_i32_1321 : BitVec 32 := 0#32
  let v2040 : BitVec 1 := Scalar.cmpi .ne v2039 c0_i32_1321
  v2040

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1310 : BitVec 32 := 19#32
  let v2023 : BitVec 32 := Scalar.addi v2 c19_i32_1310
  let c32_i32_1311 : BitVec 32 := 32#32
  let c0_i32_1312 : BitVec 32 := 0#32
  let v2024 : BitVec 1 := Scalar.cmpi .eq c32_i32_1311 c0_i32_1312
  let c1_i32_1313 : BitVec 32 := 1#32
  let v2025 : BitVec 32 := Scalar.select v2024 c1_i32_1313 c32_i32_1311
  let v2026 : BitVec 32 := Scalar.remsi v2023 v2025
  let c0_i32_1315 : BitVec 32 := 0#32
  let v2028 : BitVec 1 := Scalar.cmpi .slt v2026 c0_i32_1315
  let c0_i32_1316 : BitVec 32 := 0#32
  let v2029 : BitVec 1 := Scalar.cmpi .slt v2025 c0_i32_1316
  let v2030 : BitVec 1 := Scalar.xori v2028 v2029
  let c0_i32_1314 : BitVec 32 := 0#32
  let v2027 : BitVec 1 := Scalar.cmpi .ne v2026 c0_i32_1314
  let v2031 : BitVec 1 := Scalar.andi v2030 v2027
  let v2032 : BitVec 32 := Scalar.addi v2026 v2025
  let v2033 : BitVec 32 := Scalar.select v2031 v2032 v2026
  let c16_i32_2380 : BitVec 32 := 16#32
  let v3205 : BitVec 32 := Scalar.muli v2033 c16_i32_2380
  let c0_i32_2388 : BitVec 32 := 0#32
  ![v3205.toNat, 0]
def k0_dev113 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1310 : BitVec 32 := 19#32
  let v2023 : BitVec 32 := Scalar.addi v2 c19_i32_1310
  let c32_i32_1311 : BitVec 32 := 32#32
  let c0_i32_1312 : BitVec 32 := 0#32
  let v2024 : BitVec 1 := Scalar.cmpi .eq c32_i32_1311 c0_i32_1312
  let c1_i32_1313 : BitVec 32 := 1#32
  let v2025 : BitVec 32 := Scalar.select v2024 c1_i32_1313 c32_i32_1311
  let v2026 : BitVec 32 := Scalar.remsi v2023 v2025
  let c0_i32_1315 : BitVec 32 := 0#32
  let v2028 : BitVec 1 := Scalar.cmpi .slt v2026 c0_i32_1315
  let c0_i32_1316 : BitVec 32 := 0#32
  let v2029 : BitVec 1 := Scalar.cmpi .slt v2025 c0_i32_1316
  let v2030 : BitVec 1 := Scalar.xori v2028 v2029
  let c0_i32_1314 : BitVec 32 := 0#32
  let v2027 : BitVec 1 := Scalar.cmpi .ne v2026 c0_i32_1314
  let v2031 : BitVec 1 := Scalar.andi v2030 v2027
  let v2032 : BitVec 32 := Scalar.addi v2026 v2025
  let v2033 : BitVec 32 := Scalar.select v2031 v2032 v2026
  let c1_i32_2384 : BitVec 32 := 1#32
  let v3206 : BitVec 32 := Scalar.muli v2033 c1_i32_2384
  let v3207 : BitVec 32 := Scalar.addi c0_i32_2385 v3206
  v3207.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1322 : BitVec 32 := 20#32
  let v2041 : BitVec 32 := Scalar.addi v2 c20_i32_1322
  let c32_i32_1323 : BitVec 32 := 32#32
  let c0_i32_1324 : BitVec 32 := 0#32
  let v2042 : BitVec 1 := Scalar.cmpi .eq c32_i32_1323 c0_i32_1324
  let c1_i32_1325 : BitVec 32 := 1#32
  let v2043 : BitVec 32 := Scalar.select v2042 c1_i32_1325 c32_i32_1323
  let v2044 : BitVec 32 := Scalar.remsi v2041 v2043
  let c0_i32_1327 : BitVec 32 := 0#32
  let v2046 : BitVec 1 := Scalar.cmpi .slt v2044 c0_i32_1327
  let c0_i32_1328 : BitVec 32 := 0#32
  let v2047 : BitVec 1 := Scalar.cmpi .slt v2043 c0_i32_1328
  let v2048 : BitVec 1 := Scalar.xori v2046 v2047
  let c0_i32_1326 : BitVec 32 := 0#32
  let v2045 : BitVec 1 := Scalar.cmpi .ne v2044 c0_i32_1326
  let v2049 : BitVec 1 := Scalar.andi v2048 v2045
  let v2050 : BitVec 32 := Scalar.addi v2044 v2043
  let v2051 : BitVec 32 := Scalar.select v2049 v2050 v2044
  let c16_i32_1329 : BitVec 32 := 16#32
  let v2052 : BitVec 32 := Scalar.muli v2051 c16_i32_1329
  let c256_i32_1330 : BitVec 32 := 256#32
  let v2053 : BitVec 1 := Scalar.cmpi .sge v2052 c256_i32_1330
  let c16_i32_1331 : BitVec 32 := 16#32
  let v2054 : BitVec 32 := Scalar.muli v2051 c16_i32_1331
  let c384_i32_1332 : BitVec 32 := 384#32
  let v2055 : BitVec 1 := Scalar.cmpi .slt v2054 c384_i32_1332
  let v2056 : BitVec 1 := Scalar.andi v2053 v2055
  let v2057 : BitVec 32 := Scalar.extui v2056
  let c0_i32_1333 : BitVec 32 := 0#32
  let v2058 : BitVec 1 := Scalar.cmpi .ne v2057 c0_i32_1333
  v2058

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1322 : BitVec 32 := 20#32
  let v2041 : BitVec 32 := Scalar.addi v2 c20_i32_1322
  let c32_i32_1323 : BitVec 32 := 32#32
  let c0_i32_1324 : BitVec 32 := 0#32
  let v2042 : BitVec 1 := Scalar.cmpi .eq c32_i32_1323 c0_i32_1324
  let c1_i32_1325 : BitVec 32 := 1#32
  let v2043 : BitVec 32 := Scalar.select v2042 c1_i32_1325 c32_i32_1323
  let v2044 : BitVec 32 := Scalar.remsi v2041 v2043
  let c0_i32_1327 : BitVec 32 := 0#32
  let v2046 : BitVec 1 := Scalar.cmpi .slt v2044 c0_i32_1327
  let c0_i32_1328 : BitVec 32 := 0#32
  let v2047 : BitVec 1 := Scalar.cmpi .slt v2043 c0_i32_1328
  let v2048 : BitVec 1 := Scalar.xori v2046 v2047
  let c0_i32_1326 : BitVec 32 := 0#32
  let v2045 : BitVec 1 := Scalar.cmpi .ne v2044 c0_i32_1326
  let v2049 : BitVec 1 := Scalar.andi v2048 v2045
  let v2050 : BitVec 32 := Scalar.addi v2044 v2043
  let v2051 : BitVec 32 := Scalar.select v2049 v2050 v2044
  let c16_i32_2380 : BitVec 32 := 16#32
  let v3205 : BitVec 32 := Scalar.muli v2051 c16_i32_2380
  let c0_i32_2388 : BitVec 32 := 0#32
  ![v3205.toNat, 0]
def k0_dev114 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1322 : BitVec 32 := 20#32
  let v2041 : BitVec 32 := Scalar.addi v2 c20_i32_1322
  let c32_i32_1323 : BitVec 32 := 32#32
  let c0_i32_1324 : BitVec 32 := 0#32
  let v2042 : BitVec 1 := Scalar.cmpi .eq c32_i32_1323 c0_i32_1324
  let c1_i32_1325 : BitVec 32 := 1#32
  let v2043 : BitVec 32 := Scalar.select v2042 c1_i32_1325 c32_i32_1323
  let v2044 : BitVec 32 := Scalar.remsi v2041 v2043
  let c0_i32_1327 : BitVec 32 := 0#32
  let v2046 : BitVec 1 := Scalar.cmpi .slt v2044 c0_i32_1327
  let c0_i32_1328 : BitVec 32 := 0#32
  let v2047 : BitVec 1 := Scalar.cmpi .slt v2043 c0_i32_1328
  let v2048 : BitVec 1 := Scalar.xori v2046 v2047
  let c0_i32_1326 : BitVec 32 := 0#32
  let v2045 : BitVec 1 := Scalar.cmpi .ne v2044 c0_i32_1326
  let v2049 : BitVec 1 := Scalar.andi v2048 v2045
  let v2050 : BitVec 32 := Scalar.addi v2044 v2043
  let v2051 : BitVec 32 := Scalar.select v2049 v2050 v2044
  let c1_i32_2384 : BitVec 32 := 1#32
  let v3206 : BitVec 32 := Scalar.muli v2051 c1_i32_2384
  let v3207 : BitVec 32 := Scalar.addi c0_i32_2385 v3206
  v3207.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1334 : BitVec 32 := 21#32
  let v2059 : BitVec 32 := Scalar.addi v2 c21_i32_1334
  let c32_i32_1335 : BitVec 32 := 32#32
  let c0_i32_1336 : BitVec 32 := 0#32
  let v2060 : BitVec 1 := Scalar.cmpi .eq c32_i32_1335 c0_i32_1336
  let c1_i32_1337 : BitVec 32 := 1#32
  let v2061 : BitVec 32 := Scalar.select v2060 c1_i32_1337 c32_i32_1335
  let v2062 : BitVec 32 := Scalar.remsi v2059 v2061
  let c0_i32_1339 : BitVec 32 := 0#32
  let v2064 : BitVec 1 := Scalar.cmpi .slt v2062 c0_i32_1339
  let c0_i32_1340 : BitVec 32 := 0#32
  let v2065 : BitVec 1 := Scalar.cmpi .slt v2061 c0_i32_1340
  let v2066 : BitVec 1 := Scalar.xori v2064 v2065
  let c0_i32_1338 : BitVec 32 := 0#32
  let v2063 : BitVec 1 := Scalar.cmpi .ne v2062 c0_i32_1338
  let v2067 : BitVec 1 := Scalar.andi v2066 v2063
  let v2068 : BitVec 32 := Scalar.addi v2062 v2061
  let v2069 : BitVec 32 := Scalar.select v2067 v2068 v2062
  let c16_i32_1341 : BitVec 32 := 16#32
  let v2070 : BitVec 32 := Scalar.muli v2069 c16_i32_1341
  let c256_i32_1342 : BitVec 32 := 256#32
  let v2071 : BitVec 1 := Scalar.cmpi .sge v2070 c256_i32_1342
  let c16_i32_1343 : BitVec 32 := 16#32
  let v2072 : BitVec 32 := Scalar.muli v2069 c16_i32_1343
  let c384_i32_1344 : BitVec 32 := 384#32
  let v2073 : BitVec 1 := Scalar.cmpi .slt v2072 c384_i32_1344
  let v2074 : BitVec 1 := Scalar.andi v2071 v2073
  let v2075 : BitVec 32 := Scalar.extui v2074
  let c0_i32_1345 : BitVec 32 := 0#32
  let v2076 : BitVec 1 := Scalar.cmpi .ne v2075 c0_i32_1345
  v2076

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1334 : BitVec 32 := 21#32
  let v2059 : BitVec 32 := Scalar.addi v2 c21_i32_1334
  let c32_i32_1335 : BitVec 32 := 32#32
  let c0_i32_1336 : BitVec 32 := 0#32
  let v2060 : BitVec 1 := Scalar.cmpi .eq c32_i32_1335 c0_i32_1336
  let c1_i32_1337 : BitVec 32 := 1#32
  let v2061 : BitVec 32 := Scalar.select v2060 c1_i32_1337 c32_i32_1335
  let v2062 : BitVec 32 := Scalar.remsi v2059 v2061
  let c0_i32_1339 : BitVec 32 := 0#32
  let v2064 : BitVec 1 := Scalar.cmpi .slt v2062 c0_i32_1339
  let c0_i32_1340 : BitVec 32 := 0#32
  let v2065 : BitVec 1 := Scalar.cmpi .slt v2061 c0_i32_1340
  let v2066 : BitVec 1 := Scalar.xori v2064 v2065
  let c0_i32_1338 : BitVec 32 := 0#32
  let v2063 : BitVec 1 := Scalar.cmpi .ne v2062 c0_i32_1338
  let v2067 : BitVec 1 := Scalar.andi v2066 v2063
  let v2068 : BitVec 32 := Scalar.addi v2062 v2061
  let v2069 : BitVec 32 := Scalar.select v2067 v2068 v2062
  let c16_i32_2380 : BitVec 32 := 16#32
  let v3205 : BitVec 32 := Scalar.muli v2069 c16_i32_2380
  let c0_i32_2388 : BitVec 32 := 0#32
  ![v3205.toNat, 0]
def k0_dev115 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1334 : BitVec 32 := 21#32
  let v2059 : BitVec 32 := Scalar.addi v2 c21_i32_1334
  let c32_i32_1335 : BitVec 32 := 32#32
  let c0_i32_1336 : BitVec 32 := 0#32
  let v2060 : BitVec 1 := Scalar.cmpi .eq c32_i32_1335 c0_i32_1336
  let c1_i32_1337 : BitVec 32 := 1#32
  let v2061 : BitVec 32 := Scalar.select v2060 c1_i32_1337 c32_i32_1335
  let v2062 : BitVec 32 := Scalar.remsi v2059 v2061
  let c0_i32_1339 : BitVec 32 := 0#32
  let v2064 : BitVec 1 := Scalar.cmpi .slt v2062 c0_i32_1339
  let c0_i32_1340 : BitVec 32 := 0#32
  let v2065 : BitVec 1 := Scalar.cmpi .slt v2061 c0_i32_1340
  let v2066 : BitVec 1 := Scalar.xori v2064 v2065
  let c0_i32_1338 : BitVec 32 := 0#32
  let v2063 : BitVec 1 := Scalar.cmpi .ne v2062 c0_i32_1338
  let v2067 : BitVec 1 := Scalar.andi v2066 v2063
  let v2068 : BitVec 32 := Scalar.addi v2062 v2061
  let v2069 : BitVec 32 := Scalar.select v2067 v2068 v2062
  let c1_i32_2384 : BitVec 32 := 1#32
  let v3206 : BitVec 32 := Scalar.muli v2069 c1_i32_2384
  let v3207 : BitVec 32 := Scalar.addi c0_i32_2385 v3206
  v3207.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1346 : BitVec 32 := 22#32
  let v2077 : BitVec 32 := Scalar.addi v2 c22_i32_1346
  let c32_i32_1347 : BitVec 32 := 32#32
  let c0_i32_1348 : BitVec 32 := 0#32
  let v2078 : BitVec 1 := Scalar.cmpi .eq c32_i32_1347 c0_i32_1348
  let c1_i32_1349 : BitVec 32 := 1#32
  let v2079 : BitVec 32 := Scalar.select v2078 c1_i32_1349 c32_i32_1347
  let v2080 : BitVec 32 := Scalar.remsi v2077 v2079
  let c0_i32_1351 : BitVec 32 := 0#32
  let v2082 : BitVec 1 := Scalar.cmpi .slt v2080 c0_i32_1351
  let c0_i32_1352 : BitVec 32 := 0#32
  let v2083 : BitVec 1 := Scalar.cmpi .slt v2079 c0_i32_1352
  let v2084 : BitVec 1 := Scalar.xori v2082 v2083
  let c0_i32_1350 : BitVec 32 := 0#32
  let v2081 : BitVec 1 := Scalar.cmpi .ne v2080 c0_i32_1350
  let v2085 : BitVec 1 := Scalar.andi v2084 v2081
  let v2086 : BitVec 32 := Scalar.addi v2080 v2079
  let v2087 : BitVec 32 := Scalar.select v2085 v2086 v2080
  let c16_i32_1353 : BitVec 32 := 16#32
  let v2088 : BitVec 32 := Scalar.muli v2087 c16_i32_1353
  let c256_i32_1354 : BitVec 32 := 256#32
  let v2089 : BitVec 1 := Scalar.cmpi .sge v2088 c256_i32_1354
  let c16_i32_1355 : BitVec 32 := 16#32
  let v2090 : BitVec 32 := Scalar.muli v2087 c16_i32_1355
  let c384_i32_1356 : BitVec 32 := 384#32
  let v2091 : BitVec 1 := Scalar.cmpi .slt v2090 c384_i32_1356
  let v2092 : BitVec 1 := Scalar.andi v2089 v2091
  let v2093 : BitVec 32 := Scalar.extui v2092
  let c0_i32_1357 : BitVec 32 := 0#32
  let v2094 : BitVec 1 := Scalar.cmpi .ne v2093 c0_i32_1357
  v2094

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1346 : BitVec 32 := 22#32
  let v2077 : BitVec 32 := Scalar.addi v2 c22_i32_1346
  let c32_i32_1347 : BitVec 32 := 32#32
  let c0_i32_1348 : BitVec 32 := 0#32
  let v2078 : BitVec 1 := Scalar.cmpi .eq c32_i32_1347 c0_i32_1348
  let c1_i32_1349 : BitVec 32 := 1#32
  let v2079 : BitVec 32 := Scalar.select v2078 c1_i32_1349 c32_i32_1347
  let v2080 : BitVec 32 := Scalar.remsi v2077 v2079
  let c0_i32_1351 : BitVec 32 := 0#32
  let v2082 : BitVec 1 := Scalar.cmpi .slt v2080 c0_i32_1351
  let c0_i32_1352 : BitVec 32 := 0#32
  let v2083 : BitVec 1 := Scalar.cmpi .slt v2079 c0_i32_1352
  let v2084 : BitVec 1 := Scalar.xori v2082 v2083
  let c0_i32_1350 : BitVec 32 := 0#32
  let v2081 : BitVec 1 := Scalar.cmpi .ne v2080 c0_i32_1350
  let v2085 : BitVec 1 := Scalar.andi v2084 v2081
  let v2086 : BitVec 32 := Scalar.addi v2080 v2079
  let v2087 : BitVec 32 := Scalar.select v2085 v2086 v2080
  let c16_i32_2380 : BitVec 32 := 16#32
  let v3205 : BitVec 32 := Scalar.muli v2087 c16_i32_2380
  let c0_i32_2388 : BitVec 32 := 0#32
  ![v3205.toNat, 0]
def k0_dev116 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1346 : BitVec 32 := 22#32
  let v2077 : BitVec 32 := Scalar.addi v2 c22_i32_1346
  let c32_i32_1347 : BitVec 32 := 32#32
  let c0_i32_1348 : BitVec 32 := 0#32
  let v2078 : BitVec 1 := Scalar.cmpi .eq c32_i32_1347 c0_i32_1348
  let c1_i32_1349 : BitVec 32 := 1#32
  let v2079 : BitVec 32 := Scalar.select v2078 c1_i32_1349 c32_i32_1347
  let v2080 : BitVec 32 := Scalar.remsi v2077 v2079
  let c0_i32_1351 : BitVec 32 := 0#32
  let v2082 : BitVec 1 := Scalar.cmpi .slt v2080 c0_i32_1351
  let c0_i32_1352 : BitVec 32 := 0#32
  let v2083 : BitVec 1 := Scalar.cmpi .slt v2079 c0_i32_1352
  let v2084 : BitVec 1 := Scalar.xori v2082 v2083
  let c0_i32_1350 : BitVec 32 := 0#32
  let v2081 : BitVec 1 := Scalar.cmpi .ne v2080 c0_i32_1350
  let v2085 : BitVec 1 := Scalar.andi v2084 v2081
  let v2086 : BitVec 32 := Scalar.addi v2080 v2079
  let v2087 : BitVec 32 := Scalar.select v2085 v2086 v2080
  let c1_i32_2384 : BitVec 32 := 1#32
  let v3206 : BitVec 32 := Scalar.muli v2087 c1_i32_2384
  let v3207 : BitVec 32 := Scalar.addi c0_i32_2385 v3206
  v3207.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1358 : BitVec 32 := 23#32
  let v2095 : BitVec 32 := Scalar.addi v2 c23_i32_1358
  let c32_i32_1359 : BitVec 32 := 32#32
  let c0_i32_1360 : BitVec 32 := 0#32
  let v2096 : BitVec 1 := Scalar.cmpi .eq c32_i32_1359 c0_i32_1360
  let c1_i32_1361 : BitVec 32 := 1#32
  let v2097 : BitVec 32 := Scalar.select v2096 c1_i32_1361 c32_i32_1359
  let v2098 : BitVec 32 := Scalar.remsi v2095 v2097
  let c0_i32_1363 : BitVec 32 := 0#32
  let v2100 : BitVec 1 := Scalar.cmpi .slt v2098 c0_i32_1363
  let c0_i32_1364 : BitVec 32 := 0#32
  let v2101 : BitVec 1 := Scalar.cmpi .slt v2097 c0_i32_1364
  let v2102 : BitVec 1 := Scalar.xori v2100 v2101
  let c0_i32_1362 : BitVec 32 := 0#32
  let v2099 : BitVec 1 := Scalar.cmpi .ne v2098 c0_i32_1362
  let v2103 : BitVec 1 := Scalar.andi v2102 v2099
  let v2104 : BitVec 32 := Scalar.addi v2098 v2097
  let v2105 : BitVec 32 := Scalar.select v2103 v2104 v2098
  let c16_i32_1365 : BitVec 32 := 16#32
  let v2106 : BitVec 32 := Scalar.muli v2105 c16_i32_1365
  let c256_i32_1366 : BitVec 32 := 256#32
  let v2107 : BitVec 1 := Scalar.cmpi .sge v2106 c256_i32_1366
  let c16_i32_1367 : BitVec 32 := 16#32
  let v2108 : BitVec 32 := Scalar.muli v2105 c16_i32_1367
  let c384_i32_1368 : BitVec 32 := 384#32
  let v2109 : BitVec 1 := Scalar.cmpi .slt v2108 c384_i32_1368
  let v2110 : BitVec 1 := Scalar.andi v2107 v2109
  let v2111 : BitVec 32 := Scalar.extui v2110
  let c0_i32_1369 : BitVec 32 := 0#32
  let v2112 : BitVec 1 := Scalar.cmpi .ne v2111 c0_i32_1369
  v2112

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1358 : BitVec 32 := 23#32
  let v2095 : BitVec 32 := Scalar.addi v2 c23_i32_1358
  let c32_i32_1359 : BitVec 32 := 32#32
  let c0_i32_1360 : BitVec 32 := 0#32
  let v2096 : BitVec 1 := Scalar.cmpi .eq c32_i32_1359 c0_i32_1360
  let c1_i32_1361 : BitVec 32 := 1#32
  let v2097 : BitVec 32 := Scalar.select v2096 c1_i32_1361 c32_i32_1359
  let v2098 : BitVec 32 := Scalar.remsi v2095 v2097
  let c0_i32_1363 : BitVec 32 := 0#32
  let v2100 : BitVec 1 := Scalar.cmpi .slt v2098 c0_i32_1363
  let c0_i32_1364 : BitVec 32 := 0#32
  let v2101 : BitVec 1 := Scalar.cmpi .slt v2097 c0_i32_1364
  let v2102 : BitVec 1 := Scalar.xori v2100 v2101
  let c0_i32_1362 : BitVec 32 := 0#32
  let v2099 : BitVec 1 := Scalar.cmpi .ne v2098 c0_i32_1362
  let v2103 : BitVec 1 := Scalar.andi v2102 v2099
  let v2104 : BitVec 32 := Scalar.addi v2098 v2097
  let v2105 : BitVec 32 := Scalar.select v2103 v2104 v2098
  let c16_i32_2380 : BitVec 32 := 16#32
  let v3205 : BitVec 32 := Scalar.muli v2105 c16_i32_2380
  let c0_i32_2388 : BitVec 32 := 0#32
  ![v3205.toNat, 0]
def k0_dev117 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1358 : BitVec 32 := 23#32
  let v2095 : BitVec 32 := Scalar.addi v2 c23_i32_1358
  let c32_i32_1359 : BitVec 32 := 32#32
  let c0_i32_1360 : BitVec 32 := 0#32
  let v2096 : BitVec 1 := Scalar.cmpi .eq c32_i32_1359 c0_i32_1360
  let c1_i32_1361 : BitVec 32 := 1#32
  let v2097 : BitVec 32 := Scalar.select v2096 c1_i32_1361 c32_i32_1359
  let v2098 : BitVec 32 := Scalar.remsi v2095 v2097
  let c0_i32_1363 : BitVec 32 := 0#32
  let v2100 : BitVec 1 := Scalar.cmpi .slt v2098 c0_i32_1363
  let c0_i32_1364 : BitVec 32 := 0#32
  let v2101 : BitVec 1 := Scalar.cmpi .slt v2097 c0_i32_1364
  let v2102 : BitVec 1 := Scalar.xori v2100 v2101
  let c0_i32_1362 : BitVec 32 := 0#32
  let v2099 : BitVec 1 := Scalar.cmpi .ne v2098 c0_i32_1362
  let v2103 : BitVec 1 := Scalar.andi v2102 v2099
  let v2104 : BitVec 32 := Scalar.addi v2098 v2097
  let v2105 : BitVec 32 := Scalar.select v2103 v2104 v2098
  let c1_i32_2384 : BitVec 32 := 1#32
  let v3206 : BitVec 32 := Scalar.muli v2105 c1_i32_2384
  let v3207 : BitVec 32 := Scalar.addi c0_i32_2385 v3206
  v3207.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1370 : BitVec 32 := 24#32
  let v2113 : BitVec 32 := Scalar.addi v2 c24_i32_1370
  let c32_i32_1371 : BitVec 32 := 32#32
  let c0_i32_1372 : BitVec 32 := 0#32
  let v2114 : BitVec 1 := Scalar.cmpi .eq c32_i32_1371 c0_i32_1372
  let c1_i32_1373 : BitVec 32 := 1#32
  let v2115 : BitVec 32 := Scalar.select v2114 c1_i32_1373 c32_i32_1371
  let v2116 : BitVec 32 := Scalar.remsi v2113 v2115
  let c0_i32_1375 : BitVec 32 := 0#32
  let v2118 : BitVec 1 := Scalar.cmpi .slt v2116 c0_i32_1375
  let c0_i32_1376 : BitVec 32 := 0#32
  let v2119 : BitVec 1 := Scalar.cmpi .slt v2115 c0_i32_1376
  let v2120 : BitVec 1 := Scalar.xori v2118 v2119
  let c0_i32_1374 : BitVec 32 := 0#32
  let v2117 : BitVec 1 := Scalar.cmpi .ne v2116 c0_i32_1374
  let v2121 : BitVec 1 := Scalar.andi v2120 v2117
  let v2122 : BitVec 32 := Scalar.addi v2116 v2115
  let v2123 : BitVec 32 := Scalar.select v2121 v2122 v2116
  let c16_i32_1377 : BitVec 32 := 16#32
  let v2124 : BitVec 32 := Scalar.muli v2123 c16_i32_1377
  let c256_i32_1378 : BitVec 32 := 256#32
  let v2125 : BitVec 1 := Scalar.cmpi .sge v2124 c256_i32_1378
  let c16_i32_1379 : BitVec 32 := 16#32
  let v2126 : BitVec 32 := Scalar.muli v2123 c16_i32_1379
  let c384_i32_1380 : BitVec 32 := 384#32
  let v2127 : BitVec 1 := Scalar.cmpi .slt v2126 c384_i32_1380
  let v2128 : BitVec 1 := Scalar.andi v2125 v2127
  let v2129 : BitVec 32 := Scalar.extui v2128
  let c0_i32_1381 : BitVec 32 := 0#32
  let v2130 : BitVec 1 := Scalar.cmpi .ne v2129 c0_i32_1381
  v2130

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1370 : BitVec 32 := 24#32
  let v2113 : BitVec 32 := Scalar.addi v2 c24_i32_1370
  let c32_i32_1371 : BitVec 32 := 32#32
  let c0_i32_1372 : BitVec 32 := 0#32
  let v2114 : BitVec 1 := Scalar.cmpi .eq c32_i32_1371 c0_i32_1372
  let c1_i32_1373 : BitVec 32 := 1#32
  let v2115 : BitVec 32 := Scalar.select v2114 c1_i32_1373 c32_i32_1371
  let v2116 : BitVec 32 := Scalar.remsi v2113 v2115
  let c0_i32_1375 : BitVec 32 := 0#32
  let v2118 : BitVec 1 := Scalar.cmpi .slt v2116 c0_i32_1375
  let c0_i32_1376 : BitVec 32 := 0#32
  let v2119 : BitVec 1 := Scalar.cmpi .slt v2115 c0_i32_1376
  let v2120 : BitVec 1 := Scalar.xori v2118 v2119
  let c0_i32_1374 : BitVec 32 := 0#32
  let v2117 : BitVec 1 := Scalar.cmpi .ne v2116 c0_i32_1374
  let v2121 : BitVec 1 := Scalar.andi v2120 v2117
  let v2122 : BitVec 32 := Scalar.addi v2116 v2115
  let v2123 : BitVec 32 := Scalar.select v2121 v2122 v2116
  let c16_i32_2380 : BitVec 32 := 16#32
  let v3205 : BitVec 32 := Scalar.muli v2123 c16_i32_2380
  let c0_i32_2388 : BitVec 32 := 0#32
  ![v3205.toNat, 0]
def k0_dev118 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1370 : BitVec 32 := 24#32
  let v2113 : BitVec 32 := Scalar.addi v2 c24_i32_1370
  let c32_i32_1371 : BitVec 32 := 32#32
  let c0_i32_1372 : BitVec 32 := 0#32
  let v2114 : BitVec 1 := Scalar.cmpi .eq c32_i32_1371 c0_i32_1372
  let c1_i32_1373 : BitVec 32 := 1#32
  let v2115 : BitVec 32 := Scalar.select v2114 c1_i32_1373 c32_i32_1371
  let v2116 : BitVec 32 := Scalar.remsi v2113 v2115
  let c0_i32_1375 : BitVec 32 := 0#32
  let v2118 : BitVec 1 := Scalar.cmpi .slt v2116 c0_i32_1375
  let c0_i32_1376 : BitVec 32 := 0#32
  let v2119 : BitVec 1 := Scalar.cmpi .slt v2115 c0_i32_1376
  let v2120 : BitVec 1 := Scalar.xori v2118 v2119
  let c0_i32_1374 : BitVec 32 := 0#32
  let v2117 : BitVec 1 := Scalar.cmpi .ne v2116 c0_i32_1374
  let v2121 : BitVec 1 := Scalar.andi v2120 v2117
  let v2122 : BitVec 32 := Scalar.addi v2116 v2115
  let v2123 : BitVec 32 := Scalar.select v2121 v2122 v2116
  let c1_i32_2384 : BitVec 32 := 1#32
  let v3206 : BitVec 32 := Scalar.muli v2123 c1_i32_2384
  let v3207 : BitVec 32 := Scalar.addi c0_i32_2385 v3206
  v3207.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1382 : BitVec 32 := 25#32
  let v2131 : BitVec 32 := Scalar.addi v2 c25_i32_1382
  let c32_i32_1383 : BitVec 32 := 32#32
  let c0_i32_1384 : BitVec 32 := 0#32
  let v2132 : BitVec 1 := Scalar.cmpi .eq c32_i32_1383 c0_i32_1384
  let c1_i32_1385 : BitVec 32 := 1#32
  let v2133 : BitVec 32 := Scalar.select v2132 c1_i32_1385 c32_i32_1383
  let v2134 : BitVec 32 := Scalar.remsi v2131 v2133
  let c0_i32_1387 : BitVec 32 := 0#32
  let v2136 : BitVec 1 := Scalar.cmpi .slt v2134 c0_i32_1387
  let c0_i32_1388 : BitVec 32 := 0#32
  let v2137 : BitVec 1 := Scalar.cmpi .slt v2133 c0_i32_1388
  let v2138 : BitVec 1 := Scalar.xori v2136 v2137
  let c0_i32_1386 : BitVec 32 := 0#32
  let v2135 : BitVec 1 := Scalar.cmpi .ne v2134 c0_i32_1386
  let v2139 : BitVec 1 := Scalar.andi v2138 v2135
  let v2140 : BitVec 32 := Scalar.addi v2134 v2133
  let v2141 : BitVec 32 := Scalar.select v2139 v2140 v2134
  let c16_i32_1389 : BitVec 32 := 16#32
  let v2142 : BitVec 32 := Scalar.muli v2141 c16_i32_1389
  let c256_i32_1390 : BitVec 32 := 256#32
  let v2143 : BitVec 1 := Scalar.cmpi .sge v2142 c256_i32_1390
  let c16_i32_1391 : BitVec 32 := 16#32
  let v2144 : BitVec 32 := Scalar.muli v2141 c16_i32_1391
  let c384_i32_1392 : BitVec 32 := 384#32
  let v2145 : BitVec 1 := Scalar.cmpi .slt v2144 c384_i32_1392
  let v2146 : BitVec 1 := Scalar.andi v2143 v2145
  let v2147 : BitVec 32 := Scalar.extui v2146
  let c0_i32_1393 : BitVec 32 := 0#32
  let v2148 : BitVec 1 := Scalar.cmpi .ne v2147 c0_i32_1393
  v2148

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1382 : BitVec 32 := 25#32
  let v2131 : BitVec 32 := Scalar.addi v2 c25_i32_1382
  let c32_i32_1383 : BitVec 32 := 32#32
  let c0_i32_1384 : BitVec 32 := 0#32
  let v2132 : BitVec 1 := Scalar.cmpi .eq c32_i32_1383 c0_i32_1384
  let c1_i32_1385 : BitVec 32 := 1#32
  let v2133 : BitVec 32 := Scalar.select v2132 c1_i32_1385 c32_i32_1383
  let v2134 : BitVec 32 := Scalar.remsi v2131 v2133
  let c0_i32_1387 : BitVec 32 := 0#32
  let v2136 : BitVec 1 := Scalar.cmpi .slt v2134 c0_i32_1387
  let c0_i32_1388 : BitVec 32 := 0#32
  let v2137 : BitVec 1 := Scalar.cmpi .slt v2133 c0_i32_1388
  let v2138 : BitVec 1 := Scalar.xori v2136 v2137
  let c0_i32_1386 : BitVec 32 := 0#32
  let v2135 : BitVec 1 := Scalar.cmpi .ne v2134 c0_i32_1386
  let v2139 : BitVec 1 := Scalar.andi v2138 v2135
  let v2140 : BitVec 32 := Scalar.addi v2134 v2133
  let v2141 : BitVec 32 := Scalar.select v2139 v2140 v2134
  let c16_i32_2380 : BitVec 32 := 16#32
  let v3205 : BitVec 32 := Scalar.muli v2141 c16_i32_2380
  let c0_i32_2388 : BitVec 32 := 0#32
  ![v3205.toNat, 0]
def k0_dev119 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1382 : BitVec 32 := 25#32
  let v2131 : BitVec 32 := Scalar.addi v2 c25_i32_1382
  let c32_i32_1383 : BitVec 32 := 32#32
  let c0_i32_1384 : BitVec 32 := 0#32
  let v2132 : BitVec 1 := Scalar.cmpi .eq c32_i32_1383 c0_i32_1384
  let c1_i32_1385 : BitVec 32 := 1#32
  let v2133 : BitVec 32 := Scalar.select v2132 c1_i32_1385 c32_i32_1383
  let v2134 : BitVec 32 := Scalar.remsi v2131 v2133
  let c0_i32_1387 : BitVec 32 := 0#32
  let v2136 : BitVec 1 := Scalar.cmpi .slt v2134 c0_i32_1387
  let c0_i32_1388 : BitVec 32 := 0#32
  let v2137 : BitVec 1 := Scalar.cmpi .slt v2133 c0_i32_1388
  let v2138 : BitVec 1 := Scalar.xori v2136 v2137
  let c0_i32_1386 : BitVec 32 := 0#32
  let v2135 : BitVec 1 := Scalar.cmpi .ne v2134 c0_i32_1386
  let v2139 : BitVec 1 := Scalar.andi v2138 v2135
  let v2140 : BitVec 32 := Scalar.addi v2134 v2133
  let v2141 : BitVec 32 := Scalar.select v2139 v2140 v2134
  let c1_i32_2384 : BitVec 32 := 1#32
  let v3206 : BitVec 32 := Scalar.muli v2141 c1_i32_2384
  let v3207 : BitVec 32 := Scalar.addi c0_i32_2385 v3206
  v3207.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1394 : BitVec 32 := 26#32
  let v2149 : BitVec 32 := Scalar.addi v2 c26_i32_1394
  let c32_i32_1395 : BitVec 32 := 32#32
  let c0_i32_1396 : BitVec 32 := 0#32
  let v2150 : BitVec 1 := Scalar.cmpi .eq c32_i32_1395 c0_i32_1396
  let c1_i32_1397 : BitVec 32 := 1#32
  let v2151 : BitVec 32 := Scalar.select v2150 c1_i32_1397 c32_i32_1395
  let v2152 : BitVec 32 := Scalar.remsi v2149 v2151
  let c0_i32_1399 : BitVec 32 := 0#32
  let v2154 : BitVec 1 := Scalar.cmpi .slt v2152 c0_i32_1399
  let c0_i32_1400 : BitVec 32 := 0#32
  let v2155 : BitVec 1 := Scalar.cmpi .slt v2151 c0_i32_1400
  let v2156 : BitVec 1 := Scalar.xori v2154 v2155
  let c0_i32_1398 : BitVec 32 := 0#32
  let v2153 : BitVec 1 := Scalar.cmpi .ne v2152 c0_i32_1398
  let v2157 : BitVec 1 := Scalar.andi v2156 v2153
  let v2158 : BitVec 32 := Scalar.addi v2152 v2151
  let v2159 : BitVec 32 := Scalar.select v2157 v2158 v2152
  let c16_i32_1401 : BitVec 32 := 16#32
  let v2160 : BitVec 32 := Scalar.muli v2159 c16_i32_1401
  let c256_i32_1402 : BitVec 32 := 256#32
  let v2161 : BitVec 1 := Scalar.cmpi .sge v2160 c256_i32_1402
  let c16_i32_1403 : BitVec 32 := 16#32
  let v2162 : BitVec 32 := Scalar.muli v2159 c16_i32_1403
  let c384_i32_1404 : BitVec 32 := 384#32
  let v2163 : BitVec 1 := Scalar.cmpi .slt v2162 c384_i32_1404
  let v2164 : BitVec 1 := Scalar.andi v2161 v2163
  let v2165 : BitVec 32 := Scalar.extui v2164
  let c0_i32_1405 : BitVec 32 := 0#32
  let v2166 : BitVec 1 := Scalar.cmpi .ne v2165 c0_i32_1405
  v2166

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1394 : BitVec 32 := 26#32
  let v2149 : BitVec 32 := Scalar.addi v2 c26_i32_1394
  let c32_i32_1395 : BitVec 32 := 32#32
  let c0_i32_1396 : BitVec 32 := 0#32
  let v2150 : BitVec 1 := Scalar.cmpi .eq c32_i32_1395 c0_i32_1396
  let c1_i32_1397 : BitVec 32 := 1#32
  let v2151 : BitVec 32 := Scalar.select v2150 c1_i32_1397 c32_i32_1395
  let v2152 : BitVec 32 := Scalar.remsi v2149 v2151
  let c0_i32_1399 : BitVec 32 := 0#32
  let v2154 : BitVec 1 := Scalar.cmpi .slt v2152 c0_i32_1399
  let c0_i32_1400 : BitVec 32 := 0#32
  let v2155 : BitVec 1 := Scalar.cmpi .slt v2151 c0_i32_1400
  let v2156 : BitVec 1 := Scalar.xori v2154 v2155
  let c0_i32_1398 : BitVec 32 := 0#32
  let v2153 : BitVec 1 := Scalar.cmpi .ne v2152 c0_i32_1398
  let v2157 : BitVec 1 := Scalar.andi v2156 v2153
  let v2158 : BitVec 32 := Scalar.addi v2152 v2151
  let v2159 : BitVec 32 := Scalar.select v2157 v2158 v2152
  let c16_i32_2380 : BitVec 32 := 16#32
  let v3205 : BitVec 32 := Scalar.muli v2159 c16_i32_2380
  let c0_i32_2388 : BitVec 32 := 0#32
  ![v3205.toNat, 0]
def k0_dev120 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1394 : BitVec 32 := 26#32
  let v2149 : BitVec 32 := Scalar.addi v2 c26_i32_1394
  let c32_i32_1395 : BitVec 32 := 32#32
  let c0_i32_1396 : BitVec 32 := 0#32
  let v2150 : BitVec 1 := Scalar.cmpi .eq c32_i32_1395 c0_i32_1396
  let c1_i32_1397 : BitVec 32 := 1#32
  let v2151 : BitVec 32 := Scalar.select v2150 c1_i32_1397 c32_i32_1395
  let v2152 : BitVec 32 := Scalar.remsi v2149 v2151
  let c0_i32_1399 : BitVec 32 := 0#32
  let v2154 : BitVec 1 := Scalar.cmpi .slt v2152 c0_i32_1399
  let c0_i32_1400 : BitVec 32 := 0#32
  let v2155 : BitVec 1 := Scalar.cmpi .slt v2151 c0_i32_1400
  let v2156 : BitVec 1 := Scalar.xori v2154 v2155
  let c0_i32_1398 : BitVec 32 := 0#32
  let v2153 : BitVec 1 := Scalar.cmpi .ne v2152 c0_i32_1398
  let v2157 : BitVec 1 := Scalar.andi v2156 v2153
  let v2158 : BitVec 32 := Scalar.addi v2152 v2151
  let v2159 : BitVec 32 := Scalar.select v2157 v2158 v2152
  let c1_i32_2384 : BitVec 32 := 1#32
  let v3206 : BitVec 32 := Scalar.muli v2159 c1_i32_2384
  let v3207 : BitVec 32 := Scalar.addi c0_i32_2385 v3206
  v3207.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1406 : BitVec 32 := 27#32
  let v2167 : BitVec 32 := Scalar.addi v2 c27_i32_1406
  let c32_i32_1407 : BitVec 32 := 32#32
  let c0_i32_1408 : BitVec 32 := 0#32
  let v2168 : BitVec 1 := Scalar.cmpi .eq c32_i32_1407 c0_i32_1408
  let c1_i32_1409 : BitVec 32 := 1#32
  let v2169 : BitVec 32 := Scalar.select v2168 c1_i32_1409 c32_i32_1407
  let v2170 : BitVec 32 := Scalar.remsi v2167 v2169
  let c0_i32_1411 : BitVec 32 := 0#32
  let v2172 : BitVec 1 := Scalar.cmpi .slt v2170 c0_i32_1411
  let c0_i32_1412 : BitVec 32 := 0#32
  let v2173 : BitVec 1 := Scalar.cmpi .slt v2169 c0_i32_1412
  let v2174 : BitVec 1 := Scalar.xori v2172 v2173
  let c0_i32_1410 : BitVec 32 := 0#32
  let v2171 : BitVec 1 := Scalar.cmpi .ne v2170 c0_i32_1410
  let v2175 : BitVec 1 := Scalar.andi v2174 v2171
  let v2176 : BitVec 32 := Scalar.addi v2170 v2169
  let v2177 : BitVec 32 := Scalar.select v2175 v2176 v2170
  let c16_i32_1413 : BitVec 32 := 16#32
  let v2178 : BitVec 32 := Scalar.muli v2177 c16_i32_1413
  let c256_i32_1414 : BitVec 32 := 256#32
  let v2179 : BitVec 1 := Scalar.cmpi .sge v2178 c256_i32_1414
  let c16_i32_1415 : BitVec 32 := 16#32
  let v2180 : BitVec 32 := Scalar.muli v2177 c16_i32_1415
  let c384_i32_1416 : BitVec 32 := 384#32
  let v2181 : BitVec 1 := Scalar.cmpi .slt v2180 c384_i32_1416
  let v2182 : BitVec 1 := Scalar.andi v2179 v2181
  let v2183 : BitVec 32 := Scalar.extui v2182
  let c0_i32_1417 : BitVec 32 := 0#32
  let v2184 : BitVec 1 := Scalar.cmpi .ne v2183 c0_i32_1417
  v2184

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1406 : BitVec 32 := 27#32
  let v2167 : BitVec 32 := Scalar.addi v2 c27_i32_1406
  let c32_i32_1407 : BitVec 32 := 32#32
  let c0_i32_1408 : BitVec 32 := 0#32
  let v2168 : BitVec 1 := Scalar.cmpi .eq c32_i32_1407 c0_i32_1408
  let c1_i32_1409 : BitVec 32 := 1#32
  let v2169 : BitVec 32 := Scalar.select v2168 c1_i32_1409 c32_i32_1407
  let v2170 : BitVec 32 := Scalar.remsi v2167 v2169
  let c0_i32_1411 : BitVec 32 := 0#32
  let v2172 : BitVec 1 := Scalar.cmpi .slt v2170 c0_i32_1411
  let c0_i32_1412 : BitVec 32 := 0#32
  let v2173 : BitVec 1 := Scalar.cmpi .slt v2169 c0_i32_1412
  let v2174 : BitVec 1 := Scalar.xori v2172 v2173
  let c0_i32_1410 : BitVec 32 := 0#32
  let v2171 : BitVec 1 := Scalar.cmpi .ne v2170 c0_i32_1410
  let v2175 : BitVec 1 := Scalar.andi v2174 v2171
  let v2176 : BitVec 32 := Scalar.addi v2170 v2169
  let v2177 : BitVec 32 := Scalar.select v2175 v2176 v2170
  let c16_i32_2380 : BitVec 32 := 16#32
  let v3205 : BitVec 32 := Scalar.muli v2177 c16_i32_2380
  let c0_i32_2388 : BitVec 32 := 0#32
  ![v3205.toNat, 0]
def k0_dev121 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1406 : BitVec 32 := 27#32
  let v2167 : BitVec 32 := Scalar.addi v2 c27_i32_1406
  let c32_i32_1407 : BitVec 32 := 32#32
  let c0_i32_1408 : BitVec 32 := 0#32
  let v2168 : BitVec 1 := Scalar.cmpi .eq c32_i32_1407 c0_i32_1408
  let c1_i32_1409 : BitVec 32 := 1#32
  let v2169 : BitVec 32 := Scalar.select v2168 c1_i32_1409 c32_i32_1407
  let v2170 : BitVec 32 := Scalar.remsi v2167 v2169
  let c0_i32_1411 : BitVec 32 := 0#32
  let v2172 : BitVec 1 := Scalar.cmpi .slt v2170 c0_i32_1411
  let c0_i32_1412 : BitVec 32 := 0#32
  let v2173 : BitVec 1 := Scalar.cmpi .slt v2169 c0_i32_1412
  let v2174 : BitVec 1 := Scalar.xori v2172 v2173
  let c0_i32_1410 : BitVec 32 := 0#32
  let v2171 : BitVec 1 := Scalar.cmpi .ne v2170 c0_i32_1410
  let v2175 : BitVec 1 := Scalar.andi v2174 v2171
  let v2176 : BitVec 32 := Scalar.addi v2170 v2169
  let v2177 : BitVec 32 := Scalar.select v2175 v2176 v2170
  let c1_i32_2384 : BitVec 32 := 1#32
  let v3206 : BitVec 32 := Scalar.muli v2177 c1_i32_2384
  let v3207 : BitVec 32 := Scalar.addi c0_i32_2385 v3206
  v3207.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1418 : BitVec 32 := 28#32
  let v2185 : BitVec 32 := Scalar.addi v2 c28_i32_1418
  let c32_i32_1419 : BitVec 32 := 32#32
  let c0_i32_1420 : BitVec 32 := 0#32
  let v2186 : BitVec 1 := Scalar.cmpi .eq c32_i32_1419 c0_i32_1420
  let c1_i32_1421 : BitVec 32 := 1#32
  let v2187 : BitVec 32 := Scalar.select v2186 c1_i32_1421 c32_i32_1419
  let v2188 : BitVec 32 := Scalar.remsi v2185 v2187
  let c0_i32_1423 : BitVec 32 := 0#32
  let v2190 : BitVec 1 := Scalar.cmpi .slt v2188 c0_i32_1423
  let c0_i32_1424 : BitVec 32 := 0#32
  let v2191 : BitVec 1 := Scalar.cmpi .slt v2187 c0_i32_1424
  let v2192 : BitVec 1 := Scalar.xori v2190 v2191
  let c0_i32_1422 : BitVec 32 := 0#32
  let v2189 : BitVec 1 := Scalar.cmpi .ne v2188 c0_i32_1422
  let v2193 : BitVec 1 := Scalar.andi v2192 v2189
  let v2194 : BitVec 32 := Scalar.addi v2188 v2187
  let v2195 : BitVec 32 := Scalar.select v2193 v2194 v2188
  let c16_i32_1425 : BitVec 32 := 16#32
  let v2196 : BitVec 32 := Scalar.muli v2195 c16_i32_1425
  let c256_i32_1426 : BitVec 32 := 256#32
  let v2197 : BitVec 1 := Scalar.cmpi .sge v2196 c256_i32_1426
  let c16_i32_1427 : BitVec 32 := 16#32
  let v2198 : BitVec 32 := Scalar.muli v2195 c16_i32_1427
  let c384_i32_1428 : BitVec 32 := 384#32
  let v2199 : BitVec 1 := Scalar.cmpi .slt v2198 c384_i32_1428
  let v2200 : BitVec 1 := Scalar.andi v2197 v2199
  let v2201 : BitVec 32 := Scalar.extui v2200
  let c0_i32_1429 : BitVec 32 := 0#32
  let v2202 : BitVec 1 := Scalar.cmpi .ne v2201 c0_i32_1429
  v2202

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1418 : BitVec 32 := 28#32
  let v2185 : BitVec 32 := Scalar.addi v2 c28_i32_1418
  let c32_i32_1419 : BitVec 32 := 32#32
  let c0_i32_1420 : BitVec 32 := 0#32
  let v2186 : BitVec 1 := Scalar.cmpi .eq c32_i32_1419 c0_i32_1420
  let c1_i32_1421 : BitVec 32 := 1#32
  let v2187 : BitVec 32 := Scalar.select v2186 c1_i32_1421 c32_i32_1419
  let v2188 : BitVec 32 := Scalar.remsi v2185 v2187
  let c0_i32_1423 : BitVec 32 := 0#32
  let v2190 : BitVec 1 := Scalar.cmpi .slt v2188 c0_i32_1423
  let c0_i32_1424 : BitVec 32 := 0#32
  let v2191 : BitVec 1 := Scalar.cmpi .slt v2187 c0_i32_1424
  let v2192 : BitVec 1 := Scalar.xori v2190 v2191
  let c0_i32_1422 : BitVec 32 := 0#32
  let v2189 : BitVec 1 := Scalar.cmpi .ne v2188 c0_i32_1422
  let v2193 : BitVec 1 := Scalar.andi v2192 v2189
  let v2194 : BitVec 32 := Scalar.addi v2188 v2187
  let v2195 : BitVec 32 := Scalar.select v2193 v2194 v2188
  let c16_i32_2380 : BitVec 32 := 16#32
  let v3205 : BitVec 32 := Scalar.muli v2195 c16_i32_2380
  let c0_i32_2388 : BitVec 32 := 0#32
  ![v3205.toNat, 0]
def k0_dev122 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1418 : BitVec 32 := 28#32
  let v2185 : BitVec 32 := Scalar.addi v2 c28_i32_1418
  let c32_i32_1419 : BitVec 32 := 32#32
  let c0_i32_1420 : BitVec 32 := 0#32
  let v2186 : BitVec 1 := Scalar.cmpi .eq c32_i32_1419 c0_i32_1420
  let c1_i32_1421 : BitVec 32 := 1#32
  let v2187 : BitVec 32 := Scalar.select v2186 c1_i32_1421 c32_i32_1419
  let v2188 : BitVec 32 := Scalar.remsi v2185 v2187
  let c0_i32_1423 : BitVec 32 := 0#32
  let v2190 : BitVec 1 := Scalar.cmpi .slt v2188 c0_i32_1423
  let c0_i32_1424 : BitVec 32 := 0#32
  let v2191 : BitVec 1 := Scalar.cmpi .slt v2187 c0_i32_1424
  let v2192 : BitVec 1 := Scalar.xori v2190 v2191
  let c0_i32_1422 : BitVec 32 := 0#32
  let v2189 : BitVec 1 := Scalar.cmpi .ne v2188 c0_i32_1422
  let v2193 : BitVec 1 := Scalar.andi v2192 v2189
  let v2194 : BitVec 32 := Scalar.addi v2188 v2187
  let v2195 : BitVec 32 := Scalar.select v2193 v2194 v2188
  let c1_i32_2384 : BitVec 32 := 1#32
  let v3206 : BitVec 32 := Scalar.muli v2195 c1_i32_2384
  let v3207 : BitVec 32 := Scalar.addi c0_i32_2385 v3206
  v3207.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1430 : BitVec 32 := 29#32
  let v2203 : BitVec 32 := Scalar.addi v2 c29_i32_1430
  let c32_i32_1431 : BitVec 32 := 32#32
  let c0_i32_1432 : BitVec 32 := 0#32
  let v2204 : BitVec 1 := Scalar.cmpi .eq c32_i32_1431 c0_i32_1432
  let c1_i32_1433 : BitVec 32 := 1#32
  let v2205 : BitVec 32 := Scalar.select v2204 c1_i32_1433 c32_i32_1431
  let v2206 : BitVec 32 := Scalar.remsi v2203 v2205
  let c0_i32_1435 : BitVec 32 := 0#32
  let v2208 : BitVec 1 := Scalar.cmpi .slt v2206 c0_i32_1435
  let c0_i32_1436 : BitVec 32 := 0#32
  let v2209 : BitVec 1 := Scalar.cmpi .slt v2205 c0_i32_1436
  let v2210 : BitVec 1 := Scalar.xori v2208 v2209
  let c0_i32_1434 : BitVec 32 := 0#32
  let v2207 : BitVec 1 := Scalar.cmpi .ne v2206 c0_i32_1434
  let v2211 : BitVec 1 := Scalar.andi v2210 v2207
  let v2212 : BitVec 32 := Scalar.addi v2206 v2205
  let v2213 : BitVec 32 := Scalar.select v2211 v2212 v2206
  let c16_i32_1437 : BitVec 32 := 16#32
  let v2214 : BitVec 32 := Scalar.muli v2213 c16_i32_1437
  let c256_i32_1438 : BitVec 32 := 256#32
  let v2215 : BitVec 1 := Scalar.cmpi .sge v2214 c256_i32_1438
  let c16_i32_1439 : BitVec 32 := 16#32
  let v2216 : BitVec 32 := Scalar.muli v2213 c16_i32_1439
  let c384_i32_1440 : BitVec 32 := 384#32
  let v2217 : BitVec 1 := Scalar.cmpi .slt v2216 c384_i32_1440
  let v2218 : BitVec 1 := Scalar.andi v2215 v2217
  let v2219 : BitVec 32 := Scalar.extui v2218
  let c0_i32_1441 : BitVec 32 := 0#32
  let v2220 : BitVec 1 := Scalar.cmpi .ne v2219 c0_i32_1441
  v2220

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1430 : BitVec 32 := 29#32
  let v2203 : BitVec 32 := Scalar.addi v2 c29_i32_1430
  let c32_i32_1431 : BitVec 32 := 32#32
  let c0_i32_1432 : BitVec 32 := 0#32
  let v2204 : BitVec 1 := Scalar.cmpi .eq c32_i32_1431 c0_i32_1432
  let c1_i32_1433 : BitVec 32 := 1#32
  let v2205 : BitVec 32 := Scalar.select v2204 c1_i32_1433 c32_i32_1431
  let v2206 : BitVec 32 := Scalar.remsi v2203 v2205
  let c0_i32_1435 : BitVec 32 := 0#32
  let v2208 : BitVec 1 := Scalar.cmpi .slt v2206 c0_i32_1435
  let c0_i32_1436 : BitVec 32 := 0#32
  let v2209 : BitVec 1 := Scalar.cmpi .slt v2205 c0_i32_1436
  let v2210 : BitVec 1 := Scalar.xori v2208 v2209
  let c0_i32_1434 : BitVec 32 := 0#32
  let v2207 : BitVec 1 := Scalar.cmpi .ne v2206 c0_i32_1434
  let v2211 : BitVec 1 := Scalar.andi v2210 v2207
  let v2212 : BitVec 32 := Scalar.addi v2206 v2205
  let v2213 : BitVec 32 := Scalar.select v2211 v2212 v2206
  let c16_i32_2380 : BitVec 32 := 16#32
  let v3205 : BitVec 32 := Scalar.muli v2213 c16_i32_2380
  let c0_i32_2388 : BitVec 32 := 0#32
  ![v3205.toNat, 0]
def k0_dev123 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1430 : BitVec 32 := 29#32
  let v2203 : BitVec 32 := Scalar.addi v2 c29_i32_1430
  let c32_i32_1431 : BitVec 32 := 32#32
  let c0_i32_1432 : BitVec 32 := 0#32
  let v2204 : BitVec 1 := Scalar.cmpi .eq c32_i32_1431 c0_i32_1432
  let c1_i32_1433 : BitVec 32 := 1#32
  let v2205 : BitVec 32 := Scalar.select v2204 c1_i32_1433 c32_i32_1431
  let v2206 : BitVec 32 := Scalar.remsi v2203 v2205
  let c0_i32_1435 : BitVec 32 := 0#32
  let v2208 : BitVec 1 := Scalar.cmpi .slt v2206 c0_i32_1435
  let c0_i32_1436 : BitVec 32 := 0#32
  let v2209 : BitVec 1 := Scalar.cmpi .slt v2205 c0_i32_1436
  let v2210 : BitVec 1 := Scalar.xori v2208 v2209
  let c0_i32_1434 : BitVec 32 := 0#32
  let v2207 : BitVec 1 := Scalar.cmpi .ne v2206 c0_i32_1434
  let v2211 : BitVec 1 := Scalar.andi v2210 v2207
  let v2212 : BitVec 32 := Scalar.addi v2206 v2205
  let v2213 : BitVec 32 := Scalar.select v2211 v2212 v2206
  let c1_i32_2384 : BitVec 32 := 1#32
  let v3206 : BitVec 32 := Scalar.muli v2213 c1_i32_2384
  let v3207 : BitVec 32 := Scalar.addi c0_i32_2385 v3206
  v3207.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1442 : BitVec 32 := 30#32
  let v2221 : BitVec 32 := Scalar.addi v2 c30_i32_1442
  let c32_i32_1443 : BitVec 32 := 32#32
  let c0_i32_1444 : BitVec 32 := 0#32
  let v2222 : BitVec 1 := Scalar.cmpi .eq c32_i32_1443 c0_i32_1444
  let c1_i32_1445 : BitVec 32 := 1#32
  let v2223 : BitVec 32 := Scalar.select v2222 c1_i32_1445 c32_i32_1443
  let v2224 : BitVec 32 := Scalar.remsi v2221 v2223
  let c0_i32_1447 : BitVec 32 := 0#32
  let v2226 : BitVec 1 := Scalar.cmpi .slt v2224 c0_i32_1447
  let c0_i32_1448 : BitVec 32 := 0#32
  let v2227 : BitVec 1 := Scalar.cmpi .slt v2223 c0_i32_1448
  let v2228 : BitVec 1 := Scalar.xori v2226 v2227
  let c0_i32_1446 : BitVec 32 := 0#32
  let v2225 : BitVec 1 := Scalar.cmpi .ne v2224 c0_i32_1446
  let v2229 : BitVec 1 := Scalar.andi v2228 v2225
  let v2230 : BitVec 32 := Scalar.addi v2224 v2223
  let v2231 : BitVec 32 := Scalar.select v2229 v2230 v2224
  let c16_i32_1449 : BitVec 32 := 16#32
  let v2232 : BitVec 32 := Scalar.muli v2231 c16_i32_1449
  let c256_i32_1450 : BitVec 32 := 256#32
  let v2233 : BitVec 1 := Scalar.cmpi .sge v2232 c256_i32_1450
  let c16_i32_1451 : BitVec 32 := 16#32
  let v2234 : BitVec 32 := Scalar.muli v2231 c16_i32_1451
  let c384_i32_1452 : BitVec 32 := 384#32
  let v2235 : BitVec 1 := Scalar.cmpi .slt v2234 c384_i32_1452
  let v2236 : BitVec 1 := Scalar.andi v2233 v2235
  let v2237 : BitVec 32 := Scalar.extui v2236
  let c0_i32_1453 : BitVec 32 := 0#32
  let v2238 : BitVec 1 := Scalar.cmpi .ne v2237 c0_i32_1453
  v2238

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1442 : BitVec 32 := 30#32
  let v2221 : BitVec 32 := Scalar.addi v2 c30_i32_1442
  let c32_i32_1443 : BitVec 32 := 32#32
  let c0_i32_1444 : BitVec 32 := 0#32
  let v2222 : BitVec 1 := Scalar.cmpi .eq c32_i32_1443 c0_i32_1444
  let c1_i32_1445 : BitVec 32 := 1#32
  let v2223 : BitVec 32 := Scalar.select v2222 c1_i32_1445 c32_i32_1443
  let v2224 : BitVec 32 := Scalar.remsi v2221 v2223
  let c0_i32_1447 : BitVec 32 := 0#32
  let v2226 : BitVec 1 := Scalar.cmpi .slt v2224 c0_i32_1447
  let c0_i32_1448 : BitVec 32 := 0#32
  let v2227 : BitVec 1 := Scalar.cmpi .slt v2223 c0_i32_1448
  let v2228 : BitVec 1 := Scalar.xori v2226 v2227
  let c0_i32_1446 : BitVec 32 := 0#32
  let v2225 : BitVec 1 := Scalar.cmpi .ne v2224 c0_i32_1446
  let v2229 : BitVec 1 := Scalar.andi v2228 v2225
  let v2230 : BitVec 32 := Scalar.addi v2224 v2223
  let v2231 : BitVec 32 := Scalar.select v2229 v2230 v2224
  let c16_i32_2380 : BitVec 32 := 16#32
  let v3205 : BitVec 32 := Scalar.muli v2231 c16_i32_2380
  let c0_i32_2388 : BitVec 32 := 0#32
  ![v3205.toNat, 0]
def k0_dev124 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1442 : BitVec 32 := 30#32
  let v2221 : BitVec 32 := Scalar.addi v2 c30_i32_1442
  let c32_i32_1443 : BitVec 32 := 32#32
  let c0_i32_1444 : BitVec 32 := 0#32
  let v2222 : BitVec 1 := Scalar.cmpi .eq c32_i32_1443 c0_i32_1444
  let c1_i32_1445 : BitVec 32 := 1#32
  let v2223 : BitVec 32 := Scalar.select v2222 c1_i32_1445 c32_i32_1443
  let v2224 : BitVec 32 := Scalar.remsi v2221 v2223
  let c0_i32_1447 : BitVec 32 := 0#32
  let v2226 : BitVec 1 := Scalar.cmpi .slt v2224 c0_i32_1447
  let c0_i32_1448 : BitVec 32 := 0#32
  let v2227 : BitVec 1 := Scalar.cmpi .slt v2223 c0_i32_1448
  let v2228 : BitVec 1 := Scalar.xori v2226 v2227
  let c0_i32_1446 : BitVec 32 := 0#32
  let v2225 : BitVec 1 := Scalar.cmpi .ne v2224 c0_i32_1446
  let v2229 : BitVec 1 := Scalar.andi v2228 v2225
  let v2230 : BitVec 32 := Scalar.addi v2224 v2223
  let v2231 : BitVec 32 := Scalar.select v2229 v2230 v2224
  let c1_i32_2384 : BitVec 32 := 1#32
  let v3206 : BitVec 32 := Scalar.muli v2231 c1_i32_2384
  let v3207 : BitVec 32 := Scalar.addi c0_i32_2385 v3206
  v3207.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1454 : BitVec 32 := 31#32
  let v2239 : BitVec 32 := Scalar.addi v2 c31_i32_1454
  let c32_i32_1455 : BitVec 32 := 32#32
  let c0_i32_1456 : BitVec 32 := 0#32
  let v2240 : BitVec 1 := Scalar.cmpi .eq c32_i32_1455 c0_i32_1456
  let c1_i32_1457 : BitVec 32 := 1#32
  let v2241 : BitVec 32 := Scalar.select v2240 c1_i32_1457 c32_i32_1455
  let v2242 : BitVec 32 := Scalar.remsi v2239 v2241
  let c0_i32_1459 : BitVec 32 := 0#32
  let v2244 : BitVec 1 := Scalar.cmpi .slt v2242 c0_i32_1459
  let c0_i32_1460 : BitVec 32 := 0#32
  let v2245 : BitVec 1 := Scalar.cmpi .slt v2241 c0_i32_1460
  let v2246 : BitVec 1 := Scalar.xori v2244 v2245
  let c0_i32_1458 : BitVec 32 := 0#32
  let v2243 : BitVec 1 := Scalar.cmpi .ne v2242 c0_i32_1458
  let v2247 : BitVec 1 := Scalar.andi v2246 v2243
  let v2248 : BitVec 32 := Scalar.addi v2242 v2241
  let v2249 : BitVec 32 := Scalar.select v2247 v2248 v2242
  let c16_i32_1461 : BitVec 32 := 16#32
  let v2250 : BitVec 32 := Scalar.muli v2249 c16_i32_1461
  let c256_i32_1462 : BitVec 32 := 256#32
  let v2251 : BitVec 1 := Scalar.cmpi .sge v2250 c256_i32_1462
  let c16_i32_1463 : BitVec 32 := 16#32
  let v2252 : BitVec 32 := Scalar.muli v2249 c16_i32_1463
  let c384_i32_1464 : BitVec 32 := 384#32
  let v2253 : BitVec 1 := Scalar.cmpi .slt v2252 c384_i32_1464
  let v2254 : BitVec 1 := Scalar.andi v2251 v2253
  let v2255 : BitVec 32 := Scalar.extui v2254
  let c0_i32_1465 : BitVec 32 := 0#32
  let v2256 : BitVec 1 := Scalar.cmpi .ne v2255 c0_i32_1465
  v2256

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1454 : BitVec 32 := 31#32
  let v2239 : BitVec 32 := Scalar.addi v2 c31_i32_1454
  let c32_i32_1455 : BitVec 32 := 32#32
  let c0_i32_1456 : BitVec 32 := 0#32
  let v2240 : BitVec 1 := Scalar.cmpi .eq c32_i32_1455 c0_i32_1456
  let c1_i32_1457 : BitVec 32 := 1#32
  let v2241 : BitVec 32 := Scalar.select v2240 c1_i32_1457 c32_i32_1455
  let v2242 : BitVec 32 := Scalar.remsi v2239 v2241
  let c0_i32_1459 : BitVec 32 := 0#32
  let v2244 : BitVec 1 := Scalar.cmpi .slt v2242 c0_i32_1459
  let c0_i32_1460 : BitVec 32 := 0#32
  let v2245 : BitVec 1 := Scalar.cmpi .slt v2241 c0_i32_1460
  let v2246 : BitVec 1 := Scalar.xori v2244 v2245
  let c0_i32_1458 : BitVec 32 := 0#32
  let v2243 : BitVec 1 := Scalar.cmpi .ne v2242 c0_i32_1458
  let v2247 : BitVec 1 := Scalar.andi v2246 v2243
  let v2248 : BitVec 32 := Scalar.addi v2242 v2241
  let v2249 : BitVec 32 := Scalar.select v2247 v2248 v2242
  let c16_i32_2380 : BitVec 32 := 16#32
  let v3205 : BitVec 32 := Scalar.muli v2249 c16_i32_2380
  let c0_i32_2388 : BitVec 32 := 0#32
  ![v3205.toNat, 0]
def k0_dev125 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1454 : BitVec 32 := 31#32
  let v2239 : BitVec 32 := Scalar.addi v2 c31_i32_1454
  let c32_i32_1455 : BitVec 32 := 32#32
  let c0_i32_1456 : BitVec 32 := 0#32
  let v2240 : BitVec 1 := Scalar.cmpi .eq c32_i32_1455 c0_i32_1456
  let c1_i32_1457 : BitVec 32 := 1#32
  let v2241 : BitVec 32 := Scalar.select v2240 c1_i32_1457 c32_i32_1455
  let v2242 : BitVec 32 := Scalar.remsi v2239 v2241
  let c0_i32_1459 : BitVec 32 := 0#32
  let v2244 : BitVec 1 := Scalar.cmpi .slt v2242 c0_i32_1459
  let c0_i32_1460 : BitVec 32 := 0#32
  let v2245 : BitVec 1 := Scalar.cmpi .slt v2241 c0_i32_1460
  let v2246 : BitVec 1 := Scalar.xori v2244 v2245
  let c0_i32_1458 : BitVec 32 := 0#32
  let v2243 : BitVec 1 := Scalar.cmpi .ne v2242 c0_i32_1458
  let v2247 : BitVec 1 := Scalar.andi v2246 v2243
  let v2248 : BitVec 32 := Scalar.addi v2242 v2241
  let v2249 : BitVec 32 := Scalar.select v2247 v2248 v2242
  let c1_i32_2384 : BitVec 32 := 1#32
  let v3206 : BitVec 32 := Scalar.muli v2249 c1_i32_2384
  let v3207 : BitVec 32 := Scalar.addi c0_i32_2385 v3206
  v3207.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1468 : BitVec 32 := 1#32
  let v2263 : BitVec 32 := Scalar.addi v2 c1_i32_1468
  let c32_i32_1469 : BitVec 32 := 32#32
  let c0_i32_1470 : BitVec 32 := 0#32
  let v2264 : BitVec 1 := Scalar.cmpi .eq c32_i32_1469 c0_i32_1470
  let c1_i32_1471 : BitVec 32 := 1#32
  let v2265 : BitVec 32 := Scalar.select v2264 c1_i32_1471 c32_i32_1469
  let v2266 : BitVec 32 := Scalar.remsi v2263 v2265
  let c0_i32_1473 : BitVec 32 := 0#32
  let v2268 : BitVec 1 := Scalar.cmpi .slt v2266 c0_i32_1473
  let c0_i32_1474 : BitVec 32 := 0#32
  let v2269 : BitVec 1 := Scalar.cmpi .slt v2265 c0_i32_1474
  let v2270 : BitVec 1 := Scalar.xori v2268 v2269
  let c0_i32_1472 : BitVec 32 := 0#32
  let v2267 : BitVec 1 := Scalar.cmpi .ne v2266 c0_i32_1472
  let v2271 : BitVec 1 := Scalar.andi v2270 v2267
  let v2272 : BitVec 32 := Scalar.addi v2266 v2265
  let v2273 : BitVec 32 := Scalar.select v2271 v2272 v2266
  let c16_i32_1475 : BitVec 32 := 16#32
  let v2274 : BitVec 32 := Scalar.muli v2273 c16_i32_1475
  let c384_i32_1476 : BitVec 32 := 384#32
  let v2275 : BitVec 1 := Scalar.cmpi .sge v2274 c384_i32_1476
  let c16_i32_1477 : BitVec 32 := 16#32
  let v2276 : BitVec 32 := Scalar.muli v2273 c16_i32_1477
  let c512_i32 : BitVec 32 := 512#32
  let v2277 : BitVec 1 := Scalar.cmpi .slt v2276 c512_i32
  let v2278 : BitVec 1 := Scalar.andi v2275 v2277
  let v2279 : BitVec 32 := Scalar.extui v2278
  let c0_i32_1478 : BitVec 32 := 0#32
  let v2280 : BitVec 1 := Scalar.cmpi .ne v2279 c0_i32_1478
  v2280

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1468 : BitVec 32 := 1#32
  let v2263 : BitVec 32 := Scalar.addi v2 c1_i32_1468
  let c32_i32_1469 : BitVec 32 := 32#32
  let c0_i32_1470 : BitVec 32 := 0#32
  let v2264 : BitVec 1 := Scalar.cmpi .eq c32_i32_1469 c0_i32_1470
  let c1_i32_1471 : BitVec 32 := 1#32
  let v2265 : BitVec 32 := Scalar.select v2264 c1_i32_1471 c32_i32_1469
  let v2266 : BitVec 32 := Scalar.remsi v2263 v2265
  let c0_i32_1473 : BitVec 32 := 0#32
  let v2268 : BitVec 1 := Scalar.cmpi .slt v2266 c0_i32_1473
  let c0_i32_1474 : BitVec 32 := 0#32
  let v2269 : BitVec 1 := Scalar.cmpi .slt v2265 c0_i32_1474
  let v2270 : BitVec 1 := Scalar.xori v2268 v2269
  let c0_i32_1472 : BitVec 32 := 0#32
  let v2267 : BitVec 1 := Scalar.cmpi .ne v2266 c0_i32_1472
  let v2271 : BitVec 1 := Scalar.andi v2270 v2267
  let v2272 : BitVec 32 := Scalar.addi v2266 v2265
  let v2273 : BitVec 32 := Scalar.select v2271 v2272 v2266
  let c16_i32_2380 : BitVec 32 := 16#32
  let v3205 : BitVec 32 := Scalar.muli v2273 c16_i32_2380
  let c0_i32_2388 : BitVec 32 := 0#32
  ![v3205.toNat, 0]
def k0_dev126 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1468 : BitVec 32 := 1#32
  let v2263 : BitVec 32 := Scalar.addi v2 c1_i32_1468
  let c32_i32_1469 : BitVec 32 := 32#32
  let c0_i32_1470 : BitVec 32 := 0#32
  let v2264 : BitVec 1 := Scalar.cmpi .eq c32_i32_1469 c0_i32_1470
  let c1_i32_1471 : BitVec 32 := 1#32
  let v2265 : BitVec 32 := Scalar.select v2264 c1_i32_1471 c32_i32_1469
  let v2266 : BitVec 32 := Scalar.remsi v2263 v2265
  let c0_i32_1473 : BitVec 32 := 0#32
  let v2268 : BitVec 1 := Scalar.cmpi .slt v2266 c0_i32_1473
  let c0_i32_1474 : BitVec 32 := 0#32
  let v2269 : BitVec 1 := Scalar.cmpi .slt v2265 c0_i32_1474
  let v2270 : BitVec 1 := Scalar.xori v2268 v2269
  let c0_i32_1472 : BitVec 32 := 0#32
  let v2267 : BitVec 1 := Scalar.cmpi .ne v2266 c0_i32_1472
  let v2271 : BitVec 1 := Scalar.andi v2270 v2267
  let v2272 : BitVec 32 := Scalar.addi v2266 v2265
  let v2273 : BitVec 32 := Scalar.select v2271 v2272 v2266
  let c1_i32_2384 : BitVec 32 := 1#32
  let v3206 : BitVec 32 := Scalar.muli v2273 c1_i32_2384
  let v3207 : BitVec 32 := Scalar.addi c0_i32_2385 v3206
  v3207.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1479 : BitVec 32 := 2#32
  let v2281 : BitVec 32 := Scalar.addi v2 c2_i32_1479
  let c32_i32_1480 : BitVec 32 := 32#32
  let c0_i32_1481 : BitVec 32 := 0#32
  let v2282 : BitVec 1 := Scalar.cmpi .eq c32_i32_1480 c0_i32_1481
  let c1_i32_1482 : BitVec 32 := 1#32
  let v2283 : BitVec 32 := Scalar.select v2282 c1_i32_1482 c32_i32_1480
  let v2284 : BitVec 32 := Scalar.remsi v2281 v2283
  let c0_i32_1484 : BitVec 32 := 0#32
  let v2286 : BitVec 1 := Scalar.cmpi .slt v2284 c0_i32_1484
  let c0_i32_1485 : BitVec 32 := 0#32
  let v2287 : BitVec 1 := Scalar.cmpi .slt v2283 c0_i32_1485
  let v2288 : BitVec 1 := Scalar.xori v2286 v2287
  let c0_i32_1483 : BitVec 32 := 0#32
  let v2285 : BitVec 1 := Scalar.cmpi .ne v2284 c0_i32_1483
  let v2289 : BitVec 1 := Scalar.andi v2288 v2285
  let v2290 : BitVec 32 := Scalar.addi v2284 v2283
  let v2291 : BitVec 32 := Scalar.select v2289 v2290 v2284
  let c16_i32_1486 : BitVec 32 := 16#32
  let v2292 : BitVec 32 := Scalar.muli v2291 c16_i32_1486
  let c384_i32_1487 : BitVec 32 := 384#32
  let v2293 : BitVec 1 := Scalar.cmpi .sge v2292 c384_i32_1487
  let c16_i32_1488 : BitVec 32 := 16#32
  let v2294 : BitVec 32 := Scalar.muli v2291 c16_i32_1488
  let c512_i32_1489 : BitVec 32 := 512#32
  let v2295 : BitVec 1 := Scalar.cmpi .slt v2294 c512_i32_1489
  let v2296 : BitVec 1 := Scalar.andi v2293 v2295
  let v2297 : BitVec 32 := Scalar.extui v2296
  let c0_i32_1490 : BitVec 32 := 0#32
  let v2298 : BitVec 1 := Scalar.cmpi .ne v2297 c0_i32_1490
  v2298

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1479 : BitVec 32 := 2#32
  let v2281 : BitVec 32 := Scalar.addi v2 c2_i32_1479
  let c32_i32_1480 : BitVec 32 := 32#32
  let c0_i32_1481 : BitVec 32 := 0#32
  let v2282 : BitVec 1 := Scalar.cmpi .eq c32_i32_1480 c0_i32_1481
  let c1_i32_1482 : BitVec 32 := 1#32
  let v2283 : BitVec 32 := Scalar.select v2282 c1_i32_1482 c32_i32_1480
  let v2284 : BitVec 32 := Scalar.remsi v2281 v2283
  let c0_i32_1484 : BitVec 32 := 0#32
  let v2286 : BitVec 1 := Scalar.cmpi .slt v2284 c0_i32_1484
  let c0_i32_1485 : BitVec 32 := 0#32
  let v2287 : BitVec 1 := Scalar.cmpi .slt v2283 c0_i32_1485
  let v2288 : BitVec 1 := Scalar.xori v2286 v2287
  let c0_i32_1483 : BitVec 32 := 0#32
  let v2285 : BitVec 1 := Scalar.cmpi .ne v2284 c0_i32_1483
  let v2289 : BitVec 1 := Scalar.andi v2288 v2285
  let v2290 : BitVec 32 := Scalar.addi v2284 v2283
  let v2291 : BitVec 32 := Scalar.select v2289 v2290 v2284
  let c16_i32_2380 : BitVec 32 := 16#32
  let v3205 : BitVec 32 := Scalar.muli v2291 c16_i32_2380
  let c0_i32_2388 : BitVec 32 := 0#32
  ![v3205.toNat, 0]
def k0_dev127 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1479 : BitVec 32 := 2#32
  let v2281 : BitVec 32 := Scalar.addi v2 c2_i32_1479
  let c32_i32_1480 : BitVec 32 := 32#32
  let c0_i32_1481 : BitVec 32 := 0#32
  let v2282 : BitVec 1 := Scalar.cmpi .eq c32_i32_1480 c0_i32_1481
  let c1_i32_1482 : BitVec 32 := 1#32
  let v2283 : BitVec 32 := Scalar.select v2282 c1_i32_1482 c32_i32_1480
  let v2284 : BitVec 32 := Scalar.remsi v2281 v2283
  let c0_i32_1484 : BitVec 32 := 0#32
  let v2286 : BitVec 1 := Scalar.cmpi .slt v2284 c0_i32_1484
  let c0_i32_1485 : BitVec 32 := 0#32
  let v2287 : BitVec 1 := Scalar.cmpi .slt v2283 c0_i32_1485
  let v2288 : BitVec 1 := Scalar.xori v2286 v2287
  let c0_i32_1483 : BitVec 32 := 0#32
  let v2285 : BitVec 1 := Scalar.cmpi .ne v2284 c0_i32_1483
  let v2289 : BitVec 1 := Scalar.andi v2288 v2285
  let v2290 : BitVec 32 := Scalar.addi v2284 v2283
  let v2291 : BitVec 32 := Scalar.select v2289 v2290 v2284
  let c1_i32_2384 : BitVec 32 := 1#32
  let v3206 : BitVec 32 := Scalar.muli v2291 c1_i32_2384
  let v3207 : BitVec 32 := Scalar.addi c0_i32_2385 v3206
  v3207.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1491 : BitVec 32 := 3#32
  let v2299 : BitVec 32 := Scalar.addi v2 c3_i32_1491
  let c32_i32_1492 : BitVec 32 := 32#32
  let c0_i32_1493 : BitVec 32 := 0#32
  let v2300 : BitVec 1 := Scalar.cmpi .eq c32_i32_1492 c0_i32_1493
  let c1_i32_1494 : BitVec 32 := 1#32
  let v2301 : BitVec 32 := Scalar.select v2300 c1_i32_1494 c32_i32_1492
  let v2302 : BitVec 32 := Scalar.remsi v2299 v2301
  let c0_i32_1496 : BitVec 32 := 0#32
  let v2304 : BitVec 1 := Scalar.cmpi .slt v2302 c0_i32_1496
  let c0_i32_1497 : BitVec 32 := 0#32
  let v2305 : BitVec 1 := Scalar.cmpi .slt v2301 c0_i32_1497
  let v2306 : BitVec 1 := Scalar.xori v2304 v2305
  let c0_i32_1495 : BitVec 32 := 0#32
  let v2303 : BitVec 1 := Scalar.cmpi .ne v2302 c0_i32_1495
  let v2307 : BitVec 1 := Scalar.andi v2306 v2303
  let v2308 : BitVec 32 := Scalar.addi v2302 v2301
  let v2309 : BitVec 32 := Scalar.select v2307 v2308 v2302
  let c16_i32_1498 : BitVec 32 := 16#32
  let v2310 : BitVec 32 := Scalar.muli v2309 c16_i32_1498
  let c384_i32_1499 : BitVec 32 := 384#32
  let v2311 : BitVec 1 := Scalar.cmpi .sge v2310 c384_i32_1499
  let c16_i32_1500 : BitVec 32 := 16#32
  let v2312 : BitVec 32 := Scalar.muli v2309 c16_i32_1500
  let c512_i32_1501 : BitVec 32 := 512#32
  let v2313 : BitVec 1 := Scalar.cmpi .slt v2312 c512_i32_1501
  let v2314 : BitVec 1 := Scalar.andi v2311 v2313
  let v2315 : BitVec 32 := Scalar.extui v2314
  let c0_i32_1502 : BitVec 32 := 0#32
  let v2316 : BitVec 1 := Scalar.cmpi .ne v2315 c0_i32_1502
  v2316

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1491 : BitVec 32 := 3#32
  let v2299 : BitVec 32 := Scalar.addi v2 c3_i32_1491
  let c32_i32_1492 : BitVec 32 := 32#32
  let c0_i32_1493 : BitVec 32 := 0#32
  let v2300 : BitVec 1 := Scalar.cmpi .eq c32_i32_1492 c0_i32_1493
  let c1_i32_1494 : BitVec 32 := 1#32
  let v2301 : BitVec 32 := Scalar.select v2300 c1_i32_1494 c32_i32_1492
  let v2302 : BitVec 32 := Scalar.remsi v2299 v2301
  let c0_i32_1496 : BitVec 32 := 0#32
  let v2304 : BitVec 1 := Scalar.cmpi .slt v2302 c0_i32_1496
  let c0_i32_1497 : BitVec 32 := 0#32
  let v2305 : BitVec 1 := Scalar.cmpi .slt v2301 c0_i32_1497
  let v2306 : BitVec 1 := Scalar.xori v2304 v2305
  let c0_i32_1495 : BitVec 32 := 0#32
  let v2303 : BitVec 1 := Scalar.cmpi .ne v2302 c0_i32_1495
  let v2307 : BitVec 1 := Scalar.andi v2306 v2303
  let v2308 : BitVec 32 := Scalar.addi v2302 v2301
  let v2309 : BitVec 32 := Scalar.select v2307 v2308 v2302
  let c16_i32_2380 : BitVec 32 := 16#32
  let v3205 : BitVec 32 := Scalar.muli v2309 c16_i32_2380
  let c0_i32_2388 : BitVec 32 := 0#32
  ![v3205.toNat, 0]
def k0_dev128 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1491 : BitVec 32 := 3#32
  let v2299 : BitVec 32 := Scalar.addi v2 c3_i32_1491
  let c32_i32_1492 : BitVec 32 := 32#32
  let c0_i32_1493 : BitVec 32 := 0#32
  let v2300 : BitVec 1 := Scalar.cmpi .eq c32_i32_1492 c0_i32_1493
  let c1_i32_1494 : BitVec 32 := 1#32
  let v2301 : BitVec 32 := Scalar.select v2300 c1_i32_1494 c32_i32_1492
  let v2302 : BitVec 32 := Scalar.remsi v2299 v2301
  let c0_i32_1496 : BitVec 32 := 0#32
  let v2304 : BitVec 1 := Scalar.cmpi .slt v2302 c0_i32_1496
  let c0_i32_1497 : BitVec 32 := 0#32
  let v2305 : BitVec 1 := Scalar.cmpi .slt v2301 c0_i32_1497
  let v2306 : BitVec 1 := Scalar.xori v2304 v2305
  let c0_i32_1495 : BitVec 32 := 0#32
  let v2303 : BitVec 1 := Scalar.cmpi .ne v2302 c0_i32_1495
  let v2307 : BitVec 1 := Scalar.andi v2306 v2303
  let v2308 : BitVec 32 := Scalar.addi v2302 v2301
  let v2309 : BitVec 32 := Scalar.select v2307 v2308 v2302
  let c1_i32_2384 : BitVec 32 := 1#32
  let v3206 : BitVec 32 := Scalar.muli v2309 c1_i32_2384
  let v3207 : BitVec 32 := Scalar.addi c0_i32_2385 v3206
  v3207.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1503 : BitVec 32 := 4#32
  let v2317 : BitVec 32 := Scalar.addi v2 c4_i32_1503
  let c32_i32_1504 : BitVec 32 := 32#32
  let c0_i32_1505 : BitVec 32 := 0#32
  let v2318 : BitVec 1 := Scalar.cmpi .eq c32_i32_1504 c0_i32_1505
  let c1_i32_1506 : BitVec 32 := 1#32
  let v2319 : BitVec 32 := Scalar.select v2318 c1_i32_1506 c32_i32_1504
  let v2320 : BitVec 32 := Scalar.remsi v2317 v2319
  let c0_i32_1508 : BitVec 32 := 0#32
  let v2322 : BitVec 1 := Scalar.cmpi .slt v2320 c0_i32_1508
  let c0_i32_1509 : BitVec 32 := 0#32
  let v2323 : BitVec 1 := Scalar.cmpi .slt v2319 c0_i32_1509
  let v2324 : BitVec 1 := Scalar.xori v2322 v2323
  let c0_i32_1507 : BitVec 32 := 0#32
  let v2321 : BitVec 1 := Scalar.cmpi .ne v2320 c0_i32_1507
  let v2325 : BitVec 1 := Scalar.andi v2324 v2321
  let v2326 : BitVec 32 := Scalar.addi v2320 v2319
  let v2327 : BitVec 32 := Scalar.select v2325 v2326 v2320
  let c16_i32_1510 : BitVec 32 := 16#32
  let v2328 : BitVec 32 := Scalar.muli v2327 c16_i32_1510
  let c384_i32_1511 : BitVec 32 := 384#32
  let v2329 : BitVec 1 := Scalar.cmpi .sge v2328 c384_i32_1511
  let c16_i32_1512 : BitVec 32 := 16#32
  let v2330 : BitVec 32 := Scalar.muli v2327 c16_i32_1512
  let c512_i32_1513 : BitVec 32 := 512#32
  let v2331 : BitVec 1 := Scalar.cmpi .slt v2330 c512_i32_1513
  let v2332 : BitVec 1 := Scalar.andi v2329 v2331
  let v2333 : BitVec 32 := Scalar.extui v2332
  let c0_i32_1514 : BitVec 32 := 0#32
  let v2334 : BitVec 1 := Scalar.cmpi .ne v2333 c0_i32_1514
  v2334

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1503 : BitVec 32 := 4#32
  let v2317 : BitVec 32 := Scalar.addi v2 c4_i32_1503
  let c32_i32_1504 : BitVec 32 := 32#32
  let c0_i32_1505 : BitVec 32 := 0#32
  let v2318 : BitVec 1 := Scalar.cmpi .eq c32_i32_1504 c0_i32_1505
  let c1_i32_1506 : BitVec 32 := 1#32
  let v2319 : BitVec 32 := Scalar.select v2318 c1_i32_1506 c32_i32_1504
  let v2320 : BitVec 32 := Scalar.remsi v2317 v2319
  let c0_i32_1508 : BitVec 32 := 0#32
  let v2322 : BitVec 1 := Scalar.cmpi .slt v2320 c0_i32_1508
  let c0_i32_1509 : BitVec 32 := 0#32
  let v2323 : BitVec 1 := Scalar.cmpi .slt v2319 c0_i32_1509
  let v2324 : BitVec 1 := Scalar.xori v2322 v2323
  let c0_i32_1507 : BitVec 32 := 0#32
  let v2321 : BitVec 1 := Scalar.cmpi .ne v2320 c0_i32_1507
  let v2325 : BitVec 1 := Scalar.andi v2324 v2321
  let v2326 : BitVec 32 := Scalar.addi v2320 v2319
  let v2327 : BitVec 32 := Scalar.select v2325 v2326 v2320
  let c16_i32_2380 : BitVec 32 := 16#32
  let v3205 : BitVec 32 := Scalar.muli v2327 c16_i32_2380
  let c0_i32_2388 : BitVec 32 := 0#32
  ![v3205.toNat, 0]
def k0_dev129 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1503 : BitVec 32 := 4#32
  let v2317 : BitVec 32 := Scalar.addi v2 c4_i32_1503
  let c32_i32_1504 : BitVec 32 := 32#32
  let c0_i32_1505 : BitVec 32 := 0#32
  let v2318 : BitVec 1 := Scalar.cmpi .eq c32_i32_1504 c0_i32_1505
  let c1_i32_1506 : BitVec 32 := 1#32
  let v2319 : BitVec 32 := Scalar.select v2318 c1_i32_1506 c32_i32_1504
  let v2320 : BitVec 32 := Scalar.remsi v2317 v2319
  let c0_i32_1508 : BitVec 32 := 0#32
  let v2322 : BitVec 1 := Scalar.cmpi .slt v2320 c0_i32_1508
  let c0_i32_1509 : BitVec 32 := 0#32
  let v2323 : BitVec 1 := Scalar.cmpi .slt v2319 c0_i32_1509
  let v2324 : BitVec 1 := Scalar.xori v2322 v2323
  let c0_i32_1507 : BitVec 32 := 0#32
  let v2321 : BitVec 1 := Scalar.cmpi .ne v2320 c0_i32_1507
  let v2325 : BitVec 1 := Scalar.andi v2324 v2321
  let v2326 : BitVec 32 := Scalar.addi v2320 v2319
  let v2327 : BitVec 32 := Scalar.select v2325 v2326 v2320
  let c1_i32_2384 : BitVec 32 := 1#32
  let v3206 : BitVec 32 := Scalar.muli v2327 c1_i32_2384
  let v3207 : BitVec 32 := Scalar.addi c0_i32_2385 v3206
  v3207.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1515 : BitVec 32 := 5#32
  let v2335 : BitVec 32 := Scalar.addi v2 c5_i32_1515
  let c32_i32_1516 : BitVec 32 := 32#32
  let c0_i32_1517 : BitVec 32 := 0#32
  let v2336 : BitVec 1 := Scalar.cmpi .eq c32_i32_1516 c0_i32_1517
  let c1_i32_1518 : BitVec 32 := 1#32
  let v2337 : BitVec 32 := Scalar.select v2336 c1_i32_1518 c32_i32_1516
  let v2338 : BitVec 32 := Scalar.remsi v2335 v2337
  let c0_i32_1520 : BitVec 32 := 0#32
  let v2340 : BitVec 1 := Scalar.cmpi .slt v2338 c0_i32_1520
  let c0_i32_1521 : BitVec 32 := 0#32
  let v2341 : BitVec 1 := Scalar.cmpi .slt v2337 c0_i32_1521
  let v2342 : BitVec 1 := Scalar.xori v2340 v2341
  let c0_i32_1519 : BitVec 32 := 0#32
  let v2339 : BitVec 1 := Scalar.cmpi .ne v2338 c0_i32_1519
  let v2343 : BitVec 1 := Scalar.andi v2342 v2339
  let v2344 : BitVec 32 := Scalar.addi v2338 v2337
  let v2345 : BitVec 32 := Scalar.select v2343 v2344 v2338
  let c16_i32_1522 : BitVec 32 := 16#32
  let v2346 : BitVec 32 := Scalar.muli v2345 c16_i32_1522
  let c384_i32_1523 : BitVec 32 := 384#32
  let v2347 : BitVec 1 := Scalar.cmpi .sge v2346 c384_i32_1523
  let c16_i32_1524 : BitVec 32 := 16#32
  let v2348 : BitVec 32 := Scalar.muli v2345 c16_i32_1524
  let c512_i32_1525 : BitVec 32 := 512#32
  let v2349 : BitVec 1 := Scalar.cmpi .slt v2348 c512_i32_1525
  let v2350 : BitVec 1 := Scalar.andi v2347 v2349
  let v2351 : BitVec 32 := Scalar.extui v2350
  let c0_i32_1526 : BitVec 32 := 0#32
  let v2352 : BitVec 1 := Scalar.cmpi .ne v2351 c0_i32_1526
  v2352

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1515 : BitVec 32 := 5#32
  let v2335 : BitVec 32 := Scalar.addi v2 c5_i32_1515
  let c32_i32_1516 : BitVec 32 := 32#32
  let c0_i32_1517 : BitVec 32 := 0#32
  let v2336 : BitVec 1 := Scalar.cmpi .eq c32_i32_1516 c0_i32_1517
  let c1_i32_1518 : BitVec 32 := 1#32
  let v2337 : BitVec 32 := Scalar.select v2336 c1_i32_1518 c32_i32_1516
  let v2338 : BitVec 32 := Scalar.remsi v2335 v2337
  let c0_i32_1520 : BitVec 32 := 0#32
  let v2340 : BitVec 1 := Scalar.cmpi .slt v2338 c0_i32_1520
  let c0_i32_1521 : BitVec 32 := 0#32
  let v2341 : BitVec 1 := Scalar.cmpi .slt v2337 c0_i32_1521
  let v2342 : BitVec 1 := Scalar.xori v2340 v2341
  let c0_i32_1519 : BitVec 32 := 0#32
  let v2339 : BitVec 1 := Scalar.cmpi .ne v2338 c0_i32_1519
  let v2343 : BitVec 1 := Scalar.andi v2342 v2339
  let v2344 : BitVec 32 := Scalar.addi v2338 v2337
  let v2345 : BitVec 32 := Scalar.select v2343 v2344 v2338
  let c16_i32_2380 : BitVec 32 := 16#32
  let v3205 : BitVec 32 := Scalar.muli v2345 c16_i32_2380
  let c0_i32_2388 : BitVec 32 := 0#32
  ![v3205.toNat, 0]
def k0_dev130 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1515 : BitVec 32 := 5#32
  let v2335 : BitVec 32 := Scalar.addi v2 c5_i32_1515
  let c32_i32_1516 : BitVec 32 := 32#32
  let c0_i32_1517 : BitVec 32 := 0#32
  let v2336 : BitVec 1 := Scalar.cmpi .eq c32_i32_1516 c0_i32_1517
  let c1_i32_1518 : BitVec 32 := 1#32
  let v2337 : BitVec 32 := Scalar.select v2336 c1_i32_1518 c32_i32_1516
  let v2338 : BitVec 32 := Scalar.remsi v2335 v2337
  let c0_i32_1520 : BitVec 32 := 0#32
  let v2340 : BitVec 1 := Scalar.cmpi .slt v2338 c0_i32_1520
  let c0_i32_1521 : BitVec 32 := 0#32
  let v2341 : BitVec 1 := Scalar.cmpi .slt v2337 c0_i32_1521
  let v2342 : BitVec 1 := Scalar.xori v2340 v2341
  let c0_i32_1519 : BitVec 32 := 0#32
  let v2339 : BitVec 1 := Scalar.cmpi .ne v2338 c0_i32_1519
  let v2343 : BitVec 1 := Scalar.andi v2342 v2339
  let v2344 : BitVec 32 := Scalar.addi v2338 v2337
  let v2345 : BitVec 32 := Scalar.select v2343 v2344 v2338
  let c1_i32_2384 : BitVec 32 := 1#32
  let v3206 : BitVec 32 := Scalar.muli v2345 c1_i32_2384
  let v3207 : BitVec 32 := Scalar.addi c0_i32_2385 v3206
  v3207.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1527 : BitVec 32 := 6#32
  let v2353 : BitVec 32 := Scalar.addi v2 c6_i32_1527
  let c32_i32_1528 : BitVec 32 := 32#32
  let c0_i32_1529 : BitVec 32 := 0#32
  let v2354 : BitVec 1 := Scalar.cmpi .eq c32_i32_1528 c0_i32_1529
  let c1_i32_1530 : BitVec 32 := 1#32
  let v2355 : BitVec 32 := Scalar.select v2354 c1_i32_1530 c32_i32_1528
  let v2356 : BitVec 32 := Scalar.remsi v2353 v2355
  let c0_i32_1532 : BitVec 32 := 0#32
  let v2358 : BitVec 1 := Scalar.cmpi .slt v2356 c0_i32_1532
  let c0_i32_1533 : BitVec 32 := 0#32
  let v2359 : BitVec 1 := Scalar.cmpi .slt v2355 c0_i32_1533
  let v2360 : BitVec 1 := Scalar.xori v2358 v2359
  let c0_i32_1531 : BitVec 32 := 0#32
  let v2357 : BitVec 1 := Scalar.cmpi .ne v2356 c0_i32_1531
  let v2361 : BitVec 1 := Scalar.andi v2360 v2357
  let v2362 : BitVec 32 := Scalar.addi v2356 v2355
  let v2363 : BitVec 32 := Scalar.select v2361 v2362 v2356
  let c16_i32_1534 : BitVec 32 := 16#32
  let v2364 : BitVec 32 := Scalar.muli v2363 c16_i32_1534
  let c384_i32_1535 : BitVec 32 := 384#32
  let v2365 : BitVec 1 := Scalar.cmpi .sge v2364 c384_i32_1535
  let c16_i32_1536 : BitVec 32 := 16#32
  let v2366 : BitVec 32 := Scalar.muli v2363 c16_i32_1536
  let c512_i32_1537 : BitVec 32 := 512#32
  let v2367 : BitVec 1 := Scalar.cmpi .slt v2366 c512_i32_1537
  let v2368 : BitVec 1 := Scalar.andi v2365 v2367
  let v2369 : BitVec 32 := Scalar.extui v2368
  let c0_i32_1538 : BitVec 32 := 0#32
  let v2370 : BitVec 1 := Scalar.cmpi .ne v2369 c0_i32_1538
  v2370

def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1527 : BitVec 32 := 6#32
  let v2353 : BitVec 32 := Scalar.addi v2 c6_i32_1527
  let c32_i32_1528 : BitVec 32 := 32#32
  let c0_i32_1529 : BitVec 32 := 0#32
  let v2354 : BitVec 1 := Scalar.cmpi .eq c32_i32_1528 c0_i32_1529
  let c1_i32_1530 : BitVec 32 := 1#32
  let v2355 : BitVec 32 := Scalar.select v2354 c1_i32_1530 c32_i32_1528
  let v2356 : BitVec 32 := Scalar.remsi v2353 v2355
  let c0_i32_1532 : BitVec 32 := 0#32
  let v2358 : BitVec 1 := Scalar.cmpi .slt v2356 c0_i32_1532
  let c0_i32_1533 : BitVec 32 := 0#32
  let v2359 : BitVec 1 := Scalar.cmpi .slt v2355 c0_i32_1533
  let v2360 : BitVec 1 := Scalar.xori v2358 v2359
  let c0_i32_1531 : BitVec 32 := 0#32
  let v2357 : BitVec 1 := Scalar.cmpi .ne v2356 c0_i32_1531
  let v2361 : BitVec 1 := Scalar.andi v2360 v2357
  let v2362 : BitVec 32 := Scalar.addi v2356 v2355
  let v2363 : BitVec 32 := Scalar.select v2361 v2362 v2356
  let c16_i32_2380 : BitVec 32 := 16#32
  let v3205 : BitVec 32 := Scalar.muli v2363 c16_i32_2380
  let c0_i32_2388 : BitVec 32 := 0#32
  ![v3205.toNat, 0]
def k0_dev131 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1527 : BitVec 32 := 6#32
  let v2353 : BitVec 32 := Scalar.addi v2 c6_i32_1527
  let c32_i32_1528 : BitVec 32 := 32#32
  let c0_i32_1529 : BitVec 32 := 0#32
  let v2354 : BitVec 1 := Scalar.cmpi .eq c32_i32_1528 c0_i32_1529
  let c1_i32_1530 : BitVec 32 := 1#32
  let v2355 : BitVec 32 := Scalar.select v2354 c1_i32_1530 c32_i32_1528
  let v2356 : BitVec 32 := Scalar.remsi v2353 v2355
  let c0_i32_1532 : BitVec 32 := 0#32
  let v2358 : BitVec 1 := Scalar.cmpi .slt v2356 c0_i32_1532
  let c0_i32_1533 : BitVec 32 := 0#32
  let v2359 : BitVec 1 := Scalar.cmpi .slt v2355 c0_i32_1533
  let v2360 : BitVec 1 := Scalar.xori v2358 v2359
  let c0_i32_1531 : BitVec 32 := 0#32
  let v2357 : BitVec 1 := Scalar.cmpi .ne v2356 c0_i32_1531
  let v2361 : BitVec 1 := Scalar.andi v2360 v2357
  let v2362 : BitVec 32 := Scalar.addi v2356 v2355
  let v2363 : BitVec 32 := Scalar.select v2361 v2362 v2356
  let c1_i32_2384 : BitVec 32 := 1#32
  let v3206 : BitVec 32 := Scalar.muli v2363 c1_i32_2384
  let v3207 : BitVec 32 := Scalar.addi c0_i32_2385 v3206
  v3207.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1539 : BitVec 32 := 7#32
  let v2371 : BitVec 32 := Scalar.addi v2 c7_i32_1539
  let c32_i32_1540 : BitVec 32 := 32#32
  let c0_i32_1541 : BitVec 32 := 0#32
  let v2372 : BitVec 1 := Scalar.cmpi .eq c32_i32_1540 c0_i32_1541
  let c1_i32_1542 : BitVec 32 := 1#32
  let v2373 : BitVec 32 := Scalar.select v2372 c1_i32_1542 c32_i32_1540
  let v2374 : BitVec 32 := Scalar.remsi v2371 v2373
  let c0_i32_1544 : BitVec 32 := 0#32
  let v2376 : BitVec 1 := Scalar.cmpi .slt v2374 c0_i32_1544
  let c0_i32_1545 : BitVec 32 := 0#32
  let v2377 : BitVec 1 := Scalar.cmpi .slt v2373 c0_i32_1545
  let v2378 : BitVec 1 := Scalar.xori v2376 v2377
  let c0_i32_1543 : BitVec 32 := 0#32
  let v2375 : BitVec 1 := Scalar.cmpi .ne v2374 c0_i32_1543
  let v2379 : BitVec 1 := Scalar.andi v2378 v2375
  let v2380 : BitVec 32 := Scalar.addi v2374 v2373
  let v2381 : BitVec 32 := Scalar.select v2379 v2380 v2374
  let c16_i32_1546 : BitVec 32 := 16#32
  let v2382 : BitVec 32 := Scalar.muli v2381 c16_i32_1546
  let c384_i32_1547 : BitVec 32 := 384#32
  let v2383 : BitVec 1 := Scalar.cmpi .sge v2382 c384_i32_1547
  let c16_i32_1548 : BitVec 32 := 16#32
  let v2384 : BitVec 32 := Scalar.muli v2381 c16_i32_1548
  let c512_i32_1549 : BitVec 32 := 512#32
  let v2385 : BitVec 1 := Scalar.cmpi .slt v2384 c512_i32_1549
  let v2386 : BitVec 1 := Scalar.andi v2383 v2385
  let v2387 : BitVec 32 := Scalar.extui v2386
  let c0_i32_1550 : BitVec 32 := 0#32
  let v2388 : BitVec 1 := Scalar.cmpi .ne v2387 c0_i32_1550
  v2388

def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1539 : BitVec 32 := 7#32
  let v2371 : BitVec 32 := Scalar.addi v2 c7_i32_1539
  let c32_i32_1540 : BitVec 32 := 32#32
  let c0_i32_1541 : BitVec 32 := 0#32
  let v2372 : BitVec 1 := Scalar.cmpi .eq c32_i32_1540 c0_i32_1541
  let c1_i32_1542 : BitVec 32 := 1#32
  let v2373 : BitVec 32 := Scalar.select v2372 c1_i32_1542 c32_i32_1540
  let v2374 : BitVec 32 := Scalar.remsi v2371 v2373
  let c0_i32_1544 : BitVec 32 := 0#32
  let v2376 : BitVec 1 := Scalar.cmpi .slt v2374 c0_i32_1544
  let c0_i32_1545 : BitVec 32 := 0#32
  let v2377 : BitVec 1 := Scalar.cmpi .slt v2373 c0_i32_1545
  let v2378 : BitVec 1 := Scalar.xori v2376 v2377
  let c0_i32_1543 : BitVec 32 := 0#32
  let v2375 : BitVec 1 := Scalar.cmpi .ne v2374 c0_i32_1543
  let v2379 : BitVec 1 := Scalar.andi v2378 v2375
  let v2380 : BitVec 32 := Scalar.addi v2374 v2373
  let v2381 : BitVec 32 := Scalar.select v2379 v2380 v2374
  let c16_i32_2380 : BitVec 32 := 16#32
  let v3205 : BitVec 32 := Scalar.muli v2381 c16_i32_2380
  let c0_i32_2388 : BitVec 32 := 0#32
  ![v3205.toNat, 0]
def k0_dev132 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1539 : BitVec 32 := 7#32
  let v2371 : BitVec 32 := Scalar.addi v2 c7_i32_1539
  let c32_i32_1540 : BitVec 32 := 32#32
  let c0_i32_1541 : BitVec 32 := 0#32
  let v2372 : BitVec 1 := Scalar.cmpi .eq c32_i32_1540 c0_i32_1541
  let c1_i32_1542 : BitVec 32 := 1#32
  let v2373 : BitVec 32 := Scalar.select v2372 c1_i32_1542 c32_i32_1540
  let v2374 : BitVec 32 := Scalar.remsi v2371 v2373
  let c0_i32_1544 : BitVec 32 := 0#32
  let v2376 : BitVec 1 := Scalar.cmpi .slt v2374 c0_i32_1544
  let c0_i32_1545 : BitVec 32 := 0#32
  let v2377 : BitVec 1 := Scalar.cmpi .slt v2373 c0_i32_1545
  let v2378 : BitVec 1 := Scalar.xori v2376 v2377
  let c0_i32_1543 : BitVec 32 := 0#32
  let v2375 : BitVec 1 := Scalar.cmpi .ne v2374 c0_i32_1543
  let v2379 : BitVec 1 := Scalar.andi v2378 v2375
  let v2380 : BitVec 32 := Scalar.addi v2374 v2373
  let v2381 : BitVec 32 := Scalar.select v2379 v2380 v2374
  let c1_i32_2384 : BitVec 32 := 1#32
  let v3206 : BitVec 32 := Scalar.muli v2381 c1_i32_2384
  let v3207 : BitVec 32 := Scalar.addi c0_i32_2385 v3206
  v3207.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1551 : BitVec 32 := 8#32
  let v2389 : BitVec 32 := Scalar.addi v2 c8_i32_1551
  let c32_i32_1552 : BitVec 32 := 32#32
  let c0_i32_1553 : BitVec 32 := 0#32
  let v2390 : BitVec 1 := Scalar.cmpi .eq c32_i32_1552 c0_i32_1553
  let c1_i32_1554 : BitVec 32 := 1#32
  let v2391 : BitVec 32 := Scalar.select v2390 c1_i32_1554 c32_i32_1552
  let v2392 : BitVec 32 := Scalar.remsi v2389 v2391
  let c0_i32_1556 : BitVec 32 := 0#32
  let v2394 : BitVec 1 := Scalar.cmpi .slt v2392 c0_i32_1556
  let c0_i32_1557 : BitVec 32 := 0#32
  let v2395 : BitVec 1 := Scalar.cmpi .slt v2391 c0_i32_1557
  let v2396 : BitVec 1 := Scalar.xori v2394 v2395
  let c0_i32_1555 : BitVec 32 := 0#32
  let v2393 : BitVec 1 := Scalar.cmpi .ne v2392 c0_i32_1555
  let v2397 : BitVec 1 := Scalar.andi v2396 v2393
  let v2398 : BitVec 32 := Scalar.addi v2392 v2391
  let v2399 : BitVec 32 := Scalar.select v2397 v2398 v2392
  let c16_i32_1558 : BitVec 32 := 16#32
  let v2400 : BitVec 32 := Scalar.muli v2399 c16_i32_1558
  let c384_i32_1559 : BitVec 32 := 384#32
  let v2401 : BitVec 1 := Scalar.cmpi .sge v2400 c384_i32_1559
  let c16_i32_1560 : BitVec 32 := 16#32
  let v2402 : BitVec 32 := Scalar.muli v2399 c16_i32_1560
  let c512_i32_1561 : BitVec 32 := 512#32
  let v2403 : BitVec 1 := Scalar.cmpi .slt v2402 c512_i32_1561
  let v2404 : BitVec 1 := Scalar.andi v2401 v2403
  let v2405 : BitVec 32 := Scalar.extui v2404
  let c0_i32_1562 : BitVec 32 := 0#32
  let v2406 : BitVec 1 := Scalar.cmpi .ne v2405 c0_i32_1562
  v2406

def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1551 : BitVec 32 := 8#32
  let v2389 : BitVec 32 := Scalar.addi v2 c8_i32_1551
  let c32_i32_1552 : BitVec 32 := 32#32
  let c0_i32_1553 : BitVec 32 := 0#32
  let v2390 : BitVec 1 := Scalar.cmpi .eq c32_i32_1552 c0_i32_1553
  let c1_i32_1554 : BitVec 32 := 1#32
  let v2391 : BitVec 32 := Scalar.select v2390 c1_i32_1554 c32_i32_1552
  let v2392 : BitVec 32 := Scalar.remsi v2389 v2391
  let c0_i32_1556 : BitVec 32 := 0#32
  let v2394 : BitVec 1 := Scalar.cmpi .slt v2392 c0_i32_1556
  let c0_i32_1557 : BitVec 32 := 0#32
  let v2395 : BitVec 1 := Scalar.cmpi .slt v2391 c0_i32_1557
  let v2396 : BitVec 1 := Scalar.xori v2394 v2395
  let c0_i32_1555 : BitVec 32 := 0#32
  let v2393 : BitVec 1 := Scalar.cmpi .ne v2392 c0_i32_1555
  let v2397 : BitVec 1 := Scalar.andi v2396 v2393
  let v2398 : BitVec 32 := Scalar.addi v2392 v2391
  let v2399 : BitVec 32 := Scalar.select v2397 v2398 v2392
  let c16_i32_2380 : BitVec 32 := 16#32
  let v3205 : BitVec 32 := Scalar.muli v2399 c16_i32_2380
  let c0_i32_2388 : BitVec 32 := 0#32
  ![v3205.toNat, 0]
def k0_dev133 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1551 : BitVec 32 := 8#32
  let v2389 : BitVec 32 := Scalar.addi v2 c8_i32_1551
  let c32_i32_1552 : BitVec 32 := 32#32
  let c0_i32_1553 : BitVec 32 := 0#32
  let v2390 : BitVec 1 := Scalar.cmpi .eq c32_i32_1552 c0_i32_1553
  let c1_i32_1554 : BitVec 32 := 1#32
  let v2391 : BitVec 32 := Scalar.select v2390 c1_i32_1554 c32_i32_1552
  let v2392 : BitVec 32 := Scalar.remsi v2389 v2391
  let c0_i32_1556 : BitVec 32 := 0#32
  let v2394 : BitVec 1 := Scalar.cmpi .slt v2392 c0_i32_1556
  let c0_i32_1557 : BitVec 32 := 0#32
  let v2395 : BitVec 1 := Scalar.cmpi .slt v2391 c0_i32_1557
  let v2396 : BitVec 1 := Scalar.xori v2394 v2395
  let c0_i32_1555 : BitVec 32 := 0#32
  let v2393 : BitVec 1 := Scalar.cmpi .ne v2392 c0_i32_1555
  let v2397 : BitVec 1 := Scalar.andi v2396 v2393
  let v2398 : BitVec 32 := Scalar.addi v2392 v2391
  let v2399 : BitVec 32 := Scalar.select v2397 v2398 v2392
  let c1_i32_2384 : BitVec 32 := 1#32
  let v3206 : BitVec 32 := Scalar.muli v2399 c1_i32_2384
  let v3207 : BitVec 32 := Scalar.addi c0_i32_2385 v3206
  v3207.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1563 : BitVec 32 := 9#32
  let v2407 : BitVec 32 := Scalar.addi v2 c9_i32_1563
  let c32_i32_1564 : BitVec 32 := 32#32
  let c0_i32_1565 : BitVec 32 := 0#32
  let v2408 : BitVec 1 := Scalar.cmpi .eq c32_i32_1564 c0_i32_1565
  let c1_i32_1566 : BitVec 32 := 1#32
  let v2409 : BitVec 32 := Scalar.select v2408 c1_i32_1566 c32_i32_1564
  let v2410 : BitVec 32 := Scalar.remsi v2407 v2409
  let c0_i32_1568 : BitVec 32 := 0#32
  let v2412 : BitVec 1 := Scalar.cmpi .slt v2410 c0_i32_1568
  let c0_i32_1569 : BitVec 32 := 0#32
  let v2413 : BitVec 1 := Scalar.cmpi .slt v2409 c0_i32_1569
  let v2414 : BitVec 1 := Scalar.xori v2412 v2413
  let c0_i32_1567 : BitVec 32 := 0#32
  let v2411 : BitVec 1 := Scalar.cmpi .ne v2410 c0_i32_1567
  let v2415 : BitVec 1 := Scalar.andi v2414 v2411
  let v2416 : BitVec 32 := Scalar.addi v2410 v2409
  let v2417 : BitVec 32 := Scalar.select v2415 v2416 v2410
  let c16_i32_1570 : BitVec 32 := 16#32
  let v2418 : BitVec 32 := Scalar.muli v2417 c16_i32_1570
  let c384_i32_1571 : BitVec 32 := 384#32
  let v2419 : BitVec 1 := Scalar.cmpi .sge v2418 c384_i32_1571
  let c16_i32_1572 : BitVec 32 := 16#32
  let v2420 : BitVec 32 := Scalar.muli v2417 c16_i32_1572
  let c512_i32_1573 : BitVec 32 := 512#32
  let v2421 : BitVec 1 := Scalar.cmpi .slt v2420 c512_i32_1573
  let v2422 : BitVec 1 := Scalar.andi v2419 v2421
  let v2423 : BitVec 32 := Scalar.extui v2422
  let c0_i32_1574 : BitVec 32 := 0#32
  let v2424 : BitVec 1 := Scalar.cmpi .ne v2423 c0_i32_1574
  v2424

def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1563 : BitVec 32 := 9#32
  let v2407 : BitVec 32 := Scalar.addi v2 c9_i32_1563
  let c32_i32_1564 : BitVec 32 := 32#32
  let c0_i32_1565 : BitVec 32 := 0#32
  let v2408 : BitVec 1 := Scalar.cmpi .eq c32_i32_1564 c0_i32_1565
  let c1_i32_1566 : BitVec 32 := 1#32
  let v2409 : BitVec 32 := Scalar.select v2408 c1_i32_1566 c32_i32_1564
  let v2410 : BitVec 32 := Scalar.remsi v2407 v2409
  let c0_i32_1568 : BitVec 32 := 0#32
  let v2412 : BitVec 1 := Scalar.cmpi .slt v2410 c0_i32_1568
  let c0_i32_1569 : BitVec 32 := 0#32
  let v2413 : BitVec 1 := Scalar.cmpi .slt v2409 c0_i32_1569
  let v2414 : BitVec 1 := Scalar.xori v2412 v2413
  let c0_i32_1567 : BitVec 32 := 0#32
  let v2411 : BitVec 1 := Scalar.cmpi .ne v2410 c0_i32_1567
  let v2415 : BitVec 1 := Scalar.andi v2414 v2411
  let v2416 : BitVec 32 := Scalar.addi v2410 v2409
  let v2417 : BitVec 32 := Scalar.select v2415 v2416 v2410
  let c16_i32_2380 : BitVec 32 := 16#32
  let v3205 : BitVec 32 := Scalar.muli v2417 c16_i32_2380
  let c0_i32_2388 : BitVec 32 := 0#32
  ![v3205.toNat, 0]
def k0_dev134 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1563 : BitVec 32 := 9#32
  let v2407 : BitVec 32 := Scalar.addi v2 c9_i32_1563
  let c32_i32_1564 : BitVec 32 := 32#32
  let c0_i32_1565 : BitVec 32 := 0#32
  let v2408 : BitVec 1 := Scalar.cmpi .eq c32_i32_1564 c0_i32_1565
  let c1_i32_1566 : BitVec 32 := 1#32
  let v2409 : BitVec 32 := Scalar.select v2408 c1_i32_1566 c32_i32_1564
  let v2410 : BitVec 32 := Scalar.remsi v2407 v2409
  let c0_i32_1568 : BitVec 32 := 0#32
  let v2412 : BitVec 1 := Scalar.cmpi .slt v2410 c0_i32_1568
  let c0_i32_1569 : BitVec 32 := 0#32
  let v2413 : BitVec 1 := Scalar.cmpi .slt v2409 c0_i32_1569
  let v2414 : BitVec 1 := Scalar.xori v2412 v2413
  let c0_i32_1567 : BitVec 32 := 0#32
  let v2411 : BitVec 1 := Scalar.cmpi .ne v2410 c0_i32_1567
  let v2415 : BitVec 1 := Scalar.andi v2414 v2411
  let v2416 : BitVec 32 := Scalar.addi v2410 v2409
  let v2417 : BitVec 32 := Scalar.select v2415 v2416 v2410
  let c1_i32_2384 : BitVec 32 := 1#32
  let v3206 : BitVec 32 := Scalar.muli v2417 c1_i32_2384
  let v3207 : BitVec 32 := Scalar.addi c0_i32_2385 v3206
  v3207.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1575 : BitVec 32 := 10#32
  let v2425 : BitVec 32 := Scalar.addi v2 c10_i32_1575
  let c32_i32_1576 : BitVec 32 := 32#32
  let c0_i32_1577 : BitVec 32 := 0#32
  let v2426 : BitVec 1 := Scalar.cmpi .eq c32_i32_1576 c0_i32_1577
  let c1_i32_1578 : BitVec 32 := 1#32
  let v2427 : BitVec 32 := Scalar.select v2426 c1_i32_1578 c32_i32_1576
  let v2428 : BitVec 32 := Scalar.remsi v2425 v2427
  let c0_i32_1580 : BitVec 32 := 0#32
  let v2430 : BitVec 1 := Scalar.cmpi .slt v2428 c0_i32_1580
  let c0_i32_1581 : BitVec 32 := 0#32
  let v2431 : BitVec 1 := Scalar.cmpi .slt v2427 c0_i32_1581
  let v2432 : BitVec 1 := Scalar.xori v2430 v2431
  let c0_i32_1579 : BitVec 32 := 0#32
  let v2429 : BitVec 1 := Scalar.cmpi .ne v2428 c0_i32_1579
  let v2433 : BitVec 1 := Scalar.andi v2432 v2429
  let v2434 : BitVec 32 := Scalar.addi v2428 v2427
  let v2435 : BitVec 32 := Scalar.select v2433 v2434 v2428
  let c16_i32_1582 : BitVec 32 := 16#32
  let v2436 : BitVec 32 := Scalar.muli v2435 c16_i32_1582
  let c384_i32_1583 : BitVec 32 := 384#32
  let v2437 : BitVec 1 := Scalar.cmpi .sge v2436 c384_i32_1583
  let c16_i32_1584 : BitVec 32 := 16#32
  let v2438 : BitVec 32 := Scalar.muli v2435 c16_i32_1584
  let c512_i32_1585 : BitVec 32 := 512#32
  let v2439 : BitVec 1 := Scalar.cmpi .slt v2438 c512_i32_1585
  let v2440 : BitVec 1 := Scalar.andi v2437 v2439
  let v2441 : BitVec 32 := Scalar.extui v2440
  let c0_i32_1586 : BitVec 32 := 0#32
  let v2442 : BitVec 1 := Scalar.cmpi .ne v2441 c0_i32_1586
  v2442

def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1575 : BitVec 32 := 10#32
  let v2425 : BitVec 32 := Scalar.addi v2 c10_i32_1575
  let c32_i32_1576 : BitVec 32 := 32#32
  let c0_i32_1577 : BitVec 32 := 0#32
  let v2426 : BitVec 1 := Scalar.cmpi .eq c32_i32_1576 c0_i32_1577
  let c1_i32_1578 : BitVec 32 := 1#32
  let v2427 : BitVec 32 := Scalar.select v2426 c1_i32_1578 c32_i32_1576
  let v2428 : BitVec 32 := Scalar.remsi v2425 v2427
  let c0_i32_1580 : BitVec 32 := 0#32
  let v2430 : BitVec 1 := Scalar.cmpi .slt v2428 c0_i32_1580
  let c0_i32_1581 : BitVec 32 := 0#32
  let v2431 : BitVec 1 := Scalar.cmpi .slt v2427 c0_i32_1581
  let v2432 : BitVec 1 := Scalar.xori v2430 v2431
  let c0_i32_1579 : BitVec 32 := 0#32
  let v2429 : BitVec 1 := Scalar.cmpi .ne v2428 c0_i32_1579
  let v2433 : BitVec 1 := Scalar.andi v2432 v2429
  let v2434 : BitVec 32 := Scalar.addi v2428 v2427
  let v2435 : BitVec 32 := Scalar.select v2433 v2434 v2428
  let c16_i32_2380 : BitVec 32 := 16#32
  let v3205 : BitVec 32 := Scalar.muli v2435 c16_i32_2380
  let c0_i32_2388 : BitVec 32 := 0#32
  ![v3205.toNat, 0]
def k0_dev135 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1575 : BitVec 32 := 10#32
  let v2425 : BitVec 32 := Scalar.addi v2 c10_i32_1575
  let c32_i32_1576 : BitVec 32 := 32#32
  let c0_i32_1577 : BitVec 32 := 0#32
  let v2426 : BitVec 1 := Scalar.cmpi .eq c32_i32_1576 c0_i32_1577
  let c1_i32_1578 : BitVec 32 := 1#32
  let v2427 : BitVec 32 := Scalar.select v2426 c1_i32_1578 c32_i32_1576
  let v2428 : BitVec 32 := Scalar.remsi v2425 v2427
  let c0_i32_1580 : BitVec 32 := 0#32
  let v2430 : BitVec 1 := Scalar.cmpi .slt v2428 c0_i32_1580
  let c0_i32_1581 : BitVec 32 := 0#32
  let v2431 : BitVec 1 := Scalar.cmpi .slt v2427 c0_i32_1581
  let v2432 : BitVec 1 := Scalar.xori v2430 v2431
  let c0_i32_1579 : BitVec 32 := 0#32
  let v2429 : BitVec 1 := Scalar.cmpi .ne v2428 c0_i32_1579
  let v2433 : BitVec 1 := Scalar.andi v2432 v2429
  let v2434 : BitVec 32 := Scalar.addi v2428 v2427
  let v2435 : BitVec 32 := Scalar.select v2433 v2434 v2428
  let c1_i32_2384 : BitVec 32 := 1#32
  let v3206 : BitVec 32 := Scalar.muli v2435 c1_i32_2384
  let v3207 : BitVec 32 := Scalar.addi c0_i32_2385 v3206
  v3207.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1587 : BitVec 32 := 11#32
  let v2443 : BitVec 32 := Scalar.addi v2 c11_i32_1587
  let c32_i32_1588 : BitVec 32 := 32#32
  let c0_i32_1589 : BitVec 32 := 0#32
  let v2444 : BitVec 1 := Scalar.cmpi .eq c32_i32_1588 c0_i32_1589
  let c1_i32_1590 : BitVec 32 := 1#32
  let v2445 : BitVec 32 := Scalar.select v2444 c1_i32_1590 c32_i32_1588
  let v2446 : BitVec 32 := Scalar.remsi v2443 v2445
  let c0_i32_1592 : BitVec 32 := 0#32
  let v2448 : BitVec 1 := Scalar.cmpi .slt v2446 c0_i32_1592
  let c0_i32_1593 : BitVec 32 := 0#32
  let v2449 : BitVec 1 := Scalar.cmpi .slt v2445 c0_i32_1593
  let v2450 : BitVec 1 := Scalar.xori v2448 v2449
  let c0_i32_1591 : BitVec 32 := 0#32
  let v2447 : BitVec 1 := Scalar.cmpi .ne v2446 c0_i32_1591
  let v2451 : BitVec 1 := Scalar.andi v2450 v2447
  let v2452 : BitVec 32 := Scalar.addi v2446 v2445
  let v2453 : BitVec 32 := Scalar.select v2451 v2452 v2446
  let c16_i32_1594 : BitVec 32 := 16#32
  let v2454 : BitVec 32 := Scalar.muli v2453 c16_i32_1594
  let c384_i32_1595 : BitVec 32 := 384#32
  let v2455 : BitVec 1 := Scalar.cmpi .sge v2454 c384_i32_1595
  let c16_i32_1596 : BitVec 32 := 16#32
  let v2456 : BitVec 32 := Scalar.muli v2453 c16_i32_1596
  let c512_i32_1597 : BitVec 32 := 512#32
  let v2457 : BitVec 1 := Scalar.cmpi .slt v2456 c512_i32_1597
  let v2458 : BitVec 1 := Scalar.andi v2455 v2457
  let v2459 : BitVec 32 := Scalar.extui v2458
  let c0_i32_1598 : BitVec 32 := 0#32
  let v2460 : BitVec 1 := Scalar.cmpi .ne v2459 c0_i32_1598
  v2460

def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1587 : BitVec 32 := 11#32
  let v2443 : BitVec 32 := Scalar.addi v2 c11_i32_1587
  let c32_i32_1588 : BitVec 32 := 32#32
  let c0_i32_1589 : BitVec 32 := 0#32
  let v2444 : BitVec 1 := Scalar.cmpi .eq c32_i32_1588 c0_i32_1589
  let c1_i32_1590 : BitVec 32 := 1#32
  let v2445 : BitVec 32 := Scalar.select v2444 c1_i32_1590 c32_i32_1588
  let v2446 : BitVec 32 := Scalar.remsi v2443 v2445
  let c0_i32_1592 : BitVec 32 := 0#32
  let v2448 : BitVec 1 := Scalar.cmpi .slt v2446 c0_i32_1592
  let c0_i32_1593 : BitVec 32 := 0#32
  let v2449 : BitVec 1 := Scalar.cmpi .slt v2445 c0_i32_1593
  let v2450 : BitVec 1 := Scalar.xori v2448 v2449
  let c0_i32_1591 : BitVec 32 := 0#32
  let v2447 : BitVec 1 := Scalar.cmpi .ne v2446 c0_i32_1591
  let v2451 : BitVec 1 := Scalar.andi v2450 v2447
  let v2452 : BitVec 32 := Scalar.addi v2446 v2445
  let v2453 : BitVec 32 := Scalar.select v2451 v2452 v2446
  let c16_i32_2380 : BitVec 32 := 16#32
  let v3205 : BitVec 32 := Scalar.muli v2453 c16_i32_2380
  let c0_i32_2388 : BitVec 32 := 0#32
  ![v3205.toNat, 0]
def k0_dev136 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1587 : BitVec 32 := 11#32
  let v2443 : BitVec 32 := Scalar.addi v2 c11_i32_1587
  let c32_i32_1588 : BitVec 32 := 32#32
  let c0_i32_1589 : BitVec 32 := 0#32
  let v2444 : BitVec 1 := Scalar.cmpi .eq c32_i32_1588 c0_i32_1589
  let c1_i32_1590 : BitVec 32 := 1#32
  let v2445 : BitVec 32 := Scalar.select v2444 c1_i32_1590 c32_i32_1588
  let v2446 : BitVec 32 := Scalar.remsi v2443 v2445
  let c0_i32_1592 : BitVec 32 := 0#32
  let v2448 : BitVec 1 := Scalar.cmpi .slt v2446 c0_i32_1592
  let c0_i32_1593 : BitVec 32 := 0#32
  let v2449 : BitVec 1 := Scalar.cmpi .slt v2445 c0_i32_1593
  let v2450 : BitVec 1 := Scalar.xori v2448 v2449
  let c0_i32_1591 : BitVec 32 := 0#32
  let v2447 : BitVec 1 := Scalar.cmpi .ne v2446 c0_i32_1591
  let v2451 : BitVec 1 := Scalar.andi v2450 v2447
  let v2452 : BitVec 32 := Scalar.addi v2446 v2445
  let v2453 : BitVec 32 := Scalar.select v2451 v2452 v2446
  let c1_i32_2384 : BitVec 32 := 1#32
  let v3206 : BitVec 32 := Scalar.muli v2453 c1_i32_2384
  let v3207 : BitVec 32 := Scalar.addi c0_i32_2385 v3206
  v3207.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1599 : BitVec 32 := 12#32
  let v2461 : BitVec 32 := Scalar.addi v2 c12_i32_1599
  let c32_i32_1600 : BitVec 32 := 32#32
  let c0_i32_1601 : BitVec 32 := 0#32
  let v2462 : BitVec 1 := Scalar.cmpi .eq c32_i32_1600 c0_i32_1601
  let c1_i32_1602 : BitVec 32 := 1#32
  let v2463 : BitVec 32 := Scalar.select v2462 c1_i32_1602 c32_i32_1600
  let v2464 : BitVec 32 := Scalar.remsi v2461 v2463
  let c0_i32_1604 : BitVec 32 := 0#32
  let v2466 : BitVec 1 := Scalar.cmpi .slt v2464 c0_i32_1604
  let c0_i32_1605 : BitVec 32 := 0#32
  let v2467 : BitVec 1 := Scalar.cmpi .slt v2463 c0_i32_1605
  let v2468 : BitVec 1 := Scalar.xori v2466 v2467
  let c0_i32_1603 : BitVec 32 := 0#32
  let v2465 : BitVec 1 := Scalar.cmpi .ne v2464 c0_i32_1603
  let v2469 : BitVec 1 := Scalar.andi v2468 v2465
  let v2470 : BitVec 32 := Scalar.addi v2464 v2463
  let v2471 : BitVec 32 := Scalar.select v2469 v2470 v2464
  let c16_i32_1606 : BitVec 32 := 16#32
  let v2472 : BitVec 32 := Scalar.muli v2471 c16_i32_1606
  let c384_i32_1607 : BitVec 32 := 384#32
  let v2473 : BitVec 1 := Scalar.cmpi .sge v2472 c384_i32_1607
  let c16_i32_1608 : BitVec 32 := 16#32
  let v2474 : BitVec 32 := Scalar.muli v2471 c16_i32_1608
  let c512_i32_1609 : BitVec 32 := 512#32
  let v2475 : BitVec 1 := Scalar.cmpi .slt v2474 c512_i32_1609
  let v2476 : BitVec 1 := Scalar.andi v2473 v2475
  let v2477 : BitVec 32 := Scalar.extui v2476
  let c0_i32_1610 : BitVec 32 := 0#32
  let v2478 : BitVec 1 := Scalar.cmpi .ne v2477 c0_i32_1610
  v2478

def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1599 : BitVec 32 := 12#32
  let v2461 : BitVec 32 := Scalar.addi v2 c12_i32_1599
  let c32_i32_1600 : BitVec 32 := 32#32
  let c0_i32_1601 : BitVec 32 := 0#32
  let v2462 : BitVec 1 := Scalar.cmpi .eq c32_i32_1600 c0_i32_1601
  let c1_i32_1602 : BitVec 32 := 1#32
  let v2463 : BitVec 32 := Scalar.select v2462 c1_i32_1602 c32_i32_1600
  let v2464 : BitVec 32 := Scalar.remsi v2461 v2463
  let c0_i32_1604 : BitVec 32 := 0#32
  let v2466 : BitVec 1 := Scalar.cmpi .slt v2464 c0_i32_1604
  let c0_i32_1605 : BitVec 32 := 0#32
  let v2467 : BitVec 1 := Scalar.cmpi .slt v2463 c0_i32_1605
  let v2468 : BitVec 1 := Scalar.xori v2466 v2467
  let c0_i32_1603 : BitVec 32 := 0#32
  let v2465 : BitVec 1 := Scalar.cmpi .ne v2464 c0_i32_1603
  let v2469 : BitVec 1 := Scalar.andi v2468 v2465
  let v2470 : BitVec 32 := Scalar.addi v2464 v2463
  let v2471 : BitVec 32 := Scalar.select v2469 v2470 v2464
  let c16_i32_2380 : BitVec 32 := 16#32
  let v3205 : BitVec 32 := Scalar.muli v2471 c16_i32_2380
  let c0_i32_2388 : BitVec 32 := 0#32
  ![v3205.toNat, 0]
def k0_dev137 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1599 : BitVec 32 := 12#32
  let v2461 : BitVec 32 := Scalar.addi v2 c12_i32_1599
  let c32_i32_1600 : BitVec 32 := 32#32
  let c0_i32_1601 : BitVec 32 := 0#32
  let v2462 : BitVec 1 := Scalar.cmpi .eq c32_i32_1600 c0_i32_1601
  let c1_i32_1602 : BitVec 32 := 1#32
  let v2463 : BitVec 32 := Scalar.select v2462 c1_i32_1602 c32_i32_1600
  let v2464 : BitVec 32 := Scalar.remsi v2461 v2463
  let c0_i32_1604 : BitVec 32 := 0#32
  let v2466 : BitVec 1 := Scalar.cmpi .slt v2464 c0_i32_1604
  let c0_i32_1605 : BitVec 32 := 0#32
  let v2467 : BitVec 1 := Scalar.cmpi .slt v2463 c0_i32_1605
  let v2468 : BitVec 1 := Scalar.xori v2466 v2467
  let c0_i32_1603 : BitVec 32 := 0#32
  let v2465 : BitVec 1 := Scalar.cmpi .ne v2464 c0_i32_1603
  let v2469 : BitVec 1 := Scalar.andi v2468 v2465
  let v2470 : BitVec 32 := Scalar.addi v2464 v2463
  let v2471 : BitVec 32 := Scalar.select v2469 v2470 v2464
  let c1_i32_2384 : BitVec 32 := 1#32
  let v3206 : BitVec 32 := Scalar.muli v2471 c1_i32_2384
  let v3207 : BitVec 32 := Scalar.addi c0_i32_2385 v3206
  v3207.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1611 : BitVec 32 := 13#32
  let v2479 : BitVec 32 := Scalar.addi v2 c13_i32_1611
  let c32_i32_1612 : BitVec 32 := 32#32
  let c0_i32_1613 : BitVec 32 := 0#32
  let v2480 : BitVec 1 := Scalar.cmpi .eq c32_i32_1612 c0_i32_1613
  let c1_i32_1614 : BitVec 32 := 1#32
  let v2481 : BitVec 32 := Scalar.select v2480 c1_i32_1614 c32_i32_1612
  let v2482 : BitVec 32 := Scalar.remsi v2479 v2481
  let c0_i32_1616 : BitVec 32 := 0#32
  let v2484 : BitVec 1 := Scalar.cmpi .slt v2482 c0_i32_1616
  let c0_i32_1617 : BitVec 32 := 0#32
  let v2485 : BitVec 1 := Scalar.cmpi .slt v2481 c0_i32_1617
  let v2486 : BitVec 1 := Scalar.xori v2484 v2485
  let c0_i32_1615 : BitVec 32 := 0#32
  let v2483 : BitVec 1 := Scalar.cmpi .ne v2482 c0_i32_1615
  let v2487 : BitVec 1 := Scalar.andi v2486 v2483
  let v2488 : BitVec 32 := Scalar.addi v2482 v2481
  let v2489 : BitVec 32 := Scalar.select v2487 v2488 v2482
  let c16_i32_1618 : BitVec 32 := 16#32
  let v2490 : BitVec 32 := Scalar.muli v2489 c16_i32_1618
  let c384_i32_1619 : BitVec 32 := 384#32
  let v2491 : BitVec 1 := Scalar.cmpi .sge v2490 c384_i32_1619
  let c16_i32_1620 : BitVec 32 := 16#32
  let v2492 : BitVec 32 := Scalar.muli v2489 c16_i32_1620
  let c512_i32_1621 : BitVec 32 := 512#32
  let v2493 : BitVec 1 := Scalar.cmpi .slt v2492 c512_i32_1621
  let v2494 : BitVec 1 := Scalar.andi v2491 v2493
  let v2495 : BitVec 32 := Scalar.extui v2494
  let c0_i32_1622 : BitVec 32 := 0#32
  let v2496 : BitVec 1 := Scalar.cmpi .ne v2495 c0_i32_1622
  v2496

def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1611 : BitVec 32 := 13#32
  let v2479 : BitVec 32 := Scalar.addi v2 c13_i32_1611
  let c32_i32_1612 : BitVec 32 := 32#32
  let c0_i32_1613 : BitVec 32 := 0#32
  let v2480 : BitVec 1 := Scalar.cmpi .eq c32_i32_1612 c0_i32_1613
  let c1_i32_1614 : BitVec 32 := 1#32
  let v2481 : BitVec 32 := Scalar.select v2480 c1_i32_1614 c32_i32_1612
  let v2482 : BitVec 32 := Scalar.remsi v2479 v2481
  let c0_i32_1616 : BitVec 32 := 0#32
  let v2484 : BitVec 1 := Scalar.cmpi .slt v2482 c0_i32_1616
  let c0_i32_1617 : BitVec 32 := 0#32
  let v2485 : BitVec 1 := Scalar.cmpi .slt v2481 c0_i32_1617
  let v2486 : BitVec 1 := Scalar.xori v2484 v2485
  let c0_i32_1615 : BitVec 32 := 0#32
  let v2483 : BitVec 1 := Scalar.cmpi .ne v2482 c0_i32_1615
  let v2487 : BitVec 1 := Scalar.andi v2486 v2483
  let v2488 : BitVec 32 := Scalar.addi v2482 v2481
  let v2489 : BitVec 32 := Scalar.select v2487 v2488 v2482
  let c16_i32_2380 : BitVec 32 := 16#32
  let v3205 : BitVec 32 := Scalar.muli v2489 c16_i32_2380
  let c0_i32_2388 : BitVec 32 := 0#32
  ![v3205.toNat, 0]
def k0_dev138 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1611 : BitVec 32 := 13#32
  let v2479 : BitVec 32 := Scalar.addi v2 c13_i32_1611
  let c32_i32_1612 : BitVec 32 := 32#32
  let c0_i32_1613 : BitVec 32 := 0#32
  let v2480 : BitVec 1 := Scalar.cmpi .eq c32_i32_1612 c0_i32_1613
  let c1_i32_1614 : BitVec 32 := 1#32
  let v2481 : BitVec 32 := Scalar.select v2480 c1_i32_1614 c32_i32_1612
  let v2482 : BitVec 32 := Scalar.remsi v2479 v2481
  let c0_i32_1616 : BitVec 32 := 0#32
  let v2484 : BitVec 1 := Scalar.cmpi .slt v2482 c0_i32_1616
  let c0_i32_1617 : BitVec 32 := 0#32
  let v2485 : BitVec 1 := Scalar.cmpi .slt v2481 c0_i32_1617
  let v2486 : BitVec 1 := Scalar.xori v2484 v2485
  let c0_i32_1615 : BitVec 32 := 0#32
  let v2483 : BitVec 1 := Scalar.cmpi .ne v2482 c0_i32_1615
  let v2487 : BitVec 1 := Scalar.andi v2486 v2483
  let v2488 : BitVec 32 := Scalar.addi v2482 v2481
  let v2489 : BitVec 32 := Scalar.select v2487 v2488 v2482
  let c1_i32_2384 : BitVec 32 := 1#32
  let v3206 : BitVec 32 := Scalar.muli v2489 c1_i32_2384
  let v3207 : BitVec 32 := Scalar.addi c0_i32_2385 v3206
  v3207.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1623 : BitVec 32 := 14#32
  let v2497 : BitVec 32 := Scalar.addi v2 c14_i32_1623
  let c32_i32_1624 : BitVec 32 := 32#32
  let c0_i32_1625 : BitVec 32 := 0#32
  let v2498 : BitVec 1 := Scalar.cmpi .eq c32_i32_1624 c0_i32_1625
  let c1_i32_1626 : BitVec 32 := 1#32
  let v2499 : BitVec 32 := Scalar.select v2498 c1_i32_1626 c32_i32_1624
  let v2500 : BitVec 32 := Scalar.remsi v2497 v2499
  let c0_i32_1628 : BitVec 32 := 0#32
  let v2502 : BitVec 1 := Scalar.cmpi .slt v2500 c0_i32_1628
  let c0_i32_1629 : BitVec 32 := 0#32
  let v2503 : BitVec 1 := Scalar.cmpi .slt v2499 c0_i32_1629
  let v2504 : BitVec 1 := Scalar.xori v2502 v2503
  let c0_i32_1627 : BitVec 32 := 0#32
  let v2501 : BitVec 1 := Scalar.cmpi .ne v2500 c0_i32_1627
  let v2505 : BitVec 1 := Scalar.andi v2504 v2501
  let v2506 : BitVec 32 := Scalar.addi v2500 v2499
  let v2507 : BitVec 32 := Scalar.select v2505 v2506 v2500
  let c16_i32_1630 : BitVec 32 := 16#32
  let v2508 : BitVec 32 := Scalar.muli v2507 c16_i32_1630
  let c384_i32_1631 : BitVec 32 := 384#32
  let v2509 : BitVec 1 := Scalar.cmpi .sge v2508 c384_i32_1631
  let c16_i32_1632 : BitVec 32 := 16#32
  let v2510 : BitVec 32 := Scalar.muli v2507 c16_i32_1632
  let c512_i32_1633 : BitVec 32 := 512#32
  let v2511 : BitVec 1 := Scalar.cmpi .slt v2510 c512_i32_1633
  let v2512 : BitVec 1 := Scalar.andi v2509 v2511
  let v2513 : BitVec 32 := Scalar.extui v2512
  let c0_i32_1634 : BitVec 32 := 0#32
  let v2514 : BitVec 1 := Scalar.cmpi .ne v2513 c0_i32_1634
  v2514

def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1623 : BitVec 32 := 14#32
  let v2497 : BitVec 32 := Scalar.addi v2 c14_i32_1623
  let c32_i32_1624 : BitVec 32 := 32#32
  let c0_i32_1625 : BitVec 32 := 0#32
  let v2498 : BitVec 1 := Scalar.cmpi .eq c32_i32_1624 c0_i32_1625
  let c1_i32_1626 : BitVec 32 := 1#32
  let v2499 : BitVec 32 := Scalar.select v2498 c1_i32_1626 c32_i32_1624
  let v2500 : BitVec 32 := Scalar.remsi v2497 v2499
  let c0_i32_1628 : BitVec 32 := 0#32
  let v2502 : BitVec 1 := Scalar.cmpi .slt v2500 c0_i32_1628
  let c0_i32_1629 : BitVec 32 := 0#32
  let v2503 : BitVec 1 := Scalar.cmpi .slt v2499 c0_i32_1629
  let v2504 : BitVec 1 := Scalar.xori v2502 v2503
  let c0_i32_1627 : BitVec 32 := 0#32
  let v2501 : BitVec 1 := Scalar.cmpi .ne v2500 c0_i32_1627
  let v2505 : BitVec 1 := Scalar.andi v2504 v2501
  let v2506 : BitVec 32 := Scalar.addi v2500 v2499
  let v2507 : BitVec 32 := Scalar.select v2505 v2506 v2500
  let c16_i32_2380 : BitVec 32 := 16#32
  let v3205 : BitVec 32 := Scalar.muli v2507 c16_i32_2380
  let c0_i32_2388 : BitVec 32 := 0#32
  ![v3205.toNat, 0]
def k0_dev139 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1623 : BitVec 32 := 14#32
  let v2497 : BitVec 32 := Scalar.addi v2 c14_i32_1623
  let c32_i32_1624 : BitVec 32 := 32#32
  let c0_i32_1625 : BitVec 32 := 0#32
  let v2498 : BitVec 1 := Scalar.cmpi .eq c32_i32_1624 c0_i32_1625
  let c1_i32_1626 : BitVec 32 := 1#32
  let v2499 : BitVec 32 := Scalar.select v2498 c1_i32_1626 c32_i32_1624
  let v2500 : BitVec 32 := Scalar.remsi v2497 v2499
  let c0_i32_1628 : BitVec 32 := 0#32
  let v2502 : BitVec 1 := Scalar.cmpi .slt v2500 c0_i32_1628
  let c0_i32_1629 : BitVec 32 := 0#32
  let v2503 : BitVec 1 := Scalar.cmpi .slt v2499 c0_i32_1629
  let v2504 : BitVec 1 := Scalar.xori v2502 v2503
  let c0_i32_1627 : BitVec 32 := 0#32
  let v2501 : BitVec 1 := Scalar.cmpi .ne v2500 c0_i32_1627
  let v2505 : BitVec 1 := Scalar.andi v2504 v2501
  let v2506 : BitVec 32 := Scalar.addi v2500 v2499
  let v2507 : BitVec 32 := Scalar.select v2505 v2506 v2500
  let c1_i32_2384 : BitVec 32 := 1#32
  let v3206 : BitVec 32 := Scalar.muli v2507 c1_i32_2384
  let v3207 : BitVec 32 := Scalar.addi c0_i32_2385 v3206
  v3207.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1635 : BitVec 32 := 15#32
  let v2515 : BitVec 32 := Scalar.addi v2 c15_i32_1635
  let c32_i32_1636 : BitVec 32 := 32#32
  let c0_i32_1637 : BitVec 32 := 0#32
  let v2516 : BitVec 1 := Scalar.cmpi .eq c32_i32_1636 c0_i32_1637
  let c1_i32_1638 : BitVec 32 := 1#32
  let v2517 : BitVec 32 := Scalar.select v2516 c1_i32_1638 c32_i32_1636
  let v2518 : BitVec 32 := Scalar.remsi v2515 v2517
  let c0_i32_1640 : BitVec 32 := 0#32
  let v2520 : BitVec 1 := Scalar.cmpi .slt v2518 c0_i32_1640
  let c0_i32_1641 : BitVec 32 := 0#32
  let v2521 : BitVec 1 := Scalar.cmpi .slt v2517 c0_i32_1641
  let v2522 : BitVec 1 := Scalar.xori v2520 v2521
  let c0_i32_1639 : BitVec 32 := 0#32
  let v2519 : BitVec 1 := Scalar.cmpi .ne v2518 c0_i32_1639
  let v2523 : BitVec 1 := Scalar.andi v2522 v2519
  let v2524 : BitVec 32 := Scalar.addi v2518 v2517
  let v2525 : BitVec 32 := Scalar.select v2523 v2524 v2518
  let c16_i32_1642 : BitVec 32 := 16#32
  let v2526 : BitVec 32 := Scalar.muli v2525 c16_i32_1642
  let c384_i32_1643 : BitVec 32 := 384#32
  let v2527 : BitVec 1 := Scalar.cmpi .sge v2526 c384_i32_1643
  let c16_i32_1644 : BitVec 32 := 16#32
  let v2528 : BitVec 32 := Scalar.muli v2525 c16_i32_1644
  let c512_i32_1645 : BitVec 32 := 512#32
  let v2529 : BitVec 1 := Scalar.cmpi .slt v2528 c512_i32_1645
  let v2530 : BitVec 1 := Scalar.andi v2527 v2529
  let v2531 : BitVec 32 := Scalar.extui v2530
  let c0_i32_1646 : BitVec 32 := 0#32
  let v2532 : BitVec 1 := Scalar.cmpi .ne v2531 c0_i32_1646
  v2532

def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1635 : BitVec 32 := 15#32
  let v2515 : BitVec 32 := Scalar.addi v2 c15_i32_1635
  let c32_i32_1636 : BitVec 32 := 32#32
  let c0_i32_1637 : BitVec 32 := 0#32
  let v2516 : BitVec 1 := Scalar.cmpi .eq c32_i32_1636 c0_i32_1637
  let c1_i32_1638 : BitVec 32 := 1#32
  let v2517 : BitVec 32 := Scalar.select v2516 c1_i32_1638 c32_i32_1636
  let v2518 : BitVec 32 := Scalar.remsi v2515 v2517
  let c0_i32_1640 : BitVec 32 := 0#32
  let v2520 : BitVec 1 := Scalar.cmpi .slt v2518 c0_i32_1640
  let c0_i32_1641 : BitVec 32 := 0#32
  let v2521 : BitVec 1 := Scalar.cmpi .slt v2517 c0_i32_1641
  let v2522 : BitVec 1 := Scalar.xori v2520 v2521
  let c0_i32_1639 : BitVec 32 := 0#32
  let v2519 : BitVec 1 := Scalar.cmpi .ne v2518 c0_i32_1639
  let v2523 : BitVec 1 := Scalar.andi v2522 v2519
  let v2524 : BitVec 32 := Scalar.addi v2518 v2517
  let v2525 : BitVec 32 := Scalar.select v2523 v2524 v2518
  let c16_i32_2380 : BitVec 32 := 16#32
  let v3205 : BitVec 32 := Scalar.muli v2525 c16_i32_2380
  let c0_i32_2388 : BitVec 32 := 0#32
  ![v3205.toNat, 0]
def k0_dev140 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1635 : BitVec 32 := 15#32
  let v2515 : BitVec 32 := Scalar.addi v2 c15_i32_1635
  let c32_i32_1636 : BitVec 32 := 32#32
  let c0_i32_1637 : BitVec 32 := 0#32
  let v2516 : BitVec 1 := Scalar.cmpi .eq c32_i32_1636 c0_i32_1637
  let c1_i32_1638 : BitVec 32 := 1#32
  let v2517 : BitVec 32 := Scalar.select v2516 c1_i32_1638 c32_i32_1636
  let v2518 : BitVec 32 := Scalar.remsi v2515 v2517
  let c0_i32_1640 : BitVec 32 := 0#32
  let v2520 : BitVec 1 := Scalar.cmpi .slt v2518 c0_i32_1640
  let c0_i32_1641 : BitVec 32 := 0#32
  let v2521 : BitVec 1 := Scalar.cmpi .slt v2517 c0_i32_1641
  let v2522 : BitVec 1 := Scalar.xori v2520 v2521
  let c0_i32_1639 : BitVec 32 := 0#32
  let v2519 : BitVec 1 := Scalar.cmpi .ne v2518 c0_i32_1639
  let v2523 : BitVec 1 := Scalar.andi v2522 v2519
  let v2524 : BitVec 32 := Scalar.addi v2518 v2517
  let v2525 : BitVec 32 := Scalar.select v2523 v2524 v2518
  let c1_i32_2384 : BitVec 32 := 1#32
  let v3206 : BitVec 32 := Scalar.muli v2525 c1_i32_2384
  let v3207 : BitVec 32 := Scalar.addi c0_i32_2385 v3206
  v3207.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1647 : BitVec 32 := 16#32
  let v2533 : BitVec 32 := Scalar.addi v2 c16_i32_1647
  let c32_i32_1648 : BitVec 32 := 32#32
  let c0_i32_1649 : BitVec 32 := 0#32
  let v2534 : BitVec 1 := Scalar.cmpi .eq c32_i32_1648 c0_i32_1649
  let c1_i32_1650 : BitVec 32 := 1#32
  let v2535 : BitVec 32 := Scalar.select v2534 c1_i32_1650 c32_i32_1648
  let v2536 : BitVec 32 := Scalar.remsi v2533 v2535
  let c0_i32_1652 : BitVec 32 := 0#32
  let v2538 : BitVec 1 := Scalar.cmpi .slt v2536 c0_i32_1652
  let c0_i32_1653 : BitVec 32 := 0#32
  let v2539 : BitVec 1 := Scalar.cmpi .slt v2535 c0_i32_1653
  let v2540 : BitVec 1 := Scalar.xori v2538 v2539
  let c0_i32_1651 : BitVec 32 := 0#32
  let v2537 : BitVec 1 := Scalar.cmpi .ne v2536 c0_i32_1651
  let v2541 : BitVec 1 := Scalar.andi v2540 v2537
  let v2542 : BitVec 32 := Scalar.addi v2536 v2535
  let v2543 : BitVec 32 := Scalar.select v2541 v2542 v2536
  let c16_i32_1654 : BitVec 32 := 16#32
  let v2544 : BitVec 32 := Scalar.muli v2543 c16_i32_1654
  let c384_i32_1655 : BitVec 32 := 384#32
  let v2545 : BitVec 1 := Scalar.cmpi .sge v2544 c384_i32_1655
  let c16_i32_1656 : BitVec 32 := 16#32
  let v2546 : BitVec 32 := Scalar.muli v2543 c16_i32_1656
  let c512_i32_1657 : BitVec 32 := 512#32
  let v2547 : BitVec 1 := Scalar.cmpi .slt v2546 c512_i32_1657
  let v2548 : BitVec 1 := Scalar.andi v2545 v2547
  let v2549 : BitVec 32 := Scalar.extui v2548
  let c0_i32_1658 : BitVec 32 := 0#32
  let v2550 : BitVec 1 := Scalar.cmpi .ne v2549 c0_i32_1658
  v2550

def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1647 : BitVec 32 := 16#32
  let v2533 : BitVec 32 := Scalar.addi v2 c16_i32_1647
  let c32_i32_1648 : BitVec 32 := 32#32
  let c0_i32_1649 : BitVec 32 := 0#32
  let v2534 : BitVec 1 := Scalar.cmpi .eq c32_i32_1648 c0_i32_1649
  let c1_i32_1650 : BitVec 32 := 1#32
  let v2535 : BitVec 32 := Scalar.select v2534 c1_i32_1650 c32_i32_1648
  let v2536 : BitVec 32 := Scalar.remsi v2533 v2535
  let c0_i32_1652 : BitVec 32 := 0#32
  let v2538 : BitVec 1 := Scalar.cmpi .slt v2536 c0_i32_1652
  let c0_i32_1653 : BitVec 32 := 0#32
  let v2539 : BitVec 1 := Scalar.cmpi .slt v2535 c0_i32_1653
  let v2540 : BitVec 1 := Scalar.xori v2538 v2539
  let c0_i32_1651 : BitVec 32 := 0#32
  let v2537 : BitVec 1 := Scalar.cmpi .ne v2536 c0_i32_1651
  let v2541 : BitVec 1 := Scalar.andi v2540 v2537
  let v2542 : BitVec 32 := Scalar.addi v2536 v2535
  let v2543 : BitVec 32 := Scalar.select v2541 v2542 v2536
  let c16_i32_2380 : BitVec 32 := 16#32
  let v3205 : BitVec 32 := Scalar.muli v2543 c16_i32_2380
  let c0_i32_2388 : BitVec 32 := 0#32
  ![v3205.toNat, 0]
def k0_dev141 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1647 : BitVec 32 := 16#32
  let v2533 : BitVec 32 := Scalar.addi v2 c16_i32_1647
  let c32_i32_1648 : BitVec 32 := 32#32
  let c0_i32_1649 : BitVec 32 := 0#32
  let v2534 : BitVec 1 := Scalar.cmpi .eq c32_i32_1648 c0_i32_1649
  let c1_i32_1650 : BitVec 32 := 1#32
  let v2535 : BitVec 32 := Scalar.select v2534 c1_i32_1650 c32_i32_1648
  let v2536 : BitVec 32 := Scalar.remsi v2533 v2535
  let c0_i32_1652 : BitVec 32 := 0#32
  let v2538 : BitVec 1 := Scalar.cmpi .slt v2536 c0_i32_1652
  let c0_i32_1653 : BitVec 32 := 0#32
  let v2539 : BitVec 1 := Scalar.cmpi .slt v2535 c0_i32_1653
  let v2540 : BitVec 1 := Scalar.xori v2538 v2539
  let c0_i32_1651 : BitVec 32 := 0#32
  let v2537 : BitVec 1 := Scalar.cmpi .ne v2536 c0_i32_1651
  let v2541 : BitVec 1 := Scalar.andi v2540 v2537
  let v2542 : BitVec 32 := Scalar.addi v2536 v2535
  let v2543 : BitVec 32 := Scalar.select v2541 v2542 v2536
  let c1_i32_2384 : BitVec 32 := 1#32
  let v3206 : BitVec 32 := Scalar.muli v2543 c1_i32_2384
  let v3207 : BitVec 32 := Scalar.addi c0_i32_2385 v3206
  v3207.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1659 : BitVec 32 := 17#32
  let v2551 : BitVec 32 := Scalar.addi v2 c17_i32_1659
  let c32_i32_1660 : BitVec 32 := 32#32
  let c0_i32_1661 : BitVec 32 := 0#32
  let v2552 : BitVec 1 := Scalar.cmpi .eq c32_i32_1660 c0_i32_1661
  let c1_i32_1662 : BitVec 32 := 1#32
  let v2553 : BitVec 32 := Scalar.select v2552 c1_i32_1662 c32_i32_1660
  let v2554 : BitVec 32 := Scalar.remsi v2551 v2553
  let c0_i32_1664 : BitVec 32 := 0#32
  let v2556 : BitVec 1 := Scalar.cmpi .slt v2554 c0_i32_1664
  let c0_i32_1665 : BitVec 32 := 0#32
  let v2557 : BitVec 1 := Scalar.cmpi .slt v2553 c0_i32_1665
  let v2558 : BitVec 1 := Scalar.xori v2556 v2557
  let c0_i32_1663 : BitVec 32 := 0#32
  let v2555 : BitVec 1 := Scalar.cmpi .ne v2554 c0_i32_1663
  let v2559 : BitVec 1 := Scalar.andi v2558 v2555
  let v2560 : BitVec 32 := Scalar.addi v2554 v2553
  let v2561 : BitVec 32 := Scalar.select v2559 v2560 v2554
  let c16_i32_1666 : BitVec 32 := 16#32
  let v2562 : BitVec 32 := Scalar.muli v2561 c16_i32_1666
  let c384_i32_1667 : BitVec 32 := 384#32
  let v2563 : BitVec 1 := Scalar.cmpi .sge v2562 c384_i32_1667
  let c16_i32_1668 : BitVec 32 := 16#32
  let v2564 : BitVec 32 := Scalar.muli v2561 c16_i32_1668
  let c512_i32_1669 : BitVec 32 := 512#32
  let v2565 : BitVec 1 := Scalar.cmpi .slt v2564 c512_i32_1669
  let v2566 : BitVec 1 := Scalar.andi v2563 v2565
  let v2567 : BitVec 32 := Scalar.extui v2566
  let c0_i32_1670 : BitVec 32 := 0#32
  let v2568 : BitVec 1 := Scalar.cmpi .ne v2567 c0_i32_1670
  v2568

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1659 : BitVec 32 := 17#32
  let v2551 : BitVec 32 := Scalar.addi v2 c17_i32_1659
  let c32_i32_1660 : BitVec 32 := 32#32
  let c0_i32_1661 : BitVec 32 := 0#32
  let v2552 : BitVec 1 := Scalar.cmpi .eq c32_i32_1660 c0_i32_1661
  let c1_i32_1662 : BitVec 32 := 1#32
  let v2553 : BitVec 32 := Scalar.select v2552 c1_i32_1662 c32_i32_1660
  let v2554 : BitVec 32 := Scalar.remsi v2551 v2553
  let c0_i32_1664 : BitVec 32 := 0#32
  let v2556 : BitVec 1 := Scalar.cmpi .slt v2554 c0_i32_1664
  let c0_i32_1665 : BitVec 32 := 0#32
  let v2557 : BitVec 1 := Scalar.cmpi .slt v2553 c0_i32_1665
  let v2558 : BitVec 1 := Scalar.xori v2556 v2557
  let c0_i32_1663 : BitVec 32 := 0#32
  let v2555 : BitVec 1 := Scalar.cmpi .ne v2554 c0_i32_1663
  let v2559 : BitVec 1 := Scalar.andi v2558 v2555
  let v2560 : BitVec 32 := Scalar.addi v2554 v2553
  let v2561 : BitVec 32 := Scalar.select v2559 v2560 v2554
  let c16_i32_2380 : BitVec 32 := 16#32
  let v3205 : BitVec 32 := Scalar.muli v2561 c16_i32_2380
  let c0_i32_2388 : BitVec 32 := 0#32
  ![v3205.toNat, 0]
def k0_dev142 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1659 : BitVec 32 := 17#32
  let v2551 : BitVec 32 := Scalar.addi v2 c17_i32_1659
  let c32_i32_1660 : BitVec 32 := 32#32
  let c0_i32_1661 : BitVec 32 := 0#32
  let v2552 : BitVec 1 := Scalar.cmpi .eq c32_i32_1660 c0_i32_1661
  let c1_i32_1662 : BitVec 32 := 1#32
  let v2553 : BitVec 32 := Scalar.select v2552 c1_i32_1662 c32_i32_1660
  let v2554 : BitVec 32 := Scalar.remsi v2551 v2553
  let c0_i32_1664 : BitVec 32 := 0#32
  let v2556 : BitVec 1 := Scalar.cmpi .slt v2554 c0_i32_1664
  let c0_i32_1665 : BitVec 32 := 0#32
  let v2557 : BitVec 1 := Scalar.cmpi .slt v2553 c0_i32_1665
  let v2558 : BitVec 1 := Scalar.xori v2556 v2557
  let c0_i32_1663 : BitVec 32 := 0#32
  let v2555 : BitVec 1 := Scalar.cmpi .ne v2554 c0_i32_1663
  let v2559 : BitVec 1 := Scalar.andi v2558 v2555
  let v2560 : BitVec 32 := Scalar.addi v2554 v2553
  let v2561 : BitVec 32 := Scalar.select v2559 v2560 v2554
  let c1_i32_2384 : BitVec 32 := 1#32
  let v3206 : BitVec 32 := Scalar.muli v2561 c1_i32_2384
  let v3207 : BitVec 32 := Scalar.addi c0_i32_2385 v3206
  v3207.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1671 : BitVec 32 := 18#32
  let v2569 : BitVec 32 := Scalar.addi v2 c18_i32_1671
  let c32_i32_1672 : BitVec 32 := 32#32
  let c0_i32_1673 : BitVec 32 := 0#32
  let v2570 : BitVec 1 := Scalar.cmpi .eq c32_i32_1672 c0_i32_1673
  let c1_i32_1674 : BitVec 32 := 1#32
  let v2571 : BitVec 32 := Scalar.select v2570 c1_i32_1674 c32_i32_1672
  let v2572 : BitVec 32 := Scalar.remsi v2569 v2571
  let c0_i32_1676 : BitVec 32 := 0#32
  let v2574 : BitVec 1 := Scalar.cmpi .slt v2572 c0_i32_1676
  let c0_i32_1677 : BitVec 32 := 0#32
  let v2575 : BitVec 1 := Scalar.cmpi .slt v2571 c0_i32_1677
  let v2576 : BitVec 1 := Scalar.xori v2574 v2575
  let c0_i32_1675 : BitVec 32 := 0#32
  let v2573 : BitVec 1 := Scalar.cmpi .ne v2572 c0_i32_1675
  let v2577 : BitVec 1 := Scalar.andi v2576 v2573
  let v2578 : BitVec 32 := Scalar.addi v2572 v2571
  let v2579 : BitVec 32 := Scalar.select v2577 v2578 v2572
  let c16_i32_1678 : BitVec 32 := 16#32
  let v2580 : BitVec 32 := Scalar.muli v2579 c16_i32_1678
  let c384_i32_1679 : BitVec 32 := 384#32
  let v2581 : BitVec 1 := Scalar.cmpi .sge v2580 c384_i32_1679
  let c16_i32_1680 : BitVec 32 := 16#32
  let v2582 : BitVec 32 := Scalar.muli v2579 c16_i32_1680
  let c512_i32_1681 : BitVec 32 := 512#32
  let v2583 : BitVec 1 := Scalar.cmpi .slt v2582 c512_i32_1681
  let v2584 : BitVec 1 := Scalar.andi v2581 v2583
  let v2585 : BitVec 32 := Scalar.extui v2584
  let c0_i32_1682 : BitVec 32 := 0#32
  let v2586 : BitVec 1 := Scalar.cmpi .ne v2585 c0_i32_1682
  v2586

def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1671 : BitVec 32 := 18#32
  let v2569 : BitVec 32 := Scalar.addi v2 c18_i32_1671
  let c32_i32_1672 : BitVec 32 := 32#32
  let c0_i32_1673 : BitVec 32 := 0#32
  let v2570 : BitVec 1 := Scalar.cmpi .eq c32_i32_1672 c0_i32_1673
  let c1_i32_1674 : BitVec 32 := 1#32
  let v2571 : BitVec 32 := Scalar.select v2570 c1_i32_1674 c32_i32_1672
  let v2572 : BitVec 32 := Scalar.remsi v2569 v2571
  let c0_i32_1676 : BitVec 32 := 0#32
  let v2574 : BitVec 1 := Scalar.cmpi .slt v2572 c0_i32_1676
  let c0_i32_1677 : BitVec 32 := 0#32
  let v2575 : BitVec 1 := Scalar.cmpi .slt v2571 c0_i32_1677
  let v2576 : BitVec 1 := Scalar.xori v2574 v2575
  let c0_i32_1675 : BitVec 32 := 0#32
  let v2573 : BitVec 1 := Scalar.cmpi .ne v2572 c0_i32_1675
  let v2577 : BitVec 1 := Scalar.andi v2576 v2573
  let v2578 : BitVec 32 := Scalar.addi v2572 v2571
  let v2579 : BitVec 32 := Scalar.select v2577 v2578 v2572
  let c16_i32_2380 : BitVec 32 := 16#32
  let v3205 : BitVec 32 := Scalar.muli v2579 c16_i32_2380
  let c0_i32_2388 : BitVec 32 := 0#32
  ![v3205.toNat, 0]
def k0_dev143 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1671 : BitVec 32 := 18#32
  let v2569 : BitVec 32 := Scalar.addi v2 c18_i32_1671
  let c32_i32_1672 : BitVec 32 := 32#32
  let c0_i32_1673 : BitVec 32 := 0#32
  let v2570 : BitVec 1 := Scalar.cmpi .eq c32_i32_1672 c0_i32_1673
  let c1_i32_1674 : BitVec 32 := 1#32
  let v2571 : BitVec 32 := Scalar.select v2570 c1_i32_1674 c32_i32_1672
  let v2572 : BitVec 32 := Scalar.remsi v2569 v2571
  let c0_i32_1676 : BitVec 32 := 0#32
  let v2574 : BitVec 1 := Scalar.cmpi .slt v2572 c0_i32_1676
  let c0_i32_1677 : BitVec 32 := 0#32
  let v2575 : BitVec 1 := Scalar.cmpi .slt v2571 c0_i32_1677
  let v2576 : BitVec 1 := Scalar.xori v2574 v2575
  let c0_i32_1675 : BitVec 32 := 0#32
  let v2573 : BitVec 1 := Scalar.cmpi .ne v2572 c0_i32_1675
  let v2577 : BitVec 1 := Scalar.andi v2576 v2573
  let v2578 : BitVec 32 := Scalar.addi v2572 v2571
  let v2579 : BitVec 32 := Scalar.select v2577 v2578 v2572
  let c1_i32_2384 : BitVec 32 := 1#32
  let v3206 : BitVec 32 := Scalar.muli v2579 c1_i32_2384
  let v3207 : BitVec 32 := Scalar.addi c0_i32_2385 v3206
  v3207.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1683 : BitVec 32 := 19#32
  let v2587 : BitVec 32 := Scalar.addi v2 c19_i32_1683
  let c32_i32_1684 : BitVec 32 := 32#32
  let c0_i32_1685 : BitVec 32 := 0#32
  let v2588 : BitVec 1 := Scalar.cmpi .eq c32_i32_1684 c0_i32_1685
  let c1_i32_1686 : BitVec 32 := 1#32
  let v2589 : BitVec 32 := Scalar.select v2588 c1_i32_1686 c32_i32_1684
  let v2590 : BitVec 32 := Scalar.remsi v2587 v2589
  let c0_i32_1688 : BitVec 32 := 0#32
  let v2592 : BitVec 1 := Scalar.cmpi .slt v2590 c0_i32_1688
  let c0_i32_1689 : BitVec 32 := 0#32
  let v2593 : BitVec 1 := Scalar.cmpi .slt v2589 c0_i32_1689
  let v2594 : BitVec 1 := Scalar.xori v2592 v2593
  let c0_i32_1687 : BitVec 32 := 0#32
  let v2591 : BitVec 1 := Scalar.cmpi .ne v2590 c0_i32_1687
  let v2595 : BitVec 1 := Scalar.andi v2594 v2591
  let v2596 : BitVec 32 := Scalar.addi v2590 v2589
  let v2597 : BitVec 32 := Scalar.select v2595 v2596 v2590
  let c16_i32_1690 : BitVec 32 := 16#32
  let v2598 : BitVec 32 := Scalar.muli v2597 c16_i32_1690
  let c384_i32_1691 : BitVec 32 := 384#32
  let v2599 : BitVec 1 := Scalar.cmpi .sge v2598 c384_i32_1691
  let c16_i32_1692 : BitVec 32 := 16#32
  let v2600 : BitVec 32 := Scalar.muli v2597 c16_i32_1692
  let c512_i32_1693 : BitVec 32 := 512#32
  let v2601 : BitVec 1 := Scalar.cmpi .slt v2600 c512_i32_1693
  let v2602 : BitVec 1 := Scalar.andi v2599 v2601
  let v2603 : BitVec 32 := Scalar.extui v2602
  let c0_i32_1694 : BitVec 32 := 0#32
  let v2604 : BitVec 1 := Scalar.cmpi .ne v2603 c0_i32_1694
  v2604

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1683 : BitVec 32 := 19#32
  let v2587 : BitVec 32 := Scalar.addi v2 c19_i32_1683
  let c32_i32_1684 : BitVec 32 := 32#32
  let c0_i32_1685 : BitVec 32 := 0#32
  let v2588 : BitVec 1 := Scalar.cmpi .eq c32_i32_1684 c0_i32_1685
  let c1_i32_1686 : BitVec 32 := 1#32
  let v2589 : BitVec 32 := Scalar.select v2588 c1_i32_1686 c32_i32_1684
  let v2590 : BitVec 32 := Scalar.remsi v2587 v2589
  let c0_i32_1688 : BitVec 32 := 0#32
  let v2592 : BitVec 1 := Scalar.cmpi .slt v2590 c0_i32_1688
  let c0_i32_1689 : BitVec 32 := 0#32
  let v2593 : BitVec 1 := Scalar.cmpi .slt v2589 c0_i32_1689
  let v2594 : BitVec 1 := Scalar.xori v2592 v2593
  let c0_i32_1687 : BitVec 32 := 0#32
  let v2591 : BitVec 1 := Scalar.cmpi .ne v2590 c0_i32_1687
  let v2595 : BitVec 1 := Scalar.andi v2594 v2591
  let v2596 : BitVec 32 := Scalar.addi v2590 v2589
  let v2597 : BitVec 32 := Scalar.select v2595 v2596 v2590
  let c16_i32_2380 : BitVec 32 := 16#32
  let v3205 : BitVec 32 := Scalar.muli v2597 c16_i32_2380
  let c0_i32_2388 : BitVec 32 := 0#32
  ![v3205.toNat, 0]
def k0_dev144 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1683 : BitVec 32 := 19#32
  let v2587 : BitVec 32 := Scalar.addi v2 c19_i32_1683
  let c32_i32_1684 : BitVec 32 := 32#32
  let c0_i32_1685 : BitVec 32 := 0#32
  let v2588 : BitVec 1 := Scalar.cmpi .eq c32_i32_1684 c0_i32_1685
  let c1_i32_1686 : BitVec 32 := 1#32
  let v2589 : BitVec 32 := Scalar.select v2588 c1_i32_1686 c32_i32_1684
  let v2590 : BitVec 32 := Scalar.remsi v2587 v2589
  let c0_i32_1688 : BitVec 32 := 0#32
  let v2592 : BitVec 1 := Scalar.cmpi .slt v2590 c0_i32_1688
  let c0_i32_1689 : BitVec 32 := 0#32
  let v2593 : BitVec 1 := Scalar.cmpi .slt v2589 c0_i32_1689
  let v2594 : BitVec 1 := Scalar.xori v2592 v2593
  let c0_i32_1687 : BitVec 32 := 0#32
  let v2591 : BitVec 1 := Scalar.cmpi .ne v2590 c0_i32_1687
  let v2595 : BitVec 1 := Scalar.andi v2594 v2591
  let v2596 : BitVec 32 := Scalar.addi v2590 v2589
  let v2597 : BitVec 32 := Scalar.select v2595 v2596 v2590
  let c1_i32_2384 : BitVec 32 := 1#32
  let v3206 : BitVec 32 := Scalar.muli v2597 c1_i32_2384
  let v3207 : BitVec 32 := Scalar.addi c0_i32_2385 v3206
  v3207.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1695 : BitVec 32 := 20#32
  let v2605 : BitVec 32 := Scalar.addi v2 c20_i32_1695
  let c32_i32_1696 : BitVec 32 := 32#32
  let c0_i32_1697 : BitVec 32 := 0#32
  let v2606 : BitVec 1 := Scalar.cmpi .eq c32_i32_1696 c0_i32_1697
  let c1_i32_1698 : BitVec 32 := 1#32
  let v2607 : BitVec 32 := Scalar.select v2606 c1_i32_1698 c32_i32_1696
  let v2608 : BitVec 32 := Scalar.remsi v2605 v2607
  let c0_i32_1700 : BitVec 32 := 0#32
  let v2610 : BitVec 1 := Scalar.cmpi .slt v2608 c0_i32_1700
  let c0_i32_1701 : BitVec 32 := 0#32
  let v2611 : BitVec 1 := Scalar.cmpi .slt v2607 c0_i32_1701
  let v2612 : BitVec 1 := Scalar.xori v2610 v2611
  let c0_i32_1699 : BitVec 32 := 0#32
  let v2609 : BitVec 1 := Scalar.cmpi .ne v2608 c0_i32_1699
  let v2613 : BitVec 1 := Scalar.andi v2612 v2609
  let v2614 : BitVec 32 := Scalar.addi v2608 v2607
  let v2615 : BitVec 32 := Scalar.select v2613 v2614 v2608
  let c16_i32_1702 : BitVec 32 := 16#32
  let v2616 : BitVec 32 := Scalar.muli v2615 c16_i32_1702
  let c384_i32_1703 : BitVec 32 := 384#32
  let v2617 : BitVec 1 := Scalar.cmpi .sge v2616 c384_i32_1703
  let c16_i32_1704 : BitVec 32 := 16#32
  let v2618 : BitVec 32 := Scalar.muli v2615 c16_i32_1704
  let c512_i32_1705 : BitVec 32 := 512#32
  let v2619 : BitVec 1 := Scalar.cmpi .slt v2618 c512_i32_1705
  let v2620 : BitVec 1 := Scalar.andi v2617 v2619
  let v2621 : BitVec 32 := Scalar.extui v2620
  let c0_i32_1706 : BitVec 32 := 0#32
  let v2622 : BitVec 1 := Scalar.cmpi .ne v2621 c0_i32_1706
  v2622

def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1695 : BitVec 32 := 20#32
  let v2605 : BitVec 32 := Scalar.addi v2 c20_i32_1695
  let c32_i32_1696 : BitVec 32 := 32#32
  let c0_i32_1697 : BitVec 32 := 0#32
  let v2606 : BitVec 1 := Scalar.cmpi .eq c32_i32_1696 c0_i32_1697
  let c1_i32_1698 : BitVec 32 := 1#32
  let v2607 : BitVec 32 := Scalar.select v2606 c1_i32_1698 c32_i32_1696
  let v2608 : BitVec 32 := Scalar.remsi v2605 v2607
  let c0_i32_1700 : BitVec 32 := 0#32
  let v2610 : BitVec 1 := Scalar.cmpi .slt v2608 c0_i32_1700
  let c0_i32_1701 : BitVec 32 := 0#32
  let v2611 : BitVec 1 := Scalar.cmpi .slt v2607 c0_i32_1701
  let v2612 : BitVec 1 := Scalar.xori v2610 v2611
  let c0_i32_1699 : BitVec 32 := 0#32
  let v2609 : BitVec 1 := Scalar.cmpi .ne v2608 c0_i32_1699
  let v2613 : BitVec 1 := Scalar.andi v2612 v2609
  let v2614 : BitVec 32 := Scalar.addi v2608 v2607
  let v2615 : BitVec 32 := Scalar.select v2613 v2614 v2608
  let c16_i32_2380 : BitVec 32 := 16#32
  let v3205 : BitVec 32 := Scalar.muli v2615 c16_i32_2380
  let c0_i32_2388 : BitVec 32 := 0#32
  ![v3205.toNat, 0]
def k0_dev145 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1695 : BitVec 32 := 20#32
  let v2605 : BitVec 32 := Scalar.addi v2 c20_i32_1695
  let c32_i32_1696 : BitVec 32 := 32#32
  let c0_i32_1697 : BitVec 32 := 0#32
  let v2606 : BitVec 1 := Scalar.cmpi .eq c32_i32_1696 c0_i32_1697
  let c1_i32_1698 : BitVec 32 := 1#32
  let v2607 : BitVec 32 := Scalar.select v2606 c1_i32_1698 c32_i32_1696
  let v2608 : BitVec 32 := Scalar.remsi v2605 v2607
  let c0_i32_1700 : BitVec 32 := 0#32
  let v2610 : BitVec 1 := Scalar.cmpi .slt v2608 c0_i32_1700
  let c0_i32_1701 : BitVec 32 := 0#32
  let v2611 : BitVec 1 := Scalar.cmpi .slt v2607 c0_i32_1701
  let v2612 : BitVec 1 := Scalar.xori v2610 v2611
  let c0_i32_1699 : BitVec 32 := 0#32
  let v2609 : BitVec 1 := Scalar.cmpi .ne v2608 c0_i32_1699
  let v2613 : BitVec 1 := Scalar.andi v2612 v2609
  let v2614 : BitVec 32 := Scalar.addi v2608 v2607
  let v2615 : BitVec 32 := Scalar.select v2613 v2614 v2608
  let c1_i32_2384 : BitVec 32 := 1#32
  let v3206 : BitVec 32 := Scalar.muli v2615 c1_i32_2384
  let v3207 : BitVec 32 := Scalar.addi c0_i32_2385 v3206
  v3207.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1707 : BitVec 32 := 21#32
  let v2623 : BitVec 32 := Scalar.addi v2 c21_i32_1707
  let c32_i32_1708 : BitVec 32 := 32#32
  let c0_i32_1709 : BitVec 32 := 0#32
  let v2624 : BitVec 1 := Scalar.cmpi .eq c32_i32_1708 c0_i32_1709
  let c1_i32_1710 : BitVec 32 := 1#32
  let v2625 : BitVec 32 := Scalar.select v2624 c1_i32_1710 c32_i32_1708
  let v2626 : BitVec 32 := Scalar.remsi v2623 v2625
  let c0_i32_1712 : BitVec 32 := 0#32
  let v2628 : BitVec 1 := Scalar.cmpi .slt v2626 c0_i32_1712
  let c0_i32_1713 : BitVec 32 := 0#32
  let v2629 : BitVec 1 := Scalar.cmpi .slt v2625 c0_i32_1713
  let v2630 : BitVec 1 := Scalar.xori v2628 v2629
  let c0_i32_1711 : BitVec 32 := 0#32
  let v2627 : BitVec 1 := Scalar.cmpi .ne v2626 c0_i32_1711
  let v2631 : BitVec 1 := Scalar.andi v2630 v2627
  let v2632 : BitVec 32 := Scalar.addi v2626 v2625
  let v2633 : BitVec 32 := Scalar.select v2631 v2632 v2626
  let c16_i32_1714 : BitVec 32 := 16#32
  let v2634 : BitVec 32 := Scalar.muli v2633 c16_i32_1714
  let c384_i32_1715 : BitVec 32 := 384#32
  let v2635 : BitVec 1 := Scalar.cmpi .sge v2634 c384_i32_1715
  let c16_i32_1716 : BitVec 32 := 16#32
  let v2636 : BitVec 32 := Scalar.muli v2633 c16_i32_1716
  let c512_i32_1717 : BitVec 32 := 512#32
  let v2637 : BitVec 1 := Scalar.cmpi .slt v2636 c512_i32_1717
  let v2638 : BitVec 1 := Scalar.andi v2635 v2637
  let v2639 : BitVec 32 := Scalar.extui v2638
  let c0_i32_1718 : BitVec 32 := 0#32
  let v2640 : BitVec 1 := Scalar.cmpi .ne v2639 c0_i32_1718
  v2640

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1707 : BitVec 32 := 21#32
  let v2623 : BitVec 32 := Scalar.addi v2 c21_i32_1707
  let c32_i32_1708 : BitVec 32 := 32#32
  let c0_i32_1709 : BitVec 32 := 0#32
  let v2624 : BitVec 1 := Scalar.cmpi .eq c32_i32_1708 c0_i32_1709
  let c1_i32_1710 : BitVec 32 := 1#32
  let v2625 : BitVec 32 := Scalar.select v2624 c1_i32_1710 c32_i32_1708
  let v2626 : BitVec 32 := Scalar.remsi v2623 v2625
  let c0_i32_1712 : BitVec 32 := 0#32
  let v2628 : BitVec 1 := Scalar.cmpi .slt v2626 c0_i32_1712
  let c0_i32_1713 : BitVec 32 := 0#32
  let v2629 : BitVec 1 := Scalar.cmpi .slt v2625 c0_i32_1713
  let v2630 : BitVec 1 := Scalar.xori v2628 v2629
  let c0_i32_1711 : BitVec 32 := 0#32
  let v2627 : BitVec 1 := Scalar.cmpi .ne v2626 c0_i32_1711
  let v2631 : BitVec 1 := Scalar.andi v2630 v2627
  let v2632 : BitVec 32 := Scalar.addi v2626 v2625
  let v2633 : BitVec 32 := Scalar.select v2631 v2632 v2626
  let c16_i32_2380 : BitVec 32 := 16#32
  let v3205 : BitVec 32 := Scalar.muli v2633 c16_i32_2380
  let c0_i32_2388 : BitVec 32 := 0#32
  ![v3205.toNat, 0]
def k0_dev146 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1707 : BitVec 32 := 21#32
  let v2623 : BitVec 32 := Scalar.addi v2 c21_i32_1707
  let c32_i32_1708 : BitVec 32 := 32#32
  let c0_i32_1709 : BitVec 32 := 0#32
  let v2624 : BitVec 1 := Scalar.cmpi .eq c32_i32_1708 c0_i32_1709
  let c1_i32_1710 : BitVec 32 := 1#32
  let v2625 : BitVec 32 := Scalar.select v2624 c1_i32_1710 c32_i32_1708
  let v2626 : BitVec 32 := Scalar.remsi v2623 v2625
  let c0_i32_1712 : BitVec 32 := 0#32
  let v2628 : BitVec 1 := Scalar.cmpi .slt v2626 c0_i32_1712
  let c0_i32_1713 : BitVec 32 := 0#32
  let v2629 : BitVec 1 := Scalar.cmpi .slt v2625 c0_i32_1713
  let v2630 : BitVec 1 := Scalar.xori v2628 v2629
  let c0_i32_1711 : BitVec 32 := 0#32
  let v2627 : BitVec 1 := Scalar.cmpi .ne v2626 c0_i32_1711
  let v2631 : BitVec 1 := Scalar.andi v2630 v2627
  let v2632 : BitVec 32 := Scalar.addi v2626 v2625
  let v2633 : BitVec 32 := Scalar.select v2631 v2632 v2626
  let c1_i32_2384 : BitVec 32 := 1#32
  let v3206 : BitVec 32 := Scalar.muli v2633 c1_i32_2384
  let v3207 : BitVec 32 := Scalar.addi c0_i32_2385 v3206
  v3207.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1719 : BitVec 32 := 22#32
  let v2641 : BitVec 32 := Scalar.addi v2 c22_i32_1719
  let c32_i32_1720 : BitVec 32 := 32#32
  let c0_i32_1721 : BitVec 32 := 0#32
  let v2642 : BitVec 1 := Scalar.cmpi .eq c32_i32_1720 c0_i32_1721
  let c1_i32_1722 : BitVec 32 := 1#32
  let v2643 : BitVec 32 := Scalar.select v2642 c1_i32_1722 c32_i32_1720
  let v2644 : BitVec 32 := Scalar.remsi v2641 v2643
  let c0_i32_1724 : BitVec 32 := 0#32
  let v2646 : BitVec 1 := Scalar.cmpi .slt v2644 c0_i32_1724
  let c0_i32_1725 : BitVec 32 := 0#32
  let v2647 : BitVec 1 := Scalar.cmpi .slt v2643 c0_i32_1725
  let v2648 : BitVec 1 := Scalar.xori v2646 v2647
  let c0_i32_1723 : BitVec 32 := 0#32
  let v2645 : BitVec 1 := Scalar.cmpi .ne v2644 c0_i32_1723
  let v2649 : BitVec 1 := Scalar.andi v2648 v2645
  let v2650 : BitVec 32 := Scalar.addi v2644 v2643
  let v2651 : BitVec 32 := Scalar.select v2649 v2650 v2644
  let c16_i32_1726 : BitVec 32 := 16#32
  let v2652 : BitVec 32 := Scalar.muli v2651 c16_i32_1726
  let c384_i32_1727 : BitVec 32 := 384#32
  let v2653 : BitVec 1 := Scalar.cmpi .sge v2652 c384_i32_1727
  let c16_i32_1728 : BitVec 32 := 16#32
  let v2654 : BitVec 32 := Scalar.muli v2651 c16_i32_1728
  let c512_i32_1729 : BitVec 32 := 512#32
  let v2655 : BitVec 1 := Scalar.cmpi .slt v2654 c512_i32_1729
  let v2656 : BitVec 1 := Scalar.andi v2653 v2655
  let v2657 : BitVec 32 := Scalar.extui v2656
  let c0_i32_1730 : BitVec 32 := 0#32
  let v2658 : BitVec 1 := Scalar.cmpi .ne v2657 c0_i32_1730
  v2658

def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1719 : BitVec 32 := 22#32
  let v2641 : BitVec 32 := Scalar.addi v2 c22_i32_1719
  let c32_i32_1720 : BitVec 32 := 32#32
  let c0_i32_1721 : BitVec 32 := 0#32
  let v2642 : BitVec 1 := Scalar.cmpi .eq c32_i32_1720 c0_i32_1721
  let c1_i32_1722 : BitVec 32 := 1#32
  let v2643 : BitVec 32 := Scalar.select v2642 c1_i32_1722 c32_i32_1720
  let v2644 : BitVec 32 := Scalar.remsi v2641 v2643
  let c0_i32_1724 : BitVec 32 := 0#32
  let v2646 : BitVec 1 := Scalar.cmpi .slt v2644 c0_i32_1724
  let c0_i32_1725 : BitVec 32 := 0#32
  let v2647 : BitVec 1 := Scalar.cmpi .slt v2643 c0_i32_1725
  let v2648 : BitVec 1 := Scalar.xori v2646 v2647
  let c0_i32_1723 : BitVec 32 := 0#32
  let v2645 : BitVec 1 := Scalar.cmpi .ne v2644 c0_i32_1723
  let v2649 : BitVec 1 := Scalar.andi v2648 v2645
  let v2650 : BitVec 32 := Scalar.addi v2644 v2643
  let v2651 : BitVec 32 := Scalar.select v2649 v2650 v2644
  let c16_i32_2380 : BitVec 32 := 16#32
  let v3205 : BitVec 32 := Scalar.muli v2651 c16_i32_2380
  let c0_i32_2388 : BitVec 32 := 0#32
  ![v3205.toNat, 0]
def k0_dev147 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1719 : BitVec 32 := 22#32
  let v2641 : BitVec 32 := Scalar.addi v2 c22_i32_1719
  let c32_i32_1720 : BitVec 32 := 32#32
  let c0_i32_1721 : BitVec 32 := 0#32
  let v2642 : BitVec 1 := Scalar.cmpi .eq c32_i32_1720 c0_i32_1721
  let c1_i32_1722 : BitVec 32 := 1#32
  let v2643 : BitVec 32 := Scalar.select v2642 c1_i32_1722 c32_i32_1720
  let v2644 : BitVec 32 := Scalar.remsi v2641 v2643
  let c0_i32_1724 : BitVec 32 := 0#32
  let v2646 : BitVec 1 := Scalar.cmpi .slt v2644 c0_i32_1724
  let c0_i32_1725 : BitVec 32 := 0#32
  let v2647 : BitVec 1 := Scalar.cmpi .slt v2643 c0_i32_1725
  let v2648 : BitVec 1 := Scalar.xori v2646 v2647
  let c0_i32_1723 : BitVec 32 := 0#32
  let v2645 : BitVec 1 := Scalar.cmpi .ne v2644 c0_i32_1723
  let v2649 : BitVec 1 := Scalar.andi v2648 v2645
  let v2650 : BitVec 32 := Scalar.addi v2644 v2643
  let v2651 : BitVec 32 := Scalar.select v2649 v2650 v2644
  let c1_i32_2384 : BitVec 32 := 1#32
  let v3206 : BitVec 32 := Scalar.muli v2651 c1_i32_2384
  let v3207 : BitVec 32 := Scalar.addi c0_i32_2385 v3206
  v3207.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1731 : BitVec 32 := 23#32
  let v2659 : BitVec 32 := Scalar.addi v2 c23_i32_1731
  let c32_i32_1732 : BitVec 32 := 32#32
  let c0_i32_1733 : BitVec 32 := 0#32
  let v2660 : BitVec 1 := Scalar.cmpi .eq c32_i32_1732 c0_i32_1733
  let c1_i32_1734 : BitVec 32 := 1#32
  let v2661 : BitVec 32 := Scalar.select v2660 c1_i32_1734 c32_i32_1732
  let v2662 : BitVec 32 := Scalar.remsi v2659 v2661
  let c0_i32_1736 : BitVec 32 := 0#32
  let v2664 : BitVec 1 := Scalar.cmpi .slt v2662 c0_i32_1736
  let c0_i32_1737 : BitVec 32 := 0#32
  let v2665 : BitVec 1 := Scalar.cmpi .slt v2661 c0_i32_1737
  let v2666 : BitVec 1 := Scalar.xori v2664 v2665
  let c0_i32_1735 : BitVec 32 := 0#32
  let v2663 : BitVec 1 := Scalar.cmpi .ne v2662 c0_i32_1735
  let v2667 : BitVec 1 := Scalar.andi v2666 v2663
  let v2668 : BitVec 32 := Scalar.addi v2662 v2661
  let v2669 : BitVec 32 := Scalar.select v2667 v2668 v2662
  let c16_i32_1738 : BitVec 32 := 16#32
  let v2670 : BitVec 32 := Scalar.muli v2669 c16_i32_1738
  let c384_i32_1739 : BitVec 32 := 384#32
  let v2671 : BitVec 1 := Scalar.cmpi .sge v2670 c384_i32_1739
  let c16_i32_1740 : BitVec 32 := 16#32
  let v2672 : BitVec 32 := Scalar.muli v2669 c16_i32_1740
  let c512_i32_1741 : BitVec 32 := 512#32
  let v2673 : BitVec 1 := Scalar.cmpi .slt v2672 c512_i32_1741
  let v2674 : BitVec 1 := Scalar.andi v2671 v2673
  let v2675 : BitVec 32 := Scalar.extui v2674
  let c0_i32_1742 : BitVec 32 := 0#32
  let v2676 : BitVec 1 := Scalar.cmpi .ne v2675 c0_i32_1742
  v2676

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1731 : BitVec 32 := 23#32
  let v2659 : BitVec 32 := Scalar.addi v2 c23_i32_1731
  let c32_i32_1732 : BitVec 32 := 32#32
  let c0_i32_1733 : BitVec 32 := 0#32
  let v2660 : BitVec 1 := Scalar.cmpi .eq c32_i32_1732 c0_i32_1733
  let c1_i32_1734 : BitVec 32 := 1#32
  let v2661 : BitVec 32 := Scalar.select v2660 c1_i32_1734 c32_i32_1732
  let v2662 : BitVec 32 := Scalar.remsi v2659 v2661
  let c0_i32_1736 : BitVec 32 := 0#32
  let v2664 : BitVec 1 := Scalar.cmpi .slt v2662 c0_i32_1736
  let c0_i32_1737 : BitVec 32 := 0#32
  let v2665 : BitVec 1 := Scalar.cmpi .slt v2661 c0_i32_1737
  let v2666 : BitVec 1 := Scalar.xori v2664 v2665
  let c0_i32_1735 : BitVec 32 := 0#32
  let v2663 : BitVec 1 := Scalar.cmpi .ne v2662 c0_i32_1735
  let v2667 : BitVec 1 := Scalar.andi v2666 v2663
  let v2668 : BitVec 32 := Scalar.addi v2662 v2661
  let v2669 : BitVec 32 := Scalar.select v2667 v2668 v2662
  let c16_i32_2380 : BitVec 32 := 16#32
  let v3205 : BitVec 32 := Scalar.muli v2669 c16_i32_2380
  let c0_i32_2388 : BitVec 32 := 0#32
  ![v3205.toNat, 0]
def k0_dev148 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1731 : BitVec 32 := 23#32
  let v2659 : BitVec 32 := Scalar.addi v2 c23_i32_1731
  let c32_i32_1732 : BitVec 32 := 32#32
  let c0_i32_1733 : BitVec 32 := 0#32
  let v2660 : BitVec 1 := Scalar.cmpi .eq c32_i32_1732 c0_i32_1733
  let c1_i32_1734 : BitVec 32 := 1#32
  let v2661 : BitVec 32 := Scalar.select v2660 c1_i32_1734 c32_i32_1732
  let v2662 : BitVec 32 := Scalar.remsi v2659 v2661
  let c0_i32_1736 : BitVec 32 := 0#32
  let v2664 : BitVec 1 := Scalar.cmpi .slt v2662 c0_i32_1736
  let c0_i32_1737 : BitVec 32 := 0#32
  let v2665 : BitVec 1 := Scalar.cmpi .slt v2661 c0_i32_1737
  let v2666 : BitVec 1 := Scalar.xori v2664 v2665
  let c0_i32_1735 : BitVec 32 := 0#32
  let v2663 : BitVec 1 := Scalar.cmpi .ne v2662 c0_i32_1735
  let v2667 : BitVec 1 := Scalar.andi v2666 v2663
  let v2668 : BitVec 32 := Scalar.addi v2662 v2661
  let v2669 : BitVec 32 := Scalar.select v2667 v2668 v2662
  let c1_i32_2384 : BitVec 32 := 1#32
  let v3206 : BitVec 32 := Scalar.muli v2669 c1_i32_2384
  let v3207 : BitVec 32 := Scalar.addi c0_i32_2385 v3206
  v3207.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1743 : BitVec 32 := 24#32
  let v2677 : BitVec 32 := Scalar.addi v2 c24_i32_1743
  let c32_i32_1744 : BitVec 32 := 32#32
  let c0_i32_1745 : BitVec 32 := 0#32
  let v2678 : BitVec 1 := Scalar.cmpi .eq c32_i32_1744 c0_i32_1745
  let c1_i32_1746 : BitVec 32 := 1#32
  let v2679 : BitVec 32 := Scalar.select v2678 c1_i32_1746 c32_i32_1744
  let v2680 : BitVec 32 := Scalar.remsi v2677 v2679
  let c0_i32_1748 : BitVec 32 := 0#32
  let v2682 : BitVec 1 := Scalar.cmpi .slt v2680 c0_i32_1748
  let c0_i32_1749 : BitVec 32 := 0#32
  let v2683 : BitVec 1 := Scalar.cmpi .slt v2679 c0_i32_1749
  let v2684 : BitVec 1 := Scalar.xori v2682 v2683
  let c0_i32_1747 : BitVec 32 := 0#32
  let v2681 : BitVec 1 := Scalar.cmpi .ne v2680 c0_i32_1747
  let v2685 : BitVec 1 := Scalar.andi v2684 v2681
  let v2686 : BitVec 32 := Scalar.addi v2680 v2679
  let v2687 : BitVec 32 := Scalar.select v2685 v2686 v2680
  let c16_i32_1750 : BitVec 32 := 16#32
  let v2688 : BitVec 32 := Scalar.muli v2687 c16_i32_1750
  let c384_i32_1751 : BitVec 32 := 384#32
  let v2689 : BitVec 1 := Scalar.cmpi .sge v2688 c384_i32_1751
  let c16_i32_1752 : BitVec 32 := 16#32
  let v2690 : BitVec 32 := Scalar.muli v2687 c16_i32_1752
  let c512_i32_1753 : BitVec 32 := 512#32
  let v2691 : BitVec 1 := Scalar.cmpi .slt v2690 c512_i32_1753
  let v2692 : BitVec 1 := Scalar.andi v2689 v2691
  let v2693 : BitVec 32 := Scalar.extui v2692
  let c0_i32_1754 : BitVec 32 := 0#32
  let v2694 : BitVec 1 := Scalar.cmpi .ne v2693 c0_i32_1754
  v2694

def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1743 : BitVec 32 := 24#32
  let v2677 : BitVec 32 := Scalar.addi v2 c24_i32_1743
  let c32_i32_1744 : BitVec 32 := 32#32
  let c0_i32_1745 : BitVec 32 := 0#32
  let v2678 : BitVec 1 := Scalar.cmpi .eq c32_i32_1744 c0_i32_1745
  let c1_i32_1746 : BitVec 32 := 1#32
  let v2679 : BitVec 32 := Scalar.select v2678 c1_i32_1746 c32_i32_1744
  let v2680 : BitVec 32 := Scalar.remsi v2677 v2679
  let c0_i32_1748 : BitVec 32 := 0#32
  let v2682 : BitVec 1 := Scalar.cmpi .slt v2680 c0_i32_1748
  let c0_i32_1749 : BitVec 32 := 0#32
  let v2683 : BitVec 1 := Scalar.cmpi .slt v2679 c0_i32_1749
  let v2684 : BitVec 1 := Scalar.xori v2682 v2683
  let c0_i32_1747 : BitVec 32 := 0#32
  let v2681 : BitVec 1 := Scalar.cmpi .ne v2680 c0_i32_1747
  let v2685 : BitVec 1 := Scalar.andi v2684 v2681
  let v2686 : BitVec 32 := Scalar.addi v2680 v2679
  let v2687 : BitVec 32 := Scalar.select v2685 v2686 v2680
  let c16_i32_2380 : BitVec 32 := 16#32
  let v3205 : BitVec 32 := Scalar.muli v2687 c16_i32_2380
  let c0_i32_2388 : BitVec 32 := 0#32
  ![v3205.toNat, 0]
def k0_dev149 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1743 : BitVec 32 := 24#32
  let v2677 : BitVec 32 := Scalar.addi v2 c24_i32_1743
  let c32_i32_1744 : BitVec 32 := 32#32
  let c0_i32_1745 : BitVec 32 := 0#32
  let v2678 : BitVec 1 := Scalar.cmpi .eq c32_i32_1744 c0_i32_1745
  let c1_i32_1746 : BitVec 32 := 1#32
  let v2679 : BitVec 32 := Scalar.select v2678 c1_i32_1746 c32_i32_1744
  let v2680 : BitVec 32 := Scalar.remsi v2677 v2679
  let c0_i32_1748 : BitVec 32 := 0#32
  let v2682 : BitVec 1 := Scalar.cmpi .slt v2680 c0_i32_1748
  let c0_i32_1749 : BitVec 32 := 0#32
  let v2683 : BitVec 1 := Scalar.cmpi .slt v2679 c0_i32_1749
  let v2684 : BitVec 1 := Scalar.xori v2682 v2683
  let c0_i32_1747 : BitVec 32 := 0#32
  let v2681 : BitVec 1 := Scalar.cmpi .ne v2680 c0_i32_1747
  let v2685 : BitVec 1 := Scalar.andi v2684 v2681
  let v2686 : BitVec 32 := Scalar.addi v2680 v2679
  let v2687 : BitVec 32 := Scalar.select v2685 v2686 v2680
  let c1_i32_2384 : BitVec 32 := 1#32
  let v3206 : BitVec 32 := Scalar.muli v2687 c1_i32_2384
  let v3207 : BitVec 32 := Scalar.addi c0_i32_2385 v3206
  v3207.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1755 : BitVec 32 := 25#32
  let v2695 : BitVec 32 := Scalar.addi v2 c25_i32_1755
  let c32_i32_1756 : BitVec 32 := 32#32
  let c0_i32_1757 : BitVec 32 := 0#32
  let v2696 : BitVec 1 := Scalar.cmpi .eq c32_i32_1756 c0_i32_1757
  let c1_i32_1758 : BitVec 32 := 1#32
  let v2697 : BitVec 32 := Scalar.select v2696 c1_i32_1758 c32_i32_1756
  let v2698 : BitVec 32 := Scalar.remsi v2695 v2697
  let c0_i32_1760 : BitVec 32 := 0#32
  let v2700 : BitVec 1 := Scalar.cmpi .slt v2698 c0_i32_1760
  let c0_i32_1761 : BitVec 32 := 0#32
  let v2701 : BitVec 1 := Scalar.cmpi .slt v2697 c0_i32_1761
  let v2702 : BitVec 1 := Scalar.xori v2700 v2701
  let c0_i32_1759 : BitVec 32 := 0#32
  let v2699 : BitVec 1 := Scalar.cmpi .ne v2698 c0_i32_1759
  let v2703 : BitVec 1 := Scalar.andi v2702 v2699
  let v2704 : BitVec 32 := Scalar.addi v2698 v2697
  let v2705 : BitVec 32 := Scalar.select v2703 v2704 v2698
  let c16_i32_1762 : BitVec 32 := 16#32
  let v2706 : BitVec 32 := Scalar.muli v2705 c16_i32_1762
  let c384_i32_1763 : BitVec 32 := 384#32
  let v2707 : BitVec 1 := Scalar.cmpi .sge v2706 c384_i32_1763
  let c16_i32_1764 : BitVec 32 := 16#32
  let v2708 : BitVec 32 := Scalar.muli v2705 c16_i32_1764
  let c512_i32_1765 : BitVec 32 := 512#32
  let v2709 : BitVec 1 := Scalar.cmpi .slt v2708 c512_i32_1765
  let v2710 : BitVec 1 := Scalar.andi v2707 v2709
  let v2711 : BitVec 32 := Scalar.extui v2710
  let c0_i32_1766 : BitVec 32 := 0#32
  let v2712 : BitVec 1 := Scalar.cmpi .ne v2711 c0_i32_1766
  v2712

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1755 : BitVec 32 := 25#32
  let v2695 : BitVec 32 := Scalar.addi v2 c25_i32_1755
  let c32_i32_1756 : BitVec 32 := 32#32
  let c0_i32_1757 : BitVec 32 := 0#32
  let v2696 : BitVec 1 := Scalar.cmpi .eq c32_i32_1756 c0_i32_1757
  let c1_i32_1758 : BitVec 32 := 1#32
  let v2697 : BitVec 32 := Scalar.select v2696 c1_i32_1758 c32_i32_1756
  let v2698 : BitVec 32 := Scalar.remsi v2695 v2697
  let c0_i32_1760 : BitVec 32 := 0#32
  let v2700 : BitVec 1 := Scalar.cmpi .slt v2698 c0_i32_1760
  let c0_i32_1761 : BitVec 32 := 0#32
  let v2701 : BitVec 1 := Scalar.cmpi .slt v2697 c0_i32_1761
  let v2702 : BitVec 1 := Scalar.xori v2700 v2701
  let c0_i32_1759 : BitVec 32 := 0#32
  let v2699 : BitVec 1 := Scalar.cmpi .ne v2698 c0_i32_1759
  let v2703 : BitVec 1 := Scalar.andi v2702 v2699
  let v2704 : BitVec 32 := Scalar.addi v2698 v2697
  let v2705 : BitVec 32 := Scalar.select v2703 v2704 v2698
  let c16_i32_2380 : BitVec 32 := 16#32
  let v3205 : BitVec 32 := Scalar.muli v2705 c16_i32_2380
  let c0_i32_2388 : BitVec 32 := 0#32
  ![v3205.toNat, 0]
def k0_dev150 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1755 : BitVec 32 := 25#32
  let v2695 : BitVec 32 := Scalar.addi v2 c25_i32_1755
  let c32_i32_1756 : BitVec 32 := 32#32
  let c0_i32_1757 : BitVec 32 := 0#32
  let v2696 : BitVec 1 := Scalar.cmpi .eq c32_i32_1756 c0_i32_1757
  let c1_i32_1758 : BitVec 32 := 1#32
  let v2697 : BitVec 32 := Scalar.select v2696 c1_i32_1758 c32_i32_1756
  let v2698 : BitVec 32 := Scalar.remsi v2695 v2697
  let c0_i32_1760 : BitVec 32 := 0#32
  let v2700 : BitVec 1 := Scalar.cmpi .slt v2698 c0_i32_1760
  let c0_i32_1761 : BitVec 32 := 0#32
  let v2701 : BitVec 1 := Scalar.cmpi .slt v2697 c0_i32_1761
  let v2702 : BitVec 1 := Scalar.xori v2700 v2701
  let c0_i32_1759 : BitVec 32 := 0#32
  let v2699 : BitVec 1 := Scalar.cmpi .ne v2698 c0_i32_1759
  let v2703 : BitVec 1 := Scalar.andi v2702 v2699
  let v2704 : BitVec 32 := Scalar.addi v2698 v2697
  let v2705 : BitVec 32 := Scalar.select v2703 v2704 v2698
  let c1_i32_2384 : BitVec 32 := 1#32
  let v3206 : BitVec 32 := Scalar.muli v2705 c1_i32_2384
  let v3207 : BitVec 32 := Scalar.addi c0_i32_2385 v3206
  v3207.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1767 : BitVec 32 := 26#32
  let v2713 : BitVec 32 := Scalar.addi v2 c26_i32_1767
  let c32_i32_1768 : BitVec 32 := 32#32
  let c0_i32_1769 : BitVec 32 := 0#32
  let v2714 : BitVec 1 := Scalar.cmpi .eq c32_i32_1768 c0_i32_1769
  let c1_i32_1770 : BitVec 32 := 1#32
  let v2715 : BitVec 32 := Scalar.select v2714 c1_i32_1770 c32_i32_1768
  let v2716 : BitVec 32 := Scalar.remsi v2713 v2715
  let c0_i32_1772 : BitVec 32 := 0#32
  let v2718 : BitVec 1 := Scalar.cmpi .slt v2716 c0_i32_1772
  let c0_i32_1773 : BitVec 32 := 0#32
  let v2719 : BitVec 1 := Scalar.cmpi .slt v2715 c0_i32_1773
  let v2720 : BitVec 1 := Scalar.xori v2718 v2719
  let c0_i32_1771 : BitVec 32 := 0#32
  let v2717 : BitVec 1 := Scalar.cmpi .ne v2716 c0_i32_1771
  let v2721 : BitVec 1 := Scalar.andi v2720 v2717
  let v2722 : BitVec 32 := Scalar.addi v2716 v2715
  let v2723 : BitVec 32 := Scalar.select v2721 v2722 v2716
  let c16_i32_1774 : BitVec 32 := 16#32
  let v2724 : BitVec 32 := Scalar.muli v2723 c16_i32_1774
  let c384_i32_1775 : BitVec 32 := 384#32
  let v2725 : BitVec 1 := Scalar.cmpi .sge v2724 c384_i32_1775
  let c16_i32_1776 : BitVec 32 := 16#32
  let v2726 : BitVec 32 := Scalar.muli v2723 c16_i32_1776
  let c512_i32_1777 : BitVec 32 := 512#32
  let v2727 : BitVec 1 := Scalar.cmpi .slt v2726 c512_i32_1777
  let v2728 : BitVec 1 := Scalar.andi v2725 v2727
  let v2729 : BitVec 32 := Scalar.extui v2728
  let c0_i32_1778 : BitVec 32 := 0#32
  let v2730 : BitVec 1 := Scalar.cmpi .ne v2729 c0_i32_1778
  v2730

def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1767 : BitVec 32 := 26#32
  let v2713 : BitVec 32 := Scalar.addi v2 c26_i32_1767
  let c32_i32_1768 : BitVec 32 := 32#32
  let c0_i32_1769 : BitVec 32 := 0#32
  let v2714 : BitVec 1 := Scalar.cmpi .eq c32_i32_1768 c0_i32_1769
  let c1_i32_1770 : BitVec 32 := 1#32
  let v2715 : BitVec 32 := Scalar.select v2714 c1_i32_1770 c32_i32_1768
  let v2716 : BitVec 32 := Scalar.remsi v2713 v2715
  let c0_i32_1772 : BitVec 32 := 0#32
  let v2718 : BitVec 1 := Scalar.cmpi .slt v2716 c0_i32_1772
  let c0_i32_1773 : BitVec 32 := 0#32
  let v2719 : BitVec 1 := Scalar.cmpi .slt v2715 c0_i32_1773
  let v2720 : BitVec 1 := Scalar.xori v2718 v2719
  let c0_i32_1771 : BitVec 32 := 0#32
  let v2717 : BitVec 1 := Scalar.cmpi .ne v2716 c0_i32_1771
  let v2721 : BitVec 1 := Scalar.andi v2720 v2717
  let v2722 : BitVec 32 := Scalar.addi v2716 v2715
  let v2723 : BitVec 32 := Scalar.select v2721 v2722 v2716
  let c16_i32_2380 : BitVec 32 := 16#32
  let v3205 : BitVec 32 := Scalar.muli v2723 c16_i32_2380
  let c0_i32_2388 : BitVec 32 := 0#32
  ![v3205.toNat, 0]
def k0_dev151 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1767 : BitVec 32 := 26#32
  let v2713 : BitVec 32 := Scalar.addi v2 c26_i32_1767
  let c32_i32_1768 : BitVec 32 := 32#32
  let c0_i32_1769 : BitVec 32 := 0#32
  let v2714 : BitVec 1 := Scalar.cmpi .eq c32_i32_1768 c0_i32_1769
  let c1_i32_1770 : BitVec 32 := 1#32
  let v2715 : BitVec 32 := Scalar.select v2714 c1_i32_1770 c32_i32_1768
  let v2716 : BitVec 32 := Scalar.remsi v2713 v2715
  let c0_i32_1772 : BitVec 32 := 0#32
  let v2718 : BitVec 1 := Scalar.cmpi .slt v2716 c0_i32_1772
  let c0_i32_1773 : BitVec 32 := 0#32
  let v2719 : BitVec 1 := Scalar.cmpi .slt v2715 c0_i32_1773
  let v2720 : BitVec 1 := Scalar.xori v2718 v2719
  let c0_i32_1771 : BitVec 32 := 0#32
  let v2717 : BitVec 1 := Scalar.cmpi .ne v2716 c0_i32_1771
  let v2721 : BitVec 1 := Scalar.andi v2720 v2717
  let v2722 : BitVec 32 := Scalar.addi v2716 v2715
  let v2723 : BitVec 32 := Scalar.select v2721 v2722 v2716
  let c1_i32_2384 : BitVec 32 := 1#32
  let v3206 : BitVec 32 := Scalar.muli v2723 c1_i32_2384
  let v3207 : BitVec 32 := Scalar.addi c0_i32_2385 v3206
  v3207.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1779 : BitVec 32 := 27#32
  let v2731 : BitVec 32 := Scalar.addi v2 c27_i32_1779
  let c32_i32_1780 : BitVec 32 := 32#32
  let c0_i32_1781 : BitVec 32 := 0#32
  let v2732 : BitVec 1 := Scalar.cmpi .eq c32_i32_1780 c0_i32_1781
  let c1_i32_1782 : BitVec 32 := 1#32
  let v2733 : BitVec 32 := Scalar.select v2732 c1_i32_1782 c32_i32_1780
  let v2734 : BitVec 32 := Scalar.remsi v2731 v2733
  let c0_i32_1784 : BitVec 32 := 0#32
  let v2736 : BitVec 1 := Scalar.cmpi .slt v2734 c0_i32_1784
  let c0_i32_1785 : BitVec 32 := 0#32
  let v2737 : BitVec 1 := Scalar.cmpi .slt v2733 c0_i32_1785
  let v2738 : BitVec 1 := Scalar.xori v2736 v2737
  let c0_i32_1783 : BitVec 32 := 0#32
  let v2735 : BitVec 1 := Scalar.cmpi .ne v2734 c0_i32_1783
  let v2739 : BitVec 1 := Scalar.andi v2738 v2735
  let v2740 : BitVec 32 := Scalar.addi v2734 v2733
  let v2741 : BitVec 32 := Scalar.select v2739 v2740 v2734
  let c16_i32_1786 : BitVec 32 := 16#32
  let v2742 : BitVec 32 := Scalar.muli v2741 c16_i32_1786
  let c384_i32_1787 : BitVec 32 := 384#32
  let v2743 : BitVec 1 := Scalar.cmpi .sge v2742 c384_i32_1787
  let c16_i32_1788 : BitVec 32 := 16#32
  let v2744 : BitVec 32 := Scalar.muli v2741 c16_i32_1788
  let c512_i32_1789 : BitVec 32 := 512#32
  let v2745 : BitVec 1 := Scalar.cmpi .slt v2744 c512_i32_1789
  let v2746 : BitVec 1 := Scalar.andi v2743 v2745
  let v2747 : BitVec 32 := Scalar.extui v2746
  let c0_i32_1790 : BitVec 32 := 0#32
  let v2748 : BitVec 1 := Scalar.cmpi .ne v2747 c0_i32_1790
  v2748

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1779 : BitVec 32 := 27#32
  let v2731 : BitVec 32 := Scalar.addi v2 c27_i32_1779
  let c32_i32_1780 : BitVec 32 := 32#32
  let c0_i32_1781 : BitVec 32 := 0#32
  let v2732 : BitVec 1 := Scalar.cmpi .eq c32_i32_1780 c0_i32_1781
  let c1_i32_1782 : BitVec 32 := 1#32
  let v2733 : BitVec 32 := Scalar.select v2732 c1_i32_1782 c32_i32_1780
  let v2734 : BitVec 32 := Scalar.remsi v2731 v2733
  let c0_i32_1784 : BitVec 32 := 0#32
  let v2736 : BitVec 1 := Scalar.cmpi .slt v2734 c0_i32_1784
  let c0_i32_1785 : BitVec 32 := 0#32
  let v2737 : BitVec 1 := Scalar.cmpi .slt v2733 c0_i32_1785
  let v2738 : BitVec 1 := Scalar.xori v2736 v2737
  let c0_i32_1783 : BitVec 32 := 0#32
  let v2735 : BitVec 1 := Scalar.cmpi .ne v2734 c0_i32_1783
  let v2739 : BitVec 1 := Scalar.andi v2738 v2735
  let v2740 : BitVec 32 := Scalar.addi v2734 v2733
  let v2741 : BitVec 32 := Scalar.select v2739 v2740 v2734
  let c16_i32_2380 : BitVec 32 := 16#32
  let v3205 : BitVec 32 := Scalar.muli v2741 c16_i32_2380
  let c0_i32_2388 : BitVec 32 := 0#32
  ![v3205.toNat, 0]
def k0_dev152 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1779 : BitVec 32 := 27#32
  let v2731 : BitVec 32 := Scalar.addi v2 c27_i32_1779
  let c32_i32_1780 : BitVec 32 := 32#32
  let c0_i32_1781 : BitVec 32 := 0#32
  let v2732 : BitVec 1 := Scalar.cmpi .eq c32_i32_1780 c0_i32_1781
  let c1_i32_1782 : BitVec 32 := 1#32
  let v2733 : BitVec 32 := Scalar.select v2732 c1_i32_1782 c32_i32_1780
  let v2734 : BitVec 32 := Scalar.remsi v2731 v2733
  let c0_i32_1784 : BitVec 32 := 0#32
  let v2736 : BitVec 1 := Scalar.cmpi .slt v2734 c0_i32_1784
  let c0_i32_1785 : BitVec 32 := 0#32
  let v2737 : BitVec 1 := Scalar.cmpi .slt v2733 c0_i32_1785
  let v2738 : BitVec 1 := Scalar.xori v2736 v2737
  let c0_i32_1783 : BitVec 32 := 0#32
  let v2735 : BitVec 1 := Scalar.cmpi .ne v2734 c0_i32_1783
  let v2739 : BitVec 1 := Scalar.andi v2738 v2735
  let v2740 : BitVec 32 := Scalar.addi v2734 v2733
  let v2741 : BitVec 32 := Scalar.select v2739 v2740 v2734
  let c1_i32_2384 : BitVec 32 := 1#32
  let v3206 : BitVec 32 := Scalar.muli v2741 c1_i32_2384
  let v3207 : BitVec 32 := Scalar.addi c0_i32_2385 v3206
  v3207.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1791 : BitVec 32 := 28#32
  let v2749 : BitVec 32 := Scalar.addi v2 c28_i32_1791
  let c32_i32_1792 : BitVec 32 := 32#32
  let c0_i32_1793 : BitVec 32 := 0#32
  let v2750 : BitVec 1 := Scalar.cmpi .eq c32_i32_1792 c0_i32_1793
  let c1_i32_1794 : BitVec 32 := 1#32
  let v2751 : BitVec 32 := Scalar.select v2750 c1_i32_1794 c32_i32_1792
  let v2752 : BitVec 32 := Scalar.remsi v2749 v2751
  let c0_i32_1796 : BitVec 32 := 0#32
  let v2754 : BitVec 1 := Scalar.cmpi .slt v2752 c0_i32_1796
  let c0_i32_1797 : BitVec 32 := 0#32
  let v2755 : BitVec 1 := Scalar.cmpi .slt v2751 c0_i32_1797
  let v2756 : BitVec 1 := Scalar.xori v2754 v2755
  let c0_i32_1795 : BitVec 32 := 0#32
  let v2753 : BitVec 1 := Scalar.cmpi .ne v2752 c0_i32_1795
  let v2757 : BitVec 1 := Scalar.andi v2756 v2753
  let v2758 : BitVec 32 := Scalar.addi v2752 v2751
  let v2759 : BitVec 32 := Scalar.select v2757 v2758 v2752
  let c16_i32_1798 : BitVec 32 := 16#32
  let v2760 : BitVec 32 := Scalar.muli v2759 c16_i32_1798
  let c384_i32_1799 : BitVec 32 := 384#32
  let v2761 : BitVec 1 := Scalar.cmpi .sge v2760 c384_i32_1799
  let c16_i32_1800 : BitVec 32 := 16#32
  let v2762 : BitVec 32 := Scalar.muli v2759 c16_i32_1800
  let c512_i32_1801 : BitVec 32 := 512#32
  let v2763 : BitVec 1 := Scalar.cmpi .slt v2762 c512_i32_1801
  let v2764 : BitVec 1 := Scalar.andi v2761 v2763
  let v2765 : BitVec 32 := Scalar.extui v2764
  let c0_i32_1802 : BitVec 32 := 0#32
  let v2766 : BitVec 1 := Scalar.cmpi .ne v2765 c0_i32_1802
  v2766

def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1791 : BitVec 32 := 28#32
  let v2749 : BitVec 32 := Scalar.addi v2 c28_i32_1791
  let c32_i32_1792 : BitVec 32 := 32#32
  let c0_i32_1793 : BitVec 32 := 0#32
  let v2750 : BitVec 1 := Scalar.cmpi .eq c32_i32_1792 c0_i32_1793
  let c1_i32_1794 : BitVec 32 := 1#32
  let v2751 : BitVec 32 := Scalar.select v2750 c1_i32_1794 c32_i32_1792
  let v2752 : BitVec 32 := Scalar.remsi v2749 v2751
  let c0_i32_1796 : BitVec 32 := 0#32
  let v2754 : BitVec 1 := Scalar.cmpi .slt v2752 c0_i32_1796
  let c0_i32_1797 : BitVec 32 := 0#32
  let v2755 : BitVec 1 := Scalar.cmpi .slt v2751 c0_i32_1797
  let v2756 : BitVec 1 := Scalar.xori v2754 v2755
  let c0_i32_1795 : BitVec 32 := 0#32
  let v2753 : BitVec 1 := Scalar.cmpi .ne v2752 c0_i32_1795
  let v2757 : BitVec 1 := Scalar.andi v2756 v2753
  let v2758 : BitVec 32 := Scalar.addi v2752 v2751
  let v2759 : BitVec 32 := Scalar.select v2757 v2758 v2752
  let c16_i32_2380 : BitVec 32 := 16#32
  let v3205 : BitVec 32 := Scalar.muli v2759 c16_i32_2380
  let c0_i32_2388 : BitVec 32 := 0#32
  ![v3205.toNat, 0]
def k0_dev153 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1791 : BitVec 32 := 28#32
  let v2749 : BitVec 32 := Scalar.addi v2 c28_i32_1791
  let c32_i32_1792 : BitVec 32 := 32#32
  let c0_i32_1793 : BitVec 32 := 0#32
  let v2750 : BitVec 1 := Scalar.cmpi .eq c32_i32_1792 c0_i32_1793
  let c1_i32_1794 : BitVec 32 := 1#32
  let v2751 : BitVec 32 := Scalar.select v2750 c1_i32_1794 c32_i32_1792
  let v2752 : BitVec 32 := Scalar.remsi v2749 v2751
  let c0_i32_1796 : BitVec 32 := 0#32
  let v2754 : BitVec 1 := Scalar.cmpi .slt v2752 c0_i32_1796
  let c0_i32_1797 : BitVec 32 := 0#32
  let v2755 : BitVec 1 := Scalar.cmpi .slt v2751 c0_i32_1797
  let v2756 : BitVec 1 := Scalar.xori v2754 v2755
  let c0_i32_1795 : BitVec 32 := 0#32
  let v2753 : BitVec 1 := Scalar.cmpi .ne v2752 c0_i32_1795
  let v2757 : BitVec 1 := Scalar.andi v2756 v2753
  let v2758 : BitVec 32 := Scalar.addi v2752 v2751
  let v2759 : BitVec 32 := Scalar.select v2757 v2758 v2752
  let c1_i32_2384 : BitVec 32 := 1#32
  let v3206 : BitVec 32 := Scalar.muli v2759 c1_i32_2384
  let v3207 : BitVec 32 := Scalar.addi c0_i32_2385 v3206
  v3207.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1803 : BitVec 32 := 29#32
  let v2767 : BitVec 32 := Scalar.addi v2 c29_i32_1803
  let c32_i32_1804 : BitVec 32 := 32#32
  let c0_i32_1805 : BitVec 32 := 0#32
  let v2768 : BitVec 1 := Scalar.cmpi .eq c32_i32_1804 c0_i32_1805
  let c1_i32_1806 : BitVec 32 := 1#32
  let v2769 : BitVec 32 := Scalar.select v2768 c1_i32_1806 c32_i32_1804
  let v2770 : BitVec 32 := Scalar.remsi v2767 v2769
  let c0_i32_1808 : BitVec 32 := 0#32
  let v2772 : BitVec 1 := Scalar.cmpi .slt v2770 c0_i32_1808
  let c0_i32_1809 : BitVec 32 := 0#32
  let v2773 : BitVec 1 := Scalar.cmpi .slt v2769 c0_i32_1809
  let v2774 : BitVec 1 := Scalar.xori v2772 v2773
  let c0_i32_1807 : BitVec 32 := 0#32
  let v2771 : BitVec 1 := Scalar.cmpi .ne v2770 c0_i32_1807
  let v2775 : BitVec 1 := Scalar.andi v2774 v2771
  let v2776 : BitVec 32 := Scalar.addi v2770 v2769
  let v2777 : BitVec 32 := Scalar.select v2775 v2776 v2770
  let c16_i32_1810 : BitVec 32 := 16#32
  let v2778 : BitVec 32 := Scalar.muli v2777 c16_i32_1810
  let c384_i32_1811 : BitVec 32 := 384#32
  let v2779 : BitVec 1 := Scalar.cmpi .sge v2778 c384_i32_1811
  let c16_i32_1812 : BitVec 32 := 16#32
  let v2780 : BitVec 32 := Scalar.muli v2777 c16_i32_1812
  let c512_i32_1813 : BitVec 32 := 512#32
  let v2781 : BitVec 1 := Scalar.cmpi .slt v2780 c512_i32_1813
  let v2782 : BitVec 1 := Scalar.andi v2779 v2781
  let v2783 : BitVec 32 := Scalar.extui v2782
  let c0_i32_1814 : BitVec 32 := 0#32
  let v2784 : BitVec 1 := Scalar.cmpi .ne v2783 c0_i32_1814
  v2784

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1803 : BitVec 32 := 29#32
  let v2767 : BitVec 32 := Scalar.addi v2 c29_i32_1803
  let c32_i32_1804 : BitVec 32 := 32#32
  let c0_i32_1805 : BitVec 32 := 0#32
  let v2768 : BitVec 1 := Scalar.cmpi .eq c32_i32_1804 c0_i32_1805
  let c1_i32_1806 : BitVec 32 := 1#32
  let v2769 : BitVec 32 := Scalar.select v2768 c1_i32_1806 c32_i32_1804
  let v2770 : BitVec 32 := Scalar.remsi v2767 v2769
  let c0_i32_1808 : BitVec 32 := 0#32
  let v2772 : BitVec 1 := Scalar.cmpi .slt v2770 c0_i32_1808
  let c0_i32_1809 : BitVec 32 := 0#32
  let v2773 : BitVec 1 := Scalar.cmpi .slt v2769 c0_i32_1809
  let v2774 : BitVec 1 := Scalar.xori v2772 v2773
  let c0_i32_1807 : BitVec 32 := 0#32
  let v2771 : BitVec 1 := Scalar.cmpi .ne v2770 c0_i32_1807
  let v2775 : BitVec 1 := Scalar.andi v2774 v2771
  let v2776 : BitVec 32 := Scalar.addi v2770 v2769
  let v2777 : BitVec 32 := Scalar.select v2775 v2776 v2770
  let c16_i32_2380 : BitVec 32 := 16#32
  let v3205 : BitVec 32 := Scalar.muli v2777 c16_i32_2380
  let c0_i32_2388 : BitVec 32 := 0#32
  ![v3205.toNat, 0]
def k0_dev154 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1803 : BitVec 32 := 29#32
  let v2767 : BitVec 32 := Scalar.addi v2 c29_i32_1803
  let c32_i32_1804 : BitVec 32 := 32#32
  let c0_i32_1805 : BitVec 32 := 0#32
  let v2768 : BitVec 1 := Scalar.cmpi .eq c32_i32_1804 c0_i32_1805
  let c1_i32_1806 : BitVec 32 := 1#32
  let v2769 : BitVec 32 := Scalar.select v2768 c1_i32_1806 c32_i32_1804
  let v2770 : BitVec 32 := Scalar.remsi v2767 v2769
  let c0_i32_1808 : BitVec 32 := 0#32
  let v2772 : BitVec 1 := Scalar.cmpi .slt v2770 c0_i32_1808
  let c0_i32_1809 : BitVec 32 := 0#32
  let v2773 : BitVec 1 := Scalar.cmpi .slt v2769 c0_i32_1809
  let v2774 : BitVec 1 := Scalar.xori v2772 v2773
  let c0_i32_1807 : BitVec 32 := 0#32
  let v2771 : BitVec 1 := Scalar.cmpi .ne v2770 c0_i32_1807
  let v2775 : BitVec 1 := Scalar.andi v2774 v2771
  let v2776 : BitVec 32 := Scalar.addi v2770 v2769
  let v2777 : BitVec 32 := Scalar.select v2775 v2776 v2770
  let c1_i32_2384 : BitVec 32 := 1#32
  let v3206 : BitVec 32 := Scalar.muli v2777 c1_i32_2384
  let v3207 : BitVec 32 := Scalar.addi c0_i32_2385 v3206
  v3207.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1815 : BitVec 32 := 30#32
  let v2785 : BitVec 32 := Scalar.addi v2 c30_i32_1815
  let c32_i32_1816 : BitVec 32 := 32#32
  let c0_i32_1817 : BitVec 32 := 0#32
  let v2786 : BitVec 1 := Scalar.cmpi .eq c32_i32_1816 c0_i32_1817
  let c1_i32_1818 : BitVec 32 := 1#32
  let v2787 : BitVec 32 := Scalar.select v2786 c1_i32_1818 c32_i32_1816
  let v2788 : BitVec 32 := Scalar.remsi v2785 v2787
  let c0_i32_1820 : BitVec 32 := 0#32
  let v2790 : BitVec 1 := Scalar.cmpi .slt v2788 c0_i32_1820
  let c0_i32_1821 : BitVec 32 := 0#32
  let v2791 : BitVec 1 := Scalar.cmpi .slt v2787 c0_i32_1821
  let v2792 : BitVec 1 := Scalar.xori v2790 v2791
  let c0_i32_1819 : BitVec 32 := 0#32
  let v2789 : BitVec 1 := Scalar.cmpi .ne v2788 c0_i32_1819
  let v2793 : BitVec 1 := Scalar.andi v2792 v2789
  let v2794 : BitVec 32 := Scalar.addi v2788 v2787
  let v2795 : BitVec 32 := Scalar.select v2793 v2794 v2788
  let c16_i32_1822 : BitVec 32 := 16#32
  let v2796 : BitVec 32 := Scalar.muli v2795 c16_i32_1822
  let c384_i32_1823 : BitVec 32 := 384#32
  let v2797 : BitVec 1 := Scalar.cmpi .sge v2796 c384_i32_1823
  let c16_i32_1824 : BitVec 32 := 16#32
  let v2798 : BitVec 32 := Scalar.muli v2795 c16_i32_1824
  let c512_i32_1825 : BitVec 32 := 512#32
  let v2799 : BitVec 1 := Scalar.cmpi .slt v2798 c512_i32_1825
  let v2800 : BitVec 1 := Scalar.andi v2797 v2799
  let v2801 : BitVec 32 := Scalar.extui v2800
  let c0_i32_1826 : BitVec 32 := 0#32
  let v2802 : BitVec 1 := Scalar.cmpi .ne v2801 c0_i32_1826
  v2802

def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1815 : BitVec 32 := 30#32
  let v2785 : BitVec 32 := Scalar.addi v2 c30_i32_1815
  let c32_i32_1816 : BitVec 32 := 32#32
  let c0_i32_1817 : BitVec 32 := 0#32
  let v2786 : BitVec 1 := Scalar.cmpi .eq c32_i32_1816 c0_i32_1817
  let c1_i32_1818 : BitVec 32 := 1#32
  let v2787 : BitVec 32 := Scalar.select v2786 c1_i32_1818 c32_i32_1816
  let v2788 : BitVec 32 := Scalar.remsi v2785 v2787
  let c0_i32_1820 : BitVec 32 := 0#32
  let v2790 : BitVec 1 := Scalar.cmpi .slt v2788 c0_i32_1820
  let c0_i32_1821 : BitVec 32 := 0#32
  let v2791 : BitVec 1 := Scalar.cmpi .slt v2787 c0_i32_1821
  let v2792 : BitVec 1 := Scalar.xori v2790 v2791
  let c0_i32_1819 : BitVec 32 := 0#32
  let v2789 : BitVec 1 := Scalar.cmpi .ne v2788 c0_i32_1819
  let v2793 : BitVec 1 := Scalar.andi v2792 v2789
  let v2794 : BitVec 32 := Scalar.addi v2788 v2787
  let v2795 : BitVec 32 := Scalar.select v2793 v2794 v2788
  let c16_i32_2380 : BitVec 32 := 16#32
  let v3205 : BitVec 32 := Scalar.muli v2795 c16_i32_2380
  let c0_i32_2388 : BitVec 32 := 0#32
  ![v3205.toNat, 0]
def k0_dev155 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1815 : BitVec 32 := 30#32
  let v2785 : BitVec 32 := Scalar.addi v2 c30_i32_1815
  let c32_i32_1816 : BitVec 32 := 32#32
  let c0_i32_1817 : BitVec 32 := 0#32
  let v2786 : BitVec 1 := Scalar.cmpi .eq c32_i32_1816 c0_i32_1817
  let c1_i32_1818 : BitVec 32 := 1#32
  let v2787 : BitVec 32 := Scalar.select v2786 c1_i32_1818 c32_i32_1816
  let v2788 : BitVec 32 := Scalar.remsi v2785 v2787
  let c0_i32_1820 : BitVec 32 := 0#32
  let v2790 : BitVec 1 := Scalar.cmpi .slt v2788 c0_i32_1820
  let c0_i32_1821 : BitVec 32 := 0#32
  let v2791 : BitVec 1 := Scalar.cmpi .slt v2787 c0_i32_1821
  let v2792 : BitVec 1 := Scalar.xori v2790 v2791
  let c0_i32_1819 : BitVec 32 := 0#32
  let v2789 : BitVec 1 := Scalar.cmpi .ne v2788 c0_i32_1819
  let v2793 : BitVec 1 := Scalar.andi v2792 v2789
  let v2794 : BitVec 32 := Scalar.addi v2788 v2787
  let v2795 : BitVec 32 := Scalar.select v2793 v2794 v2788
  let c1_i32_2384 : BitVec 32 := 1#32
  let v3206 : BitVec 32 := Scalar.muli v2795 c1_i32_2384
  let v3207 : BitVec 32 := Scalar.addi c0_i32_2385 v3206
  v3207.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1827 : BitVec 32 := 31#32
  let v2803 : BitVec 32 := Scalar.addi v2 c31_i32_1827
  let c32_i32_1828 : BitVec 32 := 32#32
  let c0_i32_1829 : BitVec 32 := 0#32
  let v2804 : BitVec 1 := Scalar.cmpi .eq c32_i32_1828 c0_i32_1829
  let c1_i32_1830 : BitVec 32 := 1#32
  let v2805 : BitVec 32 := Scalar.select v2804 c1_i32_1830 c32_i32_1828
  let v2806 : BitVec 32 := Scalar.remsi v2803 v2805
  let c0_i32_1832 : BitVec 32 := 0#32
  let v2808 : BitVec 1 := Scalar.cmpi .slt v2806 c0_i32_1832
  let c0_i32_1833 : BitVec 32 := 0#32
  let v2809 : BitVec 1 := Scalar.cmpi .slt v2805 c0_i32_1833
  let v2810 : BitVec 1 := Scalar.xori v2808 v2809
  let c0_i32_1831 : BitVec 32 := 0#32
  let v2807 : BitVec 1 := Scalar.cmpi .ne v2806 c0_i32_1831
  let v2811 : BitVec 1 := Scalar.andi v2810 v2807
  let v2812 : BitVec 32 := Scalar.addi v2806 v2805
  let v2813 : BitVec 32 := Scalar.select v2811 v2812 v2806
  let c16_i32_1834 : BitVec 32 := 16#32
  let v2814 : BitVec 32 := Scalar.muli v2813 c16_i32_1834
  let c384_i32_1835 : BitVec 32 := 384#32
  let v2815 : BitVec 1 := Scalar.cmpi .sge v2814 c384_i32_1835
  let c16_i32_1836 : BitVec 32 := 16#32
  let v2816 : BitVec 32 := Scalar.muli v2813 c16_i32_1836
  let c512_i32_1837 : BitVec 32 := 512#32
  let v2817 : BitVec 1 := Scalar.cmpi .slt v2816 c512_i32_1837
  let v2818 : BitVec 1 := Scalar.andi v2815 v2817
  let v2819 : BitVec 32 := Scalar.extui v2818
  let c0_i32_1838 : BitVec 32 := 0#32
  let v2820 : BitVec 1 := Scalar.cmpi .ne v2819 c0_i32_1838
  v2820

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1827 : BitVec 32 := 31#32
  let v2803 : BitVec 32 := Scalar.addi v2 c31_i32_1827
  let c32_i32_1828 : BitVec 32 := 32#32
  let c0_i32_1829 : BitVec 32 := 0#32
  let v2804 : BitVec 1 := Scalar.cmpi .eq c32_i32_1828 c0_i32_1829
  let c1_i32_1830 : BitVec 32 := 1#32
  let v2805 : BitVec 32 := Scalar.select v2804 c1_i32_1830 c32_i32_1828
  let v2806 : BitVec 32 := Scalar.remsi v2803 v2805
  let c0_i32_1832 : BitVec 32 := 0#32
  let v2808 : BitVec 1 := Scalar.cmpi .slt v2806 c0_i32_1832
  let c0_i32_1833 : BitVec 32 := 0#32
  let v2809 : BitVec 1 := Scalar.cmpi .slt v2805 c0_i32_1833
  let v2810 : BitVec 1 := Scalar.xori v2808 v2809
  let c0_i32_1831 : BitVec 32 := 0#32
  let v2807 : BitVec 1 := Scalar.cmpi .ne v2806 c0_i32_1831
  let v2811 : BitVec 1 := Scalar.andi v2810 v2807
  let v2812 : BitVec 32 := Scalar.addi v2806 v2805
  let v2813 : BitVec 32 := Scalar.select v2811 v2812 v2806
  let c16_i32_2380 : BitVec 32 := 16#32
  let v3205 : BitVec 32 := Scalar.muli v2813 c16_i32_2380
  let c0_i32_2388 : BitVec 32 := 0#32
  ![v3205.toNat, 0]
def k0_dev156 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1827 : BitVec 32 := 31#32
  let v2803 : BitVec 32 := Scalar.addi v2 c31_i32_1827
  let c32_i32_1828 : BitVec 32 := 32#32
  let c0_i32_1829 : BitVec 32 := 0#32
  let v2804 : BitVec 1 := Scalar.cmpi .eq c32_i32_1828 c0_i32_1829
  let c1_i32_1830 : BitVec 32 := 1#32
  let v2805 : BitVec 32 := Scalar.select v2804 c1_i32_1830 c32_i32_1828
  let v2806 : BitVec 32 := Scalar.remsi v2803 v2805
  let c0_i32_1832 : BitVec 32 := 0#32
  let v2808 : BitVec 1 := Scalar.cmpi .slt v2806 c0_i32_1832
  let c0_i32_1833 : BitVec 32 := 0#32
  let v2809 : BitVec 1 := Scalar.cmpi .slt v2805 c0_i32_1833
  let v2810 : BitVec 1 := Scalar.xori v2808 v2809
  let c0_i32_1831 : BitVec 32 := 0#32
  let v2807 : BitVec 1 := Scalar.cmpi .ne v2806 c0_i32_1831
  let v2811 : BitVec 1 := Scalar.andi v2810 v2807
  let v2812 : BitVec 32 := Scalar.addi v2806 v2805
  let v2813 : BitVec 32 := Scalar.select v2811 v2812 v2806
  let c1_i32_2384 : BitVec 32 := 1#32
  let v3206 : BitVec 32 := Scalar.muli v2813 c1_i32_2384
  let v3207 : BitVec 32 := Scalar.addi c0_i32_2385 v3206
  v3207.toNat
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1839 : BitVec 32 := 16#32
  let v2821 : BitVec 32 := Scalar.muli v2 c16_i32_1839
  let v2822 : Index := Scalar.indexCast v2821
  let c0_1840 : Index := 0#32
  ![v2822.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S512x128 : Shape := ⟨2, ![512, 128]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 91
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x2, .i32⟩
  | .hbm, ⟨3, _⟩ => ⟨S128x256x512, .bf16⟩
  | .hbm, ⟨4, _⟩ => ⟨S512x256, .f32⟩
  | .hbm, ⟨5, _⟩ => ⟨S256x128, .f32⟩
  | .hbm, ⟨6, _⟩ => ⟨S512x128, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x128, .f32⟩
  | .hbm, ⟨17, _⟩ => ⟨S512x128, .f32⟩
  | .hbm, ⟨18, _⟩ => ⟨S512x1, .i32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S512x1, .i32⟩
  | .hbm, ⟨39, _⟩ => ⟨S512x2, .i32⟩
  | .hbm, ⟨40, _⟩ => ⟨S512, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x1, .i32⟩
  | .hbm, ⟨57, _⟩ => ⟨S512x2, .i32⟩
  | .hbm, ⟨58, _⟩ => ⟨S512, .f32⟩
  | .hbm, ⟨59, _⟩ => ⟨S512, .f32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S512x256x512, .bf16⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .bf16⟩
  | .hbm, ⟨80, _⟩ => ⟨S512x256x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512, .f32⟩
  | .hbm, ⟨87, _⟩ => ⟨S512x1, .f32⟩
  | .hbm, ⟨88, _⟩ => ⟨S512x512, .f32⟩
  | .hbm, ⟨89, _⟩ => ⟨S512x512, .f32⟩
  | .hbm, ⟨90, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Ideal.Cells.lean ====
/-
# The protocol's names: offsets, semaphores, cells, slices, contents

Device `c` computes 512 rows of partial sums and sends rows `16 t … 16 t + 15` to device `t`. The transfer to
`t = c + o` (modulo 32) uses, for each offset `o = 1 … 31`, one credit semaphore, one send semaphore and one
receive semaphore, and lands in slot `o` of the receive buffer of `t`. Here: the arithmetic of the offsets, the
semaphores by offset, the sixteen-row slices and the slots as views, and the contents everything ends up with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Tactic

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.Sem

variable {F : FTy → Type} [FloatOps F]

/-! ## Offsets -/

/-- The device `o` places after `c`; -/
def pl (c : Dev nD) (o : Fin 32) : Dev nD := ⟨(c.val + o.val) % 32, Nat.mod_lt _ (by decide)⟩
/-- the device `o` places before it. -/
def mi (c : Dev nD) (o : Fin 32) : Dev nD := ⟨(c.val + (32 - o.val)) % 32, Nat.mod_lt _ (by decide)⟩

theorem pl_mi (c : Dev nD) (o : Fin 32) : pl (mi c o) o = c := by
  apply Fin.ext; have h1 : c.val < 32 := c.isLt; have h2 := o.isLt; simp only [pl, mi]; omega
theorem mi_pl (c : Dev nD) (o : Fin 32) : mi (pl c o) o = c := by
  apply Fin.ext; have h1 : c.val < 32 := c.isLt; have h2 := o.isLt; simp only [pl, mi]; omega
theorem pl_zero (c : Dev nD) : pl c 0 = c := by
  apply Fin.ext; have h1 : c.val < 32 := c.isLt; simp only [pl, Fin.val_zero]; omega
theorem mi_zero (c : Dev nD) : mi c 0 = c := by
  apply Fin.ext; have h1 : c.val < 32 := c.isLt; simp only [mi, Fin.val_zero]; omega
theorem pl_inj (c : Dev nD) : Function.Injective (pl c) := by
  intro o o' h
  have h1 : c.val < 32 := c.isLt
  have h2 := o.isLt; have h3 := o'.isLt
  have := congrArg Fin.val h; simp only [pl] at this
  apply Fin.ext; omega
/-- Every device is at some offset from `c`. -/
theorem pl_surj (c t : Dev nD) : ∃ o, pl c o = t := by
  have h1 : c.val < 32 := c.isLt
  have h2 : t.val < 32 := t.isLt
  refine ⟨⟨(t.val + (32 - c.val)) % 32, Nat.mod_lt _ (by decide)⟩, Fin.ext ?_⟩
  simp only [pl]; omega

/-- Shifting all devices by `o`. -/
def rot (o : Fin 32) : Dev nD ≃ Dev nD := ⟨fun c => pl c o, fun c => mi c o, fun c => mi_pl c o, fun c => pl_mi c o⟩

/-! ## Semaphores -/

/-- An index of an array of 32. -/
def ixS (k : Fin 32) : S32.Idx := fun a => match a with | ⟨0, _⟩ => k

/-- The three semaphore arrays by offset: send, receive, credit; and the barrier semaphore. -/
def sendS (o : Fin 32) : DmaSem sig := ⟨5 + o.val, by have h : sig.nDmaSem = 69 := rfl; have := o.isLt; omega⟩
def recvS (o : Fin 32) : DmaSem sig := ⟨37 + o.val, by have h : sig.nDmaSem = 69 := rfl; have := o.isLt; omega⟩
def credS (o : Fin 32) : Sem sig := ⟨o.val, by have h : sig.nSem = 33 := rfl; have := o.isLt; omega⟩
abbrev barS : Sem sig := (SemArray.scalar (sig.barrier 0 rfl) : Sems sig S_).sem

theorem ix_pick {α : Type} (a : SemArray α S32) (n : ℕ) (h : ∀ i, (![n] : Fin 1 → ℕ) i + S1.size i ≤ S32.size i) (hn : n < 32) :
    ((a.slice (Rect.unit (s := S32) ![n] S1.size h)).squeeze S_ squeezes_S1_S_).sem = a.ix (ixS ⟨n, hn⟩) := by
  have key : ∀ j : S1.Idx, (Rect.unit (s := S32) ![n] S1.size h).emb j = ixS ⟨n, hn⟩ := by
    intro j; funext x
    match x with
    | ⟨0, _⟩ =>
      apply Fin.ext
      rw [Rect.emb_apply]
      have hj : (j 0).val < 1 := (j 0).isLt
      show n + 1 * (j 0).val = n
      omega
  show a.ix _ = a.ix _
  exact congrArg a.ix (key _)

theorem rowMajor_32 (n : ℕ) (hn : n < 32) : (S32.rowMajor (ixS ⟨n, hn⟩) : ℕ) = n := by
  have : ∀ k : Fin 32, (S32.rowMajor (ixS k) : ℕ) = k.val := by decide +kernel
  exact this ⟨n, hn⟩

theorem sendS_eq (n : ℕ) (hn : n < 32) (h) :
    ((cc0_scratch2.slice (Rect.unit (s := S32) ![n] S1.size h)).squeeze S_ squeezes_S1_S_).sem = sendS ⟨n, hn⟩ :=
  (ix_pick _ n h hn).trans (Fin.ext (congrArg (5 + ·) (rowMajor_32 n hn)))
theorem recvS_eq (n : ℕ) (hn : n < 32) (h) :
    ((cc0_scratch3.slice (Rect.unit (s := S32) ![n] S1.size h)).squeeze S_ squeezes_S1_S_).sem = recvS ⟨n, hn⟩ :=
  (ix_pick _ n h hn).trans (Fin.ext (congrArg (37 + ·) (rowMajor_32 n hn)))
theorem credS_eq (n : ℕ) (hn : n < 32) (h) :
    ((cc0_scratch4.slice (Rect.unit (s := S32) ![n] S1.size h)).squeeze S_ squeezes_S1_S_).sem = credS ⟨n, hn⟩ :=
  (ix_pick _ n h hn).trans (Fin.ext ((congrArg (0 + ·) (rowMajor_32 n hn)).trans (Nat.zero_add n)))

/-- The kernel's own semaphores: array (0 send, 1 receive, 2 credit) and offset; -/
abbrev OKey : Type := Fin 3 × Fin 32
def osem : OKey → SemLoc sig := fun k => match k.1 with
  | 0 => .dma (sendS k.2) | 1 => .dma (recvS k.2) | 2 => .reg (credS k.2)
/-- with the barrier semaphore (`none`), all the protocol's. -/
abbrev Key : Type := Option OKey
def csem : Key → SemLoc sig
  | none => .reg barS
  | some k => osem k

theorem dma_ne_reg (a : DmaSem sig) (b : Sem sig) : (SemLoc.dma a : SemLoc sig) ≠ .reg b := by intro h; cases h

theorem sendS_inj {o o' : Fin 32} (h : sendS o = sendS o') : o = o' := by
  have h1 : 5 + o.val = 5 + o'.val := congrArg Fin.val h
  exact Fin.ext (by omega)
theorem recvS_inj {o o' : Fin 32} (h : recvS o = recvS o') : o = o' := by
  have h1 : 37 + o.val = 37 + o'.val := congrArg Fin.val h
  exact Fin.ext (by omega)
theorem credS_inj {o o' : Fin 32} (h : credS o = credS o') : o = o' := by
  have h1 : (credS o).val = (credS o').val := congrArg Fin.val h
  exact Fin.ext h1
theorem send_ne_recv (o o' : Fin 32) : sendS o ≠ recvS o' := by
  intro h
  have h1 : 5 + o.val = 37 + o'.val := congrArg Fin.val h
  have := o.isLt
  omega

theorem osem_injective : Function.Injective osem := by
  rintro ⟨a, o⟩ ⟨a', o'⟩ h
  fin_cases a <;> fin_cases a' <;>
    first
      | exact congrArg _ (sendS_inj (SemLoc.dma.inj h))
      | exact congrArg _ (recvS_inj (SemLoc.dma.inj h))
      | exact absurd (SemLoc.dma.inj h) (send_ne_recv _ _)
      | exact absurd (SemLoc.dma.inj h).symm (send_ne_recv _ _)
      | exact congrArg _ (credS_inj (SemLoc.reg.inj h))
      | exact absurd h (dma_ne_reg _ _)
      | exact absurd h.symm (dma_ne_reg _ _)

theorem osem_ne_bar (k : OKey) : osem k ≠ .reg barS := by
  obtain ⟨a, o⟩ := k
  have ho := o.isLt
  fin_cases a
  · intro h; cases h
  · intro h; cases h
  · intro h
    have h1 : (credS o).val = 32 := congrArg Fin.val (SemLoc.reg.inj h)
    simp only [credS] at h1; omega

theorem csem_injective : Function.Injective csem := by
  intro k k' h
  cases k <;> cases k'
  · rfl
  · exact absurd h.symm (osem_ne_bar _)
  · exact absurd h (osem_ne_bar _)
  · exact congrArg some (osem_injective h)

/-- Which of the protocol's semaphores a semaphore is, if any. -/
def keyOf : SemLoc sig → Option Key := Function.partialInv csem
theorem keyOf_csem (k : Key) : keyOf (csem k) = some k := Function.partialInv_left csem_injective k
theorem keyOf_eq_none {sm : SemLoc sig} (h : ∀ k, csem k ≠ sm) : keyOf sm = none := by
  unfold keyOf Function.partialInv; rw [dif_neg (fun ⟨k, hk⟩ => h k hk)]

abbrev kcell (c : Dev nD) (k : Key) : GSem nD τ sig := ((c : Thread nD τ), csem k)
abbrev barCell (c : Dev nD) : GSem nD τ sig := kcell c none
abbrev sendCell (c : Dev nD) (o : Fin 32) : GSem nD τ sig := kcell c (some (0, o))
abbrev recvCell (c : Dev nD) (o : Fin 32) : GSem nD τ sig := kcell c (some (1, o))
abbrev credCell (c : Dev nD) (o : Fin 32) : GSem nD τ sig := kcell c (some (2, o))

theorem kcell_inj {c c' : Dev nD} {k k' : Key} (h : kcell c k = kcell c' k') : c = c' ∧ k = k' :=
  ⟨congrArg (fun g : GSem nD τ sig => g.1.1) h, csem_injective (congrArg Prod.snd h)⟩

/-! ## Slices of the partial sums, slots of the receive buffer -/

abbrev pM : Memref sig .tc .vmem S512x512 .bf16 := Memref.whole cc0_scratch0
abbrev rM : Memref sig .tc .vmem S32x16x512 .bf16 := Memref.whole cc0_scratch1

theorem inbRow (t : Dev nD) : ∀ a, (![16 * t.val, 0] : Fin 2 → ℕ) a + S16x512.size a ≤ S512x512.size a := by
  have h : t.val < 32 := t.isLt
  intro a; fin_cases a
  · show 16 * t.val + 16 ≤ 512; omega
  · show 0 + 512 ≤ 512; omega
theorem inbSlot (o : Fin 32) : ∀ a, (![o.val, 0, 0] : Fin 3 → ℕ) a + S1x16x512.size a ≤ S32x16x512.size a := by
  have h := o.isLt
  intro a; fin_cases a
  · show o.val + 1 ≤ 32; omega
  · show 0 + 16 ≤ 16; omega
  · show 0 + 512 ≤ 512; omega

/-- The rows that go to device `t`. -/
def rowM (t : Dev nD) : Memref sig .tc .vmem S16x512 .bf16 :=
  pM.slice (Rect.unit (s := S512x512) ![16 * t.val, 0] S16x512.size (inbRow t)) (fun _ => rfl)
/-- Slot `o`. -/
def slotM (o : Fin 32) : Memref sig .tc .vmem S16x512 .bf16 :=
  (rM.slice (Rect.unit (s := S32x16x512) ![o.val, 0, 0] S1x16x512.size (inbSlot o)) (fun _ => rfl)).squeeze S16x512 squeezes_S1x16x512_S16x512

/-- The two buffers' indices. -/
abbrev PIx : Type := S512x512.Idx
abbrev RIx : Type := S32x16x512.Idx

def rowSet (t : Dev nD) : Finset PIx := (rowM t).view.set
def slotSet (o : Fin 32) : Finset RIx := (slotM o).view.set

/-- Where a slice's elements sit. -/
theorem row_emb (t : Dev nD) (x : S16x512.Idx) :
    (rowM t).view.emb x = (ix2 ⟨16 * t.val + (x 0).val, by have h : t.val < 32 := t.isLt; have h1 : (x 0).val < 16 := (x 0).isLt; omega⟩ (x 1) : PIx) := by
  funext a
  match a with
  | ⟨0, _⟩ => apply Fin.ext; show 16 * t.val + 1 * (x 0).val = 16 * t.val + (x 0).val; omega
  | ⟨1, _⟩ => apply Fin.ext; show 0 + 1 * (x 1).val = (x 1).val; omega
theorem slot_emb (o : Fin 32) (x : S16x512.Idx) : (slotM o).view.emb x = (ix3 o (x 0) (x 1) : RIx) := by
  have hx : Shape.reshapeEquiv squeezes_S1x16x512_S16x512.numel_eq x = ix3 (0 : Fin 1) (x 0) (x 1) := by
    conv_lhs => rw [eq_ix2 x]
    exact reshapeEquiv_ix2_1ab _ _ _
  show (Rect.unit (s := S32x16x512) ![o.val, 0, 0] S1x16x512.size (inbSlot o)).emb (Shape.reshapeEquiv squeezes_S1x16x512_S16x512.numel_eq x) = _
  rw [hx]
  funext a
  match a with
  | ⟨0, _⟩ => apply Fin.ext; show o.val + 1 * 0 = o.val; omega
  | ⟨1, _⟩ => apply Fin.ext; show 0 + 1 * (x 0).val = (x 0).val; omega
  | ⟨2, _⟩ => apply Fin.ext; show 0 + 1 * (x 1).val = (x 1).val; omega

theorem mem_rowSet (t : Dev nD) (i : PIx) : i ∈ rowSet t ↔ (i 0).val / 16 = t.val := by
  have hi : (i 0).val < 512 := (i 0).isLt
  constructor
  · intro h
    obtain ⟨x, -, hx⟩ := Finset.mem_map.mp h
    have h1 : (x 0).val < 16 := (x 0).isLt
    rw [show i = _ from hx.symm.trans (row_emb t x)]; show (16 * t.val + (x 0).val) / 16 = t.val; omega
  · intro h
    have hx : (rowM t).view.emb (ix2 ⟨(i 0).val % 16, Nat.mod_lt _ (by decide)⟩ (i 1) : S16x512.Idx) = i := by
      rw [row_emb]
      funext a
      match a with
      | ⟨0, _⟩ => apply Fin.ext; show 16 * t.val + (i 0).val % 16 = (i 0).val; omega
      | ⟨1, _⟩ => rfl
    exact hx ▸ View.emb_mem_set (rowM t).view _
theorem mem_slotSet (o : Fin 32) (i : RIx) : i ∈ slotSet o ↔ i 0 = o := by
  constructor
  · intro h
    obtain ⟨x, -, hx⟩ := Finset.mem_map.mp h
    rw [show i = _ from hx.symm.trans (slot_emb o x)]
  · intro h
    have hx : (slotM o).view.emb (ix2 (i 1) (i 2) : S16x512.Idx) = i := by
      rw [slot_emb, ← h]
      exact (eq_ix3 i).symm
    rw [← hx]; exact View.emb_mem_set _ _

theorem row_disjoint {t t' : Dev nD} (h : t ≠ t') : Disjoint (rowSet t) (rowSet t') :=
  Finset.disjoint_left.mpr fun i h1 h2 => h (Fin.ext (((mem_rowSet t i).mp h1).symm.trans ((mem_rowSet t' i).mp h2)))
theorem slot_disjoint {o o' : Fin 32} (h : o ≠ o') : Disjoint (slotSet o) (slotSet o') :=
  Finset.disjoint_left.mpr fun i h1 h2 => h (((mem_slotSet o i).mp h1).symm.trans ((mem_slotSet o' i).mp h2))

/-- Device `c`'s slices by offset, and the slots, are all of their buffers. -/
theorem row_cover (c : Dev nD) : (Finset.univ.biUnion fun o : Fin 32 => rowSet (pl c o)) = Finset.univ := by
  refine Finset.eq_univ_iff_forall.mpr fun i => Finset.mem_biUnion.mpr ?_
  have hi : (i 0).val < 512 := (i 0).isLt
  obtain ⟨o, ho⟩ := pl_surj c ⟨(i 0).val / 16, (by omega : (i 0).val / 16 < 32)⟩
  exact ⟨o, Finset.mem_univ _, (mem_rowSet _ _).mpr (congrArg Fin.val ho).symm⟩
theorem slot_cover : (Finset.univ.biUnion fun o : Fin 32 => slotSet o) = Finset.univ :=
  Finset.eq_univ_iff_forall.mpr fun i => Finset.mem_biUnion.mpr ⟨i 0, Finset.mem_univ _, (mem_slotSet _ _).mpr rfl⟩

/-- What one transfer credits. -/
def N : ℕ := (slotM 0).view.dmaCredit
theorem N_pos : 0 < N := View.dmaCredit_pos _ (by decide)
theorem N_slot (o : Fin 32) : (slotM o).view.dmaCredit = N := rfl

end Cert.KernelIdeal.MoE

end
-- ==== Proof.Ideal.Sched.lean ====
/-
# The schedule: who pays which cell, with what; what a device owes; the levels

Every cell of the protocol has one round with one duty (the cells at offset 0, never used, have none):

* the barrier cell: one unit the device gives itself, nothing handed over;
* the credit cell of `(c, o)`: one unit from the device `c + o`, with slot `o` of that device's receive buffer and the
  mark that its receive cell is open;
* the receive cell of `(c, o)`: a transfer's credit, with slot `o` holding what `c - o` computed for `c`;
* the send cell of `(c, o)`: the same credit at the sender, with the rows that were sent.
-/
module

public import proofs.«01_k».proof.Proof.Ideal.Cells

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Unit
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces of the two buffers -/

/-- Contents of the buffer of partial sums, and of the receive buffer. -/
abbrev PBuf (F : FTy → Type) : Type := (cc0_scratch0 : Ref sig .tc).ty.Contents (Elt F)
abbrev RBuf (F : FTy → Type) : Type := (cc0_scratch1 : Ref sig .tc).ty.Contents (Elt F)

def rowPts (c t : Dev nD) (f : PBuf F) : sProp 𝕄 := (c : Thread nD τ).loc cc0_scratch0 ↦[rowSet t]{fullShare} f
def slotPts (c : Dev nD) (o : Fin 32) (f : RBuf F) : sProp 𝕄 := (c : Thread nD τ).loc cc0_scratch1 ↦[slotSet o]{fullShare} f

omit [FloatOps F] in
theorem rowPts_eq (c t : Dev nD) (f : PBuf F) : (rowPts c t f : sProp 𝕄) = ((rowM t).view.loc (c : Thread nD τ) ↦[(rowM t).view.set]{fullShare} f) := rfl
omit [FloatOps F] in
theorem slotPts_eq (c : Dev nD) (o : Fin 32) (f : RBuf F) : (slotPts c o f : sProp 𝕄) = ((slotM o).view.loc (c : Thread nD τ) ↦[(slotM o).view.set]{fullShare} f) := rfl

omit [FloatOps F] in
instance rowPts_storable (c t : Dev nD) (f : PBuf F) : BI.Storable (upEmb : UEmb _ 𝕄) (rowPts c t f) := by unfold rowPts; infer_instance
omit [FloatOps F] in
instance slotPts_storable (c : Dev nD) (o : Fin 32) (f : RBuf F) : BI.Storable (upEmb : UEmb _ 𝕄) (slotPts c o f) := by unfold slotPts; infer_instance

/-- `P c` is what device `c` computes. What device `c` receives: in slot `o`, its own sixteen rows of what `c - o` computes. -/
def RV (P : Dev nD → PBuf F) (c : Dev nD) : RBuf F := fun i =>
  P (mi c (i 0)) (ix2 ⟨16 * c.val + (i 1).val, by
    have h : c.val < 32 := c.isLt
    have h1 : (i 1).val < 16 := (i 1).isLt
    show 16 * c.val + (i 1).val < 512
    omega⟩ (i 2) : PIx)

/-- The rows for `c + o`, written into slot `o` there, are what that device is to receive. -/
theorem slot_written (P : Dev nD → PBuf F) (c : Dev nD) (o : Fin 32) (fd : RBuf F) (f : PBuf F)
    (hf : ∀ i ∈ rowSet (pl c o), f i = P c i) :
    ∀ i ∈ slotSet o, (slotM o).view.write (Elt F) fd ((rowM (pl c o)).view.read (Elt F) f) Finset.univ i = RV P (pl c o) i := by
  intro i hi
  obtain ⟨x, -, rfl⟩ := Finset.mem_map.mp hi
  have h1 : f ((rowM (pl c o)).view.emb x) = P c ((rowM (pl c o)).view.emb x) := hf _ (View.emb_mem_set _ _)
  have h2 : RV P (pl c o) ((slotM o).view.emb x) = P c ((rowM (pl c o)).view.emb x) := by
    rw [slot_emb, row_emb]
    show P (mi (pl c o) o) _ = _
    rw [mi_pl]
    rfl
  refine (View.write_emb_of_mem (v := (slotM o).view) _ _ (Finset.mem_univ x)).trans ?_
  exact h1.trans h2.symm

/-! ## The schedule -/

variable (P : Dev nD → PBuf F)

def dutiesK : Key → Finset Unit
  | none => {()}
  | some k => if k.2 = 0 then ∅ else {()}
def amountK : Key → ℕ
  | none => 1
  | some k => if k.1 = 2 then 1 else N
def payK (c : Dev nD) : Key → sProp 𝕄
  | none => iprop(emp)
  | some k => if k.1 = 0 then rowPts c (pl c k.2) (P c) else if k.1 = 1 then slotPts c k.2 (RV P c)
      else iprop((∃ f, slotPts (pl c k.2) k.2 f) ∗ reached ER (recvCell (pl c k.2) k.2) 0)

omit [FloatOps F] in
theorem payK_send (c : Dev nD) (o : Fin 32) : payK P c (some (0, o)) = rowPts c (pl c o) (P c) := rfl
omit [FloatOps F] in
theorem payK_recv (c : Dev nD) (o : Fin 32) : payK P c (some (1, o)) = slotPts c o (RV P c) := rfl
omit [FloatOps F] in
theorem payK_cred (c : Dev nD) (o : Fin 32) :
    payK P c (some (2, o)) = iprop((∃ f, slotPts (pl c o) o f) ∗ reached ER (recvCell (pl c o) o) 0) := rfl

theorem amountK_pos (k : Key) : 0 < amountK k := by
  cases k with
  | none => exact Nat.one_pos
  | some k =>
    show 0 < if k.1 = 2 then 1 else N
    split
    · exact Nat.one_pos
    · exact N_pos

omit [FloatOps F] in
instance payK_storable (c : Dev nD) (k : Key) : BI.Storable (upEmb : UEmb _ 𝕄) (payK P c k) := by
  unfold payK
  (repeat' split) <;> infer_instance

def Rd : Rounds.Schedule (GSem nD τ sig) Unit 𝕄 where
  duties g r := if r = 0 ∧ g.1.2 = .tc then (keyOf g.2).elim ∅ dutiesK else ∅
  unitless _ := False
  amount g _ _ := (keyOf g.2).elim 1 amountK
  payload g _ _ := (keyOf g.2).elim iprop(emp) (payK P g.1.1)
  amount_pos g _ _ _ := by
    cases keyOf g.2 with
    | none => exact Nat.one_pos
    | some k => exact amountK_pos k

omit [FloatOps F] in
instance Rd_payload_storable (g : GSem nD τ sig) (r : ℕ) (d : Unit) :
    BI.Storable (upEmb : UEmb _ 𝕄) ((Rd (F := F) P).payload g r d) := by
  show BI.Storable upEmb ((keyOf g.2).elim iprop(emp) (payK P g.1.1))
  cases keyOf g.2 with
  | none => show BI.Storable upEmb (iprop(emp) : sProp 𝕄); infer_instance
  | some k => exact payK_storable P g.1.1 k

omit [FloatOps F] in
theorem duties_kcell (c : Dev nD) (k : Key) : (Rd (F := F) P).duties (kcell c k) 0 = dutiesK k := by
  dsimp only [Rd]; rw [if_pos ⟨rfl, rfl⟩, keyOf_csem]; rfl
omit [FloatOps F] in
theorem duties_later (g : GSem nD τ sig) : ∀ r, 1 ≤ r → (Rd (F := F) P).duties g r = ∅ :=
  fun r hr => by dsimp only [Rd]; rw [if_neg fun h => by omega]
omit [FloatOps F] in
theorem duties_zero (c : Dev nD) (a : Fin 3) : ∀ r, 0 ≤ r → (Rd (F := F) P).duties (kcell c (some (a, 0))) r = ∅ := fun r _ => by
  cases r with
  | zero => rw [duties_kcell]; rfl
  | succ r => exact duties_later P _ _ (Nat.succ_pos r)
omit [FloatOps F] in
theorem amount_kcell (c : Dev nD) (k : Key) (r : ℕ) (d : Unit) : (Rd (F := F) P).amount (kcell c k) r d = amountK k := by
  dsimp only [Rd]; rw [keyOf_csem]; rfl
omit [FloatOps F] in
theorem payload_kcell (c : Dev nD) (k : Key) (r : ℕ) (d : Unit) : (Rd (F := F) P).payload (kcell c k) r d = payK P c k := by
  dsimp only [Rd]; rw [keyOf_csem]; rfl

/-- Keys with a duty. -/
def live : Key → Prop
  | none => True
  | some k => k.2 ≠ 0
theorem dutiesK_live {k : Key} (h : live k) : dutiesK k = {()} := by
  cases k with
  | none => rfl
  | some k => exact if_neg h
omit [FloatOps F] in
theorem mem_duties {c : Dev nD} {k : Key} (h : live k) : () ∈ (Rd (F := F) P).duties (kcell c k) 0 := by
  rw [duties_kcell, dutiesK_live h]; exact Finset.mem_singleton_self _
omit [FloatOps F] in
theorem expect_kcell {c : Dev nD} {k : Key} (h : live k) : (Rd (F := F) P).expect (kcell c k) 0 = amountK k := by
  unfold Schedule.expect Schedule.amountOf
  rw [duties_kcell, dutiesK_live h, Finset.sum_singleton, amount_kcell]
omit [FloatOps F] in
theorem rest_kcell {c : Dev nD} {k : Key} (h : live k) :
    bigSep ((Rd (F := F) P).duties (kcell c k) 0 \ ∅) (fun d => (Rd (F := F) P).payload (kcell c k) 0 d) = payK P c k := by
  rw [Finset.sdiff_empty, duties_kcell, dutiesK_live h, bigSep_singleton, payload_kcell]

/-! ## What is owed -/

/-- The landings device `c` owes for the offsets in `s`, and the credits. -/
def OV (c : Dev nD) (s : Finset (Fin 32)) : CellTallies nD τ sig Unit := ∑ o ∈ s, tallyAt (recvCell (pl c o) o) () N
def OC (c : Dev nD) (s : Finset (Fin 32)) : CellTallies nD τ sig Unit := ∑ o ∈ s, tallyAt (credCell (mi c o) o) () 1

/-- The offsets in use. -/
def offs : Finset (Fin 32) := Finset.univ.erase 0
/-- All a device owes at the start. -/
def O₀ (c : Dev nD) : CellTallies nD τ sig Unit := (OV c offs + OC c offs) + tallyAt (barCell c) () 1

theorem sum_tally_pos {ι : Type} [DecidableEq ι] (s : Finset ι) (cl : ι → GSem nD τ sig) (n : ℕ) {g : GSem nD τ sig} {u : Unit}
    (h : 0 < (∑ o ∈ s, (tallyAt (cl o) () n : CellTallies nD τ sig Unit)) g u) : ∃ o ∈ s, g = cl o := by
  induction s using Finset.induction_on with
  | empty => exact absurd h (Nat.lt_irrefl 0)
  | insert o s ho ih =>
    rw [Finset.sum_insert ho, Pi.add_apply, Finsupp.add_apply, tallyAt_apply] at h
    by_cases hg : g = cl o
    · exact ⟨o, Finset.mem_insert_self _ _, hg⟩
    · rw [if_neg fun h' => hg h'.1, Nat.zero_add] at h
      obtain ⟨o', ho', e⟩ := ih h
      exact ⟨o', Finset.mem_insert_of_mem ho', e⟩

theorem add_pos_or {A B : CellTallies nD τ sig Unit} {g : GSem nD τ sig} {u : Unit} (h : 0 < (A + B) g u) : 0 < A g u ∨ 0 < B g u := by
  rw [Pi.add_apply, Finsupp.add_apply] at h; omega

theorem OV_erase (c : Dev nD) {s : Finset (Fin 32)} {o : Fin 32} (h : o ∈ s) :
    OV c s = OV c (s.erase o) + tallyAt (recvCell (pl c o) o) () N := (Finset.sum_erase_add _ _ h).symm
theorem OC_erase (c : Dev nD) {s : Finset (Fin 32)} {o : Fin 32} (h : o ∈ s) :
    OC c s = OC c (s.erase o) + tallyAt (credCell (mi c o) o) () 1 := (Finset.sum_erase_add _ _ h).symm

/-! ## Levels -/

/-- Barrier cells at 1, credit cells at 2, receive cells at 3, everything else (staging, send) at 0. -/
def levK : Key → ℕ
  | none => 1
  | some k => if k.1 = 0 then 0 else if k.1 = 1 then 3 else 2

def L (g : GSem nD τ sig) : Finset Unit := if g.1.2 = .tc then {()} else ∅
def lv (g : GSem nD τ sig) (_ : Unit) : ℕ := (keyOf g.2).elim 0 levK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Key) (u : Unit) : lv (kcell c k) u = levK k := by unfold lv; rw [keyOf_csem]; rfl

omit [FloatOps F] in
/-- A device may wait on a cell at or under level `n` when all it owes lies above. -/
theorem mayWait_cut (c : Dev nD) (sm : SemLoc sig) (O : CellTallies nD τ sig Unit) (n : ℕ) (hsm : lv ((c : Thread nD τ), sm) () ≤ n)
    (hO : ∀ g u, 0 < O g u → ∃ d k, g = kcell d k ∧ n < levK k) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hsm)
    (fun g u hg => by obtain ⟨d, k, rfl, h⟩ := hO g u hg; rw [lv_kcell]; exact h)

theorem OV_above (c : Dev nD) (s : Finset (Fin 32)) {g : GSem nD τ sig} {u : Unit} (h : 0 < OV c s g u) (n : ℕ) (hn : n < 3) :
    ∃ d k, g = kcell d k ∧ n < levK k := by
  obtain ⟨o, -, e⟩ := sum_tally_pos s (fun o => recvCell (pl c o) o) N h
  exact ⟨_, _, e, hn⟩
theorem OC_above (c : Dev nD) (s : Finset (Fin 32)) {g : GSem nD τ sig} {u : Unit} (h : 0 < OC c s g u) (n : ℕ) (hn : n < 2) :
    ∃ d k, g = kcell d k ∧ n < levK k := by
  obtain ⟨o, -, e⟩ := sum_tally_pos s (fun o => credCell (mi c o) o) 1 h
  exact ⟨_, _, e, hn⟩

theorem O₀_above (c : Dev nD) {g : GSem nD τ sig} {u : Unit} (h : 0 < O₀ c g u) : ∃ d k, g = kcell d k ∧ 0 < levK k := by
  rcases add_pos_or h with h | h
  · rcases add_pos_or h with h | h
    · exact OV_above c _ h 0 (by decide)
    · exact OC_above c _ h 0 (by decide)
  · rw [tallyAt_apply] at h
    by_cases hg : g = barCell c ∧ u = ()
    · exact ⟨_, _, hg.1, Nat.one_pos⟩
    · rw [if_neg hg] at h; exact absurd h (Nat.lt_irrefl 0)

omit [FloatOps F] in
/-- At the barrier wait a device owes credits and landings: above. -/
theorem mayWait_bar (c : Dev nD) : (levAts L lv : sProp 𝕄) ⊢ MayWait (c : Thread nD τ) (csem none) () (OV c offs + OC c offs) :=
  mayWait_cut c _ _ 1 (lv_kcell c none ()).le fun g u h => by
    rcases add_pos_or h with h | h
    · exact OV_above c _ h 1 (by decide)
    · exact OC_above c _ h 1 (by decide)
omit [FloatOps F] in
/-- At a credit wait it owes landings. -/
theorem mayWait_cred (c : Dev nD) (o : Fin 32) (s : Finset (Fin 32)) :
    (levAts L lv : sProp 𝕄) ⊢ MayWait (c : Thread nD τ) (csem (some (2, o))) () (OV c s) :=
  mayWait_cut c _ _ 2 (lv_kcell c (some (2, o)) ()).le fun g u h => OV_above c _ h 2 (by decide)

end Cert.KernelIdeal.MoE

end
-- ==== Proof.Ideal.Steps.lean ====
/-
# One rule per operation of the kernel

A rule takes the protocol's state from before an operation to after it, beside whatever else the device holds. The
states are indexed by the offset the kernel has reached:

* `SigSt i`: the credits for the offsets from `i` on are still to be given;
* `SendSt b i`: the first `b + 1` blocks of partial sums are stored, and of block `b` the slices at offsets from `i` on
  (and all of the later blocks) are still to be sent;
* `WaitSt a i`: of the receive cells (`a = 1`) or the send cells (`a = 0`) those from `i` on are still to be waited for.
-/
module

public import proofs.«01_k».proof.Proof.Ideal.Sched

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One summand of many -/

omit [FloatOps F] in
theorem all_at {I : Type} [DecidableEq I] {s : Finset I} {i : I} {X : I → sProp 𝕄} (h : i ∈ s) : (bigSep s X : sProp 𝕄) ⊢ X i := bigSep_elim h
omit [FloatOps F] in
theorem all_erase {I : Type} [DecidableEq I] {s : Finset I} {i : I} {X : I → sProp 𝕄} (h : i ∈ s) :
    bigSep s X = iprop(X i ∗ bigSep (s.erase i) X) := bigSep_erase h
omit [FloatOps F] in
theorem all_insert {I : Type} [DecidableEq I] {s : Finset I} {i : I} {X : I → sProp 𝕄} (h : i ∉ s) :
    bigSep (insert i s) X = iprop(X i ∗ bigSep s X) := bigSep_insert h

abbrev 𝒱₀ : Variants := Variants.none

/-- The kernel's programs, and their weakest preconditions on device `c`. -/
abbrev Pg (F : FTy → Type) [FloatOps F] (α : Type) : Type 1 := Prog (TpuEff nD τ sig (Elt F) Λ₀ .tc) α
def WP {α : Type} (c : Dev nD) (p : Pg F α) (Q : α → sProp 𝕄) : sProp 𝕄 :=
  wp frame (wpE (defs₀ (F := F)) 𝒱₀ (c : Thread nD τ) none) Set.univ p Q

section Plain
variable {α β : Type} {c : Dev nD} {A : sProp (MT nD τ sig Unit (Elt F) ℕ UU ℕ)}

theorem bind_step {p : Pg F α} {k : α → Pg F β} {Q : β → sProp 𝕄} (h : A ⊢ WP c p fun a => WP c (k a) Q) : A ⊢ WP c (p >>= k) Q := by
  unfold WP at h ⊢; rw [wp_bind]; exact h
theorem pure_step {a : α} {Q : α → sProp 𝕄} (h : A ⊢ Q a) : A ⊢ WP c (pure a) Q := by
  unfold WP; rw [wp_pure]; refine h.trans ?_; iintro H; imodintro; iexact H
theorem device_step {k : Dev nD → Pg F β} {Q : β → sProp 𝕄} (h : A ⊢ WP c (k c) Q) : A ⊢ WP c ((Prog.lift .deviceId : Pg F (Dev nD)) >>= k) Q := by
  unfold WP at h ⊢
  show A ⊢ wp frame _ _ (Prog.op .deviceId k) Q
  rw [wp_deviceId]; exact h

end Plain

variable (P : Dev nD → PBuf F) (K : Dev nD × Key → ℕ)

/-! ## What every rule may use: the cells' invariants, that every cell's round is open, the levels -/

def env : sProp 𝕄 :=
  iprop((bigSep Finset.univ fun ck : Dev nD × Key => cellInv ER (Rd P) (K ck) (kcell ck.1 ck.2))
    ∗ (bigSep Finset.univ fun ck : Dev nD × Key => reached ER (kcell ck.1 ck.2) 0) ∗ levAts L lv)

omit [FloatOps F] in
instance env_persistent : BI.Persistent (env (F := F) P K) := by unfold env; infer_instance
omit [FloatOps F] in
theorem env_inv (c : Dev nD) (k : Key) : (env P K : sProp 𝕄) ⊢ cellInv ER (Rd P) (K (c, k)) (kcell c k) := by
  unfold env; iintro ⟨H, -, -⟩
  iapply (all_at (Finset.mem_univ ((c, k) : Dev nD × Key)) (X := fun ck : Dev nD × Key => (cellInv ER (Rd P) (K ck) (kcell ck.1 ck.2) : sProp 𝕄)))
  iexact H
omit [FloatOps F] in
theorem env_reached (c : Dev nD) (k : Key) : (env P K : sProp 𝕄) ⊢ reached ER (kcell c k) 0 := by
  unfold env; iintro ⟨-, H, -⟩
  iapply (all_at (Finset.mem_univ ((c, k) : Dev nD × Key)) (X := fun ck : Dev nD × Key => (reached ER (kcell ck.1 ck.2) 0 : sProp 𝕄)))
  iexact H
omit [FloatOps F] in
theorem env_lev : (env P K : sProp 𝕄) ⊢ levAts L lv := by
  unfold env; iintro ⟨-, -, H⟩; iexact H

/-- What is owed, whatever was waited for. -/
def Ow (c : Dev nD) (O : CellTallies nD τ sig Unit) : sProp 𝕄 := iprop(∃ W : Waits sig Unit, owes (c : Thread nD τ) O W)

/-! ## Offsets from `i` on -/

def fromO (i : ℕ) : Finset (Fin 32) := Finset.univ.filter fun o => i ≤ o.val
theorem mem_fromO (i : ℕ) (o : Fin 32) : o ∈ fromO i ↔ i ≤ o.val := by simp [fromO]
theorem fromO_erase (i : ℕ) (hi : i < 32) : (fromO i).erase ⟨i, hi⟩ = fromO (i + 1) := by
  ext o; rw [Finset.mem_erase, mem_fromO, mem_fromO, Ne, Fin.ext_iff]; show ¬ o.val = i ∧ i ≤ o.val ↔ i + 1 ≤ o.val; omega
theorem self_mem_fromO (i : ℕ) (hi : i < 32) : (⟨i, hi⟩ : Fin 32) ∈ fromO i := (mem_fromO i _).mpr le_rfl
theorem fromO_one : fromO 1 = offs := by decide
theorem fromO_end : fromO 32 = ∅ := by decide

/-! ## Waiting on a cell of one's own, and closing it -/

variable {α : Type} {c : Dev nD} {Q : α → sProp (MT nD τ sig Unit (Elt F) ℕ UU ℕ)} {Fr : sProp (MT nD τ sig Unit (Elt F) ℕ UU ℕ)}

set_option maxRecDepth 20000 in
/-- A wait for the whole of a live cell of one's own: its payload comes, and the cell's counter, at zero, is the device's again. -/
theorem wait_own (k : Key) (hk : live k) {w : TpuEff nD τ sig (Elt F) Λ₀ .tc PUnit} (n : ℕ)
    (hw : ∀ X : PUnit → sProp 𝕄, wpE (defs₀ (F := F)) 𝒱₀ (c : Thread nD τ) none Set.univ w X = waitSpec (c : Thread nD τ) Set.univ (csem k) n X)
    (hn : n = amountK k) (O : CellTallies nD τ sig Unit) (hO : (levAts L lv : sProp 𝕄) ⊢ MayWait (c : Thread nD τ) (csem k) () O)
    {j : PUnit → Pg F α} (h : iprop(env P K ∗ (Ow c O ∗ semVal (kcell c k) 0 ∗ payK P c k) ∗ Fr) ⊢ WP c (j ⟨⟩) Q) :
    iprop(env P K ∗ (Ow c O ∗ cred (tallyAt (kcell c k) () (amountK k)) ∗ atPos ER (kcell c k) 0 ∅ 0) ∗ Fr) ⊢ WP c (Prog.op w j) Q := by
  subst hn
  have hO' : (env P K : sProp 𝕄) ⊢ MayWait (c : Thread nD τ) (csem k) () O := (env_lev P K).trans hO
  unfold WP Ow at h ⊢
  iintro ⟨#He, ⟨⟨%W, HO⟩, Hc, Hat⟩, HF⟩
  iapply (Rounds.wp_wait_rest_token 𝒱₀ ER (Rd P) (c : Thread nD τ) none (κ := K (c, k)) hw (Set.mem_univ _) () (O := O) (W := W) (R := 0) (m := 0) (T := ∅)
      (by rw [Nat.zero_add]; exact (expect_kcell P (c := c) hk).symm)) $$ [Hc HO Hat]
  · isplitr; · iapply (env_inv P K c k); iexact He
    isplitl [Hc]; · iexact Hc
    isplitl [HO]; · iexact HO
    isplitr; · iapply hO'; iexact He
    iexact Hat
  iintro ⟨HO, Hat, -, Hpay⟩
  ihave Hp := (Entails.of_eq (rest_kcell P (c := c) hk)) $$ Hpay
  imod (Rounds.cell_close ER (Rd P) (Set.mem_univ (K (c, k))) (fun h => h) (R := 0 + 1) (duties_later P (kcell c k))) $$ [Hat] with Hz
  · isplitr; · iapply (env_inv P K c k); iexact He
    iexact Hat
  iapply h
  isplitr; · iexact He
  isplitr [HF]
  · isplitl [HO]; · iexists _; iexact HO
    isplitl [Hz] <;> iassumption
  iexact HF

/-! ## The credits -/

/-- The credits for the offsets from `i` on are still to be given: owed, with their tokens and the slots they offer. -/
def SigSt (c : Dev nD) (i : ℕ) : sProp 𝕄 :=
  iprop(Ow c (OV c offs + OC c (fromO i))
    ∗ bigSep (fromO i) fun o => iprop(dutyTok ER (credCell (mi c o) o) 0 () ∗ ∃ f, slotPts c o f))

theorem signal_step (i : ℕ) (hi : i < 32) (hi0 : i ≠ 0) (dev : Dev nD → ℕ) (hlt : dev c < nD)
    {hin : ∀ a, (![i] : Fin 1 → ℕ) a + S1.size a ≤ S32.size a}
    (hdev : ∀ d, dev d = (mi d ⟨i, hi⟩).val) {j : PUnit → Pg F α}
    (h : iprop(env P K ∗ SigSt c (i + 1) ∗ Fr) ⊢ WP c (j ⟨⟩) Q) :
    iprop(env P K ∗ SigSt c i ∗ Fr) ⊢ WP c (semSignalWord (⟨dev c, hlt⟩ : Dev nD)
      ((cc0_scratch4.slice (Rect.unit (s := S32) ![i] S1.size hin)).squeeze S_ squeezes_S1_S_).sem 1#32 >>= j) Q := by
  rw [credS_eq i hi hin, show (⟨dev c, hlt⟩ : Dev nD) = mi c ⟨i, hi⟩ from Fin.ext (hdev c)]
  have hl : live (some ((2 : Fin 3), (⟨i, hi⟩ : Fin 32))) := fun e => hi0 (congrArg Fin.val e)
  unfold WP SigSt Ow at h ⊢
  show _ ⊢ wp frame _ _ (Prog.op (.semSignal ((mi c ⟨i, hi⟩ : Dev nD) : Thread nD τ) (credS ⟨i, hi⟩) (1#32).toInt) j) Q
  rw [OC_erase c (self_mem_fromO i hi), ← add_assoc, all_erase (self_mem_fromO i hi), fromO_erase i hi]
  iintro ⟨#He, ⟨⟨%W, HO⟩, ⟨Ht, Hs⟩, Hr⟩, HF⟩
  iapply (Rounds.wp_signal 𝒱₀ ER (Rd P) (c : Thread nD τ) none (dst := ((mi c ⟨i, hi⟩ : Dev nD) : Thread nD τ)) (κ := K (mi c ⟨i, hi⟩, some (2, ⟨i, hi⟩)))
      (sem := credS ⟨i, hi⟩) (r := 0)
      (d := ()) (mem_duties P hl) ((amount_kcell P (mi c ⟨i, hi⟩) (some (2, ⟨i, hi⟩)) 0 ()).trans rfl) () (OV c offs + OC c (fromO (i + 1))) rfl)
    $$ [HO Ht Hs]
  · isplitr; · iapply (env_inv P K (mi c ⟨i, hi⟩) (some (2, ⟨i, hi⟩))); iexact He
    isplitl [HO]; · iexact HO
    isplitl [Ht]; · iexact Ht
    isplitl [Hs]
    · rw [show (Rd P).payload (((mi c ⟨i, hi⟩ : Dev nD) : Thread nD τ), SemLoc.reg (credS ⟨i, hi⟩)) 0 () = _ from payload_kcell P (mi c ⟨i, hi⟩) (some (2, ⟨i, hi⟩)) 0 ()]
      rw [payK_cred, pl_mi]
      isplitl [Hs]; · iexact Hs
      iapply (env_reached P K c (some (1, ⟨i, hi⟩))); iexact He
    · iapply (env_reached P K (mi c ⟨i, hi⟩) (some (2, ⟨i, hi⟩))); iexact He
  iintro HO
  iapply h
  isplitr; · iexact He
  isplitr [HF]
  · isplitl [HO]; · iexists W; iexact HO
    iexact Hr
  iexact HF

end Cert.KernelIdeal.MoE

end
-- ==== Proof.Ideal.Send.lean ====
/-
# The rules for the slices sent, the blocks stored and the completions waited for
-/
module

public import proofs.«01_k».proof.Proof.Ideal.Steps

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is still to be sent -/

/-- The block of 128 rows that the slice for offset `o` lies in. -/
def blk (c : Dev nD) (o : Fin 32) : ℕ := (pl c o).val / 8
/-- In block `b`, at offset `i`: the offsets of later blocks, and those from `i` on whose slice lies in block `b`. -/
def Rem (c : Dev nD) (b i : ℕ) : Finset (Fin 32) :=
  Finset.univ.filter fun o => o.val ≠ 0 ∧ (b < blk c o ∨ (blk c o = b ∧ i ≤ o.val))

theorem mem_Rem (c : Dev nD) (b i : ℕ) (o : Fin 32) : o ∈ Rem c b i ↔ o.val ≠ 0 ∧ (b < blk c o ∨ (blk c o = b ∧ i ≤ o.val)) := by simp [Rem]
theorem mem_offs (o : Fin 32) : o ∈ offs ↔ o.val ≠ 0 := by
  unfold offs; rw [Finset.mem_erase, Ne, Fin.ext_iff]; exact and_iff_left (Finset.mem_univ o)
theorem Rem_self {c : Dev nD} {b i : ℕ} (hi : i < 32) (hi0 : i ≠ 0) (h : blk c ⟨i, hi⟩ = b) : (⟨i, hi⟩ : Fin 32) ∈ Rem c b i :=
  (mem_Rem ..).mpr ⟨hi0, .inr ⟨h, le_rfl⟩⟩
theorem Rem_erase {c : Dev nD} {b i : ℕ} (hi : i < 32) (h : blk c ⟨i, hi⟩ = b) : (Rem c b i).erase ⟨i, hi⟩ = Rem c b (i + 1) := by
  ext o
  rw [Finset.mem_erase, mem_Rem, mem_Rem]
  by_cases ho : o = ⟨i, hi⟩
  · subst ho
    rw [h]
    show ¬ _ = _ ∧ _ ↔ i ≠ 0 ∧ (b < b ∨ b = b ∧ i + 1 ≤ i)
    constructor
    · exact fun h => absurd rfl h.1
    · omega
  · have hv : o.val ≠ i := fun e => ho (Fin.ext e)
    constructor
    · rintro ⟨-, h0, h1⟩; exact ⟨h0, by omega⟩
    · rintro ⟨h0, h1⟩; exact ⟨ho, h0, by omega⟩
theorem Rem_skip {c : Dev nD} {b i : ℕ} (hi : i < 32) (h : blk c ⟨i, hi⟩ ≠ b) : Rem c b i = Rem c b (i + 1) := by
  ext o
  rw [mem_Rem, mem_Rem]
  by_cases ho : o = ⟨i, hi⟩
  · subst ho
    constructor <;> (rintro ⟨h0, h1⟩; exact ⟨h0, by omega⟩)
  · have hv : o.val ≠ i := fun e => ho (Fin.ext e)
    constructor <;> (rintro ⟨h0, h1⟩; exact ⟨h0, by omega⟩)
theorem Rem_start (c : Dev nD) : Rem c 0 1 = offs := by
  ext o; rw [mem_Rem, mem_offs]
  constructor
  · exact fun h => h.1
  · intro h; exact ⟨h, by omega⟩
theorem Rem_next (c : Dev nD) (b : ℕ) : Rem c b 32 = Rem c (b + 1) 1 := by
  ext o; rw [mem_Rem, mem_Rem]
  have := o.isLt
  constructor <;> (rintro ⟨h0, h1⟩; exact ⟨h0, by omega⟩)
theorem Rem_end (c : Dev nD) : Rem c 3 32 = ∅ := by
  ext o; rw [mem_Rem]
  have := o.isLt
  have h : blk c o < 4 := by have h : (pl c o).val < 32 := (pl c o).isLt; unfold blk; omega
  constructor
  · rintro ⟨h0, h1⟩; omega
  · intro h; exact absurd h (Finset.notMem_empty o)

/-! ## The rows a device still holds -/

/-- Its own rows and those of the offsets in `R`. -/
def heldSet (c : Dev nD) (R : Finset (Fin 32)) : Finset PIx := (insert 0 R).biUnion fun o => rowSet (pl c o)
def held (c : Dev nD) (R : Finset (Fin 32)) (g : PBuf F) : sProp 𝕄 := (c : Thread nD τ).loc cc0_scratch0 ↦[heldSet c R]{fullShare} g

theorem heldSet_take (c : Dev nD) {R : Finset (Fin 32)} {o : Fin 32} (ho : o ∈ R) (h0 : o ≠ 0) :
    heldSet c R = rowSet (pl c o) ∪ heldSet c (R.erase o) ∧ Disjoint (rowSet (pl c o)) (heldSet c (R.erase o)) := by
  unfold heldSet
  have e : insert 0 R = insert o (insert 0 (R.erase o)) := by
    rw [Finset.insert_comm, Finset.insert_erase ho]
  constructor
  · rw [e, Finset.biUnion_insert]
  · refine (Finset.disjoint_biUnion_right _ _ _).mpr fun o' ho' => row_disjoint fun e' => ?_
    have : o = o' := pl_inj c e'
    subst this
    rcases Finset.mem_insert.mp ho' with h | h
    · exact h0 h
    · exact Finset.notMem_erase _ _ h

omit [FloatOps F] in
theorem held_take (c : Dev nD) {R : Finset (Fin 32)} {o : Fin 32} (ho : o ∈ R) (h0 : o ≠ 0) (g : PBuf F) :
    (held c R g : sProp 𝕄) ⊢ iprop(rowPts c (pl c o) g ∗ held c (R.erase o) g) := by
  unfold held rowPts
  rw [(heldSet_take c ho h0).1]
  exact (pointsTo_union (heldSet_take c ho h0).2).1

/-- Before a block is stored all of it is held. -/
theorem block_held (c : Dev nD) (b : ℕ) (x : PIx) (hx : (x 0).val / 128 = b) : x ∈ heldSet c (Rem c b 1) := by
  have hi : (x 0).val < 512 := (x 0).isLt
  have h32 : (x 0).val / 16 < 32 := by omega
  obtain ⟨o, ho⟩ := pl_surj c ⟨(x 0).val / 16, h32⟩
  have hv : (pl c o).val = (x 0).val / 16 := congrArg Fin.val ho
  refine Finset.mem_biUnion.mpr ⟨o, ?_, (mem_rowSet _ _).mpr hv.symm⟩
  by_cases h0 : o = 0
  · rw [h0]; exact Finset.mem_insert_self _ _
  · refine Finset.mem_insert_of_mem ((mem_Rem ..).mpr ⟨fun e => h0 (Fin.ext e), .inr ⟨?_, ?_⟩⟩)
    · unfold blk; omega
    · have : o.val ≠ 0 := fun e => h0 (Fin.ext e)
      omega

theorem heldSet_offs (c : Dev nD) : heldSet c offs = Finset.univ := by
  unfold heldSet offs; rw [Finset.insert_erase (Finset.mem_univ _)]; exact row_cover c
theorem heldSet_empty (c : Dev nD) : heldSet c ∅ = rowSet c := by
  unfold heldSet; rw [insert_empty_eq, Finset.singleton_biUnion, pl_zero]

/-! ## Sending -/

variable (P : Dev nD → PBuf F) (K : Dev nD × Key → ℕ)

/-- What offset `o` needs to be sent, and what it leaves. -/
def toSend (c : Dev nD) (o : Fin 32) : sProp 𝕄 :=
  iprop(cred (tallyAt (credCell c o) () 1) ∗ atPos ER (credCell c o) 0 ∅ 0 ∗ dutyTok ER (recvCell (pl c o) o) 0 () ∗ dutyTok ER (sendCell c o) 0 ())
def sentO (c : Dev nD) (o : Fin 32) : sProp 𝕄 := iprop(semVal (credCell c o) 0 ∗ cred (tallyAt (sendCell c o) () N))

/-- `n` rows are stored, the slices `R` are still to be sent. -/
def SendR (c : Dev nD) (n : ℕ) (R : Finset (Fin 32)) : sProp 𝕄 :=
  iprop(Ow c (OV c R) ∗ bigSep R (toSend c) ∗ bigSep (offs \ R) (sentO c)
    ∗ ∃ g : PBuf F, ⌜∀ x : PIx, (x 0).val < n → g x = P c x⌝ ∗ held c R g)
def SendSt (c : Dev nD) (b i : ℕ) : sProp 𝕄 := SendR P c (128 * (b + 1)) (Rem c b i)

variable {α : Type} {c : Dev nD} {Q : α → sProp (MT nD τ sig Unit (Elt F) ℕ UU ℕ)} {Fr : sProp (MT nD τ sig Unit (Elt F) ℕ UU ℕ)}

theorem sdiff_erase_insert {R : Finset (Fin 32)} {o : Fin 32} (ho : o ∈ offs) :
    offs \ R.erase o = insert o (offs \ R) := by
  ext x; simp only [Finset.mem_sdiff, Finset.mem_erase, Finset.mem_insert]
  by_cases h : x = o
  · subst h; simp [ho]
  · simp [h]

set_option maxRecDepth 20000 in
set_option maxHeartbeats 1000000 in
/-- One slice: its credit is awaited, then it is sent. -/
theorem send_one (o : Fin 32) (h0 : o ≠ 0) (n : ℕ) (R : Finset (Fin 32)) (ho : o ∈ R) (hn : 16 * (pl c o).val + 16 ≤ n)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem (some (2, o))) 1 X)
    {hsc : (slotM o : Memref sig (Dev.tc (pl c o) : Thread nD τ).2.kind .vmem S16x512 .bf16).view.ref.isScScratch = false}
    {hsrc : (rowM (pl c o)).view.WordExact} {hdst : (slotM o).view.WordExact}
    {hsem : DmaTarget.Typed .vmem (.dma (recvS o)) (.remote (Dev.tc (pl c o) : Thread nD τ) (slotM o) (.dma (sendS o)) hsc)}
    {j : PUnit → Pg F α} (h : iprop(env P K ∗ SendR P c n (R.erase o) ∗ Fr) ⊢ WP c (j ⟨⟩) Q) :
    iprop(env P K ∗ SendR P c n R ∗ Fr)
      ⊢ WP c (Prog.op w fun _ => Prog.op (.enqueueDma (rowM (pl c o)) (.remote (Dev.tc (pl c o) : Thread nD τ) (slotM o) (.dma (sendS o)) hsc) (.dma (recvS o)) hsrc hdst hsem) j) Q := by
  have hoffs : o ∈ offs := (mem_offs o).mpr fun e => h0 (Fin.ext e)
  have hl : ∀ a : Fin 3, live (some (a, o)) := fun a => h0
  have first := wait_own P K (c := c) (Q := Q) (some ((2 : Fin 3), o)) (hl 2) 1 hw rfl (OV c R) (mayWait_cred c o R)
    (Fr := iprop((dutyTok ER (recvCell (pl c o) o) 0 () ∗ dutyTok ER (sendCell c o) 0 ()) ∗ bigSep (R.erase o) (toSend c) ∗ bigSep (offs \ R) (sentO c)
      ∗ (∃ g : PBuf F, ⌜∀ x : PIx, (x 0).val < n → g x = P c x⌝ ∗ held c R g) ∗ Fr))
    (j := fun _ => Prog.op (.enqueueDma (rowM (pl c o)) (.remote (Dev.tc (pl c o) : Thread nD τ) (slotM o) (.dma (sendS o)) hsc) (.dma (recvS o)) hsrc hdst hsem) j)
  have second : iprop(env P K ∗ (Ow c (OV c R) ∗ semVal (kcell c (some (2, o))) 0 ∗ payK P c (some (2, o)))
      ∗ ((dutyTok ER (recvCell (pl c o) o) 0 () ∗ dutyTok ER (sendCell c o) 0 ()) ∗ bigSep (R.erase o) (toSend c) ∗ bigSep (offs \ R) (sentO c)
      ∗ (∃ g : PBuf F, ⌜∀ x : PIx, (x 0).val < n → g x = P c x⌝ ∗ held c R g) ∗ Fr))
      ⊢ WP c (Prog.op (.enqueueDma (rowM (pl c o)) (.remote (Dev.tc (pl c o) : Thread nD τ) (slotM o) (.dma (sendS o)) hsc) (.dma (recvS o)) hsrc hdst hsem) j) Q := by
    rw [payK_cred]
    unfold WP at h ⊢
    unfold Ow
    iintro ⟨#He, ⟨⟨%W, HO⟩, Hz, ⟨%fd, Hslot⟩, #Hrv⟩, ⟨HtV, HtS⟩, HR, HD, ⟨%g, %hg, Hh⟩, HF⟩
    ihave Hh' := (held_take c ho h0 g) $$ Hh
    icases Hh' with ⟨Hrow, Hh⟩
    have hgrow : ∀ x ∈ rowSet (pl c o), g x = P c x := fun x hx => hg x (by have := (mem_rowSet _ _).mp hx; omega)
    iapply (Rounds.wp_send_pointsTo 𝒱₀ ER (Rd P) (c : Thread nD τ) none (c' := ((pl c o : Dev nD) : Thread nD τ)) (κ₁ := K (c, some (0, o))) (κ₂ := K (pl c o, some (1, o)))
      (src := rowM (pl c o)) (dst := slotM o) (q := fullShare) (fs := g) (sS := .dma (sendS o)) (sem := .dma (recvS o))
      (r₁ := 0) (r₂ := 0) (d₁ := ()) (d₂ := ()) (fd := fd)
      (mem_duties P (hl 0)) (mem_duties P (hl 1)) () () N rfl
      (amount_kcell P c (some (0, o)) 0 ()) (amount_kcell P (pl c o) (some (1, o)) 0 ()) (OV c (R.erase o)) (OV_erase c ho) (W := W)
      (by
        rw [show (Rd P).payload ((c : Thread nD τ), SemLoc.dma (sendS o)) 0 () = _ from payload_kcell P c (some (0, o)) 0 (), payK_send, rowPts_eq]
        exact Entails.of_eq (pointsTo_congr hgrow))
      (by
        rw [show (Rd P).payload (((pl c o : Dev nD) : Thread nD τ), SemLoc.dma (recvS o)) 0 () = _ from payload_kcell P (pl c o) (some (1, o)) 0 (), payK_recv, slotPts_eq]
        exact Entails.of_eq (pointsTo_congr (slot_written P c o fd g hgrow)))) $$ [HO Hslot Hrow HtV HtS]
    · isplitr; · iapply (env_inv P K c (some (0, o))); iexact He
      isplitr; · iapply (env_inv P K (pl c o) (some (1, o))); iexact He
      isplitl [Hrow]; · iapply (Entails.of_eq (rowPts_eq c (pl c o) g)); iexact Hrow
      isplitl [Hslot]; · iapply (Entails.of_eq (slotPts_eq (pl c o) o fd)); iexact Hslot
      isplitl [HO]; · iexact HO
      isplitl [HtS]; · iexact HtS
      isplitr; · iapply (env_reached P K c (some (0, o))); iexact He
      isplitl [HtV]; · iexact HtV
      iexact Hrv
    iintro ⟨HcS, HO⟩
    iapply h
    isplitr; · iexact He
    isplitr [HF]
    · unfold SendR Ow
      isplitl [HO]; · iexists W; iexact HO
      isplitl [HR]; · iexact HR
      isplitl [HD Hz HcS]
      · rw [sdiff_erase_insert hoffs, all_insert (fun e => (Finset.mem_sdiff.mp e).2 ho)]
        isplitr [HD]
        · unfold sentO; isplitl [Hz]; · iexact Hz
          iexact HcS
        iexact HD
      iexists g
      isplitr; · ipureintro; exact hg
      iexact Hh
    iexact HF
  refine BIBase.Entails.trans ?_ (first second)
  unfold SendR
  rw [all_erase ho]
  iintro ⟨#He, ⟨HO, ⟨Ht, HR⟩, HD, Hg⟩, HF⟩
  isplitr; · iexact He
  unfold toSend
  icases Ht with ⟨Hc, Hat, Ht⟩
  isplitl [HO Hc Hat]
  · isplitl [HO]; · iexact HO
    isplitl [Hc]; · iexact Hc
    iexact Hat
  isplitl [Ht]; · iexact Ht
  isplitl [HR]; · iexact HR
  isplitl [HD]; · iexact HD
  isplitl [Hg] <;> iassumption

end Cert.KernelIdeal.MoE

end
-- ==== Proof.Ideal.Rules.lean ====
/-
# The rules as the body prints its operations

The barrier, one conditional send, loads and stores of the two buffers, and the waits for the copies that arrive and leave.
-/
module

public import proofs.«01_k».proof.Proof.Ideal.Send

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → PBuf F) (K : Dev nD × Key → ℕ)
variable {α : Type} {c : Dev nD} {Q : α → sProp (MT nD τ sig Unit (Elt F) ℕ UU ℕ)} {Fr : sProp (MT nD τ sig Unit (Elt F) ℕ UU ℕ)}

/-! ## The barrier -/

/-- Before the barrier: all is owed, the device's own signal too. -/
def StartSt (c : Dev nD) : sProp 𝕄 :=
  iprop(Ow c (O₀ c) ∗ dutyTok ER (barCell c) 0 () ∗ cred (tallyAt (barCell c) () 1) ∗ atPos ER (barCell c) 0 ∅ 0)
/-- After it the barrier's counter is at zero. -/
def BarSt (c : Dev nD) : sProp 𝕄 := iprop(Ow c (OV c offs + OC c offs) ∗ semVal (barCell c) 0)

set_option maxRecDepth 20000 in
/-- The device signals itself and waits for that. -/
theorem barrier_step (d : Dev nD) (hd : d = c) {j : PUnit → Pg F α} (h : iprop(env P K ∗ BarSt c ∗ Fr) ⊢ WP c (j ⟨⟩) Q) :
    iprop(env P K ∗ StartSt c ∗ Fr) ⊢ WP c (semSignalWord d (SemArray.scalar (sig.barrier 0 rfl) : Sems sig S_).sem 1#32 >>= fun _ =>
      semWaitWord (SemArray.scalar (sig.barrier 0 rfl) : Sems sig S_).sem 1#32 >>= j) Q := by
  subst hd
  have next := wait_own P K (c := d) (Q := Q) none trivial 1 (wpE_semWait_eq 𝒱₀ (d : Thread nD τ) none Set.univ (sem := barS) (k := 1)) rfl (OV d offs + OC d offs) (mayWait_bar d)
    (Fr := Fr) (j := j) (by
      refine BIBase.Entails.trans ?_ h
      unfold BarSt
      iintro ⟨He, ⟨HO, Hz, -⟩, HF⟩
      isplitl [He]; · iexact He
      isplitr [HF]
      · isplitl [HO] <;> iassumption
      iexact HF)
  unfold StartSt
  unfold WP Ow at next ⊢
  show _ ⊢ wp frame _ _ (Prog.op (.semSignal (d : Thread nD τ) barS (1#32).toInt) fun _ => Prog.op (.semWait barS (1#32).toInt) j) Q
  iintro ⟨#He, ⟨⟨%W, HO⟩, Ht, Hc, Hat⟩, HF⟩
  iapply (Rounds.wp_signal 𝒱₀ ER (Rd P) (d : Thread nD τ) none (dst := (d : Thread nD τ)) (κ := K (d, none)) (sem := barS) (r := 0)
      (d := ()) (mem_duties P (k := none) trivial) ((amount_kcell P d none 0 ()).trans rfl) () (OV d offs + OC d offs) rfl) $$ [HO Ht]
  · isplitr; · iapply (env_inv P K d none); iexact He
    isplitl [HO]; · iexact HO
    isplitl [Ht]; · iexact Ht
    isplitr
    · rw [show (Rd P).payload ((d : Thread nD τ), SemLoc.reg barS) 0 () = _ from payload_kcell P d none 0 ()]
      rw [show payK P d none = iprop(emp) from rfl]
      iempintro
    · iapply (env_reached P K d none); iexact He
  iintro HO
  iapply next
  isplitr; · iexact He
  isplitr [HF]
  · isplitl [HO]; · iexists W; iexact HO
    isplitl [Hc]; · iexact Hc
    iexact Hat
  iexact HF

/-- Every credit given: only the slices are owed. -/
theorem signals_done (c : Dev nD) : (SigSt c 32 : sProp 𝕄) ⊢ Ow c (OV c offs) := by
  unfold SigSt
  rw [fromO_end, show OC c ∅ = 0 from Finset.sum_empty, add_zero]
  iintro ⟨HO, -⟩; iexact HO

/-! ## A send under its condition -/

theorem send_gen (o : Fin 32) (h0 : o ≠ 0) (n : ℕ) (R : Finset (Fin 32)) (ho : o ∈ R) (hn : 16 * (pl c o).val + 16 ≤ n)
    (d : Dev nD) (hd : d = pl c o) (a : Fin 2 → ℕ) (ha : a = ![16 * (pl c o).val, 0]) {hin : ∀ i, a i + S16x512.size i ≤ S512x512.size i}
    {s₁ s₂ : DmaSem sig} (h₁ : s₁ = sendS o) (h₂ : s₂ = recvS o) {s₃ : Sem sig} (h₃ : s₃ = credS o)
    {hsc : (slotM o : Memref sig (Dev.tc d : Thread nD τ).2.kind .vmem S16x512 .bf16).view.ref.isScScratch = false}
    {hsrc : (pM.slice (Rect.unit (s := S512x512) a S16x512.size hin) (fun _ => rfl)).view.WordExact} {hdst : (slotM o).view.WordExact}
    {hsem : DmaTarget.Typed .vmem (.dma s₂) (.remote (Dev.tc d : Thread nD τ) (slotM o) (.dma s₁) hsc)}
    {j : PUnit → Pg F α} (h : iprop(env P K ∗ SendR P c n (R.erase o) ∗ Fr) ⊢ WP c (j ⟨⟩) Q) :
    iprop(env P K ∗ SendR P c n R ∗ Fr)
      ⊢ WP c (semWaitWord s₃ 1#32 >>= fun _ => Prog.lift (.enqueueDma (pM.slice (Rect.unit (s := S512x512) a S16x512.size hin) (fun _ => rfl))
          (.remote (Dev.tc d : Thread nD τ) (slotM o) (.dma s₁) hsc) (.dma s₂) hsrc hdst hsem) >>= j) Q := by
  subst hd ha h₁ h₂ h₃
  exact send_one P K o h0 n R ho hn (wpE_semWait_eq 𝒱₀ (c : Thread nD τ) none Set.univ (sem := credS o) (k := 1)) h

/-- The send for offset `i` in block `b`: it happens exactly where the slice lies in the block. -/
theorem send_step (b i : ℕ) (hi : i < 32) (hi0 : i ≠ 0) (cond : Dev nD → BitVec 1) (dev : Dev nD → ℕ) (off : Dev nD → Fin 2 → ℕ)
    {hlt : cond c = 1#1 → dev c < nD}
    {hin : cond c = 1#1 → ∀ a, off c a + S16x512.size a ≤ S512x512.size a}
    {hi1 h7 h8 : ∀ a, (![i] : Fin 1 → ℕ) a + S1.size a ≤ S32.size a}
    {hi3 : ∀ a, (![i, 0, 0] : Fin 3 → ℕ) a + S1x16x512.size a ≤ S32x16x512.size a}
    {hsc : ∀ h : cond c = 1#1, ((rM.slice (Rect.unit (s := S32x16x512) ![i, 0, 0] S1x16x512.size hi3) (fun _ => rfl)).squeeze S16x512 squeezes_S1x16x512_S16x512
        : Memref sig (Dev.tc (⟨dev c, hlt h⟩ : Dev nD) : Thread nD τ).2.kind .vmem S16x512 .bf16).view.ref.isScScratch = false}
    {hsrc : ∀ h : cond c = 1#1, (pM.slice (Rect.unit (s := S512x512) (off c) S16x512.size (hin h)) (fun _ => rfl)).view.WordExact}
    {hdst : ((rM.slice (Rect.unit (s := S32x16x512) ![i, 0, 0] S1x16x512.size hi3) (fun _ => rfl)).squeeze S16x512 squeezes_S1x16x512_S16x512).view.WordExact}
    {hsem : ∀ h : cond c = 1#1, DmaTarget.Typed .vmem (.dma ((cc0_scratch3.slice (Rect.unit (s := S32) ![i] S1.size h8)).squeeze S_ squeezes_S1_S_).sem)
      (.remote (Dev.tc (⟨dev c, hlt h⟩ : Dev nD) : Thread nD τ) ((rM.slice (Rect.unit (s := S32x16x512) ![i, 0, 0] S1x16x512.size hi3) (fun _ => rfl)).squeeze S16x512 squeezes_S1x16x512_S16x512)
        (.dma ((cc0_scratch2.slice (Rect.unit (s := S32) ![i] S1.size h7)).squeeze S_ squeezes_S1_S_).sem) (hsc h))}
    (hcond : ∀ d, cond d = 1#1 ↔ (pl d ⟨i, hi⟩).val / 8 = b) (hdev : ∀ d, dev d = (pl d ⟨i, hi⟩).val)
    (hoff : ∀ d, off d = ![16 * (pl d ⟨i, hi⟩).val, 0])
    {j : Pg F α} (h : iprop(env P K ∗ SendSt P c b (i + 1) ∗ Fr) ⊢ WP c j Q) :
    iprop(env P K ∗ SendSt P c b i ∗ Fr)
      ⊢ WP c (if h : cond c = 1#1 then
          (semWaitWord ((cc0_scratch4.slice (Rect.unit (s := S32) ![i] S1.size hi1)).squeeze S_ squeezes_S1_S_).sem 1#32 >>= fun _ =>
            Prog.lift (.enqueueDma (pM.slice (Rect.unit (s := S512x512) (off c) S16x512.size (hin h)) (fun _ => rfl))
              (.remote (Dev.tc (⟨dev c, hlt h⟩ : Dev nD) : Thread nD τ) ((rM.slice (Rect.unit (s := S32x16x512) ![i, 0, 0] S1x16x512.size hi3) (fun _ => rfl)).squeeze S16x512 squeezes_S1x16x512_S16x512)
                (.dma ((cc0_scratch2.slice (Rect.unit (s := S32) ![i] S1.size h7)).squeeze S_ squeezes_S1_S_).sem) (hsc h))
              (.dma ((cc0_scratch3.slice (Rect.unit (s := S32) ![i] S1.size h8)).squeeze S_ squeezes_S1_S_).sem) (hsrc h) hdst (hsem h)) >>= fun _ => j)
        else j) Q := by
  unfold SendSt at h ⊢
  by_cases hc : cond c = 1#1
  · rw [dif_pos hc]
    have hb : blk c ⟨i, hi⟩ = b := (hcond c).mp hc
    rw [← Rem_erase hi hb] at h
    exact send_gen P K ⟨i, hi⟩ (fun e => hi0 (congrArg Fin.val e)) _ _ (Rem_self hi hi0 hb) (by unfold blk at hb; omega)
      _ (Fin.ext (hdev c)) _ (hoff c) (sendS_eq i hi h7) (recvS_eq i hi h8) (credS_eq i hi hi1) h
  · rw [dif_neg hc]
    rw [← Rem_skip hi (fun hb => hc ((hcond c).mpr hb))] at h
    exact h

end Cert.KernelIdeal.MoE

end
-- ==== Proof.Ideal.Mem.lean ====
/-
# Loads and stores of the two buffers, and the waits for the copies that arrive and leave
-/
module

public import proofs.«01_k».proof.Proof.Ideal.Rules

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → PBuf F) (K : Dev nD × Key → ℕ)
variable {α : Type} {c : Dev nD} {Q : α → sProp (MT nD τ sig Unit (Elt F) ℕ UU ℕ)} {Fr : sProp (MT nD τ sig Unit (Elt F) ℕ UU ℕ)}

/-! ## Loads -/

/-- A load of a buffer the state can lend. -/
theorem load_step {A : sProp 𝕄} {cs : CoreSpace} {s : Shape} {e : EltTy} {m : Memref sig .tc cs s e} {r : LoadRect s} {hl : m.view.LoadsAt r}
    {k : (r.shape.Idx → Elt F e) → Pg F α}
    (S : Finset (Idx (m.view.loc (c : Thread nD τ)))) (q : PosShare TreeShare) (f : Buf (Elt F) (m.view.loc (c : Thread nD τ))) (hS : m.view.setOn r.set ⊆ S)
    (hA : A ⊢ iprop((m.view.loc (c : Thread nD τ) ↦[S]{q} f) ∗ ((m.view.loc (c : Thread nD τ) ↦[S]{q} f) -∗ A)))
    (h : A ⊢ WP c (k (m.view.readAt (Elt F) r f)) Q) : A ⊢ WP c ((Prog.lift (.load m r hl) : Pg F _) >>= k) Q := by
  unfold WP at h ⊢
  show _ ⊢ wp frame _ _ (Prog.op (.load m r hl) k) Q
  refine hA.trans ?_
  iintro ⟨Hp, Hw⟩
  iapply (wp_load 𝒱₀ (c : Thread nD τ) none Set.univ (m := m) hS) $$ Hp
  iintro Hp
  iapply h
  iapply Hw
  iexact Hp

/-- One whose value is not used. -/
theorem load_any {A : sProp 𝕄} {cs : CoreSpace} {s : Shape} {e : EltTy} {m : Memref sig .tc cs s e} {r : LoadRect s} {hl : m.view.LoadsAt r}
    {k : Pg F α}
    (S : Finset (Idx (m.view.loc (c : Thread nD τ)))) (q : PosShare TreeShare) (hS : m.view.setOn r.set ⊆ S)
    (hA : A ⊢ iprop(∃ f, (m.view.loc (c : Thread nD τ) ↦[S]{q} f) ∗ ((m.view.loc (c : Thread nD τ) ↦[S]{q} f) -∗ A)))
    (h : A ⊢ WP c k Q) : A ⊢ WP c ((Prog.lift (.load m r hl) : Pg F _) >>= fun _ => k) Q := by
  unfold WP at h ⊢
  show _ ⊢ wp frame _ _ (Prog.op (.load m r hl) fun _ => k) Q
  refine hA.trans ?_
  iintro ⟨%f, Hp, Hw⟩
  iapply (wp_load 𝒱₀ (c : Thread nD τ) none Set.univ (m := m) hS) $$ Hp
  iintro Hp
  iapply h
  iapply Hw
  iexact Hp

/-! ## A block of 128 rows -/

theorem block_emb (a0 : ℕ) (b : ℕ) (hb : b < 4) (ha : a0 = 128 * b) {hin : ∀ i, (![a0, 0] : Fin 2 → ℕ) i + S128x512.size i ≤ S512x512.size i} (x : S128x512.Idx) :
    (pM.access (Rect.unit (s := S512x512) ![a0, 0] S128x512.size hin)).emb x
      = (ix2 ⟨128 * b + (x 0).val, by have h1 : (x 0).val < 128 := (x 0).isLt; omega⟩ (x 1) : PIx) := by
  subst ha
  funext a
  match a with
  | ⟨0, _⟩ => apply Fin.ext; show 128 * b + 1 * (x 0).val = 128 * b + (x 0).val; omega
  | ⟨1, _⟩ => apply Fin.ext; show 0 + 1 * (x 1).val = (x 1).val; omega

theorem block_sub (a0 : ℕ) (b : ℕ) (hb : b < 4) (ha : a0 = 128 * b) {hin : ∀ i, (![a0, 0] : Fin 2 → ℕ) i + S128x512.size i ≤ S512x512.size i} (c : Dev nD) :
    (pM.access (Rect.unit (s := S512x512) ![a0, 0] S128x512.size hin)).set ⊆ heldSet c (Rem c b 1) := by
  intro i hi
  obtain ⟨x, -, rfl⟩ := Finset.mem_map.mp hi
  refine block_held c b _ ?_
  rw [block_emb a0 b hb ha]
  have h1 : (x 0).val < 128 := (x 0).isLt
  show (128 * b + (x 0).val) / 128 = b
  omega

/-- A block's rows before they are stored: the load's value is not used. -/
theorem block_load (a0 n b : ℕ) (hb : b < 4) (ha : a0 = 128 * b) {hin : ∀ i, (![a0, 0] : Fin 2 → ℕ) i + S128x512.size i ≤ S512x512.size i}
    {hl : pM.view.LoadsAt (Rect.unit (s := S512x512) ![a0, 0] S128x512.size hin).toLoadRect}
    {k : Pg F α} (h : iprop(env P K ∗ SendR P c n (Rem c b 1) ∗ Fr) ⊢ WP c k Q) :
    iprop(env P K ∗ SendR P c n (Rem c b 1) ∗ Fr)
      ⊢ WP c ((Prog.lift (.load pM (Rect.unit (s := S512x512) ![a0, 0] S128x512.size hin).toLoadRect hl) : Pg F _) >>= fun _ => k) Q := by
  refine load_any (heldSet c (Rem c b 1)) fullShare ?_ ?_ h
  · exact (View.set_slice pM.view (Rect.unit (s := S512x512) ![a0, 0] S128x512.size hin)).symm.subset.trans (block_sub a0 b hb ha c (hin := hin))
  · unfold SendR held
    iintro ⟨He, ⟨HO, HR, HD, ⟨%g, %hg, Hh⟩⟩, HF⟩
    iexists g
    isplitl [Hh]; · iexact Hh
    iintro Hh
    isplitl [He]; · iexact He
    isplitr [HF]
    · isplitl [HO]; · iexact HO
      isplitl [HR]; · iexact HR
      isplitl [HD]; · iexact HD
      iexists g
      isplitr; · ipureintro; exact hg
      iexact Hh
    iexact HF

/-- A block is stored: its rows hold what they are to hold. -/
theorem block_store (a0 n b : ℕ) (hb : b < 4) (ha : a0 = 128 * b) (hn : n = 128 * b) {hin : ∀ i, (![a0, 0] : Fin 2 → ℕ) i + S128x512.size i ≤ S512x512.size i}
    {w : S128x512.Idx → Elt F .bf16} {hx hm}
    (hw : ∀ x : S128x512.Idx, P c (ix2 ⟨128 * b + (x 0).val, by have h1 : (x 0).val < 128 := (x 0).isLt; omega⟩ (x 1) : PIx) = w x)
    {j : PUnit → Pg F α} (h : iprop(env P K ∗ SendSt P c b 1 ∗ Fr) ⊢ WP c (j ⟨⟩) Q) :
    iprop(env P K ∗ SendR P c n (Rem c b 1) ∗ Fr)
      ⊢ WP c ((Prog.lift (.store pM (Rect.unit (s := S512x512) ![a0, 0] S128x512.size hin) w Finset.univ hx hm) : Pg F _) >>= j) Q := by
  subst hn
  unfold WP at h ⊢
  show _ ⊢ wp frame _ _ (Prog.op (.store pM (Rect.unit (s := S512x512) ![a0, 0] S128x512.size hin) w Finset.univ hx hm) j) Q
  unfold SendSt at h
  unfold SendR held at h ⊢
  iintro ⟨He, ⟨HO, HR, HD, ⟨%g, %hg, Hh⟩⟩, HF⟩
  iapply (wp_store 𝒱₀ (c : Thread nD τ) none Set.univ (m := pM) (r := Rect.unit (s := S512x512) ![a0, 0] S128x512.size hin) (Mk := Finset.univ)
    (S := heldSet c (Rem c b 1)) (block_sub a0 b hb ha c (hin := hin))) $$ Hh
  iintro Hh
  iapply h
  isplitl [He]; · iexact He
  isplitr [HF]
  · isplitl [HO]; · iexact HO
    isplitl [HR]; · iexact HR
    isplitl [HD]; · iexact HD
    iexists _
    isplitr
    · ipureintro
      intro x hx
      by_cases hr : (x 0).val < 128 * b
      · refine (View.write_of_not_mem (v := pM.access (Rect.unit (s := S512x512) ![a0, 0] S128x512.size hin)) g w Finset.univ ?_).trans (hg x hr)
        intro hm
        obtain ⟨y, -, hy⟩ := Finset.mem_map.mp hm
        rw [block_emb a0 b hb ha] at hy
        have : 128 * b + (y 0).val = (x 0).val := congrArg (fun i : PIx => (i 0).val) hy
        omega
      · have hlt : (x 0).val - 128 * b < 128 := by omega
        have hxy : (pM.access (Rect.unit (s := S512x512) ![a0, 0] S128x512.size hin)).emb (ix2 ⟨(x 0).val - 128 * b, hlt⟩ (x 1) : S128x512.Idx) = x := by
          rw [block_emb a0 b hb ha]
          funext a
          match a with
          | ⟨0, _⟩ => apply Fin.ext; show 128 * b + ((x 0).val - 128 * b) = (x 0).val; omega
          | ⟨1, _⟩ => rfl
        have e := View.write_emb_of_mem (v := pM.access (Rect.unit (s := S512x512) ![a0, 0] S128x512.size hin)) g w (Finset.mem_univ (ix2 ⟨(x 0).val - 128 * b, hlt⟩ (x 1) : S128x512.Idx))
        rw [hxy] at e
        refine e.trans ((hw _).symm.trans (congrArg (P c) ?_))
        rw [← block_emb a0 b hb ha (hin := hin)]
        exact hxy
    iexact Hh
  iexact HF

/-- From one block to the next. -/
theorem SendSt_next (c : Dev nD) (b : ℕ) : (SendSt P c b 32 : sProp 𝕄) = SendR P c (128 * (b + 1)) (Rem c (b + 1) 1) := by
  unfold SendSt; rw [Rem_next]

/-- After the barrier and the credits: nothing is stored, everything is to be sent. -/
theorem SendR_start (c : Dev nD) : iprop(Ow c (OV c offs) ∗ bigSep offs (toSend c) ∗ ∃ g : PBuf F, (c : Thread nD τ).loc cc0_scratch0 ↦{fullShare} g)
    ⊢ (SendR P c 0 (Rem c 0 1) : sProp 𝕄) := by
  unfold SendR held
  rw [Rem_start, Finset.sdiff_self, heldSet_offs]
  iintro ⟨HO, HR, ⟨%g, Hg⟩⟩
  isplitl [HO]; · iexact HO
  isplitl [HR]; · iexact HR
  isplitr
  · rw [bigSep_empty]; iempintro
  iexists g
  isplitr; · ipureintro; exact fun x hx => absurd hx (Nat.not_lt_zero _)
  iexact Hg

/-- After the last block: nothing is owed, the device's own rows are held and hold what they are to hold, every slice is sent. -/
theorem SendSt_end (c : Dev nD) : (SendSt P c 3 32 : sProp 𝕄) ⊢ iprop(Ow c 0 ∗ bigSep offs (sentO c) ∗ rowPts c c (P c)) := by
  unfold SendSt SendR held rowPts
  rw [Rem_end, Finset.sdiff_empty, heldSet_empty, show OV c ∅ = 0 from Finset.sum_empty]
  iintro ⟨HO, -, HD, ⟨%g, %hg, Hh⟩⟩
  isplitl [HO]; · iexact HO
  isplitl [HD]; · iexact HD
  iapply (Entails.of_eq (pointsTo_congr (f := g) (g := P c) fun x _ => hg x (by have h : (x 0).val < 512 := (x 0).isLt; omega)))
  iexact Hh

/-! ## The device's own slice -/

/-- A slot is stored whole. -/
theorem slot_store {hin : ∀ i, (![0, 0, 0] : Fin 3 → ℕ) i + S1x16x512.size i ≤ S32x16x512.size i} {w : S1x16x512.Idx → Elt F .bf16} {hx hm}
    (hw : ∀ x : S1x16x512.Idx, RV P c (ix3 (0 : Fin 32) (x 1) (x 2) : RIx) = w x)
    {A' : sProp 𝕄} {j : PUnit → Pg F α} (h : iprop(slotPts c 0 (RV P c) ∗ A') ⊢ WP c (j ⟨⟩) Q) :
    iprop((∃ f, slotPts c 0 f) ∗ A')
      ⊢ WP c ((Prog.lift (.store rM (Rect.unit (s := S32x16x512) ![0, 0, 0] S1x16x512.size hin) w Finset.univ hx hm) : Pg F _) >>= j) Q := by
  have hemb : ∀ x : S1x16x512.Idx, (rM.access (Rect.unit (s := S32x16x512) ![0, 0, 0] S1x16x512.size hin)).emb x = (ix3 (0 : Fin 32) (x 1) (x 2) : RIx) := by
    intro x
    have h0 : (x 0).val < 1 := (x 0).isLt
    funext a
    match a with
    | ⟨0, _⟩ => apply Fin.ext; show 0 + 1 * (x 0).val = 0; omega
    | ⟨1, _⟩ => apply Fin.ext; show 0 + 1 * (x 1).val = (x 1).val; omega
    | ⟨2, _⟩ => apply Fin.ext; show 0 + 1 * (x 2).val = (x 2).val; omega
  unfold WP at h ⊢
  show _ ⊢ wp frame _ _ (Prog.op (.store rM (Rect.unit (s := S32x16x512) ![0, 0, 0] S1x16x512.size hin) w Finset.univ hx hm) j) Q
  unfold slotPts at h ⊢
  iintro ⟨⟨%f, Hs⟩, HA⟩
  iapply (wp_store 𝒱₀ (c : Thread nD τ) none Set.univ (m := rM) (r := Rect.unit (s := S32x16x512) ![0, 0, 0] S1x16x512.size hin) (Mk := Finset.univ)
    (S := slotSet 0) (by
      intro i hi
      obtain ⟨x, -, rfl⟩ := Finset.mem_map.mp hi
      rw [hemb]; exact (mem_slotSet _ _).mpr rfl)) $$ Hs
  iintro Hs
  iapply h
  isplitr [HA]
  · iapply (Entails.of_eq (pointsTo_congr (f := (rM.access (Rect.unit (s := S32x16x512) ![0, 0, 0] S1x16x512.size hin)).write (Elt F) f w Finset.univ) (g := RV P c) fun i hi => by
      have h0 : i 0 = (0 : Fin 32) := (mem_slotSet _ _).mp hi
      have hi' : (rM.access (Rect.unit (s := S32x16x512) ![0, 0, 0] S1x16x512.size hin)).emb (ix3 (0 : Fin 1) (i 1) (i 2) : S1x16x512.Idx) = i := by
        rw [hemb]
        conv_rhs => rw [eq_ix3 i, h0]
        rfl
      have e := View.write_emb_of_mem (v := rM.access (Rect.unit (s := S32x16x512) ![0, 0, 0] S1x16x512.size hin)) f w (Finset.mem_univ (ix3 (0 : Fin 1) (i 1) (i 2) : S1x16x512.Idx))
      rw [hi'] at e
      refine e.trans ((hw _).symm.trans (congrArg (RV P c) ?_))
      rw [← hemb]; exact hi'))
    iexact Hs
  iexact HA

/-! ## The waits -/

/-- The waits of kind `a` for the offsets from `i` on are still to come. -/
def WaitSt (a : Fin 3) (c : Dev nD) (i : ℕ) : sProp 𝕄 :=
  iprop(Ow c 0 ∗ (bigSep (fromO i) fun o => iprop(cred (tallyAt (kcell c (some (a, o))) () N) ∗ atPos ER (kcell c (some (a, o))) 0 ∅ 0))
    ∗ bigSep (offs \ fromO i) fun o => iprop(semVal (kcell c (some (a, o))) 0 ∗ payK P c (some (a, o))))

theorem wait_step (a : Fin 3) (ha : a ≠ 2) (i : ℕ) (hi : i < 32) (hi0 : i ≠ 0) {s : DmaSem sig} (hs : osem (a, ⟨i, hi⟩) = .dma s)
    {sp sp' : Space} {sh sh' : Shape} {e e' : EltTy} {src : Memref sig .tc sp' sh' e'} {dst : Memref sig .tc sp sh e}
    {hsrc : src.view.WordExact} {hdst : dst.view.WordExact} (hN : dst.view.dmaCredit = N)
    {j : PUnit → Pg F α} (h : iprop(env P K ∗ WaitSt P a c (i + 1) ∗ Fr) ⊢ WP c (j ⟨⟩) Q) :
    iprop(env P K ∗ WaitSt P a c i ∗ Fr) ⊢ WP c ((Prog.lift (.waitDma2 s src dst hsrc hdst) : Pg F _) >>= j) Q := by
  have hamt : amountK (some (a, (⟨i, hi⟩ : Fin 32))) = N := if_neg ha
  have hoffs : (⟨i, hi⟩ : Fin 32) ∈ offs := (mem_offs _).mpr hi0
  have next := wait_own P K (c := c) (Q := Q) (some (a, ⟨i, hi⟩)) (fun e => hi0 (congrArg Fin.val e)) N
    (w := .waitDma2 s src dst hsrc hdst)
    (fun X => by
      show _ = waitSpec (c : Thread nD τ) Set.univ (osem (a, ⟨i, hi⟩)) N X
      rw [hs, ← hN]
      exact wpE_waitDma2_eq 𝒱₀ (c : Thread nD τ) none Set.univ X) hamt.symm 0
    (by rw [MayWait_zero]; iintro -; iempintro)
    (Fr := iprop((bigSep (fromO (i + 1)) fun o => iprop(cred (tallyAt (kcell c (some (a, o))) () N) ∗ atPos ER (kcell c (some (a, o))) 0 ∅ 0))
      ∗ (bigSep (offs \ fromO i) fun o => iprop(semVal (kcell c (some (a, o))) 0 ∗ payK P c (some (a, o)))) ∗ Fr)) (j := j) (by
      refine BIBase.Entails.trans ?_ h
      unfold WaitSt
      rw [← fromO_erase i hi, sdiff_erase_insert hoffs, all_insert (fun e => (Finset.mem_sdiff.mp e).2 (self_mem_fromO i hi))]
      iintro ⟨He, ⟨HO, Hz, Hp⟩, HR, HD, HF⟩
      isplitl [He]; · iexact He
      isplitr [HF]
      · isplitl [HO]; · iexact HO
        isplitl [HR]; · iexact HR
        isplitl [Hz Hp]
        · isplitl [Hz] <;> iassumption
        iexact HD
      iexact HF)
  refine BIBase.Entails.trans ?_ next
  unfold WaitSt
  rw [all_erase (self_mem_fromO i hi), fromO_erase i hi, hamt]
  iintro ⟨He, ⟨HO, ⟨⟨Hc, Hat⟩, HR⟩, HD⟩, HF⟩
  isplitl [He]; · iexact He
  isplitl [HO Hc Hat]
  · isplitl [HO]; · iexact HO
    isplitl [Hc] <;> iassumption
  isplitl [HR]; · iexact HR
  isplitl [HD] <;> iassumption

end Cert.KernelIdeal.MoE

end
-- ==== Proof.Ideal.Contents.lean ====
/-
# What the buffers hold

From the four arrays a device stages: the rows it computes, block by block, and the result it stores.
-/
module

public import proofs.«01_k».proof.Proof.Ideal.Cells
public import proofs.«01_k».proof.Proof.Ideal.Sched
public import proofs.«01_k».proof.Proof.Gen.KernelIdeal.Skeleton

@[expose] public section

noncomputable section

namespace Cert.KernelIdeal.MoE

open Cert.KernelIdeal Cert.KernelIdeal.Gen
open Idealize.ShloMosaic Idealize.ShloMosaic.TcCoe
open Idealize.ShloMosaic.ValueIdx

variable {F : FTy → Type} [FloatOps F]

/-- The four staged arrays and the staged result. -/
abbrev xM : Memref sig .tc .vmem S512x256 .bf16 := Memref.whole cc0_stg0_0
abbrev wM : Memref sig .tc .vmem S256x128 .bf16 := Memref.whole cc0_stg1_0
abbrev iM : Memref sig .tc .vmem S512x2 .i32 := Memref.whole cc0_stg2_0
abbrev eM : Memref sig .tc .vmem S4x256x512 .bf16 := Memref.whole cc0_stg3_0
abbrev oM : Memref sig .tc .vmem S16x512 .f32 := Memref.whole cc0_stg4_0

/-- The staged arrays' contents. -/
structure Ins (F : FTy → Type) [FloatOps F] where
  x : (cc0_stg0_0 : Ref sig .tc).ty.Contents (Elt F)
  w : (cc0_stg1_0 : Ref sig .tc).ty.Contents (Elt F)
  i : (cc0_stg2_0 : Ref sig .tc).ty.Contents (Elt F)
  e : (cc0_stg3_0 : Ref sig .tc).ty.Contents (Elt F)

variable (A : Ins F)

/-- What the body loads of them. -/
def ldX : Vec F S512x256 .bf16 := xM.view.readAt (Elt F) (Rect.unit (s := S512x256) ![0, 0] S512x256.size inb_S512x256_S512x256_0_0).toLoadRect A.x
def ldW : Vec F S256x128 .bf16 := wM.view.readAt (Elt F) (Rect.unit (s := S256x128) ![0, 0] S256x128.size inb_S256x128_S256x128_0_0).toLoadRect A.w
def ldI0 : Vec F S512x1 .i32 := iM.view.readAt (Elt F) (Rect.unit (s := S512x2) ![0, 0] S512x1.size inb_S512x2_S512x1_0_0).toLoadRect A.i
def ldI1 : Vec F S512x1 .i32 := iM.view.readAt (Elt F) (Rect.unit (s := S512x2) ![0, 1] S512x1.size inb_S512x2_S512x1_0_1).toLoadRect A.i
def ldE : Vec F S4x256x512 .bf16 := eM.view.readAt (Elt F) (Rect.unit (s := S4x256x512) ![0, 0, 0] S4x256x512.size inb_S4x256x512_S4x256x512_0_0_0).toLoadRect A.e

/-- The device's number as the body computes it. -/
def devW (d : Dev nD) : BitVec 32 := Scalar.remsi (Scalar.divsi (Dev.word d) 1#32) 32#32

/-- The rows of `x` weighted for the device's first, second and third expert. -/
def part0 (d : Dev nD) : FVec F S512x256 .bf16 :=
  k0_pay6 (devW d) (k0_pay1 (ldX A)) (k0_pay2 (F := F) (ldI0 A)) (k0_pay3 (F := F) (ldI1 A)) (k0_pay4 (ldX A) (ldW A) (ldI0 A) (ldI1 A)) (k0_pay5 (ldX A) (ldW A) (ldI0 A) (ldI1 A)) 4#32
def part1 (d : Dev nD) : FVec F S512x256 .bf16 :=
  k0_pay7 (devW d) (k0_pay1 (ldX A)) (k0_pay2 (F := F) (ldI0 A)) (k0_pay3 (F := F) (ldI1 A)) (k0_pay4 (ldX A) (ldW A) (ldI0 A) (ldI1 A)) (k0_pay5 (ldX A) (ldW A) (ldI0 A) (ldI1 A))
def part2 (d : Dev nD) : FVec F S512x256 .bf16 :=
  k0_pay8 (devW d) (k0_pay1 (ldX A)) (k0_pay2 (F := F) (ldI0 A)) (k0_pay3 (F := F) (ldI1 A)) (k0_pay4 (ldX A) (ldW A) (ldI0 A) (ldI1 A)) (k0_pay5 (ldX A) (ldW A) (ldI0 A) (ldI1 A))
/-- The four side by side, and the device's experts stacked. -/
def lhs (d : Dev nD) : FVec F S512x1024 .bf16 :=
  k0_pay9 (k0_pay1 (ldX A)) (k0_pay2 (F := F) (ldI0 A)) (k0_pay3 (F := F) (ldI1 A)) (k0_pay4 (ldX A) (ldW A) (ldI0 A) (ldI1 A)) (k0_pay5 (ldX A) (ldW A) (ldI0 A) (ldI1 A))
    (part0 A d) (part1 A d) (part2 A d) (Scalar.addi (Scalar.muli (devW d) 4#32) 3#32)
def rhs : FVec F S1024x512 .bf16 := k0_pay10 (ldE A)

/-- Block `b` of 128 rows of the device's contribution. -/
def blkV (d : Dev nD) (b : ℕ) : FVec F S128x512 .bf16 := match b with
  | 0 => k0_pay11 (k0_pay1 (ldX A)) (k0_pay2 (F := F) (ldI0 A)) (k0_pay3 (F := F) (ldI1 A)) (k0_pay4 (ldX A) (ldW A) (ldI0 A) (ldI1 A)) (k0_pay5 (ldX A) (ldW A) (ldI0 A) (ldI1 A))
      (part0 A d) (part1 A d) (part2 A d) (Scalar.addi (Scalar.muli (devW d) 4#32) 3#32) (ldE A)
  | 1 => k0_pay12 (lhs A d) (rhs A)
  | 2 => k0_pay13 (lhs A d) (rhs A)
  | _ => k0_pay15 (k0_pay14 (lhs A d) (rhs A))

/-- The device's contribution, all 512 rows. -/
def contrib (d : Dev nD) : PBuf F := fun i => blkV A d ((i 0).val / 128) (ix2 ⟨(i 0).val % 128, Nat.mod_lt _ (by decide)⟩ (i 1) : S128x512.Idx)

/-- A block's rows of the contribution are the block. -/
theorem contrib_block (d : Dev nD) (b : ℕ) (hb : b < 4) (x : S128x512.Idx) :
    contrib A d (ix2 ⟨128 * b + (x 0).val, by have h1 : (x 0).val < 128 := (x 0).isLt; omega⟩ (x 1) : PIx) = blkV A d b x := by
  have h1 : (x 0).val < 128 := (x 0).isLt
  have e1 : (128 * b + (x 0).val) / 128 = b := by omega
  show blkV A d ((128 * b + (x 0).val) / 128) _ = _
  rw [e1]
  congr 1
  funext a
  match a with
  | ⟨0, _⟩ => apply Fin.ext; show (128 * b + (x 0).val) % 128 = (x 0).val; omega
  | ⟨1, _⟩ => rfl

/-- Every device's contribution, from every device's arrays. -/
def contribs (AA : Dev nD → Ins F) : Dev nD → PBuf F := fun d => contrib (AA d) d

/-- The result a device stores. -/
def outV (AA : Dev nD → Ins F) (c : Dev nD) : FVec F S16x512 .f32 :=
  k0_pay17 (rM.view.readAt (Elt F) (Rect.unit (s := S32x16x512) ![0, 0, 0] S32x16x512.size inb_S32x16x512_S32x16x512_0_0_0).toLoadRect (RV (contribs AA) c))

end Cert.KernelIdeal.MoE

end
-- ==== Proof.Ideal.BodyA.lean ====
/-
# The body up to the third block: the barrier, the credits, the loads, the first stores and sends
-/
module

public import proofs.«01_k».proof.Proof.Ideal.Mem
public import proofs.«01_k».proof.Proof.Ideal.Contents

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Key → ℕ) (AA : Dev nD → Ins F)
variable {c : Dev nD} {Fr : sProp (MT nD τ sig Unit (Elt F) ℕ UU ℕ)}

/-- The four staged arrays, held throughout. -/
def Stg (A : Ins F) (c : Dev nD) : sProp 𝕄 :=
  iprop(((c : Thread nD τ).loc cc0_stg0_0 ↦{fullShare} A.x) ∗ ((c : Thread nD τ).loc cc0_stg1_0 ↦{fullShare} A.w)
    ∗ ((c : Thread nD τ).loc cc0_stg2_0 ↦{fullShare} A.i) ∗ ((c : Thread nD τ).loc cc0_stg3_0 ↦{fullShare} A.e))

section Lend
variable (A : Ins F) (X Y Z : sProp (MT nD τ sig Unit (Elt F) ℕ UU ℕ))
theorem lend_x : iprop(X ∗ Y ∗ Stg A c ∗ Z) ⊢ iprop(((c : Thread nD τ).loc cc0_stg0_0 ↦{fullShare} A.x)
    ∗ (((c : Thread nD τ).loc cc0_stg0_0 ↦{fullShare} A.x) -∗ iprop(X ∗ Y ∗ Stg A c ∗ Z))) := by
  unfold Stg
  iintro ⟨HX, HY, ⟨H0, H1, H2, H3⟩, HZ⟩
  isplitl [H0]; · iexact H0
  iintro H0
  isplitl [HX]; · iexact HX
  isplitl [HY]; · iexact HY
  isplitr [HZ]
  · isplitl [H0]; · iexact H0
    isplitl [H1]; · iexact H1
    isplitl [H2] <;> iassumption
  iexact HZ
theorem lend_w : iprop(X ∗ Y ∗ Stg A c ∗ Z) ⊢ iprop(((c : Thread nD τ).loc cc0_stg1_0 ↦{fullShare} A.w)
    ∗ (((c : Thread nD τ).loc cc0_stg1_0 ↦{fullShare} A.w) -∗ iprop(X ∗ Y ∗ Stg A c ∗ Z))) := by
  unfold Stg
  iintro ⟨HX, HY, ⟨H0, H1, H2, H3⟩, HZ⟩
  isplitl [H1]; · iexact H1
  iintro H1
  isplitl [HX]; · iexact HX
  isplitl [HY]; · iexact HY
  isplitr [HZ]
  · isplitl [H0]; · iexact H0
    isplitl [H1]; · iexact H1
    isplitl [H2] <;> iassumption
  iexact HZ
theorem lend_i : iprop(X ∗ Y ∗ Stg A c ∗ Z) ⊢ iprop(((c : Thread nD τ).loc cc0_stg2_0 ↦{fullShare} A.i)
    ∗ (((c : Thread nD τ).loc cc0_stg2_0 ↦{fullShare} A.i) -∗ iprop(X ∗ Y ∗ Stg A c ∗ Z))) := by
  unfold Stg
  iintro ⟨HX, HY, ⟨H0, H1, H2, H3⟩, HZ⟩
  isplitl [H2]; · iexact H2
  iintro H2
  isplitl [HX]; · iexact HX
  isplitl [HY]; · iexact HY
  isplitr [HZ]
  · isplitl [H0]; · iexact H0
    isplitl [H1]; · iexact H1
    isplitl [H2] <;> iassumption
  iexact HZ
theorem lend_e : iprop(X ∗ Y ∗ Stg A c ∗ Z) ⊢ iprop(((c : Thread nD τ).loc cc0_stg3_0 ↦{fullShare} A.e)
    ∗ (((c : Thread nD τ).loc cc0_stg3_0 ↦{fullShare} A.e) -∗ iprop(X ∗ Y ∗ Stg A c ∗ Z))) := by
  unfold Stg
  iintro ⟨HX, HY, ⟨H0, H1, H2, H3⟩, HZ⟩
  isplitl [H3]; · iexact H3
  iintro H3
  isplitl [HX]; · iexact HX
  isplitl [HY]; · iexact HY
  isplitr [HZ]
  · isplitl [H0]; · iexact H0
    isplitl [H1]; · iexact H1
    isplitl [H2] <;> iassumption
  iexact HZ
end Lend

/-- What the credits need besides what is owed. -/
def SigRes (c : Dev nD) : sProp 𝕄 := bigSep offs fun o => iprop(dutyTok ER (credCell (mi c o) o) 0 () ∗ ∃ f, slotPts c o f)
/-- What the sends need besides what is owed. -/
def SendRes (c : Dev nD) : sProp 𝕄 := iprop(bigSep offs (toSend c) ∗ ∃ g : PBuf F, (c : Thread nD τ).loc cc0_scratch0 ↦{fullShare} g)

theorem to_signals (E S : sProp 𝕄) : iprop(E ∗ BarSt c ∗ S ∗ SigRes c ∗ Fr) ⊢ iprop(E ∗ SigSt c 1 ∗ S ∗ semVal (barCell c) 0 ∗ Fr) := by
  unfold BarSt SigSt SigRes
  rw [fromO_one]
  iintro ⟨HE, ⟨HO, Hz⟩, HS, HR, HF⟩
  isplitl [HE]; · iexact HE
  isplitl [HO HR]; · isplitl [HO] <;> iassumption
  isplitl [HS]; · iexact HS
  isplitl [Hz] <;> iassumption

theorem to_sends (P : Dev nD → PBuf F) (E S Z : sProp 𝕄) : iprop(E ∗ SigSt c 32 ∗ S ∗ Z ∗ SendRes c ∗ Fr) ⊢ iprop(E ∗ SendR P c 0 (Rem c 0 1) ∗ S ∗ Z ∗ Fr) := by
  unfold SendRes
  iintro ⟨HE, HO, HS, HZ, ⟨HR, Hg⟩, HF⟩
  isplitl [HE]; · iexact HE
  isplitl [HO HR Hg]
  · iapply (SendR_start P c)
    isplitl [HO]; · iapply (signals_done c); iexact HO
    isplitl [HR] <;> iassumption
  isplitl [HS]; · iexact HS
  isplitl [HZ] <;> iassumption

set_option maxHeartbeats 4000000 in
set_option maxRecDepth 20000 in
/-- The first sixty parts of the body. -/
theorem part98 {Q : _ → sProp (MT nD τ sig Unit (Elt F) ℕ UU ℕ)}
    (h : ∀ v1 v2 v3 v4, iprop(env (contribs AA) K ∗ SendSt (contribs AA) c 2 22 ∗ Stg (AA c) c ∗ semVal (barCell c) 0 ∗ Fr)
      ⊢ Q ⟨c, devW c, lhs (AA c) c, rhs (AA c), v1, v2, v3, v4⟩) :
    iprop(env (contribs AA) K ∗ StartSt c ∗ Stg (AA c) c ∗ SigRes c ∗ SendRes c ∗ Fr)
      ⊢ WP c (k0_part98_skel (F := F) xM (Memref.isWhole_whole _) wM (Memref.isWhole_whole _) iM (Memref.isWhole_whole _) eM (Memref.isWhole_whole _) oM (Memref.isWhole_whole _)
          pM (Memref.isWhole_whole _) rM (Memref.isWhole_whole _) cc0_scratch2 cc0_scratch3 cc0_scratch4) Q := by
  unfold k0_part98_skel
  refine bind_step ?_
  rw [k0_part1_eq_skeleton]
  refine device_step ?_
  refine barrier_step (contribs AA) K _ (Fin.ext (k0_dev1_eq c)) ?_
  refine BIBase.Entails.trans (to_signals _ _) ?_
  refine signal_step (contribs AA) K _ (by decide) (by decide) _ _ (by decide +kernel) ?_
  refine pure_step ?_
  refine bind_step ?_
  iterate 2 refine signal_step (contribs AA) K _ (by decide) (by decide) _ _ (by decide +kernel) ?_
  refine pure_step ?_
  refine bind_step ?_
  iterate 3 refine signal_step (contribs AA) K _ (by decide) (by decide) _ _ (by decide +kernel) ?_
  refine pure_step ?_
  iterate 4
    refine bind_step ?_
    iterate 2 refine signal_step (contribs AA) K _ (by decide) (by decide) _ _ (by decide +kernel) ?_
    refine pure_step ?_
  refine bind_step ?_
  iterate 3 refine signal_step (contribs AA) K _ (by decide) (by decide) _ _ (by decide +kernel) ?_
  refine pure_step ?_
  iterate 3
    refine bind_step ?_
    iterate 2 refine signal_step (contribs AA) K _ (by decide) (by decide) _ _ (by decide +kernel) ?_
    refine pure_step ?_
  refine bind_step ?_
  iterate 3 refine signal_step (contribs AA) K _ (by decide) (by decide) _ _ (by decide +kernel) ?_
  refine pure_step ?_
  iterate 2
    refine bind_step ?_
    iterate 2 refine signal_step (contribs AA) K _ (by decide) (by decide) _ _ (by decide +kernel) ?_
    refine pure_step ?_
  -- the last credit, and the loads the weights are made of
  refine bind_step ?_
  rw [k0_part15_eq_skeleton]
  refine signal_step (contribs AA) K _ (by decide) (by decide) _ _ (by decide +kernel) ?_
  refine load_step (m := xM) Finset.univ fullShare (AA c).x (Finset.subset_univ _) (lend_x (AA c) _ _ _) ?_
  refine load_step (m := wM) Finset.univ fullShare (AA c).w (Finset.subset_univ _) (lend_w (AA c) _ _ _) ?_
  refine load_step (m := iM) Finset.univ fullShare (AA c).i (Finset.subset_univ _) (lend_i (AA c) _ _ _) ?_
  refine load_step (m := iM) Finset.univ fullShare (AA c).i (Finset.subset_univ _) (lend_i (AA c) _ _ _) ?_
  refine pure_step ?_
  refine bind_step ?_
  rw [k0_part16_eq_skeleton]
  refine pure_step ?_
  -- the experts, the first block
  refine bind_step ?_
  rw [k0_part17_eq_skeleton]
  refine BIBase.Entails.trans (to_sends (contribs AA) _ _ _) ?_
  refine load_step (m := eM) Finset.univ fullShare (AA c).e (Finset.subset_univ _) (lend_e (AA c) _ _ _) ?_
  refine block_load (contribs AA) K 0 0 0 (by decide) rfl ?_
  refine block_store (contribs AA) K 0 0 0 (by decide) rfl rfl (fun x => contrib_block (AA c) c 0 (by decide) x) ?_
  refine pure_step ?_
  -- its sends
  iterate 14
    refine bind_step ?_
    iterate 2 refine send_step (contribs AA) K _ _ (by decide) (by decide) _ _ _ (by decide +kernel) (by decide +kernel) (by decide +kernel) ?_
    refine pure_step ?_
  refine bind_step ?_
  refine send_step (contribs AA) K _ _ (by decide) (by decide) _ _ _ (by decide +kernel) (by decide +kernel) (by decide +kernel) ?_
  refine pure_step ?_
  -- the rest of them, and block 1
  refine bind_step ?_
  rw [k0_part33_eq_skeleton]
  iterate 2 refine send_step (contribs AA) K _ _ (by decide) (by decide) _ _ _ (by decide +kernel) (by decide +kernel) (by decide +kernel) ?_
  rw [SendSt_next]
  refine block_load (contribs AA) K 128 128 1 (by decide) rfl ?_
  refine block_store (contribs AA) K 128 128 1 (by decide) rfl rfl (fun x => contrib_block (AA c) c 1 (by decide) x) ?_
  refine pure_step ?_
  iterate 8
    refine bind_step ?_
    iterate 2 refine send_step (contribs AA) K _ _ (by decide) (by decide) _ _ _ (by decide +kernel) (by decide +kernel) (by decide +kernel) ?_
    refine pure_step ?_
  refine bind_step ?_
  refine send_step (contribs AA) K _ _ (by decide) (by decide) _ _ _ (by decide +kernel) (by decide +kernel) (by decide +kernel) ?_
  refine pure_step ?_
  iterate 6
    refine bind_step ?_
    iterate 2 refine send_step (contribs AA) K _ _ (by decide) (by decide) _ _ _ (by decide +kernel) (by decide +kernel) (by decide +kernel) ?_
    refine pure_step ?_
  -- the rest of them, and block 2
  refine bind_step ?_
  rw [k0_part49_eq_skeleton]
  iterate 2 refine send_step (contribs AA) K _ _ (by decide) (by decide) _ _ _ (by decide +kernel) (by decide +kernel) (by decide +kernel) ?_
  rw [SendSt_next]
  refine block_load (contribs AA) K 256 256 2 (by decide) rfl ?_
  refine block_store (contribs AA) K 256 256 2 (by decide) rfl rfl (fun x => contrib_block (AA c) c 2 (by decide) x) ?_
  refine pure_step ?_
  iterate 3
    refine bind_step ?_
    iterate 2 refine send_step (contribs AA) K _ _ (by decide) (by decide) _ _ _ (by decide +kernel) (by decide +kernel) (by decide +kernel) ?_
    refine pure_step ?_
  refine bind_step ?_
  refine send_step (contribs AA) K _ _ (by decide) (by decide) _ _ _ (by decide +kernel) (by decide +kernel) (by decide +kernel) ?_
  refine pure_step ?_
  iterate 7
    refine bind_step ?_
    iterate 2 refine send_step (contribs AA) K _ _ (by decide) (by decide) _ _ _ (by decide +kernel) (by decide +kernel) (by decide +kernel) ?_
    refine pure_step ?_
  refine pure_step ?_
  exact h _ _ _ _

end Cert.KernelIdeal.MoE

end
-- ==== Proof.Ideal.Ends.lean ====
/-
# From the last send to the end: what the states become
-/
module

public import proofs.«01_k».proof.Proof.Ideal.Mem

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → PBuf F) (K : Dev nD × Key → ℕ)
variable {α : Type} {c : Dev nD} {Q : α → sProp (MT nD τ sig Unit (Elt F) ℕ UU ℕ)}

/-! ## The parts of the state -/

/-- The staged result, with some contents; with these. -/
def OutSome (c : Dev nD) : sProp 𝕄 := iprop(∃ f : (cc0_stg4_0 : Ref sig .tc).ty.Contents (Elt F), (c : Thread nD τ).loc cc0_stg4_0 ↦{fullShare} f)
def OutIs (c : Dev nD) (f : (cc0_stg4_0 : Ref sig .tc).ty.Contents (Elt F)) : sProp 𝕄 := (c : Thread nD τ).loc cc0_stg4_0 ↦{fullShare} f
/-- The receive buffer and the buffer of contributions, whole. -/
def RecvIs (c : Dev nD) (f : RBuf F) : sProp 𝕄 := (c : Thread nD τ).loc cc0_scratch1 ↦{fullShare} f
def PartIs (c : Dev nD) (f : PBuf F) : sProp 𝕄 := (c : Thread nD τ).loc cc0_scratch0 ↦{fullShare} f
/-- What the waits need. -/
def RecvRes (c : Dev nD) : sProp 𝕄 := bigSep offs fun o => iprop(cred (tallyAt (recvCell c o) () N) ∗ atPos ER (recvCell c o) 0 ∅ 0)
def SendAts (c : Dev nD) : sProp 𝕄 := bigSep offs fun o => atPos ER (sendCell c o) 0 ∅ 0
/-- Beside the sends' own resources, what the rest of the body needs. -/
def TailRes (c : Dev nD) : sProp 𝕄 := iprop((∃ f, slotPts c 0 f) ∗ RecvRes c ∗ SendAts c ∗ OutSome c)
/-- The counters of one kind, at zero. -/
def Zeros (a : Fin 3) (c : Dev nD) : sProp 𝕄 := bigSep offs fun o => semVal (kcell c (some (a, o))) 0

theorem fromO_rest : offs \ fromO 1 = ∅ := by rw [fromO_one, Finset.sdiff_self]
theorem univ_offs : (Finset.univ : Finset (Fin 32)) = insert 0 offs := (Finset.insert_erase (Finset.mem_univ _)).symm
theorem zero_notin_offs : (0 : Fin 32) ∉ offs := fun h => (mem_offs 0).mp h rfl

variable (S Z Fr : sProp (MT nD τ sig Unit (Elt F) ℕ UU ℕ))

/-! ## The device's own slice -/

theorem to_own : iprop(env P K ∗ SendSt P c 3 32 ∗ S ∗ Z ∗ TailRes c ∗ Fr)
    ⊢ iprop((∃ f, slotPts c 0 f) ∗ rowPts c c (P c)
        ∗ (env P K ∗ WaitSt P 1 c 1 ∗ bigSep offs (sentO c) ∗ SendAts c ∗ OutSome c ∗ S ∗ Z ∗ Fr)) := by
  unfold TailRes
  iintro ⟨He, HS, HStg, HZ, ⟨Hs, HR, HA, Ho⟩, HF⟩
  ihave HS' := (SendSt_end P c) $$ HS
  icases HS' with ⟨HO, HD, Hrow⟩
  isplitl [Hs]; · iexact Hs
  isplitl [Hrow]; · iexact Hrow
  isplitl [He]; · iexact He
  isplitl [HO HR]
  · unfold WaitSt RecvRes
    rw [fromO_rest, fromO_one, bigSep_empty]
    isplitl [HO]; · iexact HO
    isplitl [HR]; · iexact HR
    iempintro
  isplitl [HD]; · iexact HD
  isplitl [HA]; · iexact HA
  isplitl [Ho]; · iexact Ho
  isplitl [HStg]; · iexact HStg
  isplitl [HZ] <;> iassumption

theorem own_emb {off : Fin 2 → ℕ} (hoff : off = ![16 * c.val, 0]) {hin : ∀ i, off i + S16x512.size i ≤ S512x512.size i} (x : S16x512.Idx) :
    (Rect.unit (s := S512x512) off S16x512.size hin).emb x
      = (ix2 ⟨16 * c.val + (x 0).val, by have h : c.val < 32 := c.isLt; have h1 : (x 0).val < 16 := (x 0).isLt; omega⟩ (x 1) : PIx) := by
  subst hoff
  funext a
  match a with
  | ⟨0, _⟩ => apply Fin.ext; show 16 * c.val + 1 * (x 0).val = 16 * c.val + (x 0).val; omega
  | ⟨1, _⟩ => apply Fin.ext; show 0 + 1 * (x 1).val = (x 1).val; omega

/-- The device's own rows, loaded and cast to a slot's shape, are what slot 0 is to hold. -/
theorem own_value {off : Fin 2 → ℕ} (hoff : off = ![16 * c.val, 0]) {hin : ∀ i, off i + S16x512.size i ≤ S512x512.size i} (x : S1x16x512.Idx) :
    RV P c (ix3 (0 : Fin 32) (x 1) (x 2) : RIx)
      = k0_pay16 (pM.view.readAt (Elt F) (Rect.unit (s := S512x512) off S16x512.size hin).toLoadRect (P c)) x := by
  have e : Shape.reshapeEquiv (s' := S1x16x512) (s := S16x512) shapeCasts_S16x512_S1x16x512 x = (ix2 (x 1) (x 2) : S16x512.Idx) := by
    refine Shape.reshapeEquiv_eq_of_rowMajor _ ?_
    have h0 : (x 0).val < 1 := (x 0).isLt
    rw [Shape.rowMajor_val_three, Shape.rowMajor_val_two]
    show (x 1).val * 512 + (x 2).val = ((x 0).val * 16 + (x 1).val) * 512 + (x 2).val
    omega
  show _ = P c ((Rect.unit (s := S512x512) off S16x512.size hin).emb (Shape.reshapeEquiv _ x))
  rw [e, own_emb hoff]
  show P (mi c 0) _ = _
  rw [mi_zero]
  rfl

theorem own_load {off : Fin 2 → ℕ} (hoff : off = ![16 * c.val, 0]) {hin : ∀ i, off i + S16x512.size i ≤ S512x512.size i}
    {hl : pM.view.LoadsAt (Rect.unit (s := S512x512) off S16x512.size hin).toLoadRect} {k : Vec F S16x512 .bf16 → Pg F α}
    (h : iprop(S ∗ rowPts c c (P c) ∗ Z) ⊢ WP c (k (pM.view.readAt (Elt F) (Rect.unit (s := S512x512) off S16x512.size hin).toLoadRect (P c))) Q) :
    iprop(S ∗ rowPts c c (P c) ∗ Z)
      ⊢ WP c ((Prog.lift (.load pM (Rect.unit (s := S512x512) off S16x512.size hin).toLoadRect hl) : Pg F _) >>= k) Q := by
  refine load_step (m := pM) (rowSet c) fullShare (P c) ?_ ?_ h
  · refine (View.set_slice pM.view (Rect.unit (s := S512x512) off S16x512.size hin)).symm.subset.trans ?_
    intro i hi
    obtain ⟨x, -, rfl⟩ := Finset.mem_map.mp hi
    refine (mem_rowSet c _).mpr ?_
    have h1 : (x 0).val < 16 := (x 0).isLt
    have h2 := congrArg (fun i : PIx => (i 0).val) (own_emb hoff (hin := hin) x)
    show ((Rect.unit (s := S512x512) off S16x512.size hin).emb x 0).val / 16 = c.val
    rw [h2]
    show (16 * c.val + (x 0).val) / 16 = c.val
    omega
  · unfold rowPts
    iintro ⟨HS, Hr, HZ⟩
    isplitl [Hr]; · iexact Hr
    iintro Hr
    isplitl [HS]; · iexact HS
    isplitl [Hr] <;> iassumption

theorem slot_load {hin : ∀ i, (![0, 0, 0] : Fin 3 → ℕ) i + S1x16x512.size i ≤ S32x16x512.size i}
    {hl : rM.view.LoadsAt (Rect.unit (s := S32x16x512) ![0, 0, 0] S1x16x512.size hin).toLoadRect} {k : Pg F α}
    (h : iprop((∃ f, slotPts c 0 f) ∗ Z) ⊢ WP c k Q) :
    iprop((∃ f, slotPts c 0 f) ∗ Z)
      ⊢ WP c ((Prog.lift (.load rM (Rect.unit (s := S32x16x512) ![0, 0, 0] S1x16x512.size hin).toLoadRect hl) : Pg F _) >>= fun _ => k) Q := by
  refine load_any (m := rM) (slotSet 0) fullShare ?_ ?_ h
  · refine (View.set_slice rM.view (Rect.unit (s := S32x16x512) ![0, 0, 0] S1x16x512.size hin)).symm.subset.trans ?_
    intro i hi
    obtain ⟨x, -, rfl⟩ := Finset.mem_map.mp hi
    refine (mem_slotSet 0 _).mpr (Fin.ext ?_)
    have h0 : (x 0).val < 1 := (x 0).isLt
    show 0 + 1 * (x 0).val = 0
    omega
  · unfold slotPts
    iintro ⟨⟨%f, Hr⟩, HZ⟩
    iexists f
    isplitl [Hr]; · iexact Hr
    iintro Hr
    isplitl [Hr]
    · iexists f; iexact Hr
    iassumption

/-! ## All slots received -/

theorem slots_join : iprop(slotPts c 0 (RV P c) ∗ bigSep offs fun o => slotPts c o (RV P c)) ⊢ (RecvIs c (RV P c) : sProp 𝕄) := by
  unfold RecvIs
  refine BIBase.Entails.trans (Entails.of_eq ?_) (Entails.of_eq (congrArg (fun s => ((c : Thread nD τ).loc cc0_scratch1 ↦[s]{fullShare} RV P c : sProp 𝕄)) slot_cover))
  refine Eq.trans ?_ (pointsTo_biUnion (ℓ := (c : Thread nD τ).loc cc0_scratch1) Finset.univ slotSet fun t _ t' _ h => slot_disjoint h).symm
  rw [univ_offs, all_insert zero_notin_offs]
  rfl

theorem rows_join : iprop(rowPts c c (P c) ∗ bigSep offs fun o => rowPts c (pl c o) (P c)) ⊢ (PartIs c (P c) : sProp 𝕄) := by
  unfold PartIs
  refine BIBase.Entails.trans (Entails.of_eq ?_) (Entails.of_eq (congrArg (fun s => ((c : Thread nD τ).loc cc0_scratch0 ↦[s]{fullShare} P c : sProp 𝕄)) (row_cover c)))
  refine Eq.trans ?_ (pointsTo_biUnion (ℓ := (c : Thread nD τ).loc cc0_scratch0) Finset.univ (fun o => rowSet (pl c o))
    fun t _ t' _ h => row_disjoint fun e => h (pl_inj c e)).symm
  rw [univ_offs, all_insert zero_notin_offs, pl_zero]
  rfl

/-- What remains beside the receive buffer and the staged result while the device reduces. -/
def MidSt (c : Dev nD) : sProp 𝕄 :=
  iprop(env P K ∗ WaitSt P 0 c 1 ∗ rowPts c c (P c) ∗ Zeros 1 c ∗ Zeros 2 c)

theorem to_recv : iprop(slotPts c 0 (RV P c) ∗ rowPts c c (P c)
        ∗ (env P K ∗ WaitSt P 1 c 1 ∗ Fr))
    ⊢ iprop(env P K ∗ WaitSt P 1 c 1 ∗ slotPts c 0 (RV P c) ∗ rowPts c c (P c) ∗ Fr) := by
  iintro ⟨Hs, Hr, He, HW, HF⟩
  isplitl [He]; · iexact He
  isplitl [HW]; · iexact HW
  isplitl [Hs]; · iexact Hs
  isplitl [Hr] <;> iassumption

theorem to_out : iprop(env P K ∗ WaitSt P 1 c 32 ∗ slotPts c 0 (RV P c) ∗ rowPts c c (P c) ∗ bigSep offs (sentO c) ∗ SendAts c ∗ OutSome c ∗ S ∗ Z ∗ Fr)
    ⊢ iprop(OutSome c ∗ RecvIs c (RV P c) ∗ MidSt P K c ∗ S ∗ Z ∗ Fr) := by
  unfold MidSt WaitSt
  rw [fromO_end, fromO_rest, fromO_one, Finset.sdiff_empty, bigSep_empty, bigSep_empty]
  iintro ⟨He, ⟨HO, -, HD⟩, Hs, Hr, HT, HA, Ho, HS, HZ, HF⟩
  ihave HD' := (Entails.of_eq (bigSep_sep' offs (fun o => (semVal (kcell c (some (1, o))) 0 : sProp 𝕄)) (fun o => payK P c (some (1, o))))) $$ HD
  icases HD' with ⟨Hz1, Hp⟩
  unfold sentO
  ihave HT' := (Entails.of_eq (bigSep_sep' offs (fun o => (semVal (credCell c o) 0 : sProp 𝕄)) (fun o => cred (tallyAt (sendCell c o) () N)))) $$ HT
  icases HT' with ⟨Hz2, Hc⟩
  isplitl [Ho]; · iexact Ho
  isplitl [Hs Hp]
  · iapply (slots_join P)
    isplitl [Hs]; · iexact Hs
    iexact Hp
  isplitr [HS HZ HF]
  · isplitl [He]; · iexact He
    isplitl [HO Hc HA]
    · isplitl [HO]; · iexact HO
      isplitr []
      · iapply (Entails.of_eq (bigSep_sep' offs (fun o => (cred (tallyAt (sendCell c o) () N) : sProp 𝕄)) (fun o => atPos ER (sendCell c o) 0 ∅ 0)).symm)
        unfold SendAts
        isplitl [Hc] <;> iassumption
      iempintro
    isplitl [Hr]; · iexact Hr
    unfold Zeros
    isplitl [Hz1]; · iexact Hz1
    iexact Hz2
  isplitl [HS]; · iexact HS
  isplitl [HZ] <;> iassumption

theorem hz3 : (![0, 0, 0] : Fin 3 → ℕ) = fun _ => 0 := funext fun a => by fin_cases a <;> rfl
theorem hz2 : (![0, 0] : Fin 2 → ℕ) = fun _ => 0 := funext fun a => by fin_cases a <;> rfl

theorem recv_load {r : LoadRect S32x16x512} {hl : rM.view.LoadsAt r} (f : RBuf F) {k : (r.shape.Idx → Elt F .bf16) → Pg F α}
    (h : iprop(S ∗ RecvIs c f ∗ Z) ⊢ WP c (k (rM.view.readAt (Elt F) r f)) Q) :
    iprop(S ∗ RecvIs c f ∗ Z) ⊢ WP c ((Prog.lift (.load rM r hl) : Pg F _) >>= k) Q := by
  refine load_step (m := rM) Finset.univ fullShare f (Finset.subset_univ _) ?_ h
  unfold RecvIs
  iintro ⟨HS, Hr, HZ⟩
  isplitl [Hr]; · iexact Hr
  iintro Hr
  isplitl [HS]; · iexact HS
  isplitl [Hr] <;> iassumption

abbrev oWhole : Memref sig .tc .vmem S16x512 .f32 := Memref.whole cc0_stg4_0

theorem out_load {r : LoadRect S16x512} {hl : oWhole.view.LoadsAt r} {k : Pg F α}
    (h : iprop(OutSome c ∗ Z) ⊢ WP c k Q) :
    iprop(OutSome c ∗ Z) ⊢ WP c ((Prog.lift (.load oWhole r hl) : Pg F _) >>= fun _ => k) Q := by
  refine load_any (m := oWhole) Finset.univ fullShare (Finset.subset_univ _) ?_ h
  unfold OutSome
  iintro ⟨⟨%f, Hr⟩, HZ⟩
  iexists f
  isplitl [Hr]; · iexact Hr
  iintro Hr
  isplitl [Hr]
  · iexists f; iexact Hr
  iassumption

theorem out_store {hin : ∀ i, (![0, 0] : Fin 2 → ℕ) i + S16x512.size i ≤ S16x512.size i} {w : S16x512.Idx → Elt F .f32} {hx hm}
    {j : PUnit → Pg F α} (h : iprop(OutIs c w ∗ Z) ⊢ WP c (j ⟨⟩) Q) :
    iprop(OutSome c ∗ Z)
      ⊢ WP c ((Prog.lift (.store oWhole (Rect.unit (s := S16x512) ![0, 0] S16x512.size hin) w Finset.univ hx hm) : Pg F _) >>= j) Q := by
  unfold WP at h ⊢
  show _ ⊢ wp frame _ _ (Prog.op (.store oWhole (Rect.unit (s := S16x512) ![0, 0] S16x512.size hin) w Finset.univ hx hm) j) Q
  unfold OutIs at h
  unfold OutSome
  iintro ⟨⟨%f, Hs⟩, HA⟩
  iapply (wp_store 𝒱₀ (c : Thread nD τ) none Set.univ (m := oWhole) (r := Rect.unit (s := S16x512) ![0, 0] S16x512.size hin) (Mk := Finset.univ)
    (S := Finset.univ) (Finset.subset_univ _)) $$ Hs
  rw [show (oWhole.access (Rect.unit (s := S16x512) ![0, 0] S16x512.size hin)).write (Elt F) f w Finset.univ = w from
    Memref.write_access_unit_zero_univ (Elt F) cc0_stg4_0 hz2 _ f w]
  iintro Hs
  iapply h
  isplitl [Hs] <;> iassumption

theorem to_sent (w : (cc0_stg4_0 : Ref sig .tc).ty.Contents (Elt F)) : iprop(OutIs c w ∗ RecvIs c (RV P c) ∗ MidSt P K c ∗ Fr)
    ⊢ iprop(env P K ∗ WaitSt P 0 c 1 ∗ (OutIs c w ∗ RecvIs c (RV P c) ∗ rowPts c c (P c) ∗ Zeros 1 c ∗ Zeros 2 c) ∗ Fr) := by
  unfold MidSt
  iintro ⟨Ho, HR, ⟨He, HW, Hr, H1, H2⟩, HF⟩
  isplitl [He]; · iexact He
  isplitl [HW]; · iexact HW
  isplitr [HF]
  · isplitl [Ho]; · iexact Ho
    isplitl [HR]; · iexact HR
    isplitl [Hr]; · iexact Hr
    isplitl [H1] <;> iassumption
  iexact HF

/-- The end: nothing owed, the buffers whole, every counter used at zero. -/
def DoneSt (c : Dev nD) (w : (cc0_stg4_0 : Ref sig .tc).ty.Contents (Elt F)) : sProp 𝕄 :=
  iprop(Ow c 0 ∗ PartIs c (P c) ∗ RecvIs c (RV P c) ∗ OutIs c w ∗ Zeros 0 c ∗ Zeros 1 c ∗ Zeros 2 c)

theorem to_done (w : (cc0_stg4_0 : Ref sig .tc).ty.Contents (Elt F)) :
    iprop(env P K ∗ WaitSt P 0 c 32 ∗ (OutIs c w ∗ RecvIs c (RV P c) ∗ rowPts c c (P c) ∗ Zeros 1 c ∗ Zeros 2 c) ∗ Fr)
      ⊢ iprop(DoneSt P c w ∗ Fr) := by
  unfold DoneSt WaitSt
  rw [fromO_end, Finset.sdiff_empty, bigSep_empty]
  iintro ⟨-, ⟨HO, -, HD⟩, ⟨Ho, HR, Hr, H1, H2⟩, HF⟩
  ihave HD' := (Entails.of_eq (bigSep_sep' offs (fun o => (semVal (kcell c (some (0, o))) 0 : sProp 𝕄)) (fun o => payK P c (some (0, o))))) $$ HD
  icases HD' with ⟨Hz0, Hp⟩
  isplitr [HF]
  · isplitl [HO]; · iexact HO
    isplitl [Hr Hp]
    · iapply (rows_join P)
      isplitl [Hr]; · iexact Hr
      iexact Hp
    isplitl [HR]; · iexact HR
    isplitl [Ho]; · iexact Ho
    isplitl [Hz0]; · unfold Zeros; iexact Hz0
    isplitl [H1] <;> iassumption
  iexact HF

/-! ## The waits as the body writes them -/

/-- For the slice that arrives in slot `i`; -/
theorem arrive_step (i : ℕ) (hi : i < 32) (hi0 : i ≠ 0) {hin : ∀ a, (![i] : Fin 1 → ℕ) a + S1.size a ≤ S32.size a}
    {hs : ∀ a, (![i, 0, 0] : Fin 3 → ℕ) a + S1x16x512.size a ≤ S32x16x512.size a} {hr : ∀ a, (![0, 0] : Fin 2 → ℕ) a + S16x512.size a ≤ S512x512.size a}
    {hsu hru hsrc hdst} {j : PUnit → Pg F α} (h : iprop(env P K ∗ WaitSt P 1 c (i + 1) ∗ Fr) ⊢ WP c (j ⟨⟩) Q) :
    iprop(env P K ∗ WaitSt P 1 c i ∗ Fr)
      ⊢ WP c ((Prog.lift (.waitDma2 ((cc0_scratch3.slice (Rect.unit (s := S32) ![i] S1.size hin)).squeeze S_ squeezes_S1_S_).sem
          (pM.slice (Rect.unit (s := S512x512) ![0, 0] S16x512.size hr) hru)
          ((rM.slice (Rect.unit (s := S32x16x512) ![i, 0, 0] S1x16x512.size hs) hsu).squeeze S16x512 squeezes_S1x16x512_S16x512) hsrc hdst) : Pg F _) >>= j) Q :=
  wait_step P K 1 (by decide) i hi hi0 (congrArg SemLoc.dma (recvS_eq i hi hin).symm)
    (src := (pM.slice (Rect.unit (s := S512x512) ![0, 0] S16x512.size hr) hru))
    (dst := ((rM.slice (Rect.unit (s := S32x16x512) ![i, 0, 0] S1x16x512.size hs) hsu).squeeze S16x512 squeezes_S1x16x512_S16x512)) (by rfl) h

/-- for the completion of the slice sent at offset `i`. -/
theorem leave_step (i : ℕ) (hi : i < 32) (hi0 : i ≠ 0) {hin : ∀ a, (![i] : Fin 1 → ℕ) a + S1.size a ≤ S32.size a}
    {hs : ∀ a, (![i, 0, 0] : Fin 3 → ℕ) a + S1x16x512.size a ≤ S32x16x512.size a} {hr : ∀ a, (![0, 0] : Fin 2 → ℕ) a + S16x512.size a ≤ S512x512.size a}
    {hsu hru hsrc hdst} {j : PUnit → Pg F α} (h : iprop(env P K ∗ WaitSt P 0 c (i + 1) ∗ Fr) ⊢ WP c (j ⟨⟩) Q) :
    iprop(env P K ∗ WaitSt P 0 c i ∗ Fr)
      ⊢ WP c ((Prog.lift (.waitDma2 ((cc0_scratch2.slice (Rect.unit (s := S32) ![i] S1.size hin)).squeeze S_ squeezes_S1_S_).sem
          ((rM.slice (Rect.unit (s := S32x16x512) ![i, 0, 0] S1x16x512.size hs) hsu).squeeze S16x512 squeezes_S1x16x512_S16x512)
          (pM.slice (Rect.unit (s := S512x512) ![0, 0] S16x512.size hr) hru) hsrc hdst) : Pg F _) >>= j) Q :=
  wait_step P K 0 (by decide) i hi hi0 (congrArg SemLoc.dma (sendS_eq i hi hin).symm)
    (src := ((rM.slice (Rect.unit (s := S32x16x512) ![i, 0, 0] S1x16x512.size hs) hsu).squeeze S16x512 squeezes_S1x16x512_S16x512))
    (dst := (pM.slice (Rect.unit (s := S512x512) ![0, 0] S16x512.size hr) hru)) (by rfl) h

end Cert.KernelIdeal.MoE

end
-- ==== Proof.Ideal.BodyB.lean ====
/-
# The body from the third block on: the last sends, the sum of what arrives, the last waits
-/
module

public import proofs.«01_k».proof.Proof.Ideal.BodyA
public import proofs.«01_k».proof.Proof.Ideal.Ends

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Key → ℕ) (AA : Dev nD → Ins F)
variable {c : Dev nD} {Fr : sProp (MT nD τ sig Unit (Elt F) ℕ UU ℕ)}

set_option maxHeartbeats 4000000 in
set_option maxRecDepth 20000 in
/-- The other parts but for the last wait. -/
theorem part99 {v1 v2 : BitVec 32} {v3 v4 : BitVec 1} {Q : PUnit → sProp (MT nD τ sig Unit (Elt F) ℕ UU ℕ)}
    (h : iprop(env (contribs AA) K ∗ WaitSt (contribs AA) 0 c 31
        ∗ (OutIs c (outV AA c) ∗ RecvIs c (RV (contribs AA) c) ∗ rowPts c c (contribs AA c) ∗ Zeros 1 c ∗ Zeros 2 c)
        ∗ Stg (AA c) c ∗ semVal (barCell c) 0 ∗ Fr) ⊢ Q ⟨⟩) :
    iprop(env (contribs AA) K ∗ SendSt (contribs AA) c 2 22 ∗ Stg (AA c) c ∗ semVal (barCell c) 0 ∗ TailRes c ∗ Fr)
      ⊢ WP c (k0_part99_skel (F := F) xM (Memref.isWhole_whole _) wM (Memref.isWhole_whole _) iM (Memref.isWhole_whole _) eM (Memref.isWhole_whole _) oM (Memref.isWhole_whole _)
          pM (Memref.isWhole_whole _) rM (Memref.isWhole_whole _) cc0_scratch2 cc0_scratch3 cc0_scratch4 c (devW c) (lhs (AA c) c) (rhs (AA c)) v1 v2 v3 v4) Q := by
  unfold k0_part99_skel
  -- the last sends of block 2
  iterate 4
    refine bind_step ?_
    iterate 2 refine send_step (contribs AA) K _ _ (by decide) (by decide) _ _ _ (by decide +kernel) (by decide +kernel) (by decide +kernel) ?_
    refine pure_step ?_
  refine bind_step ?_
  rw [k0_part65_eq_skeleton]
  iterate 2 refine send_step (contribs AA) K _ _ (by decide) (by decide) _ _ _ (by decide +kernel) (by decide +kernel) (by decide +kernel) ?_
  refine pure_step ?_
  -- block 3 and its sends
  refine bind_step ?_
  rw [k0_part66_eq_skeleton]
  rw [SendSt_next]
  refine block_load (contribs AA) K 384 384 3 (by decide) rfl ?_
  refine block_store (contribs AA) K 384 384 3 (by decide) rfl rfl (fun x => contrib_block (AA c) c 3 (by decide) x) ?_
  refine send_step (contribs AA) K _ _ (by decide) (by decide) _ _ _ (by decide +kernel) (by decide +kernel) (by decide +kernel) ?_
  refine pure_step ?_
  iterate 12
    refine bind_step ?_
    iterate 2 refine send_step (contribs AA) K _ _ (by decide) (by decide) _ _ _ (by decide +kernel) (by decide +kernel) (by decide +kernel) ?_
    refine pure_step ?_
  refine bind_step ?_
  refine send_step (contribs AA) K _ _ (by decide) (by decide) _ _ _ (by decide +kernel) (by decide +kernel) (by decide +kernel) ?_
  refine pure_step ?_
  iterate 2
    refine bind_step ?_
    iterate 2 refine send_step (contribs AA) K _ _ (by decide) (by decide) _ _ _ (by decide +kernel) (by decide +kernel) (by decide +kernel) ?_
    refine pure_step ?_
  -- the last of them, the device's own slice, and the first arrivals
  refine bind_step ?_
  rw [k0_part82_eq_skeleton]
  refine send_step (contribs AA) K _ _ (by decide) (by decide) _ _ _ (by decide +kernel) (by decide +kernel) (by decide +kernel) ?_
  refine BIBase.Entails.trans (to_own (contribs AA) K _ _ _) ?_
  refine own_load (contribs AA) _ _ (k0_off125_eq c) ?_
  refine slot_load _ ?_
  refine slot_store (contribs AA) (fun x => own_value (contribs AA) (k0_off125_eq c) x) ?_
  refine BIBase.Entails.trans (to_recv (contribs AA) K _) ?_
  iterate 2 refine arrive_step (contribs AA) K _ _ (by decide) (by decide) ?_
  refine pure_step ?_
  iterate 4
    refine bind_step ?_
    iterate 4 refine arrive_step (contribs AA) K _ _ (by decide) (by decide) ?_
    refine pure_step ?_
    refine bind_step ?_
    iterate 3 refine arrive_step (contribs AA) K _ _ (by decide) (by decide) ?_
    refine pure_step ?_
  -- the last arrival, and the sum
  refine bind_step ?_
  rw [k0_part91_eq_skeleton]
  refine arrive_step (contribs AA) K _ _ (by decide) (by decide) ?_
  refine BIBase.Entails.trans (to_out (contribs AA) K _ _ _) ?_
  refine recv_load _ _ (RV (contribs AA) c) ?_
  refine out_load _ ?_
  refine out_store _ ?_
  refine BIBase.Entails.trans (to_sent (contribs AA) K _ _) ?_
  -- the sends' own completions
  iterate 3 refine leave_step (contribs AA) K _ _ (by decide) (by decide) ?_
  refine pure_step ?_
  iterate 2
    refine bind_step ?_
    iterate 4 refine leave_step (contribs AA) K _ _ (by decide) (by decide) ?_
    refine pure_step ?_
  refine bind_step ?_
  iterate 5 refine leave_step (contribs AA) K _ _ (by decide) (by decide) ?_
  refine pure_step ?_
  iterate 3
    refine bind_step ?_
    iterate 4 refine leave_step (contribs AA) K _ _ (by decide) (by decide) ?_
    refine pure_step ?_
  iterate 2 refine leave_step (contribs AA) K _ _ (by decide) (by decide) ?_
  refine pure_step ?_
  exact h

set_option maxRecDepth 20000 in
/-- The whole body. -/
theorem body_runs {Q : PUnit → sProp (MT nD τ sig Unit (Elt F) ℕ UU ℕ)}
    (h : iprop(DoneSt (contribs AA) c (outV AA c) ∗ Stg (AA c) c ∗ semVal (barCell c) 0 ∗ Fr) ⊢ Q ⟨⟩) :
    iprop(env (contribs AA) K ∗ StartSt c ∗ Stg (AA c) c ∗ SigRes c ∗ SendRes c ∗ TailRes c ∗ Fr)
      ⊢ WP c (cc0_body (F := F) xM (Memref.isWhole_whole _) wM (Memref.isWhole_whole _) iM (Memref.isWhole_whole _) eM (Memref.isWhole_whole _) oM (Memref.isWhole_whole _)
          pM (Memref.isWhole_whole _) rM (Memref.isWhole_whole _) cc0_scratch2 cc0_scratch3 cc0_scratch4) Q := by
  rw [cc0_body_eq_skeleton]
  unfold cc0_body_skel
  refine bind_step ?_
  rw [k0_part98_eq_skeleton]
  refine part98 K AA fun v1 v2 v3 v4 => ?_
  refine bind_step ?_
  rw [k0_part99_eq_skeleton]
  refine part99 K AA ?_
  refine leave_step (contribs AA) K _ _ (by decide) (by decide) ?_
  refine pure_step ?_
  exact BIBase.Entails.trans (to_done (contribs AA) K _ _) h

end Cert.KernelIdeal.MoE

end
-- ==== Proof.Ideal.Start.lean ====
/-
# The proof data of the one launch, and the body's obligation
-/
module

public import proofs.«01_k».proof.Proof.Ideal.BodyB
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def st₀ : MemSt nD τ sig (Elt F) := ⟨m, fun _ => 0, ρ⟩

/-- What each device stages: its own arguments. -/
def AA (c : Dev nD) : Ins F where
  x := (win0_0.blk (0 : Fin 1)).view.read (Elt F) (m ((c : Thread nD τ).loc main_arg0))
  w := (win0_1.blk (0 : Fin 1)).view.read (Elt F) (m ((c : Thread nD τ).loc main_arg1))
  i := (win0_2.blk (0 : Fin 1)).view.read (Elt F) (m ((c : Thread nD τ).loc main_arg2))
  e := (win0_3.blk (0 : Fin 1)).view.read (Elt F) (m ((c : Thread nD τ).loc main_arg3))

/-- What the devices compute. -/
def PP : Dev nD → PBuf F := contribs (AA m)

/-! ## All keys -/

theorem all_offsets (Φ : Fin 32 → sProp 𝕄) : bigSep Finset.univ Φ = iprop(Φ 0 ∗ bigSep offs Φ) := by
  rw [univ_offs, all_insert zero_notin_offs]

theorem all_keys (Φ : Key → sProp 𝕄) : bigSep Finset.univ Φ
    = iprop(Φ none ∗ (bigSep Finset.univ fun o => Φ (some (0, o))) ∗ (bigSep Finset.univ fun o => Φ (some (1, o)))
        ∗ bigSep Finset.univ fun o => Φ (some (2, o))) := by
  have h : (Finset.univ : Finset Key) = insert none (Finset.univ.map Function.Embedding.some) := by
    ext k; cases k <;> simp
  rw [h, all_insert (by simp), bigSep_map, bigSep_univ_prod, bigSep_univ_eq_bigSepL [0, 1, 2] (by decide) (by decide)]
  rfl

/-! ## What the launch deals a device -/

section
variable (P : Dev nD → PBuf F)

/-- The cells' invariants and their rounds, at all devices. -/
def records (K : Dev nD × Key → ℕ) : sProp 𝕄 :=
  iprop((bigSep Finset.univ fun ck : Dev nD × Key => cellInv ER (Rd P) (K ck) (kcell ck.1 ck.2))
    ∗ bigSep Finset.univ fun ck : Dev nD × Key => reached ER (kcell ck.1 ck.2) 0)
instance records_persistent (K : Dev nD × Key → ℕ) : BI.Persistent (records P K) := by unfold records; infer_instance

/-- The tokens of the duties a device pays. -/
def payToks (c : Dev nD) : sProp 𝕄 :=
  iprop(dutyTok ER (barCell c) 0 () ∗ (bigSep Finset.univ fun o => dutyTok ER (sendCell c o) 0 ())
    ∗ (bigSep Finset.univ fun o => dutyTok ER (recvCell (pl c o) o) 0 ()) ∗ bigSep Finset.univ fun o => dutyTok ER (credCell (mi c o) o) 0 ())
/-- Its positions at its own cells, and these. -/
def linear (c : Dev nD) : sProp 𝕄 := iprop((bigSep Finset.univ fun k : Key => atPos ER (kcell c k) 0 ∅ 0) ∗ payToks c)
/-- The credits of its cells. -/
def credits (c : Dev nD) : sProp 𝕄 :=
  iprop(cred (tallyAt (barCell c) () 1) ∗ (bigSep offs fun o => cred (tallyAt (recvCell c o) () N)) ∗ bigSep offs fun o => cred (tallyAt (credCell c o) () 1))

def start (c : Dev nD) : sProp 𝕄 := iprop((∃ K, records P K ∗ linear c) ∗ credits c ∗ levAts L lv)
def Φ₀ (c : Dev nD) : sProp 𝕄 := iprop(start P c ∗ (∃ f, PartIs c f) ∗ ∃ f, RecvIs c f)
def Φ₁ (c : Dev nD) : sProp 𝕄 := iprop(PartIs c (P c) ∗ RecvIs c (RV P c) ∗ bigSep Finset.univ fun k : Key => semVal (kcell c k) 0)
end

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (AA m c).x
    | ⟨1, _⟩ => (AA m c).w
    | ⟨2, _⟩ => (AA m c).i
    | ⟨3, _⟩ => (AA m c).e
    | ⟨4, _⟩ => outV (AA m) c
  Φ t := match t with
    | ⟨0, _⟩ => Φ₀ (PP m) c
    | ⟨_ + 1, _⟩ => Φ₁ (PP m) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ (PP m) c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (PP m) c ∗ (dats m ρ 0 c).owesAt () t0_0.succ
    ∗ stg c cc0_stg0_0 (AA m c).x ∗ stg c cc0_stg1_0 (AA m c).w ∗ stg c cc0_stg2_0 (AA m c).i ∗ stg c cc0_stg3_0 (AA m c).e
    ∗ stg c cc0_stg4_0 (outV (AA m) c))

/-- A cell no duty is at, closed. -/
theorem close_zero (P : Dev nD → PBuf F) (K : Dev nD × Key → ℕ) (c : Dev nD) (a : Fin 3) :
    iprop(env P K ∗ atPos ER (kcell c (some (a, 0))) 0 ∅ 0) ⊢ (|={Set.univ}=> semVal (kcell c (some (a, 0))) 0 : sProp 𝕄) := by
  iintro ⟨#He, Hat⟩
  iapply (Rounds.cell_close ER (Rd P) (Set.mem_univ (K (c, some (a, 0)))) (fun h => h) (R := 0) (duties_zero P c a))
  isplitr; · iapply (env_inv P K c (some (a, 0))); iexact He
  iexact Hat

/-- What the body runs from, but for what is owed and what is staged. -/
def FromSt (P : Dev nD → PBuf F) (K : Dev nD × Key → ℕ) (c : Dev nD) : sProp 𝕄 :=
  iprop(env P K ∗ (dutyTok ER (barCell c) 0 () ∗ cred (tallyAt (barCell c) () 1) ∗ atPos ER (barCell c) 0 ∅ 0)
    ∗ SigRes c ∗ SendRes c ∗ ((∃ f, slotPts c 0 f) ∗ RecvRes c ∗ SendAts c)
    ∗ (semVal (sendCell c 0) 0 ∗ semVal (recvCell c 0) 0 ∗ semVal (credCell c 0) 0))

theorem slot_some (c : Dev nD) (o : Fin 32) (f : RBuf F) : slotPts c o f ⊢ (iprop(∃ f, slotPts c o f) : sProp 𝕄) := by
  iintro H; iexists f; iexact H

theorem slots_split (c : Dev nD) : iprop(∃ f, RecvIs c f) ⊢ (iprop((∃ f, slotPts c 0 f) ∗ bigSep offs fun o => iprop(∃ f, slotPts c o f)) : sProp 𝕄) := by
  unfold RecvIs
  iintro ⟨%f, H⟩
  ihave H' := (Entails.of_eq (show ((c : Thread nD τ).loc cc0_scratch1 ↦{fullShare} f : sProp 𝕄) = iprop(slotPts c 0 f ∗ bigSep offs fun o => slotPts c o f) from by
    rw [← slot_cover]
    refine (pointsTo_biUnion (ℓ := (c : Thread nD τ).loc cc0_scratch1) Finset.univ slotSet fun t _ t' _ h => slot_disjoint h).trans ?_
    rw [all_offsets]
    rfl)) $$ H
  icases H' with ⟨H0, HR⟩
  isplitl [H0]; · iexists f; iexact H0
  iapply (show (bigSep offs fun o => (slotPts c o f : sProp 𝕄)) ⊢ bigSep offs fun o => iprop(∃ f, slotPts c o f) from
    bigSep_mono fun o _ => slot_some c o f)
  iexact HR

theorem env_intro (P : Dev nD → PBuf F) (K : Dev nD × Key → ℕ) : iprop(records P K ∗ levAts L lv) ⊢ (env P K : sProp 𝕄) := by
  unfold records env
  iintro ⟨⟨H1, H2⟩, H3⟩
  isplitl [H1]; · iexact H1
  isplitl [H2] <;> iassumption

theorem from_start (P : Dev nD → PBuf F) (c : Dev nD) : Φ₀ P c ⊢ (|={Set.univ}=> iprop(∃ K, FromSt P K c) : sProp 𝕄) := by
  unfold Φ₀ start linear payToks credits
  rw [all_keys, all_offsets, all_offsets, all_offsets, all_offsets, all_offsets, all_offsets]
  iintro ⟨⟨⟨%K, HR, ⟨Hb, ⟨Hs0, Hs⟩, ⟨Hr0, Hr⟩, ⟨Hc0, Hc⟩⟩, HtB, ⟨-, HtS⟩, ⟨-, HtR⟩, ⟨-, HtC⟩⟩, ⟨HcB, HcR, HcC⟩, Hlev⟩, ⟨%g, HP⟩, Hrecv⟩
  ihave #He := (env_intro P K) $$ [HR Hlev]
  · isplitl [HR] <;> iassumption
  imod (close_zero P K c 0) $$ [Hs0] with Hz0
  · isplitr; · iexact He
    iexact Hs0
  imod (close_zero P K c 1) $$ [Hr0] with Hz1
  · isplitr; · iexact He
    iexact Hr0
  imod (close_zero P K c 2) $$ [Hc0] with Hz2
  · isplitr; · iexact He
    iexact Hc0
  ihave Hsl := (slots_split c) $$ Hrecv
  icases Hsl with ⟨Hsl0, Hsl⟩
  imodintro
  iexists K
  unfold FromSt SigRes SendRes RecvRes SendAts toSend
  rw [bigSep_sep', bigSep_sep', bigSep_sep', bigSep_sep', bigSep_sep']
  isplitr; · iexact He
  isplitl [HtB HcB Hb]
  · isplitl [HtB]; · iexact HtB
    isplitl [HcB] <;> iassumption
  isplitl [HtC Hsl]
  · isplitl [HtC] <;> iassumption
  isplitl [HcC Hc HtR HtS HP]
  · isplitl [HcC Hc HtR HtS]
    · isplitl [HcC]; · iexact HcC
      isplitl [Hc]; · iexact Hc
      isplitl [HtR] <;> iassumption
    iexists g; unfold PartIs; iexact HP
  isplitl [Hsl0 HcR Hr Hs]
  · isplitl [Hsl0]; · iexact Hsl0
    isplitl [HcR Hr]
    · isplitl [HcR] <;> iassumption
    iexact Hs
  isplitl [Hz0]; · iexact Hz0
  isplitl [Hz1] <;> iassumption

theorem zeros_join (c : Dev nD) : iprop(semVal (barCell c) 0 ∗ (semVal (sendCell c 0) 0 ∗ semVal (recvCell c 0) 0 ∗ semVal (credCell c 0) 0) ∗ Zeros 0 c ∗ Zeros 1 c ∗ Zeros 2 c)
    ⊢ (bigSep Finset.univ fun k : Key => semVal (kcell c k) 0 : sProp 𝕄) := by
  unfold Zeros
  rw [all_keys, all_offsets, all_offsets, all_offsets]
  iintro ⟨Hb, ⟨H0, H1, H2⟩, Hz0, Hz1, Hz2⟩
  isplitl [Hb]; · iexact Hb
  isplitl [H0 Hz0]
  · isplitl [H0] <;> iassumption
  isplitl [H1 Hz1]
  · isplitl [H1] <;> iassumption
  isplitl [H2] <;> iassumption

theorem to_post (c : Dev nD) :
    iprop(DoneSt (PP m) c (outV (AA m) c) ∗ Stg (AA m c) c ∗ semVal (barCell c) 0 ∗ (semVal (sendCell c 0) 0 ∗ semVal (recvCell c 0) 0 ∗ semVal (credCell c 0) 0))
      ⊢ bodyPost m ρ c := by
  unfold DoneSt Stg bodyPost Φ₁ Dat.owesAt Pipeline.owesWithin Ow OutIs
  rw [show (dats m ρ 0 c).owed t0_0.succ = 0 from rfl]
  iintro ⟨⟨⟨%W, HO⟩, HP, HR, Ho, Hz0, Hz1, Hz2⟩, ⟨H0, H1, H2, H3⟩, Hb, Hzz⟩
  isplitl [HP HR Hz0 Hz1 Hz2 Hb Hzz]
  · isplitl [HP]; · iexact HP
    isplitl [HR]; · iexact HR
    iapply (zeros_join c)
    isplitl [Hb]; · iexact Hb
    isplitl [Hzz]; · iexact Hzz
    isplitl [Hz0]; · iexact Hz0
    isplitl [Hz1] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Ho

theorem fetched_x (c : Dev nD) (d) : (dats m ρ 0 c).before (0 : Fin 5) t0_0 d = (AA m c).x := by
  unfold Dat.before; rw [if_pos (fetch0_0 t0_0)]; rfl
theorem fetched_w (c : Dev nD) (d) : (dats m ρ 0 c).before (1 : Fin 5) t0_0 d = (AA m c).w := by
  unfold Dat.before; rw [if_pos (fetch0_1 t0_0)]; rfl
theorem fetched_i (c : Dev nD) (d) : (dats m ρ 0 c).before (2 : Fin 5) t0_0 d = (AA m c).i := by
  unfold Dat.before; rw [if_pos (fetch0_2 t0_0)]; rfl
theorem fetched_e (c : Dev nD) (d) : (dats m ρ 0 c).before (3 : Fin 5) t0_0 d = (AA m c).e := by
  unfold Dat.before; rw [if_pos (fetch0_3 t0_0)]; rfl

theorem to_stg (c : Dev nD) :
    iprop((∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d))) ⊢ iprop(Stg (AA m c) c ∗ OutSome c) := by
  unfold Stg OutSome
  iintro ⟨⟨%d0, %g0, %h0, H0⟩, ⟨%d1, %g1, %h1, H1⟩, ⟨%d2, %g2, %h2, H2⟩, ⟨%d3, %g3, %h3, H3⟩, ⟨%d4, %g4, %h4, H4⟩⟩
  rw [fetched_x] at h0; rw [fetched_w] at h1; rw [fetched_i] at h2; rw [fetched_e] at h3
  subst h0 h1 h2 h3
  isplitr [H4]
  · isplitl [H0]; · iexact H0
    isplitl [H1]; · iexact H1
    isplitl [H2] <;> iassumption
  iexists g4; iexact H4

theorem to_body (K : Dev nD × Key → ℕ) (c : Dev nD) (W : Waits sig Unit) :
    iprop(FromSt (PP m) K c ∗ owes (c : Thread nD τ) (O₀ c) W ∗ Stg (AA m c) c ∗ OutSome c)
      ⊢ (iprop(env (PP m) K ∗ StartSt c ∗ Stg (AA m c) c ∗ SigRes c ∗ SendRes c ∗ TailRes c
          ∗ (semVal (sendCell c 0) 0 ∗ semVal (recvCell c 0) 0 ∗ semVal (credCell c 0) 0)) : sProp 𝕄) := by
  unfold FromSt StartSt TailRes Ow
  iintro ⟨⟨He, HB, HSig, HSend, ⟨Hs0, HR, HA⟩, Hz⟩, HO, HS, Hout⟩
  isplitl [He]; · iexact He
  isplitl [HO HB]
  · isplitl [HO]; · iexists W; iexact HO
    iexact HB
  isplitl [HS]; · iexact HS
  isplitl [HSig]; · iexact HSig
  isplitl [HSend]; · iexact HSend
  isplitl [Hs0 HR HA Hout]
  · isplitl [Hs0]; · iexact Hs0
    isplitl [HR]; · iexact HR
    isplitl [HA] <;> iassumption
  iexact Hz

set_option maxRecDepth 8000 in
/-- The body of the launch, from what the launch stages to what it leaves. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (F := F) xM (Memref.isWhole_whole _) wM (Memref.isWhole_whole _) iM (Memref.isWhole_whole _) eM (Memref.isWhole_whole _) oM (Memref.isWhole_whole _)
          pM (Memref.isWhole_whole _) rM (Memref.isWhole_whole _) cc0_scratch2 cc0_scratch3 cc0_scratch4) (fun _ => bodyPost m ρ c)
  unfold bodyPre Dat.owesAt Pipeline.owesWithin
  rw [show (dats m ρ 0 c).owed t0_0.castSucc = O₀ c from rfl]
  iintro ⟨HΦ, ⟨%W, -, HO⟩, Hst⟩
  imod (from_start (PP m) c) $$ HΦ with ⟨%K, HF⟩
  ihave Hst' := (to_stg m ρ c) $$ Hst
  icases Hst' with ⟨HS, Hout⟩
  ihave H := (to_body m K c W) $$ [HF HO HS Hout]
  · isplitl [HF]; · iexact HF
    isplitl [HO]; · iexact HO
    isplitl [HS] <;> iassumption
  iapply (show _ ⊢ wp frame (wpE (defs₀ (F := F)) 𝒱₀ (c : Thread nD τ) none) Set.univ _ (fun _ => bodyPost m ρ c) from
    body_runs K (AA m) (Q := fun _ => bodyPost m ρ c) (to_post m ρ c))
  iexact H

end Cert.KernelIdeal.MoE

end
-- ==== Proof.Ideal.Launch.lean ====
/-
# The launch and the run

The launch mints one round of every cell, with its one token, deals the tokens to the devices that pay them and the
credits to the devices that wait, and the run follows from the body's obligation.
-/
module

public import proofs.«01_k».proof.Proof.Ideal.Start
public import Idealize.ShloMosaic.Lib.Pipeline.CollectiveSegs

@[expose] public section

noncomputable section

namespace Cert.KernelIdeal.MoE

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem osem_scoped (k : OKey) : (osem k).isScoped .tc = true := by
  obtain ⟨a, o⟩ := k
  revert a o
  decide +kernel

theorem stage_ne_osem : ∀ (w : Fin 5) (s : Fin (spec0 w).nbuf) (k : OKey), SemLoc.dma ((spec0 w).sem s) ≠ osem k := by
  decide +kernel

theorem ownSemFacts : Pipeline.OwnSemFacts cfg0.spec osem := by
  exact ⟨osem_scoped, osem_injective, fun k w s h => stage_ne_osem w s k h.symm⟩

theorem share_eq (c : Dev nD) (w : Fin cfg0.W) : (dats m ρ 0 c).share w = fullShare := by unfold Dat.share; split <;> rfl

/-! ## Cells and tokens -/

/-- Every device's every cell. -/
def cellEmb : Dev nD × Key ↪ GSem nD τ sig := ⟨fun ck => kcell ck.1 ck.2, fun _ _ h => Prod.ext (kcell_inj h).1 (kcell_inj h).2⟩
def allCells : Finset (GSem nD τ sig) := Finset.univ.map cellEmb
/-- Each with its round's token. -/
def tokEmb : Dev nD × Key ↪ GSem nD τ sig × ℕ × Unit := ⟨fun ck => (kcell ck.1 ck.2, 0, ()), fun _ _ h => cellEmb.injective (congrArg Prod.fst h)⟩
def allToks : Finset (GSem nD τ sig × ℕ × Unit) := Finset.univ.map tokEmb

def u₀ : UU := (initOf (Pipeline.cells cfgs cellOf_inj) (Pipeline.launchToks cfgs cellOf_inj), initOf allCells allToks)

def toks (c : Dev nD) : sProp 𝕄 := bigSep Finset.univ fun k : Key => dutyTok ER (kcell c k) 0 ()

def marks (c : Dev nD) : sProp 𝕄 := bigSep Finset.univ fun k : Key => iprop(atPos ER (kcell c k) 0 ∅ 0 ∗ reached ER (kcell c k) 0)

section
variable (P : Dev nD → PBuf F)

/-- What the launch element deals a device. -/
def G (c : Dev nD) : sProp 𝕄 := iprop((bigSep Finset.univ fun k : Key => roundState ER (Rd P) (kcell c k) 0) ∗ marks c ∗ toks c)

/-- What a device has once the cells are allocated. -/
def G' (c : Dev nD) : sProp 𝕄 := iprop(∃ K, records P K ∗ linear c)

theorem over_cells (Φ : GSem nD τ sig → sProp 𝕄) :
    bigSep allCells Φ = bigSep Finset.univ fun c : Dev nD => bigSep Finset.univ fun k : Key => Φ (kcell c k) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]; rfl

theorem fund_cells : BI.own (ER (initOf allCells allToks)) ⊢ (|==> bigSep Finset.univ (G P) : sProp 𝕄) := by
  iintro HX
  imod (Rounds.fund ER (Rd P) allCells allToks) $$ HX with ⟨Hst, Hr, Hat, Htok⟩
  imodintro
  ihave Hst' := (Entails.of_eq (over_cells fun g => roundState ER (Rd P) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G marks; simp only [bigSep_sep']
  isplitl [Hst']; · iexact Hst'
  isplitl [Hat' Hr']
  · isplitl [Hat'] <;> iassumption
  iexact Htok'

theorem own_sems_eq (c : Dev nD) : (Pipeline.ownSems0 (Ix := Unit) (Name := ℕ) (U := UU) (Lvl := ℕ) (Val := Elt F) (τ := τ) osem c : sProp 𝕄)
    = bigSep Finset.univ fun k : OKey => semVal (kcell c (some k)) 0 := rfl
theorem free_sems_eq (c : Dev nD) : (unscopedSems0 c : sProp 𝕄) = semVal (barCell c) 0 := by
  unfold unscopedSems0; rw [bigSep_eq_bigSepL_of_eq [SemLoc.reg barS] (by decide) (by decide)]; rfl

theorem keys_eq (Φ : Key → sProp 𝕄) : bigSep Finset.univ Φ = iprop(Φ none ∗ bigSep Finset.univ fun k : OKey => Φ (some k)) := by
  have h : (Finset.univ : Finset Key) = insert none (Finset.univ.map Function.Embedding.some) := by
    ext k; cases k <;> simp
  rw [h, all_insert (by simp), bigSep_map]
  rfl

/-- The semaphores' counters are the cells' counters. -/
theorem sems_eq (c : Dev nD) : (bigSep Finset.univ fun k : Key => semVal (kcell c k) 0 : sProp 𝕄)
    = iprop(unscopedSems0 c ∗ Pipeline.ownSems0 (Ix := Unit) (Name := ℕ) (U := UU) (Lvl := ℕ) (Val := Elt F) (τ := τ) osem c) := by
  rw [keys_eq, own_sems_eq, free_sems_eq]

/-! ## The cells allocated, at all devices at once -/

theorem cells_alloc (c : Dev nD) :
    iprop((bigSep Finset.univ fun k : Key => semVal (kcell c k) 0) ∗ bigSep Finset.univ fun k : Key => roundState ER (Rd P) (kcell c k) 0)
      ⊢ (|={Set.univ}=> bigSep Finset.univ fun k : Key => iprop(∃ κ : ℕ, cellInv ER (Rd P) κ (kcell c k)) : sProp 𝕄) := by
  rw [← bigSep_sep']
  exact BIBase.Entails.trans (bigSep_mono fun k _ => (Rounds.body_intro ER (Rd P) (kcell c k)).trans inv_alloc) (bigSep_fupd _ _)

theorem device_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : Key => iprop(∃ κ : ℕ, cellInv ER (Rd P) κ (kcell c k))) ∗ marks c ∗ toks c) := by
  unfold G
  iintro ⟨Hos, Hus, Hst, Hat, Htok⟩
  ihave Hv := (Entails.of_eq (sems_eq (F := F) c).symm) $$ [Hos Hus]
  · isplitl [Hus] <;> iassumption
  imod (cells_alloc P c) $$ [Hv Hst] with Hinv
  · isplitl [Hv] <;> iassumption
  imodintro
  isplitl [Hinv]; · iexact Hinv
  isplitl [Hat] <;> iassumption

theorem device_ghost (K : Dev nD × Key → ℕ) (c : Dev nD) : iprop(records P K ∗ linear c) ⊢ G' P c := by
  unfold G'
  iintro H
  iexists K
  iexact H

/-- Offsets inside, devices inside the offsets: the two orders agree. -/
theorem swap_sums (Φ : Dev nD → Fin 32 → sProp 𝕄) :
    (bigSep Finset.univ fun c => bigSep Finset.univ fun o => Φ c o) = bigSep Finset.univ fun o => bigSep Finset.univ fun c => Φ c o := by
  rw [← bigSep_univ_prod (fun x : Dev nD × Fin 32 => Φ x.1 x.2), ← bigSep_univ_prod (fun x : Fin 32 × Dev nD => Φ x.2 x.1),
    bigSep_univ_equiv (Equiv.prodComm (Fin 32) (Dev nD)) (fun x : Dev nD × Fin 32 => Φ x.1 x.2)]
  rfl

theorem around (Φ : Dev nD → Fin 32 → sProp 𝕄) (e : Fin 32 → Dev nD ≃ Dev nD) :
    (bigSep Finset.univ fun c => bigSep Finset.univ fun o => Φ c o) = bigSep Finset.univ fun c => bigSep Finset.univ fun o => Φ (e o c) o := by
  refine (swap_sums Φ).trans (Eq.trans ?_ (swap_sums fun c o => Φ (e o c) o).symm)
  exact bigSep_congr fun o _ => bigSep_univ_equiv (e o) fun c => Φ c o

/-- The tokens, dealt to the devices that pay them. -/
theorem deal_tokens : (bigSep Finset.univ fun c : Dev nD => (toks c : sProp 𝕄)) ⊢ bigSep Finset.univ fun c : Dev nD => payToks c := by
  unfold toks payToks
  simp only [all_keys, bigSep_sep']
  rw [around (fun c o => (dutyTok ER (recvCell c o) 0 () : sProp 𝕄)) rot, around (fun c o => (dutyTok ER (credCell c o) 0 () : sProp 𝕄)) fun o => (rot o).symm]
  iintro H
  iexact H

theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono h

theorem marks_eq : (bigSep Finset.univ fun c : Dev nD => (marks c : sProp 𝕄))
    = iprop((bigSep Finset.univ fun c : Dev nD => bigSep Finset.univ fun k : Key => atPos ER (kcell c k) 0 ∅ 0)
      ∗ bigSep Finset.univ fun ck : Dev nD × Key => reached ER (kcell ck.1 ck.2) 0) := by
  unfold marks
  simp only [bigSep_sep']
  rw [← bigSep_univ_prod (fun ck : Dev nD × Key => (reached ER (kcell ck.1 ck.2) 0 : sProp 𝕄))]

theorem linear_eq : (bigSep Finset.univ fun c : Dev nD => (linear c : sProp 𝕄))
    = iprop((bigSep Finset.univ fun c : Dev nD => bigSep Finset.univ fun k : Key => atPos ER (kcell c k) 0 ∅ 0) ∗ bigSep Finset.univ fun c : Dev nD => payToks c) := by
  unfold linear
  rw [bigSep_sep']

theorem regroup :
    (bigSep Finset.univ fun c : Dev nD => iprop((bigSep Finset.univ fun k : Key => iprop(∃ κ : ℕ, cellInv ER (Rd P) κ (kcell c k))) ∗ marks c ∗ toks c) : sProp 𝕄)
      ⊢ bigSep Finset.univ (G' P) := by
  rw [bigSep_sep', bigSep_sep', marks_eq, ← bigSep_univ_prod (fun ck : Dev nD × Key => iprop(∃ κ : ℕ, cellInv ER (Rd P) κ (kcell ck.1 ck.2)))]
  iintro ⟨HI, ⟨Hat, #HR⟩, Htok⟩
  ihave HK := (BI.bigSep_exists_pi Finset.univ (fun (ck : Dev nD × Key) (κ : ℕ) => (cellInv ER (Rd P) κ (kcell ck.1 ck.2) : sProp 𝕄))) $$ HI
  icases HK with ⟨%K, #HI⟩
  ihave Htk := (deal_tokens (F := F)) $$ Htok
  ihave Hlin := (Entails.of_eq (linear_eq (F := F)).symm) $$ [Hat Htk]
  · isplitl [Hat] <;> iassumption
  iapply (beside (R := records P K) fun c _ => device_ghost P K c)
  isplitr
  · unfold records; isplitl; · iexact HI
    iexact HR
  · iexact Hlin

theorem all_alloc : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  BIBase.Entails.trans (BIBase.Entails.trans (bigSep_mono fun c _ => device_alloc P c) (bigSep_fupd _ _)) (BI.fupd_mono (regroup P))
end

/-! ## The credits -/

theorem landing_credits (c : Dev nD) :
    (Pipeline.launchCred (fun d => OV d offs) c : sProp 𝕄) ⊢ bigSep offs fun o => cred (tallyAt (recvCell c o) () N) := by
  unfold OV
  rw [Pipeline.launchCred_sum]
  exact bigSep_mono fun o _ => Pipeline.launchCred_tallyAt (csem (some (1, o))) (fun d => pl d o) (fun c => mi c o) (fun c => pl_mi c o) (fun d => mi_pl d o) () N c
theorem slot_credits (c : Dev nD) :
    (Pipeline.launchCred (fun d => OC d offs) c : sProp 𝕄) ⊢ bigSep offs fun o => cred (tallyAt (credCell c o) () 1) := by
  unfold OC
  rw [Pipeline.launchCred_sum]
  exact bigSep_mono fun o _ => Pipeline.launchCred_tallyAt (csem (some (2, o))) (fun d => mi d o) (fun c => pl c o) (fun c => mi_pl c o) (fun d => pl_mi d o) () 1 c
theorem bar_credit (c : Dev nD) :
    (Pipeline.launchCred (fun d => tallyAt (barCell d) () 1) c : sProp 𝕄) ⊢ cred (tallyAt (barCell c) () 1) :=
  Pipeline.launchCred_tallyAt (csem none) (fun d => d) (fun c => c) (fun _ => rfl) (fun _ => rfl) () 1 c

theorem deal_credits (c : Dev nD) : (Pipeline.launchCred O₀ c : sProp 𝕄) ⊢ credits c := by
  rw [show (O₀ : Dev nD → CellTallies nD τ sig Unit) = fun d => (fun d => OV d offs + OC d offs) d + (fun d => tallyAt (barCell d) () 1) d from rfl,
    Pipeline.launchCred_add, Pipeline.launchCred_add]
  unfold credits
  iintro ⟨⟨HV, HC⟩, HB⟩
  isplitl [HB]; · iapply (bar_credit (F := F) c); iexact HB
  isplitl [HV]; · iapply (landing_credits (F := F) c); iexact HV
  iapply (slot_credits (F := F) c); iexact HC

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (PP m) c)
      ⊢ |={Set.univ}=> iprop(start (PP m) c ∗ emp) := by
  iintro ⟨-, Hlev, Hcr, -, HG⟩
  ihave Hc := (deal_credits (F := F) c) $$ Hcr
  imodintro
  unfold start G'
  isplitl
  · isplitl [HG]; · iexact HG
    isplitl [Hc] <;> iassumption
  · iempintro

theorem first_intro (c : Dev nD) :
    iprop(start (PP m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (PP m) c from rfl, scopedRest0_eq]
  unfold Φ₀ PartIs RecvIs
  iintro ⟨Hs, -, H0, H1⟩
  isplitl [Hs]; · iexact Hs
  isplitl [H0] <;> iassumption

theorem last_elim (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (PP m) c from rfl, scopedRest0_eq]
  unfold Φ₁ PartIs RecvIs
  rw [sems_eq]
  iintro ⟨HP, HR, Hu, Ho⟩
  isplitl [Hu]; · iexact Hu
  isplitl [Ho]; · iexact Ho
  isplitl [HP]
  · iexists _; iexact HP
  iexists _; iexact HR

theorem stage_ne_csem : ∀ (w : Fin 5) (s : Fin (spec0 w).nbuf) (k : Key), csem k ≠ SemLoc.dma ((spec0 w).sem s)
  | w, s, none => fun h => dma_ne_reg _ _ h.symm
  | w, s, some k => fun h => stage_ne_osem w s k h.symm

theorem stage_waits (c : Dev nD) : (levAts L lv : sProp 𝕄) ⊢ Pipeline.cellsWaits cfgs (dats m ρ) () 0 c :=
  Pipeline.cellsWaits_intro cfgs (dats m ρ) () 0 c fun w s t =>
    mayWait_cut c _ _ 0 (by unfold lv; rw [keyOf_eq_none (stage_ne_csem w s)]; exact Nat.le_refl 0) (by
      rcases t with ⟨_ | _, ht⟩
      · exact fun g u h => O₀_above c h
      · exact fun g u h => absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair execution of the 32 devices ends, with each array at the computed
    contents and every counter at zero again. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G (PP m)) (G' := G' (PP m)) (u₀ := u₀)
    (hu₀ := by
      unfold u₀
      iintro Hu
      ihave H := (ownU_pair _ _) $$ Hu
      icases H with ⟨HP, HX⟩
      imod (fund_cells (PP m)) $$ HX with HG
      imodintro
      isplitl [HP] <;> iassumption)
    (hglob := all_alloc (PP m))
    (hA := fun _ _ => rfl) (hpf := fun _ k => k.elim0)
    (X := start (PP m)) (Y := fun c => unscopedSems0 c) (Z := fun _ => iprop(emp))
    (hX := start_intro m ρ) (hin := first_intro m ρ) (hout := last_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

theorem final_x (c : Dev nD) : finalA m ρ c (0 : Fin 5) = m ((c : Thread nD τ).loc main_arg0) := (dats (F := F) m ρ 0 c).arrAt_in (0 : Fin 5) rfl _
theorem final_w (c : Dev nD) : finalA m ρ c (1 : Fin 5) = m ((c : Thread nD τ).loc main_arg1) := (dats (F := F) m ρ 0 c).arrAt_in (1 : Fin 5) rfl _
theorem final_i (c : Dev nD) : finalA m ρ c (2 : Fin 5) = m ((c : Thread nD τ).loc main_arg2) := (dats (F := F) m ρ 0 c).arrAt_in (2 : Fin 5) rfl _
theorem final_e (c : Dev nD) : finalA m ρ c (3 : Fin 5) = m ((c : Thread nD τ).loc main_arg3) := (dats (F := F) m ρ 0 c).arrAt_in (3 : Fin 5) rfl _

theorem final_block (c : Dev nD) : (win0_4.blk (0 : Fin 1)).view.read (Elt F) (finalA m ρ c (4 : Fin 5)) = outV (AA m) c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from flush0_4 _, if_pos rfl]
  exact View.read_write_univ _ _

/-- Each window's one block is its whole array. -/
theorem whole_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem whole_w (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem whole_i (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem whole_e (f : main_arg3.ty.Contents (Elt F)) : (win0_3.blk (0 : Fin 1)).view.read (Elt F) f = f :=
  Memref.read_access_unit_zero (Elt F) main_arg3 (funext fun a => by fin_cases a <;> decide) (fun a => by fin_cases a <;> decide) f
theorem whole_out (f : main_v1.ty.Contents (Elt F)) : (win0_4.blk (0 : Fin 1)).view.read (Elt F) f = f :=
  Memref.read_access_unit_zero (Elt F) main_v1 (funext fun a => by fin_cases a <;> decide) (fun a => by fin_cases a <;> decide) f

/-- What each device stages, read off the memory. -/
def args (c : Dev nD) : Ins F where
  x := m ((c : Thread nD τ).loc main_arg0)
  w := m ((c : Thread nD τ).loc main_arg1)
  i := m ((c : Thread nD τ).loc main_arg2)
  e := m ((c : Thread nD τ).loc main_arg3)

theorem AA_eq : AA m = args m := by
  funext c
  unfold AA args
  rw [whole_x, whole_w, whole_i, whole_e]

theorem final_out (c : Dev nD) : finalA m ρ c (4 : Fin 5) = outV (args m) c := by
  have h := final_block m ρ c
  rw [AA_eq] at h
  exact (whole_out _).symm.trans h

/-- The run, read at the arrays. -/
theorem run_arrays : θ_run defs (onTc (τ := τ) (main (F := F))) ⟨m, fun _ => 0, ρ⟩ (fun r =>
    (∀ c : Dev nD, r.2.mem ((c : Thread nD τ).loc main_v1) = outV (args m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c (4 : Fin 5)).trans (final_out m ρ c), (h.1 c (0 : Fin 5)).trans (final_x m ρ c),
    (h.1 c (1 : Fin 5)).trans (final_w m ρ c), (h.1 c (2 : Fin 5)).trans (final_i m ρ c), (h.1 c (3 : Fin 5)).trans (final_e m ρ c)⟩, h.2⟩)
    (run_main m ρ)

end Cert.KernelIdeal.MoE

end
-- ==== Proof.Frames.lean ====
/-
# The frames of the two kernel programs

The kernel as it runs on words and the kernel read over the extended reals are the same text, proved for any float values:
the run of one, at words, is the run of the other.
-/
module

public import proofs.«01_k».proof.Defs
public import proofs.«01_k».proof.Proof.Gen.Kernel
public import proofs.«01_k».proof.Proof.Ideal.Launch

@[expose] public section

noncomputable section

namespace Cert.Proof

open Idealize.ShloMosaic Idealize.SL.Sem

/-- The kernel's arguments end as they began and its counters end at zero, over the extended reals. -/
theorem frame_ideal : Cert.quiescent_KernelIdeal := by
  intro m ρ _
  exact (θ_run Cert.KernelIdeal.defs _ _).mono (fun r h => ⟨fun c => (h.1 c).2, h.2⟩) (Cert.KernelIdeal.MoE.run_arrays (F := Ideal) m ρ)

/-! ## The same text twice -/

theorem same_body : @Cert.Kernel.cc0_body Bits _ _ = @Cert.KernelIdeal.cc0_body Bits _ _ := rfl

theorem same_table : @Cert.Kernel.defs₀ Bits _ _ = @Cert.KernelIdeal.defs₀ Bits _ _ := by
  unfold Cert.Kernel.defs₀ Cert.KernelIdeal.defs₀
  refine congrArg Defs.onTc ?_
  funext l a
  fin_cases l
  obtain ⟨t, s⟩ := a
  rfl

theorem same_defs : @Cert.Kernel.defs Bits _ _ = @Cert.KernelIdeal.defs Bits _ _ := by
  unfold Cert.Kernel.defs Cert.KernelIdeal.defs
  exact congrArg (Pipeline.defs (Cert.KernelIdeal.pcfgs (F := Bits))) same_table

/-- The frame at words, for any table of bodies that is the kernel's. -/
theorem frame_at (D : Defs Cert.KernelIdeal.nD Cert.KernelIdeal.τ Cert.KernelIdeal.sig (Elt Bits) _) (h : D = Cert.KernelIdeal.defs (F := Bits))
    (m : (ℓ : Loc Cert.KernelIdeal.nD Cert.KernelIdeal.τ Cert.KernelIdeal.sig) → Buf (Elt Bits) ℓ) (ρ : Dev Cert.KernelIdeal.nD → PrngReg) :
    θ_run D (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst h
  exact (θ_run Cert.KernelIdeal.defs _ _).mono (fun r h => ⟨fun c => (h.1 c).2, h.2⟩) (Cert.KernelIdeal.MoE.run_arrays (F := Bits) m ρ)

/-- The kernel's arguments end as they began and its counters end at zero, over words. -/
theorem frame_words : Cert.quiescent_Kernel := fun m ρ _ => frame_at Cert.Kernel.defs same_defs m ρ

end Cert.Proof

end
-- ==== Proof.Value.Equation.lean ====
/-
  The two ways of weighting a token's two experts, over the extended reals and without either program.

  One of them (the kernel's) runs over all experts and gives each the weight of whichever of the token's two routes
  names it; the weights are the logistic of the difference of the two routed scores. The other (the reference's) takes
  the softmax of all scores, reads it at the two routed experts and divides by the sum of the two. For real scores the
  two give the same combination of the experts' products, whatever the experts' own entries are.
-/
module

public import Idealize.ShloMosaic.PureOps.Ideal
public import Idealize.ShloMosaic.Lib.Affine
public import Mathlib.Data.EReal.Inv

@[expose] public section

noncomputable section

namespace Cert.Proof.Mix

open Idealize.ShloMosaic

/-! ## Sums of extended reals -/

/-- The sum of real numbers is real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative goes through a sum, whose terms may be infinite. -/
theorem mul_sum {ι : Type} (s : Finset ι) (p : ℝ) (hp : 0 ≤ p) (f : ι → EReal) : (p : EReal) * ∑ i ∈ s, f i = ∑ i ∈ s, (p : EReal) * f i := by
  classical
  induction s using Finset.induction_on with
  | empty => simp
  | insert a s h ih =>
    rw [Finset.sum_insert h, Finset.sum_insert h, EReal.left_distrib_of_nonneg_of_ne_top (by exact_mod_cast hp) (EReal.coe_ne_top p), ih]

/-! ## Words that name experts -/

/-- A choice by the equality of two words that both name experts is a choice by the equality of the experts. -/
theorem select_eq {α : Type} (a b : Fin 128) (u v : α) :
    Scalar.select (IntOp.cmpi .eq (BitVec.ofNat 32 a.val) (BitVec.ofNat 32 b.val)) u v = if a = b then u else v := by
  have ha : a.val < 128 := a.isLt
  have hb : b.val < 128 := b.isLt
  by_cases h : a = b
  · subst h; rw [if_pos rfl]; simp [IntOp.cmpi, Scalar.select]
  · have hne : BitVec.ofNat 32 a.val ≠ BitVec.ofNat 32 b.val := by
      intro e
      have := congrArg BitVec.toNat e
      simp only [BitVec.toNat_ofNat] at this
      apply h; apply Fin.ext; omega
    rw [if_neg h, show IntOp.cmpi .eq (BitVec.ofNat 32 a.val) (BitVec.ofNat 32 b.val) = 0#1 from by
      simp only [IntOp.cmpi, beq_eq_false_iff_ne.mpr hne]; rfl]
    rfl

/-! ## One token -/

section Token
variable (x : Fin 256 → EReal) (w : Fin 256 → Fin 128 → EReal) (i0 i1 : BitVec 32)

/-- The token's score for an expert. -/
def score (k : Fin 128) : EReal := ∑ d : Fin 256, x d * w d k

/-- The score of the expert that a route names: the sum over all experts of the scores that the route selects. -/
def picked (i : BitVec 32) : EReal :=
  ∑ k : Fin 128, Scalar.select (IntOp.cmpi .eq (BitVec.ofNat 32 k.val) i) (score x w k) 0

/-- The weight of the first route, by the logistic of the difference of the scores. -/
def first : EReal := Ideal.div 1 (1 + Ideal.exp (picked x w i1 - picked x w i0))
/-- The weight of the second route. -/
def second : EReal := 1 - first x w i0 i1

/-- The weight of the expert that a word names. -/
def coef (v : BitVec 32) : EReal :=
  Scalar.select (IntOp.cmpi .eq i0 v) (first x w i0 i1) 0 + Scalar.select (IntOp.cmpi .eq i1 v) (second x w i0 i1) 0

/-- The combination over all experts; `e` holds their entries for one column of the result. -/
def mixed (e : Fin 128 → Fin 256 → EReal) : EReal :=
  ∑ k : Fin 128, ∑ d : Fin 256, coef x w i0 i1 (BitVec.ofNat 32 k.val) * x d * e k d

/-- The greatest of the token's scores. -/
def top : EReal := (Finset.univ : Finset (Fin 128)).fold max ⊥ (score x w)
/-- A score's exponential, with the greatest score taken off. -/
def raised (k : Fin 128) : EReal := Ideal.exp (score x w k - top x w)
/-- The softmax of the scores. -/
def gate (k : Fin 128) : EReal := Ideal.div (raised x w k) (∑ k : Fin 128, raised x w k)
/-- The combination of the two routed experts by their normalized gates. -/
def gated (a b : Fin 128) (e : Fin 128 → Fin 256 → EReal) : EReal :=
  Ideal.div (gate x w a) (gate x w a + gate x w b) * (∑ d : Fin 256, x d * e a d)
    + Ideal.div (gate x w b) (gate x w a + gate x w b) * (∑ d : Fin 256, x d * e b d)

end Token

section Real
variable (x : Fin 256 → ℝ) (w : Fin 256 → Fin 128 → ℝ) (a b : Fin 128)

/-- The real score. -/
def scoreR (k : Fin 128) : ℝ := ∑ d : Fin 256, x d * w d k

/-- The first route's weight, a real number between 0 and 1. -/
def firstR : ℝ := 1 / (1 + Real.exp (scoreR x w b - scoreR x w a))

theorem score_coe (k : Fin 128) : score (fun d => (x d : EReal)) (fun d k => (w d k : EReal)) k = (scoreR x w k : EReal) := by
  unfold score scoreR
  rw [coe_sum]
  exact Finset.sum_congr rfl fun d _ => (EReal.coe_mul _ _).symm

theorem picked_coe : picked (fun d => (x d : EReal)) (fun d k => (w d k : EReal)) (BitVec.ofNat 32 a.val) = (scoreR x w a : EReal) := by
  unfold picked
  simp only [select_eq, score_coe]
  rw [Finset.sum_ite_eq' Finset.univ a, if_pos (Finset.mem_univ a)]

theorem div_coe_coe (p q : ℝ) (hq : q ≠ 0) : Ideal.div (p : EReal) (q : EReal) = ((p / q : ℝ) : EReal) := by
  rw [Ideal.div_coe hq, ← EReal.coe_mul, mul_one_div]

theorem first_coe :
    first (fun d => (x d : EReal)) (fun d k => (w d k : EReal)) (BitVec.ofNat 32 a.val) (BitVec.ofNat 32 b.val) = (firstR x w a b : EReal) := by
  have h : (1 : ℝ) + Real.exp (scoreR x w b - scoreR x w a) ≠ 0 := by positivity
  unfold first firstR
  rw [picked_coe, picked_coe, ← EReal.coe_sub, Ideal.exp_coe, ← EReal.coe_one, ← EReal.coe_add, div_coe_coe _ _ h]

theorem second_coe :
    second (fun d => (x d : EReal)) (fun d k => (w d k : EReal)) (BitVec.ofNat 32 a.val) (BitVec.ofNat 32 b.val) = ((1 - firstR x w a b : ℝ) : EReal) := by
  unfold second
  rw [first_coe, ← EReal.coe_one, ← EReal.coe_sub]

theorem firstR_nonneg : 0 ≤ firstR x w a b := by unfold firstR; positivity

theorem firstR_le_one : firstR x w a b ≤ 1 := by
  unfold firstR
  rw [div_le_one (by positivity)]
  have := Real.exp_pos (scoreR x w b - scoreR x w a)
  linarith

/-- The greatest score is a real number. -/
theorem top_coe : ∃ M : ℝ, top (fun d => (x d : EReal)) (fun d k => (w d k : EReal)) = (M : EReal) := by
  obtain ⟨k, -, hk⟩ := Finset.exists_mem_eq_sup (Finset.univ : Finset (Fin 128)) ⟨0, Finset.mem_univ _⟩
    (score (fun d => (x d : EReal)) (fun d k => (w d k : EReal)))
  exact ⟨scoreR x w k, (show top _ _ = _ from hk).trans (score_coe x w k)⟩

/-- A common divisor and a common factor leave the two parts of a whole as they are. -/
theorem parts {A D Z : ℝ} (hA : 0 < A) (hD : 0 < D) (hZ : 0 < Z) :
    A / Z / (A / Z + D * A / Z) = 1 / (1 + D) ∧ D * A / Z / (A / Z + D * A / Z) = 1 - 1 / (1 + D) := by
  have h1 := hA.ne'
  have h2 := hZ.ne'
  have h3 : 1 + D ≠ 0 := by positivity
  have e : A / Z + D * A / Z = A / Z * (1 + D) := by ring
  have h4 : A / Z ≠ 0 := div_ne_zero h1 h2
  rw [e]
  constructor
  · field_simp
  · field_simp
    ring

/-- The two normalized gates are the two weights. -/
theorem gates_coe :
    Ideal.div (gate (fun d => (x d : EReal)) (fun d k => (w d k : EReal)) a)
        (gate (fun d => (x d : EReal)) (fun d k => (w d k : EReal)) a + gate (fun d => (x d : EReal)) (fun d k => (w d k : EReal)) b)
      = (firstR x w a b : EReal)
    ∧ Ideal.div (gate (fun d => (x d : EReal)) (fun d k => (w d k : EReal)) b)
        (gate (fun d => (x d : EReal)) (fun d k => (w d k : EReal)) a + gate (fun d => (x d : EReal)) (fun d k => (w d k : EReal)) b)
      = ((1 - firstR x w a b : ℝ) : EReal) := by
  obtain ⟨M, hM⟩ := top_coe x w
  have hr (k : Fin 128) : raised (fun d => (x d : EReal)) (fun d k => (w d k : EReal)) k = (Real.exp (scoreR x w k - M) : EReal) := by
    unfold raised
    rw [hM, score_coe, ← EReal.coe_sub, Ideal.exp_coe]
  have hZ : (0 : ℝ) < ∑ k : Fin 128, Real.exp (scoreR x w k - M) :=
    Finset.sum_pos (fun k _ => Real.exp_pos _) ⟨0, Finset.mem_univ _⟩
  have hg (k : Fin 128) : gate (fun d => (x d : EReal)) (fun d k => (w d k : EReal)) k
      = ((Real.exp (scoreR x w k - M) / ∑ k : Fin 128, Real.exp (scoreR x w k - M) : ℝ) : EReal) := by
    unfold gate
    simp only [hr]
    rw [← coe_sum, div_coe_coe _ _ hZ.ne']
  have hb : Real.exp (scoreR x w b - M) = Real.exp (scoreR x w b - scoreR x w a) * Real.exp (scoreR x w a - M) := by
    rw [← Real.exp_add, sub_add_sub_cancel]
  obtain ⟨e1, e2⟩ := parts (Real.exp_pos (scoreR x w a - M)) (Real.exp_pos (scoreR x w b - scoreR x w a)) hZ
  rw [← hb] at e1 e2
  have hs : Real.exp (scoreR x w a - M) / (∑ k : Fin 128, Real.exp (scoreR x w k - M))
      + Real.exp (scoreR x w b - M) / (∑ k : Fin 128, Real.exp (scoreR x w k - M)) ≠ 0 :=
    (add_pos (div_pos (Real.exp_pos _) hZ) (div_pos (Real.exp_pos _) hZ)).ne'
  rw [hg, hg, ← EReal.coe_add, div_coe_coe _ _ hs, div_coe_coe _ _ hs]
  exact ⟨congrArg _ e1, congrArg _ e2⟩

/-- **The two combinations agree**, for a real token and real router weights. -/
theorem mixed_eq_gated_coe (e : Fin 128 → Fin 256 → EReal) :
    mixed (fun d => (x d : EReal)) (fun d k => (w d k : EReal)) (BitVec.ofNat 32 a.val) (BitVec.ofNat 32 b.val) e
      = gated (fun d => (x d : EReal)) (fun d k => (w d k : EReal)) a b e := by
  have h0 := firstR_nonneg x w a b
  have h1 : 0 ≤ 1 - firstR x w a b := by have := firstR_le_one x w a b; linarith
  unfold gated
  rw [(gates_coe x w a b).1, (gates_coe x w a b).2]
  unfold mixed coef
  rw [first_coe, second_coe]
  generalize firstR x w a b = p at *
  generalize 1 - p = q at *
  have hterm (k : Fin 128) :
      ∑ d : Fin 256, (Scalar.select (IntOp.cmpi .eq (BitVec.ofNat 32 a.val) (BitVec.ofNat 32 k.val)) (p : EReal) 0
          + Scalar.select (IntOp.cmpi .eq (BitVec.ofNat 32 b.val) (BitVec.ofNat 32 k.val)) (q : EReal) 0) * (x d : EReal) * e k d
        = (if a = k then (p : EReal) * ∑ d : Fin 256, (x d : EReal) * e k d else 0)
          + (if b = k then (q : EReal) * ∑ d : Fin 256, (x d : EReal) * e k d else 0) := by
    rw [select_eq, select_eq]
    have hc : ((if a = k then (p : EReal) else 0) + (if b = k then (q : EReal) else 0))
        = (((if a = k then p else 0) + (if b = k then q else 0) : ℝ) : EReal) := by
      split_ifs <;> simp
    have ha' : (0 : ℝ) ≤ if a = k then p else 0 := by split_ifs <;> simp [h0]
    have hb' : (0 : ℝ) ≤ if b = k then q else 0 := by split_ifs <;> simp [h1]
    simp only [mul_assoc]
    rw [hc, ← mul_sum _ _ (add_nonneg ha' hb'), EReal.coe_add,
      EReal.right_distrib_of_nonneg (by exact_mod_cast ha') (by exact_mod_cast hb')]
    congr 1 <;> split_ifs <;> simp
  simp only [hterm]
  rw [Finset.sum_add_distrib, Finset.sum_ite_eq Finset.univ a, Finset.sum_ite_eq Finset.univ b,
    if_pos (Finset.mem_univ a), if_pos (Finset.mem_univ b)]

end Real

/-- The same, the token's and the router's entries being extended reals that are real. -/
theorem mixed_eq_gated (x : Fin 256 → EReal) (w : Fin 256 → Fin 128 → EReal) (a b : Fin 128) (e : Fin 128 → Fin 256 → EReal)
    (hx : ∀ d, ∃ r : ℝ, x d = r) (hw : ∀ d k, ∃ r : ℝ, w d k = r) :
    mixed x w (BitVec.ofNat 32 a.val) (BitVec.ofNat 32 b.val) e = gated x w a b e := by
  choose xr hxr using hx
  choose wr hwr using hw
  obtain rfl : x = fun d => (xr d : EReal) := funext hxr
  obtain rfl : w = fun d k => (wr d k : EReal) := funext fun d => funext fun k => hwr d k
  exact mixed_eq_gated_coe xr wr a b e

end Cert.Proof.Mix

end
-- ==== Proof.Value.Kernel.lean ====
/-
  What the kernel's result holds, read at one entry over the ideal values: the sum over the devices of their
  contributions, each of them a sum over that device's experts.
-/
module

public import proofs.«01_k».proof.Proof.Ideal.Contents
public import proofs.«01_k».proof.Proof.Value.Equation
public import Idealize.ShloMosaic.Lib.Pointwise

@[expose] public section

noncomputable section

namespace Cert.Proof.KernelValue

open Cert.KernelIdeal Cert.KernelIdeal.Gen Cert.KernelIdeal.MoE
open Idealize.ShloMosaic Idealize.ShloMosaic.TcCoe

variable (A : Ins Ideal)

/-- A token's entries, the router's weights, the token's two routes and the device's experts, of the staged arrays. -/
def xs (t : Fin 512) (d : Fin 256) : EReal := A.x (ix2 t d)
def ws (d : Fin 256) (k : Fin 128) : EReal := A.w (ix2 d k)
def route0 (t : Fin 512) : BitVec 32 := A.i (ix2 t 0)
def route1 (t : Fin 512) : BitVec 32 := A.i (ix2 t 1)
def es (k : Fin 4) (d : Fin 256) (h : Fin 512) : EReal := A.e (ix3 k d h)

/-! ## What the body loads -/

theorem ldX_apply (t : Fin 512) (d : Fin 256) : ldX A (ix2 t d) = xs A t d := by
  unfold ldX xs
  show A.x _ = _
  congr 1
  funext a
  match a with
  | ⟨0, _⟩ => apply Fin.ext; show 0 + 1 * t.val = t.val; omega
  | ⟨1, _⟩ => apply Fin.ext; show 0 + 1 * d.val = d.val; omega

theorem ldW_apply (d : Fin 256) (k : Fin 128) : ldW A (ix2 d k) = ws A d k := by
  unfold ldW ws
  show A.w _ = _
  congr 1
  funext a
  match a with
  | ⟨0, _⟩ => apply Fin.ext; show 0 + 1 * d.val = d.val; omega
  | ⟨1, _⟩ => apply Fin.ext; show 0 + 1 * k.val = k.val; omega

theorem ldI0_apply (t : Fin 512) : ldI0 A (ix2 t 0) = route0 A t := by
  unfold ldI0 route0
  show A.i _ = _
  congr 1
  funext a
  match a with
  | ⟨0, _⟩ => apply Fin.ext; show 0 + 1 * t.val = t.val; omega
  | ⟨1, _⟩ => rfl

theorem ldI1_apply (t : Fin 512) : ldI1 A (ix2 t 0) = route1 A t := by
  unfold ldI1 route1
  show A.i _ = _
  congr 1
  funext a
  match a with
  | ⟨0, _⟩ => apply Fin.ext; show 0 + 1 * t.val = t.val; omega
  | ⟨1, _⟩ => rfl

theorem ldE_apply (k : Fin 4) (d : Fin 256) (h : Fin 512) : ldE A (ix3 k d h) = es A k d h := by
  unfold ldE es
  show A.e _ = _
  congr 1
  funext a
  match a with
  | ⟨0, _⟩ => apply Fin.ext; show 0 + 1 * k.val = k.val; omega
  | ⟨1, _⟩ => apply Fin.ext; show 0 + 1 * d.val = d.val; omega
  | ⟨2, _⟩ => apply Fin.ext; show 0 + 1 * h.val = h.val; omega

/-! ## The weights -/

set_option maxRecDepth 16384 in
/-- The weight of a token's first route. -/
theorem weight0 (t : Fin 512) :
    k0_pay4 (ldX A) (ldW A) (ldI0 A) (ldI1 A) (ix2 t 0) = Mix.first (xs A t) (ws A) (route0 A t) (route1 A t) := by
  pointwise [k0_pay4, k0_pay1, k0_pay2, k0_pay3]
  simp only [ldX_apply, ldW_apply, ldI0_apply, ldI1_apply]
  rfl

set_option maxRecDepth 16384 in
/-- The weight of its second route. -/
theorem weight1 (t : Fin 512) :
    k0_pay5 (ldX A) (ldW A) (ldI0 A) (ldI1 A) (ix2 t 0) = Mix.second (xs A t) (ws A) (route0 A t) (route1 A t) := by
  pointwise [k0_pay5]
  rw [weight0]
  rfl

/-- The word that a device gives to one of its experts. -/
def expertW (d : Dev nD) (k : BitVec 32) : BitVec 32 := Scalar.addi (Scalar.muli (devW d) 4#32) k

/-- It is the word of the expert's number among all. -/
theorem expertW_eq (d : Dev nD) (k : Fin 4) : expertW d (BitVec.ofNat 32 k.val) = BitVec.ofNat 32 (4 * d.val + k.val) := by
  revert d k
  decide

/-- A token's entry weighted for the expert that a word names. -/
def weighted (t : Fin 512) (d : Fin 256) (v : BitVec 32) : EReal :=
  Mix.coef (xs A t) (ws A) (route0 A t) (route1 A t) v * xs A t d

set_option maxRecDepth 16384 in
theorem part0_apply (d : Dev nD) (t : Fin 512) (k : Fin 256) : part0 A d (ix2 t k) = weighted A t k (expertW d 0#32) := by
  pointwise [part0, k0_pay6, k0_pay1, k0_pay2, k0_pay3]
  rw [weight0, weight1, ldX_apply, ldI0_apply, ldI1_apply]
  rfl

set_option maxRecDepth 16384 in
theorem part1_apply (d : Dev nD) (t : Fin 512) (k : Fin 256) : part1 A d (ix2 t k) = weighted A t k (expertW d 1#32) := by
  pointwise [part1, k0_pay7, k0_pay1, k0_pay2, k0_pay3]
  rw [weight0, weight1, ldX_apply, ldI0_apply, ldI1_apply]
  rfl

set_option maxRecDepth 16384 in
theorem part2_apply (d : Dev nD) (t : Fin 512) (k : Fin 256) : part2 A d (ix2 t k) = weighted A t k (expertW d 2#32) := by
  pointwise [part2, k0_pay8, k0_pay1, k0_pay2, k0_pay3]
  rw [weight0, weight1, ldX_apply, ldI0_apply, ldI1_apply]
  rfl

set_option maxRecDepth 16384 in
/-- Four blocks of columns side by side, the last of them weighted on the spot. -/
theorem four_apply (x : FVec Ideal S512x256 .bf16) (a b : IVec S512x1 32) (p q : FVec Ideal S512x1 .f32)
    (p0 p1 p2 : FVec Ideal S512x256 .bf16) (c : BitVec 32) (t : Fin 512) (k : Fin 4) (j : Fin 256) :
    k0_pay9 x a b p q p0 p1 p2 c (ix2 t ⟨256 * k.val + j.val, by omega⟩)
      = if k.val = 0 then p0 (ix2 t j) else if k.val = 1 then p1 (ix2 t j) else if k.val = 2 then p2 (ix2 t j)
        else (Scalar.select (IntOp.cmpi .eq (a (ix2 t 0)) c) (p (ix2 t 0)) 0
          + Scalar.select (IntOp.cmpi .eq (b (ix2 t 0)) c) (q (ix2 t 0)) 0) * x (ix2 t j) := by
  have hj : j.val < 256 := j.isLt
  have hk : k.val < 4 := k.isLt
  have same (v : FVec Ideal S512x256 .bf16) (u : ℕ) (hu : u < 256) (e : u = j.val) : v (ix2 t ⟨u, hu⟩) = v (ix2 t j) := by
    subst e; rfl
  pointwise [k0_pay9]
  rcases (by omega : k.val = 0 ∨ k.val = 1 ∨ k.val = 2 ∨ k.val = 3) with h | h | h | h
  · rw [dif_pos (by omega)]
    exact (same p0 _ _ (by simp only [h]; omega)).trans (by simp [h])
  · rw [dif_neg (by omega), dif_pos (by omega)]
    exact (same p1 _ _ (by simp only [h]; omega)).trans (by simp [h])
  · rw [dif_neg (by omega), dif_neg (by omega), dif_pos (by omega)]
    exact (same p2 _ _ (by simp only [h]; omega)).trans (by simp [h])
  · rw [dif_neg (by omega), dif_neg (by omega), dif_neg (by omega)]
    refine Eq.trans (congrArg _ (same x _ (by omega) (by omega))) (by simp [h])

/-- The four weighted copies of the tokens side by side. -/
theorem lhs_apply (d : Dev nD) (t : Fin 512) (k : Fin 4) (j : Fin 256) :
    lhs A d (ix2 t ⟨256 * k.val + j.val, by omega⟩) = weighted A t j (BitVec.ofNat 32 (4 * d.val + k.val)) := by
  rw [← expertW_eq]
  unfold lhs
  rw [four_apply, part0_apply, part1_apply, part2_apply, weight0, weight1]
  pointwise [k0_pay1, k0_pay2, k0_pay3]
  rw [ldX_apply, ldI0_apply, ldI1_apply]
  match k with
  | ⟨0, _⟩ => rfl
  | ⟨1, _⟩ => rfl
  | ⟨2, _⟩ => rfl
  | ⟨3, _⟩ => rfl

set_option maxRecDepth 16384 in
/-- The device's experts one under the other. -/
theorem rhs_apply (k : Fin 4) (j : Fin 256) (h : Fin 512) : rhs A (ix2 ⟨256 * k.val + j.val, by omega⟩ h) = es A k j h := by
  have hj : j.val < 256 := j.isLt
  pointwise [rhs, k0_pay10]
  rw [ldE_apply]

/-! ## The contribution -/

set_option maxRecDepth 16384 in
/-- A block's entry is the entry of the product in the block's row. -/
theorem block_apply (d : Dev nD) (b : ℕ) (hb : b < 4) (t : Fin 128) (h : Fin 512) :
    blkV A d b (ix2 t h) = ∑ y : Fin 1024, lhs A d (ix2 ⟨128 * b + t.val, by omega⟩ y) * rhs A (ix2 y h) := by
  match b, hb with
  | 0, _ =>
    show k0_pay11 _ _ _ _ _ _ _ _ _ _ (ix2 t h) = _
    pointwise [k0_pay11, lhs, rhs]
  | 1, _ => pointwise [blkV, k0_pay12]
  | 2, _ => pointwise [blkV, k0_pay13]
  | 3, _ => pointwise [blkV, k0_pay14, k0_pay15]

/-- An entry of the device's contribution. -/
def contribAt (d : Dev nD) (t h : Fin 512) : EReal := contrib A d (ix2 t h)

/-- It is the sum over its four experts and their 256 entries. -/
theorem contrib_apply (d : Dev nD) (t h : Fin 512) :
    contribAt A d t h = ∑ k : Fin 4, ∑ j : Fin 256, weighted A t j (BitVec.ofNat 32 (4 * d.val + k.val)) * es A k j h := by
  have ht : t.val < 512 := t.isLt
  have e : contribAt A d t h = ∑ y : Fin 1024, lhs A d (ix2 t y) * rhs A (ix2 y h) := by
    refine (show contribAt A d t h = blkV A d (t.val / 128) (ix2 ⟨t.val % 128, Nat.mod_lt _ (by decide)⟩ h) from rfl).trans ?_
    rw [block_apply A d _ (by omega)]
    have : (⟨128 * (t.val / 128) + t.val % 128, by omega⟩ : Fin 512) = t := Fin.ext (by show _ = _; dsimp only; omega)
    rw [this]
  rw [e, ← Equiv.sum_comp (finProdFinEquiv : Fin 4 × Fin 256 ≃ Fin 1024), Fintype.sum_prod_type]
  refine Finset.sum_congr rfl fun k _ => Finset.sum_congr rfl fun j _ => ?_
  have e : (finProdFinEquiv (k, j) : Fin 1024) = ⟨256 * k.val + j.val, by omega⟩ := Fin.ext (by
    show j.val + 256 * k.val = 256 * k.val + j.val
    omega)
  rw [e, lhs_apply, rhs_apply]

/-! ## The result -/

variable (AA : Dev nD → Ins Ideal)

/-- What a device reads back of its receive buffer. -/
theorem received_apply (c : Dev nD) (o : Fin 32) (r : Fin 16) (h : Fin 512) :
    rM.view.readAt (Elt Ideal) (Rect.unit (s := S32x16x512) ![0, 0, 0] S32x16x512.size inb_S32x16x512_S32x16x512_0_0_0).toLoadRect
        (RV (contribs AA) c) (ix3 o r h)
      = contribAt (AA (mi c o)) (mi c o) ⟨16 * c.val + r.val, by have h : c.val < 32 := c.isLt; omega⟩ h := by
  have e : (rM.view.readAt (Elt Ideal) (Rect.unit (s := S32x16x512) ![0, 0, 0] S32x16x512.size inb_S32x16x512_S32x16x512_0_0_0).toLoadRect
        (RV (contribs AA) c) (ix3 o r h)) = RV (contribs AA) c (ix3 o r h) := by
    show RV (contribs AA) c _ = _
    congr 1
    funext a
    match a with
    | ⟨0, _⟩ => apply Fin.ext; show 0 + 1 * o.val = o.val; omega
    | ⟨1, _⟩ => apply Fin.ext; show 0 + 1 * r.val = r.val; omega
    | ⟨2, _⟩ => apply Fin.ext; show 0 + 1 * h.val = h.val; omega
  rw [e]
  rfl

set_option maxRecDepth 16384 in
/-- The sum over the slots of the receive buffer. -/
theorem total_apply (l : Vec Ideal S32x16x512 .bf16) (r : Fin 16) (h : Fin 512) :
    k0_pay17 l (ix2 r h) = ∑ o : Fin 32, (l (ix3 o r h) : EReal) := by
  pointwise [k0_pay17]

/-- Every device is some number of places before a given one, and only one number. -/
theorem mi_bijective (c : Dev nD) : Function.Bijective (mi c) := by
  have inj : Function.Injective (mi c) := by
    intro o o' h
    have h1 : c.val < 32 := c.isLt
    have h2 := o.isLt
    have h3 := o'.isLt
    have h4 : (c.val + (32 - o.val)) % 32 = (c.val + (32 - o'.val)) % 32 := congrArg Fin.val h
    apply Fin.ext
    omega
  exact (Fintype.bijective_iff_injective_and_card _).mpr ⟨inj, rfl⟩

/-- The token in one row of a device's result. -/
def rowOf (c : Dev nD) (r : Fin 16) : Fin 512 := ⟨16 * c.val + r.val, by have h : c.val < 32 := c.isLt; omega⟩

/-- A device's result is the sum over all devices of their contributions' rows for it. -/
theorem outV_apply (c : Dev nD) (r : Fin 16) (h : Fin 512) :
    outV AA c (ix2 r h) = ∑ d : Dev nD, contribAt (AA d) d (rowOf c r) h := by
  refine (total_apply _ r h).trans ((Finset.sum_congr rfl fun o _ => received_apply AA c o r h).trans ?_)
  exact Fintype.sum_bijective (mi c) (mi_bijective c) _ _ fun o => rfl

/-- The experts of all devices together. -/
theorem outV_mixed (x : Fin 512 → Fin 256 → EReal) (w : Fin 256 → Fin 128 → EReal) (i0 i1 : Fin 512 → BitVec 32)
    (e : Fin 128 → Fin 256 → Fin 512 → EReal)
    (hx : ∀ d, xs (AA d) = x) (hw : ∀ d, ws (AA d) = w) (h0 : ∀ d, route0 (AA d) = i0) (h1 : ∀ d, route1 (AA d) = i1)
    (he : ∀ (d : Dev nD) (k : Fin 4), es (AA d) k = e ⟨4 * d.val + k.val, by have h : d.val < 32 := d.isLt; omega⟩)
    (c : Dev nD) (r : Fin 16) (h : Fin 512) :
    outV AA c (ix2 r h) = Mix.mixed (x (rowOf c r)) w (i0 (rowOf c r)) (i1 (rowOf c r)) (fun k d => e k d h) := by
  rw [outV_apply]
  unfold Mix.mixed
  rw [← Equiv.sum_comp (finProdFinEquiv : Fin 32 × Fin 4 ≃ Fin 128), Fintype.sum_prod_type]
  refine Finset.sum_congr rfl fun d _ => ?_
  rw [contrib_apply]
  refine Finset.sum_congr rfl fun k _ => Finset.sum_congr rfl fun j _ => ?_
  have e : (finProdFinEquiv (d, k) : Fin 128) = ⟨4 * d.val + k.val, by have h : d.val < 32 := d.isLt; omega⟩ := Fin.ext (by
    show k.val + 4 * d.val = 4 * d.val + k.val
    omega)
  rw [e, he]
  unfold weighted
  rw [hx, hw, h0, h1]

end Cert.Proof.KernelValue

end
-- ==== Proof.Value.Precondition.lean ====
/-
  What the precondition says, entry by entry: the tokens and the router's weights are real numbers, and every route
  names an expert.
-/
module

public import proofs.«01_k».proof.Pre_finite_and_routed_KernelIdeal
public import Idealize.ShloMosaic.Lib.ReduceAll
public import Idealize.ShloMosaic.Lib.Pointwise

@[expose] public section

noncomputable section

namespace Cert.Proof.Precondition

open Cert.Pre_finite_and_routed_KernelIdeal
open Idealize.ShloMosaic

variable [Facts]

instance : Subsingleton S_.Idx := ⟨fun i j => funext fun a => a.elim0⟩

/-- The word that stands for infinity. -/
theorem infinity : Ideal.ofBits .bf16 0x7F80#16 = ⊤ := by simp [Ideal.ofBits, Ideal.ieee]

/-- An extended real whose absolute value is below infinity is a real number. -/
theorem real_of_lt (x : EReal) (h : Ideal.cmp .olt (max x (-x)) (Ideal.ofBits .bf16 0x7F80#16) = 1#1) : ∃ r : ℝ, x = r := by
  rw [infinity] at h
  have h' : max x (-x) < ⊤ := by
    by_contra hn
    rw [show Ideal.cmp .olt (max x (-x)) ⊤ = BitVec.ofBool (decide (max x (-x) < ⊤)) from rfl, decide_eq_false hn] at h
    exact absurd h (by decide)
  obtain ⟨h1, h2⟩ := max_lt_iff.mp h'
  induction x with
  | bot => exact absurd h2 (by simp)
  | top => exact absurd h1 (by simp)
  | coe r => exact ⟨r, rfl⟩

/-- A word between 0 and 127 names an expert. -/
theorem names (v : BitVec 32) (h0 : IntOp.cmpi .sge v 0#32 = 1#1) (h1 : IntOp.cmpi .slt v 128#32 = 1#1) :
    ∃ k : Fin 128, v = BitVec.ofNat 32 k.val := by
  have e1 := IntOp.cmpi_slt.mp h1
  have e0 := IntOp.cmpi_sge.mp h0
  rw [show (128#32 : BitVec 32).toInt = 128 from by decide] at e1
  rw [show (0#32 : BitVec 32).toInt = 0 from by decide] at e0
  have hn : v.toNat < 128 := by rw [BitVec.toInt_eq_toNat_cond] at e0 e1; split at e0 <;> omega
  exact ⟨⟨v.toNat, hn⟩, by apply BitVec.eq_of_toNat_eq; rw [BitVec.toNat_ofNat]; dsimp only; omega⟩

/-- **The precondition, read.** -/
theorem read (x : FVec Ideal S512x256 .bf16) (w : FVec Ideal S256x128 .bf16) (i : IVec S512x2 32) (e : FVec Ideal S4x256x512 .bf16)
    (h : fn (F := Ideal) x w i e = fun _ => 1#1) :
    (∀ j, ∃ r : ℝ, (x j : EReal) = r) ∧ (∀ j, ∃ r : ℝ, (w j : EReal) = r) ∧ (∀ j, ∃ k : Fin 128, i j = BitVec.ofNat 32 k.val) := by
  have h0 := congrFun h (ix0 : S_.Idx)
  unfold fn fn_part1 at h0
  obtain ⟨h0, hlt⟩ := IntOp.andi_eq_one.1 h0
  obtain ⟨h0, hge⟩ := IntOp.andi_eq_one.1 h0
  obtain ⟨hx, hw⟩ := IntOp.andi_eq_one.1 h0
  refine ⟨fun j => real_of_lt _ ?_, fun j => real_of_lt _ ?_, fun j => names _ ?_ ?_⟩
  · exact Host.reduce_andi_all _ _ _ _ _ hx j
  · exact Host.reduce_andi_all _ _ _ _ _ hw j
  · exact Host.reduce_andi_all _ _ _ _ _ hge j
  · exact Host.reduce_andi_all _ _ _ _ _ hlt j

end Cert.Proof.Precondition

end
-- ==== Proof.Value.Reference.lean ====
/-
  What the reference's result holds, read at one entry over the ideal values: its run's term cut into the steps of its
  text, each read at an index, down to the combination of a token's two experts by their normalized gates.
-/
module

public import proofs.«01_k».proof.Proof.Gen.ReferenceIdeal.Run
public import proofs.«01_k».proof.Proof.Value.Equation
public import Idealize.ShloMosaic.Lib.Pointwise

@[expose] public section

noncomputable section

namespace Cert.Proof.ReferenceValue

open Cert.ReferenceIdeal Cert.ReferenceIdeal.Facts₀ Cert.ReferenceIdeal.Facts
open Idealize.ShloMosaic Idealize.ShloMosaic.TcCoe

set_option maxRecDepth 16384

/-! ## The steps -/

/-- The scores of all tokens for all experts. -/
def scores (x : FVec Ideal S512x256 .bf16) (w : FVec Ideal S256x128 .bf16) : FVec Ideal S512x128 .f32 :=
  Host.dotGeneral dot_S512x256_S256x128_S512x128_1_0_0_1_n_n none (extf .f32 x bitsLt_bf16_f32) (extf .f32 w bitsLt_bf16_f32)

/-- Their exponentials, each token's greatest score taken off. -/
def raised (s : FVec Ideal S512x128 .f32) : FVec Ideal S512x128 .f32 :=
  Host.exp (subf s (broadcastInDim S512x128 ![0, 1] bcast_S512x1_S512x128_0_1 (broadcastInDim S512x1 ![0] bcast_S512_S512x1_0
    (Host.reduce FloatOps.maximumf s (constant S_ .f32 0xFF800000#32) reducesTo_S512x128_S512_d1 h_S_))))

/-- The softmax: each exponential over the sum of its token's. -/
def gates (r : FVec Ideal S512x128 .f32) : FVec Ideal S512x128 .f32 :=
  Host.divf r (broadcastInDim S512x128 ![0, 1] bcast_S512x1_S512x128_0_1 (broadcastInDim S512x1 ![0] bcast_S512_S512x1_0
    (Host.reduceAdd r (constant S_ .f32 0x00000000#32) reducesTo_S512x128_S512_d1 h_S_)))

/-- One column of the routes. -/
def route (o : Fin 2 → Nat) (h : S512x2.Slices o S512x1) (i : IVec S512x2 32) : IVec S512 32 :=
  shapeCast _ (extractStridedSlice S512x1 o i h) shapeCasts_S512x1_S512

/-- Indices counted from the end where they are negative, as a column. -/
def wrap (n : BitVec 32) (r : IVec S512 32) : IVec S512x1 32 :=
  broadcastInDim S512x1 ![0] bcast_S512_S512x1_0
    (select (cmpi .slt r (broadcastInDim S512 ![] bcast_S_S512 (constantI S_ 32 0#32))) (addi r (broadcastInDim S512 ![] bcast_S_S512 (constantI S_ 32 n))) r)

/-- Each token's number beside its index. -/
def pairs (r : IVec S512x1 32) : IVec S512x2 32 :=
  concatenate S512x2 1 [⟨S512x1, wrap 512#32 (iotaInDim S512 32 0)⟩, ⟨S512x1, r⟩] concatenates_S512x1_S512x1_S512x2_d1

/-- The gates of the routed experts. -/
def picked (p : FVec Ideal S512x128 .f32) (r : IVec S512x1 32) : FVec Ideal S512 .f32 :=
  Host.gather gather_S512x128_S512x2_S512_n_01_n_n_01_1_11 p (pairs r)

/-- Each token's product with its routed expert. -/
def product (x : FVec Ideal S512x256 .bf16) (e : FVec Ideal S128x256x512 .bf16) (r : IVec S512x1 32) : FVec Ideal S512x512 .f32 :=
  Host.dotGeneral dot_S512x256_S512x256x512_S512x512_1_1_n_2_0_0 none (extf .f32 x bitsLt_bf16_f32)
    (extf .f32 (Host.gather gather_S128x256x512_S512x1_S512x256x512_12_0_n_n_0_1_1256512 e r) bitsLt_bf16_f32)

/-- The products weighted by the gates `g` over the sums `s`. -/
def share (g s : FVec Ideal S512 .f32) (y : FVec Ideal S512x512 .f32) : FVec Ideal S512x512 .f32 :=
  mulf (broadcastInDim S512x512 ![0, 1] bcast_S512x1_S512x512_0_1 (broadcastInDim S512x1 ![0] bcast_S512_S512x1_0 (Host.divf g s))) y

/-- The whole of it. -/
def whole (x : FVec Ideal S512x256 .bf16) (w : FVec Ideal S256x128 .bf16) (i : IVec S512x2 32) (e : FVec Ideal S128x256x512 .bf16) :
    FVec Ideal S512x512 .f32 :=
  let p := gates (raised (scores x w))
  let r0 := wrap 128#32 (route ![0, 0] slices_S512x2_S512x1_0_0 i)
  let r1 := wrap 128#32 (route ![0, 1] slices_S512x2_S512x1_0_1 i)
  let s := addf (picked p r0) (picked p r1)
  addf (share (picked p r0) s (product x e r0)) (share (picked p r1) s (product x e r1))

/-- The run's result is the steps put together. -/
theorem result_eq (m : (ℓ : Loc nD τ sig) → Buf (Elt Ideal) ℓ) (c : Dev nD) :
    Cert.ReferenceIdeal.Value.res_main_v72 m c
      = whole (m ((c.tc : Thread nD τ).loc main_arg0)) (m ((c.tc : Thread nD τ).loc main_arg1))
          (m ((c.tc : Thread nD τ).loc main_arg2)) (m ((c.tc : Thread nD τ).loc main_arg3)) := rfl

/-! ## The two gathers -/

/-- A small word read as an integer. -/
theorem toInt_small (u : ℕ) (hu : u < 512) : (BitVec.ofNat 32 u).toInt = u := by
  have h : (BitVec.ofNat 32 u).toNat = u := by rw [BitVec.toNat_ofNat]; omega
  rw [BitVec.toInt_eq_toNat_of_lt (by rw [h]; omega), h]

/-- The entry at a token and its expert. -/
theorem gather_pair {α : Type} (p : S512x128.Idx → α) (r : IVec S512x2 32) (t : Fin 512) (k : Fin 128)
    (h0 : r (ix2 t 0) = BitVec.ofNat 32 t.val) (h1 : r (ix2 t 1) = BitVec.ofNat 32 k.val) :
    Host.gather gather_S512x128_S512x2_S512_n_01_n_n_01_1_11 p r (ix1 t) = p (ix2 t k) := by
  have ht : t.val < 512 := t.isLt
  have hk : k.val < 128 := k.isLt
  have i0 : (BitVec.ofNat 32 t.val).toInt.toNat = t.val := by rw [toInt_small _ (by omega)]; rfl
  have i1 : (BitVec.ofNat 32 k.val).toInt.toNat = k.val := by rw [toInt_small _ (by omega)]; rfl
  unfold Host.gather
  congr 1
  funext a
  refine Fin.ext ?_
  show GatherDims.start gather_S512x128_S512x2_S512_n_01_n_n_01_1_11 (ix1 t) r a
    + GatherDims.batchCoord gather_S512x128_S512x2_S512_n_01_n_n_01_1_11 (ix1 t) a
    + GatherDims.offCoord gather_S512x128_S512x2_S512_n_01_n_n_01_1_11 (ix1 t) a = _
  have hm : a ∈ gather_S512x128_S512x2_S512_n_01_n_n_01_1_11.startIndexMap := by
    show a ∈ ([0, 1] : List (Fin 2)); revert a; decide
  rw [GatherDims.batchCoord_eq_zero _ _ _ List.not_mem_nil, GatherDims.offCoord_eq_zero _ _ _ (fun h => ((GatherDims.mem_sKept _ _).mp h).1 hm)]
  simp only [Nat.add_zero]
  unfold GatherDims.start
  rw [dif_pos hm]
  match a, hm with
  | ⟨0, _⟩, hm =>
    have hs : gather_S512x128_S512x2_S512_n_01_n_n_01_1_11.siIdx (ix1 t) ⟨List.idxOf (0 : Fin 2) [0, 1], by decide⟩ = ix2 t 0 := by
      funext b; apply Fin.ext
      match b with
      | ⟨0, _⟩ => rfl
      | ⟨1, _⟩ => rfl
    refine (congrArg (fun v => min (r v).toInt.toNat 511) hs).trans ?_
    show min (r (ix2 t 0)).toInt.toNat 511 = t.val
    rw [h0, i0]; omega
  | ⟨1, _⟩, hm =>
    have hs : gather_S512x128_S512x2_S512_n_01_n_n_01_1_11.siIdx (ix1 t) ⟨List.idxOf (1 : Fin 2) [0, 1], by decide⟩ = ix2 t 1 := by
      funext b; apply Fin.ext
      match b with
      | ⟨0, _⟩ => rfl
      | ⟨1, _⟩ => rfl
    refine (congrArg (fun v => min (r v).toInt.toNat 127) hs).trans ?_
    show min (r (ix2 t 1)).toInt.toNat 127 = k.val
    rw [h1, i1]; omega

/-- The entries of a token's expert. -/
theorem gather_expert {α : Type} (e : S128x256x512.Idx → α) (r : IVec S512x1 32) (t : Fin 512) (d : Fin 256) (h : Fin 512) (k : Fin 128)
    (hr : r (ix2 t 0) = BitVec.ofNat 32 k.val) :
    Host.gather gather_S128x256x512_S512x1_S512x256x512_12_0_n_n_0_1_1256512 e r (ix3 t d h) = e (ix3 k d h) := by
  have hk : k.val < 128 := k.isLt
  have i1 : (BitVec.ofNat 32 k.val).toInt.toNat = k.val := by rw [toInt_small _ (by omega)]; rfl
  unfold Host.gather
  congr 1
  funext a
  refine Fin.ext ?_
  show GatherDims.start gather_S128x256x512_S512x1_S512x256x512_12_0_n_n_0_1_1256512 (ix3 t d h) r a
    + GatherDims.batchCoord gather_S128x256x512_S512x1_S512x256x512_12_0_n_n_0_1_1256512 (ix3 t d h) a
    + GatherDims.offCoord gather_S128x256x512_S512x1_S512x256x512_12_0_n_n_0_1_1256512 (ix3 t d h) a = _
  rw [GatherDims.batchCoord_eq_zero _ _ _ List.not_mem_nil]
  match a with
  | ⟨0, _⟩ =>
    have hm : (0 : Fin 3) ∈ gather_S128x256x512_S512x1_S512x256x512_12_0_n_n_0_1_1256512.startIndexMap := List.mem_singleton.mpr rfl
    have ho : GatherDims.offCoord gather_S128x256x512_S512x1_S512x256x512_12_0_n_n_0_1_1256512 (ix3 t d h) (0 : Fin 3) = 0 :=
      GatherDims.offCoord_eq_zero _ _ _ (fun h => ((GatherDims.mem_sKept _ _).mp h).1 (List.mem_singleton.mpr rfl))
    have hs : gather_S128x256x512_S512x1_S512x256x512_12_0_n_n_0_1_1256512.siIdx (ix3 t d h) ⟨List.idxOf (0 : Fin 3) [0], by decide⟩ = ix2 t 0 := by
      funext b; apply Fin.ext
      match b with
      | ⟨0, _⟩ => rfl
      | ⟨1, _⟩ => rfl
    have hst : GatherDims.start gather_S128x256x512_S512x1_S512x256x512_12_0_n_n_0_1_1256512 (ix3 t d h) r (0 : Fin 3) = k.val := by
      unfold GatherDims.start
      rw [dif_pos hm]
      refine (congrArg (fun v => min (r v).toInt.toNat 127) hs).trans ?_
      show min (r (ix2 t 0)).toInt.toNat 127 = k.val
      rw [hr, i1]; omega
    exact (congrArg₂ (fun p q => p + 0 + q) hst ho)
  | ⟨1, _⟩ =>
    have hst : GatherDims.start gather_S128x256x512_S512x1_S512x256x512_12_0_n_n_0_1_1256512 (ix3 t d h) r (1 : Fin 3) = 0 := by
      unfold GatherDims.start
      exact dif_neg (show (1 : Fin 3) ∉ ([0] : List (Fin 3)) by decide)
    have ho : GatherDims.offCoord gather_S128x256x512_S512x1_S512x256x512_12_0_n_n_0_1_1256512 (ix3 t d h) (1 : Fin 3) = d.val := rfl
    exact (congrArg₂ (fun p q => p + 0 + q) hst ho).trans (by simp)
  | ⟨2, _⟩ =>
    have hst : GatherDims.start gather_S128x256x512_S512x1_S512x256x512_12_0_n_n_0_1_1256512 (ix3 t d h) r (2 : Fin 3) = 0 := by
      unfold GatherDims.start
      exact dif_neg (show (2 : Fin 3) ∉ ([0] : List (Fin 3)) by decide)
    have ho : GatherDims.offCoord gather_S128x256x512_S512x1_S512x256x512_12_0_n_n_0_1_1256512 (ix3 t d h) (2 : Fin 3) = h.val := rfl
    exact (congrArg₂ (fun p q => p + 0 + q) hst ho).trans (by simp)

/-! ## The steps read at an index -/

/-- The word that stands for minus infinity. -/
theorem minus_infinity : Ideal.ofBits .f32 0xFF800000#32 = ⊥ := by simp [Ideal.ofBits, Ideal.ieee]

section Read
variable (x : FVec Ideal S512x256 .bf16) (w : FVec Ideal S256x128 .bf16) (i : IVec S512x2 32) (e : FVec Ideal S128x256x512 .bf16)

/-- A token's entries, the router's weights, the two routes and the experts, of the reference's arrays. -/
def xs (t : Fin 512) (d : Fin 256) : EReal := x (ix2 t d)
def ws (d : Fin 256) (k : Fin 128) : EReal := w (ix2 d k)
def es (k : Fin 128) (d : Fin 256) (h : Fin 512) : EReal := e (ix3 k d h)

theorem scores_apply (t : Fin 512) (k : Fin 128) : scores x w (ix2 t k) = Mix.score (xs x t) (ws w) k := by
  pointwise [scores]
  rfl

theorem raised_apply (t : Fin 512) (k : Fin 128) : raised (scores x w) (ix2 t k) = Mix.raised (xs x t) (ws w) k := by
  pointwise [raised]
  simp only [scores_apply, minus_infinity]
  rfl

theorem gates_apply (t : Fin 512) (k : Fin 128) : gates (raised (scores x w)) (ix2 t k) = Mix.gate (xs x t) (ws w) k := by
  pointwise [gates]
  simp only [raised_apply]
  rfl

theorem route0_apply (t : Fin 512) : route ![0, 0] slices_S512x2_S512x1_0_0 i (ix1 t) = i (ix2 t 0) := by
  pointwise [route]
theorem route1_apply (t : Fin 512) : route ![0, 1] slices_S512x2_S512x1_0_1 i (ix1 t) = i (ix2 t 1) := by
  pointwise [route]

/-- An index that is not negative is kept. -/
theorem wrap_apply (n : BitVec 32) (r : IVec S512 32) (t : Fin 512) (u : ℕ) (hu : u < 512) (hr : r (ix1 t) = BitVec.ofNat 32 u) :
    wrap n r (ix2 t 0) = BitVec.ofNat 32 u := by
  pointwise [wrap]
  rw [hr]
  have h : IntOp.cmpi .slt (BitVec.ofNat 32 u) 0#32 = 0#1 := by
    refine ValueIdx.eq_zero_of_ne_one fun h => ?_
    have := IntOp.cmpi_slt.mp h
    rw [toInt_small u hu, show (0#32 : BitVec 32).toInt = 0 from by decide] at this
    omega
  rw [h]
  rfl

theorem pairs_token (r : IVec S512x1 32) (t : Fin 512) : pairs r (ix2 t 0) = BitVec.ofNat 32 t.val := by
  pointwise [pairs]
  exact wrap_apply _ _ t t.val t.isLt (by pointwise)

theorem pairs_expert (r : IVec S512x1 32) (t : Fin 512) : pairs r (ix2 t 1) = r (ix2 t 0) := by
  pointwise [pairs]

theorem picked_apply (r : IVec S512x1 32) (t : Fin 512) (k : Fin 128) (hr : r (ix2 t 0) = BitVec.ofNat 32 k.val) :
    picked (gates (raised (scores x w))) r (ix1 t) = Mix.gate (xs x t) (ws w) k := by
  unfold picked
  rw [gather_pair _ _ t k (pairs_token r t) ((pairs_expert r t).trans hr), gates_apply]

theorem product_apply (r : IVec S512x1 32) (t h : Fin 512) (k : Fin 128) (hr : r (ix2 t 0) = BitVec.ofNat 32 k.val) :
    product x e r (ix2 t h) = ∑ d : Fin 256, xs x t d * es e k d h := by
  pointwise [product]
  refine Finset.sum_congr rfl fun d _ => ?_
  rw [gather_expert e r t d h k hr]
  rfl

theorem share_apply (g s : FVec Ideal S512 .f32) (y : FVec Ideal S512x512 .f32) (t h : Fin 512) :
    share g s y (ix2 t h) = Ideal.div (g (ix1 t)) (s (ix1 t)) * y (ix2 t h) := by
  pointwise [share]

/-- **An entry of the reference's result**, the token's two routes naming the experts `a` and `b`. -/
theorem whole_apply (t h : Fin 512) (a b : Fin 128) (ha : i (ix2 t 0) = BitVec.ofNat 32 a.val) (hb : i (ix2 t 1) = BitVec.ofNat 32 b.val) :
    whole x w i e (ix2 t h) = Mix.gated (xs x t) (ws w) a b (fun k d => es e k d h) := by
  have r0 := wrap_apply 128#32 _ t a.val (by omega) ((route0_apply i t).trans ha)
  have r1 := wrap_apply 128#32 _ t b.val (by omega) ((route1_apply i t).trans hb)
  unfold whole Mix.gated
  pointwise
  rw [share_apply, share_apply, product_apply x e _ t h a r0, product_apply x e _ t h b r1]
  pointwise
  rw [picked_apply x w _ t a r0, picked_apply x w _ t b r1]

end Read

end Cert.Proof.ReferenceValue

end
-- ==== Proof.Value.Algebraic.lean ====
/-
  The value claim: over the ideal values each device's result is its sixteen rows of the reference's, where the entries
  of the tokens and of the router are finite and every route names an expert.
-/
module

public import proofs.«01_k».proof.Defs
public import proofs.«01_k».proof.Proof.Ideal.Launch
public import proofs.«01_k».proof.Proof.Value.Kernel
public import proofs.«01_k».proof.Proof.Value.Precondition
public import proofs.«01_k».proof.Proof.Value.Reference
public import Idealize.ShloMosaic.Lib.Quiescent

@[expose] public section

noncomputable section

namespace Cert.Proof

open Cert.KernelIdeal.MoE
open Idealize.ShloMosaic Idealize.SL.Sem

set_option maxRecDepth 16384

/-- The experts of all devices, laid one device after another. -/
theorem experts_tile : Layout.Tiles ⟨3, ![4, 256, 512]⟩ ⟨3, ![128, 256, 512]⟩ 0 32 := by decide

/-- The result's rows, sixteen to a device. -/
theorem rows_tile : Layout.Tiles ⟨2, ![16, 512]⟩ ⟨2, ![512, 512]⟩ 0 32 := by decide

/-- Device `d`'s `k`-th expert is the whole array's expert `4 d + k`. -/
theorem experts_block (E : FVec Ideal Cert.ReferenceIdeal.S128x256x512 .bf16) (d : Fin 32) (k : Fin 4) (a : Fin 256) (h : Fin 512) :
    Layout.block ⟨3, ![4, 256, 512]⟩ ⟨3, ![128, 256, 512]⟩ 0 32 d E experts_tile (ix3 k a h)
      = ReferenceValue.es E ⟨4 * d.val + k.val, by omega⟩ a h := by
  show E _ = E _
  congr 1
  funext b
  match b with
  | ⟨0, _⟩ => apply Fin.ext; show d.val * 4 + k.val = 4 * d.val + k.val; omega
  | ⟨1, _⟩ => rfl
  | ⟨2, _⟩ => rfl

/-- Where a row of a device's result is in the whole. -/
theorem rows_index (c : Fin 32) (r : Fin 16) (h : Fin 512) : rows_tile.idx c (ix2 r h) = ix2 (KernelValue.rowOf c r) h := by
  funext b
  match b with
  | ⟨0, _⟩ => apply Fin.ext; show c.val * 16 + r.val = 16 * c.val + r.val; omega
  | ⟨1, _⟩ => rfl

/-- **The kernel's result is the reference's, row by row.** -/
theorem result_block (AA : Dev Cert.KernelIdeal.nD → Ins Ideal) (X : FVec Ideal Cert.ReferenceIdeal.S512x256 .bf16)
    (W : FVec Ideal Cert.ReferenceIdeal.S256x128 .bf16) (I : IVec Cert.ReferenceIdeal.S512x2 32) (E : FVec Ideal Cert.ReferenceIdeal.S128x256x512 .bf16)
    (hx : ∀ d, (AA d).x = X) (hw : ∀ d, (AA d).w = W) (hi : ∀ d, (AA d).i = I)
    (he : ∀ d, (AA d).e = Layout.block ⟨3, ![4, 256, 512]⟩ ⟨3, ![128, 256, 512]⟩ 0 32 d E experts_tile)
    (rx : ∀ j, ∃ r : ℝ, (X j : EReal) = r) (rweights : ∀ j, ∃ r : ℝ, (W j : EReal) = r) (ri : ∀ j, ∃ k : Fin 128, I j = BitVec.ofNat 32 k.val)
    (c : Dev Cert.KernelIdeal.nD) :
    outV AA c = Layout.block ⟨2, ![16, 512]⟩ ⟨2, ![512, 512]⟩ 0 32 c (ReferenceValue.whole X W I E) rows_tile := by
  funext j
  obtain ⟨r, h, rfl⟩ : ∃ (r : Fin 16) (h : Fin 512), j = ix2 r h := ⟨j 0, j 1, (ix2_eta j).symm⟩
  obtain ⟨a, ha⟩ := ri (ix2 (KernelValue.rowOf c r) 0)
  obtain ⟨b, hb⟩ := ri (ix2 (KernelValue.rowOf c r) 1)
  rw [KernelValue.outV_mixed AA (ReferenceValue.xs X) (ReferenceValue.ws W) (fun t => I (ix2 t 0)) (fun t => I (ix2 t 1)) (ReferenceValue.es E)
    (fun d => by unfold KernelValue.xs; rw [hx d]; rfl) (fun d => by unfold KernelValue.ws; rw [hw d]; rfl)
    (fun d => by unfold KernelValue.route0; rw [hi d]) (fun d => by unfold KernelValue.route1; rw [hi d])
    (fun d k => by unfold KernelValue.es; rw [he d]; funext a h; exact experts_block E d k a h) c r h]
  rw [ha, hb, Mix.mixed_eq_gated (ReferenceValue.xs X (KernelValue.rowOf c r)) (ReferenceValue.ws W) a b _ (fun d => rx _) (fun d k => rweights _)]
  rw [Layout.block_apply, rows_index, ReferenceValue.whole_apply X W I E _ h a b ha hb]

/-- The precondition's side conditions. -/
theorem pre_kernel_facts : Cert.Pre_finite_and_routed_KernelIdeal.Facts :=
  ⟨by decide, by decide, by decide, by decide, by decide, by decide, by decide⟩

theorem pre_reference_facts : Cert.Pre_finite_and_routed_ReferenceIdeal.Facts :=
  ⟨by decide, by decide, by decide, by decide, by decide, by decide, by decide⟩

/-- The reference's arguments end as they began; it has no counters. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- **The value claim.** -/
theorem algebraic [Cert.Pre_finite_and_routed_KernelIdeal.Facts] :
    Cert.algebraic_KernelIdeal_ReferenceIdeal_pre_finite_and_routed_KernelIdeal := by
  intro m g m' g' hpre hargs
  obtain ⟨rx, rweights, ri⟩ := Precondition.read _ _ _ _ (hpre 0)
  have same := hargs 0
  refine ⟨Cert.ReferenceIdeal.Value.res_main_v72 m' 0, ?_, ?_⟩
  · refine (θ_run Cert.KernelIdeal.defs _ _).mono (fun r h c => ⟨(h.1 c).1.trans ?_, (h.1 c).2⟩) (run_arrays (F := Ideal) m g)
    rw [ReferenceValue.result_eq]
    refine result_block (args m) _ _ _ _ (fun d => (hargs d).1) (fun d => (hargs d).2.1) (fun d => (hargs d).2.2.1) (fun d => (hargs d).2.2.2)
      ?_ ?_ ?_ c
    · rw [← same.1]; exact rx
    · rw [← same.2.1]; exact rweights
    · rw [← same.2.2.1]; exact ri
  · exact (θ_run Cert.ReferenceIdeal.defs _ _).mono (fun r h => h 0) (Cert.ReferenceIdeal.Value.run m' g')

end Cert.Proof

end
-- ==== Proof.lean ====
/-
  The claim put together: the frames of the kernel at words, of the kernel over the ideal values and of the reference,
  the kernel at words and over the ideal values being one text, and the value claim.

  Where each is proved: the kernel's run under Proof/Ideal/ (any float values), its frames in Proof/Frames, the
  reference's frame and the value claim in Proof/Value/Algebraic, the equation behind it in Proof/Value/Equation.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value.Algebraic

@[expose] public section

noncomputable section

namespace Cert.Proof

/-- The frames of the two kernel programs and of the reference, with and without the precondition, and the two claims. -/
theorem claim : Cert.Claim :=
  ⟨Cert.Kernel.Gen.facts, Cert.KernelIdeal.Gen.facts, Cert.ReferenceIdeal.Gen.facts, pre_kernel_facts, pre_reference_facts,
    frame_words, frame_ideal, fun m g _ => frame_ideal m g trivial, frame_reference, fun m g _ => frame_reference m g trivial,
    trivial, @algebraic pre_kernel_facts⟩

end Cert.Proof

end
